-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v9_3)) (v3 : (c : Dev Cert.KernelIdeal.nD) → Buf (Elt Ideal) ((c.tc : Thread Cert.KernelIdeal.nD Cert.KernelIdeal.τ).loc Cert.KernelIdeal.main_v10_0)) (v4 : (c : Dev Cert.KernelIdeal.nD) → Buf (Elt Ideal) ((c.tc : Thread Cert.KernelIdeal.nD Cert.KernelIdeal.τ).loc Cert.KernelIdeal.main_v10_1)) (v5 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v9_3) = v2 c
          ∧ r.2.mem ((c.tc : Thread Cert.KernelIdeal.nD Cert.KernelIdeal.τ).loc Cert.KernelIdeal.main_v10_0) = v3 c
          ∧ r.2.mem ((c.tc : Thread Cert.KernelIdeal.nD Cert.KernelIdeal.τ).loc Cert.KernelIdeal.main_v10_1) = v4 c
          ∧ r.2.mem ((c.tc : Thread Cert.KernelIdeal.nD Cert.KernelIdeal.τ).loc Cert.KernelIdeal.main_v10_2) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_v68) = v4 c
          ∧ r.2.mem ((c.tc : Thread Cert.ReferenceIdeal.nD Cert.ReferenceIdeal.τ).loc Cert.ReferenceIdeal.main_v70) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_v31) = v2 c
          ∧ r.2.mem ((c.tc : Thread Cert.Reference4Ideal.nD Cert.Reference4Ideal.τ).loc Cert.Reference4Ideal.main_v32) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_v7) = v2 c
          ∧ r.2.mem ((c.tc : Thread Cert.Reference5Ideal.nD Cert.Reference5Ideal.τ).loc Cert.Reference5Ideal.main_v13) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v26) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_v28) = v2 c
          ∧ r.2.mem ((c.tc : Thread Cert.Reference6Ideal.nD Cert.Reference6Ideal.τ).loc Cert.Reference6Ideal.main_v29) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_v24) = v1 c
          ∧ r.2.mem ((c.tc : Thread Cert.Reference7Ideal.nD Cert.Reference7Ideal.τ).loc Cert.Reference7Ideal.main_v5) = v2 c
          ∧ r.2.mem ((c.tc : Thread Cert.Reference7Ideal.nD Cert.Reference7Ideal.τ).loc Cert.Reference7Ideal.main_v11) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v5) = v2 c
          ∧ r.2.mem ((c.tc : Thread Cert.Reference8Ideal.nD Cert.Reference8Ideal.τ).loc Cert.Reference8Ideal.main_v11) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)) (v3 : (c : Dev Cert.Kernel9Ideal.nD) → Buf (Elt Ideal) ((c.tc : Thread Cert.Kernel9Ideal.nD Cert.Kernel9Ideal.τ).loc Cert.Kernel9Ideal.main_v1_3)) (v4 : (c : Dev Cert.Kernel9Ideal.nD) → Buf (Elt Ideal) ((c.tc : Thread Cert.Kernel9Ideal.nD Cert.Kernel9Ideal.τ).loc Cert.Kernel9Ideal.main_v1_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_v1_3) = v3 c
          ∧ r.2.mem ((c.tc : Thread Cert.Kernel9Ideal.nD Cert.Kernel9Ideal.τ).loc Cert.Kernel9Ideal.main_v1_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v27) = v1 c
          ∧ r.2.mem ((c.tc : Thread Cert.Reference9Ideal.nD Cert.Reference9Ideal.τ).loc Cert.Reference9Ideal.main_v8) = v2 c
          ∧ r.2.mem ((c.tc : Thread Cert.Reference9Ideal.nD Cert.Reference9Ideal.τ).loc Cert.Reference9Ideal.main_v14) = v3 c
          ∧ r.2.mem ((c.tc : Thread Cert.Reference9Ideal.nD Cert.Reference9Ideal.τ).loc Cert.Reference9Ideal.main_v28) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)) (v3 : (c : Dev Cert.Kernel10Ideal.nD) → Buf (Elt Ideal) ((c.tc : Thread Cert.Kernel10Ideal.nD Cert.Kernel10Ideal.τ).loc Cert.Kernel10Ideal.main_v1_3)) (v4 : (c : Dev Cert.Kernel10Ideal.nD) → Buf (Elt Ideal) ((c.tc : Thread Cert.Kernel10Ideal.nD Cert.Kernel10Ideal.τ).loc Cert.Kernel10Ideal.main_v1_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_v1_3) = v3 c
          ∧ r.2.mem ((c.tc : Thread Cert.Kernel10Ideal.nD Cert.Kernel10Ideal.τ).loc Cert.Kernel10Ideal.main_v1_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v27) = v1 c
          ∧ r.2.mem ((c.tc : Thread Cert.Reference10Ideal.nD Cert.Reference10Ideal.τ).loc Cert.Reference10Ideal.main_v8) = v2 c
          ∧ r.2.mem ((c.tc : Thread Cert.Reference10Ideal.nD Cert.Reference10Ideal.τ).loc Cert.Reference10Ideal.main_v14) = v3 c
          ∧ r.2.mem ((c.tc : Thread Cert.Reference10Ideal.nD Cert.Reference10Ideal.τ).loc Cert.Reference10Ideal.main_v28) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)) (v3 : (c : Dev Cert.Kernel11Ideal.nD) → Buf (Elt Ideal) ((c.tc : Thread Cert.Kernel11Ideal.nD Cert.Kernel11Ideal.τ).loc Cert.Kernel11Ideal.main_v1_3)) (v4 : (c : Dev Cert.Kernel11Ideal.nD) → Buf (Elt Ideal) ((c.tc : Thread Cert.Kernel11Ideal.nD Cert.Kernel11Ideal.τ).loc Cert.Kernel11Ideal.main_v1_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_v1_3) = v3 c
          ∧ r.2.mem ((c.tc : Thread Cert.Kernel11Ideal.nD Cert.Kernel11Ideal.τ).loc Cert.Kernel11Ideal.main_v1_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v27) = v1 c
          ∧ r.2.mem ((c.tc : Thread Cert.Reference11Ideal.nD Cert.Reference11Ideal.τ).loc Cert.Reference11Ideal.main_v8) = v2 c
          ∧ r.2.mem ((c.tc : Thread Cert.Reference11Ideal.nD Cert.Reference11Ideal.τ).loc Cert.Reference11Ideal.main_v14) = v3 c
          ∧ r.2.mem ((c.tc : Thread Cert.Reference11Ideal.nD Cert.Reference11Ideal.τ).loc Cert.Reference11Ideal.main_v28) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)) (v3 : (c : Dev Cert.Kernel12Ideal.nD) → Buf (Elt Ideal) ((c.tc : Thread Cert.Kernel12Ideal.nD Cert.Kernel12Ideal.τ).loc Cert.Kernel12Ideal.main_v1_3)) (v4 : (c : Dev Cert.Kernel12Ideal.nD) → Buf (Elt Ideal) ((c.tc : Thread Cert.Kernel12Ideal.nD Cert.Kernel12Ideal.τ).loc Cert.Kernel12Ideal.main_v1_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_v1_3) = v3 c
          ∧ r.2.mem ((c.tc : Thread Cert.Kernel12Ideal.nD Cert.Kernel12Ideal.τ).loc Cert.Kernel12Ideal.main_v1_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v27) = v1 c
          ∧ r.2.mem ((c.tc : Thread Cert.Reference12Ideal.nD Cert.Reference12Ideal.τ).loc Cert.Reference12Ideal.main_v8) = v2 c
          ∧ r.2.mem ((c.tc : Thread Cert.Reference12Ideal.nD Cert.Reference12Ideal.τ).loc Cert.Reference12Ideal.main_v14) = v3 c
          ∧ r.2.mem ((c.tc : Thread Cert.Reference12Ideal.nD Cert.Reference12Ideal.τ).loc Cert.Reference12Ideal.main_v28) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v17) = v0 c
          ∧ r.2.mem ((c.tc : Thread Cert.Reference15Ideal.nD Cert.Reference15Ideal.τ).loc Cert.Reference15Ideal.main_v18) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v17) = v0 c
          ∧ r.2.mem ((c.tc : Thread Cert.Reference16Ideal.nD Cert.Reference16Ideal.τ).loc Cert.Reference16Ideal.main_v18) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v11) = v0 c
          ∧ r.2.mem ((c.tc : Thread Cert.Reference17Ideal.nD Cert.Reference17Ideal.τ).loc Cert.Reference17Ideal.main_v12) = v1 c
          ∧ r.2.mem ((c.tc : Thread Cert.Reference17Ideal.nD Cert.Reference17Ideal.τ).loc Cert.Reference17Ideal.main_v13) = v2 c
          ∧ r.2.mem ((c.tc : Thread Cert.Reference17Ideal.nD Cert.Reference17Ideal.τ).loc Cert.Reference17Ideal.main_v14) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)) (v4 : (c : Dev Cert.Kernel18Ideal.nD) → Buf (Elt Ideal) ((c.tc : Thread Cert.Kernel18Ideal.nD Cert.Kernel18Ideal.τ).loc Cert.Kernel18Ideal.main_v0_4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_v0_4) = v4 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v17) = v0 c
          ∧ r.2.mem ((c.tc : Thread Cert.Reference18Ideal.nD Cert.Reference18Ideal.τ).loc Cert.Reference18Ideal.main_v18) = v1 c
          ∧ r.2.mem ((c.tc : Thread Cert.Reference18Ideal.nD Cert.Reference18Ideal.τ).loc Cert.Reference18Ideal.main_v19) = v2 c
          ∧ r.2.mem ((c.tc : Thread Cert.Reference18Ideal.nD Cert.Reference18Ideal.τ).loc Cert.Reference18Ideal.main_v20) = v3 c
          ∧ r.2.mem ((c.tc : Thread Cert.Reference18Ideal.nD Cert.Reference18Ideal.τ).loc Cert.Reference18Ideal.main_v21) = v4 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S4160x1024 : Shape := ⟨2, ![4160, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4160x1024 : S_.BroadcastsInDim S4160x1024 (![] : Fin 0 → Fin S4160x1024.rank)
  reducesTo_S4160x1024_S_d0_1 : S4160x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S4160x1024 .f32) (main_v3 : IVec S_ 1) (main_v7 : IVec S_ 1) (main_v11 : IVec S_ 1) (main_v15 : IVec S_ 1) : IVec S_ 1 :=
  let main_v16 : FVec F S2816x1024 .f32 := subf main_arg4 main_arg4
  let main_cst_6 : FVec F S_ .f32 := constant S_ .f32 0x00000000#32
  let main_v17 : FVec F S2816x1024 .f32 := broadcastInDim S2816x1024 ![] bcast_S_S2816x1024 main_cst_6
  let main_v18 : IVec S2816x1024 1 := cmpf .oeq main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S4160x1024 .f32 := subf main_arg5 main_arg5
  let main_cst_8 : FVec F S_ .f32 := constant S_ .f32 0x00000000#32
  let main_v21 : FVec F S4160x1024 .f32 := broadcastInDim S4160x1024 ![] bcast_S_S4160x1024 main_cst_8
  let main_v22 : IVec S4160x1024 1 := cmpf .oeq main_v20 main_v21
  let main_c_9 : IVec S_ 1 := constantI S_ 1 1#1
  let main_v23 : IVec S_ 1 := (fun x v => Host.reduce IntOp.andi x v reducesTo_S4160x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4160x1024 .f32) (main_arg1 : FVec F S1x1024 .f32) (main_arg2 : FVec F S1024x2816 .f32) (main_arg3 : FVec F S1024x2816 .f32) (main_arg4 : FVec F S2816x1024 .f32) (main_arg5 : FVec F S4160x1024 .f32) : IVec S_ 1 :=
  let main_v0 : FVec F S4160x1024 .f32 := subf main_arg0 main_arg0
  let main_cst : FVec F S_ .f32 := constant S_ .f32 0x00000000#32
  let main_v1 : FVec F S4160x1024 .f32 := broadcastInDim S4160x1024 ![] bcast_S_S4160x1024 main_cst
  let main_v2 : IVec S4160x1024 1 := cmpf .oeq main_v0 main_v1
  let main_c : IVec S_ 1 := constantI S_ 1 1#1
  let main_v3 : IVec S_ 1 := (fun x v => Host.reduce IntOp.andi x v reducesTo_S4160x1024_S_d0_1 h_S_) main_v2 main_c
  let main_v4 : FVec F S1x1024 .f32 := subf main_arg1 main_arg1
  let main_cst_0 : FVec F S_ .f32 := constant S_ .f32 0x00000000#32
  let main_v5 : FVec F S1x1024 .f32 := broadcastInDim S1x1024 ![] bcast_S_S1x1024 main_cst_0
  let main_v6 : IVec S1x1024 1 := cmpf .oeq main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x2816 .f32 := subf main_arg2 main_arg2
  let main_cst_2 : FVec F S_ .f32 := constant S_ .f32 0x00000000#32
  let main_v9 : FVec F S1024x2816 .f32 := broadcastInDim S1024x2816 ![] bcast_S_S1024x2816 main_cst_2
  let main_v10 : IVec S1024x2816 1 := cmpf .oeq main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := subf main_arg3 main_arg3
  let main_cst_4 : FVec F S_ .f32 := constant S_ .f32 0x00000000#32
  let main_v13 : FVec F S1024x2816 .f32 := broadcastInDim S1024x2816 ![] bcast_S_S1024x2816 main_cst_4
  let main_v14 : IVec S1024x2816 1 := cmpf .oeq main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== Kernel.lean ====
abbrev S4160x1024 : Shape := ⟨2, ![4160, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S4x4160x704 : Shape := ⟨3, ![4, 4160, 704]⟩
abbrev S832x1024 : Shape := ⟨2, ![832, 1024]⟩
abbrev S1x704x1024 : Shape := ⟨3, ![1, 704, 1024]⟩
abbrev S1x832x704 : Shape := ⟨3, ![1, 832, 704]⟩
abbrev S832 : Shape := ⟨1, ![832]⟩
abbrev S832x1 : Shape := ⟨2, ![832, 1]⟩
abbrev S704x1024 : Shape := ⟨2, ![704, 1024]⟩
abbrev S832x704 : Shape := ⟨2, ![832, 704]⟩
abbrev S416x1024 : Shape := ⟨2, ![416, 1024]⟩
abbrev S416x704 : Shape := ⟨2, ![416, 704]⟩
abbrev S1x416x704 : Shape := ⟨3, ![1, 416, 704]⟩
abbrev S416 : Shape := ⟨1, ![416]⟩
abbrev S416x1 : Shape := ⟨2, ![416, 1]⟩
abbrev S1024 : Shape := ⟨1, ![1024]⟩
abbrev S1024x1024 : Shape := ⟨2, ![1024, 1024]⟩
abbrev S1x1024x704 : Shape := ⟨3, ![1, 1024, 704]⟩
abbrev S64x1024 : Shape := ⟨2, ![64, 1024]⟩
abbrev S1x64x704 : Shape := ⟨3, ![1, 64, 704]⟩
abbrev S1024x704 : Shape := ⟨2, ![1024, 704]⟩
abbrev S64x704 : Shape := ⟨2, ![64, 704]⟩

abbrev nBuf : Space → Nat
  | .hbm => 27
  | .vmem => 73
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4160x1024, .f32⟩
  | .hbm, ⟨6, _⟩ => ⟨S2816x1024, .f32⟩
  | .hbm, ⟨7, _⟩ => ⟨S4x704x1024, .f32⟩
  | .hbm, ⟨8, _⟩ => ⟨S4x704x1024, .bf16⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S4x704x1024, .f32⟩
  | .hbm, ⟨13, _⟩ => ⟨S4x704x1024, .bf16⟩
  | .hbm, ⟨14, _⟩ => ⟨S4160x1024, .f32⟩
  | .hbm, ⟨15, _⟩ => ⟨S4x4160x704, .bf16⟩
  | .hbm, ⟨16, _⟩ => ⟨S4x4160x704, .bf16⟩
  | .hbm, ⟨17, _⟩ => ⟨S4x4160x704, .bf16⟩
  | .hbm, ⟨18, _⟩ => ⟨S4160x1024, .bf16⟩
  | .hbm, ⟨19, _⟩ => ⟨S4160x1024, .f32⟩
  | .hbm, ⟨20, _⟩ => ⟨S4x4160x704, .bf16⟩
  | .hbm, ⟨21, _⟩ => ⟨S4x4160x704, .bf16⟩
  | .hbm, ⟨22, _⟩ => ⟨S1x1024, .f32⟩
  | .hbm, ⟨23, _⟩ => ⟨S4160x1024, .bf16⟩
  | .hbm, ⟨24, _⟩ => ⟨S4x704x1024, .bf16⟩
  | .hbm, ⟨25, _⟩ => ⟨S4x704x1024, .bf16⟩
  | .hbm, ⟨26, _⟩ => ⟨S4x704x1024, .bf16⟩
  | .local _ .vmem, ⟨0, _⟩ => ⟨S832x1024, .f32⟩
  | .local _ .vmem, ⟨1, _⟩ => ⟨S832x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S832x1024, .f32⟩
  | .local _ .vmem, ⟨10, _⟩ => ⟨S832x1024, .f32⟩
  | .local _ .vmem, ⟨11, _⟩ => ⟨S1x832x704, .bf16⟩
  | .local _ .vmem, ⟨12, _⟩ => ⟨S1x832x704, .bf16⟩
  | .local _ .vmem, ⟨13, _⟩ => ⟨S1x832x704, .bf16⟩
  | .local _ .vmem, ⟨14, _⟩ => ⟨S1x832x704, .bf16⟩
  | .local _ .vmem, ⟨15, _⟩ => ⟨S1x832x704, .bf16⟩
  | .local _ .vmem, ⟨16, _⟩ => ⟨S1x832x704, .bf16⟩
  | .local _ .vmem, ⟨17, _⟩ => ⟨S832x1024, .bf16⟩
  | .local _ .vmem, ⟨18, _⟩ => ⟨S832x1024, .bf16⟩
  | .local _ .vmem, ⟨19, _⟩ => ⟨S832x1024, .bf16⟩
  | .local _ .vmem, ⟨20, _⟩ => ⟨S832x1024, .f32⟩
  | .local _ .vmem, ⟨21, _⟩ => ⟨S832x1024, .f32⟩
  | .local _ .vmem, ⟨22, _⟩ => ⟨S832x1024, .f32⟩
  | .local _ .vmem, ⟨23, _⟩ => ⟨S832x1024, .f32⟩
  | .local _ .vmem, ⟨24, _⟩ => ⟨S832x1024, .f32⟩
  | .local _ .vmem, ⟨25, _⟩ => ⟨S1x1024, .f32⟩
  | .local _ .vmem, ⟨26, _⟩ => ⟨S1x832x704, .bf16⟩
  | .local _ .vmem, ⟨27, _⟩ => ⟨S1x832x704, .bf16⟩
  | .local _ .vmem, ⟨28, _⟩ => ⟨S1x832x704, .bf16⟩
  | .local _ .vmem, ⟨29, _⟩ => ⟨S1x832x704, .bf16⟩
  | .local _ .vmem, ⟨30, _⟩ => ⟨S1x704x1024, .bf16⟩
  | .local _ .vmem, ⟨31, _⟩ => ⟨S1x704x1024, .bf16⟩
  | .local _ .vmem, ⟨32, _⟩ => ⟨S1x704x1024, .bf16⟩
  | .local _ .vmem, ⟨33, _⟩ => ⟨S1x704x1024, .bf16⟩
  | .local _ .vmem, ⟨34, _⟩ => ⟨S1x704x1024, .bf16⟩
  | .local _ .vmem, ⟨35, _⟩ => ⟨S1x704x1024, .bf16⟩
  | .local _ .vmem, ⟨36, _⟩ => ⟨S832x1024, .f32⟩
  | .local _ .vmem, ⟨37, _⟩ => ⟨S832x1024, .f32⟩
  | .local _ .vmem, ⟨38, _⟩ => ⟨S1x832x704, .bf16⟩
  | .local _ .vmem, ⟨39, _⟩ => ⟨S1x832x704, .bf16⟩
  | .local _ .vmem, ⟨40, _⟩ => ⟨S1x832x704, .bf16⟩
  | .local _ .vmem, ⟨41, _⟩ => ⟨S1x832x704, .bf16⟩
  | .local _ .vmem, ⟨42, _⟩ => ⟨S1x1024, .f32⟩
  | .local _ .vmem, ⟨43, _⟩ => ⟨S832x1024, .bf16⟩
  | .local _ .vmem, ⟨44, _⟩ => ⟨S832x1024, .bf16⟩
  | .local _ .vmem, ⟨45, _⟩ => ⟨S832x1024, .f32⟩
  | .local _ .vmem, ⟨46, _⟩ => ⟨S1024x1024, .bf16⟩
  | .local _ .vmem, ⟨47, _⟩ => ⟨S1024x1024, .bf16⟩
  | .local _ .vmem, ⟨48, _⟩ => ⟨S1024x1024, .bf16⟩
  | .local _ .vmem, ⟨49, _⟩ => ⟨S1024x1024, .bf16⟩
  | .local _ .vmem, ⟨50, _⟩ => ⟨S1x1024x704, .bf16⟩
  | .local _ .vmem, ⟨51, _⟩ => ⟨S1x1024x704, .bf16⟩
  | .local _ .vmem, ⟨52, _⟩ => ⟨S1x1024x704, .bf16⟩
  | .local _ .vmem, ⟨53, _⟩ => ⟨S1x1024x704, .bf16⟩
  | .local _ .vmem, ⟨54, _⟩ => ⟨S1x1024x704, .bf16⟩
  | .local _ .vmem, ⟨55, _⟩ => ⟨S1x1024x704, .bf16⟩
  | .local _ .vmem, ⟨56, _⟩ => ⟨S64x1024, .bf16⟩
  | .local _ .vmem, ⟨57, _⟩ => ⟨S64x1024, .bf16⟩
  | .local _ .vmem, ⟨58, _⟩ => ⟨S1x64x704, .bf16⟩
  | .local _ .vmem, ⟨59, _⟩ => ⟨S1x64x704, .bf16⟩
  | .local _ .vmem, ⟨60, _⟩ => ⟨S1x64x704, .bf16⟩
  | .local _ .vmem, ⟨61, _⟩ => ⟨S1x64x704, .bf16⟩
  | .local _ .vmem, ⟨62, _⟩ => ⟨S1x64x704, .bf16⟩
  | .local _ .vmem, ⟨63, _⟩ => ⟨S1x64x704, .bf16⟩
  | .local _ .vmem, ⟨64, _⟩ => ⟨S1x704x1024, .bf16⟩
  | .local _ .vmem, ⟨65, _⟩ => ⟨S1x704x1024, .bf16⟩
  | .local _ .vmem, ⟨66, _⟩ => ⟨S1x704x1024, .bf16⟩
  | .local _ .vmem, ⟨67, _⟩ => ⟨S1x704x1024, .bf16⟩
  | .local _ .vmem, ⟨68, _⟩ => ⟨S1x704x1024, .bf16⟩
  | .local _ .vmem, ⟨69, _⟩ => ⟨S1x704x1024, .bf16⟩
  | .local _ .vmem, ⟨70, _⟩ => ⟨S704x1024, .f32⟩
  | .local _ .vmem, ⟨71, _⟩ => ⟨S704x1024, .f32⟩
  | .local _ .vmem, ⟨72, _⟩ => ⟨S704x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc1_stg9_0 : Ref sig .tc := ⟨.vmem, 38, rfl⟩
abbrev cc1_stg9_1 : Ref sig .tc := ⟨.vmem, 39, rfl⟩
abbrev cc1_stg10_0 : Ref sig .tc := ⟨.vmem, 40, rfl⟩
abbrev cc1_stg10_1 : Ref sig .tc := ⟨.vmem, 41, rfl⟩
abbrev cc1_stg11_0 : Ref sig .tc := ⟨.vmem, 42, rfl⟩
abbrev cc1_stg12_0 : Ref sig .tc := ⟨.vmem, 43, rfl⟩
abbrev cc1_stg12_1 : Ref sig .tc := ⟨.vmem, 44, rfl⟩
abbrev cc1_scratch0 : Ref sig .tc := ⟨.vmem, 45, rfl⟩
abbrev cc2_stg0_0 : Ref sig .tc := ⟨.vmem, 46, rfl⟩
abbrev cc2_stg0_1 : Ref sig .tc := ⟨.vmem, 47, rfl⟩
abbrev cc2_stg1_0 : Ref sig .tc := ⟨.vmem, 48, rfl⟩
abbrev cc2_stg1_1 : Ref sig .tc := ⟨.vmem, 49, rfl⟩
abbrev cc2_stg2_0 : Ref sig .tc := ⟨.vmem, 50, rfl⟩
abbrev cc2_stg2_1 : Ref sig .tc := ⟨.vmem, 51, rfl⟩
abbrev cc2_stg3_0 : Ref sig .tc := ⟨.vmem, 52, rfl⟩
abbrev cc2_stg3_1 : Ref sig .tc := ⟨.vmem, 53, rfl⟩
abbrev cc2_stg4_0 : Ref sig .tc := ⟨.vmem, 54, rfl⟩
abbrev cc2_stg4_1 : Ref sig .tc := ⟨.vmem, 55, rfl⟩
abbrev cc2_stg5_0 : Ref sig .tc := ⟨.vmem, 56, rfl⟩
abbrev cc2_stg6_0 : Ref sig .tc := ⟨.vmem, 57, rfl⟩
abbrev cc2_stg7_0 : Ref sig .tc := ⟨.vmem, 58, rfl⟩
abbrev cc2_stg7_1 : Ref sig .tc := ⟨.vmem, 59, rfl⟩
abbrev cc2_stg8_0 : Ref sig .tc := ⟨.vmem, 60, rfl⟩
abbrev cc2_stg8_1 : Ref sig .tc := ⟨.vmem, 61, rfl⟩
abbrev cc2_stg9_0 : Ref sig .tc := ⟨.vmem, 62, rfl⟩
abbrev cc2_stg9_1 : Ref sig .tc := ⟨.vmem, 63, rfl⟩
abbrev cc2_stg10_0 : Ref sig .tc := ⟨.vmem, 64, rfl⟩
abbrev cc2_stg10_1 : Ref sig .tc := ⟨.vmem, 65, rfl⟩
abbrev cc2_stg11_0 : Ref sig .tc := ⟨.vmem, 66, rfl⟩
abbrev cc2_stg11_1 : Ref sig .tc := ⟨.vmem, 67, rfl⟩
abbrev cc2_stg12_0 : Ref sig .tc := ⟨.vmem, 68, rfl⟩
abbrev cc2_stg12_1 : Ref sig .tc := ⟨.vmem, 69, rfl⟩
abbrev cc2_scratch0 : Ref sig .tc := ⟨.vmem, 70, rfl⟩
abbrev cc2_scratch1 : Ref sig .tc := ⟨.vmem, 71, rfl⟩
abbrev cc2_scratch2 : Ref sig .tc := ⟨.vmem, 72, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem12_0 : DmaSem sig := 41
abbrev cc1_sem12_1 : DmaSem sig := 42
abbrev cc2_sem0_0 : DmaSem sig := 43
abbrev cc2_sem0_1 : DmaSem sig := 44
abbrev cc2_sem1_0 : DmaSem sig := 45
abbrev cc2_sem1_1 : DmaSem sig := 46
abbrev cc2_sem2_0 : DmaSem sig := 47
abbrev cc2_sem2_1 : DmaSem sig := 48
abbrev cc2_sem3_0 : DmaSem sig := 49
abbrev cc2_sem3_1 : DmaSem sig := 50
abbrev cc2_sem4_0 : DmaSem sig := 51
abbrev cc2_sem4_1 : DmaSem sig := 52
abbrev cc2_sem5_0 : DmaSem sig := 53
abbrev cc2_sem6_0 : DmaSem sig := 54
abbrev cc2_sem7_0 : DmaSem sig := 55
abbrev cc2_sem7_1 : DmaSem sig := 56
abbrev cc2_sem8_0 : DmaSem sig := 57
abbrev cc2_sem8_1 : DmaSem sig := 58
abbrev cc2_sem9_0 : DmaSem sig := 59
abbrev cc2_sem9_1 : DmaSem sig := 60
abbrev cc2_sem10_0 : DmaSem sig := 61
abbrev cc2_sem10_1 : DmaSem sig := 62
abbrev cc2_sem11_0 : DmaSem sig := 63
abbrev cc2_sem11_1 : DmaSem sig := 64
abbrev cc2_sem12_0 : DmaSem sig := 65
abbrev cc2_sem12_1 : DmaSem sig := 66

abbrev nD : Nat := 1
abbrev τ : Topo := Topo.v7x

variable {F : FTy → Type} [FloatOps F]

abbrev grid0 : Pipeline.Grid := ⟨2, ![5, 4], ![false, false]⟩

def k0_cond2 (i : grid0.Coords) : BitVec 1 :=
  let arg1 : BitVec 32 := BitVec.ofNat 32 (i 1).val
  let c3_i32 : BitVec 32 := 3#32
  let v46 : BitVec 1 := Scalar.cmpi .eq arg1 c3_i32
  let v47 : BitVec 32 := Scalar.extui v46
  let c0_i32_31 : BitVec 32 := 0#32
  let v48 : BitVec 1 := Scalar.cmpi .ne v47 c0_i32_31
  v48

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S832x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x832x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x832x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x832x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S832x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨2, ![5, 4], ![false, false]⟩

def k1_cond4 (i : grid1.Coords) : BitVec 1 :=
  let arg1 : BitVec 32 := BitVec.ofNat 32 (i 1).val
  let c3_i32_5 : BitVec 32 := 3#32
  let v11 : BitVec 1 := Scalar.cmpi .eq arg1 c3_i32_5
  let v12 : BitVec 32 := Scalar.extui v11
  let c0_i32_6 : BitVec 32 := 0#32
  let v13 : BitVec 1 := Scalar.cmpi .ne v12 c0_i32_6
  v13

def k1_cond3 (i : grid1.Coords) : BitVec 1 :=
  let arg1 : BitVec 32 := BitVec.ofNat 32 (i 1).val
  let c3_i32 : BitVec 32 := 3#32
  let v8 : BitVec 1 := Scalar.cmpi .slt arg1 c3_i32
  let v9 : BitVec 32 := Scalar.extui v8
  let c0_i32_4 : BitVec 32 := 0#32
  let v10 : BitVec 1 := Scalar.cmpi .ne v9 c0_i32_4
  v10

def k1_cond2 (i : grid1.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S832x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S832x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x832x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x832x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x704x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x704x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x704x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S832x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x832x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x832x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 2 → Memref sig .tc .vmem S832x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_29 : BitVec 32 := 0#32
  let v35 : BitVec 1 := Scalar.cmpi .ne v34 c0_i32_29
  v35

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c64_i32 : BitVec 32 := 64#32
  let c0_i32 : BitVec 32 := 0#32
  let c0_i32_0 : BitVec 32 := 0#32
  ![c64_i32.toNat, c0_i32.toNat]

def cc2_transform_6 (i : grid2.Coords) : Fin 2 → Nat :=
  let arg0 : BitVec 32 := BitVec.ofNat 32 (i 0).val
  let arg1 : BitVec 32 := BitVec.ofNat 32 (i 1).val
  let c64_i32 : BitVec 32 := 64#32
  let c0_i32 : BitVec 32 := 0#32
  let c0_i32_0 : BitVec 32 := 0#32
  ![c64_i32.toNat, c0_i32.toNat]

def cc2_transform_7 (i : grid2.Coords) : Fin 3 → Nat :=
  let arg0 : BitVec 32 := BitVec.ofNat 32 (i 0).val
  let arg1 : BitVec 32 := BitVec.ofNat 32 (i 1).val
  let c64_i32 : BitVec 32 := 64#32
  let c0_i32 : BitVec 32 := 0#32
  let c0_i32_0 : BitVec 32 := 0#32
  ![arg0.toNat, c64_i32.toNat, c0_i32.toNat]

def cc2_transform_8 (i : grid2.Coords) : Fin 3 → Nat :=
  let arg0 : BitVec 32 := BitVec.ofNat 32 (i 0).val
  let arg1 : BitVec 32 := BitVec.ofNat 32 (i 1).val
  let c64_i32 : BitVec 32 := 64#32
  let c0_i32 : BitVec 32 := 0#32
  let c0_i32_0 : BitVec 32 := 0#32
  ![arg0.toNat, c64_i32.toNat, c0_i32.toNat]

def cc2_transform_9 (i : grid2.Coords) : Fin 3 → Nat :=
  let arg0 : BitVec 32 := BitVec.ofNat 32 (i 0).val
  let arg1 : BitVec 32 := BitVec.ofNat 32 (i 1).val
  let c64_i32 : BitVec 32 := 64#32
  let c0_i32 : BitVec 32 := 0#32
  let c0_i32_0 : BitVec 32 := 0#32
  ![arg0.toNat, c64_i32.toNat, c0_i32.toNat]

def cc2_transform_10 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_11 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_12 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1024x704 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1024x704 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 1 → Memref sig .tc .vmem S64x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S64x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x64x704 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S1x64x704 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev stage2_9 : Fin 2 → Memref sig .tc .vmem S1x64x704 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev stage2_10 : Fin 2 → Memref sig .tc .vmem S1x704x1024 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, false]

abbrev stage2_11 : Fin 2 → Memref sig .tc .vmem S1x704x1024 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, false]

abbrev stage2_12 : Fin 2 → Memref sig .tc .vmem S1x704x1024 .bf16 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, false]
-- ==== ReferenceIdeal.lean ====
abbrev S4160x1024 : Shape := ⟨2, ![4160, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4160 : Shape := ⟨1, ![4160]⟩
abbrev S4160x1 : Shape := ⟨2, ![4160, 1]⟩
abbrev S4160x2816 : Shape := ⟨2, ![4160, 2816]⟩
abbrev S4x704x1024 : Shape := ⟨3, ![4, 704, 1024]⟩

abbrev nBuf : Space → Nat
  | .hbm => 103
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4160x1024, .f32⟩
  | .hbm, ⟨6, _⟩ => ⟨S1024, .f32⟩
  | .hbm, ⟨7, _⟩ => ⟨S4160x1024, .f32⟩
  | .hbm, ⟨8, _⟩ => ⟨S_, .f32⟩
  | .hbm, ⟨9, _⟩ => ⟨S4160, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S_, .f32⟩
  | .hbm, ⟨15, _⟩ => ⟨S4160x1, .f32⟩
  | .hbm, ⟨16, _⟩ => ⟨S4160x1, .f32⟩
  | .hbm, ⟨17, _⟩ => ⟨S4160x1, .f32⟩
  | .hbm, ⟨18, _⟩ => ⟨S4160x1, .f32⟩
  | .hbm, ⟨19, _⟩ => ⟨S_, .f32⟩
  | .hbm, ⟨20, _⟩ => ⟨S4160x1, .f32⟩
  | .hbm, ⟨21, _⟩ => ⟨S4160x1, .f32⟩
  | .hbm, ⟨22, _⟩ => ⟨S4160x1024, .f32⟩
  | .hbm, ⟨23, _⟩ => ⟨S4160x1024, .f32⟩
  | .hbm, ⟨24, _⟩ => ⟨S1x1024, .f32⟩
  | .hbm, ⟨25, _⟩ => ⟨S4160x1024, .f32⟩
  | .hbm, ⟨26, _⟩ => ⟨S4160x1024, .f32⟩
  | .hbm, ⟨27, _⟩ => ⟨S4160x2816, .f32⟩
  | .hbm, ⟨28, _⟩ => ⟨S4160x2816, .f32⟩
  | .hbm, ⟨29, _⟩ => ⟨S4160x2816, .f32⟩
  | .hbm, ⟨30, _⟩ => ⟨S_, .f32⟩
  | .hbm, ⟨31, _⟩ => ⟨S4160x2816, .f32⟩
  | .hbm, ⟨32, _⟩ => ⟨S4160x2816, .f32⟩
  | .hbm, ⟨33, _⟩ => ⟨S_, .f32⟩
  | .hbm, ⟨34, _⟩ => ⟨S4160x2816, .f32⟩
  | .hbm, ⟨35, _⟩ => ⟨S4160x2816, .f32⟩
  | .hbm, ⟨36, _⟩ => ⟨S_, .f32⟩
  | .hbm, ⟨37, _⟩ => ⟨S4160x2816, .f32⟩
  | .hbm, ⟨38, _⟩ => ⟨S4160x2816, .f32⟩
  | .hbm, ⟨39, _⟩ => ⟨S4160x2816, .f32⟩
  | .hbm, ⟨40, _⟩ => ⟨S4160x2816, .f32⟩
  | .hbm, ⟨41, _⟩ => ⟨S4160x2816, .f32⟩
  | .hbm, ⟨42, _⟩ => ⟨S4160x2816, .f32⟩
  | .hbm, ⟨43, _⟩ => ⟨S4160x1024, .f32⟩
  | .hbm, ⟨44, _⟩ => ⟨S_, .f32⟩
  | .hbm, ⟨45, _⟩ => ⟨S4160x1024, .f32⟩
  | .hbm, ⟨46, _⟩ => ⟨S4160x1024, .f32⟩
  | .hbm, ⟨47, _⟩ => ⟨S4160x1024, .f32⟩
  | .hbm, ⟨48, _⟩ => ⟨S4160x1024, .f32⟩
  | .hbm, ⟨49, _⟩ => ⟨S_, .f32⟩
  | .hbm, ⟨50, _⟩ => ⟨S4160x1024, .f32⟩
  | .hbm, ⟨51, _⟩ => ⟨S4160x1024, .f32⟩
  | .hbm, ⟨52, _⟩ => ⟨S1024x2816, .f32⟩
  | .hbm, ⟨53, _⟩ => ⟨S2816x1024, .f32⟩
  | .hbm, ⟨54, _⟩ => ⟨S4160x2816, .f32⟩
  | .hbm, ⟨55, _⟩ => ⟨S4160x2816, .f32⟩
  | .hbm, ⟨56, _⟩ => ⟨S4160x2816, .f32⟩
  | .hbm, ⟨57, _⟩ => ⟨S2816x1024, .f32⟩
  | .hbm, ⟨58, _⟩ => ⟨S1024x2816, .f32⟩
  | .hbm, ⟨59, _⟩ => ⟨S4160x1024, .f32⟩
  | .hbm, ⟨60, _⟩ => ⟨S4160x2816, .f32⟩
  | .hbm, ⟨61, _⟩ => ⟨S4160x2816, .f32⟩
  | .hbm, ⟨62, _⟩ => ⟨S4160x2816, .f32⟩
  | .hbm, ⟨63, _⟩ => ⟨S4160x2816, .f32⟩
  | .hbm, ⟨64, _⟩ => ⟨S2816x1024, .f32⟩
  | .hbm, ⟨65, _⟩ => ⟨S1024x2816, .f32⟩
  | .hbm, ⟨66, _⟩ => ⟨S4160x1024, .f32⟩
  | .hbm, ⟨67, _⟩ => ⟨S4160x1024, .f32⟩
  | .hbm, ⟨68, _⟩ => ⟨S4160x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4160x1024, .f32⟩
  | .hbm, ⟨73, _⟩ => ⟨S4160x1024, .f32⟩
  | .hbm, ⟨74, _⟩ => ⟨S_, .f32⟩
  | .hbm, ⟨75, _⟩ => ⟨S1024, .f32⟩
  | .hbm, ⟨76, _⟩ => ⟨S4160x1024, .f32⟩
  | .hbm, ⟨77, _⟩ => ⟨S_, .f32⟩
  | .hbm, ⟨78, _⟩ => ⟨S4160, .f32⟩
  | .hbm, ⟨79, _⟩ => ⟨S4160x1, .f32⟩
  | .hbm, ⟨80, _⟩ => ⟨S4160x1024, .f32⟩
  | .hbm, ⟨81, _⟩ => ⟨S4160x1024, .f32⟩
  | .hbm, ⟨82, _⟩ => ⟨S4160x1024, .f32⟩
  | .hbm, ⟨83, _⟩ => ⟨S4160x1, .f32⟩
  | .hbm, ⟨84, _⟩ => ⟨S_, .f32⟩
  | .hbm, ⟨85, _⟩ => ⟨S4160x1, .f32⟩
  | .hbm, ⟨86, _⟩ => ⟨S4160x1, .f32⟩
  | .hbm, ⟨87, _⟩ => ⟨S_, .f32⟩
  | .hbm, ⟨88, _⟩ => ⟨S4160, .f32⟩
  | .hbm, ⟨89, _⟩ => ⟨S4160x1024, .f32⟩
  | .hbm, ⟨90, _⟩ => ⟨S4160x1024, .f32⟩
  | .hbm, ⟨91, _⟩ => ⟨S4160x1024, .f32⟩
  | .hbm, ⟨92, _⟩ => ⟨S4160x1024, .f32⟩
  | .hbm, ⟨93, _⟩ => ⟨S4160x1024, .f32⟩
  | .hbm, ⟨94, _⟩ => ⟨S1x1024, .f32⟩
  | .hbm, ⟨95, _⟩ => ⟨S2816x1024, .f32⟩
  | .hbm, ⟨96, _⟩ => ⟨S4x704x1024, .f32⟩
  | .hbm, ⟨97, _⟩ => ⟨S4x704x1024, .bf16⟩
  | .hbm, ⟨98, _⟩ => ⟨S2816x1024, .f32⟩
  | .hbm, ⟨99, _⟩ => ⟨S4x704x1024, .f32⟩
  | .hbm, ⟨100, _⟩ => ⟨S4x704x1024, .bf16⟩
  | .hbm, ⟨101, _⟩ => ⟨S4x704x1024, .f32⟩
  | .hbm, ⟨102, _⟩ => ⟨S4x704x1024, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_6 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_8 : Ref sig .tc := ⟨.hbm, 84, rfl⟩
abbrev main_v54 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== Kernel2.lean ====
abbrev S4x4160x704 : Shape := ⟨3, ![4, 4160, 704]⟩
abbrev S4160x1024 : Shape := ⟨2, ![4160, 1024]⟩
abbrev S4x704x1024 : Shape := ⟨3, ![4, 704, 1024]⟩
abbrev S1024x1024 : Shape := ⟨2, ![1024, 1024]⟩
abbrev S1x1024x704 : Shape := ⟨3, ![1, 1024, 704]⟩
abbrev S64x1024 : Shape := ⟨2, ![64, 1024]⟩
abbrev S1x64x704 : Shape := ⟨3, ![1, 64, 704]⟩
abbrev S1x704x1024 : Shape := ⟨3, ![1, 704, 1024]⟩
abbrev S704x1024 : Shape := ⟨2, ![704, 1024]⟩
abbrev S1024x704 : Shape := ⟨2, ![1024, 704]⟩
abbrev S64x704 : Shape := ⟨2, ![64, 704]⟩

abbrev nBuf : Space → Nat
  | .hbm => 3
  | .vmem => 10
  | .smem => 0
  | _ => 0

abbrev bufTy : (tb : Table) → Fin (tcTables nBuf tb) → BufTy
  | .hbm, ⟨0, _⟩ => ⟨S4x4160x704, .bf16⟩
  | .hbm, ⟨1, _⟩ => ⟨S4160x1024, .f32⟩
  | .hbm, ⟨2, _⟩ => ⟨S4x704x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x704, .bf16⟩
  | .local _ .vmem, ⟨3, _⟩ => ⟨S1x1024x704, .bf16⟩
  | .local _ .vmem, ⟨4, _⟩ => ⟨S64x1024, .f32⟩
  | .local _ .vmem, ⟨5, _⟩ => ⟨S1x64x704, .bf16⟩
  | .local _ .vmem, ⟨6, _⟩ => ⟨S1x64x704, .bf16⟩
  | .local _ .vmem, ⟨7, _⟩ => ⟨S1x704x1024, .bf16⟩
  | .local _ .vmem, ⟨8, _⟩ => ⟨S1x704x1024, .bf16⟩
  | .local _ .vmem, ⟨9, _⟩ => ⟨S704x1024, .f32⟩
  | _, _ => ⟨S4x4160x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let c0_i32 : BitVec 32 := 0#32
  let c0_i32_0 : BitVec 32 := 0#32
  ![c64_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let c0_i32 : BitVec 32 := 0#32
  let c0_i32_0 : BitVec 32 := 0#32
  ![arg0.toNat, c64_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S4x4160x704 : Shape := ⟨3, ![4, 4160, 704]⟩
abbrev S4160x1024 : Shape := ⟨2, ![4160, 1024]⟩
abbrev S_ : Shape := ⟨0, ![]⟩
abbrev S2816x1024 : Shape := ⟨2, ![2816, 1024]⟩
abbrev S4160x4x704 : Shape := ⟨3, ![4160, 4, 704]⟩
abbrev S4160x2816 : Shape := ⟨2, ![4160, 2816]⟩
abbrev S1024x2816 : Shape := ⟨2, ![1024, 2816]⟩
abbrev S4x704x1024 : Shape := ⟨3, ![4, 704, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x4160x704, .bf16⟩
  | .hbm, ⟨1, _⟩ => ⟨S4160x1024, .f32⟩
  | .hbm, ⟨2, _⟩ => ⟨S_, .f32⟩
  | .hbm, ⟨3, _⟩ => ⟨S2816x1024, .f32⟩
  | .hbm, ⟨4, _⟩ => ⟨S4160x4x704, .bf16⟩
  | .hbm, ⟨5, _⟩ => ⟨S4160x2816, .bf16⟩
  | .hbm, ⟨6, _⟩ => ⟨S4160x2816, .f32⟩
  | .hbm, ⟨7, _⟩ => ⟨S4160x1024, .f32⟩
  | .hbm, ⟨8, _⟩ => ⟨S_, .f32⟩
  | .hbm, ⟨9, _⟩ => ⟨S4160x1024, .f32⟩
  | .hbm, ⟨10, _⟩ => ⟨S4160x1024, .f32⟩
  | .hbm, ⟨11, _⟩ => ⟨S_, .f32⟩
  | .hbm, ⟨12, _⟩ => ⟨S4160x1024, .f32⟩
  | .hbm, ⟨13, _⟩ => ⟨S4160x1024, .f32⟩
  | .hbm, ⟨14, _⟩ => ⟨S1024x2816, .f32⟩
  | .hbm, ⟨15, _⟩ => ⟨S2816x1024, .f32⟩
  | .hbm, ⟨16, _⟩ => ⟨S4x704x1024, .f32⟩
  | .hbm, ⟨17, _⟩ => ⟨S4x704x1024, .bf16⟩
  | _, _ => ⟨S4x4160x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel3.lean ====
abbrev S4160x1024 : Shape := ⟨2, ![4160, 1024]⟩
abbrev S4x4160x704 : Shape := ⟨3, ![4, 4160, 704]⟩
abbrev S4x704x1024 : Shape := ⟨3, ![4, 704, 1024]⟩
abbrev S1024x1024 : Shape := ⟨2, ![1024, 1024]⟩
abbrev S1x1024x704 : Shape := ⟨3, ![1, 1024, 704]⟩
abbrev S64x1024 : Shape := ⟨2, ![64, 1024]⟩
abbrev S1x64x704 : Shape := ⟨3, ![1, 64, 704]⟩
abbrev S1x704x1024 : Shape := ⟨3, ![1, 704, 1024]⟩
abbrev S704x1024 : Shape := ⟨2, ![704, 1024]⟩
abbrev S1024x704 : Shape := ⟨2, ![1024, 704]⟩
abbrev S64x704 : Shape := ⟨2, ![64, 704]⟩

abbrev nBuf : Space → Nat
  | .hbm => 5
  | .vmem => 17
  | .smem => 0
  | _ => 0

abbrev bufTy : (tb : Table) → Fin (tcTables nBuf tb) → BufTy
  | .hbm, ⟨0, _⟩ => ⟨S4160x1024, .bf16⟩
  | .hbm, ⟨1, _⟩ => ⟨S4x4160x704, .bf16⟩
  | .hbm, ⟨2, _⟩ => ⟨S4x4160x704, .bf16⟩
  | .hbm, ⟨3, _⟩ => ⟨S4x704x1024, .bf16⟩
  | .hbm, ⟨4, _⟩ => ⟨S4x704x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S64x1024, .bf16⟩
  | .local _ .vmem, ⟨7, _⟩ => ⟨S1x64x704, .bf16⟩
  | .local _ .vmem, ⟨8, _⟩ => ⟨S1x64x704, .bf16⟩
  | .local _ .vmem, ⟨9, _⟩ => ⟨S1x64x704, .bf16⟩
  | .local _ .vmem, ⟨10, _⟩ => ⟨S1x64x704, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S704x1024, .f32⟩
  | .local _ .vmem, ⟨16, _⟩ => ⟨S704x1024, .f32⟩
  | _, _ => ⟨S4160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_19 : BitVec 32 := 0#32
  let v23 : BitVec 1 := Scalar.cmpi .ne v22 c0_i32_19
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let c0_i32 : BitVec 32 := 0#32
  let c0_i32_0 : BitVec 32 := 0#32
  ![c64_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let c0_i32 : BitVec 32 := 0#32
  let c0_i32_0 : BitVec 32 := 0#32
  ![arg0.toNat, c64_i32.toNat, c0_i32.toNat]

def cc0_transform_5 (i : grid0.Coords) : Fin 3 → Nat :=
  let arg0 : BitVec 32 := BitVec.ofNat 32 (i 0).val
  let arg1 : BitVec 32 := BitVec.ofNat 32 (i 1).val
  let c64_i32 : BitVec 32 := 64#32
  let c0_i32 : BitVec 32 := 0#32
  let c0_i32_0 : BitVec 32 := 0#32
  ![arg0.toNat, c64_i32.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S4160x1024 : Shape := ⟨2, ![4160, 1024]⟩
abbrev S4x4160x704 : Shape := ⟨3, ![4, 4160, 704]⟩
abbrev S_ : Shape := ⟨0, ![]⟩
abbrev S1024x2816 : Shape := ⟨2, ![1024, 2816]⟩
abbrev S4160x2816 : Shape := ⟨2, ![4160, 2816]⟩
abbrev S4160x4x704 : Shape := ⟨3, ![4160, 4, 704]⟩
abbrev S2816x1024 : Shape := ⟨2, ![2816, 1024]⟩
abbrev S4x704x1024 : Shape := ⟨3, ![4, 704, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4160x1024, .bf16⟩
  | .hbm, ⟨1, _⟩ => ⟨S4x4160x704, .bf16⟩
  | .hbm, ⟨2, _⟩ => ⟨S4x4160x704, .bf16⟩
  | .hbm, ⟨3, _⟩ => ⟨S4160x1024, .f32⟩
  | .hbm, ⟨4, _⟩ => ⟨S_, .f32⟩
  | .hbm, ⟨5, _⟩ => ⟨S1024x2816, .f32⟩
  | .hbm, ⟨6, _⟩ => ⟨S4160x2816, .f32⟩
  | .hbm, ⟨7, _⟩ => ⟨S4160x2816, .f32⟩
  | .hbm, ⟨8, _⟩ => ⟨S4160x4x704, .bf16⟩
  | .hbm, ⟨9, _⟩ => ⟨S4160x2816, .bf16⟩
  | .hbm, ⟨10, _⟩ => ⟨S4160x2816, .f32⟩
  | .hbm, ⟨11, _⟩ => ⟨S4160x4x704, .bf16⟩
  | .hbm, ⟨12, _⟩ => ⟨S4160x2816, .bf16⟩
  | .hbm, ⟨13, _⟩ => ⟨S4160x2816, .f32⟩
  | .hbm, ⟨14, _⟩ => ⟨S2816x1024, .f32⟩
  | .hbm, ⟨15, _⟩ => ⟨S1024x2816, .f32⟩
  | .hbm, ⟨16, _⟩ => ⟨S2816x1024, .f32⟩
  | .hbm, ⟨17, _⟩ => ⟨S1024x2816, .f32⟩
  | .hbm, ⟨18, _⟩ => ⟨S2816x1024, .f32⟩
  | .hbm, ⟨19, _⟩ => ⟨S4x704x1024, .f32⟩
  | .hbm, ⟨20, _⟩ => ⟨S4x704x1024, .bf16⟩
  | .hbm, ⟨21, _⟩ => ⟨S2816x1024, .f32⟩
  | .hbm, ⟨22, _⟩ => ⟨S4x704x1024, .f32⟩
  | .hbm, ⟨23, _⟩ => ⟨S4x704x1024, .bf16⟩
  | _, _ => ⟨S4160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Kernel4.lean ====
abbrev S2x1024x704 : Shape := ⟨3, ![2, 1024, 704]⟩
abbrev S704x1024 : Shape := ⟨2, ![704, 1024]⟩
abbrev S2x704x1024 : Shape := ⟨3, ![2, 704, 1024]⟩
abbrev S1x352x1024 : Shape := ⟨3, ![1, 352, 1024]⟩
abbrev S352x1024 : Shape := ⟨2, ![352, 1024]⟩

abbrev nBuf : Space → Nat
  | .hbm => 12
  | .vmem => 18
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S704x1024, .f32⟩
  | .hbm, ⟨4, _⟩ => ⟨S704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S2x1024x704 : Shape := ⟨3, ![2, 1024, 704]⟩
abbrev S704x1024 : Shape := ⟨2, ![704, 1024]⟩
abbrev S1024x704 : Shape := ⟨2, ![1024, 704]⟩
abbrev S1x1024x704 : Shape := ⟨3, ![1, 1024, 704]⟩
abbrev S_ : Shape := ⟨0, ![]⟩
abbrev S2x704x1024 : Shape := ⟨3, ![2, 704, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S704x1024, .f32⟩
  | .hbm, ⟨4, _⟩ => ⟨S704x1024, .f32⟩
  | .hbm, ⟨5, _⟩ => ⟨S1024x704, .f32⟩
  | .hbm, ⟨6, _⟩ => ⟨S1024x704, .f32⟩
  | .hbm, ⟨7, _⟩ => ⟨S1x1024x704, .f32⟩
  | .hbm, ⟨8, _⟩ => ⟨S1x1024x704, .f32⟩
  | .hbm, ⟨9, _⟩ => ⟨S2x1024x704, .f32⟩
  | .hbm, ⟨10, _⟩ => ⟨S_, .f32⟩
  | .hbm, ⟨11, _⟩ => ⟨S2x1024x704, .f32⟩
  | .hbm, ⟨12, _⟩ => ⟨S2x1024x704, .f32⟩
  | .hbm, ⟨13, _⟩ => ⟨S_, .f32⟩
  | .hbm, ⟨14, _⟩ => ⟨S2x1024x704, .f32⟩
  | .hbm, ⟨15, _⟩ => ⟨S2x1024x704, .f32⟩
  | .hbm, ⟨16, _⟩ => ⟨S2x1024x704, .f32⟩
  | .hbm, ⟨17, _⟩ => ⟨S_, .f32⟩
  | .hbm, ⟨18, _⟩ => ⟨S2x1024x704, .f32⟩
  | .hbm, ⟨19, _⟩ => ⟨S2x1024x704, .f32⟩
  | .hbm, ⟨20, _⟩ => ⟨S2x1024x704, .f32⟩
  | .hbm, ⟨21, _⟩ => ⟨S_, .f32⟩
  | .hbm, ⟨22, _⟩ => ⟨S2x1024x704, .f32⟩
  | .hbm, ⟨23, _⟩ => ⟨S2x1024x704, .f32⟩
  | .hbm, ⟨24, _⟩ => ⟨S2x1024x704, .f32⟩
  | .hbm, ⟨25, _⟩ => ⟨S_, .f32⟩
  | .hbm, ⟨26, _⟩ => ⟨S2x1024x704, .f32⟩
  | .hbm, ⟨27, _⟩ => ⟨S2x1024x704, .f32⟩
  | .hbm, ⟨28, _⟩ => ⟨S_, .f32⟩
  | .hbm, ⟨29, _⟩ => ⟨S2x1024x704, .f32⟩
  | .hbm, ⟨30, _⟩ => ⟨S2x1024x704, .f32⟩
  | .hbm, ⟨31, _⟩ => ⟨S2x1024x704, .f32⟩
  | .hbm, ⟨32, _⟩ => ⟨S_, .f32⟩
  | .hbm, ⟨33, _⟩ => ⟨S2x1024x704, .f32⟩
  | .hbm, ⟨34, _⟩ => ⟨S2x1024x704, .f32⟩
  | .hbm, ⟨35, _⟩ => ⟨S2x1024x704, .f32⟩
  | .hbm, ⟨36, _⟩ => ⟨S_, .f32⟩
  | .hbm, ⟨37, _⟩ => ⟨S2x1024x704, .f32⟩
  | .hbm, ⟨38, _⟩ => ⟨S2x1024x704, .f32⟩
  | .hbm, ⟨39, _⟩ => ⟨S2x1024x704, .f32⟩
  | .hbm, ⟨40, _⟩ => ⟨S_, .f32⟩
  | .hbm, ⟨41, _⟩ => ⟨S2x1024x704, .f32⟩
  | .hbm, ⟨42, _⟩ => ⟨S2x1024x704, .f32⟩
  | .hbm, ⟨43, _⟩ => ⟨S2x704x1024, .f32⟩
  | .hbm, ⟨44, _⟩ => ⟨S2x704x1024, .f32⟩
  | .hbm, ⟨45, _⟩ => ⟨S2x704x1024, .f32⟩
  | .hbm, ⟨46, _⟩ => ⟨S2x704x1024, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel5.lean ====
abbrev S2x704x1024 : Shape := ⟨3, ![2, 704, 1024]⟩
abbrev S704x1024 : Shape := ⟨2, ![704, 1024]⟩
abbrev S1x352x1024 : Shape := ⟨3, ![1, 352, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S704x1024, .f32⟩
  | .hbm, ⟨4, _⟩ => ⟨S704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S2x704x1024 : Shape := ⟨3, ![2, 704, 1024]⟩
abbrev S704x1024 : Shape := ⟨2, ![704, 1024]⟩
abbrev S1x704x1024 : Shape := ⟨3, ![1, 704, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S704x1024, .f32⟩
  | .hbm, ⟨4, _⟩ => ⟨S704x1024, .f32⟩
  | .hbm, ⟨5, _⟩ => ⟨S1x704x1024, .f32⟩
  | .hbm, ⟨6, _⟩ => ⟨S1x704x1024, .f32⟩
  | .hbm, ⟨7, _⟩ => ⟨S2x704x1024, .f32⟩
  | .hbm, ⟨8, _⟩ => ⟨S_, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel6.lean ====
abbrev S1x1024x832 : Shape := ⟨3, ![1, 1024, 832]⟩
abbrev S832x1024 : Shape := ⟨2, ![832, 1024]⟩
abbrev S1x832x1024 : Shape := ⟨3, ![1, 832, 1024]⟩
abbrev S1x208x1024 : Shape := ⟨3, ![1, 208, 1024]⟩
abbrev S208x1024 : Shape := ⟨2, ![208, 1024]⟩

abbrev nBuf : Space → Nat
  | .hbm => 11
  | .vmem => 16
  | .smem => 0
  | _ => 0

abbrev bufTy : (tb : Table) → Fin (tcTables nBuf tb) → BufTy
  | .hbm, ⟨0, _⟩ => ⟨S1x1024x832, .f32⟩
  | .hbm, ⟨1, _⟩ => ⟨S1x1024x832, .f32⟩
  | .hbm, ⟨2, _⟩ => ⟨S1x1024x832, .f32⟩
  | .hbm, ⟨3, _⟩ => ⟨S832x1024, .f32⟩
  | .hbm, ⟨4, _⟩ => ⟨S1x832x1024, .f32⟩
  | .hbm, ⟨5, _⟩ => ⟨S1x832x1024, .f32⟩
  | .hbm, ⟨6, _⟩ => ⟨S1x832x1024, .f32⟩
  | .hbm, ⟨7, _⟩ => ⟨S1x832x1024, .f32⟩
  | .hbm, ⟨8, _⟩ => ⟨S1x832x1024, .f32⟩
  | .hbm, ⟨9, _⟩ => ⟨S1x832x1024, .f32⟩
  | .hbm, ⟨10, _⟩ => ⟨S1x832x1024, .f32⟩
  | .local _ .vmem, ⟨0, _⟩ => ⟨S1x208x1024, .f32⟩
  | .local _ .vmem, ⟨1, _⟩ => ⟨S1x208x1024, .f32⟩
  | .local _ .vmem, ⟨2, _⟩ => ⟨S1x208x1024, .f32⟩
  | .local _ .vmem, ⟨3, _⟩ => ⟨S1x208x1024, .f32⟩
  | .local _ .vmem, ⟨4, _⟩ => ⟨S1x208x1024, .f32⟩
  | .local _ .vmem, ⟨5, _⟩ => ⟨S1x208x1024, .f32⟩
  | .local _ .vmem, ⟨6, _⟩ => ⟨S208x1024, .f32⟩
  | .local _ .vmem, ⟨7, _⟩ => ⟨S208x1024, .f32⟩
  | .local _ .vmem, ⟨8, _⟩ => ⟨S1x208x1024, .f32⟩
  | .local _ .vmem, ⟨9, _⟩ => ⟨S1x208x1024, .f32⟩
  | .local _ .vmem, ⟨10, _⟩ => ⟨S1x208x1024, .f32⟩
  | .local _ .vmem, ⟨11, _⟩ => ⟨S1x208x1024, .f32⟩
  | .local _ .vmem, ⟨12, _⟩ => ⟨S1x208x1024, .f32⟩
  | .local _ .vmem, ⟨13, _⟩ => ⟨S1x208x1024, .f32⟩
  | .local _ .vmem, ⟨14, _⟩ => ⟨S1x208x1024, .f32⟩
  | .local _ .vmem, ⟨15, _⟩ => ⟨S1x208x1024, .f32⟩
  | _, _ => ⟨S1x1024x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x208x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x208x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x208x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S208x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x208x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x208x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x208x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x208x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S1x1024x832 : Shape := ⟨3, ![1, 1024, 832]⟩
abbrev S832x1024 : Shape := ⟨2, ![832, 1024]⟩
abbrev S1024x832 : Shape := ⟨2, ![1024, 832]⟩
abbrev S_ : Shape := ⟨0, ![]⟩
abbrev S1x832x1024 : Shape := ⟨3, ![1, 832, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x1024x832, .f32⟩
  | .hbm, ⟨1, _⟩ => ⟨S1x1024x832, .f32⟩
  | .hbm, ⟨2, _⟩ => ⟨S1x1024x832, .f32⟩
  | .hbm, ⟨3, _⟩ => ⟨S832x1024, .f32⟩
  | .hbm, ⟨4, _⟩ => ⟨S1024x832, .f32⟩
  | .hbm, ⟨5, _⟩ => ⟨S1x1024x832, .f32⟩
  | .hbm, ⟨6, _⟩ => ⟨S_, .f32⟩
  | .hbm, ⟨7, _⟩ => ⟨S1x1024x832, .f32⟩
  | .hbm, ⟨8, _⟩ => ⟨S1x1024x832, .f32⟩
  | .hbm, ⟨9, _⟩ => ⟨S_, .f32⟩
  | .hbm, ⟨10, _⟩ => ⟨S1x1024x832, .f32⟩
  | .hbm, ⟨11, _⟩ => ⟨S1x1024x832, .f32⟩
  | .hbm, ⟨12, _⟩ => ⟨S1x1024x832, .f32⟩
  | .hbm, ⟨13, _⟩ => ⟨S_, .f32⟩
  | .hbm, ⟨14, _⟩ => ⟨S1x1024x832, .f32⟩
  | .hbm, ⟨15, _⟩ => ⟨S1x1024x832, .f32⟩
  | .hbm, ⟨16, _⟩ => ⟨S1x1024x832, .f32⟩
  | .hbm, ⟨17, _⟩ => ⟨S_, .f32⟩
  | .hbm, ⟨18, _⟩ => ⟨S1x1024x832, .f32⟩
  | .hbm, ⟨19, _⟩ => ⟨S1x1024x832, .f32⟩
  | .hbm, ⟨20, _⟩ => ⟨S1x1024x832, .f32⟩
  | .hbm, ⟨21, _⟩ => ⟨S_, .f32⟩
  | .hbm, ⟨22, _⟩ => ⟨S1x1024x832, .f32⟩
  | .hbm, ⟨23, _⟩ => ⟨S1x1024x832, .f32⟩
  | .hbm, ⟨24, _⟩ => ⟨S_, .f32⟩
  | .hbm, ⟨25, _⟩ => ⟨S1x1024x832, .f32⟩
  | .hbm, ⟨26, _⟩ => ⟨S1x1024x832, .f32⟩
  | .hbm, ⟨27, _⟩ => ⟨S1x1024x832, .f32⟩
  | .hbm, ⟨28, _⟩ => ⟨S_, .f32⟩
  | .hbm, ⟨29, _⟩ => ⟨S1x1024x832, .f32⟩
  | .hbm, ⟨30, _⟩ => ⟨S1x1024x832, .f32⟩
  | .hbm, ⟨31, _⟩ => ⟨S1x1024x832, .f32⟩
  | .hbm, ⟨32, _⟩ => ⟨S_, .f32⟩
  | .hbm, ⟨33, _⟩ => ⟨S1x1024x832, .f32⟩
  | .hbm, ⟨34, _⟩ => ⟨S1x1024x832, .f32⟩
  | .hbm, ⟨35, _⟩ => ⟨S1x1024x832, .f32⟩
  | .hbm, ⟨36, _⟩ => ⟨S_, .f32⟩
  | .hbm, ⟨37, _⟩ => ⟨S1x1024x832, .f32⟩
  | .hbm, ⟨38, _⟩ => ⟨S1x1024x832, .f32⟩
  | .hbm, ⟨39, _⟩ => ⟨S1x832x1024, .f32⟩
  | .hbm, ⟨40, _⟩ => ⟨S1x832x1024, .f32⟩
  | .hbm, ⟨41, _⟩ => ⟨S1x832x1024, .f32⟩
  | .hbm, ⟨42, _⟩ => ⟨S1x832x1024, .f32⟩
  | _, _ => ⟨S1x1024x832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel7.lean ====
abbrev S1x256x1024 : Shape := ⟨3, ![1, 256, 1024]⟩
abbrev S256x1024 : Shape := ⟨2, ![256, 1024]⟩
abbrev S1x128x1024 : Shape := ⟨3, ![1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S128x1024, .f32⟩
  | .local _ .vmem, ⟨7, _⟩ => ⟨S128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S256x1024, .f32⟩
  | .hbm, ⟨4, _⟩ => ⟨S1x256x1024, .f32⟩
  | .hbm, ⟨5, _⟩ => ⟨S_, .f32⟩
  | .hbm, ⟨6, _⟩ => ⟨S1x256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S_, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S1x256x1024, .f32⟩
  | .hbm, ⟨35, _⟩ => ⟨S_, .f32⟩
  | .hbm, ⟨36, _⟩ => ⟨S1x256x1024, .f32⟩
  | .hbm, ⟨37, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel8.lean ====
abbrev S1x1024x512 : Shape := ⟨3, ![1, 1024, 512]⟩
abbrev S1024x512 : Shape := ⟨2, ![1024, 512]⟩
abbrev S1x256x512 : Shape := ⟨3, ![1, 256, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S256x512, .f32⟩
  | .local _ .vmem, ⟨7, _⟩ => ⟨S256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S1x1024x512 : Shape := ⟨3, ![1, 1024, 512]⟩
abbrev S1024x512 : Shape := ⟨2, ![1024, 512]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1024x512, .f32⟩
  | .hbm, ⟨4, _⟩ => ⟨S1x1024x512, .f32⟩
  | .hbm, ⟨5, _⟩ => ⟨S_, .f32⟩
  | .hbm, ⟨6, _⟩ => ⟨S1x1024x512, .f32⟩
  | .hbm, ⟨7, _⟩ => ⟨S1x1024x512, .f32⟩
  | .hbm, ⟨8, _⟩ => ⟨S_, .f32⟩
  | .hbm, ⟨9, _⟩ => ⟨S1x1024x512, .f32⟩
  | .hbm, ⟨10, _⟩ => ⟨S1x1024x512, .f32⟩
  | .hbm, ⟨11, _⟩ => ⟨S1x1024x512, .f32⟩
  | .hbm, ⟨12, _⟩ => ⟨S_, .f32⟩
  | .hbm, ⟨13, _⟩ => ⟨S1x1024x512, .f32⟩
  | .hbm, ⟨14, _⟩ => ⟨S1x1024x512, .f32⟩
  | .hbm, ⟨15, _⟩ => ⟨S1x1024x512, .f32⟩
  | .hbm, ⟨16, _⟩ => ⟨S_, .f32⟩
  | .hbm, ⟨17, _⟩ => ⟨S1x1024x512, .f32⟩
  | .hbm, ⟨18, _⟩ => ⟨S1x1024x512, .f32⟩
  | .hbm, ⟨19, _⟩ => ⟨S1x1024x512, .f32⟩
  | .hbm, ⟨20, _⟩ => ⟨S_, .f32⟩
  | .hbm, ⟨21, _⟩ => ⟨S1x1024x512, .f32⟩
  | .hbm, ⟨22, _⟩ => ⟨S1x1024x512, .f32⟩
  | .hbm, ⟨23, _⟩ => ⟨S_, .f32⟩
  | .hbm, ⟨24, _⟩ => ⟨S1x1024x512, .f32⟩
  | .hbm, ⟨25, _⟩ => ⟨S1x1024x512, .f32⟩
  | .hbm, ⟨26, _⟩ => ⟨S1x1024x512, .f32⟩
  | .hbm, ⟨27, _⟩ => ⟨S_, .f32⟩
  | .hbm, ⟨28, _⟩ => ⟨S1x1024x512, .f32⟩
  | .hbm, ⟨29, _⟩ => ⟨S1x1024x512, .f32⟩
  | .hbm, ⟨30, _⟩ => ⟨S1x1024x512, .f32⟩
  | .hbm, ⟨31, _⟩ => ⟨S_, .f32⟩
  | .hbm, ⟨32, _⟩ => ⟨S1x1024x512, .f32⟩
  | .hbm, ⟨33, _⟩ => ⟨S1x1024x512, .f32⟩
  | .hbm, ⟨34, _⟩ => ⟨S1x1024x512, .f32⟩
  | .hbm, ⟨35, _⟩ => ⟨S_, .f32⟩
  | .hbm, ⟨36, _⟩ => ⟨S1x1024x512, .f32⟩
  | .hbm, ⟨37, _⟩ => ⟨S1x1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel9.lean ====
abbrev S8x1888x128 : Shape := ⟨3, ![8, 1888, 128]⟩
abbrev S1496x128 : Shape := ⟨2, ![1496, 128]⟩
abbrev S15104x128 : Shape := ⟨2, ![15104, 128]⟩
abbrev S8x128 : Shape := ⟨2, ![8, 128]⟩
abbrev S1368x128 : Shape := ⟨2, ![1368, 128]⟩
abbrev S128x128 : Shape := ⟨2, ![128, 128]⟩

abbrev nBuf : Space → Nat
  | .hbm => 10
  | .vmem => 9
  | .smem => 0
  | _ => 0

abbrev bufTy : (tb : Table) → Fin (tcTables nBuf tb) → BufTy
  | .hbm, ⟨0, _⟩ => ⟨S8x1888x128, .f32⟩
  | .hbm, ⟨1, _⟩ => ⟨S1496x128, .f32⟩
  | .hbm, ⟨2, _⟩ => ⟨S1496x128, .f32⟩
  | .hbm, ⟨3, _⟩ => ⟨S1496x128, .f32⟩
  | .hbm, ⟨4, _⟩ => ⟨S15104x128, .f32⟩
  | .hbm, ⟨5, _⟩ => ⟨S1496x128, .f32⟩
  | .hbm, ⟨6, _⟩ => ⟨S1496x128, .f32⟩
  | .hbm, ⟨7, _⟩ => ⟨S1496x128, .f32⟩
  | .hbm, ⟨8, _⟩ => ⟨S1496x128, .f32⟩
  | .hbm, ⟨9, _⟩ => ⟨S8x128, .f32⟩
  | .local _ .vmem, ⟨0, _⟩ => ⟨S15104x128, .f32⟩
  | .local _ .vmem, ⟨1, _⟩ => ⟨S1496x128, .f32⟩
  | .local _ .vmem, ⟨2, _⟩ => ⟨S1496x128, .f32⟩
  | .local _ .vmem, ⟨3, _⟩ => ⟨S1496x128, .f32⟩
  | .local _ .vmem, ⟨4, _⟩ => ⟨S1496x128, .f32⟩
  | .local _ .vmem, ⟨5, _⟩ => ⟨S1496x128, .f32⟩
  | .local _ .vmem, ⟨6, _⟩ => ⟨S1496x128, .f32⟩
  | .local _ .vmem, ⟨7, _⟩ => ⟨S1496x128, .f32⟩
  | .local _ .vmem, ⟨8, _⟩ => ⟨S8x128, .f32⟩
  | _, _ => ⟨S8x1888x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

def k0_mult1 : BitVec 32 :=
  let c1368_i32 : BitVec 32 := 1368#32
  c1368_i32
def k0_mult2 : BitVec 32 :=
  let c3256_i32 : BitVec 32 := 3256#32
  c3256_i32
def k0_mult3 : BitVec 32 :=
  let c5144_i32 : BitVec 32 := 5144#32
  c5144_i32
def k0_mult4 : BitVec 32 :=
  let c7032_i32 : BitVec 32 := 7032#32
  c7032_i32
def k0_mult5 : BitVec 32 :=
  let c8920_i32 : BitVec 32 := 8920#32
  c8920_i32
def k0_mult6 : BitVec 32 :=
  let c10808_i32 : BitVec 32 := 10808#32
  c10808_i32
def k0_mult7 : BitVec 32 :=
  let c12696_i32 : BitVec 32 := 12696#32
  c12696_i32
def k0_mult8 : BitVec 32 :=
  let c14584_i32 : BitVec 32 := 14584#32
  c14584_i32
abbrev stage0_0 : Fin 1 → Memref sig .tc .vmem S15104x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1496x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1496x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1496x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1496x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1496x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1496x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1496x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference9Ideal.lean ====
abbrev S8x1888x128 : Shape := ⟨3, ![8, 1888, 128]⟩
abbrev S1496x128 : Shape := ⟨2, ![1496, 128]⟩
abbrev S_ : Shape := ⟨0, ![]⟩
abbrev S1888x128 : Shape := ⟨2, ![1888, 128]⟩
abbrev S1368x128 : Shape := ⟨2, ![1368, 128]⟩
abbrev S128x128 : Shape := ⟨2, ![128, 128]⟩
abbrev S8x128 : Shape := ⟨2, ![8, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x1888x128, .f32⟩
  | .hbm, ⟨1, _⟩ => ⟨S1496x128, .f32⟩
  | .hbm, ⟨2, _⟩ => ⟨S1496x128, .f32⟩
  | .hbm, ⟨3, _⟩ => ⟨S1496x128, .f32⟩
  | .hbm, ⟨4, _⟩ => ⟨S_, .f32⟩
  | .hbm, ⟨5, _⟩ => ⟨S1888x128, .f32⟩
  | .hbm, ⟨6, _⟩ => ⟨S1368x128, .f32⟩
  | .hbm, ⟨7, _⟩ => ⟨S128x128, .f32⟩
  | .hbm, ⟨8, _⟩ => ⟨S1496x128, .f32⟩
  | .hbm, ⟨9, _⟩ => ⟨S_, .f32⟩
  | .hbm, ⟨10, _⟩ => ⟨S1496x128, .f32⟩
  | .hbm, ⟨11, _⟩ => ⟨S1496x128, .f32⟩
  | .hbm, ⟨12, _⟩ => ⟨S_, .f32⟩
  | .hbm, ⟨13, _⟩ => ⟨S1496x128, .f32⟩
  | .hbm, ⟨14, _⟩ => ⟨S1496x128, .f32⟩
  | .hbm, ⟨15, _⟩ => ⟨S1496x128, .f32⟩
  | .hbm, ⟨16, _⟩ => ⟨S_, .f32⟩
  | .hbm, ⟨17, _⟩ => ⟨S1496x128, .f32⟩
  | .hbm, ⟨18, _⟩ => ⟨S1496x128, .f32⟩
  | .hbm, ⟨19, _⟩ => ⟨S1496x128, .f32⟩
  | .hbm, ⟨20, _⟩ => ⟨S_, .f32⟩
  | .hbm, ⟨21, _⟩ => ⟨S1496x128, .f32⟩
  | .hbm, ⟨22, _⟩ => ⟨S1496x128, .f32⟩
  | .hbm, ⟨23, _⟩ => ⟨S1496x128, .f32⟩
  | .hbm, ⟨24, _⟩ => ⟨S_, .f32⟩
  | .hbm, ⟨25, _⟩ => ⟨S1496x128, .f32⟩
  | .hbm, ⟨26, _⟩ => ⟨S1496x128, .f32⟩
  | .hbm, ⟨27, _⟩ => ⟨S_, .f32⟩
  | .hbm, ⟨28, _⟩ => ⟨S1496x128, .f32⟩
  | .hbm, ⟨29, _⟩ => ⟨S1496x128, .f32⟩
  | .hbm, ⟨30, _⟩ => ⟨S1496x128, .f32⟩
  | .hbm, ⟨31, _⟩ => ⟨S_, .f32⟩
  | .hbm, ⟨32, _⟩ => ⟨S1496x128, .f32⟩
  | .hbm, ⟨33, _⟩ => ⟨S1496x128, .f32⟩
  | .hbm, ⟨34, _⟩ => ⟨S1496x128, .f32⟩
  | .hbm, ⟨35, _⟩ => ⟨S_, .f32⟩
  | .hbm, ⟨36, _⟩ => ⟨S1496x128, .f32⟩
  | .hbm, ⟨37, _⟩ => ⟨S1496x128, .f32⟩
  | .hbm, ⟨38, _⟩ => ⟨S1496x128, .f32⟩
  | .hbm, ⟨39, _⟩ => ⟨S_, .f32⟩
  | .hbm, ⟨40, _⟩ => ⟨S1496x128, .f32⟩
  | .hbm, ⟨41, _⟩ => ⟨S1496x128, .f32⟩
  | .hbm, ⟨42, _⟩ => ⟨S8x128, .f32⟩
  | _, _ => ⟨S8x1888x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel10.lean ====
abbrev S8x1888x128 : Shape := ⟨3, ![8, 1888, 128]⟩
abbrev S1496x128 : Shape := ⟨2, ![1496, 128]⟩
abbrev S15104x128 : Shape := ⟨2, ![15104, 128]⟩
abbrev S8x128 : Shape := ⟨2, ![8, 128]⟩
abbrev S1368x128 : Shape := ⟨2, ![1368, 128]⟩
abbrev S128x128 : Shape := ⟨2, ![128, 128]⟩

abbrev nBuf : Space → Nat
  | .hbm => 10
  | .vmem => 9
  | .smem => 0
  | _ => 0

abbrev bufTy : (tb : Table) → Fin (tcTables nBuf tb) → BufTy
  | .hbm, ⟨0, _⟩ => ⟨S8x1888x128, .f32⟩
  | .hbm, ⟨1, _⟩ => ⟨S1496x128, .f32⟩
  | .hbm, ⟨2, _⟩ => ⟨S1496x128, .f32⟩
  | .hbm, ⟨3, _⟩ => ⟨S1496x128, .f32⟩
  | .hbm, ⟨4, _⟩ => ⟨S15104x128, .f32⟩
  | .hbm, ⟨5, _⟩ => ⟨S1496x128, .f32⟩
  | .hbm, ⟨6, _⟩ => ⟨S1496x128, .f32⟩
  | .hbm, ⟨7, _⟩ => ⟨S1496x128, .f32⟩
  | .hbm, ⟨8, _⟩ => ⟨S1496x128, .f32⟩
  | .hbm, ⟨9, _⟩ => ⟨S8x128, .f32⟩
  | .local _ .vmem, ⟨0, _⟩ => ⟨S15104x128, .f32⟩
  | .local _ .vmem, ⟨1, _⟩ => ⟨S1496x128, .f32⟩
  | .local _ .vmem, ⟨2, _⟩ => ⟨S1496x128, .f32⟩
  | .local _ .vmem, ⟨3, _⟩ => ⟨S1496x128, .f32⟩
  | .local _ .vmem, ⟨4, _⟩ => ⟨S1496x128, .f32⟩
  | .local _ .vmem, ⟨5, _⟩ => ⟨S1496x128, .f32⟩
  | .local _ .vmem, ⟨6, _⟩ => ⟨S1496x128, .f32⟩
  | .local _ .vmem, ⟨7, _⟩ => ⟨S1496x128, .f32⟩
  | .local _ .vmem, ⟨8, _⟩ => ⟨S8x128, .f32⟩
  | _, _ => ⟨S8x1888x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

def k0_mult1 : BitVec 32 :=
  let c1496_i32 : BitVec 32 := 1496#32
  c1496_i32
def k0_mult2 : BitVec 32 :=
  let c3384_i32 : BitVec 32 := 3384#32
  c3384_i32
def k0_mult3 : BitVec 32 :=
  let c5272_i32 : BitVec 32 := 5272#32
  c5272_i32
def k0_mult4 : BitVec 32 :=
  let c7160_i32 : BitVec 32 := 7160#32
  c7160_i32
def k0_mult5 : BitVec 32 :=
  let c9048_i32 : BitVec 32 := 9048#32
  c9048_i32
def k0_mult6 : BitVec 32 :=
  let c10936_i32 : BitVec 32 := 10936#32
  c10936_i32
def k0_mult7 : BitVec 32 :=
  let c12824_i32 : BitVec 32 := 12824#32
  c12824_i32
def k0_mult8 : BitVec 32 :=
  let c14712_i32 : BitVec 32 := 14712#32
  c14712_i32
abbrev stage0_0 : Fin 1 → Memref sig .tc .vmem S15104x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1496x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1496x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1496x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1496x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1496x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1496x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1496x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference10Ideal.lean ====
abbrev S8x1888x128 : Shape := ⟨3, ![8, 1888, 128]⟩
abbrev S1496x128 : Shape := ⟨2, ![1496, 128]⟩
abbrev S_ : Shape := ⟨0, ![]⟩
abbrev S1888x128 : Shape := ⟨2, ![1888, 128]⟩
abbrev S1368x128 : Shape := ⟨2, ![1368, 128]⟩
abbrev S128x128 : Shape := ⟨2, ![128, 128]⟩
abbrev S8x128 : Shape := ⟨2, ![8, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x1888x128, .f32⟩
  | .hbm, ⟨1, _⟩ => ⟨S1496x128, .f32⟩
  | .hbm, ⟨2, _⟩ => ⟨S1496x128, .f32⟩
  | .hbm, ⟨3, _⟩ => ⟨S1496x128, .f32⟩
  | .hbm, ⟨4, _⟩ => ⟨S_, .f32⟩
  | .hbm, ⟨5, _⟩ => ⟨S1888x128, .f32⟩
  | .hbm, ⟨6, _⟩ => ⟨S1368x128, .f32⟩
  | .hbm, ⟨7, _⟩ => ⟨S128x128, .f32⟩
  | .hbm, ⟨8, _⟩ => ⟨S1496x128, .f32⟩
  | .hbm, ⟨9, _⟩ => ⟨S_, .f32⟩
  | .hbm, ⟨10, _⟩ => ⟨S1496x128, .f32⟩
  | .hbm, ⟨11, _⟩ => ⟨S1496x128, .f32⟩
  | .hbm, ⟨12, _⟩ => ⟨S_, .f32⟩
  | .hbm, ⟨13, _⟩ => ⟨S1496x128, .f32⟩
  | .hbm, ⟨14, _⟩ => ⟨S1496x128, .f32⟩
  | .hbm, ⟨15, _⟩ => ⟨S1496x128, .f32⟩
  | .hbm, ⟨16, _⟩ => ⟨S_, .f32⟩
  | .hbm, ⟨17, _⟩ => ⟨S1496x128, .f32⟩
  | .hbm, ⟨18, _⟩ => ⟨S1496x128, .f32⟩
  | .hbm, ⟨19, _⟩ => ⟨S1496x128, .f32⟩
  | .hbm, ⟨20, _⟩ => ⟨S_, .f32⟩
  | .hbm, ⟨21, _⟩ => ⟨S1496x128, .f32⟩
  | .hbm, ⟨22, _⟩ => ⟨S1496x128, .f32⟩
  | .hbm, ⟨23, _⟩ => ⟨S1496x128, .f32⟩
  | .hbm, ⟨24, _⟩ => ⟨S_, .f32⟩
  | .hbm, ⟨25, _⟩ => ⟨S1496x128, .f32⟩
  | .hbm, ⟨26, _⟩ => ⟨S1496x128, .f32⟩
  | .hbm, ⟨27, _⟩ => ⟨S_, .f32⟩
  | .hbm, ⟨28, _⟩ => ⟨S1496x128, .f32⟩
  | .hbm, ⟨29, _⟩ => ⟨S1496x128, .f32⟩
  | .hbm, ⟨30, _⟩ => ⟨S1496x128, .f32⟩
  | .hbm, ⟨31, _⟩ => ⟨S_, .f32⟩
  | .hbm, ⟨32, _⟩ => ⟨S1496x128, .f32⟩
  | .hbm, ⟨33, _⟩ => ⟨S1496x128, .f32⟩
  | .hbm, ⟨34, _⟩ => ⟨S1496x128, .f32⟩
  | .hbm, ⟨35, _⟩ => ⟨S_, .f32⟩
  | .hbm, ⟨36, _⟩ => ⟨S1496x128, .f32⟩
  | .hbm, ⟨37, _⟩ => ⟨S1496x128, .f32⟩
  | .hbm, ⟨38, _⟩ => ⟨S1496x128, .f32⟩
  | .hbm, ⟨39, _⟩ => ⟨S_, .f32⟩
  | .hbm, ⟨40, _⟩ => ⟨S1496x128, .f32⟩
  | .hbm, ⟨41, _⟩ => ⟨S1496x128, .f32⟩
  | .hbm, ⟨42, _⟩ => ⟨S8x128, .f32⟩
  | _, _ => ⟨S8x1888x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel11.lean ====
abbrev S8x1888x128 : Shape := ⟨3, ![8, 1888, 128]⟩
abbrev S1496x128 : Shape := ⟨2, ![1496, 128]⟩
abbrev S15104x128 : Shape := ⟨2, ![15104, 128]⟩
abbrev S8x128 : Shape := ⟨2, ![8, 128]⟩
abbrev S1368x128 : Shape := ⟨2, ![1368, 128]⟩
abbrev S128x128 : Shape := ⟨2, ![128, 128]⟩

abbrev nBuf : Space → Nat
  | .hbm => 10
  | .vmem => 9
  | .smem => 0
  | _ => 0

abbrev bufTy : (tb : Table) → Fin (tcTables nBuf tb) → BufTy
  | .hbm, ⟨0, _⟩ => ⟨S8x1888x128, .f32⟩
  | .hbm, ⟨1, _⟩ => ⟨S1496x128, .f32⟩
  | .hbm, ⟨2, _⟩ => ⟨S1496x128, .f32⟩
  | .hbm, ⟨3, _⟩ => ⟨S1496x128, .f32⟩
  | .hbm, ⟨4, _⟩ => ⟨S15104x128, .f32⟩
  | .hbm, ⟨5, _⟩ => ⟨S1496x128, .f32⟩
  | .hbm, ⟨6, _⟩ => ⟨S1496x128, .f32⟩
  | .hbm, ⟨7, _⟩ => ⟨S1496x128, .f32⟩
  | .hbm, ⟨8, _⟩ => ⟨S1496x128, .f32⟩
  | .hbm, ⟨9, _⟩ => ⟨S8x128, .f32⟩
  | .local _ .vmem, ⟨0, _⟩ => ⟨S15104x128, .f32⟩
  | .local _ .vmem, ⟨1, _⟩ => ⟨S1496x128, .f32⟩
  | .local _ .vmem, ⟨2, _⟩ => ⟨S1496x128, .f32⟩
  | .local _ .vmem, ⟨3, _⟩ => ⟨S1496x128, .f32⟩
  | .local _ .vmem, ⟨4, _⟩ => ⟨S1496x128, .f32⟩
  | .local _ .vmem, ⟨5, _⟩ => ⟨S1496x128, .f32⟩
  | .local _ .vmem, ⟨6, _⟩ => ⟨S1496x128, .f32⟩
  | .local _ .vmem, ⟨7, _⟩ => ⟨S1496x128, .f32⟩
  | .local _ .vmem, ⟨8, _⟩ => ⟨S8x128, .f32⟩
  | _, _ => ⟨S8x1888x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

def k0_mult1 : BitVec 32 :=
  let c1624_i32 : BitVec 32 := 1624#32
  c1624_i32
def k0_mult2 : BitVec 32 :=
  let c3512_i32 : BitVec 32 := 3512#32
  c3512_i32
def k0_mult3 : BitVec 32 :=
  let c5400_i32 : BitVec 32 := 5400#32
  c5400_i32
def k0_mult4 : BitVec 32 :=
  let c7288_i32 : BitVec 32 := 7288#32
  c7288_i32
def k0_mult5 : BitVec 32 :=
  let c9176_i32 : BitVec 32 := 9176#32
  c9176_i32
def k0_mult6 : BitVec 32 :=
  let c11064_i32 : BitVec 32 := 11064#32
  c11064_i32
def k0_mult7 : BitVec 32 :=
  let c12952_i32 : BitVec 32 := 12952#32
  c12952_i32
def k0_mult8 : BitVec 32 :=
  let c14840_i32 : BitVec 32 := 14840#32
  c14840_i32
abbrev stage0_0 : Fin 1 → Memref sig .tc .vmem S15104x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1496x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1496x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1496x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1496x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1496x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1496x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1496x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference11Ideal.lean ====
abbrev S8x1888x128 : Shape := ⟨3, ![8, 1888, 128]⟩
abbrev S1496x128 : Shape := ⟨2, ![1496, 128]⟩
abbrev S_ : Shape := ⟨0, ![]⟩
abbrev S1888x128 : Shape := ⟨2, ![1888, 128]⟩
abbrev S1368x128 : Shape := ⟨2, ![1368, 128]⟩
abbrev S128x128 : Shape := ⟨2, ![128, 128]⟩
abbrev S8x128 : Shape := ⟨2, ![8, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x1888x128, .f32⟩
  | .hbm, ⟨1, _⟩ => ⟨S1496x128, .f32⟩
  | .hbm, ⟨2, _⟩ => ⟨S1496x128, .f32⟩
  | .hbm, ⟨3, _⟩ => ⟨S1496x128, .f32⟩
  | .hbm, ⟨4, _⟩ => ⟨S_, .f32⟩
  | .hbm, ⟨5, _⟩ => ⟨S1888x128, .f32⟩
  | .hbm, ⟨6, _⟩ => ⟨S1368x128, .f32⟩
  | .hbm, ⟨7, _⟩ => ⟨S128x128, .f32⟩
  | .hbm, ⟨8, _⟩ => ⟨S1496x128, .f32⟩
  | .hbm, ⟨9, _⟩ => ⟨S_, .f32⟩
  | .hbm, ⟨10, _⟩ => ⟨S1496x128, .f32⟩
  | .hbm, ⟨11, _⟩ => ⟨S1496x128, .f32⟩
  | .hbm, ⟨12, _⟩ => ⟨S_, .f32⟩
  | .hbm, ⟨13, _⟩ => ⟨S1496x128, .f32⟩
  | .hbm, ⟨14, _⟩ => ⟨S1496x128, .f32⟩
  | .hbm, ⟨15, _⟩ => ⟨S1496x128, .f32⟩
  | .hbm, ⟨16, _⟩ => ⟨S_, .f32⟩
  | .hbm, ⟨17, _⟩ => ⟨S1496x128, .f32⟩
  | .hbm, ⟨18, _⟩ => ⟨S1496x128, .f32⟩
  | .hbm, ⟨19, _⟩ => ⟨S1496x128, .f32⟩
  | .hbm, ⟨20, _⟩ => ⟨S_, .f32⟩
  | .hbm, ⟨21, _⟩ => ⟨S1496x128, .f32⟩
  | .hbm, ⟨22, _⟩ => ⟨S1496x128, .f32⟩
  | .hbm, ⟨23, _⟩ => ⟨S1496x128, .f32⟩
  | .hbm, ⟨24, _⟩ => ⟨S_, .f32⟩
  | .hbm, ⟨25, _⟩ => ⟨S1496x128, .f32⟩
  | .hbm, ⟨26, _⟩ => ⟨S1496x128, .f32⟩
  | .hbm, ⟨27, _⟩ => ⟨S_, .f32⟩
  | .hbm, ⟨28, _⟩ => ⟨S1496x128, .f32⟩
  | .hbm, ⟨29, _⟩ => ⟨S1496x128, .f32⟩
  | .hbm, ⟨30, _⟩ => ⟨S1496x128, .f32⟩
  | .hbm, ⟨31, _⟩ => ⟨S_, .f32⟩
  | .hbm, ⟨32, _⟩ => ⟨S1496x128, .f32⟩
  | .hbm, ⟨33, _⟩ => ⟨S1496x128, .f32⟩
  | .hbm, ⟨34, _⟩ => ⟨S1496x128, .f32⟩
  | .hbm, ⟨35, _⟩ => ⟨S_, .f32⟩
  | .hbm, ⟨36, _⟩ => ⟨S1496x128, .f32⟩
  | .hbm, ⟨37, _⟩ => ⟨S1496x128, .f32⟩
  | .hbm, ⟨38, _⟩ => ⟨S1496x128, .f32⟩
  | .hbm, ⟨39, _⟩ => ⟨S_, .f32⟩
  | .hbm, ⟨40, _⟩ => ⟨S1496x128, .f32⟩
  | .hbm, ⟨41, _⟩ => ⟨S1496x128, .f32⟩
  | .hbm, ⟨42, _⟩ => ⟨S8x128, .f32⟩
  | _, _ => ⟨S8x1888x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel12.lean ====
abbrev S8x1888x128 : Shape := ⟨3, ![8, 1888, 128]⟩
abbrev S1496x128 : Shape := ⟨2, ![1496, 128]⟩
abbrev S15104x128 : Shape := ⟨2, ![15104, 128]⟩
abbrev S8x128 : Shape := ⟨2, ![8, 128]⟩
abbrev S1368x128 : Shape := ⟨2, ![1368, 128]⟩
abbrev S128x128 : Shape := ⟨2, ![128, 128]⟩

abbrev nBuf : Space → Nat
  | .hbm => 10
  | .vmem => 9
  | .smem => 0
  | _ => 0

abbrev bufTy : (tb : Table) → Fin (tcTables nBuf tb) → BufTy
  | .hbm, ⟨0, _⟩ => ⟨S8x1888x128, .f32⟩
  | .hbm, ⟨1, _⟩ => ⟨S1496x128, .f32⟩
  | .hbm, ⟨2, _⟩ => ⟨S1496x128, .f32⟩
  | .hbm, ⟨3, _⟩ => ⟨S1496x128, .f32⟩
  | .hbm, ⟨4, _⟩ => ⟨S15104x128, .f32⟩
  | .hbm, ⟨5, _⟩ => ⟨S1496x128, .f32⟩
  | .hbm, ⟨6, _⟩ => ⟨S1496x128, .f32⟩
  | .hbm, ⟨7, _⟩ => ⟨S1496x128, .f32⟩
  | .hbm, ⟨8, _⟩ => ⟨S1496x128, .f32⟩
  | .hbm, ⟨9, _⟩ => ⟨S8x128, .f32⟩
  | .local _ .vmem, ⟨0, _⟩ => ⟨S15104x128, .f32⟩
  | .local _ .vmem, ⟨1, _⟩ => ⟨S1496x128, .f32⟩
  | .local _ .vmem, ⟨2, _⟩ => ⟨S1496x128, .f32⟩
  | .local _ .vmem, ⟨3, _⟩ => ⟨S1496x128, .f32⟩
  | .local _ .vmem, ⟨4, _⟩ => ⟨S1496x128, .f32⟩
  | .local _ .vmem, ⟨5, _⟩ => ⟨S1496x128, .f32⟩
  | .local _ .vmem, ⟨6, _⟩ => ⟨S1496x128, .f32⟩
  | .local _ .vmem, ⟨7, _⟩ => ⟨S1496x128, .f32⟩
  | .local _ .vmem, ⟨8, _⟩ => ⟨S8x128, .f32⟩
  | _, _ => ⟨S8x1888x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

def k0_mult1 : BitVec 32 :=
  let c1752_i32 : BitVec 32 := 1752#32
  c1752_i32
def k0_mult2 : BitVec 32 :=
  let c3640_i32 : BitVec 32 := 3640#32
  c3640_i32
def k0_mult3 : BitVec 32 :=
  let c5528_i32 : BitVec 32 := 5528#32
  c5528_i32
def k0_mult4 : BitVec 32 :=
  let c7416_i32 : BitVec 32 := 7416#32
  c7416_i32
def k0_mult5 : BitVec 32 :=
  let c9304_i32 : BitVec 32 := 9304#32
  c9304_i32
def k0_mult6 : BitVec 32 :=
  let c11192_i32 : BitVec 32 := 11192#32
  c11192_i32
def k0_mult7 : BitVec 32 :=
  let c13080_i32 : BitVec 32 := 13080#32
  c13080_i32
def k0_mult8 : BitVec 32 :=
  let c14968_i32 : BitVec 32 := 14968#32
  c14968_i32
abbrev stage0_0 : Fin 1 → Memref sig .tc .vmem S15104x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1496x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1496x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1496x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1496x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1496x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1496x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1496x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference12Ideal.lean ====
abbrev S8x1888x128 : Shape := ⟨3, ![8, 1888, 128]⟩
abbrev S1496x128 : Shape := ⟨2, ![1496, 128]⟩
abbrev S_ : Shape := ⟨0, ![]⟩
abbrev S1888x128 : Shape := ⟨2, ![1888, 128]⟩
abbrev S1368x128 : Shape := ⟨2, ![1368, 128]⟩
abbrev S128x128 : Shape := ⟨2, ![128, 128]⟩
abbrev S8x128 : Shape := ⟨2, ![8, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x1888x128, .f32⟩
  | .hbm, ⟨1, _⟩ => ⟨S1496x128, .f32⟩
  | .hbm, ⟨2, _⟩ => ⟨S1496x128, .f32⟩
  | .hbm, ⟨3, _⟩ => ⟨S1496x128, .f32⟩
  | .hbm, ⟨4, _⟩ => ⟨S_, .f32⟩
  | .hbm, ⟨5, _⟩ => ⟨S1888x128, .f32⟩
  | .hbm, ⟨6, _⟩ => ⟨S1368x128, .f32⟩
  | .hbm, ⟨7, _⟩ => ⟨S128x128, .f32⟩
  | .hbm, ⟨8, _⟩ => ⟨S1496x128, .f32⟩
  | .hbm, ⟨9, _⟩ => ⟨S_, .f32⟩
  | .hbm, ⟨10, _⟩ => ⟨S1496x128, .f32⟩
  | .hbm, ⟨11, _⟩ => ⟨S1496x128, .f32⟩
  | .hbm, ⟨12, _⟩ => ⟨S_, .f32⟩
  | .hbm, ⟨13, _⟩ => ⟨S1496x128, .f32⟩
  | .hbm, ⟨14, _⟩ => ⟨S1496x128, .f32⟩
  | .hbm, ⟨15, _⟩ => ⟨S1496x128, .f32⟩
  | .hbm, ⟨16, _⟩ => ⟨S_, .f32⟩
  | .hbm, ⟨17, _⟩ => ⟨S1496x128, .f32⟩
  | .hbm, ⟨18, _⟩ => ⟨S1496x128, .f32⟩
  | .hbm, ⟨19, _⟩ => ⟨S1496x128, .f32⟩
  | .hbm, ⟨20, _⟩ => ⟨S_, .f32⟩
  | .hbm, ⟨21, _⟩ => ⟨S1496x128, .f32⟩
  | .hbm, ⟨22, _⟩ => ⟨S1496x128, .f32⟩
  | .hbm, ⟨23, _⟩ => ⟨S1496x128, .f32⟩
  | .hbm, ⟨24, _⟩ => ⟨S_, .f32⟩
  | .hbm, ⟨25, _⟩ => ⟨S1496x128, .f32⟩
  | .hbm, ⟨26, _⟩ => ⟨S1496x128, .f32⟩
  | .hbm, ⟨27, _⟩ => ⟨S_, .f32⟩
  | .hbm, ⟨28, _⟩ => ⟨S1496x128, .f32⟩
  | .hbm, ⟨29, _⟩ => ⟨S1496x128, .f32⟩
  | .hbm, ⟨30, _⟩ => ⟨S1496x128, .f32⟩
  | .hbm, ⟨31, _⟩ => ⟨S_, .f32⟩
  | .hbm, ⟨32, _⟩ => ⟨S1496x128, .f32⟩
  | .hbm, ⟨33, _⟩ => ⟨S1496x128, .f32⟩
  | .hbm, ⟨34, _⟩ => ⟨S1496x128, .f32⟩
  | .hbm, ⟨35, _⟩ => ⟨S_, .f32⟩
  | .hbm, ⟨36, _⟩ => ⟨S1496x128, .f32⟩
  | .hbm, ⟨37, _⟩ => ⟨S1496x128, .f32⟩
  | .hbm, ⟨38, _⟩ => ⟨S1496x128, .f32⟩
  | .hbm, ⟨39, _⟩ => ⟨S_, .f32⟩
  | .hbm, ⟨40, _⟩ => ⟨S1496x128, .f32⟩
  | .hbm, ⟨41, _⟩ => ⟨S1496x128, .f32⟩
  | .hbm, ⟨42, _⟩ => ⟨S8x128, .f32⟩
  | _, _ => ⟨S8x1888x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel13.lean ====
abbrev S4160x1024 : Shape := ⟨2, ![4160, 1024]⟩
abbrev S4160x256 : Shape := ⟨2, ![4160, 256]⟩
abbrev S4160x768 : Shape := ⟨2, ![4160, 768]⟩
abbrev S4x256x1024 : Shape := ⟨3, ![4, 256, 1024]⟩
abbrev S1024x1024 : Shape := ⟨2, ![1024, 1024]⟩
abbrev S832x1024 : Shape := ⟨2, ![832, 1024]⟩
abbrev S832x256 : Shape := ⟨2, ![832, 256]⟩
abbrev S832x768 : Shape := ⟨2, ![832, 768]⟩
abbrev S256x1024 : Shape := ⟨2, ![256, 1024]⟩
abbrev S768x1024 : Shape := ⟨2, ![768, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4160x1024, .f32⟩
  | .hbm, ⟨1, _⟩ => ⟨S4160x256, .bf16⟩
  | .hbm, ⟨2, _⟩ => ⟨S4160x768, .bf16⟩
  | .hbm, ⟨3, _⟩ => ⟨S4x256x1024, .bf16⟩
  | .hbm, ⟨4, _⟩ => ⟨S1024x1024, .bf16⟩
  | .hbm, ⟨5, _⟩ => ⟨S4160x1024, .f32⟩
  | .local _ .vmem, ⟨0, _⟩ => ⟨S832x1024, .f32⟩
  | .local _ .vmem, ⟨1, _⟩ => ⟨S832x1024, .f32⟩
  | .local _ .vmem, ⟨2, _⟩ => ⟨S832x256, .bf16⟩
  | .local _ .vmem, ⟨3, _⟩ => ⟨S832x256, .bf16⟩
  | .local _ .vmem, ⟨4, _⟩ => ⟨S832x768, .bf16⟩
  | .local _ .vmem, ⟨5, _⟩ => ⟨S832x768, .bf16⟩
  | .local _ .vmem, ⟨6, _⟩ => ⟨S1024x1024, .bf16⟩
  | .local _ .vmem, ⟨7, _⟩ => ⟨S832x1024, .f32⟩
  | .local _ .vmem, ⟨8, _⟩ => ⟨S832x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S832x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S832x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S832x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S4160x1024 : Shape := ⟨2, ![4160, 1024]⟩
abbrev S4160x256 : Shape := ⟨2, ![4160, 256]⟩
abbrev S4160x768 : Shape := ⟨2, ![4160, 768]⟩
abbrev S4x256x1024 : Shape := ⟨3, ![4, 256, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x256, .bf16⟩
  | .hbm, ⟨2, _⟩ => ⟨S4160x768, .bf16⟩
  | .hbm, ⟨3, _⟩ => ⟨S4x256x1024, .bf16⟩
  | .hbm, ⟨4, _⟩ => ⟨S1024x1024, .bf16⟩
  | .hbm, ⟨5, _⟩ => ⟨S1024x1024, .f32⟩
  | .hbm, ⟨6, _⟩ => ⟨S4160x256, .f32⟩
  | .hbm, ⟨7, _⟩ => ⟨S4160x768, .f32⟩
  | .hbm, ⟨8, _⟩ => ⟨S4160x1024, .f32⟩
  | .hbm, ⟨9, _⟩ => ⟨S4160x1024, .f32⟩
  | .hbm, ⟨10, _⟩ => ⟨S4160x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel14.lean ====
abbrev S4160x1024 : Shape := ⟨2, ![4160, 1024]⟩
abbrev S4160x512 : Shape := ⟨2, ![4160, 512]⟩
abbrev S4x256x1024 : Shape := ⟨3, ![4, 256, 1024]⟩
abbrev S1024x1024 : Shape := ⟨2, ![1024, 1024]⟩
abbrev S832x1024 : Shape := ⟨2, ![832, 1024]⟩
abbrev S832x512 : Shape := ⟨2, ![832, 512]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4160x1024, .f32⟩
  | .hbm, ⟨1, _⟩ => ⟨S4160x512, .bf16⟩
  | .hbm, ⟨2, _⟩ => ⟨S4160x512, .bf16⟩
  | .hbm, ⟨3, _⟩ => ⟨S4x256x1024, .bf16⟩
  | .hbm, ⟨4, _⟩ => ⟨S1024x1024, .bf16⟩
  | .hbm, ⟨5, _⟩ => ⟨S4160x1024, .f32⟩
  | .local _ .vmem, ⟨0, _⟩ => ⟨S832x1024, .f32⟩
  | .local _ .vmem, ⟨1, _⟩ => ⟨S832x1024, .f32⟩
  | .local _ .vmem, ⟨2, _⟩ => ⟨S832x512, .bf16⟩
  | .local _ .vmem, ⟨3, _⟩ => ⟨S832x512, .bf16⟩
  | .local _ .vmem, ⟨4, _⟩ => ⟨S832x512, .bf16⟩
  | .local _ .vmem, ⟨5, _⟩ => ⟨S832x512, .bf16⟩
  | .local _ .vmem, ⟨6, _⟩ => ⟨S1024x1024, .bf16⟩
  | .local _ .vmem, ⟨7, _⟩ => ⟨S832x1024, .f32⟩
  | .local _ .vmem, ⟨8, _⟩ => ⟨S832x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S832x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S832x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S832x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S4160x1024 : Shape := ⟨2, ![4160, 1024]⟩
abbrev S4160x512 : Shape := ⟨2, ![4160, 512]⟩
abbrev S4x256x1024 : Shape := ⟨3, ![4, 256, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x512, .bf16⟩
  | .hbm, ⟨2, _⟩ => ⟨S4160x512, .bf16⟩
  | .hbm, ⟨3, _⟩ => ⟨S4x256x1024, .bf16⟩
  | .hbm, ⟨4, _⟩ => ⟨S1024x1024, .bf16⟩
  | .hbm, ⟨5, _⟩ => ⟨S1024x1024, .f32⟩
  | .hbm, ⟨6, _⟩ => ⟨S4160x512, .f32⟩
  | .hbm, ⟨7, _⟩ => ⟨S4160x512, .f32⟩
  | .hbm, ⟨8, _⟩ => ⟨S4160x1024, .f32⟩
  | .hbm, ⟨9, _⟩ => ⟨S4160x1024, .f32⟩
  | .hbm, ⟨10, _⟩ => ⟨S4160x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel15.lean ====
abbrev S4160x1024 : Shape := ⟨2, ![4160, 1024]⟩
abbrev S1x1024 : Shape := ⟨2, ![1, 1024]⟩
abbrev S4x832x1024 : Shape := ⟨3, ![4, 832, 1024]⟩
abbrev S3328x1024 : Shape := ⟨2, ![3328, 1024]⟩
abbrev S4160x3328 : Shape := ⟨2, ![4160, 3328]⟩
abbrev S832x1024 : Shape := ⟨2, ![832, 1024]⟩
abbrev S832x3328 : Shape := ⟨2, ![832, 3328]⟩
abbrev S832 : Shape := ⟨1, ![832]⟩
abbrev S832x1 : Shape := ⟨2, ![832, 1]⟩

abbrev nBuf : Space → Nat
  | .hbm => 6
  | .vmem => 8
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4x832x1024, .bf16⟩
  | .hbm, ⟨3, _⟩ => ⟨S3328x1024, .bf16⟩
  | .hbm, ⟨4, _⟩ => ⟨S4160x3328, .f32⟩
  | .hbm, ⟨5, _⟩ => ⟨S4160x1024, .bf16⟩
  | .local _ .vmem, ⟨0, _⟩ => ⟨S832x1024, .f32⟩
  | .local _ .vmem, ⟨1, _⟩ => ⟨S832x1024, .f32⟩
  | .local _ .vmem, ⟨2, _⟩ => ⟨S1x1024, .f32⟩
  | .local _ .vmem, ⟨3, _⟩ => ⟨S3328x1024, .bf16⟩
  | .local _ .vmem, ⟨4, _⟩ => ⟨S832x3328, .f32⟩
  | .local _ .vmem, ⟨5, _⟩ => ⟨S832x3328, .f32⟩
  | .local _ .vmem, ⟨6, _⟩ => ⟨S832x1024, .bf16⟩
  | .local _ .vmem, ⟨7, _⟩ => ⟨S832x1024, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3328x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S832x3328 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S832x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference15Ideal.lean ====
abbrev S4160x1024 : Shape := ⟨2, ![4160, 1024]⟩
abbrev S1x1024 : Shape := ⟨2, ![1, 1024]⟩
abbrev S4x832x1024 : Shape := ⟨3, ![4, 832, 1024]⟩
abbrev S1024 : Shape := ⟨1, ![1024]⟩
abbrev S_ : Shape := ⟨0, ![]⟩
abbrev S4160 : Shape := ⟨1, ![4160]⟩
abbrev S4160x1 : Shape := ⟨2, ![4160, 1]⟩
abbrev S3328x1024 : Shape := ⟨2, ![3328, 1024]⟩
abbrev S1024x3328 : Shape := ⟨2, ![1024, 3328]⟩
abbrev S4160x3328 : Shape := ⟨2, ![4160, 3328]⟩

abbrev nBuf : Space → Nat
  | .hbm => 25
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4x832x1024, .bf16⟩
  | .hbm, ⟨3, _⟩ => ⟨S1024, .f32⟩
  | .hbm, ⟨4, _⟩ => ⟨S4160x1024, .f32⟩
  | .hbm, ⟨5, _⟩ => ⟨S_, .f32⟩
  | .hbm, ⟨6, _⟩ => ⟨S4160, .f32⟩
  | .hbm, ⟨7, _⟩ => ⟨S4160x1, .f32⟩
  | .hbm, ⟨8, _⟩ => ⟨S_, .f32⟩
  | .hbm, ⟨9, _⟩ => ⟨S4160x1, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S4160x1, .f32⟩
  | .hbm, ⟨15, _⟩ => ⟨S4160x1024, .f32⟩
  | .hbm, ⟨16, _⟩ => ⟨S4160x1024, .f32⟩
  | .hbm, ⟨17, _⟩ => ⟨S1x1024, .f32⟩
  | .hbm, ⟨18, _⟩ => ⟨S4160x1024, .f32⟩
  | .hbm, ⟨19, _⟩ => ⟨S4160x1024, .f32⟩
  | .hbm, ⟨20, _⟩ => ⟨S3328x1024, .bf16⟩
  | .hbm, ⟨21, _⟩ => ⟨S1024x3328, .bf16⟩
  | .hbm, ⟨22, _⟩ => ⟨S1024x3328, .f32⟩
  | .hbm, ⟨23, _⟩ => ⟨S4160x3328, .f32⟩
  | .hbm, ⟨24, _⟩ => ⟨S4160x1024, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel16.lean ====
abbrev S4160x1024 : Shape := ⟨2, ![4160, 1024]⟩
abbrev S1x1024 : Shape := ⟨2, ![1, 1024]⟩
abbrev S4x1024x512 : Shape := ⟨3, ![4, 1024, 512]⟩
abbrev S4160x2048 : Shape := ⟨2, ![4160, 2048]⟩
abbrev S832x1024 : Shape := ⟨2, ![832, 1024]⟩
abbrev S1x1024x512 : Shape := ⟨3, ![1, 1024, 512]⟩
abbrev S832x2048 : Shape := ⟨2, ![832, 2048]⟩
abbrev S832 : Shape := ⟨1, ![832]⟩
abbrev S832x1 : Shape := ⟨2, ![832, 1]⟩
abbrev S1024x512 : Shape := ⟨2, ![1024, 512]⟩
abbrev S832x512 : Shape := ⟨2, ![832, 512]⟩

abbrev nBuf : Space → Nat
  | .hbm => 5
  | .vmem => 11
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4x1024x512, .bf16⟩
  | .hbm, ⟨3, _⟩ => ⟨S4160x2048, .f32⟩
  | .hbm, ⟨4, _⟩ => ⟨S4160x1024, .bf16⟩
  | .local _ .vmem, ⟨0, _⟩ => ⟨S832x1024, .f32⟩
  | .local _ .vmem, ⟨1, _⟩ => ⟨S832x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S832x2048, .f32⟩
  | .local _ .vmem, ⟨8, _⟩ => ⟨S832x2048, .f32⟩
  | .local _ .vmem, ⟨9, _⟩ => ⟨S832x1024, .bf16⟩
  | .local _ .vmem, ⟨10, _⟩ => ⟨S832x1024, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S832x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S832x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S4160x1024 : Shape := ⟨2, ![4160, 1024]⟩
abbrev S1x1024 : Shape := ⟨2, ![1, 1024]⟩
abbrev S4x1024x512 : Shape := ⟨3, ![4, 1024, 512]⟩
abbrev S1024 : Shape := ⟨1, ![1024]⟩
abbrev S_ : Shape := ⟨0, ![]⟩
abbrev S4160 : Shape := ⟨1, ![4160]⟩
abbrev S4160x1 : Shape := ⟨2, ![4160, 1]⟩
abbrev S1024x4x512 : Shape := ⟨3, ![1024, 4, 512]⟩
abbrev S1024x2048 : Shape := ⟨2, ![1024, 2048]⟩
abbrev S4160x2048 : Shape := ⟨2, ![4160, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4x1024x512, .bf16⟩
  | .hbm, ⟨3, _⟩ => ⟨S1024, .f32⟩
  | .hbm, ⟨4, _⟩ => ⟨S4160x1024, .f32⟩
  | .hbm, ⟨5, _⟩ => ⟨S_, .f32⟩
  | .hbm, ⟨6, _⟩ => ⟨S4160, .f32⟩
  | .hbm, ⟨7, _⟩ => ⟨S4160x1, .f32⟩
  | .hbm, ⟨8, _⟩ => ⟨S_, .f32⟩
  | .hbm, ⟨9, _⟩ => ⟨S4160x1, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S4160x1, .f32⟩
  | .hbm, ⟨15, _⟩ => ⟨S4160x1024, .f32⟩
  | .hbm, ⟨16, _⟩ => ⟨S4160x1024, .f32⟩
  | .hbm, ⟨17, _⟩ => ⟨S1x1024, .f32⟩
  | .hbm, ⟨18, _⟩ => ⟨S4160x1024, .f32⟩
  | .hbm, ⟨19, _⟩ => ⟨S4160x1024, .f32⟩
  | .hbm, ⟨20, _⟩ => ⟨S1024x4x512, .bf16⟩
  | .hbm, ⟨21, _⟩ => ⟨S1024x2048, .bf16⟩
  | .hbm, ⟨22, _⟩ => ⟨S1024x2048, .f32⟩
  | .hbm, ⟨23, _⟩ => ⟨S4160x2048, .f32⟩
  | .hbm, ⟨24, _⟩ => ⟨S4160x1024, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel17.lean ====
abbrev S4160x1024 : Shape := ⟨2, ![4160, 1024]⟩
abbrev S4160x512 : Shape := ⟨2, ![4160, 512]⟩
abbrev S1024x512 : Shape := ⟨2, ![1024, 512]⟩
abbrev S1024x1024 : Shape := ⟨2, ![1024, 1024]⟩
abbrev S64x1024 : Shape := ⟨2, ![64, 1024]⟩
abbrev S64x512 : Shape := ⟨2, ![64, 512]⟩

abbrev nBuf : Space → Nat
  | .hbm => 9
  | .vmem => 23
  | .smem => 0
  | _ => 0

abbrev bufTy : (tb : Table) → Fin (tcTables nBuf tb) → BufTy
  | .hbm, ⟨0, _⟩ => ⟨S4160x1024, .bf16⟩
  | .hbm, ⟨1, _⟩ => ⟨S4160x512, .bf16⟩
  | .hbm, ⟨2, _⟩ => ⟨S4160x512, .bf16⟩
  | .hbm, ⟨3, _⟩ => ⟨S4160x512, .bf16⟩
  | .hbm, ⟨4, _⟩ => ⟨S4160x512, .bf16⟩
  | .hbm, ⟨5, _⟩ => ⟨S1024x512, .bf16⟩
  | .hbm, ⟨6, _⟩ => ⟨S1024x512, .bf16⟩
  | .hbm, ⟨7, _⟩ => ⟨S1024x512, .bf16⟩
  | .hbm, ⟨8, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S64x1024, .bf16⟩
  | .local _ .vmem, ⟨11, _⟩ => ⟨S64x512, .bf16⟩
  | .local _ .vmem, ⟨12, _⟩ => ⟨S64x512, .bf16⟩
  | .local _ .vmem, ⟨13, _⟩ => ⟨S64x512, .bf16⟩
  | .local _ .vmem, ⟨14, _⟩ => ⟨S64x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | _, _ => ⟨S4160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v32 : BitVec 1 := Scalar.cmpi .eq arg0 c3_i32
  let v33 : BitVec 32 := Scalar.extui v32
  let c0_i32_29 : BitVec 32 := 0#32
  let v34 : BitVec 1 := Scalar.cmpi .ne v33 c0_i32_29
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_6 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_7 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_8 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_9 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference17Ideal.lean ====
abbrev S4160x1024 : Shape := ⟨2, ![4160, 1024]⟩
abbrev S4160x512 : Shape := ⟨2, ![4160, 512]⟩
abbrev S4160x2048 : Shape := ⟨2, ![4160, 2048]⟩
abbrev S_ : Shape := ⟨0, ![]⟩
abbrev S1024x2048 : Shape := ⟨2, ![1024, 2048]⟩
abbrev S2048x1024 : Shape := ⟨2, ![2048, 1024]⟩
abbrev S1024x512 : Shape := ⟨2, ![1024, 512]⟩

abbrev nBuf : Space → Nat
  | .hbm => 21
  | .vmem => 0
  | .smem => 0
  | _ => 0

abbrev bufTy : (tb : Table) → Fin (tcTables nBuf tb) → BufTy
  | .hbm, ⟨0, _⟩ => ⟨S4160x1024, .bf16⟩
  | .hbm, ⟨1, _⟩ => ⟨S4160x512, .bf16⟩
  | .hbm, ⟨2, _⟩ => ⟨S4160x512, .bf16⟩
  | .hbm, ⟨3, _⟩ => ⟨S4160x512, .bf16⟩
  | .hbm, ⟨4, _⟩ => ⟨S4160x512, .bf16⟩
  | .hbm, ⟨5, _⟩ => ⟨S4160x512, .f32⟩
  | .hbm, ⟨6, _⟩ => ⟨S4160x512, .f32⟩
  | .hbm, ⟨7, _⟩ => ⟨S4160x512, .f32⟩
  | .hbm, ⟨8, _⟩ => ⟨S4160x512, .f32⟩
  | .hbm, ⟨9, _⟩ => ⟨S4160x2048, .f32⟩
  | .hbm, ⟨10, _⟩ => ⟨S_, .f32⟩
  | .hbm, ⟨11, _⟩ => ⟨S1024x2048, .f32⟩
  | .hbm, ⟨12, _⟩ => ⟨S4160x1024, .f32⟩
  | .hbm, ⟨13, _⟩ => ⟨S4160x2048, .f32⟩
  | .hbm, ⟨14, _⟩ => ⟨S2048x1024, .f32⟩
  | .hbm, ⟨15, _⟩ => ⟨S1024x2048, .f32⟩
  | .hbm, ⟨16, _⟩ => ⟨S1024x2048, .bf16⟩
  | .hbm, ⟨17, _⟩ => ⟨S1024x512, .bf16⟩
  | .hbm, ⟨18, _⟩ => ⟨S1024x512, .bf16⟩
  | .hbm, ⟨19, _⟩ => ⟨S1024x512, .bf16⟩
  | .hbm, ⟨20, _⟩ => ⟨S1024x512, .bf16⟩
  | _, _ => ⟨S4160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel18.lean ====
abbrev S4160x1024 : Shape := ⟨2, ![4160, 1024]⟩
abbrev S4160x256 : Shape := ⟨2, ![4160, 256]⟩
abbrev S4160x768 : Shape := ⟨2, ![4160, 768]⟩
abbrev S256x1024 : Shape := ⟨2, ![256, 1024]⟩
abbrev S768x1024 : Shape := ⟨2, ![768, 1024]⟩
abbrev S1024x1024 : Shape := ⟨2, ![1024, 1024]⟩
abbrev S1024x256 : Shape := ⟨2, ![1024, 256]⟩
abbrev S1024x768 : Shape := ⟨2, ![1024, 768]⟩
abbrev S64x1024 : Shape := ⟨2, ![64, 1024]⟩
abbrev S64x256 : Shape := ⟨2, ![64, 256]⟩
abbrev S64x768 : Shape := ⟨2, ![64, 768]⟩

abbrev nBuf : Space → Nat
  | .hbm => 11
  | .vmem => 28
  | .smem => 0
  | _ => 0

abbrev bufTy : (tb : Table) → Fin (tcTables nBuf tb) → BufTy
  | .hbm, ⟨0, _⟩ => ⟨S4160x1024, .bf16⟩
  | .hbm, ⟨1, _⟩ => ⟨S4160x256, .bf16⟩
  | .hbm, ⟨2, _⟩ => ⟨S4160x768, .bf16⟩
  | .hbm, ⟨3, _⟩ => ⟨S4160x768, .bf16⟩
  | .hbm, ⟨4, _⟩ => ⟨S4160x768, .bf16⟩
  | .hbm, ⟨5, _⟩ => ⟨S4160x768, .bf16⟩
  | .hbm, ⟨6, _⟩ => ⟨S256x1024, .bf16⟩
  | .hbm, ⟨7, _⟩ => ⟨S768x1024, .bf16⟩
  | .hbm, ⟨8, _⟩ => ⟨S768x1024, .bf16⟩
  | .hbm, ⟨9, _⟩ => ⟨S768x1024, .bf16⟩
  | .hbm, ⟨10, _⟩ => ⟨S768x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S64x1024, .bf16⟩
  | .local _ .vmem, ⟨13, _⟩ => ⟨S64x256, .bf16⟩
  | .local _ .vmem, ⟨14, _⟩ => ⟨S64x768, .bf16⟩
  | .local _ .vmem, ⟨15, _⟩ => ⟨S64x768, .bf16⟩
  | .local _ .vmem, ⟨16, _⟩ => ⟨S64x768, .bf16⟩
  | .local _ .vmem, ⟨17, _⟩ => ⟨S64x768, .bf16⟩
  | .local _ .vmem, ⟨18, _⟩ => ⟨S256x1024, .bf16⟩
  | .local _ .vmem, ⟨19, _⟩ => ⟨S768x1024, .bf16⟩
  | .local _ .vmem, ⟨20, _⟩ => ⟨S768x1024, .bf16⟩
  | .local _ .vmem, ⟨21, _⟩ => ⟨S768x1024, .bf16⟩
  | .local _ .vmem, ⟨22, _⟩ => ⟨S768x1024, .bf16⟩
  | .local _ .vmem, ⟨23, _⟩ => ⟨S256x1024, .f32⟩
  | .local _ .vmem, ⟨24, _⟩ => ⟨S768x1024, .f32⟩
  | .local _ .vmem, ⟨25, _⟩ => ⟨S768x1024, .f32⟩
  | .local _ .vmem, ⟨26, _⟩ => ⟨S768x1024, .f32⟩
  | .local _ .vmem, ⟨27, _⟩ => ⟨S768x1024, .f32⟩
  | _, _ => ⟨S4160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v39 : BitVec 1 := Scalar.cmpi .eq arg0 c3_i32
  let v40 : BitVec 32 := Scalar.extui v39
  let c0_i32_36 : BitVec 32 := 0#32
  let v41 : BitVec 1 := Scalar.cmpi .ne v40 c0_i32_36
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_7 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_8 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_9 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_10 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_11 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S768x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S768x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S768x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S768x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference18Ideal.lean ====
abbrev S4160x1024 : Shape := ⟨2, ![4160, 1024]⟩
abbrev S4160x256 : Shape := ⟨2, ![4160, 256]⟩
abbrev S4160x768 : Shape := ⟨2, ![4160, 768]⟩
abbrev S4160x3328 : Shape := ⟨2, ![4160, 3328]⟩
abbrev S_ : Shape := ⟨0, ![]⟩
abbrev S1024x3328 : Shape := ⟨2, ![1024, 3328]⟩
abbrev S3328x1024 : Shape := ⟨2, ![3328, 1024]⟩
abbrev S1024x256 : Shape := ⟨2, ![1024, 256]⟩
abbrev S1024x768 : Shape := ⟨2, ![1024, 768]⟩
abbrev S256x1024 : Shape := ⟨2, ![256, 1024]⟩
abbrev S768x1024 : Shape := ⟨2, ![768, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4160x1024, .bf16⟩
  | .hbm, ⟨1, _⟩ => ⟨S4160x256, .bf16⟩
  | .hbm, ⟨2, _⟩ => ⟨S4160x768, .bf16⟩
  | .hbm, ⟨3, _⟩ => ⟨S4160x768, .bf16⟩
  | .hbm, ⟨4, _⟩ => ⟨S4160x768, .bf16⟩
  | .hbm, ⟨5, _⟩ => ⟨S4160x768, .bf16⟩
  | .hbm, ⟨6, _⟩ => ⟨S4160x256, .f32⟩
  | .hbm, ⟨7, _⟩ => ⟨S4160x768, .f32⟩
  | .hbm, ⟨8, _⟩ => ⟨S4160x768, .f32⟩
  | .hbm, ⟨9, _⟩ => ⟨S4160x768, .f32⟩
  | .hbm, ⟨10, _⟩ => ⟨S4160x768, .f32⟩
  | .hbm, ⟨11, _⟩ => ⟨S4160x3328, .f32⟩
  | .hbm, ⟨12, _⟩ => ⟨S_, .f32⟩
  | .hbm, ⟨13, _⟩ => ⟨S1024x3328, .f32⟩
  | .hbm, ⟨14, _⟩ => ⟨S4160x1024, .f32⟩
  | .hbm, ⟨15, _⟩ => ⟨S4160x3328, .f32⟩
  | .hbm, ⟨16, _⟩ => ⟨S3328x1024, .f32⟩
  | .hbm, ⟨17, _⟩ => ⟨S1024x3328, .f32⟩
  | .hbm, ⟨18, _⟩ => ⟨S1024x3328, .bf16⟩
  | .hbm, ⟨19, _⟩ => ⟨S1024x256, .bf16⟩
  | .hbm, ⟨20, _⟩ => ⟨S1024x768, .bf16⟩
  | .hbm, ⟨21, _⟩ => ⟨S1024x768, .bf16⟩
  | .hbm, ⟨22, _⟩ => ⟨S1024x768, .bf16⟩
  | .hbm, ⟨23, _⟩ => ⟨S1024x768, .bf16⟩
  | .hbm, ⟨24, _⟩ => ⟨S256x1024, .bf16⟩
  | .hbm, ⟨25, _⟩ => ⟨S768x1024, .bf16⟩
  | .hbm, ⟨26, _⟩ => ⟨S768x1024, .bf16⟩
  | .hbm, ⟨27, _⟩ => ⟨S768x1024, .bf16⟩
  | .hbm, ⟨28, _⟩ => ⟨S768x1024, .bf16⟩
  | _, _ => ⟨S4160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Proof.FwdRun.lean ====
module

public import proofs.«01_k».proof.Proof.Gen.KernelIdeal.Skeleton
public import Idealize.ShloMosaic.Lib.Pipeline.Frame
public import Idealize.ShloMosaic.Lib.Tactic
public import Idealize.ShloMosaic.Lib.VecWindow

@[expose] public section

set_option maxRecDepth 16384

noncomputable section

namespace Cert.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What one shard adds: the accumulator after the shard whose three blocks are `wg`, `wu`, `wd`, over the normalised rows `n`. -/
abbrev fwdAcc (n : Vec F S832x1024 .bf16) (wg wu wd : Vec F S1x704x1024 .bf16) (acc : Vec F S832x1024 .f32) : Vec F S832x1024 .f32 :=
  k0_pay3 (k0_pay9 n wu) (k0_pay11 n wg) acc wd
/-- The product of the gates one shard leaves. -/
abbrev fwdSa (n : Vec F S832x1024 .bf16) (wg wu : Vec F S1x704x1024 .bf16) : Vec F S1x832x704 .bf16 :=
  k0_pay2 (k0_pay9 n wu) (k0_pay11 n wg)

set_option maxHeartbeats 1600000 in
/-- The forward body on the first shard: it normalises the rows, and starts the sum. -/
theorem fwd_first (c : Dev nD) (i : grid0.Coords) (arg2 : Memref sig .tc .vmem S832x1024 .f32) (harg2 : arg2.IsWhole) (arg3 : Memref sig .tc .vmem S1x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S832x1024 .f32) (harg7 : arg7.IsWhole) (arg8 : Memref sig .tc .vmem S1x832x704 .bf16) (harg8 : arg8.IsWhole) (arg9 : Memref sig .tc .vmem S1x832x704 .bf16) (harg9 : arg9.IsWhole) (arg10 : Memref sig .tc .vmem S1x832x704 .bf16) (harg10 : arg10.IsWhole) (arg11 : Memref sig .tc .vmem S832x1024 .bf16) (harg11 : arg11.IsWhole) (arg12 : Memref sig .tc .vmem S832x1024 .bf16) (harg12 : arg12.IsWhole) (arg13 : Memref sig .tc .vmem S832x1024 .f32) (harg13 : arg13.IsWhole)
    (hc0 : k0_cond1 i = 1#1) (hc1 : ¬ k0_cond2 i = 1#1)
    (x2 : Vec F S832x1024 .f32) (x3 : Vec F S1x1024 .f32) (x4 : Vec F S1x704x1024 .bf16) (x5 : Vec F S1x704x1024 .bf16) (x6 : Vec F S1x704x1024 .bf16) (x7 : Vec F S832x1024 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay12 (k0_pay6 x2 x3) x4 x5) ∗ owns (c : Thread nD τ) arg9 fullShare (k0_pay13 (k0_pay6 x2 x3) x4) ∗ owns (c : Thread nD τ) arg10 fullShare (fwdSa (k0_pay6 x2 x3) x4 x5) ∗ owns (c : Thread nD τ) arg11 fullShare (k0_pay5 x2 x3) ∗ owns (c : Thread nD τ) arg12 fullShare (k0_pay6 x2 x3) ∗ owns (c : Thread nD τ) arg13 fullShare (fwdAcc (k0_pay6 x2 x3) x4 x5 x6 k0_pay7)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13) K := by
  simp only [cc0_ffn_fwd_eq_skeleton]; unfold cc0_ffn_fwd_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  sl_exec (disch := first | sl_exact hc0 | sl_exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; (try unfold fwdAcc); (try unfold fwdSa); sl_unfold_run_names; (repeat first | rw [View.read_writes_full] | rw [View.readAt_writes_full] | rw [View.readCov_full] | rw [View.readAt_full] | rw [Memref.IsWhole.read_unread]); done
  isplitl [H9]
  · iexists _; isplitr; swap; · iexact H9
    ipureintro; (try unfold fwdAcc); (try unfold fwdSa); sl_unfold_run_names; (repeat first | rw [View.read_writes_full] | rw [View.readAt_writes_full] | rw [View.readCov_full] | rw [View.readAt_full] | rw [Memref.IsWhole.read_unread]); done
  isplitl [H10]
  · iexists _; isplitr; swap; · iexact H10
    ipureintro; (try unfold fwdAcc); (try unfold fwdSa); sl_unfold_run_names; (repeat first | rw [View.read_writes_full] | rw [View.readAt_writes_full] | rw [View.readCov_full] | rw [View.readAt_full] | rw [Memref.IsWhole.read_unread]); done
  isplitl [H11]
  · iexists _; isplitr; swap; · iexact H11
    ipureintro; (try unfold fwdAcc); (try unfold fwdSa); sl_unfold_run_names; (repeat first | rw [View.read_writes_full] | rw [View.readAt_writes_full] | rw [View.readCov_full] | rw [View.readAt_full] | rw [Memref.IsWhole.read_unread]); done
  isplitl [H12]
  · iexists _; isplitr; swap; · iexact H12
    ipureintro; (try unfold fwdAcc); (try unfold fwdSa); sl_unfold_run_names; (repeat first | rw [View.read_writes_full] | rw [View.readAt_writes_full] | rw [View.readCov_full] | rw [View.readAt_full] | rw [Memref.IsWhole.read_unread]); done
  iexists _; isplitr; swap; · iexact H13
  ipureintro; (try unfold fwdAcc); (try unfold fwdSa); sl_unfold_run_names; (repeat first | rw [View.read_writes_full] | rw [View.readAt_writes_full] | rw [View.readCov_full] | rw [View.readAt_full] | rw [Memref.IsWhole.read_unread]); done

set_option maxHeartbeats 1600000 in
/-- The forward body on a middle shard: it adds the shard to the sum. -/
theorem fwd_mid (c : Dev nD) (i : grid0.Coords) (arg2 : Memref sig .tc .vmem S832x1024 .f32) (harg2 : arg2.IsWhole) (arg3 : Memref sig .tc .vmem S1x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S832x1024 .f32) (harg7 : arg7.IsWhole) (arg8 : Memref sig .tc .vmem S1x832x704 .bf16) (harg8 : arg8.IsWhole) (arg9 : Memref sig .tc .vmem S1x832x704 .bf16) (harg9 : arg9.IsWhole) (arg10 : Memref sig .tc .vmem S1x832x704 .bf16) (harg10 : arg10.IsWhole) (arg11 : Memref sig .tc .vmem S832x1024 .bf16) (harg11 : arg11.IsWhole) (arg12 : Memref sig .tc .vmem S832x1024 .bf16) (harg12 : arg12.IsWhole) (arg13 : Memref sig .tc .vmem S832x1024 .f32) (harg13 : arg13.IsWhole)
    (hc0 : ¬ k0_cond1 i = 1#1) (hc1 : ¬ k0_cond2 i = 1#1)
    (x2 : Vec F S832x1024 .f32) (x3 : Vec F S1x1024 .f32) (x4 : Vec F S1x704x1024 .bf16) (x5 : Vec F S1x704x1024 .bf16) (x6 : Vec F S1x704x1024 .bf16) (x7 : Vec F S832x1024 .f32) (x11 : Vec F S832x1024 .bf16) (x12 : Vec F S832x1024 .bf16) (x13 : Vec F S832x1024 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11 ∗ owns (c : Thread nD τ) arg12 fullShare x12 ∗ owns (c : Thread nD τ) arg13 fullShare x13
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay12 x12 x4 x5) ∗ owns (c : Thread nD τ) arg9 fullShare (k0_pay13 x12 x4) ∗ owns (c : Thread nD τ) arg10 fullShare (fwdSa x12 x4 x5) ∗ owns (c : Thread nD τ) arg11 fullShare x11 ∗ owns (c : Thread nD τ) arg12 fullShare x12 ∗ owns (c : Thread nD τ) arg13 fullShare (fwdAcc x12 x4 x5 x6 x13)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13) K := by
  simp only [cc0_ffn_fwd_eq_skeleton]; unfold cc0_ffn_fwd_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, ⟨%d9, %f9, %hf9, H9⟩, ⟨%d10, %f10, %hf10, H10⟩, ⟨%f11, %hf11, H11⟩, ⟨%f12, %hf12, H12⟩, ⟨%f13, %hf13, H13⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg11.eq_unread hf11
  obtain rfl := harg12.eq_unread hf12
  obtain rfl := harg13.eq_unread hf13
  sl_exec (disch := first | sl_exact hc0 | sl_exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; (try unfold fwdAcc); (try unfold fwdSa); sl_unfold_run_names; (repeat first | rw [View.read_writes_full] | rw [View.readAt_writes_full] | rw [View.readCov_full] | rw [View.readAt_full] | rw [Memref.IsWhole.read_unread]); done
  isplitl [H9]
  · iexists _; isplitr; swap; · iexact H9
    ipureintro; (try unfold fwdAcc); (try unfold fwdSa); sl_unfold_run_names; (repeat first | rw [View.read_writes_full] | rw [View.readAt_writes_full] | rw [View.readCov_full] | rw [View.readAt_full] | rw [Memref.IsWhole.read_unread]); done
  isplitl [H10]
  · iexists _; isplitr; swap; · iexact H10
    ipureintro; (try unfold fwdAcc); (try unfold fwdSa); sl_unfold_run_names; (repeat first | rw [View.read_writes_full] | rw [View.readAt_writes_full] | rw [View.readCov_full] | rw [View.readAt_full] | rw [Memref.IsWhole.read_unread]); done
  isplitl [H11]
  · iexists _; isplitr; swap; · iexact H11
    ipureintro; exact harg11.read_unread _
  isplitl [H12]
  · iexists _; isplitr; swap; · iexact H12
    ipureintro; exact harg12.read_unread _
  iexists _; isplitr; swap; · iexact H13
  ipureintro; (try unfold fwdAcc); (try unfold fwdSa); sl_unfold_run_names; (repeat first | rw [View.read_writes_full] | rw [View.readAt_writes_full] | rw [View.readCov_full] | rw [View.readAt_full] | rw [Memref.IsWhole.read_unread]); done

set_option maxHeartbeats 1600000 in
/-- The forward body on the last shard: it adds the shard and writes the rows out. -/
theorem fwd_last (c : Dev nD) (i : grid0.Coords) (arg2 : Memref sig .tc .vmem S832x1024 .f32) (harg2 : arg2.IsWhole) (arg3 : Memref sig .tc .vmem S1x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S832x1024 .f32) (harg7 : arg7.IsWhole) (arg8 : Memref sig .tc .vmem S1x832x704 .bf16) (harg8 : arg8.IsWhole) (arg9 : Memref sig .tc .vmem S1x832x704 .bf16) (harg9 : arg9.IsWhole) (arg10 : Memref sig .tc .vmem S1x832x704 .bf16) (harg10 : arg10.IsWhole) (arg11 : Memref sig .tc .vmem S832x1024 .bf16) (harg11 : arg11.IsWhole) (arg12 : Memref sig .tc .vmem S832x1024 .bf16) (harg12 : arg12.IsWhole) (arg13 : Memref sig .tc .vmem S832x1024 .f32) (harg13 : arg13.IsWhole)
    (hc0 : ¬ k0_cond1 i = 1#1) (hc1 : k0_cond2 i = 1#1)
    (x2 : Vec F S832x1024 .f32) (x3 : Vec F S1x1024 .f32) (x4 : Vec F S1x704x1024 .bf16) (x5 : Vec F S1x704x1024 .bf16) (x6 : Vec F S1x704x1024 .bf16) (x11 : Vec F S832x1024 .bf16) (x12 : Vec F S832x1024 .bf16) (x13 : Vec F S832x1024 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11 ∗ owns (c : Thread nD τ) arg12 fullShare x12 ∗ owns (c : Thread nD τ) arg13 fullShare x13
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (k0_pay4 x2 (fwdAcc x12 x4 x5 x6 x13)) ∗ owns (c : Thread nD τ) arg8 fullShare (k0_pay12 x12 x4 x5) ∗ owns (c : Thread nD τ) arg9 fullShare (k0_pay13 x12 x4) ∗ owns (c : Thread nD τ) arg10 fullShare (fwdSa x12 x4 x5) ∗ owns (c : Thread nD τ) arg11 fullShare x11 ∗ owns (c : Thread nD τ) arg12 fullShare x12 ∗ owns (c : Thread nD τ) arg13 fullShare (fwdAcc x12 x4 x5 x6 x13)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13) K := by
  simp only [cc0_ffn_fwd_eq_skeleton]; unfold cc0_ffn_fwd_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, %hf7, H7⟩, ⟨%d8, %f8, %hf8, H8⟩, ⟨%d9, %f9, %hf9, H9⟩, ⟨%d10, %f10, %hf10, H10⟩, ⟨%f11, %hf11, H11⟩, ⟨%f12, %hf12, H12⟩, ⟨%f13, %hf13, H13⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg11.eq_unread hf11
  obtain rfl := harg12.eq_unread hf12
  obtain rfl := harg13.eq_unread hf13
  sl_exec (disch := first | sl_exact hc0 | sl_exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; (try unfold fwdAcc); (try unfold fwdSa); sl_unfold_run_names; (repeat first | rw [View.read_writes_full] | rw [View.readAt_writes_full] | rw [View.readCov_full] | rw [View.readAt_full] | rw [Memref.IsWhole.read_unread]); done
  isplitl [H8]
  · iexists _; isplitr; swap; · iexact H8
    ipureintro; (try unfold fwdAcc); (try unfold fwdSa); sl_unfold_run_names; (repeat first | rw [View.read_writes_full] | rw [View.readAt_writes_full] | rw [View.readCov_full] | rw [View.readAt_full] | rw [Memref.IsWhole.read_unread]); done
  isplitl [H9]
  · iexists _; isplitr; swap; · iexact H9
    ipureintro; (try unfold fwdAcc); (try unfold fwdSa); sl_unfold_run_names; (repeat first | rw [View.read_writes_full] | rw [View.readAt_writes_full] | rw [View.readCov_full] | rw [View.readAt_full] | rw [Memref.IsWhole.read_unread]); done
  isplitl [H10]
  · iexists _; isplitr; swap; · iexact H10
    ipureintro; (try unfold fwdAcc); (try unfold fwdSa); sl_unfold_run_names; (repeat first | rw [View.read_writes_full] | rw [View.readAt_writes_full] | rw [View.readCov_full] | rw [View.readAt_full] | rw [Memref.IsWhole.read_unread]); done
  isplitl [H11]
  · iexists _; isplitr; swap; · iexact H11
    ipureintro; exact harg11.read_unread _
  isplitl [H12]
  · iexists _; isplitr; swap; · iexact H12
    ipureintro; exact harg12.read_unread _
  iexists _; isplitr; swap; · iexact H13
  ipureintro; (try unfold fwdAcc); (try unfold fwdSa); sl_unfold_run_names; (repeat first | rw [View.read_writes_full] | rw [View.readAt_writes_full] | rw [View.readCov_full] | rw [View.readAt_full] | rw [Memref.IsWhole.read_unread]); done

end Cert.Chain

end
-- ==== Proof.FwdDat.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import proofs.«01_k».proof.Proof.FwdRun

@[expose] public section

set_option maxRecDepth 16384

noncomputable section

/-! The forward call: what each point of its grid computes, and what is carried between points. -/

namespace Cert.Chain.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 holds its block at every point. -/
theorem beforeOf0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 holds its block at every point. -/
theorem beforeOf1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 holds its block at every point. -/
theorem beforeOf2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 holds its block at every point. -/
theorem beforeOf3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4 holds its block at every point. -/
theorem beforeOf4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! Which branches the body takes, and which blocks it leaves alone, by the point. -/

theorem hcond1 : ∀ t : Fin cfg0.N, k0_cond1 (grid0.coords t) = 1#1 ↔ t.val % 4 = 0 := by decide +kernel
theorem hcond2 : ∀ t : Fin cfg0.N, k0_cond2 (grid0.coords t) = 1#1 ↔ t.val % 4 = 3 := by decide +kernel
theorem live5 : ∀ t : Fin cfg0.N, t.val % 4 = 3 → cfg0.idle 5 (grid0.coords t) = false := by decide +kernel
theorem idle5 : ∀ t : Fin cfg0.N, ¬ (t.val % 4 = 3) → cfg0.idle 5 (grid0.coords t) = true := by decide +kernel
theorem live9 : ∀ t : Fin cfg0.N, t.val % 4 = 0 → cfg0.idle 9 (grid0.coords t) = false := by decide +kernel
theorem idle9 : ∀ t : Fin cfg0.N, ¬ (t.val % 4 = 0) → cfg0.idle 9 (grid0.coords t) = true := by decide +kernel
theorem noFlush5 (t : Fin cfg0.N) (h : ¬ (t.val % 4 = 3)) : (cfg0.win 5).flush t = false :=
  (Bool.not_eq_true _).mp fun hf => h ((flush0_5 t).mp hf)
theorem doFlush5 (t : Fin cfg0.N) (h : t.val % 4 = 3) : (cfg0.win 5).flush t = true := (flush0_5 t).mpr h
theorem noFlush9 (t : Fin cfg0.N) (h : ¬ (t.val % 4 = 3)) : (cfg0.win 9).flush t = false :=
  (Bool.not_eq_true _).mp fun hf => h ((flush0_9 t).mp hf)
theorem doFlush9 (t : Fin cfg0.N) (h : t.val % 4 = 3) : (cfg0.win 9).flush t = true := (flush0_9 t).mpr h

/-! The staging buffers at a point, and the scratch. -/

abbrev ms0 (t : Fin cfg0.N) : Memref sig .tc .vmem S832x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1x704x1024 .bf16 := win0_2.stage (cfg0.slots t 2)
abbrev ms3 (t : Fin cfg0.N) : Memref sig .tc .vmem S1x704x1024 .bf16 := win0_3.stage (cfg0.slots t 3)
abbrev ms4 (t : Fin cfg0.N) : Memref sig .tc .vmem S1x704x1024 .bf16 := win0_4.stage (cfg0.slots t 4)
abbrev ms5 (t : Fin cfg0.N) : Memref sig .tc .vmem S832x1024 .f32 := win0_5.stage (cfg0.slots t 5)
abbrev ms6 (t : Fin cfg0.N) : Memref sig .tc .vmem S1x832x704 .bf16 := win0_6.stage (cfg0.slots t 6)
abbrev ms7 (t : Fin cfg0.N) : Memref sig .tc .vmem S1x832x704 .bf16 := win0_7.stage (cfg0.slots t 7)
abbrev ms8 (t : Fin cfg0.N) : Memref sig .tc .vmem S1x832x704 .bf16 := win0_8.stage (cfg0.slots t 8)
abbrev ms9 (t : Fin cfg0.N) : Memref sig .tc .vmem S832x1024 .bf16 := win0_9.stage (cfg0.slots t 9)
abbrev sc0 : Memref sig .tc .vmem S832x1024 .bf16 := Memref.whole cc0_scratch0
abbrev sc1 : Memref sig .tc .vmem S832x1024 .f32 := Memref.whole cc0_scratch1

/-- The scoped buffers the call does not name. -/
abbrev rest (c : Dev nD) : sProp 𝕄 := Pipeline.scopedRestBut (Ix := Unit) (Name := ℕ) (U := UR sig nD τ) (Lvl := ℕ) (Val := Elt F) spec0 c [cc0_scratch0, cc0_scratch1]

/-- What the launch hands over: the scratch at anything, the other scoped buffers and the generator register. -/
theorem PhiA_eq (c : Dev nD) :
    (Pipeline.ΦA spec0 c : sProp 𝕄)
      = iprop(iprop(iprop((∃ d, owns (c : Thread nD τ) sc0 fullShare d) ∗ (∃ d, owns (c : Thread nD τ) sc1 fullShare d)) ∗ rest c) ∗ (∃ r, prngReg c r)) := by
  unfold Pipeline.ΦA; rw [scopedRest0_split]; simp only [sc0, sc1, owns_whole]; try rfl

/-! What each point computes. -/

/-- The first point of the tile that point `n` belongs to. -/
abbrev tile0 (n : ℕ) (h : n < cfg0.N) : Fin cfg0.N := ⟨4 * (n / 4), Nat.lt_of_le_of_lt (Nat.mul_div_le n 4) h⟩

/-- The tile's normalised rows, in the scratch, -/
def nAt (c : Dev nD) (n : ℕ) (h : n < cfg0.N) : Vec F S832x1024 .bf16 := k0_pay6 (iblk V c 0 (tile0 n h)) (iblk V c 1 (tile0 n h))
/-- and in the output. -/
def nOut (c : Dev nD) (n : ℕ) (h : n < cfg0.N) : Vec F S832x1024 .bf16 := k0_pay5 (iblk V c 0 (tile0 n h)) (iblk V c 1 (tile0 n h))

/-- The sum over the shards so far. -/
def accAt (c : Dev nD) : (n : ℕ) → n < cfg0.N → Vec F S832x1024 .f32
  | 0, h => fwdAcc (nAt V c 0 h) (iblk V c 2 ⟨0, h⟩) (iblk V c 3 ⟨0, h⟩) (iblk V c 4 ⟨0, h⟩) k0_pay7
  | n + 1, h => fwdAcc (nAt V c (n + 1) h) (iblk V c 2 ⟨n + 1, h⟩) (iblk V c 3 ⟨n + 1, h⟩) (iblk V c 4 ⟨n + 1, h⟩)
      (if (n + 1) % 4 = 0 then k0_pay7 else accAt c n (Nat.lt_of_succ_lt h))

theorem accAt_first (c : Dev nD) (t : Fin cfg0.N) (h0 : t.val % 4 = 0) :
    accAt V c t.val t.isLt = fwdAcc (nAt V c t.val t.isLt) (iblk V c 2 t) (iblk V c 3 t) (iblk V c 4 t) k0_pay7 := by
  obtain ⟨n, h⟩ := t
  cases n with
  | zero => rfl
  | succ n => dsimp only [accAt]; rw [if_pos h0]

theorem accAt_next (c : Dev nD) (t : Fin cfg0.N) (h0 : ¬ t.val % 4 = 0) :
    accAt V c t.val t.isLt = fwdAcc (nAt V c t.val t.isLt) (iblk V c 2 t) (iblk V c 3 t) (iblk V c 4 t)
      (accAt V c (t.val - 1) (Nat.lt_of_le_of_lt (Nat.sub_le _ _) t.isLt)) := by
  obtain ⟨n, h⟩ := t
  cases n with
  | zero => exact absurd rfl h0
  | succ n => dsimp only [accAt]; rw [if_neg h0]; rfl

theorem tile0_first (t : Fin cfg0.N) (h0 : t.val % 4 = 0) : tile0 t.val t.isLt = t := Fin.ext (by simp only [tile0]; omega)
theorem tile0_next (t : Fin cfg0.N) (h0 : ¬ t.val % 4 = 0) :
    tile0 (t.val - 1) (Nat.lt_of_le_of_lt (Nat.sub_le _ _) t.isLt) = tile0 t.val t.isLt := Fin.ext (by simp only [tile0]; omega)

theorem nAt_first (c : Dev nD) (t : Fin cfg0.N) (h0 : t.val % 4 = 0) : nAt V c t.val t.isLt = k0_pay6 (iblk V c 0 t) (iblk V c 1 t) := by
  unfold nAt; rw [tile0_first t h0]
theorem nOut_first (c : Dev nD) (t : Fin cfg0.N) (h0 : t.val % 4 = 0) : nOut V c t.val t.isLt = k0_pay5 (iblk V c 0 t) (iblk V c 1 t) := by
  unfold nOut; rw [tile0_first t h0]
theorem nAt_next (c : Dev nD) (t : Fin cfg0.N) (h0 : ¬ t.val % 4 = 0) :
    nAt V c (t.val - 1) (Nat.lt_of_le_of_lt (Nat.sub_le _ _) t.isLt) = nAt V c t.val t.isLt := by
  unfold nAt; rw [tile0_next t h0]
theorem nOut_next (c : Dev nD) (t : Fin cfg0.N) (h0 : ¬ t.val % 4 = 0) :
    nOut V c (t.val - 1) (Nat.lt_of_le_of_lt (Nat.sub_le _ _) t.isLt) = nOut V c t.val t.isLt := by
  unfold nOut; rw [tile0_next t h0]

/-- What is carried between points: the scratch at what the point before left. -/
def PhiS (c : Dev nD) : (n : ℕ) → n ≤ cfg0.N → sProp 𝕄
  | 0, _ => Pipeline.ΦA spec0 c
  | n + 1, hn => iprop(iprop(iprop(owns (c : Thread nD τ) sc0 fullShare (nAt V c n hn) ∗ owns (c : Thread nD τ) sc1 fullShare (accAt V c n hn)) ∗ rest c) ∗ (∃ r, prngReg c r))

theorem PhiS_succ (c : Dev nD) (n : ℕ) (hn : n < cfg0.N) : PhiS V c (n + 1) hn = iprop(iprop(iprop(owns (c : Thread nD τ) sc0 fullShare (nAt V c n hn) ∗ owns (c : Thread nD τ) sc1 fullShare (accAt V c n hn)) ∗ rest c) ∗ (∃ r, prngReg c r)) := rfl

theorem PhiS_pos (c : Dev nD) (n : ℕ) (h : n ≤ cfg0.N) (hz : n ≠ 0) : PhiS V c n h = iprop(iprop(iprop(owns (c : Thread nD τ) sc0 fullShare (nAt V c (n - 1) (by omega)) ∗ owns (c : Thread nD τ) sc1 fullShare (accAt V c (n - 1) (by omega))) ∗ rest c) ∗ (∃ r, prngReg c r)) := by
  cases n with
  | zero => exact absurd rfl hz
  | succ n => rfl

/-- The data of the call on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k0_pay4 (iblk V c 0 t) (accAt V c t.val t.isLt)
    | ⟨6, _⟩ => k0_pay12 (nAt V c t.val t.isLt) (iblk V c 2 t) (iblk V c 3 t)
    | ⟨7, _⟩ => k0_pay13 (nAt V c t.val t.isLt) (iblk V c 2 t)
    | ⟨8, _⟩ => fwdSa (nAt V c t.val t.isLt) (iblk V c 2 t) (iblk V c 3 t)
    | ⟨9, _⟩ => nOut V c t.val t.isLt
  Φ t := PhiS V c t.val (Nat.le_of_lt_succ t.isLt)
  q w := Pipeline.shareOf spec0 w
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; exact Pipeline.Dat.Φ_castSucc (PhiS V c) t

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = k0_pay4 (iblk V c 0 t) (accAt V c t.val t.isLt) := by dsimp only [dat]
theorem after6 (c : Dev nD) (t : Fin cfg0.N) : (dat V c).after 6 t = k0_pay12 (nAt V c t.val t.isLt) (iblk V c 2 t) (iblk V c 3 t) := by dsimp only [dat]
theorem after7 (c : Dev nD) (t : Fin cfg0.N) : (dat V c).after 7 t = k0_pay13 (nAt V c t.val t.isLt) (iblk V c 2 t) := by dsimp only [dat]
theorem after8 (c : Dev nD) (t : Fin cfg0.N) : (dat V c).after 8 t = fwdSa (nAt V c t.val t.isLt) (iblk V c 2 t) (iblk V c 3 t) := by dsimp only [dat]
theorem after9 (c : Dev nD) (t : Fin cfg0.N) : (dat V c).after 9 t = nOut V c t.val t.isLt := by dsimp only [dat]

theorem before0 (c : Dev nD) (t : Fin cfg0.N) (d) : (dat V c).before 0 t d = iblk V c 0 t := beforeOf0 V (dat V c) (A_eq V c 0) (after0 V c) t d
theorem before1 (c : Dev nD) (t : Fin cfg0.N) (d) : (dat V c).before 1 t d = iblk V c 1 t := beforeOf1 V (dat V c) (A_eq V c 1) (after1 V c) t d
theorem before2 (c : Dev nD) (t : Fin cfg0.N) (d) : (dat V c).before 2 t d = iblk V c 2 t := beforeOf2 V (dat V c) (A_eq V c 2) (after2 V c) t d
theorem before3 (c : Dev nD) (t : Fin cfg0.N) (d) : (dat V c).before 3 t d = iblk V c 3 t := beforeOf3 V (dat V c) (A_eq V c 3) (after3 V c) t d
theorem before4 (c : Dev nD) (t : Fin cfg0.N) (d) : (dat V c).before 4 t d = iblk V c 4 t := beforeOf4 V (dat V c) (A_eq V c 4) (after4 V c) t d

/-- After a tile's first point the normalised rows stand in their block. -/
theorem before9 (c : Dev nD) : ∀ (n : ℕ) (h : n < cfg0.N), ¬ n % 4 = 0 → ∀ d, (dat V c).before 9 ⟨n, h⟩ d = nOut V c n h
  | 0, _, h0, _ => absurd rfl h0
  | n + 1, h, h0, d => by
    have hn : n < cfg0.N := Nat.lt_of_succ_lt h
    rw [(dat V c).before_of_pos 9 ⟨n + 1, h⟩ (Nat.succ_ne_zero n) ((cfg0.win 9).fetch_out rfl _) d]
    rw [show (cfg0.win 9).flush ⟨(⟨n + 1, h⟩ : Fin cfg0.N).val - 1, Nat.lt_of_le_of_lt (Nat.sub_le _ _) h⟩ = false from noFlush9 ⟨n, hn⟩ (by show ¬ n % 4 = 3; omega),
      if_neg Bool.false_ne_true]
    show (dat V c).left 9 ⟨n, hn⟩ d = _
    rw [← nOut_next V c ⟨n + 1, h⟩ h0]
    show _ = nOut V c n hn
    by_cases hm : n % 4 = 0
    · unfold Dat.left; rw [live9 ⟨n, hn⟩ hm]
      show (dat V c).kept 9 ⟨n, hn⟩ d = _
      unfold Dat.kept
      rw [Pipeline.fill_of_clip_none (cfg := cfg0) 9 _ (fun _ => rfl) d ((dat V c).after 9 ⟨n, hn⟩), Window.fill_cut, after9]
    · unfold Dat.left; rw [idle9 ⟨n, hn⟩ hm]
      exact before9 c n hn hm d

/-- The carried contents may be forgotten. -/
theorem Phi_any (c : Dev nD) (n : ℕ) (h : n ≤ cfg0.N) : PhiS V c n h ⊢ (Pipeline.ΦA spec0 c : sProp 𝕄) := by
  by_cases hz : n = 0
  · subst hz; exact Idealize.SL.BI.Entails.refl _
  · rw [PhiS_pos V c _ _ hz, PhiA_eq]
    iintro ⟨⟨⟨HS0, HS1⟩, Hr⟩, Hg⟩
    isplitl [HS0 HS1 Hr]
    · isplitl [HS0 HS1]
      · isplitl [HS0]
        · iexists _; iexact HS0
        iexists _; iexact HS1
      iexact Hr
    iexact Hg

/-- What the launch hands the call is what is held before the first point, -/
theorem hin (c : Dev nD) : Pipeline.ΦA spec0 c ⊢ (dat V c).Φ 0 := by
  rw [show (dat V c).Φ 0 = PhiS V c 0 (Nat.zero_le _) from rfl]
  exact Idealize.SL.BI.Entails.refl _

/-- and what is held after the last is given back. -/
theorem hout (c : Dev nD) : (dat V c).Φ (Fin.last cfg0.N) ⊢ Pipeline.ΦA spec0 c := by
  rw [show (dat V c).Φ (Fin.last cfg0.N) = PhiS V c cfg0.N (Nat.le_refl _) from rfl]
  exact Phi_any V c _ _

end Cert.Chain.Fwd

end
-- ==== Proof.FwdBody.lean ====
module

public import proofs.«01_k».proof.Proof.FwdDat

@[expose] public section

set_option maxRecDepth 16384

noncomputable section

/-! The forward call: its body does at every point what its data say. -/

namespace Cert.Chain.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))
/-- and what it leaves. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 3200000 in
theorem body_first (c : Dev nD) (t : Fin cfg0.N) (h0 : t.val % 4 = 0) :
    bodyPre V c t ⊢ wp frame (wpE (defs₀ (F := F)) Variants.none c none) Set.univ (bodyAt0 t) (fun _ => bodyPost V c t) := by
  have hN : t.val < 20 := lt_of_lt_of_eq t.isLt (show cfg0.N = 20 from N_0)
  unfold bodyPre bodyPost bodyAt0
  simp only [before0, before1, before2, before3, before4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [show cfg0.idle 0 (grid0.coords t) = false from rfl], after0]
  rw [show (dat V c).leavesExact 1 t = owns (c : Thread nD τ) (ms1 t) fullShare ((dat V c).after 1 t) from by
    unfold Dat.leavesExact; rw [show cfg0.idle 1 (grid0.coords t) = false from rfl], after1]
  rw [show (dat V c).leavesExact 2 t = owns (c : Thread nD τ) (ms2 t) fullShare ((dat V c).after 2 t) from by
    unfold Dat.leavesExact; rw [show cfg0.idle 2 (grid0.coords t) = false from rfl], after2]
  rw [show (dat V c).leavesExact 3 t = owns (c : Thread nD τ) (ms3 t) fullShare ((dat V c).after 3 t) from by
    unfold Dat.leavesExact; rw [show cfg0.idle 3 (grid0.coords t) = false from rfl], after3]
  rw [show (dat V c).leavesExact 4 t = owns (c : Thread nD τ) (ms4 t) fullShare ((dat V c).after 4 t) from by
    unfold Dat.leavesExact; rw [show cfg0.idle 4 (grid0.coords t) = false from rfl], after4]
  rw [Dat.leavesExact_idle (dat V c) 5 t (idle5 t (by omega)) (noFlush5 t (by omega))]
  rw [show (dat V c).leavesExact 6 t = owns (c : Thread nD τ) (ms6 t) fullShare ((dat V c).after 6 t) from by
    unfold Dat.leavesExact; rw [(show cfg0.idle 6 (grid0.coords t) = false from rfl)], after6]
  rw [show (dat V c).leavesExact 7 t = owns (c : Thread nD τ) (ms7 t) fullShare ((dat V c).after 7 t) from by
    unfold Dat.leavesExact; rw [(show cfg0.idle 7 (grid0.coords t) = false from rfl)], after7]
  rw [show (dat V c).leavesExact 8 t = owns (c : Thread nD τ) (ms8 t) fullShare ((dat V c).after 8 t) from by
    unfold Dat.leavesExact; rw [(show cfg0.idle 8 (grid0.coords t) = false from rfl)], after8]
  rw [show (dat V c).leavesExact 9 t = owns (c : Thread nD τ) (ms9 t) fullShare ((dat V c).after 9 t) from by
    unfold Dat.leavesExact; rw [live9 t h0], after9]
  rw [PhiS_castSucc V c t]
  refine (Idealize.SL.BI.Laws.sep_mono (Phi_any V c _ _) (Idealize.SL.BI.Entails.refl _)).trans ?_
  rw [PhiA_eq]
  rw [accAt_first V c t h0]
  rw [nAt_first V c t h0]
  rw [nOut_first V c t h0]
  iintro ⟨⟨⟨⟨⟨%e0, HS0⟩, ⟨%e1, HS1⟩⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (Cert.Chain.fwd_first c (grid0.coords t) _ _ _ _ _ _ _ _ _ _ _ _ _ _ _ _ _ _ _ _ _ _ _ _ ((hcond1 t).mpr h0) (fun h => absurd ((hcond2 t).mp h) (by omega)) (iblk V c 0 t) (iblk V c 1 t) (iblk V c 2 t) (iblk V c 3 t) (iblk V c 4 t) ((dat V c).before 5 t d5) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexists _; iexact HS0
  isplitl [HS1]; · iexists _; iexact HS1
  iintro ⟨H0, H1, H2, H3, H4, H5, H6, H7, H8, H9, HS0, HS1⟩
  isplitl [HS0 HS1 Hr Hg]
  · isplitl [HS0 HS1 Hr]
    · isplitl [HS0 HS1]
      · isplitl [HS0]; · iexact HS0
        iexact HS1
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexact H6
  isplitl [H7]; · iexact H7
  isplitl [H8]; · iexact H8
  iexact H9

set_option maxHeartbeats 3200000 in
theorem body_mid (c : Dev nD) (t : Fin cfg0.N) (h0 : ¬ t.val % 4 = 0) (h1 : ¬ t.val % 4 = 3) :
    bodyPre V c t ⊢ wp frame (wpE (defs₀ (F := F)) Variants.none c none) Set.univ (bodyAt0 t) (fun _ => bodyPost V c t) := by
  have hN : t.val < 20 := lt_of_lt_of_eq t.isLt (show cfg0.N = 20 from N_0)
  unfold bodyPre bodyPost bodyAt0
  simp only [before0, before1, before2, before3, before4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [show cfg0.idle 0 (grid0.coords t) = false from rfl], after0]
  rw [show (dat V c).leavesExact 1 t = owns (c : Thread nD τ) (ms1 t) fullShare ((dat V c).after 1 t) from by
    unfold Dat.leavesExact; rw [show cfg0.idle 1 (grid0.coords t) = false from rfl], after1]
  rw [show (dat V c).leavesExact 2 t = owns (c : Thread nD τ) (ms2 t) fullShare ((dat V c).after 2 t) from by
    unfold Dat.leavesExact; rw [show cfg0.idle 2 (grid0.coords t) = false from rfl], after2]
  rw [show (dat V c).leavesExact 3 t = owns (c : Thread nD τ) (ms3 t) fullShare ((dat V c).after 3 t) from by
    unfold Dat.leavesExact; rw [show cfg0.idle 3 (grid0.coords t) = false from rfl], after3]
  rw [show (dat V c).leavesExact 4 t = owns (c : Thread nD τ) (ms4 t) fullShare ((dat V c).after 4 t) from by
    unfold Dat.leavesExact; rw [show cfg0.idle 4 (grid0.coords t) = false from rfl], after4]
  rw [Dat.leavesExact_idle (dat V c) 5 t (idle5 t h1) (noFlush5 t h1)]
  rw [show (dat V c).leavesExact 6 t = owns (c : Thread nD τ) (ms6 t) fullShare ((dat V c).after 6 t) from by
    unfold Dat.leavesExact; rw [(show cfg0.idle 6 (grid0.coords t) = false from rfl)], after6]
  rw [show (dat V c).leavesExact 7 t = owns (c : Thread nD τ) (ms7 t) fullShare ((dat V c).after 7 t) from by
    unfold Dat.leavesExact; rw [(show cfg0.idle 7 (grid0.coords t) = false from rfl)], after7]
  rw [show (dat V c).leavesExact 8 t = owns (c : Thread nD τ) (ms8 t) fullShare ((dat V c).after 8 t) from by
    unfold Dat.leavesExact; rw [(show cfg0.idle 8 (grid0.coords t) = false from rfl)], after8]
  rw [Dat.leavesExact_idle (dat V c) 9 t (idle9 t h0) (noFlush9 t h1)]
  rw [PhiS_castSucc V c t, PhiS_pos V c _ _ (fun hz => h0 (by omega))]
  rw [nAt_next V c t h0]
  rw [accAt_next V c t h0]
  iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (Cert.Chain.fwd_mid c (grid0.coords t) _ _ _ _ _ _ _ _ _ _ _ _ _ _ _ _ _ _ _ _ _ _ _ _ (fun h => h0 ((hcond1 t).mp h)) (fun h => h1 ((hcond2 t).mp h)) (iblk V c 0 t) (iblk V c 1 t) (iblk V c 2 t) (iblk V c 3 t) (iblk V c 4 t) ((dat V c).before 5 t d5) ((dat V c).before 9 t d9) (nAt V c t.val t.isLt) (accAt V c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hr Hg]
  · isplitl [HS0 HS1 Hr]
    · isplitl [HS0 HS1]
      · isplitl [HS0]; · iexact HS0
        iexact HS1
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexact H6
  isplitl [H7]; · iexact H7
  isplitl [H8]; · iexact H8
  iexists d9; iexact H9

set_option maxHeartbeats 3200000 in
theorem body_last (c : Dev nD) (t : Fin cfg0.N) (h1 : t.val % 4 = 3) :
    bodyPre V c t ⊢ wp frame (wpE (defs₀ (F := F)) Variants.none c none) Set.univ (bodyAt0 t) (fun _ => bodyPost V c t) := by
  have hN : t.val < 20 := lt_of_lt_of_eq t.isLt (show cfg0.N = 20 from N_0)
  unfold bodyPre bodyPost bodyAt0
  simp only [before0, before1, before2, before3, before4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [show cfg0.idle 0 (grid0.coords t) = false from rfl], after0]
  rw [show (dat V c).leavesExact 1 t = owns (c : Thread nD τ) (ms1 t) fullShare ((dat V c).after 1 t) from by
    unfold Dat.leavesExact; rw [show cfg0.idle 1 (grid0.coords t) = false from rfl], after1]
  rw [show (dat V c).leavesExact 2 t = owns (c : Thread nD τ) (ms2 t) fullShare ((dat V c).after 2 t) from by
    unfold Dat.leavesExact; rw [show cfg0.idle 2 (grid0.coords t) = false from rfl], after2]
  rw [show (dat V c).leavesExact 3 t = owns (c : Thread nD τ) (ms3 t) fullShare ((dat V c).after 3 t) from by
    unfold Dat.leavesExact; rw [show cfg0.idle 3 (grid0.coords t) = false from rfl], after3]
  rw [show (dat V c).leavesExact 4 t = owns (c : Thread nD τ) (ms4 t) fullShare ((dat V c).after 4 t) from by
    unfold Dat.leavesExact; rw [show cfg0.idle 4 (grid0.coords t) = false from rfl], after4]
  rw [show (dat V c).leavesExact 5 t = owns (c : Thread nD τ) (ms5 t) fullShare ((dat V c).after 5 t) from by
    unfold Dat.leavesExact; rw [live5 t h1], after5]
  rw [show (dat V c).leavesExact 6 t = owns (c : Thread nD τ) (ms6 t) fullShare ((dat V c).after 6 t) from by
    unfold Dat.leavesExact; rw [(show cfg0.idle 6 (grid0.coords t) = false from rfl)], after6]
  rw [show (dat V c).leavesExact 7 t = owns (c : Thread nD τ) (ms7 t) fullShare ((dat V c).after 7 t) from by
    unfold Dat.leavesExact; rw [(show cfg0.idle 7 (grid0.coords t) = false from rfl)], after7]
  rw [show (dat V c).leavesExact 8 t = owns (c : Thread nD τ) (ms8 t) fullShare ((dat V c).after 8 t) from by
    unfold Dat.leavesExact; rw [(show cfg0.idle 8 (grid0.coords t) = false from rfl)], after8]
  rw [show (dat V c).leavesExact 9 t = owns (c : Thread nD τ) (ms9 t) fullShare ((dat V c).after 9 t) from by
    unfold Dat.leavesExact; rw [idle9 t (by omega), doFlush9 t h1], after9]
  simp only [before9 V c t.val t.isLt (by omega)]
  rw [PhiS_castSucc V c t, PhiS_pos V c _ _ (by omega)]
  rw [nAt_next V c t (by omega)]
  rw [accAt_next V c t (by omega)]
  iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (Cert.Chain.fwd_last c (grid0.coords t) _ _ _ _ _ _ _ _ _ _ _ _ _ _ _ _ _ _ _ _ _ _ _ _ (fun h => absurd ((hcond1 t).mp h) (by omega)) ((hcond2 t).mpr h1) (iblk V c 0 t) (iblk V c 1 t) (iblk V c 2 t) (iblk V c 3 t) (iblk V c 4 t) (nOut V c t.val t.isLt) (nAt V c t.val t.isLt) (accAt V c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hr Hg]
  · isplitl [HS0 HS1 Hr]
    · isplitl [HS0 HS1]
      · isplitl [HS0]; · iexact HS0
        iexact HS1
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at any point. -/
theorem sound_body (c : Dev nD) (t : Fin cfg0.N) :
    bodyPre V c t ⊢ wp frame (wpE (defs₀ (F := F)) Variants.none c none) Set.univ (bodyAt0 t) (fun _ => bodyPost V c t) := by
  have hN : t.val < 20 := lt_of_lt_of_eq t.isLt (show cfg0.N = 20 from N_0)
  by_cases h0 : t.val % 4 = 0
  · exact body_first V c t h0
  · by_cases h1 : t.val % 4 = 3
    · exact body_last V c t h1
    · exact body_mid V c t h0 h1

theorem defs₀_row (t : Fin cfg0.N) :
    defs₀ (F := F) .tc cfg0.body (cfg0.bodyArgs t (cfg0.slots t)) = bodyAt0 t := by
  unfold defs₀; rw [Defs.onTc_tc]

/-- The body does at every point what the data of the call say. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

end Cert.Chain.Fwd

end
-- ==== Proof.ActTerms.lean ====
module

public import proofs.«01_k».proof.Proof.Gen.KernelIdeal.Skeleton
public import Idealize.ShloMosaic.Lib.Pipeline.Frame
public import Idealize.ShloMosaic.Lib.Tactic
public import Idealize.ShloMosaic.Lib.VecWindow

@[expose] public section

set_option maxRecDepth 16384

noncomputable section

namespace Cert.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first half of a tile's rows. -/
abbrev rowsLo {α : Type} (x : S832x1024.Idx → α) : S416x1024.Idx → α := VecWindow.window x ![0, 0] S416x1024.size inb_S832x1024_S416x1024_0_0
/-- The second half of a tile's rows. -/
abbrev rowsHi {α : Type} (x : S832x1024.Idx → α) : S416x1024.Idx → α := VecWindow.window x ![416, 0] S416x1024.size inb_S832x1024_S416x1024_416_0
/-- The first half of the rows of a shard's tile. -/
abbrev shardLo {α : Type} (x : S1x832x704.Idx → α) : S1x416x704.Idx → α := VecWindow.window x ![0, 0, 0] S1x416x704.size inb_S1x832x704_S1x416x704_0_0_0
/-- The second half of the rows of a shard's tile. -/
abbrev shardHi {α : Type} (x : S1x832x704.Idx → α) : S1x416x704.Idx → α := VecWindow.window x ![0, 416, 0] S1x416x704.size inb_S1x832x704_S1x416x704_0_416_0
/-- A tile put together from its two halves (over `x`, of which nothing is left). -/
def bothRows {α : Type} (x : S832x1024.Idx → α) (lo hi : S416x1024.Idx → α) : S832x1024.Idx → α :=
  VecWindow.put (VecWindow.put x ![0, 0] S416x1024.size lo) ![416, 0] S416x1024.size hi
/-- A shard's tile put together from its two halves (over `x`, of which nothing is left). -/
def bothShard {α : Type} (x : S1x832x704.Idx → α) (lo hi : S1x416x704.Idx → α) : S1x832x704.Idx → α :=
  VecWindow.put (VecWindow.put x ![0, 0, 0] S1x416x704.size lo) ![0, 416, 0] S1x416x704.size hi

theorem bothRows_base {α : Type} (x x' : S832x1024.Idx → α) (lo hi : S416x1024.Idx → α) : bothRows x lo hi = bothRows x' lo hi := by
  funext y
  unfold bothRows VecWindow.put
  by_cases h : ∀ a, (![416, 0] : Fin 2 → ℕ) a ≤ (y a).val ∧ (y a).val < (![416, 0] : Fin 2 → ℕ) a + S416x1024.size a
  · rw [dif_pos h, dif_pos h]
  · have h' : ∀ a, (![0, 0] : Fin 2 → ℕ) a ≤ (y a).val ∧ (y a).val < (![0, 0] : Fin 2 → ℕ) a + S416x1024.size a := by
      have h0 : (y 0).val < 832 := (y 0).isLt
      have h1 : (y 1).val < 1024 := (y 1).isLt
      have hn : ¬ (416 ≤ (y 0).val) := fun hh => h (by
        intro a; fin_cases a
        · exact ⟨hh, (by show (y 0).val < 416 + 416; omega)⟩
        · exact ⟨Nat.zero_le _, (by show (y 1).val < 0 + 1024; omega)⟩)
      intro a; fin_cases a
      · exact ⟨Nat.zero_le _, (by show (y 0).val < 0 + 416; omega)⟩
      · exact ⟨Nat.zero_le _, (by show (y 1).val < 0 + 1024; omega)⟩
    rw [dif_neg h, dif_neg h, dif_pos h', dif_pos h']

theorem bothShard_base {α : Type} (x x' : S1x832x704.Idx → α) (lo hi : S1x416x704.Idx → α) : bothShard x lo hi = bothShard x' lo hi := by
  funext y
  unfold bothShard VecWindow.put
  by_cases h : ∀ a, (![0, 416, 0] : Fin 3 → ℕ) a ≤ (y a).val ∧ (y a).val < (![0, 416, 0] : Fin 3 → ℕ) a + S1x416x704.size a
  · rw [dif_pos h, dif_pos h]
  · have h' : ∀ a, (![0, 0, 0] : Fin 3 → ℕ) a ≤ (y a).val ∧ (y a).val < (![0, 0, 0] : Fin 3 → ℕ) a + S1x416x704.size a := by
      have h0 : (y 0).val < 1 := (y 0).isLt
      have h1 : (y 1).val < 832 := (y 1).isLt
      have h2 : (y 2).val < 704 := (y 2).isLt
      have hn : ¬ (416 ≤ (y 1).val) := fun hh => h (by
        intro a; fin_cases a
        · exact ⟨Nat.zero_le _, (by show (y 0).val < 0 + 1; omega)⟩
        · exact ⟨hh, (by show (y 1).val < 416 + 416; omega)⟩
        · exact ⟨Nat.zero_le _, (by show (y 2).val < 0 + 704; omega)⟩)
      intro a; fin_cases a
      · exact ⟨Nat.zero_le _, (by show (y 0).val < 0 + 1; omega)⟩
      · exact ⟨Nat.zero_le _, (by show (y 1).val < 0 + 416; omega)⟩
      · exact ⟨Nat.zero_le _, (by show (y 2).val < 0 + 704; omega)⟩
    rw [dif_neg h, dif_neg h, dif_pos h', dif_pos h']

theorem readAt_window {sp : Space} {s : Shape} {e : EltTy} {Val : EltTy → Type} (v : View sig .tc sp s e) (f : v.ty.Contents Val) {off size : Fin s.rank → ℕ}
    (inb : ∀ a, off a + size a ≤ s.size a) :
    v.readAt Val (Rect.unit off size inb).toLoadRect f = VecWindow.window (v.read Val f) off size inb :=
  View.readAt_unit v f inb rfl inb

theorem read_bothRows {sp : Space} {e : EltTy} {Val : EltTy → Type} (v : View sig .tc sp S832x1024 e) (f : v.ty.Contents Val) (x : S832x1024.Idx → Val e)
    (lo hi : S416x1024.Idx → Val e) (L : List (View.Piece Val S832x1024 e)) (lo' hi' : S416x1024.Idx → Val e) (hlo : lo = lo') (hhi : hi = hi') :
    v.read Val (v.writes Val f (⟨Rect.unit (s := S832x1024) ![416, 0] S416x1024.size inb_S832x1024_S416x1024_416_0, hi⟩
      :: ⟨Rect.unit (s := S832x1024) ![0, 0] S416x1024.size inb_S832x1024_S416x1024_0_0, lo⟩ :: L)) = bothRows x lo' hi' := by
  subst hlo hhi
  rw [View.read_writes_cons_put v f inb_S832x1024_S416x1024_416_0 hi _ rfl, View.read_writes_cons_put v f inb_S832x1024_S416x1024_0_0 lo _ rfl]
  exact bothRows_base _ _ _ _

theorem read_bothShard {sp : Space} {e : EltTy} {Val : EltTy → Type} (v : View sig .tc sp S1x832x704 e) (f : v.ty.Contents Val) (x : S1x832x704.Idx → Val e)
    (lo hi : S1x416x704.Idx → Val e) (L : List (View.Piece Val S1x832x704 e)) (lo' hi' : S1x416x704.Idx → Val e) (hlo : lo = lo') (hhi : hi = hi') :
    v.read Val (v.writes Val f (⟨Rect.unit (s := S1x832x704) ![0, 416, 0] S1x416x704.size inb_S1x832x704_S1x416x704_0_416_0, hi⟩
      :: ⟨Rect.unit (s := S1x832x704) ![0, 0, 0] S1x416x704.size inb_S1x832x704_S1x416x704_0_0_0, lo⟩ :: L)) = bothShard x lo' hi' := by
  subst hlo hhi
  rw [View.read_writes_cons_put v f inb_S1x832x704_S1x416x704_0_416_0 hi _ rfl, View.read_writes_cons_put v f inb_S1x832x704_S1x416x704_0_0_0 lo _ rfl]
  exact bothShard_base _ _ _ _

/-- The second half read after a store of the first half: what was there before. -/
theorem readHi_after_lo {sp : Space} {e : EltTy} {Val : EltTy → Type} (v : View sig .tc sp S832x1024 e) (f : v.ty.Contents Val)
    (lo : S416x1024.Idx → Val e) (L : List (View.Piece Val S832x1024 e)) :
    v.readAt Val (Rect.unit (s := S832x1024) ![416, 0] S416x1024.size inb_S832x1024_S416x1024_416_0).toLoadRect
      (v.writes Val f (⟨Rect.unit (s := S832x1024) ![0, 0] S416x1024.size inb_S832x1024_S416x1024_0_0, lo⟩ :: L)) = rowsHi (v.read Val (v.writes Val f L)) := by
  rw [readAt_window, View.read_writes_cons_put v f inb_S832x1024_S416x1024_0_0 lo _ rfl,
    VecWindow.window_put_of_disjoint _ _ _ _ _ _ _ 0 (Or.inr (by decide))]

/-- The gradient at the gate's product, from the rows `dy`, the down weights and the gate's slope. -/
def actDa (dy : Vec F S832x1024 .bf16) (wd : Vec F S1x704x1024 .bf16) (ga : Vec F S1x832x704 .bf16) : Vec F S1x832x704 .bf16 :=
  bothShard ga (k1_pay12 (rowsLo dy) wd (shardLo ga)) (k1_pay18 (k1_pay9 (rowsHi dy) wd) (shardHi ga))
/-- The gradient at the up product. -/
def actDb (dy : Vec F S832x1024 .bf16) (wd : Vec F S1x704x1024 .bf16) (gb : Vec F S1x832x704 .bf16) : Vec F S1x832x704 .bf16 :=
  bothShard gb (k1_pay13 (rowsLo dy) wd (shardLo gb)) (k1_pay19 (k1_pay9 (rowsHi dy) wd) (shardHi gb))
/-- The first half of the sum over the shards after one more. -/
abbrev actDnLo (dy : Vec F S832x1024 .bf16) (wg wu wd : Vec F S1x704x1024 .bf16) (ga gb : Vec F S1x832x704 .bf16) (acc : Vec F S832x1024 .f32) : Vec F S416x1024 .f32 :=
  k1_pay15 (k1_pay10 (rowsLo dy) wd (shardLo ga)) (k1_pay11 (rowsLo dy) wd (shardLo gb)) (rowsLo acc) (k1_pay14 wg) wu
/-- The second half of it. -/
abbrev actDnHi (dy : Vec F S832x1024 .bf16) (wg wu wd : Vec F S1x704x1024 .bf16) (ga gb : Vec F S1x832x704 .bf16) (acc : Vec F S832x1024 .f32) : Vec F S416x1024 .f32 :=
  k1_pay4 (k1_pay17 (k1_pay9 (rowsHi dy) wd) (shardHi gb)) (rowsHi acc) (k1_pay20 (k1_pay9 (rowsHi dy) wd) (shardHi ga) wg) wu
/-- The sum over the shards after one more. -/
def actDn (dy : Vec F S832x1024 .bf16) (wg wu wd : Vec F S1x704x1024 .bf16) (ga gb : Vec F S1x832x704 .bf16) (acc : Vec F S832x1024 .f32) : Vec F S832x1024 .f32 :=
  bothRows acc (actDnLo dy wg wu wd ga gb acc) (actDnHi dy wg wu wd ga gb acc)
/-- The gradient at the rows, from the whole sum's halves. -/
def actDh (dho h : Vec F S832x1024 .f32) (g : Vec F S1x1024 .f32) (dy : Vec F S832x1024 .bf16) (wg wu wd : Vec F S1x704x1024 .bf16) (ga gb : Vec F S1x832x704 .bf16)
    (acc : Vec F S832x1024 .f32) : Vec F S832x1024 .f32 :=
  bothRows dho
    (k1_pay32 (k1_pay23 (rowsLo dy) wd (shardLo ga)) (k1_pay24 (rowsLo dy) wd (shardLo gb)) (rowsLo acc) (k1_pay27 wg) wu (rowsLo h) g (rowsLo dho))
    (k1_pay6 (k1_pay37 (k1_pay22 (rowsHi dy) wd) (shardHi ga) (shardHi gb) (rowsHi acc) wg wu) (rowsHi h) (k1_pay38 (rowsHi h)) (k1_pay39 (rowsHi h)) g (rowsHi dho))
/-- The gradient of the gains after one more tile. -/
def actDg (h : Vec F S832x1024 .f32) (dy : Vec F S832x1024 .bf16) (wg wu wd : Vec F S1x704x1024 .bf16) (ga gb : Vec F S1x832x704 .bf16)
    (acc : Vec F S832x1024 .f32) (dg : Vec F S1x1024 .f32) : Vec F S1x1024 .f32 :=
  k1_pay7 (k1_pay31 (k1_pay23 (rowsLo dy) wd (shardLo ga)) (k1_pay24 (rowsLo dy) wd (shardLo gb)) (rowsLo acc) (k1_pay27 wg) wu (rowsLo h))
    (k1_pay37 (k1_pay22 (rowsHi dy) wd) (shardHi ga) (shardHi gb) (rowsHi acc) wg wu) (rowsHi h) (k1_pay39 (rowsHi h)) dg

end Cert.Chain

end
-- ==== Proof.ActDat.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import proofs.«01_k».proof.Proof.ActTerms

@[expose] public section

set_option maxRecDepth 16384

noncomputable section

/-! The activation-gradient call: what each point of its grid computes, and what is carried between points. -/

namespace Cert.Chain.Act

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 holds its block at every point. -/
theorem beforeOf0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 holds its block at every point. -/
theorem beforeOf1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 holds its block at every point. -/
theorem beforeOf2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 holds its block at every point. -/
theorem beforeOf3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4 holds its block at every point. -/
theorem beforeOf4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5 holds its block at every point. -/
theorem beforeOf5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6 holds its block at every point. -/
theorem beforeOf6 {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Window 7 holds its block at every point. -/
theorem beforeOf7 {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! Which branches the body takes, and which blocks it leaves alone, by the point. -/

theorem hcond1 : ∀ t : Fin cfg1.N, k1_cond1 (grid1.coords t) = 1#1 ↔ t.val % 4 = 0 := by decide +kernel
theorem hcond2 : ∀ t : Fin cfg1.N, k1_cond2 (grid1.coords t) = 1#1 ↔ t.val = 0 := by decide +kernel
theorem hcond3 : ∀ t : Fin cfg1.N, k1_cond3 (grid1.coords t) = 1#1 ↔ ¬ t.val % 4 = 3 := by decide +kernel
theorem hcond4 : ∀ t : Fin cfg1.N, k1_cond4 (grid1.coords t) = 1#1 ↔ t.val % 4 = 3 := by decide +kernel
theorem live8 : ∀ t : Fin cfg1.N, t.val % 4 = 3 → cfg1.idle 8 (grid1.coords t) = false := by decide +kernel
theorem idle8 : ∀ t : Fin cfg1.N, ¬ (t.val % 4 = 3) → cfg1.idle 8 (grid1.coords t) = true := by decide +kernel
theorem live9 : ∀ t : Fin cfg1.N, True → cfg1.idle 9 (grid1.coords t) = false := by decide +kernel
theorem idle9 : ∀ t : Fin cfg1.N, ¬ (True) → cfg1.idle 9 (grid1.coords t) = true := by decide +kernel
theorem live10 : ∀ t : Fin cfg1.N, True → cfg1.idle 10 (grid1.coords t) = false := by decide +kernel
theorem idle10 : ∀ t : Fin cfg1.N, ¬ (True) → cfg1.idle 10 (grid1.coords t) = true := by decide +kernel
theorem live11 : ∀ t : Fin cfg1.N, t.val = 0 ∨ t.val % 4 = 3 → cfg1.idle 11 (grid1.coords t) = false := by decide +kernel
theorem idle11 : ∀ t : Fin cfg1.N, ¬ (t.val = 0 ∨ t.val % 4 = 3) → cfg1.idle 11 (grid1.coords t) = true := by decide +kernel
theorem live12 : ∀ t : Fin cfg1.N, t.val % 4 = 0 → cfg1.idle 12 (grid1.coords t) = false := by decide +kernel
theorem idle12 : ∀ t : Fin cfg1.N, ¬ (t.val % 4 = 0) → cfg1.idle 12 (grid1.coords t) = true := by decide +kernel
theorem noFlush8 (t : Fin cfg1.N) (h : ¬ (t.val % 4 = 3)) : (cfg1.win 8).flush t = false :=
  (Bool.not_eq_true _).mp fun hf => h ((flush1_8 t).mp hf)
theorem doFlush8 (t : Fin cfg1.N) (h : t.val % 4 = 3) : (cfg1.win 8).flush t = true := (flush1_8 t).mpr h
theorem noFlush11 (t : Fin cfg1.N) (h : ¬ (t.val % 20 = 19)) : (cfg1.win 11).flush t = false :=
  (Bool.not_eq_true _).mp fun hf => h ((flush1_11 t).mp hf)
theorem doFlush11 (t : Fin cfg1.N) (h : t.val % 20 = 19) : (cfg1.win 11).flush t = true := (flush1_11 t).mpr h
theorem noFlush12 (t : Fin cfg1.N) (h : ¬ (t.val % 4 = 3)) : (cfg1.win 12).flush t = false :=
  (Bool.not_eq_true _).mp fun hf => h ((flush1_12 t).mp hf)
theorem doFlush12 (t : Fin cfg1.N) (h : t.val % 4 = 3) : (cfg1.win 12).flush t = true := (flush1_12 t).mpr h

/-! The staging buffers at a point, and the scratch. -/

abbrev ms0 (t : Fin cfg1.N) : Memref sig .tc .vmem S832x1024 .f32 := win1_0.stage (cfg1.slots t 0)
abbrev ms1 (t : Fin cfg1.N) : Memref sig .tc .vmem S832x1024 .f32 := win1_1.stage (cfg1.slots t 1)
abbrev ms2 (t : Fin cfg1.N) : Memref sig .tc .vmem S1x1024 .f32 := win1_2.stage (cfg1.slots t 2)
abbrev ms3 (t : Fin cfg1.N) : Memref sig .tc .vmem S1x832x704 .bf16 := win1_3.stage (cfg1.slots t 3)
abbrev ms4 (t : Fin cfg1.N) : Memref sig .tc .vmem S1x832x704 .bf16 := win1_4.stage (cfg1.slots t 4)
abbrev ms5 (t : Fin cfg1.N) : Memref sig .tc .vmem S1x704x1024 .bf16 := win1_5.stage (cfg1.slots t 5)
abbrev ms6 (t : Fin cfg1.N) : Memref sig .tc .vmem S1x704x1024 .bf16 := win1_6.stage (cfg1.slots t 6)
abbrev ms7 (t : Fin cfg1.N) : Memref sig .tc .vmem S1x704x1024 .bf16 := win1_7.stage (cfg1.slots t 7)
abbrev ms8 (t : Fin cfg1.N) : Memref sig .tc .vmem S832x1024 .f32 := win1_8.stage (cfg1.slots t 8)
abbrev ms9 (t : Fin cfg1.N) : Memref sig .tc .vmem S1x832x704 .bf16 := win1_9.stage (cfg1.slots t 9)
abbrev ms10 (t : Fin cfg1.N) : Memref sig .tc .vmem S1x832x704 .bf16 := win1_10.stage (cfg1.slots t 10)
abbrev ms11 (t : Fin cfg1.N) : Memref sig .tc .vmem S1x1024 .f32 := win1_11.stage (cfg1.slots t 11)
abbrev ms12 (t : Fin cfg1.N) : Memref sig .tc .vmem S832x1024 .bf16 := win1_12.stage (cfg1.slots t 12)
abbrev sc0 : Memref sig .tc .vmem S832x1024 .f32 := Memref.whole cc1_scratch0

/-- The scoped buffers the call does not name. -/
abbrev rest (c : Dev nD) : sProp 𝕄 := Pipeline.scopedRestBut (Ix := Unit) (Name := ℕ) (U := UR sig nD τ) (Lvl := ℕ) (Val := Elt F) spec1 c [cc1_scratch0]

/-- What the launch hands over: the scratch at anything, the other scoped buffers and the generator register. -/
theorem PhiA_eq (c : Dev nD) :
    (Pipeline.ΦA spec1 c : sProp 𝕄)
      = iprop(iprop(iprop((∃ d, owns (c : Thread nD τ) sc0 fullShare d)) ∗ rest c) ∗ (∃ r, prngReg c r)) := by
  unfold Pipeline.ΦA; rw [scopedRest1_split]; simp only [sc0, owns_whole]; try rfl

/-! What each point computes. -/

/-- The first point of the tile that point `n` belongs to. -/
abbrev tile0 (n : ℕ) (h : n < cfg1.N) : Fin cfg1.N := ⟨4 * (n / 4), Nat.lt_of_le_of_lt (Nat.mul_div_le n 4) h⟩

/-- The scaled gradient of the tile's rows. -/
def dyAt (c : Dev nD) (n : ℕ) (h : n < cfg1.N) : Vec F S832x1024 .bf16 := k1_pay1 (iblk V c 0 (tile0 n h))

/-- The gradient at the normalised rows over the shards so far; the last shard's part is not stored. -/
def dnAt (c : Dev nD) : (n : ℕ) → n < cfg1.N → Vec F S832x1024 .f32
  | 0, h => actDn (dyAt V c 0 h) (iblk V c 5 ⟨0, h⟩) (iblk V c 6 ⟨0, h⟩) (iblk V c 7 ⟨0, h⟩) (iblk V c 3 ⟨0, h⟩) (iblk V c 4 ⟨0, h⟩) k1_pay2
  | n + 1, h =>
    if (n + 1) % 4 = 0 then
      actDn (dyAt V c (n + 1) h) (iblk V c 5 ⟨n + 1, h⟩) (iblk V c 6 ⟨n + 1, h⟩) (iblk V c 7 ⟨n + 1, h⟩) (iblk V c 3 ⟨n + 1, h⟩) (iblk V c 4 ⟨n + 1, h⟩) k1_pay2
    else if (n + 1) % 4 = 3 then dnAt c n (Nat.lt_of_succ_lt h)
    else actDn (dyAt V c (n + 1) h) (iblk V c 5 ⟨n + 1, h⟩) (iblk V c 6 ⟨n + 1, h⟩) (iblk V c 7 ⟨n + 1, h⟩) (iblk V c 3 ⟨n + 1, h⟩) (iblk V c 4 ⟨n + 1, h⟩)
      (dnAt c n (Nat.lt_of_succ_lt h))

/-- The gradient of the gains over the tiles so far. -/
def dgAt (c : Dev nD) : (n : ℕ) → n < cfg1.N → Vec F S1x1024 .f32
  | 0, h => k1_pay3
  | n + 1, h =>
    if (n + 1) % 4 = 3 then
      actDg (iblk V c 1 ⟨n + 1, h⟩) (dyAt V c (n + 1) h) (iblk V c 5 ⟨n + 1, h⟩) (iblk V c 6 ⟨n + 1, h⟩) (iblk V c 7 ⟨n + 1, h⟩) (iblk V c 3 ⟨n + 1, h⟩) (iblk V c 4 ⟨n + 1, h⟩)
        (dnAt V c n (Nat.lt_of_succ_lt h)) (dgAt c n (Nat.lt_of_succ_lt h))
    else dgAt c n (Nat.lt_of_succ_lt h)

theorem dnAt_first (c : Dev nD) (t : Fin cfg1.N) (h0 : t.val % 4 = 0) :
    dnAt V c t.val t.isLt = actDn (dyAt V c t.val t.isLt) (iblk V c 5 t) (iblk V c 6 t) (iblk V c 7 t) (iblk V c 3 t) (iblk V c 4 t) k1_pay2 := by
  obtain ⟨n, h⟩ := t
  cases n with
  | zero => rfl
  | succ n => dsimp only [dnAt]; rw [if_pos h0]

theorem dnAt_mid (c : Dev nD) (t : Fin cfg1.N) (h0 : ¬ t.val % 4 = 0) (h1 : ¬ t.val % 4 = 3) :
    dnAt V c t.val t.isLt = actDn (dyAt V c t.val t.isLt) (iblk V c 5 t) (iblk V c 6 t) (iblk V c 7 t) (iblk V c 3 t) (iblk V c 4 t)
      (dnAt V c (t.val - 1) (Nat.lt_of_le_of_lt (Nat.sub_le _ _) t.isLt)) := by
  obtain ⟨n, h⟩ := t
  cases n with
  | zero => exact absurd rfl h0
  | succ n => dsimp only [dnAt]; rw [if_neg h0, if_neg h1]; rfl

theorem dnAt_last (c : Dev nD) (t : Fin cfg1.N) (h1 : t.val % 4 = 3) : dnAt V c t.val t.isLt = dnAt V c (t.val - 1) (Nat.lt_of_le_of_lt (Nat.sub_le _ _) t.isLt) := by
  obtain ⟨n, h⟩ := t
  cases n with
  | zero => exact absurd h1 (by show ¬ 0 % 4 = 3; decide)
  | succ n =>
    have h0 : ¬ (n + 1) % 4 = 0 := fun h0 => by simp only at h1; omega
    simp only [dnAt, if_neg h0, if_pos (show (n + 1) % 4 = 3 from h1)]; rfl

theorem dgAt_zero (c : Dev nD) (t : Fin cfg1.N) (h0 : t.val = 0) : dgAt V c t.val t.isLt = k1_pay3 := by
  obtain ⟨n, h⟩ := t
  cases n with
  | zero => rfl
  | succ n => exact absurd h0 (Nat.succ_ne_zero n)

theorem dgAt_keep (c : Dev nD) (n : ℕ) (h : n + 1 < cfg1.N) (h1 : ¬ (n + 1) % 4 = 3) : dgAt V c (n + 1) h = dgAt V c n (Nat.lt_of_succ_lt h) := by
  simp only [dgAt, if_neg h1]

theorem dgAt_last (c : Dev nD) (t : Fin cfg1.N) (h1 : t.val % 4 = 3) :
    dgAt V c t.val t.isLt = actDg (iblk V c 1 t) (dyAt V c t.val t.isLt) (iblk V c 5 t) (iblk V c 6 t) (iblk V c 7 t) (iblk V c 3 t) (iblk V c 4 t)
      (dnAt V c (t.val - 1) (Nat.lt_of_le_of_lt (Nat.sub_le _ _) t.isLt)) (dgAt V c (t.val - 1) (Nat.lt_of_le_of_lt (Nat.sub_le _ _) t.isLt)) := by
  obtain ⟨n, h⟩ := t
  cases n with
  | zero => exact absurd h1 (by show ¬ 0 % 4 = 3; decide)
  | succ n => dsimp only [dgAt]; rw [if_pos h1]; rfl

theorem tile0_first (t : Fin cfg1.N) (h0 : t.val % 4 = 0) : tile0 t.val t.isLt = t := Fin.ext (by simp only [tile0]; omega)
theorem tile0_next (t : Fin cfg1.N) (h0 : ¬ t.val % 4 = 0) :
    tile0 (t.val - 1) (Nat.lt_of_le_of_lt (Nat.sub_le _ _) t.isLt) = tile0 t.val t.isLt := Fin.ext (by simp only [tile0]; omega)

theorem dyAt_first (c : Dev nD) (t : Fin cfg1.N) (h0 : t.val % 4 = 0) : dyAt V c t.val t.isLt = k1_pay1 (iblk V c 0 t) := by
  unfold dyAt; rw [tile0_first t h0]
theorem dyAt_next (c : Dev nD) (t : Fin cfg1.N) (h0 : ¬ t.val % 4 = 0) :
    dyAt V c (t.val - 1) (Nat.lt_of_le_of_lt (Nat.sub_le _ _) t.isLt) = dyAt V c t.val t.isLt := by
  unfold dyAt; rw [tile0_next t h0]
theorem iblk0_tile (c : Dev nD) (n : ℕ) (h : n < cfg1.N) : dyAt V c n h = k1_pay1 (iblk V c 0 (tile0 n h)) := rfl

/-- What is carried between points: the scratch at what the point before left. -/
def PhiS (c : Dev nD) : (n : ℕ) → n ≤ cfg1.N → sProp 𝕄
  | 0, _ => Pipeline.ΦA spec1 c
  | n + 1, hn => iprop(iprop(iprop(owns (c : Thread nD τ) sc0 fullShare (dnAt V c n hn)) ∗ rest c) ∗ (∃ r, prngReg c r))

theorem PhiS_succ (c : Dev nD) (n : ℕ) (hn : n < cfg1.N) : PhiS V c (n + 1) hn = iprop(iprop(iprop(owns (c : Thread nD τ) sc0 fullShare (dnAt V c n hn)) ∗ rest c) ∗ (∃ r, prngReg c r)) := rfl

theorem PhiS_pos (c : Dev nD) (n : ℕ) (h : n ≤ cfg1.N) (hz : n ≠ 0) : PhiS V c n h = iprop(iprop(iprop(owns (c : Thread nD τ) sc0 fullShare (dnAt V c (n - 1) (by omega))) ∗ rest c) ∗ (∃ r, prngReg c r)) := by
  cases n with
  | zero => exact absurd rfl hz
  | succ n => rfl

/-- The data of the call on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => actDh (iblk V c 0 t) (iblk V c 1 t) (iblk V c 2 t) (dyAt V c t.val t.isLt) (iblk V c 5 t) (iblk V c 6 t) (iblk V c 7 t) (iblk V c 3 t) (iblk V c 4 t) (dnAt V c t.val t.isLt)
    | ⟨9, _⟩ => actDa (dyAt V c t.val t.isLt) (iblk V c 7 t) (iblk V c 3 t)
    | ⟨10, _⟩ => actDb (dyAt V c t.val t.isLt) (iblk V c 7 t) (iblk V c 4 t)
    | ⟨11, _⟩ => dgAt V c t.val t.isLt
    | ⟨12, _⟩ => dyAt V c t.val t.isLt
  Φ t := PhiS V c t.val (Nat.le_of_lt_succ t.isLt)
  q w := Pipeline.shareOf spec1 w
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; exact Pipeline.Dat.Φ_castSucc (PhiS V c) t

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = iblk V c 6 t := by dsimp only [dat]
theorem after7 (c : Dev nD) (t : Fin cfg1.N) : (dat V c).after 7 t = iblk V c 7 t := by dsimp only [dat]
theorem after8 (c : Dev nD) (t : Fin cfg1.N) : (dat V c).after 8 t = actDh (iblk V c 0 t) (iblk V c 1 t) (iblk V c 2 t) (dyAt V c t.val t.isLt) (iblk V c 5 t) (iblk V c 6 t) (iblk V c 7 t) (iblk V c 3 t) (iblk V c 4 t) (dnAt V c t.val t.isLt) := by dsimp only [dat]
theorem after9 (c : Dev nD) (t : Fin cfg1.N) : (dat V c).after 9 t = actDa (dyAt V c t.val t.isLt) (iblk V c 7 t) (iblk V c 3 t) := by dsimp only [dat]
theorem after10 (c : Dev nD) (t : Fin cfg1.N) : (dat V c).after 10 t = actDb (dyAt V c t.val t.isLt) (iblk V c 7 t) (iblk V c 4 t) := by dsimp only [dat]
theorem after11 (c : Dev nD) (t : Fin cfg1.N) : (dat V c).after 11 t = dgAt V c t.val t.isLt := by dsimp only [dat]
theorem after12 (c : Dev nD) (t : Fin cfg1.N) : (dat V c).after 12 t = dyAt V c t.val t.isLt := by dsimp only [dat]

theorem before0 (c : Dev nD) (t : Fin cfg1.N) (d) : (dat V c).before 0 t d = iblk V c 0 t := beforeOf0 V (dat V c) (A_eq V c 0) (after0 V c) t d
theorem before1 (c : Dev nD) (t : Fin cfg1.N) (d) : (dat V c).before 1 t d = iblk V c 1 t := beforeOf1 V (dat V c) (A_eq V c 1) (after1 V c) t d
theorem before2 (c : Dev nD) (t : Fin cfg1.N) (d) : (dat V c).before 2 t d = iblk V c 2 t := beforeOf2 V (dat V c) (A_eq V c 2) (after2 V c) t d
theorem before3 (c : Dev nD) (t : Fin cfg1.N) (d) : (dat V c).before 3 t d = iblk V c 3 t := beforeOf3 V (dat V c) (A_eq V c 3) (after3 V c) t d
theorem before4 (c : Dev nD) (t : Fin cfg1.N) (d) : (dat V c).before 4 t d = iblk V c 4 t := beforeOf4 V (dat V c) (A_eq V c 4) (after4 V c) t d
theorem before5 (c : Dev nD) (t : Fin cfg1.N) (d) : (dat V c).before 5 t d = iblk V c 5 t := beforeOf5 V (dat V c) (A_eq V c 5) (after5 V c) t d
theorem before6 (c : Dev nD) (t : Fin cfg1.N) (d) : (dat V c).before 6 t d = iblk V c 6 t := beforeOf6 V (dat V c) (A_eq V c 6) (after6 V c) t d
theorem before7 (c : Dev nD) (t : Fin cfg1.N) (d) : (dat V c).before 7 t d = iblk V c 7 t := beforeOf7 V (dat V c) (A_eq V c 7) (after7 V c) t d

/-- After a tile's first point the scaled gradient stands in its block. -/
theorem before12 (c : Dev nD) : ∀ (n : ℕ) (h : n < cfg1.N), ¬ n % 4 = 0 → ∀ d, (dat V c).before 12 ⟨n, h⟩ d = dyAt V c n h
  | 0, _, h0, _ => absurd rfl h0
  | n + 1, h, h0, d => by
    have hn : n < cfg1.N := Nat.lt_of_succ_lt h
    rw [(dat V c).before_of_pos 12 ⟨n + 1, h⟩ (Nat.succ_ne_zero n) ((cfg1.win 12).fetch_out rfl _) d]
    rw [show (cfg1.win 12).flush ⟨(⟨n + 1, h⟩ : Fin cfg1.N).val - 1, Nat.lt_of_le_of_lt (Nat.sub_le _ _) h⟩ = false from noFlush12 ⟨n, hn⟩ (by show ¬ n % 4 = 3; omega),
      if_neg Bool.false_ne_true]
    show (dat V c).left 12 ⟨n, hn⟩ d = _
    rw [← dyAt_next V c ⟨n + 1, h⟩ h0]
    show _ = dyAt V c n hn
    by_cases hm : n % 4 = 0
    · unfold Dat.left; rw [live12 ⟨n, hn⟩ hm]
      show (dat V c).kept 12 ⟨n, hn⟩ d = _
      unfold Dat.kept
      rw [Pipeline.fill_of_clip_none (cfg := cfg1) 12 _ (fun _ => rfl) d ((dat V c).after 12 ⟨n, hn⟩), Window.fill_cut, after12]
    · unfold Dat.left; rw [idle12 ⟨n, hn⟩ hm]
      exact before12 c n hn hm d

/-- After the first point the gradient of the gains stands in its block as the point before left it. -/
theorem before11 (c : Dev nD) : ∀ (n : ℕ) (h : n + 1 < cfg1.N) (d), (dat V c).before 11 ⟨n + 1, h⟩ d = dgAt V c n (Nat.lt_of_succ_lt h)
  | n, h, d => by
    have hn : n < cfg1.N := Nat.lt_of_succ_lt h
    have hN : n + 1 < 20 := lt_of_lt_of_eq h (show cfg1.N = 20 from N_1)
    rw [(dat V c).before_of_pos 11 ⟨n + 1, h⟩ (Nat.succ_ne_zero n) ((cfg1.win 11).fetch_out rfl _) d]
    rw [show (cfg1.win 11).flush ⟨(⟨n + 1, h⟩ : Fin cfg1.N).val - 1, Nat.lt_of_le_of_lt (Nat.sub_le _ _) h⟩ = false from noFlush11 ⟨n, hn⟩ (by show ¬ n % 20 = 19; omega),
      if_neg Bool.false_ne_true]
    show (dat V c).left 11 ⟨n, hn⟩ d = _
    by_cases hm : n = 0 ∨ n % 4 = 3
    · unfold Dat.left; rw [live11 ⟨n, hn⟩ hm]
      show (dat V c).kept 11 ⟨n, hn⟩ d = _
      unfold Dat.kept
      rw [Pipeline.fill_of_clip_none (cfg := cfg1) 11 _ (fun _ => rfl) d ((dat V c).after 11 ⟨n, hn⟩), Window.fill_cut, after11]
    · unfold Dat.left; rw [idle11 ⟨n, hn⟩ hm]
      match n, h, hn, hm with
      | 0, _, _, hm => exact absurd (Or.inl rfl) hm
      | k + 1, h, hn, hm =>
        rw [dgAt_keep V c k hn (fun h => hm (Or.inr h))]
        exact before11 c k hn d

theorem before11' (c : Dev nD) (t : Fin cfg1.N) (h0 : ¬ t.val = 0) (d) :
    (dat V c).before 11 t d = dgAt V c (t.val - 1) (Nat.lt_of_le_of_lt (Nat.sub_le _ _) t.isLt) := by
  obtain ⟨n, h⟩ := t
  cases n with
  | zero => exact absurd rfl h0
  | succ n => exact before11 V c n h d

/-- The carried contents may be forgotten. -/
theorem Phi_any (c : Dev nD) (n : ℕ) (h : n ≤ cfg1.N) : PhiS V c n h ⊢ (Pipeline.ΦA spec1 c : sProp 𝕄) := by
  by_cases hz : n = 0
  · subst hz; exact Idealize.SL.BI.Entails.refl _
  · rw [PhiS_pos V c _ _ hz, PhiA_eq]
    iintro ⟨⟨HS0, Hr⟩, Hg⟩
    isplitl [HS0 Hr]
    · isplitl [HS0]
      · iexists _; iexact HS0
      iexact Hr
    iexact Hg

/-- What the launch hands the call is what is held before the first point, -/
theorem hin (c : Dev nD) : Pipeline.ΦA spec1 c ⊢ (dat V c).Φ 0 := by
  rw [show (dat V c).Φ 0 = PhiS V c 0 (Nat.zero_le _) from rfl]
  exact Idealize.SL.BI.Entails.refl _

/-- and what is held after the last is given back. -/
theorem hout (c : Dev nD) : (dat V c).Φ (Fin.last cfg1.N) ⊢ Pipeline.ΦA spec1 c := by
  rw [show (dat V c).Φ (Fin.last cfg1.N) = PhiS V c cfg1.N (Nat.le_refl _) from rfl]
  exact Phi_any V c _ _

end Cert.Chain.Act

end
-- ==== Proof.ActRun0.lean ====
module

public import proofs.«01_k».proof.Proof.ActTerms
public import Idealize.ShloMosaic.Lib.Tactic
public import Idealize.ShloMosaic.Lib.VecWindow

@[expose] public section

set_option maxRecDepth 16384

noncomputable section

namespace Cert.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 3200000 in
/-- The backward body on the very first shard and tile. -/
theorem act_start (c : Dev nD) (i : grid1.Coords) (arg2 : Memref sig .tc .vmem S832x1024 .f32) (harg2 : arg2.IsWhole) (arg3 : Memref sig .tc .vmem S832x1024 .f32) (harg3 : arg3.IsWhole) (arg4 : Memref sig .tc .vmem S1x1024 .f32) (harg4 : arg4.IsWhole) (arg5 : Memref sig .tc .vmem S1x832x704 .bf16) (harg5 : arg5.IsWhole) (arg6 : Memref sig .tc .vmem S1x832x704 .bf16) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S1x704x1024 .bf16) (harg9 : arg9.IsWhole) (arg10 : Memref sig .tc .vmem S832x1024 .f32) (harg10 : arg10.IsWhole) (arg11 : Memref sig .tc .vmem S1x832x704 .bf16) (harg11 : arg11.IsWhole) (arg12 : Memref sig .tc .vmem S1x832x704 .bf16) (harg12 : arg12.IsWhole) (arg13 : Memref sig .tc .vmem S1x1024 .f32) (harg13 : arg13.IsWhole) (arg14 : Memref sig .tc .vmem S832x1024 .bf16) (harg14 : arg14.IsWhole) (arg15 : Memref sig .tc .vmem S832x1024 .f32) (harg15 : arg15.IsWhole)
    (hc0 : k1_cond1 i = 1#1) (hc1 : k1_cond2 i = 1#1) (hc2 : k1_cond3 i = 1#1) (hc3 : ¬ k1_cond4 i = 1#1)
    (x2 : Vec F S832x1024 .f32) (x3 : Vec F S832x1024 .f32) (x4 : Vec F S1x1024 .f32) (x5 : Vec F S1x832x704 .bf16) (x6 : Vec F S1x832x704 .bf16) (x7 : Vec F S1x704x1024 .bf16) (x8 : Vec F S1x704x1024 .bf16) (x9 : Vec F S1x704x1024 .bf16) (x10 : Vec F S832x1024 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (actDa (k1_pay1 x2) x9 x5) ∗ owns (c : Thread nD τ) arg12 fullShare (actDb (k1_pay1 x2) x9 x6) ∗ owns (c : Thread nD τ) arg13 fullShare (k1_pay3) ∗ owns (c : Thread nD τ) arg14 fullShare (k1_pay1 x2) ∗ owns (c : Thread nD τ) arg15 fullShare (actDn (k1_pay1 x2) x7 x8 x9 x5 x6 k1_pay2)) -∗ K ⟨⟩))
      ⊢ wp frame (wpE (defs₀ (F := F)) Variants.none c none) E (cc1_ffn_bwd_act i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_ffn_bwd_act_eq_skeleton]; unfold cc1_ffn_bwd_act_skel
  simp only [k1_part1_eq_skeleton, k1_part2_eq_skeleton, k1_part3_eq_skeleton, k1_part4_eq_skeleton, k1_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  sl_exec (disch := first | sl_exact hc0 | sl_exact hc1 | sl_exact hc2 | sl_exact hc3)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; (try unfold actDa); (try unfold actDb); (try unfold actDn); (try unfold actDh); (try unfold actDg); (try unfold actDnLo); (try unfold actDnHi); sl_unfold_run_names; (try unfold View.readCov); (first | refine read_bothRows _ _ _ _ _ _ _ _ ?_ ?_ | refine read_bothShard _ _ _ _ _ _ _ _ ?_ ?_ | skip) <;> ((repeat first | rw [View.readAt_writes_full] | rw [View.readCov_full] | rw [readHi_after_lo] | rw [View.readAt_full] | rw [readAt_window] | rw [View.read_writes_full] | rw [Memref.IsWhole.read_unread]); (try rfl))
  isplitl [H12]
  · iexists _; isplitr; swap; · iexact H12
    ipureintro; (try unfold actDa); (try unfold actDb); (try unfold actDn); (try unfold actDh); (try unfold actDg); (try unfold actDnLo); (try unfold actDnHi); sl_unfold_run_names; (try unfold View.readCov); (first | refine read_bothRows _ _ _ _ _ _ _ _ ?_ ?_ | refine read_bothShard _ _ _ _ _ _ _ _ ?_ ?_ | skip) <;> ((repeat first | rw [View.readAt_writes_full] | rw [View.readCov_full] | rw [readHi_after_lo] | rw [View.readAt_full] | rw [readAt_window] | rw [View.read_writes_full] | rw [Memref.IsWhole.read_unread]); (try rfl))
  isplitl [H13]
  · iexists _; isplitr; swap; · iexact H13
    ipureintro; (try unfold actDa); (try unfold actDb); (try unfold actDn); (try unfold actDh); (try unfold actDg); (try unfold actDnLo); (try unfold actDnHi); sl_unfold_run_names; (try unfold View.readCov); (first | refine read_bothRows _ _ _ _ _ _ _ _ ?_ ?_ | refine read_bothShard _ _ _ _ _ _ _ _ ?_ ?_ | skip) <;> ((repeat first | rw [View.readAt_writes_full] | rw [View.readCov_full] | rw [readHi_after_lo] | rw [View.readAt_full] | rw [readAt_window] | rw [View.read_writes_full] | rw [Memref.IsWhole.read_unread]); (try rfl))
  isplitl [H14]
  · iexists _; isplitr; swap; · iexact H14
    ipureintro; (try unfold actDa); (try unfold actDb); (try unfold actDn); (try unfold actDh); (try unfold actDg); (try unfold actDnLo); (try unfold actDnHi); sl_unfold_run_names; (try unfold View.readCov); (first | refine read_bothRows _ _ _ _ _ _ _ _ ?_ ?_ | refine read_bothShard _ _ _ _ _ _ _ _ ?_ ?_ | skip) <;> ((repeat first | rw [View.readAt_writes_full] | rw [View.readCov_full] | rw [readHi_after_lo] | rw [View.readAt_full] | rw [readAt_window] | rw [View.read_writes_full] | rw [Memref.IsWhole.read_unread]); (try rfl))
  iexists _; isplitr; swap; · iexact H15
  ipureintro; (try unfold actDa); (try unfold actDb); (try unfold actDn); (try unfold actDh); (try unfold actDg); (try unfold actDnLo); (try unfold actDnHi); sl_unfold_run_names; (try unfold View.readCov); (first | refine read_bothRows _ _ _ _ _ _ _ _ ?_ ?_ | refine read_bothShard _ _ _ _ _ _ _ _ ?_ ?_ | skip) <;> ((repeat first | rw [View.readAt_writes_full] | rw [View.readCov_full] | rw [readHi_after_lo] | rw [View.readAt_full] | rw [readAt_window] | rw [View.read_writes_full] | rw [Memref.IsWhole.read_unread]); (try rfl))

end Cert.Chain

end
-- ==== Proof.ActRunA.lean ====
module

public import proofs.«01_k».proof.Proof.ActTerms
public import Idealize.ShloMosaic.Lib.Tactic
public import Idealize.ShloMosaic.Lib.VecWindow

@[expose] public section

set_option maxRecDepth 16384

noncomputable section

namespace Cert.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 3200000 in
/-- The backward body on the first shard of a later tile. -/
theorem act_first (c : Dev nD) (i : grid1.Coords) (arg2 : Memref sig .tc .vmem S832x1024 .f32) (harg2 : arg2.IsWhole) (arg3 : Memref sig .tc .vmem S832x1024 .f32) (harg3 : arg3.IsWhole) (arg4 : Memref sig .tc .vmem S1x1024 .f32) (harg4 : arg4.IsWhole) (arg5 : Memref sig .tc .vmem S1x832x704 .bf16) (harg5 : arg5.IsWhole) (arg6 : Memref sig .tc .vmem S1x832x704 .bf16) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S1x704x1024 .bf16) (harg9 : arg9.IsWhole) (arg10 : Memref sig .tc .vmem S832x1024 .f32) (harg10 : arg10.IsWhole) (arg11 : Memref sig .tc .vmem S1x832x704 .bf16) (harg11 : arg11.IsWhole) (arg12 : Memref sig .tc .vmem S1x832x704 .bf16) (harg12 : arg12.IsWhole) (arg13 : Memref sig .tc .vmem S1x1024 .f32) (harg13 : arg13.IsWhole) (arg14 : Memref sig .tc .vmem S832x1024 .bf16) (harg14 : arg14.IsWhole) (arg15 : Memref sig .tc .vmem S832x1024 .f32) (harg15 : arg15.IsWhole)
    (hc0 : k1_cond1 i = 1#1) (hc1 : ¬ k1_cond2 i = 1#1) (hc2 : k1_cond3 i = 1#1) (hc3 : ¬ k1_cond4 i = 1#1)
    (x2 : Vec F S832x1024 .f32) (x3 : Vec F S832x1024 .f32) (x4 : Vec F S1x1024 .f32) (x5 : Vec F S1x832x704 .bf16) (x6 : Vec F S1x832x704 .bf16) (x7 : Vec F S1x704x1024 .bf16) (x8 : Vec F S1x704x1024 .bf16) (x9 : Vec F S1x704x1024 .bf16) (x10 : Vec F S832x1024 .f32) (x13 : Vec F S1x1024 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare x13 ∗ (∃ d, owns (c : Thread nD τ) arg14 fullShare d) ∗ (∃ d, owns (c : Thread nD τ) arg15 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (actDa (k1_pay1 x2) x9 x5) ∗ owns (c : Thread nD τ) arg12 fullShare (actDb (k1_pay1 x2) x9 x6) ∗ owns (c : Thread nD τ) arg13 fullShare x13 ∗ owns (c : Thread nD τ) arg14 fullShare (k1_pay1 x2) ∗ owns (c : Thread nD τ) arg15 fullShare (actDn (k1_pay1 x2) x7 x8 x9 x5 x6 k1_pay2)) -∗ K ⟨⟩))
      ⊢ wp frame (wpE (defs₀ (F := F)) Variants.none c none) E (cc1_ffn_bwd_act i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_ffn_bwd_act_eq_skeleton]; unfold cc1_ffn_bwd_act_skel
  simp only [k1_part1_eq_skeleton, k1_part2_eq_skeleton, k1_part3_eq_skeleton, k1_part4_eq_skeleton, k1_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, %hf11, H11⟩, ⟨%d12, %f12, %hf12, H12⟩, ⟨%f13, %hf13, H13⟩, ⟨%d14, %f14, %hf14, H14⟩, ⟨%d15, %f15, %hf15, H15⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg13.eq_unread hf13
  sl_exec (disch := first | sl_exact hc0 | sl_exact hc1 | sl_exact hc2 | sl_exact hc3)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; (try unfold actDa); (try unfold actDb); (try unfold actDn); (try unfold actDh); (try unfold actDg); (try unfold actDnLo); (try unfold actDnHi); sl_unfold_run_names; (try unfold View.readCov); (first | refine read_bothRows _ _ _ _ _ _ _ _ ?_ ?_ | refine read_bothShard _ _ _ _ _ _ _ _ ?_ ?_ | skip) <;> ((repeat first | rw [View.readAt_writes_full] | rw [View.readCov_full] | rw [readHi_after_lo] | rw [View.readAt_full] | rw [readAt_window] | rw [View.read_writes_full] | rw [Memref.IsWhole.read_unread]); (try rfl))
  isplitl [H12]
  · iexists _; isplitr; swap; · iexact H12
    ipureintro; (try unfold actDa); (try unfold actDb); (try unfold actDn); (try unfold actDh); (try unfold actDg); (try unfold actDnLo); (try unfold actDnHi); sl_unfold_run_names; (try unfold View.readCov); (first | refine read_bothRows _ _ _ _ _ _ _ _ ?_ ?_ | refine read_bothShard _ _ _ _ _ _ _ _ ?_ ?_ | skip) <;> ((repeat first | rw [View.readAt_writes_full] | rw [View.readCov_full] | rw [readHi_after_lo] | rw [View.readAt_full] | rw [readAt_window] | rw [View.read_writes_full] | rw [Memref.IsWhole.read_unread]); (try rfl))
  isplitl [H13]
  · iexists _; isplitr; swap; · iexact H13
    ipureintro; exact harg13.read_unread _
  isplitl [H14]
  · iexists _; isplitr; swap; · iexact H14
    ipureintro; (try unfold actDa); (try unfold actDb); (try unfold actDn); (try unfold actDh); (try unfold actDg); (try unfold actDnLo); (try unfold actDnHi); sl_unfold_run_names; (try unfold View.readCov); (first | refine read_bothRows _ _ _ _ _ _ _ _ ?_ ?_ | refine read_bothShard _ _ _ _ _ _ _ _ ?_ ?_ | skip) <;> ((repeat first | rw [View.readAt_writes_full] | rw [View.readCov_full] | rw [readHi_after_lo] | rw [View.readAt_full] | rw [readAt_window] | rw [View.read_writes_full] | rw [Memref.IsWhole.read_unread]); (try rfl))
  iexists _; isplitr; swap; · iexact H15
  ipureintro; (try unfold actDa); (try unfold actDb); (try unfold actDn); (try unfold actDh); (try unfold actDg); (try unfold actDnLo); (try unfold actDnHi); sl_unfold_run_names; (try unfold View.readCov); (first | refine read_bothRows _ _ _ _ _ _ _ _ ?_ ?_ | refine read_bothShard _ _ _ _ _ _ _ _ ?_ ?_ | skip) <;> ((repeat first | rw [View.readAt_writes_full] | rw [View.readCov_full] | rw [readHi_after_lo] | rw [View.readAt_full] | rw [readAt_window] | rw [View.read_writes_full] | rw [Memref.IsWhole.read_unread]); (try rfl))

end Cert.Chain

end
-- ==== Proof.ActRunB.lean ====
module

public import proofs.«01_k».proof.Proof.ActTerms
public import Idealize.ShloMosaic.Lib.Tactic
public import Idealize.ShloMosaic.Lib.VecWindow

@[expose] public section

set_option maxRecDepth 16384

noncomputable section

namespace Cert.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 3200000 in
/-- The backward body on a middle shard. -/
theorem act_mid (c : Dev nD) (i : grid1.Coords) (arg2 : Memref sig .tc .vmem S832x1024 .f32) (harg2 : arg2.IsWhole) (arg3 : Memref sig .tc .vmem S832x1024 .f32) (harg3 : arg3.IsWhole) (arg4 : Memref sig .tc .vmem S1x1024 .f32) (harg4 : arg4.IsWhole) (arg5 : Memref sig .tc .vmem S1x832x704 .bf16) (harg5 : arg5.IsWhole) (arg6 : Memref sig .tc .vmem S1x832x704 .bf16) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S1x704x1024 .bf16) (harg9 : arg9.IsWhole) (arg10 : Memref sig .tc .vmem S832x1024 .f32) (harg10 : arg10.IsWhole) (arg11 : Memref sig .tc .vmem S1x832x704 .bf16) (harg11 : arg11.IsWhole) (arg12 : Memref sig .tc .vmem S1x832x704 .bf16) (harg12 : arg12.IsWhole) (arg13 : Memref sig .tc .vmem S1x1024 .f32) (harg13 : arg13.IsWhole) (arg14 : Memref sig .tc .vmem S832x1024 .bf16) (harg14 : arg14.IsWhole) (arg15 : Memref sig .tc .vmem S832x1024 .f32) (harg15 : arg15.IsWhole)
    (hc0 : ¬ k1_cond1 i = 1#1) (hc1 : ¬ k1_cond2 i = 1#1) (hc2 : k1_cond3 i = 1#1) (hc3 : ¬ k1_cond4 i = 1#1)
    (x2 : Vec F S832x1024 .f32) (x3 : Vec F S832x1024 .f32) (x4 : Vec F S1x1024 .f32) (x5 : Vec F S1x832x704 .bf16) (x6 : Vec F S1x832x704 .bf16) (x7 : Vec F S1x704x1024 .bf16) (x8 : Vec F S1x704x1024 .bf16) (x9 : Vec F S1x704x1024 .bf16) (x10 : Vec F S832x1024 .f32) (x13 : Vec F S1x1024 .f32) (x14 : Vec F S832x1024 .bf16) (x15 : Vec F S832x1024 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare x13 ∗ owns (c : Thread nD τ) arg14 fullShare x14 ∗ owns (c : Thread nD τ) arg15 fullShare x15
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (actDa x14 x9 x5) ∗ owns (c : Thread nD τ) arg12 fullShare (actDb x14 x9 x6) ∗ owns (c : Thread nD τ) arg13 fullShare x13 ∗ owns (c : Thread nD τ) arg14 fullShare x14 ∗ owns (c : Thread nD τ) arg15 fullShare (actDn x14 x7 x8 x9 x5 x6 x15)) -∗ K ⟨⟩))
      ⊢ wp frame (wpE (defs₀ (F := F)) Variants.none c none) E (cc1_ffn_bwd_act i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_ffn_bwd_act_eq_skeleton]; unfold cc1_ffn_bwd_act_skel
  simp only [k1_part1_eq_skeleton, k1_part2_eq_skeleton, k1_part3_eq_skeleton, k1_part4_eq_skeleton, k1_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, %hf11, H11⟩, ⟨%d12, %f12, %hf12, H12⟩, ⟨%f13, %hf13, H13⟩, ⟨%f14, %hf14, H14⟩, ⟨%f15, %hf15, H15⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg13.eq_unread hf13
  obtain rfl := harg14.eq_unread hf14
  obtain rfl := harg15.eq_unread hf15
  sl_exec (disch := first | sl_exact hc0 | sl_exact hc1 | sl_exact hc2 | sl_exact hc3)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; (try unfold actDa); (try unfold actDb); (try unfold actDn); (try unfold actDh); (try unfold actDg); (try unfold actDnLo); (try unfold actDnHi); sl_unfold_run_names; (try unfold View.readCov); (first | refine read_bothRows _ _ _ _ _ _ _ _ ?_ ?_ | refine read_bothShard _ _ _ _ _ _ _ _ ?_ ?_ | skip) <;> ((repeat first | rw [View.readAt_writes_full] | rw [View.readCov_full] | rw [readHi_after_lo] | rw [View.readAt_full] | rw [readAt_window] | rw [View.read_writes_full] | rw [Memref.IsWhole.read_unread]); (try rfl))
  isplitl [H12]
  · iexists _; isplitr; swap; · iexact H12
    ipureintro; (try unfold actDa); (try unfold actDb); (try unfold actDn); (try unfold actDh); (try unfold actDg); (try unfold actDnLo); (try unfold actDnHi); sl_unfold_run_names; (try unfold View.readCov); (first | refine read_bothRows _ _ _ _ _ _ _ _ ?_ ?_ | refine read_bothShard _ _ _ _ _ _ _ _ ?_ ?_ | skip) <;> ((repeat first | rw [View.readAt_writes_full] | rw [View.readCov_full] | rw [readHi_after_lo] | rw [View.readAt_full] | rw [readAt_window] | rw [View.read_writes_full] | rw [Memref.IsWhole.read_unread]); (try rfl))
  isplitl [H13]
  · iexists _; isplitr; swap; · iexact H13
    ipureintro; exact harg13.read_unread _
  isplitl [H14]
  · iexists _; isplitr; swap; · iexact H14
    ipureintro; exact harg14.read_unread _
  iexists _; isplitr; swap; · iexact H15
  ipureintro; (try unfold actDa); (try unfold actDb); (try unfold actDn); (try unfold actDh); (try unfold actDg); (try unfold actDnLo); (try unfold actDnHi); sl_unfold_run_names; (try unfold View.readCov); (first | refine read_bothRows _ _ _ _ _ _ _ _ ?_ ?_ | refine read_bothShard _ _ _ _ _ _ _ _ ?_ ?_ | skip) <;> ((repeat first | rw [View.readAt_writes_full] | rw [View.readCov_full] | rw [readHi_after_lo] | rw [View.readAt_full] | rw [readAt_window] | rw [View.read_writes_full] | rw [Memref.IsWhole.read_unread]); (try rfl))

end Cert.Chain

end
-- ==== Proof.ActRunC.lean ====
module

public import proofs.«01_k».proof.Proof.ActTerms
public import Idealize.ShloMosaic.Lib.Tactic
public import Idealize.ShloMosaic.Lib.VecWindow

@[expose] public section

set_option maxRecDepth 16384

noncomputable section

namespace Cert.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 3200000 in
/-- The backward body on the last shard: it takes the sum through the norm. -/
theorem act_last (c : Dev nD) (i : grid1.Coords) (arg2 : Memref sig .tc .vmem S832x1024 .f32) (harg2 : arg2.IsWhole) (arg3 : Memref sig .tc .vmem S832x1024 .f32) (harg3 : arg3.IsWhole) (arg4 : Memref sig .tc .vmem S1x1024 .f32) (harg4 : arg4.IsWhole) (arg5 : Memref sig .tc .vmem S1x832x704 .bf16) (harg5 : arg5.IsWhole) (arg6 : Memref sig .tc .vmem S1x832x704 .bf16) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S1x704x1024 .bf16) (harg9 : arg9.IsWhole) (arg10 : Memref sig .tc .vmem S832x1024 .f32) (harg10 : arg10.IsWhole) (arg11 : Memref sig .tc .vmem S1x832x704 .bf16) (harg11 : arg11.IsWhole) (arg12 : Memref sig .tc .vmem S1x832x704 .bf16) (harg12 : arg12.IsWhole) (arg13 : Memref sig .tc .vmem S1x1024 .f32) (harg13 : arg13.IsWhole) (arg14 : Memref sig .tc .vmem S832x1024 .bf16) (harg14 : arg14.IsWhole) (arg15 : Memref sig .tc .vmem S832x1024 .f32) (harg15 : arg15.IsWhole)
    (hc0 : ¬ k1_cond1 i = 1#1) (hc1 : ¬ k1_cond2 i = 1#1) (hc2 : ¬ k1_cond3 i = 1#1) (hc3 : k1_cond4 i = 1#1)
    (x2 : Vec F S832x1024 .f32) (x3 : Vec F S832x1024 .f32) (x4 : Vec F S1x1024 .f32) (x5 : Vec F S1x832x704 .bf16) (x6 : Vec F S1x832x704 .bf16) (x7 : Vec F S1x704x1024 .bf16) (x8 : Vec F S1x704x1024 .bf16) (x9 : Vec F S1x704x1024 .bf16) (x13 : Vec F S1x1024 .f32) (x14 : Vec F S832x1024 .bf16) (x15 : Vec F S832x1024 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x13 ∗ owns (c : Thread nD τ) arg14 fullShare x14 ∗ owns (c : Thread nD τ) arg15 fullShare x15
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (actDh x2 x3 x4 x14 x7 x8 x9 x5 x6 x15) ∗ owns (c : Thread nD τ) arg11 fullShare (actDa x14 x9 x5) ∗ owns (c : Thread nD τ) arg12 fullShare (actDb x14 x9 x6) ∗ owns (c : Thread nD τ) arg13 fullShare (actDg x3 x14 x7 x8 x9 x5 x6 x15 x13) ∗ owns (c : Thread nD τ) arg14 fullShare x14 ∗ owns (c : Thread nD τ) arg15 fullShare x15) -∗ K ⟨⟩))
      ⊢ wp frame (wpE (defs₀ (F := F)) Variants.none c none) E (cc1_ffn_bwd_act i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_ffn_bwd_act_eq_skeleton]; unfold cc1_ffn_bwd_act_skel
  simp only [k1_part1_eq_skeleton, k1_part2_eq_skeleton, k1_part3_eq_skeleton, k1_part4_eq_skeleton, k1_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, %hf10, H10⟩, ⟨%d11, %f11, %hf11, H11⟩, ⟨%d12, %f12, %hf12, H12⟩, ⟨%f13, %hf13, H13⟩, ⟨%f14, %hf14, H14⟩, ⟨%f15, %hf15, H15⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg13.eq_unread hf13
  obtain rfl := harg14.eq_unread hf14
  obtain rfl := harg15.eq_unread hf15
  sl_exec (disch := first | sl_exact hc0 | sl_exact hc1 | sl_exact hc2 | sl_exact hc3)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; (try unfold actDa); (try unfold actDb); (try unfold actDn); (try unfold actDh); (try unfold actDg); (try unfold actDnLo); (try unfold actDnHi); sl_unfold_run_names; (try unfold View.readCov); (first | refine read_bothRows _ _ _ _ _ _ _ _ ?_ ?_ | refine read_bothShard _ _ _ _ _ _ _ _ ?_ ?_ | skip) <;> ((repeat first | rw [View.readAt_writes_full] | rw [View.readCov_full] | rw [readHi_after_lo] | rw [View.readAt_full] | rw [readAt_window] | rw [View.read_writes_full] | rw [Memref.IsWhole.read_unread]); (try rfl))
  isplitl [H11]
  · iexists _; isplitr; swap; · iexact H11
    ipureintro; (try unfold actDa); (try unfold actDb); (try unfold actDn); (try unfold actDh); (try unfold actDg); (try unfold actDnLo); (try unfold actDnHi); sl_unfold_run_names; (try unfold View.readCov); (first | refine read_bothRows _ _ _ _ _ _ _ _ ?_ ?_ | refine read_bothShard _ _ _ _ _ _ _ _ ?_ ?_ | skip) <;> ((repeat first | rw [View.readAt_writes_full] | rw [View.readCov_full] | rw [readHi_after_lo] | rw [View.readAt_full] | rw [readAt_window] | rw [View.read_writes_full] | rw [Memref.IsWhole.read_unread]); (try rfl))
  isplitl [H12]
  · iexists _; isplitr; swap; · iexact H12
    ipureintro; (try unfold actDa); (try unfold actDb); (try unfold actDn); (try unfold actDh); (try unfold actDg); (try unfold actDnLo); (try unfold actDnHi); sl_unfold_run_names; (try unfold View.readCov); (first | refine read_bothRows _ _ _ _ _ _ _ _ ?_ ?_ | refine read_bothShard _ _ _ _ _ _ _ _ ?_ ?_ | skip) <;> ((repeat first | rw [View.readAt_writes_full] | rw [View.readCov_full] | rw [readHi_after_lo] | rw [View.readAt_full] | rw [readAt_window] | rw [View.read_writes_full] | rw [Memref.IsWhole.read_unread]); (try rfl))
  isplitl [H13]
  · iexists _; isplitr; swap; · iexact H13
    ipureintro; (try unfold actDa); (try unfold actDb); (try unfold actDn); (try unfold actDh); (try unfold actDg); (try unfold actDnLo); (try unfold actDnHi); sl_unfold_run_names; (try unfold View.readCov); (first | refine read_bothRows _ _ _ _ _ _ _ _ ?_ ?_ | refine read_bothShard _ _ _ _ _ _ _ _ ?_ ?_ | skip) <;> ((repeat first | rw [View.readAt_writes_full] | rw [View.readCov_full] | rw [readHi_after_lo] | rw [View.readAt_full] | rw [readAt_window] | rw [View.read_writes_full] | rw [Memref.IsWhole.read_unread]); (try rfl))
  isplitl [H14]
  · iexists _; isplitr; swap; · iexact H14
    ipureintro; exact harg14.read_unread _
  iexists _; isplitr; swap; · iexact H15
  ipureintro; exact harg15.read_unread _

end Cert.Chain

end
-- ==== Proof.ActBody.lean ====
module

public import proofs.«01_k».proof.Proof.ActDat
public import proofs.«01_k».proof.Proof.ActRun0
public import proofs.«01_k».proof.Proof.ActRunA
public import proofs.«01_k».proof.Proof.ActRunB
public import proofs.«01_k».proof.Proof.ActRunC

@[expose] public section

set_option maxRecDepth 16384

noncomputable section

/-! The activation-gradient call: its body does at every point what its data say. -/

namespace Cert.Chain.Act

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d))
    ∗ (∃ d, owns (c : Thread nD τ) (ms11 t) fullShare ((dat V c).before 11 t d))
    ∗ (∃ d, owns (c : Thread nD τ) (ms12 t) fullShare ((dat V c).before 12 t d)))
/-- and what it leaves. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t)

set_option maxHeartbeats 3200000 in
theorem body_start (c : Dev nD) (t : Fin cfg1.N) (hz : t.val = 0) :
    bodyPre V c t ⊢ wp frame (wpE (defs₀ (F := F)) Variants.none c none) Set.univ (bodyAt1 t) (fun _ => bodyPost V c t) := by
  have hN : t.val < 20 := lt_of_lt_of_eq t.isLt (show cfg1.N = 20 from N_1)
  unfold bodyPre bodyPost bodyAt1
  simp only [before0, before1, before2, before3, before4, before5, before6, before7]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [show cfg1.idle 0 (grid1.coords t) = false from rfl], after0]
  rw [show (dat V c).leavesExact 1 t = owns (c : Thread nD τ) (ms1 t) fullShare ((dat V c).after 1 t) from by
    unfold Dat.leavesExact; rw [show cfg1.idle 1 (grid1.coords t) = false from rfl], after1]
  rw [show (dat V c).leavesExact 2 t = owns (c : Thread nD τ) (ms2 t) fullShare ((dat V c).after 2 t) from by
    unfold Dat.leavesExact; rw [show cfg1.idle 2 (grid1.coords t) = false from rfl], after2]
  rw [show (dat V c).leavesExact 3 t = owns (c : Thread nD τ) (ms3 t) fullShare ((dat V c).after 3 t) from by
    unfold Dat.leavesExact; rw [show cfg1.idle 3 (grid1.coords t) = false from rfl], after3]
  rw [show (dat V c).leavesExact 4 t = owns (c : Thread nD τ) (ms4 t) fullShare ((dat V c).after 4 t) from by
    unfold Dat.leavesExact; rw [show cfg1.idle 4 (grid1.coords t) = false from rfl], after4]
  rw [show (dat V c).leavesExact 5 t = owns (c : Thread nD τ) (ms5 t) fullShare ((dat V c).after 5 t) from by
    unfold Dat.leavesExact; rw [show cfg1.idle 5 (grid1.coords t) = false from rfl], after5]
  rw [show (dat V c).leavesExact 6 t = owns (c : Thread nD τ) (ms6 t) fullShare ((dat V c).after 6 t) from by
    unfold Dat.leavesExact; rw [show cfg1.idle 6 (grid1.coords t) = false from rfl], after6]
  rw [show (dat V c).leavesExact 7 t = owns (c : Thread nD τ) (ms7 t) fullShare ((dat V c).after 7 t) from by
    unfold Dat.leavesExact; rw [show cfg1.idle 7 (grid1.coords t) = false from rfl], after7]
  rw [Dat.leavesExact_idle (dat V c) 8 t (idle8 t (by omega)) (noFlush8 t (by omega))]
  rw [show (dat V c).leavesExact 9 t = owns (c : Thread nD τ) (ms9 t) fullShare ((dat V c).after 9 t) from by
    unfold Dat.leavesExact; rw [live9 t trivial], after9]
  rw [show (dat V c).leavesExact 10 t = owns (c : Thread nD τ) (ms10 t) fullShare ((dat V c).after 10 t) from by
    unfold Dat.leavesExact; rw [live10 t trivial], after10]
  rw [show (dat V c).leavesExact 11 t = owns (c : Thread nD τ) (ms11 t) fullShare ((dat V c).after 11 t) from by
    unfold Dat.leavesExact; rw [live11 t (Or.inl hz)], after11]
  rw [show (dat V c).leavesExact 12 t = owns (c : Thread nD τ) (ms12 t) fullShare ((dat V c).after 12 t) from by
    unfold Dat.leavesExact; rw [live12 t (by omega)], after12]
  rw [PhiS_castSucc V c t]
  refine (Idealize.SL.BI.Laws.sep_mono (Phi_any V c _ _) (Idealize.SL.BI.Entails.refl _)).trans ?_
  rw [PhiA_eq]
  rw [dnAt_first V c t (by omega)]
  rw [dgAt_zero V c t hz]
  rw [dyAt_first V c t (by omega)]
  iintro ⟨⟨⟨⟨%e0, HS0⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (Cert.Chain.act_start c (grid1.coords t) _ _ _ _ _ _ _ _ _ _ _ _ _ _ _ _ _ _ _ _ _ _ _ _ _ _ _ _ ((hcond1 t).mpr (by omega)) ((hcond2 t).mpr hz) ((hcond3 t).mpr (by omega)) (fun h => absurd ((hcond4 t).mp h) (by omega)) (iblk V c 0 t) (iblk V c 1 t) (iblk V c 2 t) (iblk V c 3 t) (iblk V c 4 t) (iblk V c 5 t) (iblk V c 6 t) (iblk V c 7 t) ((dat V c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [HS0]; · iexists _; iexact HS0
  iintro ⟨H0, H1, H2, H3, H4, H5, H6, H7, H8, H9, H10, H11, H12, HS0⟩
  isplitl [HS0 Hr Hg]
  · isplitl [HS0 Hr]
    · isplitl [HS0]
      · iexact HS0
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexact H9
  isplitl [H10]; · iexact H10
  isplitl [H11]; · iexact H11
  iexact H12

set_option maxHeartbeats 3200000 in
theorem body_first (c : Dev nD) (t : Fin cfg1.N) (h0 : t.val % 4 = 0) (hz : ¬ t.val = 0) :
    bodyPre V c t ⊢ wp frame (wpE (defs₀ (F := F)) Variants.none c none) Set.univ (bodyAt1 t) (fun _ => bodyPost V c t) := by
  have hN : t.val < 20 := lt_of_lt_of_eq t.isLt (show cfg1.N = 20 from N_1)
  unfold bodyPre bodyPost bodyAt1
  simp only [before0, before1, before2, before3, before4, before5, before6, before7]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [show cfg1.idle 0 (grid1.coords t) = false from rfl], after0]
  rw [show (dat V c).leavesExact 1 t = owns (c : Thread nD τ) (ms1 t) fullShare ((dat V c).after 1 t) from by
    unfold Dat.leavesExact; rw [show cfg1.idle 1 (grid1.coords t) = false from rfl], after1]
  rw [show (dat V c).leavesExact 2 t = owns (c : Thread nD τ) (ms2 t) fullShare ((dat V c).after 2 t) from by
    unfold Dat.leavesExact; rw [show cfg1.idle 2 (grid1.coords t) = false from rfl], after2]
  rw [show (dat V c).leavesExact 3 t = owns (c : Thread nD τ) (ms3 t) fullShare ((dat V c).after 3 t) from by
    unfold Dat.leavesExact; rw [show cfg1.idle 3 (grid1.coords t) = false from rfl], after3]
  rw [show (dat V c).leavesExact 4 t = owns (c : Thread nD τ) (ms4 t) fullShare ((dat V c).after 4 t) from by
    unfold Dat.leavesExact; rw [show cfg1.idle 4 (grid1.coords t) = false from rfl], after4]
  rw [show (dat V c).leavesExact 5 t = owns (c : Thread nD τ) (ms5 t) fullShare ((dat V c).after 5 t) from by
    unfold Dat.leavesExact; rw [show cfg1.idle 5 (grid1.coords t) = false from rfl], after5]
  rw [show (dat V c).leavesExact 6 t = owns (c : Thread nD τ) (ms6 t) fullShare ((dat V c).after 6 t) from by
    unfold Dat.leavesExact; rw [show cfg1.idle 6 (grid1.coords t) = false from rfl], after6]
  rw [show (dat V c).leavesExact 7 t = owns (c : Thread nD τ) (ms7 t) fullShare ((dat V c).after 7 t) from by
    unfold Dat.leavesExact; rw [show cfg1.idle 7 (grid1.coords t) = false from rfl], after7]
  rw [Dat.leavesExact_idle (dat V c) 8 t (idle8 t (by omega)) (noFlush8 t (by omega))]
  rw [show (dat V c).leavesExact 9 t = owns (c : Thread nD τ) (ms9 t) fullShare ((dat V c).after 9 t) from by
    unfold Dat.leavesExact; rw [live9 t trivial], after9]
  rw [show (dat V c).leavesExact 10 t = owns (c : Thread nD τ) (ms10 t) fullShare ((dat V c).after 10 t) from by
    unfold Dat.leavesExact; rw [live10 t trivial], after10]
  rw [Dat.leavesExact_idle (dat V c) 11 t (idle11 t (by omega)) (noFlush11 t (by omega))]
  rw [show (dat V c).leavesExact 12 t = owns (c : Thread nD τ) (ms12 t) fullShare ((dat V c).after 12 t) from by
    unfold Dat.leavesExact; rw [live12 t h0], after12]
  rw [PhiS_castSucc V c t]
  refine (Idealize.SL.BI.Laws.sep_mono (Phi_any V c _ _) (Idealize.SL.BI.Entails.refl _)).trans ?_
  rw [PhiA_eq]
  rw [dnAt_first V c t h0]
  rw [dyAt_first V c t h0]
  iintro ⟨⟨⟨⟨%e0, HS0⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (Cert.Chain.act_first c (grid1.coords t) _ _ _ _ _ _ _ _ _ _ _ _ _ _ _ _ _ _ _ _ _ _ _ _ _ _ _ _ ((hcond1 t).mpr h0) (fun h => hz ((hcond2 t).mp h)) ((hcond3 t).mpr (by omega)) (fun h => absurd ((hcond4 t).mp h) (by omega)) (iblk V c 0 t) (iblk V c 1 t) (iblk V c 2 t) (iblk V c 3 t) (iblk V c 4 t) (iblk V c 5 t) (iblk V c 6 t) (iblk V c 7 t) ((dat V c).before 8 t d8) ((dat V c).before 11 t d11) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [H12]; · iexists _; iexact H12
  isplitl [HS0]; · iexists _; iexact HS0
  iintro ⟨H0, H1, H2, H3, H4, H5, H6, H7, H8, H9, H10, H11, H12, HS0⟩
  isplitl [HS0 Hr Hg]
  · isplitl [HS0 Hr]
    · isplitl [HS0]
      · iexact HS0
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexact H9
  isplitl [H10]; · iexact H10
  isplitl [H11]; · iexists d11; iexact H11
  iexact H12

set_option maxHeartbeats 3200000 in
theorem body_mid (c : Dev nD) (t : Fin cfg1.N) (h0 : ¬ t.val % 4 = 0) (h1 : ¬ t.val % 4 = 3) :
    bodyPre V c t ⊢ wp frame (wpE (defs₀ (F := F)) Variants.none c none) Set.univ (bodyAt1 t) (fun _ => bodyPost V c t) := by
  have hN : t.val < 20 := lt_of_lt_of_eq t.isLt (show cfg1.N = 20 from N_1)
  unfold bodyPre bodyPost bodyAt1
  simp only [before0, before1, before2, before3, before4, before5, before6, before7]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [show cfg1.idle 0 (grid1.coords t) = false from rfl], after0]
  rw [show (dat V c).leavesExact 1 t = owns (c : Thread nD τ) (ms1 t) fullShare ((dat V c).after 1 t) from by
    unfold Dat.leavesExact; rw [show cfg1.idle 1 (grid1.coords t) = false from rfl], after1]
  rw [show (dat V c).leavesExact 2 t = owns (c : Thread nD τ) (ms2 t) fullShare ((dat V c).after 2 t) from by
    unfold Dat.leavesExact; rw [show cfg1.idle 2 (grid1.coords t) = false from rfl], after2]
  rw [show (dat V c).leavesExact 3 t = owns (c : Thread nD τ) (ms3 t) fullShare ((dat V c).after 3 t) from by
    unfold Dat.leavesExact; rw [show cfg1.idle 3 (grid1.coords t) = false from rfl], after3]
  rw [show (dat V c).leavesExact 4 t = owns (c : Thread nD τ) (ms4 t) fullShare ((dat V c).after 4 t) from by
    unfold Dat.leavesExact; rw [show cfg1.idle 4 (grid1.coords t) = false from rfl], after4]
  rw [show (dat V c).leavesExact 5 t = owns (c : Thread nD τ) (ms5 t) fullShare ((dat V c).after 5 t) from by
    unfold Dat.leavesExact; rw [show cfg1.idle 5 (grid1.coords t) = false from rfl], after5]
  rw [show (dat V c).leavesExact 6 t = owns (c : Thread nD τ) (ms6 t) fullShare ((dat V c).after 6 t) from by
    unfold Dat.leavesExact; rw [show cfg1.idle 6 (grid1.coords t) = false from rfl], after6]
  rw [show (dat V c).leavesExact 7 t = owns (c : Thread nD τ) (ms7 t) fullShare ((dat V c).after 7 t) from by
    unfold Dat.leavesExact; rw [show cfg1.idle 7 (grid1.coords t) = false from rfl], after7]
  rw [Dat.leavesExact_idle (dat V c) 8 t (idle8 t h1) (noFlush8 t h1)]
  rw [show (dat V c).leavesExact 9 t = owns (c : Thread nD τ) (ms9 t) fullShare ((dat V c).after 9 t) from by
    unfold Dat.leavesExact; rw [live9 t trivial], after9]
  rw [show (dat V c).leavesExact 10 t = owns (c : Thread nD τ) (ms10 t) fullShare ((dat V c).after 10 t) from by
    unfold Dat.leavesExact; rw [live10 t trivial], after10]
  rw [Dat.leavesExact_idle (dat V c) 11 t (idle11 t (by omega)) (noFlush11 t (by omega))]
  rw [Dat.leavesExact_idle (dat V c) 12 t (idle12 t h0) (noFlush12 t h1)]
  simp only [before12 V c t.val t.isLt h0]
  rw [PhiS_castSucc V c t, PhiS_pos V c _ _ (fun hz => h0 (by omega))]
  rw [dnAt_mid V c t h0 h1]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (Cert.Chain.act_mid c (grid1.coords t) _ _ _ _ _ _ _ _ _ _ _ _ _ _ _ _ _ _ _ _ _ _ _ _ _ _ _ _ (fun h => h0 ((hcond1 t).mp h)) (fun h => h0 (by have := (hcond2 t).mp h; omega)) ((hcond3 t).mpr h1) (fun h => h1 ((hcond4 t).mp h)) (iblk V c 0 t) (iblk V c 1 t) (iblk V c 2 t) (iblk V c 3 t) (iblk V c 4 t) (iblk V c 5 t) (iblk V c 6 t) (iblk V c 7 t) ((dat V c).before 8 t d8) ((dat V c).before 11 t d11) (dyAt V c t.val t.isLt) (dnAt V c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [H12]; · iexact H12
  isplitl [HS0]; · iexact HS0
  iintro ⟨H0, H1, H2, H3, H4, H5, H6, H7, H8, H9, H10, H11, H12, HS0⟩
  isplitl [HS0 Hr Hg]
  · isplitl [HS0 Hr]
    · isplitl [HS0]
      · iexact HS0
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexact H9
  isplitl [H10]; · iexact H10
  isplitl [H11]; · iexists d11; iexact H11
  iexists d12; iexact H12

set_option maxHeartbeats 3200000 in
theorem body_last (c : Dev nD) (t : Fin cfg1.N) (h1 : t.val % 4 = 3) :
    bodyPre V c t ⊢ wp frame (wpE (defs₀ (F := F)) Variants.none c none) Set.univ (bodyAt1 t) (fun _ => bodyPost V c t) := by
  have hN : t.val < 20 := lt_of_lt_of_eq t.isLt (show cfg1.N = 20 from N_1)
  unfold bodyPre bodyPost bodyAt1
  simp only [before0, before1, before2, before3, before4, before5, before6, before7]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [show cfg1.idle 0 (grid1.coords t) = false from rfl], after0]
  rw [show (dat V c).leavesExact 1 t = owns (c : Thread nD τ) (ms1 t) fullShare ((dat V c).after 1 t) from by
    unfold Dat.leavesExact; rw [show cfg1.idle 1 (grid1.coords t) = false from rfl], after1]
  rw [show (dat V c).leavesExact 2 t = owns (c : Thread nD τ) (ms2 t) fullShare ((dat V c).after 2 t) from by
    unfold Dat.leavesExact; rw [show cfg1.idle 2 (grid1.coords t) = false from rfl], after2]
  rw [show (dat V c).leavesExact 3 t = owns (c : Thread nD τ) (ms3 t) fullShare ((dat V c).after 3 t) from by
    unfold Dat.leavesExact; rw [show cfg1.idle 3 (grid1.coords t) = false from rfl], after3]
  rw [show (dat V c).leavesExact 4 t = owns (c : Thread nD τ) (ms4 t) fullShare ((dat V c).after 4 t) from by
    unfold Dat.leavesExact; rw [show cfg1.idle 4 (grid1.coords t) = false from rfl], after4]
  rw [show (dat V c).leavesExact 5 t = owns (c : Thread nD τ) (ms5 t) fullShare ((dat V c).after 5 t) from by
    unfold Dat.leavesExact; rw [show cfg1.idle 5 (grid1.coords t) = false from rfl], after5]
  rw [show (dat V c).leavesExact 6 t = owns (c : Thread nD τ) (ms6 t) fullShare ((dat V c).after 6 t) from by
    unfold Dat.leavesExact; rw [show cfg1.idle 6 (grid1.coords t) = false from rfl], after6]
  rw [show (dat V c).leavesExact 7 t = owns (c : Thread nD τ) (ms7 t) fullShare ((dat V c).after 7 t) from by
    unfold Dat.leavesExact; rw [show cfg1.idle 7 (grid1.coords t) = false from rfl], after7]
  rw [show (dat V c).leavesExact 8 t = owns (c : Thread nD τ) (ms8 t) fullShare ((dat V c).after 8 t) from by
    unfold Dat.leavesExact; rw [live8 t h1], after8]
  rw [show (dat V c).leavesExact 9 t = owns (c : Thread nD τ) (ms9 t) fullShare ((dat V c).after 9 t) from by
    unfold Dat.leavesExact; rw [live9 t trivial], after9]
  rw [show (dat V c).leavesExact 10 t = owns (c : Thread nD τ) (ms10 t) fullShare ((dat V c).after 10 t) from by
    unfold Dat.leavesExact; rw [live10 t trivial], after10]
  rw [show (dat V c).leavesExact 11 t = owns (c : Thread nD τ) (ms11 t) fullShare ((dat V c).after 11 t) from by
    unfold Dat.leavesExact; rw [live11 t (Or.inr h1)], after11]
  rw [show (dat V c).leavesExact 12 t = owns (c : Thread nD τ) (ms12 t) fullShare ((dat V c).after 12 t) from by
    unfold Dat.leavesExact; rw [idle12 t (by omega), doFlush12 t h1], after12]
  simp only [before12 V c t.val t.isLt (by omega), before11' V c t (by omega)]
  rw [PhiS_castSucc V c t, PhiS_pos V c _ _ (by omega)]
  rw [dnAt_last V c t h1]
  rw [dgAt_last V c t h1]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (Cert.Chain.act_last c (grid1.coords t) _ _ _ _ _ _ _ _ _ _ _ _ _ _ _ _ _ _ _ _ _ _ _ _ _ _ _ _ (fun h => absurd ((hcond1 t).mp h) (by omega)) (fun h => absurd ((hcond2 t).mp h) (by omega)) (fun h => (hcond3 t).mp h h1) ((hcond4 t).mpr h1) (iblk V c 0 t) (iblk V c 1 t) (iblk V c 2 t) (iblk V c 3 t) (iblk V c 4 t) (iblk V c 5 t) (iblk V c 6 t) (iblk V c 7 t) (dgAt V c (t.val - 1) (Nat.lt_of_le_of_lt (Nat.sub_le _ _) t.isLt)) (dyAt V c t.val t.isLt) (dnAt V c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  isplitl [H12]; · iexact H12
  isplitl [HS0]; · iexact HS0
  iintro ⟨H0, H1, H2, H3, H4, H5, H6, H7, H8, H9, H10, H11, H12, HS0⟩
  isplitl [HS0 Hr Hg]
  · isplitl [HS0 Hr]
    · isplitl [HS0]
      · iexact HS0
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at any point. -/
theorem sound_body (c : Dev nD) (t : Fin cfg1.N) :
    bodyPre V c t ⊢ wp frame (wpE (defs₀ (F := F)) Variants.none c none) Set.univ (bodyAt1 t) (fun _ => bodyPost V c t) := by
  have hN : t.val < 20 := lt_of_lt_of_eq t.isLt (show cfg1.N = 20 from N_1)
  by_cases hz : t.val = 0
  · exact body_start V c t hz
  by_cases h0 : t.val % 4 = 0
  · exact body_first V c t h0 hz
  · by_cases h1 : t.val % 4 = 3
    · exact body_last V c t h1
    · exact body_mid V c t h0 h1

theorem defs₀_row (t : Fin cfg1.N) :
    defs₀ (F := F) .tc cfg1.body (cfg1.bodyArgs t (cfg1.slots t)) = bodyAt1 t := by
  unfold defs₀; rw [Defs.onTc_tc]

/-- The body does at every point what the data of the call say. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

end Cert.Chain.Act

end
-- ==== Proof.WgrRun.lean ====
module

public import proofs.«01_k».proof.Proof.Gen.KernelIdeal.Skeleton
public import Idealize.ShloMosaic.Lib.Pipeline.Frame
public import Idealize.ShloMosaic.Lib.Tactic
public import Idealize.ShloMosaic.Lib.VecWindow

@[expose] public section

set_option maxRecDepth 16384

noncomputable section

namespace Cert.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- One tile's share of the gate weights' gradient added to the sum. -/
abbrev wgAcc (n : Vec F S1024x1024 .bf16) (da : Vec F S1x1024x704 .bf16) (acc : Vec F S704x1024 .f32) : Vec F S704x1024 .f32 := k2_pay12 n acc da
/-- One tile's share of the up weights' gradient added to the sum. -/
abbrev wuAcc (n : Vec F S1024x1024 .bf16) (db : Vec F S1x1024x704 .bf16) (acc : Vec F S704x1024 .f32) : Vec F S704x1024 .f32 := k2_pay13 n acc db
/-- One tile's share of the down weights' gradient added to the sum. -/
abbrev wdAcc (dy : Vec F S1024x1024 .bf16) (sa : Vec F S1x1024x704 .bf16) (acc : Vec F S704x1024 .f32) : Vec F S704x1024 .f32 := k2_pay1 (k2_pay14 dy) acc sa
/-- The last rows' share of the gate weights' gradient added to the sum. -/
abbrev wgTail (n : Vec F S64x1024 .bf16) (da : Vec F S1x64x704 .bf16) (acc : Vec F S704x1024 .f32) : Vec F S704x1024 .f32 := k2_pay6 n acc da
/-- The last rows' share of the up weights' gradient added to the sum. -/
abbrev wuTail (n : Vec F S64x1024 .bf16) (db : Vec F S1x64x704 .bf16) (acc : Vec F S704x1024 .f32) : Vec F S704x1024 .f32 := k2_pay7 n acc db
/-- The last rows' share of the down weights' gradient added to the sum. -/
abbrev wdTail (dy : Vec F S64x1024 .bf16) (sa : Vec F S1x64x704 .bf16) (acc : Vec F S704x1024 .f32) : Vec F S704x1024 .f32 := k2_pay2 (k2_pay8 dy acc sa)

set_option maxHeartbeats 1600000 in
/-- The weight-gradient body on the first tile of rows. -/
theorem wgr_first (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1x1024x704 .bf16) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S1x64x704 .bf16) (harg9 : arg9.IsWhole) (arg10 : Memref sig .tc .vmem S1x64x704 .bf16) (harg10 : arg10.IsWhole) (arg11 : Memref sig .tc .vmem S1x64x704 .bf16) (harg11 : arg11.IsWhole) (arg12 : Memref sig .tc .vmem S1x704x1024 .bf16) (harg12 : arg12.IsWhole) (arg13 : Memref sig .tc .vmem S1x704x1024 .bf16) (harg13 : arg13.IsWhole) (arg14 : Memref sig .tc .vmem S1x704x1024 .bf16) (harg14 : arg14.IsWhole) (arg15 : Memref sig .tc .vmem S704x1024 .f32) (harg15 : arg15.IsWhole) (arg16 : Memref sig .tc .vmem S704x1024 .f32) (harg16 : arg16.IsWhole) (arg17 : Memref sig .tc .vmem S704x1024 .f32) (harg17 : arg17.IsWhole)
    (hc0 : (Scalar.cmpi .ne (Scalar.extui (Scalar.cmpi .eq (BitVec.ofNat 32 (i 1).val) 0#32)) 0#32) = 1#1) (hc1 : ¬ k2_cond2 i = 1#1)
    (x2 : Vec F S1024x1024 .bf16) (x3 : Vec F S1024x1024 .bf16) (x4 : Vec F S1x1024x704 .bf16) (x5 : Vec F S1x1024x704 .bf16) (x6 : Vec F S1x1024x704 .bf16) (x7 : Vec F S64x1024 .bf16) (x8 : Vec F S64x1024 .bf16) (x9 : Vec F S1x64x704 .bf16) (x10 : Vec F S1x64x704 .bf16) (x11 : Vec F S1x64x704 .bf16) (x12 : Vec F S1x704x1024 .bf16) (x13 : Vec F S1x704x1024 .bf16) (x14 : Vec F S1x704x1024 .bf16)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (wgAcc x2 x4 k2_pay9) ∗ owns (c : Thread nD τ) arg16 fullShare (wuAcc x2 x5 k2_pay10) ∗ owns (c : Thread nD τ) arg17 fullShare (wdAcc x3 x6 k2_pay11)) -∗ K ⟨⟩))
      ⊢ wp frame (wpE (defs₀ (F := F)) Variants.none c none) E (cc2_ffn_bwd_w i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc2_ffn_bwd_w_eq_skeleton]; unfold cc2_ffn_bwd_w_skel
  simp only [k2_part1_eq_skeleton, k2_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, %hf15, H15⟩, ⟨%d16, %f16, %hf16, H16⟩, ⟨%d17, %f17, %hf17, H17⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact hc0 | sl_exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; (try unfold wgTail); (try unfold wuTail); (try unfold wdTail); (try unfold wgAcc); (try unfold wuAcc); (try unfold wdAcc); sl_unfold_run_names; (repeat first | rw [View.read_writes_full] | rw [View.readAt_writes_full] | rw [View.readCov_full] | rw [View.readAt_full] | rw [Memref.IsWhole.read_unread]); done
  isplitl [H16]
  · iexists _; isplitr; swap; · iexact H16
    ipureintro; (try unfold wgTail); (try unfold wuTail); (try unfold wdTail); (try unfold wgAcc); (try unfold wuAcc); (try unfold wdAcc); sl_unfold_run_names; (repeat first | rw [View.read_writes_full] | rw [View.readAt_writes_full] | rw [View.readCov_full] | rw [View.readAt_full] | rw [Memref.IsWhole.read_unread]); done
  iexists _; isplitr; swap; · iexact H17
  ipureintro; (try unfold wgTail); (try unfold wuTail); (try unfold wdTail); (try unfold wgAcc); (try unfold wuAcc); (try unfold wdAcc); sl_unfold_run_names; (repeat first | rw [View.read_writes_full] | rw [View.readAt_writes_full] | rw [View.readCov_full] | rw [View.readAt_full] | rw [Memref.IsWhole.read_unread]); done

set_option maxHeartbeats 1600000 in
/-- The weight-gradient body on a middle tile of rows. -/
theorem wgr_mid (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1x1024x704 .bf16) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S1x64x704 .bf16) (harg9 : arg9.IsWhole) (arg10 : Memref sig .tc .vmem S1x64x704 .bf16) (harg10 : arg10.IsWhole) (arg11 : Memref sig .tc .vmem S1x64x704 .bf16) (harg11 : arg11.IsWhole) (arg12 : Memref sig .tc .vmem S1x704x1024 .bf16) (harg12 : arg12.IsWhole) (arg13 : Memref sig .tc .vmem S1x704x1024 .bf16) (harg13 : arg13.IsWhole) (arg14 : Memref sig .tc .vmem S1x704x1024 .bf16) (harg14 : arg14.IsWhole) (arg15 : Memref sig .tc .vmem S704x1024 .f32) (harg15 : arg15.IsWhole) (arg16 : Memref sig .tc .vmem S704x1024 .f32) (harg16 : arg16.IsWhole) (arg17 : Memref sig .tc .vmem S704x1024 .f32) (harg17 : arg17.IsWhole)
    (hc0 : ¬ (Scalar.cmpi .ne (Scalar.extui (Scalar.cmpi .eq (BitVec.ofNat 32 (i 1).val) 0#32)) 0#32) = 1#1) (hc1 : ¬ k2_cond2 i = 1#1)
    (x2 : Vec F S1024x1024 .bf16) (x3 : Vec F S1024x1024 .bf16) (x4 : Vec F S1x1024x704 .bf16) (x5 : Vec F S1x1024x704 .bf16) (x6 : Vec F S1x1024x704 .bf16) (x7 : Vec F S64x1024 .bf16) (x8 : Vec F S64x1024 .bf16) (x9 : Vec F S1x64x704 .bf16) (x10 : Vec F S1x64x704 .bf16) (x11 : Vec F S1x64x704 .bf16) (x12 : Vec F S1x704x1024 .bf16) (x13 : Vec F S1x704x1024 .bf16) (x14 : Vec F S1x704x1024 .bf16) (x15 : Vec F S704x1024 .f32) (x16 : Vec F S704x1024 .f32) (x17 : Vec F S704x1024 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (wgAcc x2 x4 x15) ∗ owns (c : Thread nD τ) arg16 fullShare (wuAcc x2 x5 x16) ∗ owns (c : Thread nD τ) arg17 fullShare (wdAcc x3 x6 x17)) -∗ K ⟨⟩))
      ⊢ wp frame (wpE (defs₀ (F := F)) Variants.none c none) E (cc2_ffn_bwd_w i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc2_ffn_bwd_w_eq_skeleton]; unfold cc2_ffn_bwd_w_skel
  simp only [k2_part1_eq_skeleton, k2_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  sl_exec (disch := first | sl_exact hc0 | sl_exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; (try unfold wgTail); (try unfold wuTail); (try unfold wdTail); (try unfold wgAcc); (try unfold wuAcc); (try unfold wdAcc); sl_unfold_run_names; (repeat first | rw [View.read_writes_full] | rw [View.readAt_writes_full] | rw [View.readCov_full] | rw [View.readAt_full] | rw [Memref.IsWhole.read_unread]); done
  isplitl [H16]
  · iexists _; isplitr; swap; · iexact H16
    ipureintro; (try unfold wgTail); (try unfold wuTail); (try unfold wdTail); (try unfold wgAcc); (try unfold wuAcc); (try unfold wdAcc); sl_unfold_run_names; (repeat first | rw [View.read_writes_full] | rw [View.readAt_writes_full] | rw [View.readCov_full] | rw [View.readAt_full] | rw [Memref.IsWhole.read_unread]); done
  iexists _; isplitr; swap; · iexact H17
  ipureintro; (try unfold wgTail); (try unfold wuTail); (try unfold wdTail); (try unfold wgAcc); (try unfold wuAcc); (try unfold wdAcc); sl_unfold_run_names; (repeat first | rw [View.read_writes_full] | rw [View.readAt_writes_full] | rw [View.readCov_full] | rw [View.readAt_full] | rw [Memref.IsWhole.read_unread]); done

set_option maxHeartbeats 1600000 in
/-- The weight-gradient body on the last tile of rows: it adds the tile and the rows past it, and writes the sums out. -/
theorem wgr_last (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1x1024x704 .bf16) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S1x64x704 .bf16) (harg9 : arg9.IsWhole) (arg10 : Memref sig .tc .vmem S1x64x704 .bf16) (harg10 : arg10.IsWhole) (arg11 : Memref sig .tc .vmem S1x64x704 .bf16) (harg11 : arg11.IsWhole) (arg12 : Memref sig .tc .vmem S1x704x1024 .bf16) (harg12 : arg12.IsWhole) (arg13 : Memref sig .tc .vmem S1x704x1024 .bf16) (harg13 : arg13.IsWhole) (arg14 : Memref sig .tc .vmem S1x704x1024 .bf16) (harg14 : arg14.IsWhole) (arg15 : Memref sig .tc .vmem S704x1024 .f32) (harg15 : arg15.IsWhole) (arg16 : Memref sig .tc .vmem S704x1024 .f32) (harg16 : arg16.IsWhole) (arg17 : Memref sig .tc .vmem S704x1024 .f32) (harg17 : arg17.IsWhole)
    (hc0 : ¬ (Scalar.cmpi .ne (Scalar.extui (Scalar.cmpi .eq (BitVec.ofNat 32 (i 1).val) 0#32)) 0#32) = 1#1) (hc1 : k2_cond2 i = 1#1)
    (x2 : Vec F S1024x1024 .bf16) (x3 : Vec F S1024x1024 .bf16) (x4 : Vec F S1x1024x704 .bf16) (x5 : Vec F S1x1024x704 .bf16) (x6 : Vec F S1x1024x704 .bf16) (x7 : Vec F S64x1024 .bf16) (x8 : Vec F S64x1024 .bf16) (x9 : Vec F S1x64x704 .bf16) (x10 : Vec F S1x64x704 .bf16) (x11 : Vec F S1x64x704 .bf16) (x15 : Vec F S704x1024 .f32) (x16 : Vec F S704x1024 .f32) (x17 : Vec F S704x1024 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (k2_pay3 (wgTail x7 x9 (wgAcc x2 x4 x15))) ∗ owns (c : Thread nD τ) arg13 fullShare (k2_pay4 (wuTail x7 x10 (wuAcc x2 x5 x16))) ∗ owns (c : Thread nD τ) arg14 fullShare (k2_pay5 (wdTail x8 x11 (wdAcc x3 x6 x17))) ∗ owns (c : Thread nD τ) arg15 fullShare (wgTail x7 x9 (wgAcc x2 x4 x15)) ∗ owns (c : Thread nD τ) arg16 fullShare (wuTail x7 x10 (wuAcc x2 x5 x16)) ∗ owns (c : Thread nD τ) arg17 fullShare (wdTail x8 x11 (wdAcc x3 x6 x17))) -∗ K ⟨⟩))
      ⊢ wp frame (wpE (defs₀ (F := F)) Variants.none c none) E (cc2_ffn_bwd_w i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc2_ffn_bwd_w_eq_skeleton]; unfold cc2_ffn_bwd_w_skel
  simp only [k2_part1_eq_skeleton, k2_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, %hf12, H12⟩, ⟨%d13, %f13, %hf13, H13⟩, ⟨%d14, %f14, %hf14, H14⟩, ⟨%f15, %hf15, H15⟩, ⟨%f16, %hf16, H16⟩, ⟨%f17, %hf17, H17⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg15.eq_unread hf15
  obtain rfl := harg16.eq_unread hf16
  obtain rfl := harg17.eq_unread hf17
  sl_exec (disch := first | sl_exact hc0 | sl_exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; (try unfold wgTail); (try unfold wuTail); (try unfold wdTail); (try unfold wgAcc); (try unfold wuAcc); (try unfold wdAcc); sl_unfold_run_names; (repeat first | rw [View.read_writes_full] | rw [View.readAt_writes_full] | rw [View.readCov_full] | rw [View.readAt_full] | rw [Memref.IsWhole.read_unread]); done
  isplitl [H13]
  · iexists _; isplitr; swap; · iexact H13
    ipureintro; (try unfold wgTail); (try unfold wuTail); (try unfold wdTail); (try unfold wgAcc); (try unfold wuAcc); (try unfold wdAcc); sl_unfold_run_names; (repeat first | rw [View.read_writes_full] | rw [View.readAt_writes_full] | rw [View.readCov_full] | rw [View.readAt_full] | rw [Memref.IsWhole.read_unread]); done
  isplitl [H14]
  · iexists _; isplitr; swap; · iexact H14
    ipureintro; (try unfold wgTail); (try unfold wuTail); (try unfold wdTail); (try unfold wgAcc); (try unfold wuAcc); (try unfold wdAcc); sl_unfold_run_names; (repeat first | rw [View.read_writes_full] | rw [View.readAt_writes_full] | rw [View.readCov_full] | rw [View.readAt_full] | rw [Memref.IsWhole.read_unread]); done
  isplitl [H15]
  · iexists _; isplitr; swap; · iexact H15
    ipureintro; (try unfold wgTail); (try unfold wuTail); (try unfold wdTail); (try unfold wgAcc); (try unfold wuAcc); (try unfold wdAcc); sl_unfold_run_names; (repeat first | rw [View.read_writes_full] | rw [View.readAt_writes_full] | rw [View.readCov_full] | rw [View.readAt_full] | rw [Memref.IsWhole.read_unread]); done
  isplitl [H16]
  · iexists _; isplitr; swap; · iexact H16
    ipureintro; (try unfold wgTail); (try unfold wuTail); (try unfold wdTail); (try unfold wgAcc); (try unfold wuAcc); (try unfold wdAcc); sl_unfold_run_names; (repeat first | rw [View.read_writes_full] | rw [View.readAt_writes_full] | rw [View.readCov_full] | rw [View.readAt_full] | rw [Memref.IsWhole.read_unread]); done
  iexists _; isplitr; swap; · iexact H17
  ipureintro; (try unfold wgTail); (try unfold wuTail); (try unfold wdTail); (try unfold wgAcc); (try unfold wuAcc); (try unfold wdAcc); sl_unfold_run_names; (repeat first | rw [View.read_writes_full] | rw [View.readAt_writes_full] | rw [View.readCov_full] | rw [View.readAt_full] | rw [Memref.IsWhole.read_unread]); done

end Cert.Chain

end
-- ==== Proof.WgrDat.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import proofs.«01_k».proof.Proof.WgrRun

@[expose] public section

set_option maxRecDepth 16384

noncomputable section

/-! The weight-gradient call: what each point of its grid computes, and what is carried between points. -/

namespace Cert.Chain.Wgr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What stands in a staging buffer of window 0 before anything is brought in. -/
def dflt0 : (cfg2.win 0).block.Idx → Elt F (cfg2.win 0).elt := fun _ => Classical.choice inferInstance
/-- What window 0's staging buffer holds at `t`: the block, no transfer of which is cut. -/
def blkX0 (c : Dev nD) (t : Fin cfg2.N) : (cfg2.win 0).block.Idx → Elt F (cfg2.win 0).elt :=
  (cfg2.win 0).fill (cfg2.grid.coords t) dflt0 (iblk V c 0 t)
/-- No block of window 0 the grid reaches is cut. -/
theorem xsize0 : ∀ t : Fin cfg2.N, ∀ a, (cfg2.win 0).xsize (cfg2.grid.coords t) a = (cfg2.win 0).size a := by decide +kernel
/-- So every index of the block is moved, -/
theorem moved0 (t : Fin cfg2.N) (j : (cfg2.win 0).block.Idx) : (cfg2.win 0).moved (cfg2.grid.coords t) j = true :=
  ((cfg2.win 0).moved_iff _ j).mpr fun a => by rw [xsize0 t a]; exact (j a).isLt
/-- and what stood in the buffer does not matter. -/
theorem fill0 (t : Fin cfg2.N) (d d' : (cfg2.win 0).block.Idx → Elt F (cfg2.win 0).elt) (g) :
    (cfg2.win 0).fill (cfg2.grid.coords t) d g = (cfg2.win 0).fill (cfg2.grid.coords t) d' g := by
  funext j; unfold Pipeline.Window.fill; rw [dif_pos (moved0 t j), dif_pos (moved0 t j)]
/-- Window 0 holds its block at every point. -/
theorem beforeOf0 {c : Dev nD} (dat : Dat τ (Elt F) Unit ℕ (UR sig nD τ) ℕ cfg2 c) (hA : dat.A 0 = V c (Pipeline.arrRef spec2 0))
    (hafter : ∀ t, dat.after 0 t = blkX0 V c t) (t : Fin cfg2.N) (d) : dat.before 0 t d = blkX0 V c t :=
  (dat.before_in_eq_fetched 0 rfl (fun _ => rfl)
      (fun t t' h => funext fun a => congrArg (fun n => Pipeline.Clip.of n ((cfg2.win 0).size a) (S4160x1024.size a)) (congrFun h a))
      (fun t => by rw [hafter]; unfold blkX0; rw [Pipeline.Window.cut_fill]; unfold Dat.blockOf iblk; rw [hA]; try rfl) t d).trans
    (by unfold Dat.fetched blkX0; rw [fill0 t d dflt0]; unfold Dat.blockOf iblk; rw [hA]; try rfl)
/-- What stands in a staging buffer of window 1 before anything is brought in. -/
def dflt1 : (cfg2.win 1).block.Idx → Elt F (cfg2.win 1).elt := fun _ => Classical.choice inferInstance
/-- What window 1's staging buffer holds at `t`: the block, no transfer of which is cut. -/
def blkX1 (c : Dev nD) (t : Fin cfg2.N) : (cfg2.win 1).block.Idx → Elt F (cfg2.win 1).elt :=
  (cfg2.win 1).fill (cfg2.grid.coords t) dflt1 (iblk V c 1 t)
/-- No block of window 1 the grid reaches is cut. -/
theorem xsize1 : ∀ t : Fin cfg2.N, ∀ a, (cfg2.win 1).xsize (cfg2.grid.coords t) a = (cfg2.win 1).size a := by decide +kernel
/-- So every index of the block is moved, -/
theorem moved1 (t : Fin cfg2.N) (j : (cfg2.win 1).block.Idx) : (cfg2.win 1).moved (cfg2.grid.coords t) j = true :=
  ((cfg2.win 1).moved_iff _ j).mpr fun a => by rw [xsize1 t a]; exact (j a).isLt
/-- and what stood in the buffer does not matter. -/
theorem fill1 (t : Fin cfg2.N) (d d' : (cfg2.win 1).block.Idx → Elt F (cfg2.win 1).elt) (g) :
    (cfg2.win 1).fill (cfg2.grid.coords t) d g = (cfg2.win 1).fill (cfg2.grid.coords t) d' g := by
  funext j; unfold Pipeline.Window.fill; rw [dif_pos (moved1 t j), dif_pos (moved1 t j)]
/-- Window 1 holds its block at every point. -/
theorem beforeOf1 {c : Dev nD} (dat : Dat τ (Elt F) Unit ℕ (UR sig nD τ) ℕ cfg2 c) (hA : dat.A 1 = V c (Pipeline.arrRef spec2 1))
    (hafter : ∀ t, dat.after 1 t = blkX1 V c t) (t : Fin cfg2.N) (d) : dat.before 1 t d = blkX1 V c t :=
  (dat.before_in_eq_fetched 1 rfl (fun _ => rfl)
      (fun t t' h => funext fun a => congrArg (fun n => Pipeline.Clip.of n ((cfg2.win 1).size a) (S4160x1024.size a)) (congrFun h a))
      (fun t => by rw [hafter]; unfold blkX1; rw [Pipeline.Window.cut_fill]; unfold Dat.blockOf iblk; rw [hA]; try rfl) t d).trans
    (by unfold Dat.fetched blkX1; rw [fill1 t d dflt1]; unfold Dat.blockOf iblk; rw [hA]; try rfl)
/-- What stands in a staging buffer of window 2 before anything is brought in. -/
def dflt2 : (cfg2.win 2).block.Idx → Elt F (cfg2.win 2).elt := fun _ => Classical.choice inferInstance
/-- What window 2's staging buffer holds at `t`: the block, no transfer of which is cut. -/
def blkX2 (c : Dev nD) (t : Fin cfg2.N) : (cfg2.win 2).block.Idx → Elt F (cfg2.win 2).elt :=
  (cfg2.win 2).fill (cfg2.grid.coords t) dflt2 (iblk V c 2 t)
/-- No block of window 2 the grid reaches is cut. -/
theorem xsize2 : ∀ t : Fin cfg2.N, ∀ a, (cfg2.win 2).xsize (cfg2.grid.coords t) a = (cfg2.win 2).size a := by decide +kernel
/-- So every index of the block is moved, -/
theorem moved2 (t : Fin cfg2.N) (j : (cfg2.win 2).block.Idx) : (cfg2.win 2).moved (cfg2.grid.coords t) j = true :=
  ((cfg2.win 2).moved_iff _ j).mpr fun a => by rw [xsize2 t a]; exact (j a).isLt
/-- and what stood in the buffer does not matter. -/
theorem fill2 (t : Fin cfg2.N) (d d' : (cfg2.win 2).block.Idx → Elt F (cfg2.win 2).elt) (g) :
    (cfg2.win 2).fill (cfg2.grid.coords t) d g = (cfg2.win 2).fill (cfg2.grid.coords t) d' g := by
  funext j; unfold Pipeline.Window.fill; rw [dif_pos (moved2 t j), dif_pos (moved2 t j)]
/-- Window 2 holds its block at every point. -/
theorem beforeOf2 {c : Dev nD} (dat : Dat τ (Elt F) Unit ℕ (UR sig nD τ) ℕ cfg2 c) (hA : dat.A 2 = V c (Pipeline.arrRef spec2 2))
    (hafter : ∀ t, dat.after 2 t = blkX2 V c t) (t : Fin cfg2.N) (d) : dat.before 2 t d = blkX2 V c t :=
  (dat.before_in_eq_fetched 2 rfl (fun _ => rfl)
      (fun t t' h => funext fun a => congrArg (fun n => Pipeline.Clip.of n ((cfg2.win 2).size a) (S4x4160x704.size a)) (congrFun h a))
      (fun t => by rw [hafter]; unfold blkX2; rw [Pipeline.Window.cut_fill]; unfold Dat.blockOf iblk; rw [hA]; try rfl) t d).trans
    (by unfold Dat.fetched blkX2; rw [fill2 t d dflt2]; unfold Dat.blockOf iblk; rw [hA]; try rfl)
/-- What stands in a staging buffer of window 3 before anything is brought in. -/
def dflt3 : (cfg2.win 3).block.Idx → Elt F (cfg2.win 3).elt := fun _ => Classical.choice inferInstance
/-- What window 3's staging buffer holds at `t`: the block, no transfer of which is cut. -/
def blkX3 (c : Dev nD) (t : Fin cfg2.N) : (cfg2.win 3).block.Idx → Elt F (cfg2.win 3).elt :=
  (cfg2.win 3).fill (cfg2.grid.coords t) dflt3 (iblk V c 3 t)
/-- No block of window 3 the grid reaches is cut. -/
theorem xsize3 : ∀ t : Fin cfg2.N, ∀ a, (cfg2.win 3).xsize (cfg2.grid.coords t) a = (cfg2.win 3).size a := by decide +kernel
/-- So every index of the block is moved, -/
theorem moved3 (t : Fin cfg2.N) (j : (cfg2.win 3).block.Idx) : (cfg2.win 3).moved (cfg2.grid.coords t) j = true :=
  ((cfg2.win 3).moved_iff _ j).mpr fun a => by rw [xsize3 t a]; exact (j a).isLt
/-- and what stood in the buffer does not matter. -/
theorem fill3 (t : Fin cfg2.N) (d d' : (cfg2.win 3).block.Idx → Elt F (cfg2.win 3).elt) (g) :
    (cfg2.win 3).fill (cfg2.grid.coords t) d g = (cfg2.win 3).fill (cfg2.grid.coords t) d' g := by
  funext j; unfold Pipeline.Window.fill; rw [dif_pos (moved3 t j), dif_pos (moved3 t j)]
/-- Window 3 holds its block at every point. -/
theorem beforeOf3 {c : Dev nD} (dat : Dat τ (Elt F) Unit ℕ (UR sig nD τ) ℕ cfg2 c) (hA : dat.A 3 = V c (Pipeline.arrRef spec2 3))
    (hafter : ∀ t, dat.after 3 t = blkX3 V c t) (t : Fin cfg2.N) (d) : dat.before 3 t d = blkX3 V c t :=
  (dat.before_in_eq_fetched 3 rfl (fun _ => rfl)
      (fun t t' h => funext fun a => congrArg (fun n => Pipeline.Clip.of n ((cfg2.win 3).size a) (S4x4160x704.size a)) (congrFun h a))
      (fun t => by rw [hafter]; unfold blkX3; rw [Pipeline.Window.cut_fill]; unfold Dat.blockOf iblk; rw [hA]; try rfl) t d).trans
    (by unfold Dat.fetched blkX3; rw [fill3 t d dflt3]; unfold Dat.blockOf iblk; rw [hA]; try rfl)
/-- What stands in a staging buffer of window 4 before anything is brought in. -/
def dflt4 : (cfg2.win 4).block.Idx → Elt F (cfg2.win 4).elt := fun _ => Classical.choice inferInstance
/-- What window 4's staging buffer holds at `t`: the block, no transfer of which is cut. -/
def blkX4 (c : Dev nD) (t : Fin cfg2.N) : (cfg2.win 4).block.Idx → Elt F (cfg2.win 4).elt :=
  (cfg2.win 4).fill (cfg2.grid.coords t) dflt4 (iblk V c 4 t)
/-- No block of window 4 the grid reaches is cut. -/
theorem xsize4 : ∀ t : Fin cfg2.N, ∀ a, (cfg2.win 4).xsize (cfg2.grid.coords t) a = (cfg2.win 4).size a := by decide +kernel
/-- So every index of the block is moved, -/
theorem moved4 (t : Fin cfg2.N) (j : (cfg2.win 4).block.Idx) : (cfg2.win 4).moved (cfg2.grid.coords t) j = true :=
  ((cfg2.win 4).moved_iff _ j).mpr fun a => by rw [xsize4 t a]; exact (j a).isLt
/-- and what stood in the buffer does not matter. -/
theorem fill4 (t : Fin cfg2.N) (d d' : (cfg2.win 4).block.Idx → Elt F (cfg2.win 4).elt) (g) :
    (cfg2.win 4).fill (cfg2.grid.coords t) d g = (cfg2.win 4).fill (cfg2.grid.coords t) d' g := by
  funext j; unfold Pipeline.Window.fill; rw [dif_pos (moved4 t j), dif_pos (moved4 t j)]
/-- Window 4 holds its block at every point. -/
theorem beforeOf4 {c : Dev nD} (dat : Dat τ (Elt F) Unit ℕ (UR sig nD τ) ℕ cfg2 c) (hA : dat.A 4 = V c (Pipeline.arrRef spec2 4))
    (hafter : ∀ t, dat.after 4 t = blkX4 V c t) (t : Fin cfg2.N) (d) : dat.before 4 t d = blkX4 V c t :=
  (dat.before_in_eq_fetched 4 rfl (fun _ => rfl)
      (fun t t' h => funext fun a => congrArg (fun n => Pipeline.Clip.of n ((cfg2.win 4).size a) (S4x4160x704.size a)) (congrFun h a))
      (fun t => by rw [hafter]; unfold blkX4; rw [Pipeline.Window.cut_fill]; unfold Dat.blockOf iblk; rw [hA]; try rfl) t d).trans
    (by unfold Dat.fetched blkX4; rw [fill4 t d dflt4]; unfold Dat.blockOf iblk; rw [hA]; try rfl)
/-- Window 5 holds its block at every point. -/
theorem beforeOf5 {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6 holds its block at every point. -/
theorem beforeOf6 {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Window 7 holds its block at every point. -/
theorem beforeOf7 {c : Dev nD} (dat : Dat τ (Elt F) Unit ℕ (UR sig nD τ) ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Window 8 holds its block at every point. -/
theorem beforeOf8 {c : Dev nD} (dat : Dat τ (Elt F) Unit ℕ (UR sig nD τ) ℕ cfg2 c) (hA : dat.A 8 = V c (Pipeline.arrRef spec2 8))
    (hafter : ∀ t, dat.after 8 t = iblk V c 8 t) (t : Fin cfg2.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Window 9 holds its block at every point. -/
theorem beforeOf9 {c : Dev nD} (dat : Dat τ (Elt F) Unit ℕ (UR sig nD τ) ℕ cfg2 c) (hA : dat.A 9 = V c (Pipeline.arrRef spec2 9))
    (hafter : ∀ t, dat.after 9 t = iblk V c 9 t) (t : Fin cfg2.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! Which branches the body takes, and which blocks it leaves alone, by the point. -/

theorem hcond1 : ∀ t : Fin cfg2.N, (Scalar.cmpi .ne (Scalar.extui (Scalar.cmpi .eq (BitVec.ofNat 32 ((grid2.coords t) 1).val) 0#32)) 0#32) = 1#1 ↔ t.val % 4 = 0 := by decide +kernel
theorem hcond2 : ∀ t : Fin cfg2.N, k2_cond2 (grid2.coords t) = 1#1 ↔ t.val % 4 = 3 := by decide +kernel
theorem live10 : ∀ t : Fin cfg2.N, t.val % 4 = 3 → cfg2.idle 10 (grid2.coords t) = false := by decide +kernel
theorem idle10 : ∀ t : Fin cfg2.N, ¬ (t.val % 4 = 3) → cfg2.idle 10 (grid2.coords t) = true := by decide +kernel
theorem live11 : ∀ t : Fin cfg2.N, t.val % 4 = 3 → cfg2.idle 11 (grid2.coords t) = false := by decide +kernel
theorem idle11 : ∀ t : Fin cfg2.N, ¬ (t.val % 4 = 3) → cfg2.idle 11 (grid2.coords t) = true := by decide +kernel
theorem live12 : ∀ t : Fin cfg2.N, t.val % 4 = 3 → cfg2.idle 12 (grid2.coords t) = false := by decide +kernel
theorem idle12 : ∀ t : Fin cfg2.N, ¬ (t.val % 4 = 3) → cfg2.idle 12 (grid2.coords t) = true := by decide +kernel
theorem noFlush10 (t : Fin cfg2.N) (h : ¬ (t.val % 4 = 3)) : (cfg2.win 10).flush t = false :=
  (Bool.not_eq_true _).mp fun hf => h ((flush2_10 t).mp hf)
theorem doFlush10 (t : Fin cfg2.N) (h : t.val % 4 = 3) : (cfg2.win 10).flush t = true := (flush2_10 t).mpr h
theorem noFlush11 (t : Fin cfg2.N) (h : ¬ (t.val % 4 = 3)) : (cfg2.win 11).flush t = false :=
  (Bool.not_eq_true _).mp fun hf => h ((flush2_11 t).mp hf)
theorem doFlush11 (t : Fin cfg2.N) (h : t.val % 4 = 3) : (cfg2.win 11).flush t = true := (flush2_11 t).mpr h
theorem noFlush12 (t : Fin cfg2.N) (h : ¬ (t.val % 4 = 3)) : (cfg2.win 12).flush t = false :=
  (Bool.not_eq_true _).mp fun hf => h ((flush2_12 t).mp hf)
theorem doFlush12 (t : Fin cfg2.N) (h : t.val % 4 = 3) : (cfg2.win 12).flush t = true := (flush2_12 t).mpr h

/-! The staging buffers at a point, and the scratch. -/

abbrev ms0 (t : Fin cfg2.N) : Memref sig .tc .vmem S1024x1024 .bf16 := win2_0.stage (cfg2.slots t 0)
abbrev ms1 (t : Fin cfg2.N) : Memref sig .tc .vmem S1024x1024 .bf16 := win2_1.stage (cfg2.slots t 1)
abbrev ms2 (t : Fin cfg2.N) : Memref sig .tc .vmem S1x1024x704 .bf16 := win2_2.stage (cfg2.slots t 2)
abbrev ms3 (t : Fin cfg2.N) : Memref sig .tc .vmem S1x1024x704 .bf16 := win2_3.stage (cfg2.slots t 3)
abbrev ms4 (t : Fin cfg2.N) : Memref sig .tc .vmem S1x1024x704 .bf16 := win2_4.stage (cfg2.slots t 4)
abbrev ms5 (t : Fin cfg2.N) : Memref sig .tc .vmem S64x1024 .bf16 := win2_5.stage (cfg2.slots t 5)
abbrev ms6 (t : Fin cfg2.N) : Memref sig .tc .vmem S64x1024 .bf16 := win2_6.stage (cfg2.slots t 6)
abbrev ms7 (t : Fin cfg2.N) : Memref sig .tc .vmem S1x64x704 .bf16 := win2_7.stage (cfg2.slots t 7)
abbrev ms8 (t : Fin cfg2.N) : Memref sig .tc .vmem S1x64x704 .bf16 := win2_8.stage (cfg2.slots t 8)
abbrev ms9 (t : Fin cfg2.N) : Memref sig .tc .vmem S1x64x704 .bf16 := win2_9.stage (cfg2.slots t 9)
abbrev ms10 (t : Fin cfg2.N) : Memref sig .tc .vmem S1x704x1024 .bf16 := win2_10.stage (cfg2.slots t 10)
abbrev ms11 (t : Fin cfg2.N) : Memref sig .tc .vmem S1x704x1024 .bf16 := win2_11.stage (cfg2.slots t 11)
abbrev ms12 (t : Fin cfg2.N) : Memref sig .tc .vmem S1x704x1024 .bf16 := win2_12.stage (cfg2.slots t 12)
abbrev sc0 : Memref sig .tc .vmem S704x1024 .f32 := Memref.whole cc2_scratch0
abbrev sc1 : Memref sig .tc .vmem S704x1024 .f32 := Memref.whole cc2_scratch1
abbrev sc2 : Memref sig .tc .vmem S704x1024 .f32 := Memref.whole cc2_scratch2

/-- The scoped buffers the call does not name. -/
abbrev rest (c : Dev nD) : sProp 𝕄 := Pipeline.scopedRestBut (Ix := Unit) (Name := ℕ) (U := UR sig nD τ) (Lvl := ℕ) (Val := Elt F) spec2 c [cc2_scratch0, cc2_scratch1, cc2_scratch2]

/-- What the launch hands over: the scratch at anything, the other scoped buffers and the generator register. -/
theorem PhiA_eq (c : Dev nD) :
    (Pipeline.ΦA spec2 c : sProp 𝕄)
      = iprop(iprop(iprop((∃ d, owns (c : Thread nD τ) sc0 fullShare d) ∗ (∃ d, owns (c : Thread nD τ) sc1 fullShare d) ∗ (∃ d, owns (c : Thread nD τ) sc2 fullShare d)) ∗ rest c) ∗ (∃ r, prngReg c r)) := by
  unfold Pipeline.ΦA; rw [scopedRest2_split]; simp only [sc0, sc1, sc2, owns_whole]; try rfl

/-! What each point computes. -/

/-- The first product so far: reset at a shard's first point, the last rows added at its last. -/
def gAt (c : Dev nD) : (n : ℕ) → n < cfg2.N → Vec F S704x1024 .f32
  | 0, h => wgAcc (blkX0 V c ⟨0, h⟩) (blkX2 V c ⟨0, h⟩) k2_pay9
  | n + 1, h =>
    if (n + 1) % 4 = 0 then wgAcc (blkX0 V c ⟨n + 1, h⟩) (blkX2 V c ⟨n + 1, h⟩) k2_pay9
    else if (n + 1) % 4 = 3 then wgTail (iblk V c 5 ⟨n + 1, h⟩) (iblk V c 7 ⟨n + 1, h⟩) (wgAcc (blkX0 V c ⟨n + 1, h⟩) (blkX2 V c ⟨n + 1, h⟩) (gAt c n (Nat.lt_of_succ_lt h)))
    else wgAcc (blkX0 V c ⟨n + 1, h⟩) (blkX2 V c ⟨n + 1, h⟩) (gAt c n (Nat.lt_of_succ_lt h))

theorem gAt_first (c : Dev nD) (t : Fin cfg2.N) (h0 : t.val % 4 = 0) : gAt V c t.val t.isLt = wgAcc (blkX0 V c t) (blkX2 V c t) k2_pay9 := by
  obtain ⟨n, h⟩ := t
  cases n with
  | zero => rfl
  | succ n => dsimp only [gAt]; rw [if_pos h0]

theorem gAt_mid (c : Dev nD) (t : Fin cfg2.N) (h0 : ¬ t.val % 4 = 0) (h1 : ¬ t.val % 4 = 3) :
    gAt V c t.val t.isLt = wgAcc (blkX0 V c t) (blkX2 V c t) (gAt V c (t.val - 1) (Nat.lt_of_le_of_lt (Nat.sub_le _ _) t.isLt)) := by
  obtain ⟨n, h⟩ := t
  cases n with
  | zero => exact absurd rfl h0
  | succ n => dsimp only [gAt]; rw [if_neg h0, if_neg h1]; rfl

theorem gAt_last (c : Dev nD) (t : Fin cfg2.N) (h1 : t.val % 4 = 3) :
    gAt V c t.val t.isLt = wgTail (iblk V c 5 t) (iblk V c 7 t) (wgAcc (blkX0 V c t) (blkX2 V c t) (gAt V c (t.val - 1) (Nat.lt_of_le_of_lt (Nat.sub_le _ _) t.isLt))) := by
  obtain ⟨n, h⟩ := t
  cases n with
  | zero => exact absurd h1 (by show ¬ 0 % 4 = 3; decide)
  | succ n => dsimp only [gAt]; rw [if_neg (fun h0 => by simp only at h1; omega), if_pos h1]; rfl

/-- The second product so far. -/
def uAt (c : Dev nD) : (n : ℕ) → n < cfg2.N → Vec F S704x1024 .f32
  | 0, h => wuAcc (blkX0 V c ⟨0, h⟩) (blkX3 V c ⟨0, h⟩) k2_pay10
  | n + 1, h =>
    if (n + 1) % 4 = 0 then wuAcc (blkX0 V c ⟨n + 1, h⟩) (blkX3 V c ⟨n + 1, h⟩) k2_pay10
    else if (n + 1) % 4 = 3 then wuTail (iblk V c 5 ⟨n + 1, h⟩) (iblk V c 8 ⟨n + 1, h⟩) (wuAcc (blkX0 V c ⟨n + 1, h⟩) (blkX3 V c ⟨n + 1, h⟩) (uAt c n (Nat.lt_of_succ_lt h)))
    else wuAcc (blkX0 V c ⟨n + 1, h⟩) (blkX3 V c ⟨n + 1, h⟩) (uAt c n (Nat.lt_of_succ_lt h))

theorem uAt_first (c : Dev nD) (t : Fin cfg2.N) (h0 : t.val % 4 = 0) : uAt V c t.val t.isLt = wuAcc (blkX0 V c t) (blkX3 V c t) k2_pay10 := by
  obtain ⟨n, h⟩ := t
  cases n with
  | zero => rfl
  | succ n => dsimp only [uAt]; rw [if_pos h0]

theorem uAt_mid (c : Dev nD) (t : Fin cfg2.N) (h0 : ¬ t.val % 4 = 0) (h1 : ¬ t.val % 4 = 3) :
    uAt V c t.val t.isLt = wuAcc (blkX0 V c t) (blkX3 V c t) (uAt V c (t.val - 1) (Nat.lt_of_le_of_lt (Nat.sub_le _ _) t.isLt)) := by
  obtain ⟨n, h⟩ := t
  cases n with
  | zero => exact absurd rfl h0
  | succ n => dsimp only [uAt]; rw [if_neg h0, if_neg h1]; rfl

theorem uAt_last (c : Dev nD) (t : Fin cfg2.N) (h1 : t.val % 4 = 3) :
    uAt V c t.val t.isLt = wuTail (iblk V c 5 t) (iblk V c 8 t) (wuAcc (blkX0 V c t) (blkX3 V c t) (uAt V c (t.val - 1) (Nat.lt_of_le_of_lt (Nat.sub_le _ _) t.isLt))) := by
  obtain ⟨n, h⟩ := t
  cases n with
  | zero => exact absurd h1 (by show ¬ 0 % 4 = 3; decide)
  | succ n => dsimp only [uAt]; rw [if_neg (fun h0 => by simp only at h1; omega), if_pos h1]; rfl

/-- The third product so far. -/
def dAt (c : Dev nD) : (n : ℕ) → n < cfg2.N → Vec F S704x1024 .f32
  | 0, h => wdAcc (blkX1 V c ⟨0, h⟩) (blkX4 V c ⟨0, h⟩) k2_pay11
  | n + 1, h =>
    if (n + 1) % 4 = 0 then wdAcc (blkX1 V c ⟨n + 1, h⟩) (blkX4 V c ⟨n + 1, h⟩) k2_pay11
    else if (n + 1) % 4 = 3 then wdTail (iblk V c 6 ⟨n + 1, h⟩) (iblk V c 9 ⟨n + 1, h⟩) (wdAcc (blkX1 V c ⟨n + 1, h⟩) (blkX4 V c ⟨n + 1, h⟩) (dAt c n (Nat.lt_of_succ_lt h)))
    else wdAcc (blkX1 V c ⟨n + 1, h⟩) (blkX4 V c ⟨n + 1, h⟩) (dAt c n (Nat.lt_of_succ_lt h))

theorem dAt_first (c : Dev nD) (t : Fin cfg2.N) (h0 : t.val % 4 = 0) : dAt V c t.val t.isLt = wdAcc (blkX1 V c t) (blkX4 V c t) k2_pay11 := by
  obtain ⟨n, h⟩ := t
  cases n with
  | zero => rfl
  | succ n => dsimp only [dAt]; rw [if_pos h0]

theorem dAt_mid (c : Dev nD) (t : Fin cfg2.N) (h0 : ¬ t.val % 4 = 0) (h1 : ¬ t.val % 4 = 3) :
    dAt V c t.val t.isLt = wdAcc (blkX1 V c t) (blkX4 V c t) (dAt V c (t.val - 1) (Nat.lt_of_le_of_lt (Nat.sub_le _ _) t.isLt)) := by
  obtain ⟨n, h⟩ := t
  cases n with
  | zero => exact absurd rfl h0
  | succ n => dsimp only [dAt]; rw [if_neg h0, if_neg h1]; rfl

theorem dAt_last (c : Dev nD) (t : Fin cfg2.N) (h1 : t.val % 4 = 3) :
    dAt V c t.val t.isLt = wdTail (iblk V c 6 t) (iblk V c 9 t) (wdAcc (blkX1 V c t) (blkX4 V c t) (dAt V c (t.val - 1) (Nat.lt_of_le_of_lt (Nat.sub_le _ _) t.isLt))) := by
  obtain ⟨n, h⟩ := t
  cases n with
  | zero => exact absurd h1 (by show ¬ 0 % 4 = 3; decide)
  | succ n => dsimp only [dAt]; rw [if_neg (fun h0 => by simp only at h1; omega), if_pos h1]; rfl

/-- What is carried between points: the scratch at what the point before left. -/
def PhiS (c : Dev nD) : (n : ℕ) → n ≤ cfg2.N → sProp 𝕄
  | 0, _ => Pipeline.ΦA spec2 c
  | n + 1, hn => iprop(iprop(iprop(owns (c : Thread nD τ) sc0 fullShare (gAt V c n hn) ∗ owns (c : Thread nD τ) sc1 fullShare (uAt V c n hn) ∗ owns (c : Thread nD τ) sc2 fullShare (dAt V c n hn)) ∗ rest c) ∗ (∃ r, prngReg c r))

theorem PhiS_succ (c : Dev nD) (n : ℕ) (hn : n < cfg2.N) : PhiS V c (n + 1) hn = iprop(iprop(iprop(owns (c : Thread nD τ) sc0 fullShare (gAt V c n hn) ∗ owns (c : Thread nD τ) sc1 fullShare (uAt V c n hn) ∗ owns (c : Thread nD τ) sc2 fullShare (dAt V c n hn)) ∗ rest c) ∗ (∃ r, prngReg c r)) := rfl

theorem PhiS_pos (c : Dev nD) (n : ℕ) (h : n ≤ cfg2.N) (hz : n ≠ 0) : PhiS V c n h = iprop(iprop(iprop(owns (c : Thread nD τ) sc0 fullShare (gAt V c (n - 1) (by omega)) ∗ owns (c : Thread nD τ) sc1 fullShare (uAt V c (n - 1) (by omega)) ∗ owns (c : Thread nD τ) sc2 fullShare (dAt V c (n - 1) (by omega))) ∗ rest c) ∗ (∃ r, prngReg c r)) := by
  cases n with
  | zero => exact absurd rfl hz
  | succ n => rfl

/-- The data of the call on core `c`. -/
def dat (c : Dev nD) : Dat τ (Elt F) Unit ℕ (UR sig nD τ) ℕ cfg2 c where
  A w := V c (Pipeline.arrRef spec2 w)
  after w t := match w with
    | ⟨0, _⟩ => blkX0 V c t
    | ⟨1, _⟩ => blkX1 V c t
    | ⟨2, _⟩ => blkX2 V c t
    | ⟨3, _⟩ => blkX3 V c t
    | ⟨4, _⟩ => blkX4 V c t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => k2_pay3 (gAt V c t.val t.isLt)
    | ⟨11, _⟩ => k2_pay4 (uAt V c t.val t.isLt)
    | ⟨12, _⟩ => k2_pay5 (dAt V c t.val t.isLt)
  Φ t := PhiS V c t.val (Nat.le_of_lt_succ t.isLt)
  q w := Pipeline.shareOf spec2 w
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; exact Pipeline.Dat.Φ_castSucc (PhiS V c) t

theorem after0 (c : Dev nD) (t : Fin cfg2.N) : (dat V c).after 0 t = blkX0 V c t := by dsimp only [dat]
theorem after1 (c : Dev nD) (t : Fin cfg2.N) : (dat V c).after 1 t = blkX1 V c t := by dsimp only [dat]
theorem after2 (c : Dev nD) (t : Fin cfg2.N) : (dat V c).after 2 t = blkX2 V c t := by dsimp only [dat]
theorem after3 (c : Dev nD) (t : Fin cfg2.N) : (dat V c).after 3 t = blkX3 V c t := by dsimp only [dat]
theorem after4 (c : Dev nD) (t : Fin cfg2.N) : (dat V c).after 4 t = blkX4 V c t := by dsimp only [dat]
theorem after5 (c : Dev nD) (t : Fin cfg2.N) : (dat V c).after 5 t = iblk V c 5 t := by dsimp only [dat]
theorem after6 (c : Dev nD) (t : Fin cfg2.N) : (dat V c).after 6 t = iblk V c 6 t := by dsimp only [dat]
theorem after7 (c : Dev nD) (t : Fin cfg2.N) : (dat V c).after 7 t = iblk V c 7 t := by dsimp only [dat]
theorem after8 (c : Dev nD) (t : Fin cfg2.N) : (dat V c).after 8 t = iblk V c 8 t := by dsimp only [dat]
theorem after9 (c : Dev nD) (t : Fin cfg2.N) : (dat V c).after 9 t = iblk V c 9 t := by dsimp only [dat]
theorem after10 (c : Dev nD) (t : Fin cfg2.N) : (dat V c).after 10 t = k2_pay3 (gAt V c t.val t.isLt) := by dsimp only [dat]
theorem after11 (c : Dev nD) (t : Fin cfg2.N) : (dat V c).after 11 t = k2_pay4 (uAt V c t.val t.isLt) := by dsimp only [dat]
theorem after12 (c : Dev nD) (t : Fin cfg2.N) : (dat V c).after 12 t = k2_pay5 (dAt V c t.val t.isLt) := by dsimp only [dat]

theorem before0 (c : Dev nD) (t : Fin cfg2.N) (d) : (dat V c).before 0 t d = blkX0 V c t := beforeOf0 V (dat V c) (A_eq V c 0) (after0 V c) t d
theorem before1 (c : Dev nD) (t : Fin cfg2.N) (d) : (dat V c).before 1 t d = blkX1 V c t := beforeOf1 V (dat V c) (A_eq V c 1) (after1 V c) t d
theorem before2 (c : Dev nD) (t : Fin cfg2.N) (d) : (dat V c).before 2 t d = blkX2 V c t := beforeOf2 V (dat V c) (A_eq V c 2) (after2 V c) t d
theorem before3 (c : Dev nD) (t : Fin cfg2.N) (d) : (dat V c).before 3 t d = blkX3 V c t := beforeOf3 V (dat V c) (A_eq V c 3) (after3 V c) t d
theorem before4 (c : Dev nD) (t : Fin cfg2.N) (d) : (dat V c).before 4 t d = blkX4 V c t := beforeOf4 V (dat V c) (A_eq V c 4) (after4 V c) t d
theorem before5 (c : Dev nD) (t : Fin cfg2.N) (d) : (dat V c).before 5 t d = iblk V c 5 t := beforeOf5 V (dat V c) (A_eq V c 5) (after5 V c) t d
theorem before6 (c : Dev nD) (t : Fin cfg2.N) (d) : (dat V c).before 6 t d = iblk V c 6 t := beforeOf6 V (dat V c) (A_eq V c 6) (after6 V c) t d
theorem before7 (c : Dev nD) (t : Fin cfg2.N) (d) : (dat V c).before 7 t d = iblk V c 7 t := beforeOf7 V (dat V c) (A_eq V c 7) (after7 V c) t d
theorem before8 (c : Dev nD) (t : Fin cfg2.N) (d) : (dat V c).before 8 t d = iblk V c 8 t := beforeOf8 V (dat V c) (A_eq V c 8) (after8 V c) t d
theorem before9 (c : Dev nD) (t : Fin cfg2.N) (d) : (dat V c).before 9 t d = iblk V c 9 t := beforeOf9 V (dat V c) (A_eq V c 9) (after9 V c) t d

/-- The carried contents may be forgotten. -/
theorem Phi_any (c : Dev nD) (n : ℕ) (h : n ≤ cfg2.N) : PhiS V c n h ⊢ (Pipeline.ΦA spec2 c : sProp 𝕄) := by
  by_cases hz : n = 0
  · subst hz; exact Idealize.SL.BI.Entails.refl _
  · rw [PhiS_pos V c _ _ hz, PhiA_eq]
    iintro ⟨⟨⟨HS0, HS1, HS2⟩, Hr⟩, Hg⟩
    isplitl [HS0 HS1 HS2 Hr]
    · isplitl [HS0 HS1 HS2]
      · isplitl [HS0]
        · iexists _; iexact HS0
        isplitl [HS1]
        · iexists _; iexact HS1
        iexists _; iexact HS2
      iexact Hr
    iexact Hg

/-- What the launch hands the call is what is held before the first point, -/
theorem hin (c : Dev nD) : Pipeline.ΦA spec2 c ⊢ (dat V c).Φ 0 := by
  rw [show (dat V c).Φ 0 = PhiS V c 0 (Nat.zero_le _) from rfl]
  exact Idealize.SL.BI.Entails.refl _

/-- and what is held after the last is given back. -/
theorem hout (c : Dev nD) : (dat V c).Φ (Fin.last cfg2.N) ⊢ Pipeline.ΦA spec2 c := by
  rw [show (dat V c).Φ (Fin.last cfg2.N) = PhiS V c cfg2.N (Nat.le_refl _) from rfl]
  exact Phi_any V c _ _

end Cert.Chain.Wgr

end
-- ==== Proof.WgrBody.lean ====
module

public import proofs.«01_k».proof.Proof.WgrDat

@[expose] public section

set_option maxRecDepth 16384

noncomputable section

/-! The weight-gradient call: its body does at every point what its data say. -/

namespace Cert.Chain.Wgr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d))
    ∗ (∃ d, owns (c : Thread nD τ) (ms11 t) fullShare ((dat V c).before 11 t d))
    ∗ (∃ d, owns (c : Thread nD τ) (ms12 t) fullShare ((dat V c).before 12 t d)))
/-- and what it leaves. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t)

set_option maxHeartbeats 3200000 in
theorem body_first (c : Dev nD) (t : Fin cfg2.N) (h0 : t.val % 4 = 0) :
    bodyPre V c t ⊢ wp frame (wpE (defs₀ (F := F)) Variants.none c none) Set.univ (bodyAt2 t) (fun _ => bodyPost V c t) := by
  have hN : t.val < 16 := lt_of_lt_of_eq t.isLt (show cfg2.N = 16 from N_2)
  unfold bodyPre bodyPost bodyAt2
  simp only [before0, before1, before2, before3, before4, before5, before6, before7, before8, before9]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [show cfg2.idle 0 (grid2.coords t) = false from rfl], after0]
  rw [show (dat V c).leavesExact 1 t = owns (c : Thread nD τ) (ms1 t) fullShare ((dat V c).after 1 t) from by
    unfold Dat.leavesExact; rw [show cfg2.idle 1 (grid2.coords t) = false from rfl], after1]
  rw [show (dat V c).leavesExact 2 t = owns (c : Thread nD τ) (ms2 t) fullShare ((dat V c).after 2 t) from by
    unfold Dat.leavesExact; rw [show cfg2.idle 2 (grid2.coords t) = false from rfl], after2]
  rw [show (dat V c).leavesExact 3 t = owns (c : Thread nD τ) (ms3 t) fullShare ((dat V c).after 3 t) from by
    unfold Dat.leavesExact; rw [show cfg2.idle 3 (grid2.coords t) = false from rfl], after3]
  rw [show (dat V c).leavesExact 4 t = owns (c : Thread nD τ) (ms4 t) fullShare ((dat V c).after 4 t) from by
    unfold Dat.leavesExact; rw [show cfg2.idle 4 (grid2.coords t) = false from rfl], after4]
  rw [show (dat V c).leavesExact 5 t = owns (c : Thread nD τ) (ms5 t) fullShare ((dat V c).after 5 t) from by
    unfold Dat.leavesExact; rw [show cfg2.idle 5 (grid2.coords t) = false from rfl], after5]
  rw [show (dat V c).leavesExact 6 t = owns (c : Thread nD τ) (ms6 t) fullShare ((dat V c).after 6 t) from by
    unfold Dat.leavesExact; rw [show cfg2.idle 6 (grid2.coords t) = false from rfl], after6]
  rw [show (dat V c).leavesExact 7 t = owns (c : Thread nD τ) (ms7 t) fullShare ((dat V c).after 7 t) from by
    unfold Dat.leavesExact; rw [show cfg2.idle 7 (grid2.coords t) = false from rfl], after7]
  rw [show (dat V c).leavesExact 8 t = owns (c : Thread nD τ) (ms8 t) fullShare ((dat V c).after 8 t) from by
    unfold Dat.leavesExact; rw [show cfg2.idle 8 (grid2.coords t) = false from rfl], after8]
  rw [show (dat V c).leavesExact 9 t = owns (c : Thread nD τ) (ms9 t) fullShare ((dat V c).after 9 t) from by
    unfold Dat.leavesExact; rw [show cfg2.idle 9 (grid2.coords t) = false from rfl], after9]
  rw [Dat.leavesExact_idle (dat V c) 10 t (idle10 t (by omega)) (noFlush10 t (by omega))]
  rw [Dat.leavesExact_idle (dat V c) 11 t (idle11 t (by omega)) (noFlush11 t (by omega))]
  rw [Dat.leavesExact_idle (dat V c) 12 t (idle12 t (by omega)) (noFlush12 t (by omega))]
  rw [PhiS_castSucc V c t]
  refine (Idealize.SL.BI.Laws.sep_mono (Phi_any V c _ _) (Idealize.SL.BI.Entails.refl _)).trans ?_
  rw [PhiA_eq]
  rw [gAt_first V c t h0]
  rw [uAt_first V c t h0]
  rw [dAt_first V c t h0]
  iintro ⟨⟨⟨⟨⟨%e0, HS0⟩, ⟨%e1, HS1⟩, ⟨%e2, HS2⟩⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (Cert.Chain.wgr_first c (grid2.coords t) _ _ _ _ _ _ _ _ _ _ _ _ _ _ _ _ _ _ _ _ _ _ _ _ _ _ _ _ _ _ _ _ ((hcond1 t).mpr h0) (fun h => absurd ((hcond2 t).mp h) (by omega)) (blkX0 V c t) (blkX1 V c t) (blkX2 V c t) (blkX3 V c t) (blkX4 V c t) (iblk V c 5 t) (iblk V c 6 t) (iblk V c 7 t) (iblk V c 8 t) (iblk V c 9 t) ((dat V c).before 10 t d10) ((dat V c).before 11 t d11) ((dat V c).before 12 t d12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexists _; iexact HS0
  isplitl [HS1]; · iexists _; iexact HS1
  isplitl [HS2]; · iexists _; iexact HS2
  iintro ⟨H0, H1, H2, H3, H4, H5, H6, H7, H8, H9, H10, H11, H12, HS0, HS1, HS2⟩
  isplitl [HS0 HS1 HS2 Hr Hg]
  · isplitl [HS0 HS1 HS2 Hr]
    · isplitl [HS0 HS1 HS2]
      · isplitl [HS0]; · iexact HS0
        isplitl [HS1]; · iexact HS1
        iexact HS2
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists d10; iexact H10
  isplitl [H11]; · iexists d11; iexact H11
  iexists d12; iexact H12

set_option maxHeartbeats 3200000 in
theorem body_mid (c : Dev nD) (t : Fin cfg2.N) (h0 : ¬ t.val % 4 = 0) (h1 : ¬ t.val % 4 = 3) :
    bodyPre V c t ⊢ wp frame (wpE (defs₀ (F := F)) Variants.none c none) Set.univ (bodyAt2 t) (fun _ => bodyPost V c t) := by
  have hN : t.val < 16 := lt_of_lt_of_eq t.isLt (show cfg2.N = 16 from N_2)
  unfold bodyPre bodyPost bodyAt2
  simp only [before0, before1, before2, before3, before4, before5, before6, before7, before8, before9]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [show cfg2.idle 0 (grid2.coords t) = false from rfl], after0]
  rw [show (dat V c).leavesExact 1 t = owns (c : Thread nD τ) (ms1 t) fullShare ((dat V c).after 1 t) from by
    unfold Dat.leavesExact; rw [show cfg2.idle 1 (grid2.coords t) = false from rfl], after1]
  rw [show (dat V c).leavesExact 2 t = owns (c : Thread nD τ) (ms2 t) fullShare ((dat V c).after 2 t) from by
    unfold Dat.leavesExact; rw [show cfg2.idle 2 (grid2.coords t) = false from rfl], after2]
  rw [show (dat V c).leavesExact 3 t = owns (c : Thread nD τ) (ms3 t) fullShare ((dat V c).after 3 t) from by
    unfold Dat.leavesExact; rw [show cfg2.idle 3 (grid2.coords t) = false from rfl], after3]
  rw [show (dat V c).leavesExact 4 t = owns (c : Thread nD τ) (ms4 t) fullShare ((dat V c).after 4 t) from by
    unfold Dat.leavesExact; rw [show cfg2.idle 4 (grid2.coords t) = false from rfl], after4]
  rw [show (dat V c).leavesExact 5 t = owns (c : Thread nD τ) (ms5 t) fullShare ((dat V c).after 5 t) from by
    unfold Dat.leavesExact; rw [show cfg2.idle 5 (grid2.coords t) = false from rfl], after5]
  rw [show (dat V c).leavesExact 6 t = owns (c : Thread nD τ) (ms6 t) fullShare ((dat V c).after 6 t) from by
    unfold Dat.leavesExact; rw [show cfg2.idle 6 (grid2.coords t) = false from rfl], after6]
  rw [show (dat V c).leavesExact 7 t = owns (c : Thread nD τ) (ms7 t) fullShare ((dat V c).after 7 t) from by
    unfold Dat.leavesExact; rw [show cfg2.idle 7 (grid2.coords t) = false from rfl], after7]
  rw [show (dat V c).leavesExact 8 t = owns (c : Thread nD τ) (ms8 t) fullShare ((dat V c).after 8 t) from by
    unfold Dat.leavesExact; rw [show cfg2.idle 8 (grid2.coords t) = false from rfl], after8]
  rw [show (dat V c).leavesExact 9 t = owns (c : Thread nD τ) (ms9 t) fullShare ((dat V c).after 9 t) from by
    unfold Dat.leavesExact; rw [show cfg2.idle 9 (grid2.coords t) = false from rfl], after9]
  rw [Dat.leavesExact_idle (dat V c) 10 t (idle10 t h1) (noFlush10 t h1)]
  rw [Dat.leavesExact_idle (dat V c) 11 t (idle11 t h1) (noFlush11 t h1)]
  rw [Dat.leavesExact_idle (dat V c) 12 t (idle12 t h1) (noFlush12 t h1)]
  rw [PhiS_castSucc V c t, PhiS_pos V c _ _ (fun hz => h0 (by omega))]
  rw [gAt_mid V c t h0 h1]
  rw [uAt_mid V c t h0 h1]
  rw [dAt_mid V c t h0 h1]
  iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (Cert.Chain.wgr_mid c (grid2.coords t) _ _ _ _ _ _ _ _ _ _ _ _ _ _ _ _ _ _ _ _ _ _ _ _ _ _ _ _ _ _ _ _ (fun h => h0 ((hcond1 t).mp h)) (fun h => h1 ((hcond2 t).mp h)) (blkX0 V c t) (blkX1 V c t) (blkX2 V c t) (blkX3 V c t) (blkX4 V c t) (iblk V c 5 t) (iblk V c 6 t) (iblk V c 7 t) (iblk V c 8 t) (iblk V c 9 t) ((dat V c).before 10 t d10) ((dat V c).before 11 t d11) ((dat V c).before 12 t d12) (gAt V c (t.val - 1) (Nat.lt_of_le_of_lt (Nat.sub_le _ _) t.isLt)) (uAt V c (t.val - 1) (Nat.lt_of_le_of_lt (Nat.sub_le _ _) t.isLt)) (dAt V c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  iintro ⟨H0, H1, H2, H3, H4, H5, H6, H7, H8, H9, H10, H11, H12, HS0, HS1, HS2⟩
  isplitl [HS0 HS1 HS2 Hr Hg]
  · isplitl [HS0 HS1 HS2 Hr]
    · isplitl [HS0 HS1 HS2]
      · isplitl [HS0]; · iexact HS0
        isplitl [HS1]; · iexact HS1
        iexact HS2
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists d10; iexact H10
  isplitl [H11]; · iexists d11; iexact H11
  iexists d12; iexact H12

set_option maxHeartbeats 3200000 in
theorem body_last (c : Dev nD) (t : Fin cfg2.N) (h1 : t.val % 4 = 3) :
    bodyPre V c t ⊢ wp frame (wpE (defs₀ (F := F)) Variants.none c none) Set.univ (bodyAt2 t) (fun _ => bodyPost V c t) := by
  have hN : t.val < 16 := lt_of_lt_of_eq t.isLt (show cfg2.N = 16 from N_2)
  unfold bodyPre bodyPost bodyAt2
  simp only [before0, before1, before2, before3, before4, before5, before6, before7, before8, before9]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [show cfg2.idle 0 (grid2.coords t) = false from rfl], after0]
  rw [show (dat V c).leavesExact 1 t = owns (c : Thread nD τ) (ms1 t) fullShare ((dat V c).after 1 t) from by
    unfold Dat.leavesExact; rw [show cfg2.idle 1 (grid2.coords t) = false from rfl], after1]
  rw [show (dat V c).leavesExact 2 t = owns (c : Thread nD τ) (ms2 t) fullShare ((dat V c).after 2 t) from by
    unfold Dat.leavesExact; rw [show cfg2.idle 2 (grid2.coords t) = false from rfl], after2]
  rw [show (dat V c).leavesExact 3 t = owns (c : Thread nD τ) (ms3 t) fullShare ((dat V c).after 3 t) from by
    unfold Dat.leavesExact; rw [show cfg2.idle 3 (grid2.coords t) = false from rfl], after3]
  rw [show (dat V c).leavesExact 4 t = owns (c : Thread nD τ) (ms4 t) fullShare ((dat V c).after 4 t) from by
    unfold Dat.leavesExact; rw [show cfg2.idle 4 (grid2.coords t) = false from rfl], after4]
  rw [show (dat V c).leavesExact 5 t = owns (c : Thread nD τ) (ms5 t) fullShare ((dat V c).after 5 t) from by
    unfold Dat.leavesExact; rw [show cfg2.idle 5 (grid2.coords t) = false from rfl], after5]
  rw [show (dat V c).leavesExact 6 t = owns (c : Thread nD τ) (ms6 t) fullShare ((dat V c).after 6 t) from by
    unfold Dat.leavesExact; rw [show cfg2.idle 6 (grid2.coords t) = false from rfl], after6]
  rw [show (dat V c).leavesExact 7 t = owns (c : Thread nD τ) (ms7 t) fullShare ((dat V c).after 7 t) from by
    unfold Dat.leavesExact; rw [show cfg2.idle 7 (grid2.coords t) = false from rfl], after7]
  rw [show (dat V c).leavesExact 8 t = owns (c : Thread nD τ) (ms8 t) fullShare ((dat V c).after 8 t) from by
    unfold Dat.leavesExact; rw [show cfg2.idle 8 (grid2.coords t) = false from rfl], after8]
  rw [show (dat V c).leavesExact 9 t = owns (c : Thread nD τ) (ms9 t) fullShare ((dat V c).after 9 t) from by
    unfold Dat.leavesExact; rw [show cfg2.idle 9 (grid2.coords t) = false from rfl], after9]
  rw [show (dat V c).leavesExact 10 t = owns (c : Thread nD τ) (ms10 t) fullShare ((dat V c).after 10 t) from by
    unfold Dat.leavesExact; rw [live10 t h1], after10]
  rw [show (dat V c).leavesExact 11 t = owns (c : Thread nD τ) (ms11 t) fullShare ((dat V c).after 11 t) from by
    unfold Dat.leavesExact; rw [live11 t h1], after11]
  rw [show (dat V c).leavesExact 12 t = owns (c : Thread nD τ) (ms12 t) fullShare ((dat V c).after 12 t) from by
    unfold Dat.leavesExact; rw [live12 t h1], after12]
  rw [PhiS_castSucc V c t, PhiS_pos V c _ _ (by omega)]
  rw [gAt_last V c t h1]
  rw [uAt_last V c t h1]
  rw [dAt_last V c t h1]
  iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (Cert.Chain.wgr_last c (grid2.coords t) _ _ _ _ _ _ _ _ _ _ _ _ _ _ _ _ _ _ _ _ _ _ _ _ _ _ _ _ _ _ _ _ (fun h => absurd ((hcond1 t).mp h) (by omega)) ((hcond2 t).mpr h1) (blkX0 V c t) (blkX1 V c t) (blkX2 V c t) (blkX3 V c t) (blkX4 V c t) (iblk V c 5 t) (iblk V c 6 t) (iblk V c 7 t) (iblk V c 8 t) (iblk V c 9 t) (gAt V c (t.val - 1) (Nat.lt_of_le_of_lt (Nat.sub_le _ _) t.isLt)) (uAt V c (t.val - 1) (Nat.lt_of_le_of_lt (Nat.sub_le _ _) t.isLt)) (dAt V c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  iintro ⟨H0, H1, H2, H3, H4, H5, H6, H7, H8, H9, H10, H11, H12, HS0, HS1, HS2⟩
  isplitl [HS0 HS1 HS2 Hr Hg]
  · isplitl [HS0 HS1 HS2 Hr]
    · isplitl [HS0 HS1 HS2]
      · isplitl [HS0]; · iexact HS0
        isplitl [HS1]; · iexact HS1
        iexact HS2
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at any point. -/
theorem sound_body (c : Dev nD) (t : Fin cfg2.N) :
    bodyPre V c t ⊢ wp frame (wpE (defs₀ (F := F)) Variants.none c none) Set.univ (bodyAt2 t) (fun _ => bodyPost V c t) := by
  have hN : t.val < 16 := lt_of_lt_of_eq t.isLt (show cfg2.N = 16 from N_2)
  by_cases h0 : t.val % 4 = 0
  · exact body_first V c t h0
  · by_cases h1 : t.val % 4 = 3
    · exact body_last V c t h1
    · exact body_mid V c t h0 h1

theorem defs₀_row (t : Fin cfg2.N) :
    defs₀ (F := F) .tc cfg2.body (cfg2.bodyArgs t (cfg2.slots t)) = bodyAt2 t := by
  unfold defs₀; rw [Defs.onTc_tc]

/-- The body does at every point what the data of the call say. -/
theorem body_obligation (c : Dev nD) : BodyObligation (dat V c) (defs₀ (F := F)) Variants.none () Set.univ := fun t => by
  rw [bigSep_W2, bigSep_W2, defs₀_row]
  exact triple_restated (sound_body V c t) rfl .rfl fun _ => .rfl

end Cert.Chain.Wgr

end
-- ==== Proof.Entries.lean ====
module

public import proofs.«01_k».proof.Proof.Gen.KernelIdeal.Regions
public import proofs.«01_k».proof.Proof.FwdBody
public import proofs.«01_k».proof.Proof.ActBody
public import proofs.«01_k».proof.Proof.WgrBody

@[expose] public section

set_option maxRecDepth 16384

noncomputable section

/-! The three calls in a row: what each finds and what it leaves. -/

namespace Cert.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the forward call finds: the buffers after the host operations. -/
abbrev B1 (c : Dev nD) (b : Ref sig .tc) : Buf (Elt F) ((c : Thread nD τ).loc b) := V1 m c b

/-- What the forward call leaves in its outputs. -/
def O2 (r : Ref sig .tc) (c : Dev nD) : Buf (Elt F) ((c : Thread nD τ).loc r) :=
  if h : r = main_v8_0 then h ▸ (Fwd.dat (B1 m) c).arrAt 5 cfg0.N else
  if h : r = main_v8_1 then h ▸ (Fwd.dat (B1 m) c).arrAt 6 cfg0.N else
  if h : r = main_v8_2 then h ▸ (Fwd.dat (B1 m) c).arrAt 7 cfg0.N else
  if h : r = main_v8_3 then h ▸ (Fwd.dat (B1 m) c).arrAt 8 cfg0.N else
  if h : r = main_v8_4 then h ▸ (Fwd.dat (B1 m) c).arrAt 9 cfg0.N else
  B1 m c r

theorem O2_0 (c : Dev nD) : O2 m main_v8_0 c = (Fwd.dat (B1 m) c).arrAt 5 cfg0.N := by
  unfold O2;  rw [dif_pos rfl]
theorem O2_1 (c : Dev nD) : O2 m main_v8_1 c = (Fwd.dat (B1 m) c).arrAt 6 cfg0.N := by
  unfold O2; rw [dif_neg (show ¬ (main_v8_1 : Ref sig .tc) = main_v8_0 by decide)]; rw [dif_pos rfl]
theorem O2_2 (c : Dev nD) : O2 m main_v8_2 c = (Fwd.dat (B1 m) c).arrAt 7 cfg0.N := by
  unfold O2; rw [dif_neg (show ¬ (main_v8_2 : Ref sig .tc) = main_v8_0 by decide)]; rw [dif_neg (show ¬ (main_v8_2 : Ref sig .tc) = main_v8_1 by decide)]; rw [dif_pos rfl]
theorem O2_3 (c : Dev nD) : O2 m main_v8_3 c = (Fwd.dat (B1 m) c).arrAt 8 cfg0.N := by
  unfold O2; rw [dif_neg (show ¬ (main_v8_3 : Ref sig .tc) = main_v8_0 by decide)]; rw [dif_neg (show ¬ (main_v8_3 : Ref sig .tc) = main_v8_1 by decide)]; rw [dif_neg (show ¬ (main_v8_3 : Ref sig .tc) = main_v8_2 by decide)]; rw [dif_pos rfl]
theorem O2_4 (c : Dev nD) : O2 m main_v8_4 c = (Fwd.dat (B1 m) c).arrAt 9 cfg0.N := by
  unfold O2; rw [dif_neg (show ¬ (main_v8_4 : Ref sig .tc) = main_v8_0 by decide)]; rw [dif_neg (show ¬ (main_v8_4 : Ref sig .tc) = main_v8_1 by decide)]; rw [dif_neg (show ¬ (main_v8_4 : Ref sig .tc) = main_v8_2 by decide)]; rw [dif_neg (show ¬ (main_v8_4 : Ref sig .tc) = main_v8_3 by decide)]; rw [dif_pos rfl]

/-- What the activation-gradient call finds. -/
abbrev B2 (c : Dev nD) (b : Ref sig .tc) : Buf (Elt F) ((c : Thread nD τ).loc b) := V2 m (fun _ => O2 m) c b

/-- What the activation-gradient call leaves in its outputs. -/
def O3 (r : Ref sig .tc) (c : Dev nD) : Buf (Elt F) ((c : Thread nD τ).loc r) :=
  if h : r = main_v9_0 then h ▸ (Act.dat (B2 m) c).arrAt 8 cfg1.N else
  if h : r = main_v9_1 then h ▸ (Act.dat (B2 m) c).arrAt 9 cfg1.N else
  if h : r = main_v9_2 then h ▸ (Act.dat (B2 m) c).arrAt 10 cfg1.N else
  if h : r = main_v9_3 then h ▸ (Act.dat (B2 m) c).arrAt 11 cfg1.N else
  if h : r = main_v9_4 then h ▸ (Act.dat (B2 m) c).arrAt 12 cfg1.N else
  B2 m c r

theorem O3_0 (c : Dev nD) : O3 m main_v9_0 c = (Act.dat (B2 m) c).arrAt 8 cfg1.N := by
  unfold O3;  rw [dif_pos rfl]
theorem O3_1 (c : Dev nD) : O3 m main_v9_1 c = (Act.dat (B2 m) c).arrAt 9 cfg1.N := by
  unfold O3; rw [dif_neg (show ¬ (main_v9_1 : Ref sig .tc) = main_v9_0 by decide)]; rw [dif_pos rfl]
theorem O3_2 (c : Dev nD) : O3 m main_v9_2 c = (Act.dat (B2 m) c).arrAt 10 cfg1.N := by
  unfold O3; rw [dif_neg (show ¬ (main_v9_2 : Ref sig .tc) = main_v9_0 by decide)]; rw [dif_neg (show ¬ (main_v9_2 : Ref sig .tc) = main_v9_1 by decide)]; rw [dif_pos rfl]
theorem O3_3 (c : Dev nD) : O3 m main_v9_3 c = (Act.dat (B2 m) c).arrAt 11 cfg1.N := by
  unfold O3; rw [dif_neg (show ¬ (main_v9_3 : Ref sig .tc) = main_v9_0 by decide)]; rw [dif_neg (show ¬ (main_v9_3 : Ref sig .tc) = main_v9_1 by decide)]; rw [dif_neg (show ¬ (main_v9_3 : Ref sig .tc) = main_v9_2 by decide)]; rw [dif_pos rfl]
theorem O3_4 (c : Dev nD) : O3 m main_v9_4 c = (Act.dat (B2 m) c).arrAt 12 cfg1.N := by
  unfold O3; rw [dif_neg (show ¬ (main_v9_4 : Ref sig .tc) = main_v9_0 by decide)]; rw [dif_neg (show ¬ (main_v9_4 : Ref sig .tc) = main_v9_1 by decide)]; rw [dif_neg (show ¬ (main_v9_4 : Ref sig .tc) = main_v9_2 by decide)]; rw [dif_neg (show ¬ (main_v9_4 : Ref sig .tc) = main_v9_3 by decide)]; rw [dif_pos rfl]

/-- What the first two calls leave. -/
def outs23 : Outs (F := F)
  | 2 => O2 m
  | _ => O3 m

/-- What the weight-gradient call finds. -/
abbrev B3 (c : Dev nD) (b : Ref sig .tc) : Buf (Elt F) ((c : Thread nD τ).loc b) := V3 m (outs23 m) c b

/-- What the weight-gradient call leaves in its outputs. -/
def O4 (r : Ref sig .tc) (c : Dev nD) : Buf (Elt F) ((c : Thread nD τ).loc r) :=
  if h : r = main_v10_0 then h ▸ (Wgr.dat (B3 m) c).arrAt 10 cfg2.N else
  if h : r = main_v10_1 then h ▸ (Wgr.dat (B3 m) c).arrAt 11 cfg2.N else
  if h : r = main_v10_2 then h ▸ (Wgr.dat (B3 m) c).arrAt 12 cfg2.N else
  B3 m c r

theorem O4_0 (c : Dev nD) : O4 m main_v10_0 c = (Wgr.dat (B3 m) c).arrAt 10 cfg2.N := by
  unfold O4;  rw [dif_pos rfl]
theorem O4_1 (c : Dev nD) : O4 m main_v10_1 c = (Wgr.dat (B3 m) c).arrAt 11 cfg2.N := by
  unfold O4; rw [dif_neg (show ¬ (main_v10_1 : Ref sig .tc) = main_v10_0 by decide)]; rw [dif_pos rfl]
theorem O4_2 (c : Dev nD) : O4 m main_v10_2 c = (Wgr.dat (B3 m) c).arrAt 12 cfg2.N := by
  unfold O4; rw [dif_neg (show ¬ (main_v10_2 : Ref sig .tc) = main_v10_0 by decide)]; rw [dif_neg (show ¬ (main_v10_2 : Ref sig .tc) = main_v10_1 by decide)]; rw [dif_pos rfl]

/-- What the calls leave. -/
def outs : Outs (F := F)
  | 2 => O2 m
  | 3 => O3 m
  | _ => O4 m

/-- The buffers at the end. -/
abbrev B4 (c : Dev nD) (b : Ref sig .tc) : Buf (Elt F) ((c : Thread nD τ).loc b) := V4 m (outs m) c b

theorem V2_outs (c : Dev nD) : V2 m (outs m) c = V2 m (fun _ => O2 m) c := rfl
theorem V3_outs (c : Dev nD) : V3 m (outs m) c = V3 m (outs23 m) c := rfl

theorem B2_0 (c : Dev nD) : B2 m c main_v8_0 = O2 m main_v8_0 c := (Function.update_of_ne (StableHlo.devRef_ne_of_ne (by decide : main_v8_0 ≠ main_v8_4)) _ _).trans <| (Function.update_of_ne (StableHlo.devRef_ne_of_ne (by decide : main_v8_0 ≠ main_v8_3)) _ _).trans <| (Function.update_of_ne (StableHlo.devRef_ne_of_ne (by decide : main_v8_0 ≠ main_v8_2)) _ _).trans <| (Function.update_of_ne (StableHlo.devRef_ne_of_ne (by decide : main_v8_0 ≠ main_v8_1)) _ _).trans <| Function.update_self _ _ _
theorem B2_1 (c : Dev nD) : B2 m c main_v8_1 = O2 m main_v8_1 c := (Function.update_of_ne (StableHlo.devRef_ne_of_ne (by decide : main_v8_1 ≠ main_v8_4)) _ _).trans <| (Function.update_of_ne (StableHlo.devRef_ne_of_ne (by decide : main_v8_1 ≠ main_v8_3)) _ _).trans <| (Function.update_of_ne (StableHlo.devRef_ne_of_ne (by decide : main_v8_1 ≠ main_v8_2)) _ _).trans <| Function.update_self _ _ _
theorem B2_2 (c : Dev nD) : B2 m c main_v8_2 = O2 m main_v8_2 c := (Function.update_of_ne (StableHlo.devRef_ne_of_ne (by decide : main_v8_2 ≠ main_v8_4)) _ _).trans <| (Function.update_of_ne (StableHlo.devRef_ne_of_ne (by decide : main_v8_2 ≠ main_v8_3)) _ _).trans <| Function.update_self _ _ _
theorem B2_3 (c : Dev nD) : B2 m c main_v8_3 = O2 m main_v8_3 c := (Function.update_of_ne (StableHlo.devRef_ne_of_ne (by decide : main_v8_3 ≠ main_v8_4)) _ _).trans <| Function.update_self _ _ _
theorem B2_4 (c : Dev nD) : B2 m c main_v8_4 = O2 m main_v8_4 c := Function.update_self _ _ _
theorem B3_0 (c : Dev nD) : B3 m c main_v9_0 = O3 m main_v9_0 c := (Function.update_of_ne (StableHlo.devRef_ne_of_ne (by decide : main_v9_0 ≠ main_v9_4)) _ _).trans <| (Function.update_of_ne (StableHlo.devRef_ne_of_ne (by decide : main_v9_0 ≠ main_v9_3)) _ _).trans <| (Function.update_of_ne (StableHlo.devRef_ne_of_ne (by decide : main_v9_0 ≠ main_v9_2)) _ _).trans <| (Function.update_of_ne (StableHlo.devRef_ne_of_ne (by decide : main_v9_0 ≠ main_v9_1)) _ _).trans <| Function.update_self _ _ _
theorem B3_1 (c : Dev nD) : B3 m c main_v9_1 = O3 m main_v9_1 c := (Function.update_of_ne (StableHlo.devRef_ne_of_ne (by decide : main_v9_1 ≠ main_v9_4)) _ _).trans <| (Function.update_of_ne (StableHlo.devRef_ne_of_ne (by decide : main_v9_1 ≠ main_v9_3)) _ _).trans <| (Function.update_of_ne (StableHlo.devRef_ne_of_ne (by decide : main_v9_1 ≠ main_v9_2)) _ _).trans <| Function.update_self _ _ _
theorem B3_2 (c : Dev nD) : B3 m c main_v9_2 = O3 m main_v9_2 c := (Function.update_of_ne (StableHlo.devRef_ne_of_ne (by decide : main_v9_2 ≠ main_v9_4)) _ _).trans <| (Function.update_of_ne (StableHlo.devRef_ne_of_ne (by decide : main_v9_2 ≠ main_v9_3)) _ _).trans <| Function.update_self _ _ _
theorem B3_3 (c : Dev nD) : B3 m c main_v9_3 = O3 m main_v9_3 c := (Function.update_of_ne (StableHlo.devRef_ne_of_ne (by decide : main_v9_3 ≠ main_v9_4)) _ _).trans <| Function.update_self _ _ _
theorem B3_4 (c : Dev nD) : B3 m c main_v9_4 = O3 m main_v9_4 c := Function.update_self _ _ _
theorem B4_0 (c : Dev nD) : B4 m c main_v10_0 = O4 m main_v10_0 c := (Function.update_of_ne (StableHlo.devRef_ne_of_ne (by decide : main_v10_0 ≠ main_v10_2)) _ _).trans <| (Function.update_of_ne (StableHlo.devRef_ne_of_ne (by decide : main_v10_0 ≠ main_v10_1)) _ _).trans <| Function.update_self _ _ _
theorem B4_1 (c : Dev nD) : B4 m c main_v10_1 = O4 m main_v10_1 c := (Function.update_of_ne (StableHlo.devRef_ne_of_ne (by decide : main_v10_1 ≠ main_v10_2)) _ _).trans <| Function.update_self _ _ _
theorem B4_2 (c : Dev nD) : B4 m c main_v10_2 = O4 m main_v10_2 c := Function.update_self _ _ _

theorem B2_of (c : Dev nD) (b : Ref sig .tc) (h : b ∉ ([main_v8_0, main_v8_1, main_v8_2, main_v8_3, main_v8_4] : List (Ref sig .tc))) : B2 m c b = B1 m c b := V2_of m _ c b h
theorem B3_of (c : Dev nD) (b : Ref sig .tc) (h : b ∉ ([main_v9_0, main_v9_1, main_v9_2, main_v9_3, main_v9_4] : List (Ref sig .tc))) : B3 m c b = B2 m c b := V3_of m (outs23 m) c b h
theorem B4_of (c : Dev nD) (b : Ref sig .tc) (h : b ∉ ([main_v10_0, main_v10_1, main_v10_2] : List (Ref sig .tc))) : B4 m c b = B3 m c b := V4_of m (outs m) c b h

/-- The data of the three calls. -/
def pdats : (p : Fin 3) → (c : Dev nD) → Dat τ (Elt F) Unit ℕ (UR sig nD τ) ℕ (cfgs p) c
  | ⟨0, _⟩ => fun c => Fwd.dat (B1 m) c
  | ⟨1, _⟩ => fun c => Act.dat (B2 m) c
  | ⟨2, _⟩ => fun c => Wgr.dat (B3 m) c

theorem left0_0 (c : Dev nD) : (Fwd.dat (B1 m) c).arrAt 0 cfg0.N = B2 m c (Pipeline.arrRef spec0 0) :=
  ((Fwd.dat (B1 m) c).arrAt_in 0 rfl _).trans ((B2_of m c (Pipeline.arrRef spec0 0) (by decide)).symm)
theorem left0_1 (c : Dev nD) : (Fwd.dat (B1 m) c).arrAt 1 cfg0.N = B2 m c (Pipeline.arrRef spec0 1) :=
  ((Fwd.dat (B1 m) c).arrAt_in 1 rfl _).trans ((B2_of m c (Pipeline.arrRef spec0 1) (by decide)).symm)
theorem left0_2 (c : Dev nD) : (Fwd.dat (B1 m) c).arrAt 2 cfg0.N = B2 m c (Pipeline.arrRef spec0 2) :=
  ((Fwd.dat (B1 m) c).arrAt_in 2 rfl _).trans ((B2_of m c (Pipeline.arrRef spec0 2) (by decide)).symm)
theorem left0_3 (c : Dev nD) : (Fwd.dat (B1 m) c).arrAt 3 cfg0.N = B2 m c (Pipeline.arrRef spec0 3) :=
  ((Fwd.dat (B1 m) c).arrAt_in 3 rfl _).trans ((B2_of m c (Pipeline.arrRef spec0 3) (by decide)).symm)
theorem left0_4 (c : Dev nD) : (Fwd.dat (B1 m) c).arrAt 4 cfg0.N = B2 m c (Pipeline.arrRef spec0 4) :=
  ((Fwd.dat (B1 m) c).arrAt_in 4 rfl _).trans ((B2_of m c (Pipeline.arrRef spec0 4) (by decide)).symm)
theorem left0_5 (c : Dev nD) : (Fwd.dat (B1 m) c).arrAt 5 cfg0.N = B2 m c (Pipeline.arrRef spec0 5) :=
  ((B2_0 m c).trans (O2_0 m c)).symm
theorem left0_6 (c : Dev nD) : (Fwd.dat (B1 m) c).arrAt 6 cfg0.N = B2 m c (Pipeline.arrRef spec0 6) :=
  ((B2_1 m c).trans (O2_1 m c)).symm
theorem left0_7 (c : Dev nD) : (Fwd.dat (B1 m) c).arrAt 7 cfg0.N = B2 m c (Pipeline.arrRef spec0 7) :=
  ((B2_2 m c).trans (O2_2 m c)).symm
theorem left0_8 (c : Dev nD) : (Fwd.dat (B1 m) c).arrAt 8 cfg0.N = B2 m c (Pipeline.arrRef spec0 8) :=
  ((B2_3 m c).trans (O2_3 m c)).symm
theorem left0_9 (c : Dev nD) : (Fwd.dat (B1 m) c).arrAt 9 cfg0.N = B2 m c (Pipeline.arrRef spec0 9) :=
  ((B2_4 m c).trans (O2_4 m c)).symm
set_option maxHeartbeats 1600000 in
/-- What call 0 leaves in each of its arrays. -/
theorem left0 (c : Dev nD) (w : Fin 10) : (Fwd.dat (B1 m) c).arrAt w cfg0.N = B2 m c (Pipeline.arrRef spec0 w) :=
  match w with
  | ⟨0, _⟩ => left0_0 m c
  | ⟨1, _⟩ => left0_1 m c
  | ⟨2, _⟩ => left0_2 m c
  | ⟨3, _⟩ => left0_3 m c
  | ⟨4, _⟩ => left0_4 m c
  | ⟨5, _⟩ => left0_5 m c
  | ⟨6, _⟩ => left0_6 m c
  | ⟨7, _⟩ => left0_7 m c
  | ⟨8, _⟩ => left0_8 m c
  | ⟨9, _⟩ => left0_9 m c
/-- Call 0 changes no buffer but its arrays. -/
theorem kept0 (c : Dev nD) (b : Ref sig .tc) (hb : b ∉ Finset.univ.image (Pipeline.arrRef spec0)) : B2 m c b = B1 m c b :=
  B2_of m c b fun h => hb (by
    simp only [List.mem_cons, List.not_mem_nil, or_false] at h
    rcases h with rfl | rfl | rfl | rfl | rfl
    · exact Finset.mem_image.mpr ⟨5, Finset.mem_univ _, rfl⟩
    · exact Finset.mem_image.mpr ⟨6, Finset.mem_univ _, rfl⟩
    · exact Finset.mem_image.mpr ⟨7, Finset.mem_univ _, rfl⟩
    · exact Finset.mem_image.mpr ⟨8, Finset.mem_univ _, rfl⟩
    · exact Finset.mem_image.mpr ⟨9, Finset.mem_univ _, rfl⟩)

theorem left1_0 (c : Dev nD) : (Act.dat (B2 m) c).arrAt 0 cfg1.N = B3 m c (Pipeline.arrRef spec1 0) :=
  ((Act.dat (B2 m) c).arrAt_in 0 rfl _).trans ((B3_of m c (Pipeline.arrRef spec1 0) (by decide)).symm)
theorem left1_1 (c : Dev nD) : (Act.dat (B2 m) c).arrAt 1 cfg1.N = B3 m c (Pipeline.arrRef spec1 1) :=
  ((Act.dat (B2 m) c).arrAt_in 1 rfl _).trans ((B3_of m c (Pipeline.arrRef spec1 1) (by decide)).symm)
theorem left1_2 (c : Dev nD) : (Act.dat (B2 m) c).arrAt 2 cfg1.N = B3 m c (Pipeline.arrRef spec1 2) :=
  ((Act.dat (B2 m) c).arrAt_in 2 rfl _).trans ((B3_of m c (Pipeline.arrRef spec1 2) (by decide)).symm)
theorem left1_3 (c : Dev nD) : (Act.dat (B2 m) c).arrAt 3 cfg1.N = B3 m c (Pipeline.arrRef spec1 3) :=
  ((Act.dat (B2 m) c).arrAt_in 3 rfl _).trans ((B3_of m c (Pipeline.arrRef spec1 3) (by decide)).symm)
theorem left1_4 (c : Dev nD) : (Act.dat (B2 m) c).arrAt 4 cfg1.N = B3 m c (Pipeline.arrRef spec1 4) :=
  ((Act.dat (B2 m) c).arrAt_in 4 rfl _).trans ((B3_of m c (Pipeline.arrRef spec1 4) (by decide)).symm)
theorem left1_5 (c : Dev nD) : (Act.dat (B2 m) c).arrAt 5 cfg1.N = B3 m c (Pipeline.arrRef spec1 5) :=
  ((Act.dat (B2 m) c).arrAt_in 5 rfl _).trans ((B3_of m c (Pipeline.arrRef spec1 5) (by decide)).symm)
theorem left1_6 (c : Dev nD) : (Act.dat (B2 m) c).arrAt 6 cfg1.N = B3 m c (Pipeline.arrRef spec1 6) :=
  ((Act.dat (B2 m) c).arrAt_in 6 rfl _).trans ((B3_of m c (Pipeline.arrRef spec1 6) (by decide)).symm)
theorem left1_7 (c : Dev nD) : (Act.dat (B2 m) c).arrAt 7 cfg1.N = B3 m c (Pipeline.arrRef spec1 7) :=
  ((Act.dat (B2 m) c).arrAt_in 7 rfl _).trans ((B3_of m c (Pipeline.arrRef spec1 7) (by decide)).symm)
theorem left1_8 (c : Dev nD) : (Act.dat (B2 m) c).arrAt 8 cfg1.N = B3 m c (Pipeline.arrRef spec1 8) :=
  ((B3_0 m c).trans (O3_0 m c)).symm
theorem left1_9 (c : Dev nD) : (Act.dat (B2 m) c).arrAt 9 cfg1.N = B3 m c (Pipeline.arrRef spec1 9) :=
  ((B3_1 m c).trans (O3_1 m c)).symm
theorem left1_10 (c : Dev nD) : (Act.dat (B2 m) c).arrAt 10 cfg1.N = B3 m c (Pipeline.arrRef spec1 10) :=
  ((B3_2 m c).trans (O3_2 m c)).symm
theorem left1_11 (c : Dev nD) : (Act.dat (B2 m) c).arrAt 11 cfg1.N = B3 m c (Pipeline.arrRef spec1 11) :=
  ((B3_3 m c).trans (O3_3 m c)).symm
theorem left1_12 (c : Dev nD) : (Act.dat (B2 m) c).arrAt 12 cfg1.N = B3 m c (Pipeline.arrRef spec1 12) :=
  ((B3_4 m c).trans (O3_4 m c)).symm
set_option maxHeartbeats 1600000 in
/-- What call 1 leaves in each of its arrays. -/
theorem left1 (c : Dev nD) (w : Fin 13) : (Act.dat (B2 m) c).arrAt w cfg1.N = B3 m c (Pipeline.arrRef spec1 w) :=
  match w with
  | ⟨0, _⟩ => left1_0 m c
  | ⟨1, _⟩ => left1_1 m c
  | ⟨2, _⟩ => left1_2 m c
  | ⟨3, _⟩ => left1_3 m c
  | ⟨4, _⟩ => left1_4 m c
  | ⟨5, _⟩ => left1_5 m c
  | ⟨6, _⟩ => left1_6 m c
  | ⟨7, _⟩ => left1_7 m c
  | ⟨8, _⟩ => left1_8 m c
  | ⟨9, _⟩ => left1_9 m c
  | ⟨10, _⟩ => left1_10 m c
  | ⟨11, _⟩ => left1_11 m c
  | ⟨12, _⟩ => left1_12 m c
/-- Call 1 changes no buffer but its arrays. -/
theorem kept1 (c : Dev nD) (b : Ref sig .tc) (hb : b ∉ Finset.univ.image (Pipeline.arrRef spec1)) : B3 m c b = B2 m c b :=
  B3_of m c b fun h => hb (by
    simp only [List.mem_cons, List.not_mem_nil, or_false] at h
    rcases h with rfl | rfl | rfl | rfl | rfl
    · exact Finset.mem_image.mpr ⟨8, Finset.mem_univ _, rfl⟩
    · exact Finset.mem_image.mpr ⟨9, Finset.mem_univ _, rfl⟩
    · exact Finset.mem_image.mpr ⟨10, Finset.mem_univ _, rfl⟩
    · exact Finset.mem_image.mpr ⟨11, Finset.mem_univ _, rfl⟩
    · exact Finset.mem_image.mpr ⟨12, Finset.mem_univ _, rfl⟩)

theorem left2_0 (c : Dev nD) : (Wgr.dat (B3 m) c).arrAt 0 cfg2.N = B4 m c (Pipeline.arrRef spec2 0) :=
  ((Wgr.dat (B3 m) c).arrAt_in 0 rfl _).trans ((B4_of m c (Pipeline.arrRef spec2 0) (by decide)).symm)
theorem left2_1 (c : Dev nD) : (Wgr.dat (B3 m) c).arrAt 1 cfg2.N = B4 m c (Pipeline.arrRef spec2 1) :=
  ((Wgr.dat (B3 m) c).arrAt_in 1 rfl _).trans ((B4_of m c (Pipeline.arrRef spec2 1) (by decide)).symm)
theorem left2_2 (c : Dev nD) : (Wgr.dat (B3 m) c).arrAt 2 cfg2.N = B4 m c (Pipeline.arrRef spec2 2) :=
  ((Wgr.dat (B3 m) c).arrAt_in 2 rfl _).trans ((B4_of m c (Pipeline.arrRef spec2 2) (by decide)).symm)
theorem left2_3 (c : Dev nD) : (Wgr.dat (B3 m) c).arrAt 3 cfg2.N = B4 m c (Pipeline.arrRef spec2 3) :=
  ((Wgr.dat (B3 m) c).arrAt_in 3 rfl _).trans ((B4_of m c (Pipeline.arrRef spec2 3) (by decide)).symm)
theorem left2_4 (c : Dev nD) : (Wgr.dat (B3 m) c).arrAt 4 cfg2.N = B4 m c (Pipeline.arrRef spec2 4) :=
  ((Wgr.dat (B3 m) c).arrAt_in 4 rfl _).trans ((B4_of m c (Pipeline.arrRef spec2 4) (by decide)).symm)
theorem left2_5 (c : Dev nD) : (Wgr.dat (B3 m) c).arrAt 5 cfg2.N = B4 m c (Pipeline.arrRef spec2 5) :=
  ((Wgr.dat (B3 m) c).arrAt_in 5 rfl _).trans ((B4_of m c (Pipeline.arrRef spec2 5) (by decide)).symm)
theorem left2_6 (c : Dev nD) : (Wgr.dat (B3 m) c).arrAt 6 cfg2.N = B4 m c (Pipeline.arrRef spec2 6) :=
  ((Wgr.dat (B3 m) c).arrAt_in 6 rfl _).trans ((B4_of m c (Pipeline.arrRef spec2 6) (by decide)).symm)
theorem left2_7 (c : Dev nD) : (Wgr.dat (B3 m) c).arrAt 7 cfg2.N = B4 m c (Pipeline.arrRef spec2 7) :=
  ((Wgr.dat (B3 m) c).arrAt_in 7 rfl _).trans ((B4_of m c (Pipeline.arrRef spec2 7) (by decide)).symm)
theorem left2_8 (c : Dev nD) : (Wgr.dat (B3 m) c).arrAt 8 cfg2.N = B4 m c (Pipeline.arrRef spec2 8) :=
  ((Wgr.dat (B3 m) c).arrAt_in 8 rfl _).trans ((B4_of m c (Pipeline.arrRef spec2 8) (by decide)).symm)
theorem left2_9 (c : Dev nD) : (Wgr.dat (B3 m) c).arrAt 9 cfg2.N = B4 m c (Pipeline.arrRef spec2 9) :=
  ((Wgr.dat (B3 m) c).arrAt_in 9 rfl _).trans ((B4_of m c (Pipeline.arrRef spec2 9) (by decide)).symm)
theorem left2_10 (c : Dev nD) : (Wgr.dat (B3 m) c).arrAt 10 cfg2.N = B4 m c (Pipeline.arrRef spec2 10) :=
  ((B4_0 m c).trans (O4_0 m c)).symm
theorem left2_11 (c : Dev nD) : (Wgr.dat (B3 m) c).arrAt 11 cfg2.N = B4 m c (Pipeline.arrRef spec2 11) :=
  ((B4_1 m c).trans (O4_1 m c)).symm
theorem left2_12 (c : Dev nD) : (Wgr.dat (B3 m) c).arrAt 12 cfg2.N = B4 m c (Pipeline.arrRef spec2 12) :=
  ((B4_2 m c).trans (O4_2 m c)).symm
set_option maxHeartbeats 1600000 in
/-- What call 2 leaves in each of its arrays. -/
theorem left2 (c : Dev nD) (w : Fin 13) : (Wgr.dat (B3 m) c).arrAt w cfg2.N = B4 m c (Pipeline.arrRef spec2 w) :=
  match w with
  | ⟨0, _⟩ => left2_0 m c
  | ⟨1, _⟩ => left2_1 m c
  | ⟨2, _⟩ => left2_2 m c
  | ⟨3, _⟩ => left2_3 m c
  | ⟨4, _⟩ => left2_4 m c
  | ⟨5, _⟩ => left2_5 m c
  | ⟨6, _⟩ => left2_6 m c
  | ⟨7, _⟩ => left2_7 m c
  | ⟨8, _⟩ => left2_8 m c
  | ⟨9, _⟩ => left2_9 m c
  | ⟨10, _⟩ => left2_10 m c
  | ⟨11, _⟩ => left2_11 m c
  | ⟨12, _⟩ => left2_12 m c
/-- Call 2 changes no buffer but its arrays. -/
theorem kept2 (c : Dev nD) (b : Ref sig .tc) (hb : b ∉ Finset.univ.image (Pipeline.arrRef spec2)) : B4 m c b = B3 m c b :=
  B4_of m c b fun h => hb (by
    simp only [List.mem_cons, List.not_mem_nil, or_false] at h
    rcases h with rfl | rfl | rfl
    · exact Finset.mem_image.mpr ⟨10, Finset.mem_univ _, rfl⟩
    · exact Finset.mem_image.mpr ⟨11, Finset.mem_univ _, rfl⟩
    · exact Finset.mem_image.mpr ⟨12, Finset.mem_univ _, rfl⟩)

end Cert.Chain

end
-- ==== Proof.Regs.lean ====
module

public import proofs.«01_k».proof.Proof.Entries
public import Idealize.ShloMosaic.Lib.Pipeline.RegionsLoop

@[expose] public section

set_option maxRecDepth 16384

noncomputable section

/-! Each call as a stretch of the program. -/

namespace Cert.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No core waits on another: no level is assigned. -/
abbrev L : GSem nD τ sig → Finset Unit := fun _ => ∅
abbrev lv : GSem nD τ sig → Unit → ℕ := fun _ _ => 0

/-- No two windows of the first two calls share an array but as inputs. -/
theorem sharedIn0 : Pipeline.SharedIn spec0 := by decide
theorem sharedIn1 : Pipeline.SharedIn spec1 := by decide

/-- What rides along beside the buffers. -/
abbrev rides (c : Dev nD) : sProp 𝕄 := iprop((∃ r, prngReg c r) ∗ ∃ W, owes (c : Thread nD τ) (0 : CellTallies nD τ sig Unit) W)

set_option backward.isDefEq.respectTransparency.types false in
set_option maxHeartbeats 1600000 in
/-- Call 0: entered with every buffer as it stands, left with its outputs written. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Fwd.body_obligation (B1 m) c).loose
  hwaits := Pipeline.hwaits_of_owed_zero _ _ _ _ L lv 0 fun _ _ => rfl
  pre c := iprop(unscopedBufs c (B1 m c) ∗ rides c)
  post c := iprop(unscopedBufs c (B2 m c) ∗ rides c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := Pipeline.arrays_of_unscopedBufs_shared (p := 0) (pcfgs (F := F)) adm (pdats m) launch0.win.to₀ sharedIn0 launch0.arr_whole c
      (fun _ _ => rfl) (B1 m c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR] <;> iassumption
  hin c := by
    rw [show (pdats m 0 c).Φ 0 = (Fwd.dat (B1 m) c).Φ 0 from rfl]
    refine (?_ : _ ⊢ (Pipeline.ΦA spec0 c : sProp 𝕄)).trans (Fwd.hin (B1 m) c)
    unfold Pipeline.ΦA
    iintro ⟨Hg, -, Hr⟩
    isplitl [Hr]; · iexact Hr
    iexact Hg
  hout c := by
    rw [Pipeline.ownSems0_none]
    refine (Fwd.hout (B1 m) c).trans (?_ : (Pipeline.ΦA spec0 c : sProp 𝕄) ⊢ _)
    unfold Pipeline.ΦA
    iintro ⟨Hr, Hg⟩
    isplitl [Hg]; · iexact Hg
    isplitr; · iempintro
    iexact Hr
  hexit c := by
    have hjoin := Pipeline.unscopedBufs_of_arrays_shared (p := 0) (pcfgs (F := F)) adm (Ix := Unit) (Name := ℕ) (U := UR sig nD τ) (Lvl := ℕ) launch0.win.to₀ sharedIn0 launch0.arr_whole c
      (pdats m) (fun _ _ => rfl) (B1 m c) (B2 m c) ((pdats m 0 c).arrAt · cfg0.N) (left0 m c) (kept0 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 1600000 in
/-- Call 1: entered with every buffer as it stands, left with its outputs written. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Act.body_obligation (B2 m) c).loose
  hwaits := Pipeline.hwaits_of_owed_zero _ _ _ _ L lv 1 fun _ _ => rfl
  pre c := iprop(unscopedBufs c (B2 m c) ∗ rides c)
  post c := iprop(unscopedBufs c (B3 m c) ∗ rides c)
  X c := iprop(∃ r, prngReg c r)
  Y c := iprop(∃ r, prngReg c r)
  Z c := Pipeline.unscopedRest (Ix := Unit) (Name := ℕ) (U := UR sig nD τ) (Lvl := ℕ) spec1 c (B2 m c)
  hentry c := by
    rw [Pipeline.ownSems0_none]
    have hsplit := Pipeline.arrays_of_unscopedBufs_shared (p := 1) (pcfgs (F := F)) adm (pdats m) launch1.win.to₀ sharedIn1 launch1.arr_whole c
      (fun _ _ => rfl) (B2 m c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR] <;> iassumption
  hin c := by
    rw [show (pdats m 1 c).Φ 0 = (Act.dat (B2 m) c).Φ 0 from rfl]
    refine (?_ : _ ⊢ (Pipeline.ΦA spec1 c : sProp 𝕄)).trans (Act.hin (B2 m) c)
    unfold Pipeline.ΦA
    iintro ⟨Hg, -, Hr⟩
    isplitl [Hr]; · iexact Hr
    iexact Hg
  hout c := by
    rw [Pipeline.ownSems0_none]
    refine (Act.hout (B2 m) c).trans (?_ : (Pipeline.ΦA spec1 c : sProp 𝕄) ⊢ _)
    unfold Pipeline.ΦA
    iintro ⟨Hr, Hg⟩
    isplitl [Hg]; · iexact Hg
    isplitr; · iempintro
    iexact Hr
  hexit c := by
    have hjoin := Pipeline.unscopedBufs_of_arrays_shared (p := 1) (pcfgs (F := F)) adm (Ix := Unit) (Name := ℕ) (U := UR sig nD τ) (Lvl := ℕ) launch1.win.to₀ sharedIn1 launch1.arr_whole c
      (pdats m) (fun _ _ => rfl) (B2 m c) (B3 m c) ((pdats m 1 c).arrAt · cfg1.N) (left1 m c) (kept1 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 1600000 in
/-- Call 2: entered with every buffer as it stands, left with its outputs written. -/
def reg2 : Pipeline.RegionSeg (pcfgs (F := F)) adm (pdats m) () defs₀ Variants.none L lv 2 where
  win := winFacts₀2
  block_pos := block_pos2
  stage_whole := stage_whole2
  K := PEmpty
  osem k := k.elim
  ho := Pipeline.OwnSemFacts.none _
  hbody c := (Wgr.body_obligation (B3 m) c).loose
  hwaits := Pipeline.hwaits_of_owed_zero _ _ _ _ L lv 2 fun _ _ => rfl
  pre c := iprop(unscopedBufs c (B3 m c) ∗ rides c)
  post c := iprop(unscopedBufs c (B4 m c) ∗ rides c)
  X c := iprop(∃ r, prngReg c r)
  Y c := iprop(∃ r, prngReg c r)
  Z c := Pipeline.unscopedRest (Ix := Unit) (Name := ℕ) (U := UR sig nD τ) (Lvl := ℕ) spec2 c (B3 m c)
  hentry c := by
    rw [Pipeline.ownSems0_none]
    have hsplit := Pipeline.arrays_of_unscopedBufs_shared (p := 2) (pcfgs (F := F)) adm (pdats m) winFacts₀2 sharedIn2 arr_whole2 c
      (fun _ _ => rfl) (B3 m c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR] <;> iassumption
  hin c := by
    rw [show (pdats m 2 c).Φ 0 = (Wgr.dat (B3 m) c).Φ 0 from rfl]
    refine (?_ : _ ⊢ (Pipeline.ΦA spec2 c : sProp 𝕄)).trans (Wgr.hin (B3 m) c)
    unfold Pipeline.ΦA
    iintro ⟨Hg, -, Hr⟩
    isplitl [Hr]; · iexact Hr
    iexact Hg
  hout c := by
    rw [Pipeline.ownSems0_none]
    refine (Wgr.hout (B3 m) c).trans (?_ : (Pipeline.ΦA spec2 c : sProp 𝕄) ⊢ _)
    unfold Pipeline.ΦA
    iintro ⟨Hr, Hg⟩
    isplitl [Hg]; · iexact Hg
    isplitr; · iempintro
    iexact Hr
  hexit c := by
    have hjoin := Pipeline.unscopedBufs_of_arrays_shared (p := 2) (pcfgs (F := F)) adm (Ix := Unit) (Name := ℕ) (U := UR sig nD τ) (Lvl := ℕ) winFacts₀2 sharedIn2 arr_whole2 c
      (pdats m) (fun _ _ => rfl) (B3 m c) (B4 m c) ((pdats m 2 c).arrAt · cfg2.N) (left2 m c) (kept2 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Chain

end
-- ==== Proof.ChainRun.lean ====
module

public import proofs.«01_k».proof.Proof.Regs

@[expose] public section

set_option maxRecDepth 16384

noncomputable section

/-! The whole program: it runs to its end, and every buffer holds what the three calls leave in it. -/

namespace Cert.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What rides along is the same before and after every item. -/
abbrev ridesAt : Fin 4 → Dev nD → sProp 𝕄 := fun _ c => rides c

/-- Every buffer of the program at the end. -/
abbrev AtEnd (c : Dev nD) (s : MemSt nD τ sig (Elt F)) : Prop :=
  ∀ b : Ref sig .tc, b.isScoped = false → s.mem ((c : Thread nD τ).loc b) = B4 m c b

set_option backward.isDefEq.respectTransparency.types false in
set_option maxHeartbeats 1600000 in
theorem chain_run : θ_run defs (onTc (τ := τ) (main (F := F))) ⟨m, fun _ => 0, ρ⟩ (fun r => (∀ c : Dev nD, AtEnd m c r.2) ∧ r.2.sem = fun _ => 0) := by
  refine Pipeline.θ_run_regions_kit_dev_sems (pcfgs (F := F)) adm (pdats m) () cellOf_inj emb₁ defs₀ Variants.none L lv m ρ main
    (segs m Variants.none L lv ridesAt () (pdats m) (reg0 m) (reg1 m) (reg2 m))
    (fun c Q => by
      rewrite [main_chain c, Seg.run_eq_chain,
        show (segs m Variants.none L lv ridesAt () (pdats m) (reg0 m) (reg1 m) (reg2 m) c).map Seg.prog = [
          StableHlo.seq hostOps0,
          Prog.lift (.customCall (Pipeline.entry 0) ()),
          Prog.lift (.customCall (Pipeline.entry 1) ()),
          Prog.lift (.customCall (Pipeline.entry 2) ()) ] from rfl]
      dsimp (config := { failIfUnchanged := false }) only
      exact .rfl)
    (fun c => by simp only [segs, Seg.pipes_host, Seg.pipes_region, Seg.pipes_nil]; decide) (O₀ := 0) (fun _ _ => rfl) (fun _ => iprop(emp))
    (initOf (Pipeline.cells cfgs cellOf_inj) (Pipeline.launchToks cfgs cellOf_inj)) ?hu
    (T₀ := fun c => iprop(StableHlo.held (c : Thread nD τ) (Pipeline.ucRefs τ sig) (V0 m c) ∗ rides c))
    (Tₙ := fun c => StableHlo.held (c : Thread nD τ) (Pipeline.ucRefs τ sig) (V4 m (outs m) c))
    (hch := fun c => ⟨.rfl, ?pre0, .rfl, .rfl, ?post⟩)
    (hinit := ?init) (QY := fun c s => AtEnd m c s) (hfin := fun c s' => ?fin)
    (hQ := fun _ h hz => ⟨h, funext fun g => hz g (.inr (regions_no_unscoped g.2))⟩)
  case hu =>
    iintro Hu
    imodintro
    isplitl [Hu]
    · iapply (show ownU (initOf (Pipeline.cells cfgs cellOf_inj) (Pipeline.launchToks cfgs cellOf_inj))
        ⊢ BI.own (emb₁ (initOf (Pipeline.cells cfgs cellOf_inj) (Pipeline.launchToks cfgs cellOf_inj))) from BI.Entails.refl _)
      iexact Hu
    iapply (show (BI.emp : sProp 𝕄) ⊢ bigSep Finset.univ (fun _ : Dev nD => (BI.emp : sProp 𝕄)) from by rw [BI.bigSep_emp_const])
    iempintro
  case pre0 =>
    show iprop(StableHlo.held (c : Thread nD τ) (Pipeline.ucRefs τ sig) (V1 m c) ∗ rides c) ⊢ iprop(unscopedBufs c (B1 m c) ∗ rides c)
    rw [← Pipeline.unscopedBufs_held (Ix := Unit) (Name := ℕ) (U := UR sig nD τ) (Lvl := ℕ) c (V1 m c)]
  case post =>
    show iprop(unscopedBufs c (B4 m c) ∗ rides c)
      ⊢ iprop(StableHlo.held (c : Thread nD τ) (Pipeline.ucRefs τ sig) (V4 m (outs m) c) ∗ ∃ W, owes (c : Thread nD τ) (0 : CellTallies nD τ sig Unit) W)
    rw [← Pipeline.unscopedBufs_held (Ix := Unit) (Name := ℕ) (U := UR sig nD τ) (Lvl := ℕ) c (V4 m (outs m) c)]
    iintro ⟨Hb, -, HO⟩
    isplitl [Hb]; · iexact Hb
    iexact HO
  case init =>
    refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, Hg, -⟩, -⟩
    imodintro
    isplitl [Hh]; · iexact Hh
    isplitl [Hg]; · iexists _; iexact Hg
    iexists ∅; iexact HO
  case fin =>
    unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun hs => Bool.false_ne_true (hb.symm.trans hs)⟩)
    · iexact HSI

end Cert.Chain

end
-- ==== Proof.SameBodies.lean ====
module

public import proofs.«01_k».proof.Proof.Gen.Kernel
public import proofs.«01_k».proof.Proof.Gen.KernelIdeal

@[expose] public section

set_option maxRecDepth 16384

noncomputable section

/-! The program and its idealization are the same text: their bodies and their entry function are equal. -/

namespace Cert.Chain

open Cert.KernelIdeal Cert.KernelIdeal.Gen
open Idealize.ShloMosaic Idealize.ShloMosaic.TcCoe
open Idealize.SL.Sem

attribute [local instance] Cert.Kernel.Gen.facts Cert.KernelIdeal.Gen.facts

variable {F : FTy → Type} [FloatOps F]

set_option maxHeartbeats 100000000 in
theorem same_body0 (t : Fin grid0.N) (s : (w : Fin 10) → Fin (win0 w).nbuf) :
    @Cert.Kernel.defs₀ F _ _ .tc (0 : Fin 3) (t, s) = @Cert.KernelIdeal.defs₀ F _ _ .tc (0 : Fin 3) (t, s) := rfl
set_option maxHeartbeats 100000000 in
theorem same_body1 (t : Fin grid1.N) (s : (w : Fin 13) → Fin (win1 w).nbuf) :
    @Cert.Kernel.defs₀ F _ _ .tc (1 : Fin 3) (t, s) = @Cert.KernelIdeal.defs₀ F _ _ .tc (1 : Fin 3) (t, s) := rfl
set_option maxHeartbeats 100000000 in
theorem same_body2 (t : Fin grid2.N) (s : (w : Fin 13) → Fin (win2 w).nbuf) :
    @Cert.Kernel.defs₀ F _ _ .tc (2 : Fin 3) (t, s) = @Cert.KernelIdeal.defs₀ F _ _ .tc (2 : Fin 3) (t, s) := rfl

end Cert.Chain

end
-- ==== Proof.SameText.lean ====
module

public import proofs.«01_k».proof.Proof.SameBodies

@[expose] public section

set_option maxRecDepth 16384

noncomputable section

/-! The program and its idealization are the same text: their bodies and their entry function are equal. -/

namespace Cert.Chain

open Cert.KernelIdeal Cert.KernelIdeal.Gen
open Idealize.ShloMosaic Idealize.ShloMosaic.TcCoe
open Idealize.SL.Sem

attribute [local instance] Cert.Kernel.Gen.facts Cert.KernelIdeal.Gen.facts

variable {F : FTy → Type} [FloatOps F]

set_option maxHeartbeats 100000000 in
theorem same_defs₀ : @Cert.Kernel.defs₀ F _ _ = @Cert.KernelIdeal.defs₀ F _ _ := by
  funext k
  cases k with
  | tc =>
    funext ℓ a
    revert a
    match ℓ with
    | ⟨0, _⟩ => exact fun a => same_body0 a.1 a.2
    | ⟨1, _⟩ => exact fun a => same_body1 a.1 a.2
    | ⟨2, _⟩ => exact fun a => same_body2 a.1 a.2
  | _ => rfl

set_option maxHeartbeats 100000000 in
theorem same_defs : @Cert.Kernel.defs F _ _ = @Cert.KernelIdeal.defs F _ _ :=
  congrArg (Pipeline.defs Cert.KernelIdeal.pcfgs) same_defs₀

set_option maxHeartbeats 100000000 in
theorem same_main : @Cert.Kernel.main F _ _ = @Cert.KernelIdeal.main F _ _ := rfl

end Cert.Chain

end
-- ==== Proof.Frames.lean ====
module

public import proofs.«01_k».proof.Defs
public import proofs.«01_k».proof.Proof.ChainRun
public import proofs.«01_k».proof.Proof.Gen.Kernel
public import proofs.«01_k».proof.Proof.SameText
public import proofs.«01_k».proof.Proof.Gen.ReferenceIdeal.Run

@[expose] public section

set_option maxRecDepth 16384

noncomputable section

/-! The claims that the programs run to their end, leave their arguments as they were and every counter at zero. -/

namespace Cert.Chain

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (c : Dev nD)

theorem end_arg0 {s : MemSt nD τ sig (Elt F)} (h : AtEnd m c s) :
    s.mem ((c : Thread nD τ).loc main_arg0) = m ((c : Thread nD τ).loc main_arg0) :=
  (h main_arg0 rfl).trans (V4_main_arg0 m (outs m) c)
theorem end_arg1 {s : MemSt nD τ sig (Elt F)} (h : AtEnd m c s) :
    s.mem ((c : Thread nD τ).loc main_arg1) = m ((c : Thread nD τ).loc main_arg1) :=
  (h main_arg1 rfl).trans (V4_main_arg1 m (outs m) c)
theorem end_arg2 {s : MemSt nD τ sig (Elt F)} (h : AtEnd m c s) :
    s.mem ((c : Thread nD τ).loc main_arg2) = m ((c : Thread nD τ).loc main_arg2) :=
  (h main_arg2 rfl).trans (V4_main_arg2 m (outs m) c)
theorem end_arg3 {s : MemSt nD τ sig (Elt F)} (h : AtEnd m c s) :
    s.mem ((c : Thread nD τ).loc main_arg3) = m ((c : Thread nD τ).loc main_arg3) :=
  (h main_arg3 rfl).trans (V4_main_arg3 m (outs m) c)
theorem end_arg4 {s : MemSt nD τ sig (Elt F)} (h : AtEnd m c s) :
    s.mem ((c : Thread nD τ).loc main_arg4) = m ((c : Thread nD τ).loc main_arg4) :=
  (h main_arg4 rfl).trans (V4_main_arg4 m (outs m) c)
theorem end_arg5 {s : MemSt nD τ sig (Elt F)} (h : AtEnd m c s) :
    s.mem ((c : Thread nD τ).loc main_arg5) = m ((c : Thread nD τ).loc main_arg5) :=
  (h main_arg5 rfl).trans (V4_main_arg5 m (outs m) c)

attribute [local instance] Cert.Kernel.Gen.facts Cert.ReferenceIdeal.Gen.facts

theorem run_swap {nD' : ℕ} {τ' : Topo} {sig' : RefSig} {Val : EltTy → Type} {Λ : Labels}
    {D D' : Defs nD' τ' sig' Val Λ} {P P' : Dev nD' → Prog (TpuEff nD' τ' sig' Val Λ .tc) PUnit} (hD : D = D') (hP : P = P')
    {s : MemSt nD' τ' sig' Val} {Q : PUnit × MemSt nD' τ' sig' Val → Prop}
    (h : θ_run D' (onTc (τ := τ') P') s Q) : θ_run D (onTc (τ := τ') P) s Q := by
  subst hD hP; exact h

theorem frame_text (m : (ℓ : Loc nD τ sig) → Buf (Elt F) ℓ) (ρ : Dev nD → PrngReg) :
    @θ_run nD τ sig (Elt F) _ (@Cert.Kernel.defs F _ Cert.Kernel.Gen.facts) (onTc (@Cert.Kernel.main F _ Cert.Kernel.Gen.facts)) ⟨m, fun _ => 0, ρ⟩
      (fun r => (∀ c, AtEnd m c r.2) ∧ r.2.sem = fun _ => 0) :=
  run_swap same_defs same_main (chain_run m ρ)

theorem frame_kernel : Cert.quiescent_Kernel := by
  intro m ρ _
  refine (θ_run _ _ _).mono ?_ (frame_text (F := Bits) m ρ)
  intro r h
  exact ⟨fun c => ⟨end_arg0 m c (h.1 c), end_arg1 m c (h.1 c), end_arg2 m c (h.1 c), end_arg3 m c (h.1 c), end_arg4 m c (h.1 c),
      end_arg5 m c (h.1 c)⟩, h.2⟩

theorem frame_ideal : Cert.quiescent_KernelIdeal := fun m ρ _ =>
  (θ_run Cert.KernelIdeal.defs _ _).mono
    (fun _ h => ⟨fun c => ⟨end_arg0 m c (h.1 c), end_arg1 m c (h.1 c), end_arg2 m c (h.1 c), end_arg3 m c (h.1 c), end_arg4 m c (h.1 c),
      end_arg5 m c (h.1 c)⟩, h.2⟩)
    (chain_run (F := Ideal) m ρ)

theorem frame_reference : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

end Cert.Chain

end
-- ==== Proof.Spec.lean ====
module

public import Idealize.ShloMosaic.Lib.Pipeline.ValueKit
public import Idealize.ShloMosaic.PureOps.Ideal.Laws

@[expose] public section

noncomputable section

/-! The block over the real numbers: what each result is where every entry of the arguments is finite. -/

namespace Cert.Chain.Spec

open Idealize.ShloMosaic

/-! ## Sums and operations of reals inside the extended reals -/

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem div_real {y : ℝ} (hy : y ≠ 0) (x : ℝ) : Ideal.div (x : EReal) (y : EReal) = ((x / y : ℝ) : EReal) := by
  rw [Ideal.div_coe hy, ← EReal.coe_mul]; congr 1; ring

/-- The constant the mean square is kept from zero by: the single-precision number nearest to 1e-6. -/
def eps : ℝ := 8796093 / 8796093022208

theorem eps_pos : 0 < eps := by unfold eps; norm_num

theorem word_eps : Ideal.ofBits .f32 0x358637BD#32 = (eps : EReal) := by
  unfold eps; simp [Ideal.ofBits, Ideal.ieee]; rw [← EReal.coe_mul]; norm_num

theorem word_width : Ideal.ofBits .f32 0x44800000#32 = ((1024 : ℝ) : EReal) := by
  simp [Ideal.ofBits, Ideal.ieee]; rw [← EReal.coe_mul]; norm_num

theorem word_half : Ideal.ofBits .f32 0x3F000000#32 = ((1 / 2 : ℝ) : EReal) := by
  simp [Ideal.ofBits, Ideal.ieee]; rw [← EReal.coe_mul]; norm_num

theorem word_neg_half : Ideal.ofBits .f32 0xBF000000#32 = ((-(1 / 2) : ℝ) : EReal) := by
  simp [Ideal.ofBits, Ideal.ieee]; rw [← EReal.coe_mul]; norm_num

/-! ## One row -/

/-- The logistic function. -/
def sig (x : ℝ) : ℝ := 1 / (1 + Real.exp (-x))

theorem sig_den_ne (x : ℝ) : 1 + Real.exp (-x) ≠ 0 := by positivity

theorem sig_coe (x : ℝ) : Ideal.div 1 (1 + Ideal.exp (0 - (x : EReal))) = (sig x : EReal) := by
  rw [zero_sub, ← EReal.coe_neg, Ideal.exp_coe, ← EReal.coe_one, ← EReal.coe_add, div_real (sig_den_ne x)]; rfl

theorem sig_coe' (x : ℝ) : Ideal.div 1 (1 + Ideal.exp (-(x : EReal))) = (sig x : EReal) := by
  rw [← sig_coe x, zero_sub]

/-- `x · σ(x)`, and its derivative. -/
def sil (x : ℝ) : ℝ := x * sig x
def dsil (x : ℝ) : ℝ := sig x * (1 + x * (1 - sig x))

/-- The mean of the squares of a row, kept from zero. -/
def ms (x : Fin 1024 → ℝ) : ℝ := (∑ k, x k * x k) / 1024 + eps

theorem ms_pos (x : Fin 1024 → ℝ) : 0 < ms x :=
  add_pos_of_nonneg_of_pos (div_nonneg (Finset.sum_nonneg fun k _ => mul_self_nonneg (x k)) (by norm_num)) eps_pos

/-- One over its square root. -/
def rstd (x : Fin 1024 → ℝ) : ℝ := (Real.sqrt (ms x))⁻¹

theorem ms_coe (x : Fin 1024 → ℝ) :
    Ideal.div (∑ k, (x k : EReal) * (x k : EReal)) (Ideal.ofBits .f32 0x44800000#32) + Ideal.ofBits .f32 0x358637BD#32 = (ms x : EReal) := by
  simp only [← EReal.coe_mul]
  rw [coe_sum, word_width, word_eps, div_real (by norm_num), ← EReal.coe_add]; rfl

theorem rsqrt_ms (x : Fin 1024 → ℝ) : Ideal.rsqrt (ms x : EReal) = (rstd x : EReal) := by
  rw [Ideal.rsqrt_coe, if_neg (not_lt.2 (ms_pos x).le), if_neg (ms_pos x).ne']; rfl

theorem rstd_coe (x : Fin 1024 → ℝ) :
    Ideal.rsqrt (Ideal.div (∑ k, (x k : EReal) * (x k : EReal)) (Ideal.ofBits .f32 0x44800000#32) + Ideal.ofBits .f32 0x358637BD#32)
      = (rstd x : EReal) := by rw [ms_coe, rsqrt_ms]

/-! ## The block and its gradient -/

section
variable (h : Fin 4160 → Fin 1024 → ℝ) (g : Fin 1024 → ℝ) (wg wu : Fin 1024 → Fin 2816 → ℝ) (wd : Fin 2816 → Fin 1024 → ℝ)
  (dho : Fin 4160 → Fin 1024 → ℝ)

/-- The normed rows. -/
def xhat (r : Fin 4160) (d : Fin 1024) : ℝ := h r d * rstd (h r)
def nrm (r : Fin 4160) (d : Fin 1024) : ℝ := h r d * rstd (h r) * g d
/-- The two projections, the gate's derivative times the second, the gate, their product. -/
def proj (w : Fin 1024 → Fin 2816 → ℝ) (r : Fin 4160) (j : Fin 2816) : ℝ := ∑ k, nrm h g r k * w k j
def ga (r : Fin 4160) (j : Fin 2816) : ℝ := dsil (proj h g wg r j) * proj h g wu r j
def gb (r : Fin 4160) (j : Fin 2816) : ℝ := sil (proj h g wg r j)
def sa (r : Fin 4160) (j : Fin 2816) : ℝ := sil (proj h g wg r j) * proj h g wu r j
/-- The block's result. -/
def ho (r : Fin 4160) (d : Fin 1024) : ℝ := h r d + 1 / 2 * ∑ j, sa h g wg wu r j * wd j d
/-- The gradients inside. -/
def dy (r : Fin 4160) (d : Fin 1024) : ℝ := 1 / 2 * dho r d
def ds (r : Fin 4160) (j : Fin 2816) : ℝ := ∑ k, dy dho r k * wd j k
def da (r : Fin 4160) (j : Fin 2816) : ℝ := ds wd dho r j * ga h g wg wu r j
def db (r : Fin 4160) (j : Fin 2816) : ℝ := ds wd dho r j * gb h g wg r j
def dn (r : Fin 4160) (d : Fin 1024) : ℝ := ∑ j, (da h g wg wu wd dho r j * wg d j + db h g wg wd dho r j * wu d j)
/-- The gradient of the input, of the norm's scale, of the three weights. -/
def dh (r : Fin 4160) (d : Fin 1024) : ℝ :=
  dho r d + rstd (h r) * (dn h g wg wu wd dho r d * g d
    - xhat h r d * ((∑ k, dn h g wg wu wd dho r k * g k * xhat h r k) / 1024))
def dg (d : Fin 1024) : ℝ := ∑ r, dn h g wg wu wd dho r d * xhat h r d
def dwg (j : Fin 2816) (d : Fin 1024) : ℝ := ∑ r, da h g wg wu wd dho r j * nrm h g r d
def dwu (j : Fin 2816) (d : Fin 1024) : ℝ := ∑ r, db h g wg wd dho r j * nrm h g r d
def dwd (j : Fin 2816) (d : Fin 1024) : ℝ := ∑ r, sa h g wg wu r j * dy dho r d
end

/-! ## Sums by blocks -/

/-- Column `q` of shard `s`. -/
def col (s : Fin 4) (q : Fin 704) : Fin 2816 := ⟨704 * s.val + q.val, by have := s.isLt; have := q.isLt; omega⟩
/-- Row `k` of tile `i`. -/
def row (i : Fin 5) (k : Fin 832) : Fin 4160 := ⟨832 * i.val + k.val, by have := i.isLt; have := k.isLt; omega⟩
/-- Row `k` of the long block `b`, and of the tail. -/
def long (b : Fin 4) (k : Fin 1024) : Fin 4160 := ⟨1024 * b.val + k.val, by have := b.isLt; have := k.isLt; omega⟩
def tail (k : Fin 64) : Fin 4160 := ⟨4096 + k.val, by have := k.isLt; omega⟩

theorem sum_blocks {m n : ℕ} (f : Fin (m * n) → ℝ) :
    ∑ j, f j = ∑ s : Fin m, ∑ q : Fin n, f ⟨n * s.val + q.val, by
      have h1 : n * s.val + q.val < n * s.val + n := Nat.add_lt_add_left q.isLt _
      have h2 : n * (s.val + 1) ≤ n * m := Nat.mul_le_mul_left n s.isLt
      rw [Nat.mul_succ] at h2; rw [Nat.mul_comm m n]; exact Nat.lt_of_lt_of_le h1 h2⟩ := by
  rw [← finProdFinEquiv.sum_comp, Fintype.sum_prod_type]
  refine Finset.sum_congr rfl fun s _ => Finset.sum_congr rfl fun q _ => congrArg f (Fin.ext ?_)
  simp [finProdFinEquiv, Nat.add_comm]

theorem sum_cols (f : Fin 2816 → ℝ) : ∑ j, f j = ∑ s : Fin 4, ∑ q : Fin 704, f (col s q) := sum_blocks (m := 4) (n := 704) f
theorem sum_rows (f : Fin 4160 → ℝ) : ∑ r, f r = ∑ i : Fin 5, ∑ k : Fin 832, f (row i k) := sum_blocks (m := 5) (n := 832) f
theorem sum_long (f : Fin 4160 → ℝ) : ∑ r, f r = (∑ b : Fin 4, ∑ k : Fin 1024, f (long b k)) + ∑ k : Fin 64, f (tail k) := by
  rw [show (∑ r, f r) = _ from Fin.sum_univ_add (a := 4096) (b := 64) f]
  congr 1
  exact sum_blocks (m := 4) (n := 1024) fun j => f (Fin.castAdd 64 j)

end Cert.Chain.Spec

end
-- ==== Proof.FwdPay.lean ====
module

public import proofs.«01_k».proof.Proof.Spec
public import proofs.«01_k».proof.Proof.FwdRun

@[expose] public section

set_option maxRecDepth 16384

noncomputable section

/-! What the forward body's stores hold at an entry, where every entry read is finite. -/

namespace Cert.Chain.Pay

open Cert.KernelIdeal Cert.KernelIdeal.Gen
open Idealize.ShloMosaic Idealize.ShloMosaic.TcCoe
open Cert.Chain.Spec

/-- A matrix whose entries are real. -/
abbrev On2 {a b : ℕ} (x : (⟨2, ![a, b]⟩ : Shape).Idx → EReal) (X : Fin a → Fin b → ℝ) : Prop := ∀ i j, x (ix2 i j) = ((X i j : ℝ) : EReal)
/-- One layer of matrices whose entries are real. -/
abbrev On3 {a b : ℕ} (x : (⟨3, ![1, a, b]⟩ : Shape).Idx → EReal) (X : Fin a → Fin b → ℝ) : Prop := ∀ i j, x (ix3 0 i j) = ((X i j : ℝ) : EReal)
/-- A row whose entries are real. -/
abbrev On1 {b : ℕ} (x : (⟨2, ![1, b]⟩ : Shape).Idx → EReal) (X : Fin b → ℝ) : Prop := ∀ j, x (ix2 0 j) = ((X j : ℝ) : EReal)

theorem one_sub_coe (x : ℝ) : (1 : EReal) - (x : EReal) = ((1 - x : ℝ) : EReal) := by rw [EReal.coe_sub, EReal.coe_one]
theorem one_add_coe (x : ℝ) : (1 : EReal) + (x : EReal) = ((1 + x : ℝ) : EReal) := by rw [EReal.coe_add, EReal.coe_one]
theorem div_width (x : ℝ) : Ideal.div (x : EReal) ((1024 : ℝ) : EReal) = ((x / 1024 : ℝ) : EReal) := div_real (by norm_num) x
theorem rsqrt_ms' (x : Fin 1024 → ℝ) : Ideal.rsqrt (((∑ k, x k * x k) / 1024 + eps : ℝ) : EReal) = (rstd x : EReal) := rsqrt_ms x

section Fwd

variable {h acc : FVec Ideal S832x1024 .f32} {H A : Fin 832 → Fin 1024 → ℝ} {g : FVec Ideal S1x1024 .f32} {G : Fin 1024 → ℝ}
  {n : FVec Ideal S832x1024 .bf16} {N : Fin 832 → Fin 1024 → ℝ} {wg wu wd : FVec Ideal S1x704x1024 .bf16} {Wg Wu Wd : Fin 704 → Fin 1024 → ℝ}

theorem fwd_n (hh : On2 h H) (hg : On1 g G) : On2 (k0_pay5 (F := Ideal) h g) (fun a b => H a b * rstd (H a) * G b) := by
  intro a b
  pointwise [k0_pay5]
  simp only [hh _ _, hg _, ← EReal.coe_mul, coe_sum, word_width, word_eps, div_width, ← EReal.coe_add, rsqrt_ms']

theorem fwd_n' (hh : On2 h H) (hg : On1 g G) : On2 (k0_pay6 (F := Ideal) h g) (fun a b => H a b * rstd (H a) * G b) := by
  intro a b
  pointwise [k0_pay6, k0_pay5]
  simp only [hh _ _, hg _, ← EReal.coe_mul, coe_sum, word_width, word_eps, div_width, ← EReal.coe_add, rsqrt_ms']

theorem fwd_zero : On2 (k0_pay7 (F := Ideal)) (fun _ _ => 0) := by
  intro a b
  pointwise [k0_pay7]
  rfl

theorem fwd_ga (hn : On2 n N) (hwg : On3 wg Wg) (hwu : On3 wu Wu) :
    On3 (k0_pay12 (F := Ideal) n wg wu) (fun a q => dsil (∑ k, N a k * Wg q k) * ∑ k, N a k * Wu q k) := by
  intro a q
  pointwise [k0_pay12, k0_pay8, k0_pay9, k0_pay10]
  simp only [hn _ _, hwg _ _, hwu _ _, ← EReal.coe_mul, coe_sum, sig_coe, sig_coe', one_sub_coe, one_add_coe, dsil]

theorem fwd_gb (hn : On2 n N) (hwg : On3 wg Wg) :
    On3 (k0_pay13 (F := Ideal) n wg) (fun a q => sil (∑ k, N a k * Wg q k)) := by
  intro a q
  pointwise [k0_pay13, k0_pay11, k0_pay8, k0_pay10]
  simp only [hn _ _, hwg _ _, ← EReal.coe_mul, coe_sum, sig_coe, sig_coe', one_sub_coe, one_add_coe, sil]

theorem fwd_sa (hn : On2 n N) (hwg : On3 wg Wg) (hwu : On3 wu Wu) :
    On3 (fwdSa (F := Ideal) n wg wu) (fun a q => sil (∑ k, N a k * Wg q k) * ∑ k, N a k * Wu q k) := by
  intro a q
  pointwise [fwdSa, k0_pay1, k0_pay2, k0_pay9, k0_pay11, k0_pay8, k0_pay10]
  simp only [hn _ _, hwg _ _, hwu _ _, ← EReal.coe_mul, coe_sum, sig_coe, sig_coe', one_sub_coe, one_add_coe, sil]

theorem fwd_acc (hn : On2 n N) (hwg : On3 wg Wg) (hwu : On3 wu Wu) (hwd : On3 wd Wd) (ha : On2 acc A) :
    On2 (fwdAcc (F := Ideal) n wg wu wd acc) (fun a d => A a d + ∑ q, (sil (∑ k, N a k * Wg q k) * ∑ k, N a k * Wu q k) * Wd q d) := by
  intro a d
  pointwise [fwdAcc, k0_pay3, k0_pay1, k0_pay9, k0_pay11, k0_pay8, k0_pay10]
  simp only [hn _ _, hwg _ _, hwu _ _, hwd _ _, ha _ _, ← EReal.coe_mul, coe_sum, sig_coe, sig_coe', one_sub_coe, one_add_coe, ← EReal.coe_add, sil]

theorem fwd_out (hh : On2 h H) (ha : On2 acc A) : On2 (k0_pay4 (F := Ideal) h acc) (fun a d => H a d + 1 / 2 * A a d) := by
  intro a d
  pointwise [k0_pay4]
  simp only [hh _ _, ha _ _, word_half, ← EReal.coe_mul, ← EReal.coe_add]

end Fwd

theorem ix3_of (a b : ℕ) (y : (⟨3, ![1, a, b]⟩ : Shape).Idx) : y = ix3 0 (y 1) (y 2) :=
  (eq_ix3 y).trans (congrArg (fun z => ix3 z (y 1) (y 2)) (Subsingleton.elim (α := Fin 1) (y 0) 0))

/-! A sum over the shards so far. -/

/-- The sum of the first `k + 1` of four numbers. -/
def part (f : Fin 4 → ℝ) (k : ℕ) : ℝ := ∑ s : Fin 4, if s.val ≤ k then f s else 0

theorem part_zero (f : Fin 4 → ℝ) : part f 0 = f 0 := by
  simp [part, Fin.sum_univ_four]
theorem part_succ (f : Fin 4 → ℝ) (k : ℕ) (s : Fin 4) (h : s.val = k + 1) : part f (k + 1) = part f k + f s := by
  obtain ⟨n, hn⟩ := s
  have h : n = k + 1 := h
  subst h
  have : k = 0 ∨ k = 1 ∨ k = 2 := by omega
  rcases this with rfl | rfl | rfl <;> simp [part, Fin.sum_univ_four]
theorem part_three (f : Fin 4 → ℝ) : part f 3 = ∑ s, f s := by
  simp [part, Fin.sum_univ_four]

/-- The sum of the first `k` of five numbers. -/
def partT (f : Fin 5 → ℝ) (k : ℕ) : ℝ := ∑ i : Fin 5, if i.val < k then f i else 0

theorem partT_zero (f : Fin 5 → ℝ) : partT f 0 = 0 := by
  simp [partT]
theorem partT_succ (f : Fin 5 → ℝ) (k : ℕ) (i : Fin 5) (h : i.val = k) : partT f (k + 1) = partT f k + f i := by
  obtain ⟨n, hn⟩ := i
  have h : n = k := h
  subst h
  have : n = 0 ∨ n = 1 ∨ n = 2 ∨ n = 3 ∨ n = 4 := by omega
  rcases this with rfl | rfl | rfl | rfl | rfl <;> simp [partT, Fin.sum_univ_five]
theorem partT_five (f : Fin 5 → ℝ) : partT f 5 = ∑ i, f i := by
  simp [partT, Fin.sum_univ_five]

end Cert.Chain.Pay

end
-- ==== Proof.Finite.lean ====
module

public import proofs.«01_k».proof.Defs
public import proofs.«01_k».proof.Proof.Gen.Pre_finite
public import proofs.«01_k».proof.Proof.FwdPay
public import Idealize.ShloMosaic.Lib.ReduceAll

@[expose] public section

noncomputable section

/-! What the precondition says: every entry of every argument is a real number. -/

namespace Cert.Chain

open Idealize.ShloMosaic Cert.Chain.Pay

attribute [local instance] Cert.Pre_finite.Gen.facts

theorem real_of_sub (x : EReal) (h : Ideal.cmp .oeq (x - x) 0 = 1#1) : ∃ r : ℝ, x = (r : EReal) := by
  induction x using EReal.rec with
  | bot => simp [Ideal.cmp] at h
  | top => simp [Ideal.cmp] at h
  | coe r => exact ⟨r, rfl⟩

theorem zero_word : Ideal.ofBits .f32 0x00000000#32 = 0 := by simp [Ideal.ofBits, Ideal.ieee]

theorem andi_split {a b : BitVec 1} (h : IntOp.andi a b = 1#1) : a = 1#1 ∧ b = 1#1 := by
  revert a b; decide

/-- Where each entry of an array less itself is zero, the array is real. -/
theorem reals {s : Shape} (x : FVec Ideal s .f32) (z : FVec Ideal s .f32) (hz : ∀ i, z i = Ideal.ofBits .f32 0x00000000#32)
    {axes : List (Fin s.rank)} (init : Pre_finite.S_.Idx → BitVec 1) (h : s.ReducesTo axes Pre_finite.S_) (hu : 0 < Pre_finite.S_.numel) (j : Pre_finite.S_.Idx)
    (e : Host.reduce IntOp.andi (cmpf .oeq (subf x x) z) init h hu j = 1#1) (i : s.Idx) : ∃ r : ℝ, x i = (r : EReal) := by
  haveI : Subsingleton Pre_finite.S_.Idx := ⟨fun a b => funext fun k => k.elim0⟩
  have := Host.reduce_andi_all _ init h hu j e i
  refine real_of_sub (x i) ?_
  rw [← zero_word, ← hz i]
  exact this

/-- An array of reals is the image of its real parts. -/
theorem on2_of {a b : ℕ} (x : FVec Ideal ⟨2, ![a, b]⟩ .f32) (h : ∀ i, ∃ r : ℝ, x i = (r : EReal)) :
    ∃ X : Fin a → Fin b → ℝ, On2 x X :=
  ⟨fun i j => (h (ix2 i j)).choose, fun i j => (h (ix2 i j)).choose_spec⟩

open Cert.Pre_finite in
theorem finite_reals (a0 : FVec Ideal S4160x1024 .f32) (a1 : FVec Ideal S1x1024 .f32) (a2 a3 : FVec Ideal S1024x2816 .f32)
    (a4 : FVec Ideal S2816x1024 .f32) (a5 : FVec Ideal S4160x1024 .f32) (h : Cert.Pre_finite.fn (F := Ideal) a0 a1 a2 a3 a4 a5 = fun _ => 1#1) :
    ∃ (H : Fin 4160 → Fin 1024 → ℝ) (G : Fin 1024 → ℝ) (Wg Wu : Fin 1024 → Fin 2816 → ℝ) (Wd : Fin 2816 → Fin 1024 → ℝ) (D : Fin 4160 → Fin 1024 → ℝ),
      On2 a0 H ∧ On1 a1 G ∧ On2 a2 Wg ∧ On2 a3 Wu ∧ On2 a4 Wd ∧ On2 a5 D := by
  have e := congrFun h (fun k => k.elim0)
  unfold Pre_finite.fn Pre_finite.fn_part1 at e
  obtain ⟨e, e5⟩ := andi_split e
  obtain ⟨e, e4⟩ := andi_split e
  obtain ⟨e, e3⟩ := andi_split e
  obtain ⟨e, e2⟩ := andi_split e
  obtain ⟨e0, e1⟩ := andi_split e
  obtain ⟨H, hH⟩ := on2_of a0 (reals a0 _ (fun _ => rfl) _ _ _ _ e0)
  obtain ⟨G, hG⟩ := on2_of a1 (reals a1 _ (fun _ => rfl) _ _ _ _ e1)
  obtain ⟨Wg, hWg⟩ := on2_of a2 (reals a2 _ (fun _ => rfl) _ _ _ _ e2)
  obtain ⟨Wu, hWu⟩ := on2_of a3 (reals a3 _ (fun _ => rfl) _ _ _ _ e3)
  obtain ⟨Wd, hWd⟩ := on2_of a4 (reals a4 _ (fun _ => rfl) _ _ _ _ e4)
  obtain ⟨D, hD⟩ := on2_of a5 (reals a5 _ (fun _ => rfl) _ _ _ _ e5)
  exact ⟨H, G 0, Wg, Wu, Wd, D, hH, fun j => hG 0 j, hWg, hWu, hWd, hD⟩

end Cert.Chain

end
-- ==== Proof.FwdVal.lean ====
module

public import proofs.«01_k».proof.Proof.FwdPay
public import proofs.«01_k».proof.Proof.FwdDat

@[expose] public section

set_option maxRecDepth 16384

noncomputable section

/-! The five arrays of the forward call at the end, where every entry it reads is finite. -/

namespace Cert.Chain.Fwd

open Cert.KernelIdeal Cert.KernelIdeal.Gen
open Idealize.ShloMosaic Idealize.ShloMosaic.TcCoe
open Cert.Chain.Spec Cert.Chain.Pay

variable (V : (c : Dev nD) → (b : Ref sig .tc) → Buf (Elt Ideal) ((c : Thread nD τ).loc b)) (c : Dev nD)

/-- The tile and the shard of a point. -/
def tileOf (t : Fin cfg0.N) : Fin 5 := ⟨t.val / 4, by have h : t.val < 20 := t.isLt; omega⟩
def shardOf (t : Fin cfg0.N) : Fin 4 := ⟨t.val % 4, Nat.mod_lt _ (by norm_num)⟩

theorem idx0 : ∀ t : Fin cfg0.N, win0_0.index t = ![t.val / 4, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val % 4, 0, 0] := (by decide +kernel : ∀ t : Fin grid0.N, _)
theorem idx3 : ∀ t : Fin cfg0.N, win0_3.index t = ![t.val % 4, 0, 0] := (by decide +kernel : ∀ t : Fin grid0.N, _)
theorem idx4 : ∀ t : Fin cfg0.N, win0_4.index t = ![t.val % 4, 0, 0] := (by decide +kernel : ∀ t : Fin grid0.N, _)
theorem idx5 : ∀ t : Fin cfg0.N, win0_5.index t = ![t.val / 4, 0] := (by decide +kernel : ∀ t : Fin grid0.N, _)
theorem idx6 : ∀ t : Fin cfg0.N, win0_6.index t = ![t.val % 4, t.val / 4, 0] := (by decide +kernel : ∀ t : Fin grid0.N, _)
theorem idx7 : ∀ t : Fin cfg0.N, win0_7.index t = ![t.val % 4, t.val / 4, 0] := (by decide +kernel : ∀ t : Fin grid0.N, _)
theorem idx8 : ∀ t : Fin cfg0.N, win0_8.index t = ![t.val % 4, t.val / 4, 0] := (by decide +kernel : ∀ t : Fin grid0.N, _)
theorem idx9 : ∀ t : Fin cfg0.N, win0_9.index t = ![t.val / 4, 0] := (by decide +kernel : ∀ t : Fin grid0.N, _)

/-! The blocks read. -/

theorem blk0 (t : Fin cfg0.N) (a : Fin 832) (d : Fin 1024) : iblk V c 0 t (ix2 a d) = V c main_arg0 (ix2 (row (tileOf t) a) d) := by
  blk_ext [iblk, idx0 t, row, tileOf]
theorem blk1 (t : Fin cfg0.N) (d : Fin 1024) : iblk V c 1 t (ix2 0 d) = V c main_arg1 (ix2 0 d) := by
  blk_ext [iblk, idx1 t]
theorem blk2 (t : Fin cfg0.N) (q : Fin 704) (k : Fin 1024) : iblk V c 2 t (ix3 0 q k) = V c main_v2 (ix3 (shardOf t) q k) := by
  blk_ext [iblk, idx2 t, shardOf]
theorem blk3 (t : Fin cfg0.N) (q : Fin 704) (k : Fin 1024) : iblk V c 3 t (ix3 0 q k) = V c main_v5 (ix3 (shardOf t) q k) := by
  blk_ext [iblk, idx3 t, shardOf]
theorem blk4 (t : Fin cfg0.N) (q : Fin 704) (k : Fin 1024) : iblk V c 4 t (ix3 0 q k) = V c main_v7 (ix3 (shardOf t) q k) := by
  blk_ext [iblk, idx4 t, shardOf]

section Real

variable {H : Fin 4160 → Fin 1024 → ℝ} {G : Fin 1024 → ℝ} {Wg Wu : Fin 1024 → Fin 2816 → ℝ} {Wd : Fin 2816 → Fin 1024 → ℝ}

/-- The arrays that the call reads are real. -/
structure Reads (H : Fin 4160 → Fin 1024 → ℝ) (G : Fin 1024 → ℝ) (Wg Wu : Fin 1024 → Fin 2816 → ℝ) (Wd : Fin 2816 → Fin 1024 → ℝ) : Prop where
  h : On2 (V c main_arg0) H
  g : On1 (V c main_arg1) G
  wg : ∀ s q k, V c main_v2 (ix3 s q k) = ((Wg k (col s q) : ℝ) : EReal)
  wu : ∀ s q k, V c main_v5 (ix3 s q k) = ((Wu k (col s q) : ℝ) : EReal)
  wd : ∀ s q k, V c main_v7 (ix3 s q k) = ((Wd (col s q) k : ℝ) : EReal)

variable {V c}

theorem on0 (R : Reads V c H G Wg Wu Wd) (t : Fin cfg0.N) : On2 (iblk V c 0 t) (fun a d => H (row (tileOf t) a) d) :=
  fun a d => (blk0 V c t a d).trans (R.h _ _)
theorem on1 (R : Reads V c H G Wg Wu Wd) (t : Fin cfg0.N) : On1 (iblk V c 1 t) G := fun d => (blk1 V c t d).trans (R.g _)
theorem on2 (R : Reads V c H G Wg Wu Wd) (t : Fin cfg0.N) : On3 (iblk V c 2 t) (fun q k => Wg k (col (shardOf t) q)) :=
  fun q k => (blk2 V c t q k).trans (R.wg _ _ _)
theorem on3 (R : Reads V c H G Wg Wu Wd) (t : Fin cfg0.N) : On3 (iblk V c 3 t) (fun q k => Wu k (col (shardOf t) q)) :=
  fun q k => (blk3 V c t q k).trans (R.wu _ _ _)
theorem on4 (R : Reads V c H G Wg Wu Wd) (t : Fin cfg0.N) : On3 (iblk V c 4 t) (fun q k => Wd (col (shardOf t) q) k) :=
  fun q k => (blk4 V c t q k).trans (R.wd _ _ _)

theorem tile_tile0 (t : Fin cfg0.N) : tileOf (tile0 t.val t.isLt) = tileOf t := Fin.ext (by simp only [tileOf, tile0]; omega)

theorem on_n (R : Reads V c H G Wg Wu Wd) (t : Fin cfg0.N) : On2 (nAt V c t.val t.isLt) (fun a d => nrm H G (row (tileOf t) a) d) := by
  rw [← tile_tile0 t]
  exact fwd_n' (on0 R _) (on1 R _)
theorem on_nOut (R : Reads V c H G Wg Wu Wd) (t : Fin cfg0.N) : On2 (nOut V c t.val t.isLt) (fun a d => nrm H G (row (tileOf t) a) d) := by
  rw [← tile_tile0 t]
  exact fwd_n (on0 R _) (on1 R _)

/-- One shard's share of the down product. -/
def downOf (H : Fin 4160 → Fin 1024 → ℝ) (G : Fin 1024 → ℝ) (Wg Wu : Fin 1024 → Fin 2816 → ℝ) (Wd : Fin 2816 → Fin 1024 → ℝ)
    (r : Fin 4160) (d : Fin 1024) (s : Fin 4) : ℝ := ∑ q, sa H G Wg Wu r (col s q) * Wd (col s q) d

theorem on_acc (R : Reads V c H G Wg Wu Wd) : ∀ (n : ℕ) (h : n < cfg0.N),
    On2 (accAt V c n h) (fun a d => part (downOf H G Wg Wu Wd (row (tileOf ⟨n, h⟩) a) d) (n % 4)) := by
  intro n
  induction n with
  | zero =>
    intro h a d
    rw [show accAt V c 0 h = _ from accAt_first V c ⟨0, h⟩ rfl]
    refine (fwd_acc (on_n R ⟨0, h⟩) (on2 R _) (on3 R _) (on4 R _) fwd_zero a d).trans (congrArg (fun r : ℝ => (r : EReal)) ?_)
    beta_reduce
    rw [show (0 : ℕ) % 4 = 0 from rfl, part_zero]
    exact zero_add _
  | succ n ih =>
    intro h a d
    by_cases h0 : (n + 1) % 4 = 0
    · rw [show accAt V c (n + 1) h = _ from accAt_first V c ⟨n + 1, h⟩ h0]
      refine (fwd_acc (on_n R ⟨n + 1, h⟩) (on2 R _) (on3 R _) (on4 R _) fwd_zero a d).trans (congrArg (fun r : ℝ => (r : EReal)) ?_)
      beta_reduce
      rw [h0, part_zero]
      have hs : shardOf ⟨n + 1, h⟩ = 0 := Fin.ext h0
      rw [hs]
      exact zero_add _
    · rw [show accAt V c (n + 1) h = _ from accAt_next V c ⟨n + 1, h⟩ h0]
      refine (fwd_acc (on_n R ⟨n + 1, h⟩) (on2 R _) (on3 R _) (on4 R _) (ih (Nat.lt_of_succ_lt h)) a d).trans (congrArg (fun r : ℝ => (r : EReal)) ?_)
      have ht : tileOf ⟨n, Nat.lt_of_succ_lt h⟩ = tileOf ⟨n + 1, h⟩ := Fin.ext (by simp only [tileOf]; omega)
      have hm : (n + 1) % 4 = n % 4 + 1 := by omega
      beta_reduce
      rw [ht, hm, part_succ _ _ (shardOf ⟨n + 1, h⟩) hm]
      rfl

/-! The arrays. -/

theorem emb5 (t : Fin cfg0.N) (y : S832x1024.Idx) : (win0_5.blk t).view.emb y = ix2 (row (tileOf t) (y 0)) (y 1) := by
  blk_ext [idx5 t, row, tileOf]
theorem emb6 (t : Fin cfg0.N) (y : S1x832x704.Idx) : (win0_6.blk t).view.emb y = ix3 (shardOf t) (row (tileOf t) (y 1)) (y 2) := by
  blk_ext [idx6 t, row, tileOf, shardOf]
theorem emb7 (t : Fin cfg0.N) (y : S1x832x704.Idx) : (win0_7.blk t).view.emb y = ix3 (shardOf t) (row (tileOf t) (y 1)) (y 2) := by
  blk_ext [idx7 t, row, tileOf, shardOf]
theorem emb8 (t : Fin cfg0.N) (y : S1x832x704.Idx) : (win0_8.blk t).view.emb y = ix3 (shardOf t) (row (tileOf t) (y 1)) (y 2) := by
  blk_ext [idx8 t, row, tileOf, shardOf]
theorem emb9 (t : Fin cfg0.N) (y : S832x1024.Idx) : (win0_9.blk t).view.emb y = ix2 (row (tileOf t) (y 0)) (y 1) := by
  blk_ext [idx9 t, row, tileOf]

/-- The block's result. -/
theorem fin5 (R : Reads V c H G Wg Wu Wd) :
    (dat V c).arrAt 5 cfg0.N = fun i : S4160x1024.Idx => ((ho H G Wg Wu Wd (i 0) (i 1) : ℝ) : EReal) := by
  refine (dat V c).arrAt_eq_of_covers 5 _ (by decide +kernel) fun t hf y => ?_
  blk_simp
  rw [after5, emb5 t y]
  have h3 : t.val % 4 = 3 := (flush0_5 t).mp hf
  refine (congrArg _ (eq_ix2 y)).trans ((fwd_out (on0 R t) (on_acc R t.val t.isLt) (y 0) (y 1)).trans (congrArg (fun r : ℝ => (r : EReal)) ?_))
  rw [h3]
  show H (row (tileOf t) (y 0)) (y 1) + 1 / 2 * part _ 3 = ho H G Wg Wu Wd (row (tileOf t) (y 0)) (y 1)
  rw [part_three]
  unfold ho
  rw [sum_cols]
  rfl

/-- The gate's slope times the second product, by shards. -/
theorem fin6 (R : Reads V c H G Wg Wu Wd) :
    (dat V c).arrAt 6 cfg0.N = fun i : S4x4160x704.Idx => ((ga H G Wg Wu (i 1) (col (i 0) (i 2)) : ℝ) : EReal) := by
  refine (dat V c).arrAt_eq_of_covers 6 _ (by decide +kernel) fun t hf y => ?_
  blk_simp
  rw [after6, emb6 t y]
  exact (congrArg _ (ix3_of _ _ y)).trans (fwd_ga (on_n R t) (on2 R t) (on3 R t) (y 1) (y 2))

/-- The gate, by shards. -/
theorem fin7 (R : Reads V c H G Wg Wu Wd) :
    (dat V c).arrAt 7 cfg0.N = fun i : S4x4160x704.Idx => ((gb H G Wg (i 1) (col (i 0) (i 2)) : ℝ) : EReal) := by
  refine (dat V c).arrAt_eq_of_covers 7 _ (by decide +kernel) fun t hf y => ?_
  blk_simp
  rw [after7, emb7 t y]
  exact (congrArg _ (ix3_of _ _ y)).trans (fwd_gb (on_n R t) (on2 R t) (y 1) (y 2))

/-- The gated product, by shards. -/
theorem fin8 (R : Reads V c H G Wg Wu Wd) :
    (dat V c).arrAt 8 cfg0.N = fun i : S4x4160x704.Idx => ((sa H G Wg Wu (i 1) (col (i 0) (i 2)) : ℝ) : EReal) := by
  refine (dat V c).arrAt_eq_of_covers 8 _ (by decide +kernel) fun t hf y => ?_
  blk_simp
  rw [after8, emb8 t y]
  exact (congrArg _ (ix3_of _ _ y)).trans (fwd_sa (on_n R t) (on2 R t) (on3 R t) (y 1) (y 2))

/-- The normed rows. -/
theorem fin9 (R : Reads V c H G Wg Wu Wd) :
    (dat V c).arrAt 9 cfg0.N = fun i : S4160x1024.Idx => ((nrm H G (i 0) (i 1) : ℝ) : EReal) := by
  refine (dat V c).arrAt_eq_of_covers 9 _ (by decide +kernel) fun t hf y => ?_
  blk_simp
  rw [after9, emb9 t y]
  exact (congrArg _ (eq_ix2 y)).trans (on_nOut R t (y 0) (y 1))

end Real

end Cert.Chain.Fwd

end
-- ==== Proof.ActPay.lean ====
module

public import proofs.«01_k».proof.Proof.FwdPay
public import proofs.«01_k».proof.Proof.ActTerms

@[expose] public section

set_option maxRecDepth 16384

noncomputable section

/-! What the activation gradients' stores hold at an entry of half a tile, where every entry read is finite. -/

namespace Cert.Chain.Pay

open Cert.KernelIdeal Cert.KernelIdeal.Gen
open Idealize.ShloMosaic Idealize.ShloMosaic.TcCoe
open Cert.Chain.Spec

section Half

variable {dy : FVec Ideal S416x1024 .bf16} {DY : Fin 416 → Fin 1024 → ℝ} {wg wu wd : FVec Ideal S1x704x1024 .bf16} {Wg Wu Wd : Fin 704 → Fin 1024 → ℝ}
  {ga gb : FVec Ideal S1x416x704 .bf16} {GA GB : Fin 416 → Fin 704 → ℝ} {acc x h dho : FVec Ideal S416x1024 .f32} {A X H DHO : Fin 416 → Fin 1024 → ℝ}
  {g dg t : FVec Ideal S1x1024 .f32} {G DG T : Fin 1024 → ℝ}

theorem act_da_lo (hdy : On2 dy DY) (hwd : On3 wd Wd) (hga : On3 ga GA) :
    On3 (k1_pay12 (F := Ideal) dy wd ga) (fun a q => (∑ k, DY a k * Wd q k) * GA a q) := by
  intro a q
  pointwise [k1_pay12, k1_pay10, k1_pay8]
  simp only [hdy _ _, hwd _ _, hga _ _, ← EReal.coe_mul, coe_sum]

theorem act_db_lo (hdy : On2 dy DY) (hwd : On3 wd Wd) (hga : On3 ga GA) :
    On3 (k1_pay13 (F := Ideal) dy wd ga) (fun a q => (∑ k, DY a k * Wd q k) * GA a q) := by
  intro a q
  pointwise [k1_pay13, k1_pay11, k1_pay8]
  simp only [hdy _ _, hwd _ _, hga _ _, ← EReal.coe_mul, coe_sum]

theorem act_da_hi (hdy : On2 dy DY) (hwd : On3 wd Wd) (hga : On3 ga GA) :
    On3 (k1_pay18 (F := Ideal) (k1_pay9 dy wd) ga) (fun a q => (∑ k, DY a k * Wd q k) * GA a q) := by
  intro a q
  pointwise [k1_pay18, k1_pay16, k1_pay9]
  simp only [hdy _ _, hwd _ _, hga _ _, ← EReal.coe_mul, coe_sum]

theorem act_db_hi (hdy : On2 dy DY) (hwd : On3 wd Wd) (hga : On3 ga GA) :
    On3 (k1_pay19 (F := Ideal) (k1_pay9 dy wd) ga) (fun a q => (∑ k, DY a k * Wd q k) * GA a q) := by
  intro a q
  pointwise [k1_pay19, k1_pay17, k1_pay9]
  simp only [hdy _ _, hwd _ _, hga _ _, ← EReal.coe_mul, coe_sum]

/-- One shard's share of the gradient at the normed rows, added to what is there. -/
abbrev dnNext {r : ℕ} (DY : Fin r → Fin 1024 → ℝ) (Wg Wu Wd : Fin 704 → Fin 1024 → ℝ) (GA GB : Fin r → Fin 704 → ℝ) (A : Fin r → Fin 1024 → ℝ)
    (a : Fin r) (d : Fin 1024) : ℝ :=
  A a d + ((∑ q, (∑ k, DY a k * Wd q k) * GA a q * Wg q d) + ∑ q, (∑ k, DY a k * Wd q k) * GB a q * Wu q d)

theorem act_dn_lo (hdy : On2 dy DY) (hwg : On3 wg Wg) (hwu : On3 wu Wu) (hwd : On3 wd Wd) (hga : On3 ga GA) (hgb : On3 gb GB) (ha : On2 acc A) :
    On2 (k1_pay15 (F := Ideal) (k1_pay10 dy wd ga) (k1_pay11 dy wd gb) acc (k1_pay14 wg) wu) (dnNext DY Wg Wu Wd GA GB A) := by
  intro a d
  pointwise [k1_pay15, k1_pay10, k1_pay11, k1_pay14, k1_pay8]
  simp only [hdy _ _, hwg _ _, hwu _ _, hwd _ _, hga _ _, hgb _ _, ha _ _, ← EReal.coe_mul, coe_sum, ← EReal.coe_add]

theorem act_dn_hi (hdy : On2 dy DY) (hwg : On3 wg Wg) (hwu : On3 wu Wu) (hwd : On3 wd Wd) (hga : On3 ga GA) (hgb : On3 gb GB) (ha : On2 acc A) :
    On2 (k1_pay4 (F := Ideal) (k1_pay17 (k1_pay9 dy wd) gb) acc (k1_pay20 (k1_pay9 dy wd) ga wg) wu) (dnNext DY Wg Wu Wd GA GB A) := by
  intro a d
  pointwise [k1_pay4, k1_pay17, k1_pay9, k1_pay20, k1_pay16]
  simp only [hdy _ _, hwg _ _, hwu _ _, hwd _ _, hga _ _, hgb _ _, ha _ _, ← EReal.coe_mul, coe_sum, ← EReal.coe_add]

theorem act_end_lo (hdy : On2 dy DY) (hwg : On3 wg Wg) (hwu : On3 wu Wu) (hwd : On3 wd Wd) (hga : On3 ga GA) (hgb : On3 gb GB) (ha : On2 acc A) :
    On2 (k1_pay28 (F := Ideal) (k1_pay23 dy wd ga) (k1_pay24 dy wd gb) acc (k1_pay27 wg) wu) (dnNext DY Wg Wu Wd GA GB A) := by
  intro a d
  pointwise [k1_pay28, k1_pay23, k1_pay24, k1_pay27, k1_pay21]
  simp only [hdy _ _, hwg _ _, hwu _ _, hwd _ _, hga _ _, hgb _ _, ha _ _, ← EReal.coe_mul, coe_sum, ← EReal.coe_add]

theorem act_end_hi (hdy : On2 dy DY) (hwg : On3 wg Wg) (hwu : On3 wu Wu) (hwd : On3 wd Wd) (hga : On3 ga GA) (hgb : On3 gb GB) (ha : On2 acc A) :
    On2 (k1_pay37 (F := Ideal) (k1_pay22 dy wd) ga gb acc wg wu) (dnNext DY Wg Wu Wd GA GB A) := by
  intro a d
  pointwise [k1_pay37, k1_pay33, k1_pay34, k1_pay22]
  simp only [hdy _ _, hwg _ _, hwu _ _, hwd _ _, hga _ _, hgb _ _, ha _ _, ← EReal.coe_mul, coe_sum, ← EReal.coe_add]

/-- The gradient of the input rows from the gradient `X` at the normed rows. -/
abbrev dhOf {r : ℕ} (X H DHO : Fin r → Fin 1024 → ℝ) (G : Fin 1024 → ℝ) (a : Fin r) (d : Fin 1024) : ℝ :=
  DHO a d + rstd (H a) * (X a d * G d - H a d * rstd (H a) * ((∑ k, X a k * G k * (H a k * rstd (H a))) / 1024))

theorem act_dh_lo {v28 v33 : FVec Ideal S416x704 .bf16} {v42 : FVec Ideal S704x1024 .bf16}
    (hx : On2 (k1_pay28 (F := Ideal) v28 v33 acc v42 wu) X) (hh : On2 h H) (hg : On1 g G) (hd : On2 dho DHO) :
    On2 (k1_pay32 (F := Ideal) v28 v33 acc v42 wu h g dho) (dhOf X H DHO G) := by
  intro a d
  pointwise [k1_pay32, k1_pay29, k1_pay30]
  simp only [hx _ _, hh _ _, hg _, hd _ _, ← EReal.coe_mul, coe_sum, word_width, word_eps, div_width, ← EReal.coe_add, ← EReal.coe_sub, rsqrt_ms']

theorem act_dh_hi (hx : On2 x X) (hh : On2 h H) (hg : On1 g G) (hd : On2 dho DHO) :
    On2 (k1_pay6 (F := Ideal) x h (k1_pay38 h) (k1_pay39 h) g dho) (dhOf X H DHO G) := by
  intro a d
  pointwise [k1_pay6, k1_pay5, k1_pay38, k1_pay39]
  simp only [hx _ _, hh _ _, hg _, hd _ _, ← EReal.coe_mul, coe_sum, word_width, word_eps, div_width, ← EReal.coe_add, ← EReal.coe_sub, rsqrt_ms']

theorem act_dg_lo {v28 v33 : FVec Ideal S416x704 .bf16} {v42 : FVec Ideal S704x1024 .bf16}
    (hx : On2 (k1_pay28 (F := Ideal) v28 v33 acc v42 wu) X) (hh : On2 h H) :
    On1 (k1_pay31 (F := Ideal) v28 v33 acc v42 wu h) (fun d => ∑ a, X a d * (H a d * rstd (H a))) := by
  intro d
  pointwise [k1_pay31, k1_pay29, k1_pay30]
  simp only [hx _ _, hh _ _, ← EReal.coe_mul, coe_sum, word_width, word_eps, div_width, ← EReal.coe_add, rsqrt_ms']

theorem act_dg_hi (ht : On1 t T) (hx : On2 x X) (hh : On2 h H) (hdg : On1 dg DG) :
    On1 (k1_pay7 (F := Ideal) t x h (k1_pay39 h) dg) (fun d => DG d + (T d + ∑ a, X a d * (H a d * rstd (H a)))) := by
  intro d
  pointwise [k1_pay7, k1_pay5, k1_pay38, k1_pay39]
  simp only [ht _, hdg _, hx _ _, hh _ _, ← EReal.coe_mul, coe_sum, word_width, word_eps, div_width, ← EReal.coe_add, rsqrt_ms']

end Half

end Cert.Chain.Pay

end
-- ==== Proof.ActPay2.lean ====
module

public import proofs.«01_k».proof.Proof.ActPay

@[expose] public section

set_option maxRecDepth 16384

noncomputable section

/-! What the activation gradients' stores hold at an entry of a whole tile. -/

namespace Cert.Chain.Pay

open Cert.KernelIdeal Cert.KernelIdeal.Gen
open Idealize.ShloMosaic Idealize.ShloMosaic.TcCoe
open Cert.Chain.Spec

/-- Row `a` of the first half, and of the second. -/
def lo (a : Fin 416) : Fin 832 := ⟨a.val, by have := a.isLt; omega⟩
def hi (a : Fin 416) : Fin 832 := ⟨416 + a.val, by have := a.isLt; omega⟩

theorem sum_halves (f : Fin 832 → ℝ) : ∑ a, f a = (∑ a, f (lo a)) + ∑ a, f (hi a) := Fin.sum_univ_add (a := 416) (b := 416) f

theorem on_rowsLo {x : S832x1024.Idx → EReal} {X : Fin 832 → Fin 1024 → ℝ} (hx : On2 x X) : On2 (rowsLo x) (fun a b => X (lo a) b) := by
  intro a b
  refine (congrArg x ?_).trans (hx (lo a) b)
  refine (eq_ix2 _).trans ?_
  congr 1
  · exact Fin.ext (by simp [lo])
  · exact Fin.ext (by simp)

theorem on_rowsHi {x : S832x1024.Idx → EReal} {X : Fin 832 → Fin 1024 → ℝ} (hx : On2 x X) : On2 (rowsHi x) (fun a b => X (hi a) b) := by
  intro a b
  refine (congrArg x ?_).trans (hx (hi a) b)
  refine (eq_ix2 _).trans ?_
  congr 1
  · exact Fin.ext (by simp [hi])
  · exact Fin.ext (by simp)

theorem on_shardLo {x : S1x832x704.Idx → EReal} {X : Fin 832 → Fin 704 → ℝ} (hx : On3 x X) : On3 (shardLo x) (fun a b => X (lo a) b) := by
  intro a b
  refine (congrArg x ?_).trans (hx (lo a) b)
  refine (eq_ix3 _).trans ?_
  congr 1
  · exact Fin.ext (by simp [lo])
  · exact Fin.ext (by simp)

theorem on_shardHi {x : S1x832x704.Idx → EReal} {X : Fin 832 → Fin 704 → ℝ} (hx : On3 x X) : On3 (shardHi x) (fun a b => X (hi a) b) := by
  intro a b
  refine (congrArg x ?_).trans (hx (hi a) b)
  refine (eq_ix3 _).trans ?_
  congr 1
  · exact Fin.ext (by simp [hi])
  · exact Fin.ext (by simp)

theorem on_bothRows {x : S832x1024.Idx → EReal} {l u : S416x1024.Idx → EReal} {X : Fin 832 → Fin 1024 → ℝ}
    (hl : On2 l (fun a b => X (lo a) b)) (hu : On2 u (fun a b => X (hi a) b)) : On2 (bothRows x l u) X := by
  intro a b
  unfold bothRows VecWindow.put
  by_cases hh : 416 ≤ a.val
  · rw [dif_pos (by
      intro i; fin_cases i
      · exact ⟨hh, (by show a.val < 416 + 416; have := a.isLt; omega)⟩
      · exact ⟨Nat.zero_le _, (by show b.val < 0 + 1024; have := b.isLt; omega)⟩)]
    refine (congrArg u ?_).trans ((hu ⟨a.val - 416, by have := a.isLt; omega⟩ b).trans (congrArg (fun r => ((X r b : ℝ) : EReal)) (Fin.ext ?_)))
    · funext i; fin_cases i <;> exact Fin.ext (by simp [Rect.unitLocal])
    · show 416 + (a.val - 416) = a.val
      omega
  · rw [dif_neg (fun h => hh (h 0).1), dif_pos (by
      intro i; fin_cases i
      · exact ⟨Nat.zero_le _, (by show a.val < 0 + 416; omega)⟩
      · exact ⟨Nat.zero_le _, (by show b.val < 0 + 1024; have := b.isLt; omega)⟩)]
    refine (congrArg l ?_).trans ((hl ⟨a.val, by omega⟩ b).trans (congrArg (fun r => ((X r b : ℝ) : EReal)) (Fin.ext ?_)))
    · funext i; fin_cases i <;> exact Fin.ext (by simp [Rect.unitLocal])
    · rfl

theorem on_bothShard {x : S1x832x704.Idx → EReal} {l u : S1x416x704.Idx → EReal} {X : Fin 832 → Fin 704 → ℝ}
    (hl : On3 l (fun a b => X (lo a) b)) (hu : On3 u (fun a b => X (hi a) b)) : On3 (bothShard x l u) X := by
  intro a b
  unfold bothShard VecWindow.put
  by_cases hh : 416 ≤ a.val
  · rw [dif_pos (by
      intro i; fin_cases i
      · exact ⟨Nat.zero_le _, (by show 0 < 0 + 1; omega)⟩
      · exact ⟨hh, (by show a.val < 416 + 416; have := a.isLt; omega)⟩
      · exact ⟨Nat.zero_le _, (by show b.val < 0 + 704; have := b.isLt; omega)⟩)]
    refine (congrArg u ?_).trans ((hu ⟨a.val - 416, by have := a.isLt; omega⟩ b).trans (congrArg (fun r => ((X r b : ℝ) : EReal)) (Fin.ext ?_)))
    · funext i; fin_cases i <;> exact Fin.ext (by simp [Rect.unitLocal])
    · show 416 + (a.val - 416) = a.val
      omega
  · rw [dif_neg (fun h => hh (h 1).1), dif_pos (by
      intro i; fin_cases i
      · exact ⟨Nat.zero_le _, (by show 0 < 0 + 1; omega)⟩
      · exact ⟨Nat.zero_le _, (by show a.val < 0 + 416; omega)⟩
      · exact ⟨Nat.zero_le _, (by show b.val < 0 + 704; have := b.isLt; omega)⟩)]
    refine (congrArg l ?_).trans ((hl ⟨a.val, by omega⟩ b).trans (congrArg (fun r => ((X r b : ℝ) : EReal)) (Fin.ext ?_)))
    · funext i; fin_cases i <;> exact Fin.ext (by simp [Rect.unitLocal])
    · rfl

section Whole

variable {dy : FVec Ideal S832x1024 .bf16} {DY : Fin 832 → Fin 1024 → ℝ} {wg wu wd : FVec Ideal S1x704x1024 .bf16} {Wg Wu Wd : Fin 704 → Fin 1024 → ℝ}
  {ga gb : FVec Ideal S1x832x704 .bf16} {GA GB : Fin 832 → Fin 704 → ℝ} {acc h dho : FVec Ideal S832x1024 .f32} {A H DHO : Fin 832 → Fin 1024 → ℝ}
  {g dg : FVec Ideal S1x1024 .f32} {G DG : Fin 1024 → ℝ}

theorem act_dy (hd : On2 dho DHO) : On2 (k1_pay1 (F := Ideal) dho) (fun a d => 1 / 2 * DHO a d) := by
  intro a d
  pointwise [k1_pay1]
  simp only [hd _ _, word_half, ← EReal.coe_mul]

theorem act_zero : On2 (k1_pay2 (F := Ideal)) (fun _ _ => 0) := by
  intro a b
  pointwise [k1_pay2]
  rfl

theorem act_dg_zero : On1 (k1_pay3 (F := Ideal)) (fun _ => 0) := by
  intro b
  pointwise [k1_pay3]
  rfl

theorem act_da (hdy : On2 dy DY) (hwd : On3 wd Wd) (hga : On3 ga GA) :
    On3 (actDa (F := Ideal) dy wd ga) (fun a q => (∑ k, DY a k * Wd q k) * GA a q) :=
  on_bothShard (act_da_lo (on_rowsLo hdy) hwd (on_shardLo hga)) (act_da_hi (on_rowsHi hdy) hwd (on_shardHi hga))

theorem act_db (hdy : On2 dy DY) (hwd : On3 wd Wd) (hgb : On3 gb GB) :
    On3 (actDb (F := Ideal) dy wd gb) (fun a q => (∑ k, DY a k * Wd q k) * GB a q) :=
  on_bothShard (act_db_lo (on_rowsLo hdy) hwd (on_shardLo hgb)) (act_db_hi (on_rowsHi hdy) hwd (on_shardHi hgb))

theorem act_dn (hdy : On2 dy DY) (hwg : On3 wg Wg) (hwu : On3 wu Wu) (hwd : On3 wd Wd) (hga : On3 ga GA) (hgb : On3 gb GB) (ha : On2 acc A) :
    On2 (actDn (F := Ideal) dy wg wu wd ga gb acc) (dnNext DY Wg Wu Wd GA GB A) :=
  on_bothRows (act_dn_lo (on_rowsLo hdy) hwg hwu hwd (on_shardLo hga) (on_shardLo hgb) (on_rowsLo ha))
    (act_dn_hi (on_rowsHi hdy) hwg hwu hwd (on_shardHi hga) (on_shardHi hgb) (on_rowsHi ha))

theorem act_dh (hd : On2 dho DHO) (hh : On2 h H) (hg : On1 g G) (hdy : On2 dy DY) (hwg : On3 wg Wg) (hwu : On3 wu Wu) (hwd : On3 wd Wd) (hga : On3 ga GA)
    (hgb : On3 gb GB) (ha : On2 acc A) :
    On2 (actDh (F := Ideal) dho h g dy wg wu wd ga gb acc) (dhOf (dnNext DY Wg Wu Wd GA GB A) H DHO G) :=
  on_bothRows
    (act_dh_lo (act_end_lo (on_rowsLo hdy) hwg hwu hwd (on_shardLo hga) (on_shardLo hgb) (on_rowsLo ha)) (on_rowsLo hh) hg (on_rowsLo hd))
    (act_dh_hi (act_end_hi (on_rowsHi hdy) hwg hwu hwd (on_shardHi hga) (on_shardHi hgb) (on_rowsHi ha)) (on_rowsHi hh) hg (on_rowsHi hd))

theorem act_dg (hh : On2 h H) (hdy : On2 dy DY) (hwg : On3 wg Wg) (hwu : On3 wu Wu) (hwd : On3 wd Wd) (hga : On3 ga GA)
    (hgb : On3 gb GB) (ha : On2 acc A) (hdg : On1 dg DG) :
    On1 (actDg (F := Ideal) h dy wg wu wd ga gb acc dg)
      (fun d => DG d + ∑ a, dnNext DY Wg Wu Wd GA GB A a d * (H a d * rstd (H a))) := by
  intro d
  refine (act_dg_hi (act_dg_lo (act_end_lo (on_rowsLo hdy) hwg hwu hwd (on_shardLo hga) (on_shardLo hgb) (on_rowsLo ha)) (on_rowsLo hh))
    (act_end_hi (on_rowsHi hdy) hwg hwu hwd (on_shardHi hga) (on_shardHi hgb) (on_rowsHi ha)) (on_rowsHi hh) hdg d).trans ?_
  exact congrArg (fun r : ℝ => ((DG d + r : ℝ) : EReal)) (sum_halves fun a => dnNext DY Wg Wu Wd GA GB A a d * (H a d * rstd (H a))).symm

end Whole

end Cert.Chain.Pay

end
-- ==== Proof.ActVal.lean ====
module

public import proofs.«01_k».proof.Proof.ActPay2
public import proofs.«01_k».proof.Proof.ActDat

@[expose] public section

set_option maxRecDepth 16384

noncomputable section

/-! The five arrays of the activation call at the end, where every entry it reads is finite. -/

namespace Cert.Chain.Act

open Cert.KernelIdeal Cert.KernelIdeal.Gen
open Idealize.ShloMosaic Idealize.ShloMosaic.TcCoe
open Cert.Chain.Spec Cert.Chain.Pay

variable (V : (c : Dev nD) → (b : Ref sig .tc) → Buf (Elt Ideal) ((c : Thread nD τ).loc b)) (c : Dev nD)

/-- The tile and the shard of a point. -/
def tileOf (t : Fin cfg1.N) : Fin 5 := ⟨t.val / 4, by have h : t.val < 20 := t.isLt; omega⟩
def shardOf (t : Fin cfg1.N) : Fin 4 := ⟨t.val % 4, Nat.mod_lt _ (by norm_num)⟩

theorem idx0 : ∀ t : Fin cfg1.N, win1_0.index t = ![t.val / 4, 0] := (by decide +kernel : ∀ t : Fin grid1.N, _)
theorem idx1 : ∀ t : Fin cfg1.N, win1_1.index t = ![t.val / 4, 0] := (by decide +kernel : ∀ t : Fin grid1.N, _)
theorem idx2 : ∀ t : Fin cfg1.N, win1_2.index t = ![0, 0] := (by decide +kernel : ∀ t : Fin grid1.N, _)
theorem idx3 : ∀ t : Fin cfg1.N, win1_3.index t = ![t.val % 4, t.val / 4, 0] := (by decide +kernel : ∀ t : Fin grid1.N, _)
theorem idx4 : ∀ t : Fin cfg1.N, win1_4.index t = ![t.val % 4, t.val / 4, 0] := (by decide +kernel : ∀ t : Fin grid1.N, _)
theorem idx5 : ∀ t : Fin cfg1.N, win1_5.index t = ![t.val % 4, 0, 0] := (by decide +kernel : ∀ t : Fin grid1.N, _)
theorem idx6 : ∀ t : Fin cfg1.N, win1_6.index t = ![t.val % 4, 0, 0] := (by decide +kernel : ∀ t : Fin grid1.N, _)
theorem idx7 : ∀ t : Fin cfg1.N, win1_7.index t = ![t.val % 4, 0, 0] := (by decide +kernel : ∀ t : Fin grid1.N, _)
theorem idx8 : ∀ t : Fin cfg1.N, win1_8.index t = ![t.val / 4, 0] := (by decide +kernel : ∀ t : Fin grid1.N, _)
theorem idx9 : ∀ t : Fin cfg1.N, win1_9.index t = ![t.val % 4, t.val / 4, 0] := (by decide +kernel : ∀ t : Fin grid1.N, _)
theorem idx10 : ∀ t : Fin cfg1.N, win1_10.index t = ![t.val % 4, t.val / 4, 0] := (by decide +kernel : ∀ t : Fin grid1.N, _)
theorem idx11 : ∀ t : Fin cfg1.N, win1_11.index t = ![0, 0] := (by decide +kernel : ∀ t : Fin grid1.N, _)
theorem idx12 : ∀ t : Fin cfg1.N, win1_12.index t = ![t.val / 4, 0] := (by decide +kernel : ∀ t : Fin grid1.N, _)

/-! The blocks read. -/

theorem blk0 (t : Fin cfg1.N) (a : Fin 832) (d : Fin 1024) : iblk V c 0 t (ix2 a d) = V c main_arg5 (ix2 (row (tileOf t) a) d) := by
  blk_ext [iblk, idx0 t, row, tileOf]
theorem blk1 (t : Fin cfg1.N) (a : Fin 832) (d : Fin 1024) : iblk V c 1 t (ix2 a d) = V c main_arg0 (ix2 (row (tileOf t) a) d) := by
  blk_ext [iblk, idx1 t, row, tileOf]
theorem blk2 (t : Fin cfg1.N) (d : Fin 1024) : iblk V c 2 t (ix2 0 d) = V c main_arg1 (ix2 0 d) := by
  blk_ext [iblk, idx2 t]
theorem blk3 (t : Fin cfg1.N) (a : Fin 832) (q : Fin 704) : iblk V c 3 t (ix3 0 a q) = V c main_v8_1 (ix3 (shardOf t) (row (tileOf t) a) q) := by
  blk_ext [iblk, idx3 t, shardOf, row, tileOf]
theorem blk4 (t : Fin cfg1.N) (a : Fin 832) (q : Fin 704) : iblk V c 4 t (ix3 0 a q) = V c main_v8_2 (ix3 (shardOf t) (row (tileOf t) a) q) := by
  blk_ext [iblk, idx4 t, shardOf, row, tileOf]
theorem blk5 (t : Fin cfg1.N) (q : Fin 704) (k : Fin 1024) : iblk V c 5 t (ix3 0 q k) = V c main_v2 (ix3 (shardOf t) q k) := by
  blk_ext [iblk, idx5 t, shardOf]
theorem blk6 (t : Fin cfg1.N) (q : Fin 704) (k : Fin 1024) : iblk V c 6 t (ix3 0 q k) = V c main_v5 (ix3 (shardOf t) q k) := by
  blk_ext [iblk, idx6 t, shardOf]
theorem blk7 (t : Fin cfg1.N) (q : Fin 704) (k : Fin 1024) : iblk V c 7 t (ix3 0 q k) = V c main_v7 (ix3 (shardOf t) q k) := by
  blk_ext [iblk, idx7 t, shardOf]

section Real

variable {H : Fin 4160 → Fin 1024 → ℝ} {G : Fin 1024 → ℝ} {Wg Wu : Fin 1024 → Fin 2816 → ℝ} {Wd : Fin 2816 → Fin 1024 → ℝ} {D : Fin 4160 → Fin 1024 → ℝ}

/-- The arrays that the call reads are real. -/
structure Reads (H : Fin 4160 → Fin 1024 → ℝ) (G : Fin 1024 → ℝ) (Wg Wu : Fin 1024 → Fin 2816 → ℝ) (Wd : Fin 2816 → Fin 1024 → ℝ)
    (D : Fin 4160 → Fin 1024 → ℝ) : Prop where
  dho : On2 (V c main_arg5) D
  h : On2 (V c main_arg0) H
  g : On1 (V c main_arg1) G
  ga : ∀ s r q, V c main_v8_1 (ix3 s r q) = ((ga H G Wg Wu r (col s q) : ℝ) : EReal)
  gb : ∀ s r q, V c main_v8_2 (ix3 s r q) = ((gb H G Wg r (col s q) : ℝ) : EReal)
  wg : ∀ s q k, V c main_v2 (ix3 s q k) = ((Wg k (col s q) : ℝ) : EReal)
  wu : ∀ s q k, V c main_v5 (ix3 s q k) = ((Wu k (col s q) : ℝ) : EReal)
  wd : ∀ s q k, V c main_v7 (ix3 s q k) = ((Wd (col s q) k : ℝ) : EReal)

variable {V c}

theorem on0 (R : Reads V c H G Wg Wu Wd D) (t : Fin cfg1.N) : On2 (iblk V c 0 t) (fun a d => D (row (tileOf t) a) d) :=
  fun a d => (blk0 V c t a d).trans (R.dho _ _)
theorem on1 (R : Reads V c H G Wg Wu Wd D) (t : Fin cfg1.N) : On2 (iblk V c 1 t) (fun a d => H (row (tileOf t) a) d) :=
  fun a d => (blk1 V c t a d).trans (R.h _ _)
theorem on2 (R : Reads V c H G Wg Wu Wd D) (t : Fin cfg1.N) : On1 (iblk V c 2 t) G := fun d => (blk2 V c t d).trans (R.g _)
theorem on3 (R : Reads V c H G Wg Wu Wd D) (t : Fin cfg1.N) : On3 (iblk V c 3 t) (fun a q => ga H G Wg Wu (row (tileOf t) a) (col (shardOf t) q)) :=
  fun a q => (blk3 V c t a q).trans (R.ga _ _ _)
theorem on4 (R : Reads V c H G Wg Wu Wd D) (t : Fin cfg1.N) : On3 (iblk V c 4 t) (fun a q => gb H G Wg (row (tileOf t) a) (col (shardOf t) q)) :=
  fun a q => (blk4 V c t a q).trans (R.gb _ _ _)
theorem on5 (R : Reads V c H G Wg Wu Wd D) (t : Fin cfg1.N) : On3 (iblk V c 5 t) (fun q k => Wg k (col (shardOf t) q)) :=
  fun q k => (blk5 V c t q k).trans (R.wg _ _ _)
theorem on6 (R : Reads V c H G Wg Wu Wd D) (t : Fin cfg1.N) : On3 (iblk V c 6 t) (fun q k => Wu k (col (shardOf t) q)) :=
  fun q k => (blk6 V c t q k).trans (R.wu _ _ _)
theorem on7 (R : Reads V c H G Wg Wu Wd D) (t : Fin cfg1.N) : On3 (iblk V c 7 t) (fun q k => Wd (col (shardOf t) q) k) :=
  fun q k => (blk7 V c t q k).trans (R.wd _ _ _)

theorem tile_tile0 (t : Fin cfg1.N) : tileOf (tile0 t.val t.isLt) = tileOf t := Fin.ext (by simp only [tileOf, tile0]; omega)

theorem on_dy (R : Reads V c H G Wg Wu Wd D) (t : Fin cfg1.N) : On2 (dyAt V c t.val t.isLt) (fun a d => dy D (row (tileOf t) a) d) := by
  rw [← tile_tile0 t]
  exact act_dy (on0 R _)

/-- One shard's share of the gradient at the normed rows. -/
def share (H : Fin 4160 → Fin 1024 → ℝ) (G : Fin 1024 → ℝ) (Wg Wu : Fin 1024 → Fin 2816 → ℝ) (Wd : Fin 2816 → Fin 1024 → ℝ)
    (D : Fin 4160 → Fin 1024 → ℝ) (r : Fin 4160) (d : Fin 1024) (s : Fin 4) : ℝ :=
  (∑ q, da H G Wg Wu Wd D r (col s q) * Wg d (col s q)) + ∑ q, db H G Wg Wd D r (col s q) * Wu d (col s q)

theorem sum_share (r : Fin 4160) (d : Fin 1024) : ∑ s, share H G Wg Wu Wd D r d s = dn H G Wg Wu Wd D r d := by
  unfold dn share
  rw [sum_cols]
  exact Finset.sum_congr rfl fun s _ => Finset.sum_add_distrib.symm

theorem on_dn (R : Reads V c H G Wg Wu Wd D) : ∀ (n : ℕ) (h : n < cfg1.N),
    On2 (dnAt V c n h) (fun a d => part (share H G Wg Wu Wd D (row (tileOf ⟨n, h⟩) a) d) (min (n % 4) 2)) := by
  intro n
  induction n with
  | zero =>
    intro h a d
    rw [show dnAt V c 0 h = _ from dnAt_first V c ⟨0, h⟩ rfl]
    refine (act_dn (on_dy R ⟨0, h⟩) (on5 R _) (on6 R _) (on7 R _) (on3 R _) (on4 R _) act_zero a d).trans (congrArg (fun r : ℝ => (r : EReal)) ?_)
    beta_reduce
    rw [show min (0 % 4) 2 = 0 from rfl, part_zero]
    exact zero_add _
  | succ n ih =>
    intro h a d
    by_cases h0 : (n + 1) % 4 = 0
    · rw [show dnAt V c (n + 1) h = _ from dnAt_first V c ⟨n + 1, h⟩ h0]
      refine (act_dn (on_dy R ⟨n + 1, h⟩) (on5 R _) (on6 R _) (on7 R _) (on3 R _) (on4 R _) act_zero a d).trans (congrArg (fun r : ℝ => (r : EReal)) ?_)
      beta_reduce
      have hs : shardOf ⟨n + 1, h⟩ = 0 := Fin.ext h0
      rw [h0, show min 0 2 = 0 from rfl, part_zero, hs]
      exact zero_add _
    · have ht : tileOf ⟨n, Nat.lt_of_succ_lt h⟩ = tileOf ⟨n + 1, h⟩ := Fin.ext (by simp only [tileOf]; omega)
      by_cases h1 : (n + 1) % 4 = 3
      · rw [show dnAt V c (n + 1) h = _ from dnAt_last V c ⟨n + 1, h⟩ h1]
        refine (ih (Nat.lt_of_succ_lt h) a d).trans (congrArg (fun r : ℝ => (r : EReal)) ?_)
        beta_reduce
        rw [ht, show min (n % 4) 2 = min ((n + 1) % 4) 2 by omega]
      · rw [show dnAt V c (n + 1) h = _ from dnAt_mid V c ⟨n + 1, h⟩ h0 h1]
        refine (act_dn (on_dy R ⟨n + 1, h⟩) (on5 R _) (on6 R _) (on7 R _) (on3 R _) (on4 R _) (ih (Nat.lt_of_succ_lt h)) a d).trans
          (congrArg (fun r : ℝ => (r : EReal)) ?_)
        unfold dnNext
        beta_reduce
        have hm : min ((n + 1) % 4) 2 = min (n % 4) 2 + 1 := by omega
        rw [ht, hm, part_succ _ _ (shardOf ⟨n + 1, h⟩) (by show (n + 1) % 4 = _; omega)]
        rfl

/-- At a tile's last point the whole sum: what stands there and the last shard's share. -/
theorem on_whole (t : Fin cfg1.N) (h3 : t.val % 4 = 3) (r : Fin 4160) (d : Fin 1024) (k : ℕ) (hk : k = 2) :
    part (share H G Wg Wu Wd D r d) k + share H G Wg Wu Wd D r d (shardOf t) = dn H G Wg Wu Wd D r d := by
  rw [← sum_share, ← part_three, hk, part_succ _ 2 (shardOf t) h3]

theorem whole_eq (R : Reads V c H G Wg Wu Wd D) (t : Fin cfg1.N) (h3 : t.val % 4 = 3) (k : ℕ) (hk : k = 2) :
    dnNext (fun a d => dy D (row (tileOf t) a) d) (fun q k => Wg k (col (shardOf t) q)) (fun q k => Wu k (col (shardOf t) q))
        (fun q k => Wd (col (shardOf t) q) k) (fun a q => ga H G Wg Wu (row (tileOf t) a) (col (shardOf t) q))
        (fun a q => gb H G Wg (row (tileOf t) a) (col (shardOf t) q)) (fun a d => part (share H G Wg Wu Wd D (row (tileOf t) a) d) k)
      = fun a d => dn H G Wg Wu Wd D (row (tileOf t) a) d := by
  funext a d
  exact on_whole t h3 (row (tileOf t) a) d k hk

theorem on_dg (R : Reads V c H G Wg Wu Wd D) : ∀ (n : ℕ) (h : n < cfg1.N),
    On1 (dgAt V c n h) (fun d => partT (fun i => ∑ a, dn H G Wg Wu Wd D (row i a) d * xhat H (row i a) d) ((n + 1) / 4)) := by
  intro n
  induction n with
  | zero =>
    intro h d
    rw [show dgAt V c 0 h = _ from dgAt_zero V c ⟨0, h⟩ rfl]
    refine (act_dg_zero d).trans (congrArg (fun r : ℝ => (r : EReal)) ?_)
    exact (partT_zero _).symm
  | succ n ih =>
    intro h d
    by_cases h1 : (n + 1) % 4 = 3
    · rw [show dgAt V c (n + 1) h = _ from dgAt_last V c ⟨n + 1, h⟩ h1]
      have ht : tileOf ⟨n, Nat.lt_of_succ_lt h⟩ = tileOf ⟨n + 1, h⟩ := Fin.ext (by simp only [tileOf]; omega)
      refine (act_dg (on1 R ⟨n + 1, h⟩) (on_dy R ⟨n + 1, h⟩) (on5 R _) (on6 R _) (on7 R _) (on3 R _) (on4 R _) (on_dn R n (Nat.lt_of_succ_lt h))
        (ih (Nat.lt_of_succ_lt h)) d).trans (congrArg (fun r : ℝ => (r : EReal)) ?_)
      rw [ht, whole_eq R ⟨n + 1, h⟩ h1 _ (by omega)]
      beta_reduce
      have hd : (n + 1 + 1) / 4 = (n + 1) / 4 + 1 := by omega
      rw [hd, partT_succ _ ((n + 1) / 4) (tileOf ⟨n + 1, h⟩) rfl]
      rfl
    · rw [dgAt_keep V c n h h1]
      refine (ih (Nat.lt_of_succ_lt h) d).trans (congrArg (fun r : ℝ => (r : EReal)) ?_)
      beta_reduce
      rw [show (n + 1 + 1) / 4 = (n + 1) / 4 by omega]

/-! The arrays. -/

theorem emb8 (t : Fin cfg1.N) (y : S832x1024.Idx) : (win1_8.blk t).view.emb y = ix2 (row (tileOf t) (y 0)) (y 1) := by
  blk_ext [idx8 t, row, tileOf]
theorem emb9 (t : Fin cfg1.N) (y : S1x832x704.Idx) : (win1_9.blk t).view.emb y = ix3 (shardOf t) (row (tileOf t) (y 1)) (y 2) := by
  blk_ext [idx9 t, row, tileOf, shardOf]
theorem emb10 (t : Fin cfg1.N) (y : S1x832x704.Idx) : (win1_10.blk t).view.emb y = ix3 (shardOf t) (row (tileOf t) (y 1)) (y 2) := by
  blk_ext [idx10 t, row, tileOf, shardOf]
theorem emb11 (t : Fin cfg1.N) (y : S1x1024.Idx) : (win1_11.blk t).view.emb y = ix2 0 (y 1) := by
  blk_ext [idx11 t]
theorem emb12 (t : Fin cfg1.N) (y : S832x1024.Idx) : (win1_12.blk t).view.emb y = ix2 (row (tileOf t) (y 0)) (y 1) := by
  blk_ext [idx12 t, row, tileOf]

/-- The gradient of the input rows. -/
theorem fin8 (R : Reads V c H G Wg Wu Wd D) :
    (dat V c).arrAt 8 cfg1.N = fun i : S4160x1024.Idx => ((dh H G Wg Wu Wd D (i 0) (i 1) : ℝ) : EReal) := by
  refine (dat V c).arrAt_eq_of_covers 8 _ (by decide +kernel) fun t hf y => ?_
  blk_simp
  rw [after8, emb8 t y]
  have h3 : t.val % 4 = 3 := (flush1_8 t).mp hf
  refine (congrArg _ (eq_ix2 y)).trans ((act_dh (on0 R t) (on1 R t) (on2 R t) (on_dy R t) (on5 R _) (on6 R _) (on7 R _) (on3 R _) (on4 R _)
    (on_dn R t.val t.isLt) (y 0) (y 1)).trans (congrArg (fun r : ℝ => (r : EReal)) ?_))
  rw [show tileOf ⟨t.val, t.isLt⟩ = tileOf t from rfl, whole_eq R t h3 _ (by omega)]
  rfl

/-- The gradient at the gate's product. -/
theorem fin9 (R : Reads V c H G Wg Wu Wd D) :
    (dat V c).arrAt 9 cfg1.N = fun i : S4x4160x704.Idx => ((da H G Wg Wu Wd D (i 1) (col (i 0) (i 2)) : ℝ) : EReal) := by
  refine (dat V c).arrAt_eq_of_covers 9 _ (by decide +kernel) fun t hf y => ?_
  blk_simp
  rw [after9, emb9 t y]
  exact (congrArg _ (ix3_of _ _ y)).trans (act_da (on_dy R t) (on7 R t) (on3 R t) (y 1) (y 2))

/-- The gradient at the up product. -/
theorem fin10 (R : Reads V c H G Wg Wu Wd D) :
    (dat V c).arrAt 10 cfg1.N = fun i : S4x4160x704.Idx => ((db H G Wg Wd D (i 1) (col (i 0) (i 2)) : ℝ) : EReal) := by
  refine (dat V c).arrAt_eq_of_covers 10 _ (by decide +kernel) fun t hf y => ?_
  blk_simp
  rw [after10, emb10 t y]
  exact (congrArg _ (ix3_of _ _ y)).trans (act_db (on_dy R t) (on7 R t) (on4 R t) (y 1) (y 2))

/-- The gradient of the norm's scale. -/
theorem fin11 (R : Reads V c H G Wg Wu Wd D) :
    (dat V c).arrAt 11 cfg1.N = fun i : S1x1024.Idx => ((dg H G Wg Wu Wd D (i 1) : ℝ) : EReal) := by
  refine (dat V c).arrAt_eq_of_covers 11 _ (by decide +kernel) fun t hf y => ?_
  blk_simp
  rw [after11, emb11 t y]
  have h3 : t.val % 20 = 19 := (flush1_11 t).mp hf
  have hN : t.val < 20 := t.isLt
  have hy : y = ix2 0 (y 1) := (eq_ix2 y).trans (congrArg (fun z => ix2 z (y 1)) (Subsingleton.elim (α := Fin 1) (y 0) 0))
  refine (congrArg _ hy).trans ((on_dg R t.val t.isLt (y 1)).trans (congrArg (fun r : ℝ => (r : EReal)) ?_))
  beta_reduce
  rw [show (t.val + 1) / 4 = 5 by omega, partT_five]
  unfold dg
  rw [sum_rows]
  rfl

/-- Half the gradient of the result. -/
theorem fin12 (R : Reads V c H G Wg Wu Wd D) :
    (dat V c).arrAt 12 cfg1.N = fun i : S4160x1024.Idx => ((dy D (i 0) (i 1) : ℝ) : EReal) := by
  refine (dat V c).arrAt_eq_of_covers 12 _ (by decide +kernel) fun t hf y => ?_
  blk_simp
  rw [after12, emb12 t y]
  exact (congrArg _ (eq_ix2 y)).trans (on_dy R t (y 0) (y 1))

end Real

end Cert.Chain.Act

end
-- ==== Proof.WgrPay.lean ====
module

public import proofs.«01_k».proof.Proof.FwdPay
public import proofs.«01_k».proof.Proof.WgrRun

@[expose] public section

set_option maxRecDepth 16384

noncomputable section

/-! What the weight gradients' stores hold at an entry, where every entry read is finite. -/

namespace Cert.Chain.Pay

open Cert.KernelIdeal Cert.KernelIdeal.Gen
open Idealize.ShloMosaic Idealize.ShloMosaic.TcCoe
open Cert.Chain.Spec

variable {acc : FVec Ideal S704x1024 .f32} {A : Fin 704 → Fin 1024 → ℝ}

section Long
variable {r : FVec Ideal S1024x1024 .bf16} {R : Fin 1024 → Fin 1024 → ℝ} {l : FVec Ideal S1x1024x704 .bf16} {L : Fin 1024 → Fin 704 → ℝ}

theorem wgr_g (hr : On2 r R) (hl : On3 l L) (ha : On2 acc A) : On2 (wgAcc (F := Ideal) r l acc) (fun q d => A q d + ∑ x, L x q * R x d) := by
  intro q d
  pointwise [wgAcc, k2_pay12]
  simp only [hr _ _, hl _ _, ha _ _, ← EReal.coe_mul, coe_sum, ← EReal.coe_add]

theorem wgr_u (hr : On2 r R) (hl : On3 l L) (ha : On2 acc A) : On2 (wuAcc (F := Ideal) r l acc) (fun q d => A q d + ∑ x, L x q * R x d) := by
  intro q d
  pointwise [wuAcc, k2_pay13]
  simp only [hr _ _, hl _ _, ha _ _, ← EReal.coe_mul, coe_sum, ← EReal.coe_add]

theorem wgr_d (hr : On2 r R) (hl : On3 l L) (ha : On2 acc A) : On2 (wdAcc (F := Ideal) r l acc) (fun q d => A q d + ∑ x, L x q * R x d) := by
  intro q d
  pointwise [wdAcc, k2_pay1, k2_pay14]
  simp only [hr _ _, hl _ _, ha _ _, ← EReal.coe_mul, coe_sum, ← EReal.coe_add]
end Long

section Tail
variable {r : FVec Ideal S64x1024 .bf16} {R : Fin 64 → Fin 1024 → ℝ} {l : FVec Ideal S1x64x704 .bf16} {L : Fin 64 → Fin 704 → ℝ}

theorem wgr_g_tail (hr : On2 r R) (hl : On3 l L) (ha : On2 acc A) : On2 (wgTail (F := Ideal) r l acc) (fun q d => A q d + ∑ x, L x q * R x d) := by
  intro q d
  pointwise [wgTail, k2_pay6]
  simp only [hr _ _, hl _ _, ha _ _, ← EReal.coe_mul, coe_sum, ← EReal.coe_add]

theorem wgr_u_tail (hr : On2 r R) (hl : On3 l L) (ha : On2 acc A) : On2 (wuTail (F := Ideal) r l acc) (fun q d => A q d + ∑ x, L x q * R x d) := by
  intro q d
  pointwise [wuTail, k2_pay7]
  simp only [hr _ _, hl _ _, ha _ _, ← EReal.coe_mul, coe_sum, ← EReal.coe_add]

theorem wgr_d_tail (hr : On2 r R) (hl : On3 l L) (ha : On2 acc A) : On2 (wdTail (F := Ideal) r l acc) (fun q d => A q d + ∑ x, L x q * R x d) := by
  intro q d
  pointwise [wdTail, k2_pay2, k2_pay8]
  simp only [hr _ _, hl _ _, ha _ _, ← EReal.coe_mul, coe_sum, ← EReal.coe_add]
end Tail

theorem wgr_zero_g : On2 (k2_pay9 (F := Ideal)) (fun _ _ => 0) := by
  intro a b
  pointwise [k2_pay9]
  rfl
theorem wgr_zero_u : On2 (k2_pay10 (F := Ideal)) (fun _ _ => 0) := by
  intro a b
  pointwise [k2_pay10]
  rfl
theorem wgr_zero_d : On2 (k2_pay11 (F := Ideal)) (fun _ _ => 0) := by
  intro a b
  pointwise [k2_pay11]
  rfl

theorem wgr_out_g (ha : On2 acc A) : On3 (k2_pay3 (F := Ideal) acc) A := by
  intro q d
  pointwise [k2_pay3]
  exact ha _ _
theorem wgr_out_u (ha : On2 acc A) : On3 (k2_pay4 (F := Ideal) acc) A := by
  intro q d
  pointwise [k2_pay4]
  exact ha _ _
theorem wgr_out_d (ha : On2 acc A) : On3 (k2_pay5 (F := Ideal) acc) A := by
  intro q d
  pointwise [k2_pay5]
  exact ha _ _

end Cert.Chain.Pay

end
-- ==== Proof.WgrVal.lean ====
module

public import proofs.«01_k».proof.Proof.WgrPay
public import proofs.«01_k».proof.Proof.WgrDat

@[expose] public section

set_option maxRecDepth 16384

noncomputable section

/-! The three arrays of the weight call at the end, where every entry it reads is finite. -/

namespace Cert.Chain.Wgr

open Cert.KernelIdeal Cert.KernelIdeal.Gen
open Idealize.ShloMosaic Idealize.ShloMosaic.TcCoe
open Cert.Chain.Spec Cert.Chain.Pay

variable (V : (c : Dev nD) → (b : Ref sig .tc) → Buf (Elt Ideal) ((c : Thread nD τ).loc b)) (c : Dev nD)

/-- The shard and the block of rows of a point. -/
def shardOf (t : Fin cfg2.N) : Fin 4 := ⟨t.val / 4, by have h : t.val < 16 := t.isLt; omega⟩
def longOf (t : Fin cfg2.N) : Fin 4 := ⟨t.val % 4, Nat.mod_lt _ (by norm_num)⟩

theorem idx0 : ∀ t : Fin cfg2.N, win2_0.index t = ![t.val % 4, 0] := (by decide +kernel : ∀ t : Fin grid2.N, _)
theorem idx1 : ∀ t : Fin cfg2.N, win2_1.index t = ![t.val % 4, 0] := (by decide +kernel : ∀ t : Fin grid2.N, _)
theorem idx2 : ∀ t : Fin cfg2.N, win2_2.index t = ![t.val / 4, t.val % 4, 0] := (by decide +kernel : ∀ t : Fin grid2.N, _)
theorem idx3 : ∀ t : Fin cfg2.N, win2_3.index t = ![t.val / 4, t.val % 4, 0] := (by decide +kernel : ∀ t : Fin grid2.N, _)
theorem idx4 : ∀ t : Fin cfg2.N, win2_4.index t = ![t.val / 4, t.val % 4, 0] := (by decide +kernel : ∀ t : Fin grid2.N, _)
theorem idx5 : ∀ t : Fin cfg2.N, win2_5.index t = ![64, 0] := (by decide +kernel : ∀ t : Fin grid2.N, _)
theorem idx6 : ∀ t : Fin cfg2.N, win2_6.index t = ![64, 0] := (by decide +kernel : ∀ t : Fin grid2.N, _)
theorem idx7 : ∀ t : Fin cfg2.N, win2_7.index t = ![t.val / 4, 64, 0] := (by decide +kernel : ∀ t : Fin grid2.N, _)
theorem idx8 : ∀ t : Fin cfg2.N, win2_8.index t = ![t.val / 4, 64, 0] := (by decide +kernel : ∀ t : Fin grid2.N, _)
theorem idx9 : ∀ t : Fin cfg2.N, win2_9.index t = ![t.val / 4, 64, 0] := (by decide +kernel : ∀ t : Fin grid2.N, _)
theorem idx10 : ∀ t : Fin cfg2.N, win2_10.index t = ![t.val / 4, 0, 0] := (by decide +kernel : ∀ t : Fin grid2.N, _)
theorem idx11 : ∀ t : Fin cfg2.N, win2_11.index t = ![t.val / 4, 0, 0] := (by decide +kernel : ∀ t : Fin grid2.N, _)
theorem idx12 : ∀ t : Fin cfg2.N, win2_12.index t = ![t.val / 4, 0, 0] := (by decide +kernel : ∀ t : Fin grid2.N, _)

/-! The blocks read. -/

theorem blk0 (t : Fin cfg2.N) (x : Fin 1024) (d : Fin 1024) : blkX0 V c t (ix2 x d) = V c main_v8_4 (ix2 (long (longOf t) x) d) := by
  unfold blkX0 Pipeline.Window.fill
  rw [dif_pos (moved0 t _)]
  blk_ext [iblk, idx0 t, long, longOf]
theorem blk1 (t : Fin cfg2.N) (x : Fin 1024) (d : Fin 1024) : blkX1 V c t (ix2 x d) = V c main_v9_4 (ix2 (long (longOf t) x) d) := by
  unfold blkX1 Pipeline.Window.fill
  rw [dif_pos (moved1 t _)]
  blk_ext [iblk, idx1 t, long, longOf]
theorem blk2 (t : Fin cfg2.N) (x : Fin 1024) (q : Fin 704) : blkX2 V c t (ix3 0 x q) = V c main_v9_1 (ix3 (shardOf t) (long (longOf t) x) q) := by
  unfold blkX2 Pipeline.Window.fill
  rw [dif_pos (moved2 t _)]
  blk_ext [iblk, idx2 t, long, longOf, shardOf]
theorem blk3 (t : Fin cfg2.N) (x : Fin 1024) (q : Fin 704) : blkX3 V c t (ix3 0 x q) = V c main_v9_2 (ix3 (shardOf t) (long (longOf t) x) q) := by
  unfold blkX3 Pipeline.Window.fill
  rw [dif_pos (moved3 t _)]
  blk_ext [iblk, idx3 t, long, longOf, shardOf]
theorem blk4 (t : Fin cfg2.N) (x : Fin 1024) (q : Fin 704) : blkX4 V c t (ix3 0 x q) = V c main_v8_3 (ix3 (shardOf t) (long (longOf t) x) q) := by
  unfold blkX4 Pipeline.Window.fill
  rw [dif_pos (moved4 t _)]
  blk_ext [iblk, idx4 t, long, longOf, shardOf]
theorem blk5 (t : Fin cfg2.N) (x : Fin 64) (d : Fin 1024) : iblk V c 5 t (ix2 x d) = V c main_v8_4 (ix2 (tail x) d) := by
  blk_ext [iblk, idx5 t, tail]
theorem blk6 (t : Fin cfg2.N) (x : Fin 64) (d : Fin 1024) : iblk V c 6 t (ix2 x d) = V c main_v9_4 (ix2 (tail x) d) := by
  blk_ext [iblk, idx6 t, tail]
theorem blk7 (t : Fin cfg2.N) (x : Fin 64) (q : Fin 704) : iblk V c 7 t (ix3 0 x q) = V c main_v9_1 (ix3 (shardOf t) (tail x) q) := by
  blk_ext [iblk, idx7 t, tail, shardOf]
theorem blk8 (t : Fin cfg2.N) (x : Fin 64) (q : Fin 704) : iblk V c 8 t (ix3 0 x q) = V c main_v9_2 (ix3 (shardOf t) (tail x) q) := by
  blk_ext [iblk, idx8 t, tail, shardOf]
theorem blk9 (t : Fin cfg2.N) (x : Fin 64) (q : Fin 704) : iblk V c 9 t (ix3 0 x q) = V c main_v8_3 (ix3 (shardOf t) (tail x) q) := by
  blk_ext [iblk, idx9 t, tail, shardOf]

section Real

variable {N Y : Fin 4160 → Fin 1024 → ℝ} {A B S : Fin 4160 → Fin 2816 → ℝ}

/-- The arrays that the call reads are real. -/
structure Reads (N Y : Fin 4160 → Fin 1024 → ℝ) (A B S : Fin 4160 → Fin 2816 → ℝ) : Prop where
  n : On2 (V c main_v8_4) N
  y : On2 (V c main_v9_4) Y
  a : ∀ s r q, V c main_v9_1 (ix3 s r q) = ((A r (col s q) : ℝ) : EReal)
  b : ∀ s r q, V c main_v9_2 (ix3 s r q) = ((B r (col s q) : ℝ) : EReal)
  s : ∀ s r q, V c main_v8_3 (ix3 s r q) = ((S r (col s q) : ℝ) : EReal)

variable {V c}

/-- One block's share of a product over the rows, and the last rows' share. -/
def share (L : Fin 4160 → Fin 2816 → ℝ) (R : Fin 4160 → Fin 1024 → ℝ) (j : Fin 2816) (d : Fin 1024) (b : Fin 4) : ℝ :=
  ∑ x : Fin 1024, L (long b x) j * R (long b x) d
def last (L : Fin 4160 → Fin 2816 → ℝ) (R : Fin 4160 → Fin 1024 → ℝ) (j : Fin 2816) (d : Fin 1024) : ℝ :=
  ∑ x : Fin 64, L (tail x) j * R (tail x) d
/-- What is summed after block `k`. -/
def upTo (L : Fin 4160 → Fin 2816 → ℝ) (R : Fin 4160 → Fin 1024 → ℝ) (j : Fin 2816) (d : Fin 1024) (k : ℕ) : ℝ :=
  part (share L R j d) k + if k = 3 then last L R j d else 0

theorem upTo_zero (L : Fin 4160 → Fin 2816 → ℝ) (R : Fin 4160 → Fin 1024 → ℝ) (j d) : upTo L R j d 0 = share L R j d 0 := by
  simp [upTo, part_zero]
theorem upTo_mid (L : Fin 4160 → Fin 2816 → ℝ) (R : Fin 4160 → Fin 1024 → ℝ) (j d) (k : ℕ) (b : Fin 4) (h : b.val = k + 1) (h3 : k + 1 ≠ 3) (h2 : k ≠ 3) :
    upTo L R j d (k + 1) = upTo L R j d k + share L R j d b := by
  simp [upTo, part_succ _ k b h, h2, show k ≠ 2 by omega]
theorem upTo_last (L : Fin 4160 → Fin 2816 → ℝ) (R : Fin 4160 → Fin 1024 → ℝ) (j d) (b : Fin 4) (h : b.val = 3) :
    upTo L R j d 3 = upTo L R j d 2 + share L R j d b + last L R j d := by
  simp [upTo, part_succ _ 2 b h]
theorem upTo_all (L : Fin 4160 → Fin 2816 → ℝ) (R : Fin 4160 → Fin 1024 → ℝ) (j d) : upTo L R j d 3 = ∑ r, L r j * R r d := by
  rw [sum_long]
  simp [upTo, part_three, share, last]

theorem on0 (R : Reads V c N Y A B S) (t : Fin cfg2.N) : On2 (blkX0 V c t) (fun x d => N (long (longOf t) x) d) := fun x d => (blk0 V c t x d).trans (R.n _ _)
theorem on1 (R : Reads V c N Y A B S) (t : Fin cfg2.N) : On2 (blkX1 V c t) (fun x d => Y (long (longOf t) x) d) := fun x d => (blk1 V c t x d).trans (R.y _ _)
theorem on2 (R : Reads V c N Y A B S) (t : Fin cfg2.N) : On3 (blkX2 V c t) (fun x q => A (long (longOf t) x) (col (shardOf t) q)) :=
  fun x q => (blk2 V c t x q).trans (R.a _ _ _)
theorem on3 (R : Reads V c N Y A B S) (t : Fin cfg2.N) : On3 (blkX3 V c t) (fun x q => B (long (longOf t) x) (col (shardOf t) q)) :=
  fun x q => (blk3 V c t x q).trans (R.b _ _ _)
theorem on4 (R : Reads V c N Y A B S) (t : Fin cfg2.N) : On3 (blkX4 V c t) (fun x q => S (long (longOf t) x) (col (shardOf t) q)) :=
  fun x q => (blk4 V c t x q).trans (R.s _ _ _)
theorem on5 (R : Reads V c N Y A B S) (t : Fin cfg2.N) : On2 (iblk V c 5 t) (fun x d => N (tail x) d) := fun x d => (blk5 V c t x d).trans (R.n _ _)
theorem on6 (R : Reads V c N Y A B S) (t : Fin cfg2.N) : On2 (iblk V c 6 t) (fun x d => Y (tail x) d) := fun x d => (blk6 V c t x d).trans (R.y _ _)
theorem on7 (R : Reads V c N Y A B S) (t : Fin cfg2.N) : On3 (iblk V c 7 t) (fun x q => A (tail x) (col (shardOf t) q)) :=
  fun x q => (blk7 V c t x q).trans (R.a _ _ _)
theorem on8 (R : Reads V c N Y A B S) (t : Fin cfg2.N) : On3 (iblk V c 8 t) (fun x q => B (tail x) (col (shardOf t) q)) :=
  fun x q => (blk8 V c t x q).trans (R.b _ _ _)
theorem on9 (R : Reads V c N Y A B S) (t : Fin cfg2.N) : On3 (iblk V c 9 t) (fun x q => S (tail x) (col (shardOf t) q)) :=
  fun x q => (blk9 V c t x q).trans (R.s _ _ _)

theorem on_g (R : Reads V c N Y A B S) : ∀ (n : ℕ) (h : n < cfg2.N),
    On2 (gAt V c n h) (fun q d => upTo A N (col (shardOf ⟨n, h⟩) q) d (n % 4)) := by
  intro n
  induction n with
  | zero =>
    intro h q d
    rw [show gAt V c 0 h = _ from gAt_first V c ⟨0, h⟩ rfl]
    refine (wgr_g (on0 R ⟨0, h⟩) (on2 R ⟨0, h⟩) wgr_zero_g q d).trans (congrArg (fun r : ℝ => (r : EReal)) ?_)
    beta_reduce
    rw [show (0 : ℕ) % 4 = 0 from rfl, upTo_zero]
    exact zero_add _
  | succ n ih =>
    intro h q d
    by_cases h0 : (n + 1) % 4 = 0
    · rw [show gAt V c (n + 1) h = _ from gAt_first V c ⟨n + 1, h⟩ h0]
      refine (wgr_g (on0 R ⟨n + 1, h⟩) (on2 R ⟨n + 1, h⟩) wgr_zero_g q d).trans (congrArg (fun r : ℝ => (r : EReal)) ?_)
      beta_reduce
      have hs : longOf ⟨n + 1, h⟩ = 0 := Fin.ext h0
      rw [h0, upTo_zero, hs]
      exact zero_add _
    · have ht : shardOf ⟨n, Nat.lt_of_succ_lt h⟩ = shardOf ⟨n + 1, h⟩ := Fin.ext (by simp only [shardOf]; omega)
      have ih' := ih (Nat.lt_of_succ_lt h)
      rw [ht] at ih'
      by_cases h1 : (n + 1) % 4 = 3
      · rw [show gAt V c (n + 1) h = _ from gAt_last V c ⟨n + 1, h⟩ h1]
        refine (wgr_g_tail (on5 R ⟨n + 1, h⟩) (on7 R ⟨n + 1, h⟩) (wgr_g (on0 R ⟨n + 1, h⟩) (on2 R ⟨n + 1, h⟩) ih') q d).trans
          (congrArg (fun r : ℝ => (r : EReal)) ?_)
        beta_reduce
        rw [h1, upTo_last _ _ _ _ (longOf ⟨n + 1, h⟩) h1, show n % 4 = 2 by omega]
        rfl
      · rw [show gAt V c (n + 1) h = _ from gAt_mid V c ⟨n + 1, h⟩ h0 h1]
        refine (wgr_g (on0 R ⟨n + 1, h⟩) (on2 R ⟨n + 1, h⟩) ih' q d).trans (congrArg (fun r : ℝ => (r : EReal)) ?_)
        beta_reduce
        have hm : (n + 1) % 4 = n % 4 + 1 := by omega
        rw [hm, upTo_mid _ _ _ _ (n % 4) (longOf ⟨n + 1, h⟩) hm (by omega) (by omega)]
        rfl

theorem emb10 (t : Fin cfg2.N) (y : S1x704x1024.Idx) : (win2_10.blk t).view.emb y = ix3 (shardOf t) (y 1) (y 2) := by
  blk_ext [idx10 t, shardOf]

/-- The gradient of the gate's weights, by shards. -/
theorem fin10 (R : Reads V c N Y A B S) :
    (dat V c).arrAt 10 cfg2.N = fun i : S4x704x1024.Idx => ((∑ r, A r (col (i 0) (i 1)) * N r (i 2) : ℝ) : EReal) := by
  refine (dat V c).arrAt_eq_of_covers 10 _ (by decide +kernel) fun t hf y => ?_
  blk_simp
  rw [after10, emb10 t y]
  have h3 : t.val % 4 = 3 := (flush2_10 t).mp hf
  refine (congrArg _ (ix3_of _ _ y)).trans ((wgr_out_g (on_g R t.val t.isLt) (y 1) (y 2)).trans (congrArg (fun r : ℝ => (r : EReal)) ?_))
  beta_reduce
  rw [h3]
  exact upTo_all A N (col (shardOf t) (y 1)) (y 2)

theorem on_u (R : Reads V c N Y A B S) : ∀ (n : ℕ) (h : n < cfg2.N),
    On2 (uAt V c n h) (fun q d => upTo B N (col (shardOf ⟨n, h⟩) q) d (n % 4)) := by
  intro n
  induction n with
  | zero =>
    intro h q d
    rw [show uAt V c 0 h = _ from uAt_first V c ⟨0, h⟩ rfl]
    refine (wgr_u (on0 R ⟨0, h⟩) (on3 R ⟨0, h⟩) wgr_zero_u q d).trans (congrArg (fun r : ℝ => (r : EReal)) ?_)
    beta_reduce
    rw [show (0 : ℕ) % 4 = 0 from rfl, upTo_zero]
    exact zero_add _
  | succ n ih =>
    intro h q d
    by_cases h0 : (n + 1) % 4 = 0
    · rw [show uAt V c (n + 1) h = _ from uAt_first V c ⟨n + 1, h⟩ h0]
      refine (wgr_u (on0 R ⟨n + 1, h⟩) (on3 R ⟨n + 1, h⟩) wgr_zero_u q d).trans (congrArg (fun r : ℝ => (r : EReal)) ?_)
      beta_reduce
      have hs : longOf ⟨n + 1, h⟩ = 0 := Fin.ext h0
      rw [h0, upTo_zero, hs]
      exact zero_add _
    · have ht : shardOf ⟨n, Nat.lt_of_succ_lt h⟩ = shardOf ⟨n + 1, h⟩ := Fin.ext (by simp only [shardOf]; omega)
      have ih' := ih (Nat.lt_of_succ_lt h)
      rw [ht] at ih'
      by_cases h1 : (n + 1) % 4 = 3
      · rw [show uAt V c (n + 1) h = _ from uAt_last V c ⟨n + 1, h⟩ h1]
        refine (wgr_u_tail (on5 R ⟨n + 1, h⟩) (on8 R ⟨n + 1, h⟩) (wgr_u (on0 R ⟨n + 1, h⟩) (on3 R ⟨n + 1, h⟩) ih') q d).trans
          (congrArg (fun r : ℝ => (r : EReal)) ?_)
        beta_reduce
        rw [h1, upTo_last _ _ _ _ (longOf ⟨n + 1, h⟩) h1, show n % 4 = 2 by omega]
        rfl
      · rw [show uAt V c (n + 1) h = _ from uAt_mid V c ⟨n + 1, h⟩ h0 h1]
        refine (wgr_u (on0 R ⟨n + 1, h⟩) (on3 R ⟨n + 1, h⟩) ih' q d).trans (congrArg (fun r : ℝ => (r : EReal)) ?_)
        beta_reduce
        have hm : (n + 1) % 4 = n % 4 + 1 := by omega
        rw [hm, upTo_mid _ _ _ _ (n % 4) (longOf ⟨n + 1, h⟩) hm (by omega) (by omega)]
        rfl

theorem emb11 (t : Fin cfg2.N) (y : S1x704x1024.Idx) : (win2_11.blk t).view.emb y = ix3 (shardOf t) (y 1) (y 2) := by
  blk_ext [idx11 t, shardOf]

/-- The gradient of the up weights, by shards. -/
theorem fin11 (R : Reads V c N Y A B S) :
    (dat V c).arrAt 11 cfg2.N = fun i : S4x704x1024.Idx => ((∑ r, B r (col (i 0) (i 1)) * N r (i 2) : ℝ) : EReal) := by
  refine (dat V c).arrAt_eq_of_covers 11 _ (by decide +kernel) fun t hf y => ?_
  blk_simp
  rw [after11, emb11 t y]
  have h3 : t.val % 4 = 3 := (flush2_11 t).mp hf
  refine (congrArg _ (ix3_of _ _ y)).trans ((wgr_out_u (on_u R t.val t.isLt) (y 1) (y 2)).trans (congrArg (fun r : ℝ => (r : EReal)) ?_))
  beta_reduce
  rw [h3]
  exact upTo_all B N (col (shardOf t) (y 1)) (y 2)

theorem on_d (R : Reads V c N Y A B S) : ∀ (n : ℕ) (h : n < cfg2.N),
    On2 (dAt V c n h) (fun q d => upTo S Y (col (shardOf ⟨n, h⟩) q) d (n % 4)) := by
  intro n
  induction n with
  | zero =>
    intro h q d
    rw [show dAt V c 0 h = _ from dAt_first V c ⟨0, h⟩ rfl]
    refine (wgr_d (on1 R ⟨0, h⟩) (on4 R ⟨0, h⟩) wgr_zero_d q d).trans (congrArg (fun r : ℝ => (r : EReal)) ?_)
    beta_reduce
    rw [show (0 : ℕ) % 4 = 0 from rfl, upTo_zero]
    exact zero_add _
  | succ n ih =>
    intro h q d
    by_cases h0 : (n + 1) % 4 = 0
    · rw [show dAt V c (n + 1) h = _ from dAt_first V c ⟨n + 1, h⟩ h0]
      refine (wgr_d (on1 R ⟨n + 1, h⟩) (on4 R ⟨n + 1, h⟩) wgr_zero_d q d).trans (congrArg (fun r : ℝ => (r : EReal)) ?_)
      beta_reduce
      have hs : longOf ⟨n + 1, h⟩ = 0 := Fin.ext h0
      rw [h0, upTo_zero, hs]
      exact zero_add _
    · have ht : shardOf ⟨n, Nat.lt_of_succ_lt h⟩ = shardOf ⟨n + 1, h⟩ := Fin.ext (by simp only [shardOf]; omega)
      have ih' := ih (Nat.lt_of_succ_lt h)
      rw [ht] at ih'
      by_cases h1 : (n + 1) % 4 = 3
      · rw [show dAt V c (n + 1) h = _ from dAt_last V c ⟨n + 1, h⟩ h1]
        refine (wgr_d_tail (on6 R ⟨n + 1, h⟩) (on9 R ⟨n + 1, h⟩) (wgr_d (on1 R ⟨n + 1, h⟩) (on4 R ⟨n + 1, h⟩) ih') q d).trans
          (congrArg (fun r : ℝ => (r : EReal)) ?_)
        beta_reduce
        rw [h1, upTo_last _ _ _ _ (longOf ⟨n + 1, h⟩) h1, show n % 4 = 2 by omega]
        rfl
      · rw [show dAt V c (n + 1) h = _ from dAt_mid V c ⟨n + 1, h⟩ h0 h1]
        refine (wgr_d (on1 R ⟨n + 1, h⟩) (on4 R ⟨n + 1, h⟩) ih' q d).trans (congrArg (fun r : ℝ => (r : EReal)) ?_)
        beta_reduce
        have hm : (n + 1) % 4 = n % 4 + 1 := by omega
        rw [hm, upTo_mid _ _ _ _ (n % 4) (longOf ⟨n + 1, h⟩) hm (by omega) (by omega)]
        rfl

theorem emb12 (t : Fin cfg2.N) (y : S1x704x1024.Idx) : (win2_12.blk t).view.emb y = ix3 (shardOf t) (y 1) (y 2) := by
  blk_ext [idx12 t, shardOf]

/-- The gradient of the down weights, by shards. -/
theorem fin12 (R : Reads V c N Y A B S) :
    (dat V c).arrAt 12 cfg2.N = fun i : S4x704x1024.Idx => ((∑ r, S r (col (i 0) (i 1)) * Y r (i 2) : ℝ) : EReal) := by
  refine (dat V c).arrAt_eq_of_covers 12 _ (by decide +kernel) fun t hf y => ?_
  blk_simp
  rw [after12, emb12 t y]
  have h3 : t.val % 4 = 3 := (flush2_12 t).mp hf
  refine (congrArg _ (ix3_of _ _ y)).trans ((wgr_out_d (on_d R t.val t.isLt) (y 1) (y 2)).trans (congrArg (fun r : ℝ => (r : EReal)) ?_))
  beta_reduce
  rw [h3]
  exact upTo_all S Y (col (shardOf t) (y 1)) (y 2)

end Real

end Cert.Chain.Wgr

end
-- ==== Proof.ChainVal.lean ====
module

public import proofs.«01_k».proof.Proof.Entries
public import proofs.«01_k».proof.Proof.FwdVal
public import proofs.«01_k».proof.Proof.ActVal
public import proofs.«01_k».proof.Proof.WgrVal
public import Idealize.ShloMosaic.Lib.Claim

@[expose] public section

set_option maxRecDepth 16384

noncomputable section

/-! The chain's six results where every entry of the arguments is finite. -/

namespace Cert.Chain

open Cert.KernelIdeal Cert.KernelIdeal.Gen
open Idealize.ShloMosaic Idealize.ShloMosaic.TcCoe Idealize.ShloMosaic.Tactic
open Cert.Chain.Spec Cert.Chain.Pay

variable (m : (ℓ : Loc nD τ sig) → Buf (Elt Ideal) ℓ) (c : Dev nD)

theorem host_wg (s : Fin 4) (q : Fin 704) (k : Fin 1024) : B1 m c main_v2 (ix3 s q k) = m ((c : Thread nD τ).loc main_arg2) (ix2 k (col s q)) := by
  simp only [B1, V1]
  entry_read
  pointwise [col]
  exact congrArg (fun j : Fin 2816 => m ((c : Thread nD τ).loc main_arg2) (ix2 k j)) (Fin.ext (by show s.val * 704 + q.val = 704 * s.val + q.val; omega))
theorem host_wu (s : Fin 4) (q : Fin 704) (k : Fin 1024) : B1 m c main_v5 (ix3 s q k) = m ((c : Thread nD τ).loc main_arg3) (ix2 k (col s q)) := by
  simp only [B1, V1]
  entry_read
  pointwise [col]
  exact congrArg (fun j : Fin 2816 => m ((c : Thread nD τ).loc main_arg3) (ix2 k j)) (Fin.ext (by show s.val * 704 + q.val = 704 * s.val + q.val; omega))
theorem host_wd (s : Fin 4) (q : Fin 704) (k : Fin 1024) : B1 m c main_v7 (ix3 s q k) = m ((c : Thread nD τ).loc main_arg4) (ix2 (col s q) k) := by
  simp only [B1, V1]
  entry_read
  pointwise [col]
  exact congrArg (fun j : Fin 2816 => m ((c : Thread nD τ).loc main_arg4) (ix2 j k)) (Fin.ext (by show s.val * 704 + q.val = 704 * s.val + q.val; omega))
theorem host_arg (b : Ref sig .tc) (h : b ∉ hostOps0_W) : B1 m c b = m ((c : Thread nD τ).loc b) := V1_of m c b h

section Real

variable {m c} {H : Fin 4160 → Fin 1024 → ℝ} {G : Fin 1024 → ℝ} {Wg Wu : Fin 1024 → Fin 2816 → ℝ} {Wd : Fin 2816 → Fin 1024 → ℝ}
  {D : Fin 4160 → Fin 1024 → ℝ}

/-- The arguments are real. -/
structure Args (m : (ℓ : Loc nD τ sig) → Buf (Elt Ideal) ℓ) (c : Dev nD) (H : Fin 4160 → Fin 1024 → ℝ) (G : Fin 1024 → ℝ)
    (Wg Wu : Fin 1024 → Fin 2816 → ℝ) (Wd : Fin 2816 → Fin 1024 → ℝ) (D : Fin 4160 → Fin 1024 → ℝ) : Prop where
  h : On2 (m ((c : Thread nD τ).loc main_arg0)) H
  g : On1 (m ((c : Thread nD τ).loc main_arg1)) G
  wg : On2 (m ((c : Thread nD τ).loc main_arg2)) Wg
  wu : On2 (m ((c : Thread nD τ).loc main_arg3)) Wu
  wd : On2 (m ((c : Thread nD τ).loc main_arg4)) Wd
  d : On2 (m ((c : Thread nD τ).loc main_arg5)) D

theorem fwd_reads (A : Args m c H G Wg Wu Wd D) : Fwd.Reads (B1 m) c H G Wg Wu Wd where
  h i j := (congrFun (host_arg m c main_arg0 (by decide)) _).trans (A.h i j)
  g j := (congrFun (host_arg m c main_arg1 (by decide)) _).trans (A.g j)
  wg s q k := (host_wg m c s q k).trans (A.wg _ _)
  wu s q k := (host_wu m c s q k).trans (A.wu _ _)
  wd s q k := (host_wd m c s q k).trans (A.wd _ _)

theorem at_ho (A : Args m c H G Wg Wu Wd D) :
    B2 m c main_v8_0 = fun i : S4160x1024.Idx => ((ho H G Wg Wu Wd (i 0) (i 1) : ℝ) : EReal) :=
  (B2_0 m c).trans ((O2_0 m c).trans (Fwd.fin5 (fwd_reads A)))
theorem at_ga (A : Args m c H G Wg Wu Wd D) :
    B2 m c main_v8_1 = fun i : S4x4160x704.Idx => ((ga H G Wg Wu (i 1) (col (i 0) (i 2)) : ℝ) : EReal) :=
  (B2_1 m c).trans ((O2_1 m c).trans (Fwd.fin6 (fwd_reads A)))
theorem at_gb (A : Args m c H G Wg Wu Wd D) :
    B2 m c main_v8_2 = fun i : S4x4160x704.Idx => ((gb H G Wg (i 1) (col (i 0) (i 2)) : ℝ) : EReal) :=
  (B2_2 m c).trans ((O2_2 m c).trans (Fwd.fin7 (fwd_reads A)))
theorem at_sa (A : Args m c H G Wg Wu Wd D) :
    B2 m c main_v8_3 = fun i : S4x4160x704.Idx => ((sa H G Wg Wu (i 1) (col (i 0) (i 2)) : ℝ) : EReal) :=
  (B2_3 m c).trans ((O2_3 m c).trans (Fwd.fin8 (fwd_reads A)))
theorem at_n (A : Args m c H G Wg Wu Wd D) :
    B2 m c main_v8_4 = fun i : S4160x1024.Idx => ((nrm H G (i 0) (i 1) : ℝ) : EReal) :=
  (B2_4 m c).trans ((O2_4 m c).trans (Fwd.fin9 (fwd_reads A)))

theorem act_reads (A : Args m c H G Wg Wu Wd D) : Act.Reads (B2 m) c H G Wg Wu Wd D where
  dho i j := (congrFun ((B2_of m c main_arg5 (by decide)).trans (host_arg m c main_arg5 (by decide))) _).trans (A.d i j)
  h i j := (congrFun (B2_of m c main_arg0 (by decide)) _).trans ((fwd_reads A).h i j)
  g j := (congrFun (B2_of m c main_arg1 (by decide)) _).trans ((fwd_reads A).g j)
  ga s r q := congrFun (at_ga A) _
  gb s r q := congrFun (at_gb A) _
  wg s q k := (congrFun (B2_of m c main_v2 (by decide)) _).trans ((fwd_reads A).wg s q k)
  wu s q k := (congrFun (B2_of m c main_v5 (by decide)) _).trans ((fwd_reads A).wu s q k)
  wd s q k := (congrFun (B2_of m c main_v7 (by decide)) _).trans ((fwd_reads A).wd s q k)

theorem at_dh (A : Args m c H G Wg Wu Wd D) :
    B3 m c main_v9_0 = fun i : S4160x1024.Idx => ((dh H G Wg Wu Wd D (i 0) (i 1) : ℝ) : EReal) :=
  (B3_0 m c).trans ((O3_0 m c).trans (Act.fin8 (act_reads A)))
theorem at_da (A : Args m c H G Wg Wu Wd D) :
    B3 m c main_v9_1 = fun i : S4x4160x704.Idx => ((da H G Wg Wu Wd D (i 1) (col (i 0) (i 2)) : ℝ) : EReal) :=
  (B3_1 m c).trans ((O3_1 m c).trans (Act.fin9 (act_reads A)))
theorem at_db (A : Args m c H G Wg Wu Wd D) :
    B3 m c main_v9_2 = fun i : S4x4160x704.Idx => ((db H G Wg Wd D (i 1) (col (i 0) (i 2)) : ℝ) : EReal) :=
  (B3_2 m c).trans ((O3_2 m c).trans (Act.fin10 (act_reads A)))
theorem at_dg (A : Args m c H G Wg Wu Wd D) :
    B3 m c main_v9_3 = fun i : S1x1024.Idx => ((dg H G Wg Wu Wd D (i 1) : ℝ) : EReal) :=
  (B3_3 m c).trans ((O3_3 m c).trans (Act.fin11 (act_reads A)))
theorem at_dy (A : Args m c H G Wg Wu Wd D) :
    B3 m c main_v9_4 = fun i : S4160x1024.Idx => ((dy D (i 0) (i 1) : ℝ) : EReal) :=
  (B3_4 m c).trans ((O3_4 m c).trans (Act.fin12 (act_reads A)))

theorem wgr_reads (A : Args m c H G Wg Wu Wd D) :
    Wgr.Reads (B3 m) c (nrm H G) (dy D) (da H G Wg Wu Wd D) (db H G Wg Wd D) (sa H G Wg Wu) where
  n i j := congrFun ((B3_of m c main_v8_4 (by decide)).trans (at_n A)) _
  y i j := congrFun (at_dy A) _
  a s r q := congrFun (at_da A) _
  b s r q := congrFun (at_db A) _
  s s r q := congrFun ((B3_of m c main_v8_3 (by decide)).trans (at_sa A)) _

/-- The six results of the chain. -/
theorem end_ho (A : Args m c H G Wg Wu Wd D) : B4 m c main_v8_0 = fun i : S4160x1024.Idx => ((ho H G Wg Wu Wd (i 0) (i 1) : ℝ) : EReal) :=
  (B4_of m c main_v8_0 (by decide)).trans ((B3_of m c main_v8_0 (by decide)).trans (at_ho A))
theorem end_dh (A : Args m c H G Wg Wu Wd D) : B4 m c main_v9_0 = fun i : S4160x1024.Idx => ((dh H G Wg Wu Wd D (i 0) (i 1) : ℝ) : EReal) :=
  (B4_of m c main_v9_0 (by decide)).trans (at_dh A)
theorem end_dg (A : Args m c H G Wg Wu Wd D) : B4 m c main_v9_3 = fun i : S1x1024.Idx => ((dg H G Wg Wu Wd D (i 1) : ℝ) : EReal) :=
  (B4_of m c main_v9_3 (by decide)).trans (at_dg A)
theorem end_dwg (A : Args m c H G Wg Wu Wd D) :
    B4 m c main_v10_0 = fun i : S4x704x1024.Idx => ((dwg H G Wg Wu Wd D (col (i 0) (i 1)) (i 2) : ℝ) : EReal) :=
  (B4_0 m c).trans ((O4_0 m c).trans (Wgr.fin10 (wgr_reads A)))
theorem end_dwu (A : Args m c H G Wg Wu Wd D) :
    B4 m c main_v10_1 = fun i : S4x704x1024.Idx => ((dwu H G Wg Wd D (col (i 0) (i 1)) (i 2) : ℝ) : EReal) :=
  (B4_1 m c).trans ((O4_1 m c).trans (Wgr.fin11 (wgr_reads A)))
theorem end_dwd (A : Args m c H G Wg Wu Wd D) :
    B4 m c main_v10_2 = fun i : S4x704x1024.Idx => ((dwd H G Wg Wu D (col (i 0) (i 1)) (i 2) : ℝ) : EReal) :=
  (B4_2 m c).trans ((O4_2 m c).trans (Wgr.fin12 (wgr_reads A)))

end Real

end Cert.Chain

end
-- ==== Proof.RefStages.lean ====
module

public import proofs.«01_k».proof.Proof.Gen.ReferenceIdeal.Run
public import proofs.«01_k».proof.Proof.FwdPay

@[expose] public section

set_option maxRecDepth 16384

noncomputable section

/-! The reference's operations in small groups, and what each holds at an entry where every entry read is finite. -/

namespace Cert.Chain.Ref

open Cert.ReferenceIdeal Cert.ReferenceIdeal.Gen
open Idealize.ShloMosaic Idealize.ShloMosaic.TcCoe
open Cert.Chain.Spec Cert.Chain.Pay

abbrev Rows := FVec Ideal S4160x1024 .f32
abbrev Wide := FVec Ideal S4160x2816 .f32
abbrev Line := FVec Ideal S4160x1 .f32

/-- The mean square of a row, one over its root, and the factor of the row's own gradient. -/
def msq (h : Rows) : Line :=
  addf (Host.divf (broadcastInDim S4160x1 ![0] bcast_S4160_S4160x1_0 (Host.reduceAdd (mulf h h) (constant S_ .f32 0x00000000#32) reducesTo_S4160x1024_S4160_d1 h_S_))
    (broadcastInDim S4160x1 ![] bcast_S_S4160x1 (constant S_ .f32 0x44800000#32))) (broadcastInDim S4160x1 ![] bcast_S_S4160x1 (constant S_ .f32 0x358637BD#32))
def rs (h : Rows) : Line := Host.rsqrt (msq h)
def rm (h : Rows) : Line :=
  mulf (broadcastInDim S4160x1 ![] bcast_S_S4160x1 (constant S_ .f32 0xBF000000#32)) (Host.divf (rs h) (msq h))
/-- The normed rows, without and with the scale. -/
def xh (h : Rows) : Rows := mulf h (broadcastInDim S4160x1024 ![0, 1] bcast_S4160x1_S4160x1024_0_1 (rs h))
def wide (g : FVec Ideal S1x1024 .f32) : Rows :=
  broadcastInDim S4160x1024 ![0, 1] bcast_S1x1024_S4160x1024_0_1 (broadcastInDim S1x1024 ![1] bcast_S1024_S1x1024_1 (shapeCast _ g shapeCasts_S1x1024_S1024))
def nn (h : Rows) (g : FVec Ideal S1x1024 .f32) : Rows := mulf (xh h) (wide g)
/-- The matrix products. -/
def up (n : Rows) (w : FVec Ideal S1024x2816 .f32) : Wide := Host.dotGeneral dot_S4160x1024_S1024x2816_S4160x2816_1_0_0_1_n_n none n w
def down (s : Wide) (w : FVec Ideal S2816x1024 .f32) : Rows := Host.dotGeneral dot_S4160x2816_S2816x1024_S4160x1024_1_0_0_1_n_n none s w
def back (y : Rows) (w : FVec Ideal S2816x1024 .f32) : Wide := Host.dotGeneral dot_S4160x1024_S2816x1024_S4160x2816_1_1_0_0_n_n none y w
def back' (s : Wide) (w : FVec Ideal S1024x2816 .f32) : Rows := Host.dotGeneral dot_S4160x2816_S1024x2816_S4160x1024_1_1_0_0_n_n none s w
def outer (y : Rows) (s : Wide) : FVec Ideal S2816x1024 .f32 :=
  transpose S2816x1024 [1, 0] (Host.dotGeneral dot_S4160x1024_S4160x2816_S1024x2816_0_0_1_1_n_n none y s) transposes_S1024x2816_S2816x1024_1_0
def outer' (s : Wide) (n : Rows) : FVec Ideal S1024x2816 .f32 :=
  transpose S1024x2816 [1, 0] (Host.dotGeneral dot_S4160x2816_S4160x1024_S2816x1024_0_0_1_1_n_n none s n) transposes_S2816x1024_S1024x2816_1_0
/-- The logistic function, the gate, and the gate's gradient. -/
def lg (x : Wide) : Wide :=
  Host.divf (broadcastInDim S4160x2816 ![] bcast_S_S4160x2816 (constant S_ .f32 0x3F800000#32))
    (addf (broadcastInDim S4160x2816 ![] bcast_S_S4160x2816 (constant S_ .f32 0x3F800000#32)) (Host.exp (Host.negf x)))
def sl (x : Wide) : Wide := mulf x (lg x)
def gateBack (x z : Wide) : Wide :=
  addf (mulf z (lg x)) (mulf (mulf x z) (mulf (lg x) (subf (broadcastInDim S4160x2816 ![] bcast_S_S4160x2816 (constant S_ .f32 0x3F800000#32)) (lg x))))
/-- The block's result, and half of the gradient that comes in. -/
def res (h y : Rows) : Rows := addf h (mulf (broadcastInDim S4160x1024 ![] bcast_S_S4160x1024 (constant S_ .f32 0x3F000000#32)) y)
def half (d : Rows) : Rows :=
  mulf (broadcastInDim S4160x1024 ![] bcast_S_S4160x1024 (constant S_ .f32 0x3F000000#32)) (shapeCast _ d shapeCasts_S4160x1024_S4160x1024)
/-- The gradient of the scale. -/
def scaleBack (h n : Rows) : FVec Ideal S1x1024 .f32 :=
  broadcastInDim S1x1024 ![1] bcast_S1024_S1x1024_1
    (Host.reduceAdd (shapeCast S1x1024 (Host.reduceAdd (mulf (xh h) n) (constant S_ .f32 0x00000000#32) reducesTo_S4160x1024_S1024_d0 h_S_) shapeCasts_S1024_S1x1024)
      (constant S_ .f32 0x00000000#32) reducesTo_S1x1024_S1024_d0 h_S_)
/-- What the mean square's gradient gives each row, and the gradient of the rows. -/
def corr (h t : Rows) : Rows :=
  broadcastInDim S4160x1024 ![0] bcast_S4160_S4160x1024_0
    (Host.reduceAdd
      (Host.divf (mulf (shapeCast S4160x1 (Host.reduceAdd (mulf h t) (constant S_ .f32 0x00000000#32) reducesTo_S4160x1024_S4160_d1 h_S_) shapeCasts_S4160_S4160x1) (rm h))
        (broadcastInDim S4160x1 ![] bcast_S_S4160x1 (constant S_ .f32 0x44800000#32)))
      (constant S_ .f32 0x00000000#32) reducesTo_S4160x1_S4160_d1 h_S_)
def rowsBack (d h t : Rows) : Rows :=
  addf (addf (addf d (mulf t (broadcastInDim S4160x1024 ![0, 1] bcast_S4160x1_S4160x1024_0_1 (rs h)))) (mulf h (corr h t))) (mulf (corr h t) h)
/-- A weight's gradient as the step keeps it. -/
def shards (x : FVec Ideal S2816x1024 .f32) : FVec Ideal S4x704x1024 .bf16 := truncf .bf16 (shapeCast S4x704x1024 x shapeCasts_S2816x1024_S4x704x1024) bitsLt_bf16_f32
def shards' (x : FVec Ideal S1024x2816 .f32) : FVec Ideal S4x704x1024 .bf16 :=
  shards (transpose S2816x1024 [1, 0] x transposes_S1024x2816_S2816x1024_1_0)

section Real

variable {h d t y n : Rows} {H D T Y N : Fin 4160 → Fin 1024 → ℝ} {g : FVec Ideal S1x1024 .f32} {G : Fin 1024 → ℝ} {w : FVec Ideal S1024x2816 .f32}
  {W : Fin 1024 → Fin 2816 → ℝ} {v : FVec Ideal S2816x1024 .f32} {V : Fin 2816 → Fin 1024 → ℝ} {x z s : Wide} {X Z S : Fin 4160 → Fin 2816 → ℝ}

theorem on_msq (hh : On2 h H) (r : Fin 4160) : msq h (ix2 r 0) = (ms (H r) : EReal) := by
  pointwise [msq]
  simp only [hh _ _, ← EReal.coe_mul, coe_sum, word_width, word_eps, div_width, ← EReal.coe_add, ms]

theorem on_rs (hh : On2 h H) (r : Fin 4160) : rs h (ix2 r 0) = (rstd (H r) : EReal) := by
  pointwise [rs]
  rw [on_msq hh, rsqrt_ms]

theorem on_rm (hh : On2 h H) (r : Fin 4160) : rm h (ix2 r 0) = ((-(1 / 2) * (rstd (H r) / ms (H r)) : ℝ) : EReal) := by
  pointwise [rm]
  rw [on_msq hh, on_rs hh, div_real (ms_pos _).ne', word_neg_half, ← EReal.coe_mul]

theorem on_xh (hh : On2 h H) : On2 (xh h) (fun r d => H r d * rstd (H r)) := by
  intro r d
  pointwise [xh]
  simp only [hh _ _, on_rs hh, ← EReal.coe_mul]

theorem on_wide (hg : On1 g G) : On2 (wide g) (fun _ d => G d) := by
  intro r d
  pointwise [wide]
  exact hg d

theorem on_nn (hh : On2 h H) (hg : On1 g G) : On2 (nn h g) (fun r d => H r d * rstd (H r) * G d) := by
  intro r d
  pointwise [nn]
  simp only [on_xh hh _ _, on_wide hg _ _, ← EReal.coe_mul]

theorem on_up (hn : On2 n N) (hw : On2 w W) : On2 (up n w) (fun r j => ∑ k, N r k * W k j) := by
  intro r j
  pointwise [up]
  simp only [hn _ _, hw _ _, ← EReal.coe_mul, coe_sum]

theorem on_down (hs : On2 s S) (hv : On2 v V) : On2 (down s v) (fun r d => ∑ j, S r j * V j d) := by
  intro r d
  pointwise [down]
  simp only [hs _ _, hv _ _, ← EReal.coe_mul, coe_sum]

theorem on_back (hy : On2 y Y) (hv : On2 v V) : On2 (back y v) (fun r j => ∑ k, Y r k * V j k) := by
  intro r j
  pointwise [back]
  simp only [hy _ _, hv _ _, ← EReal.coe_mul, coe_sum]

theorem on_back' (hs : On2 s S) (hw : On2 w W) : On2 (back' s w) (fun r d => ∑ j, S r j * W d j) := by
  intro r d
  pointwise [back']
  simp only [hs _ _, hw _ _, ← EReal.coe_mul, coe_sum]

theorem on_outer (hy : On2 y Y) (hs : On2 s S) : On2 (outer y s) (fun j d => ∑ r, Y r d * S r j) := by
  intro j d
  pointwise [outer]
  simp only [hy _ _, hs _ _, ← EReal.coe_mul, coe_sum]

theorem on_outer' (hs : On2 s S) (hn : On2 n N) : On2 (outer' s n) (fun d j => ∑ r, S r j * N r d) := by
  intro d j
  pointwise [outer']
  simp only [hn _ _, hs _ _, ← EReal.coe_mul, coe_sum]

theorem on_lg (hx : On2 x X) : On2 (lg x) (fun r j => sig (X r j)) := by
  intro r j
  pointwise [lg]
  simp only [hx _ _, sig_coe, sig_coe']

theorem on_sl (hx : On2 x X) : On2 (sl x) (fun r j => sil (X r j)) := by
  intro r j
  pointwise [sl]
  simp only [hx _ _, on_lg hx _ _, ← EReal.coe_mul, sil]

theorem on_mul (hx : On2 x X) (hz : On2 z Z) : On2 (mulf x z) (fun r j => X r j * Z r j) := by
  intro r j
  pointwise []
  simp only [hx _ _, hz _ _, ← EReal.coe_mul]

theorem on_gateBack (hx : On2 x X) (hz : On2 z Z) : On2 (gateBack x z) (fun r j => Z r j * dsil (X r j)) := by
  intro r j
  pointwise [gateBack]
  simp only [hx _ _, hz _ _, on_lg hx _ _, one_sub_coe, ← EReal.coe_mul, ← EReal.coe_add]
  refine congrArg (fun r : ℝ => (r : EReal)) ?_
  unfold dsil
  ring

theorem on_res (hh : On2 h H) (hy : On2 y Y) : On2 (res h y) (fun r d => H r d + 1 / 2 * Y r d) := by
  intro r d
  pointwise [res]
  simp only [hh _ _, hy _ _, word_half, ← EReal.coe_mul, ← EReal.coe_add]

theorem on_half (hd : On2 d D) : On2 (half d) (fun r k => 1 / 2 * D r k) := by
  intro r k
  pointwise [half]
  simp only [hd _ _, word_half, ← EReal.coe_mul]

theorem on_add (hy : On2 y Y) (hn : On2 n N) : On2 (addf y n) (fun r d => Y r d + N r d) := by
  intro r d
  pointwise []
  simp only [hy _ _, hn _ _, ← EReal.coe_add]

theorem on_mul' (hy : On2 y Y) (hn : On2 n N) : On2 (mulf y n) (fun r d => Y r d * N r d) := by
  intro r d
  pointwise []
  simp only [hy _ _, hn _ _, ← EReal.coe_mul]

theorem on_scaleBack (hh : On2 h H) (hn : On2 n N) : On1 (scaleBack h n) (fun d => ∑ r, N r d * (H r d * rstd (H r))) := by
  intro d
  pointwise [scaleBack]
  simp only [on_xh hh _ _, hn _ _, ← EReal.coe_mul, coe_sum]
  refine congrArg (fun r : ℝ => (r : EReal)) ?_
  simp [mul_comm]

theorem on_corr (hh : On2 h H) (ht : On2 t T) :
    On2 (corr h t) (fun r _ => (∑ k, H r k * T r k) * (-(1 / 2) * (rstd (H r) / ms (H r))) / 1024) := by
  intro r d
  pointwise [corr]
  simp only [hh _ _, ht _ _, ← EReal.coe_mul, coe_sum, word_width]
  refine (Fin.sum_univ_one (M := EReal) _).trans ?_
  rw [show rm h (ix2 r (0 : Fin 1)) = _ from on_rm hh r, ← EReal.coe_mul, div_width]

theorem rstd_sq (x : Fin 1024 → ℝ) : rstd x / ms x = rstd x * rstd x * rstd x := by
  have h : rstd x * rstd x = (ms x)⁻¹ := by
    unfold rstd
    rw [← mul_inv, Real.mul_self_sqrt (ms_pos x).le]
  rw [div_eq_mul_inv, ← h]
  ring

theorem on_rowsBack (hd : On2 d D) (hh : On2 h H) (ht : On2 t T) :
    On2 (rowsBack d h t) (fun r k => D r k + rstd (H r) * (T r k - H r k * rstd (H r) * ((∑ k, T r k * (H r k * rstd (H r))) / 1024))) := by
  intro r k
  pointwise [rowsBack]
  simp only [hd _ _, hh _ _, ht _ _, on_rs hh, on_corr hh ht _ _, ← EReal.coe_mul, ← EReal.coe_add]
  refine congrArg (fun r : ℝ => (r : EReal)) ?_
  have e : ∑ k, T r k * (H r k * rstd (H r)) = (∑ k, H r k * T r k) * rstd (H r) := by
    rw [Finset.sum_mul]
    exact Finset.sum_congr rfl fun k _ => by ring
  rw [e, rstd_sq]
  ring

theorem on_shards (hv : On2 v V) (i : S4x704x1024.Idx) : shards v i = ((V (col (i 0) (i 1)) (i 2) : ℝ) : EReal) := by
  rw [eq_ix3 i]
  pointwise [shards, col]
  refine (hv _ _).trans ?_
  exact congrArg (fun j : Fin 2816 => ((V j (i 2) : ℝ) : EReal)) (Fin.ext (by show (i 0).val * 704 + (i 1).val = 704 * (i 0).val + (i 1).val; omega))

theorem on_shards' (hw : On2 w W) (i : S4x704x1024.Idx) : shards' w i = ((W (i 2) (col (i 0) (i 1)) : ℝ) : EReal) := by
  unfold shards'
  refine (on_shards (V := fun j d => W d j) (fun j d => ?_) i)
  pointwise []
  exact hw d j

end Real

end Cert.Chain.Ref

end
-- ==== Proof.Algebraic.lean ====
module

public import proofs.«01_k».proof.Defs
public import proofs.«01_k».proof.Proof.Frames
public import proofs.«01_k».proof.Proof.Finite
public import proofs.«01_k».proof.Proof.ChainVal
public import proofs.«01_k».proof.Proof.RefStages

@[expose] public section

set_option maxRecDepth 16384

noncomputable section

/-! The chain and the reference end with the same six results. -/

namespace Cert.Chain

open Idealize.ShloMosaic Idealize.ShloMosaic.TcCoe Idealize.SL.Sem
open Cert.Chain.Spec Cert.Chain.Pay

attribute [local instance] Cert.Kernel.Gen.facts Cert.KernelIdeal.Gen.facts Cert.ReferenceIdeal.Gen.facts Cert.Pre_finite.Gen.facts

namespace Ref

section Six

variable {a0 : FVec Ideal ReferenceIdeal.S4160x1024 .f32} {a1 : FVec Ideal ReferenceIdeal.S1x1024 .f32} {a2 a3 : FVec Ideal ReferenceIdeal.S1024x2816 .f32}
  {a4 : FVec Ideal ReferenceIdeal.S2816x1024 .f32} {a5 : FVec Ideal ReferenceIdeal.S4160x1024 .f32}
  {H : Fin 4160 → Fin 1024 → ℝ} {G : Fin 1024 → ℝ} {Wg Wu : Fin 1024 → Fin 2816 → ℝ} {Wd : Fin 2816 → Fin 1024 → ℝ} {D : Fin 4160 → Fin 1024 → ℝ}

/-- The inner arrays of the reference. -/
def pa (a0 : Rows) (a1 : FVec Ideal ReferenceIdeal.S1x1024 .f32) (a2 : FVec Ideal ReferenceIdeal.S1024x2816 .f32) : Wide := up (nn a0 a1) a2
def gated (a0 : Rows) (a1 : FVec Ideal ReferenceIdeal.S1x1024 .f32) (a2 a3 : FVec Ideal ReferenceIdeal.S1024x2816 .f32) : Wide :=
  mulf (sl (pa a0 a1 a2)) (pa a0 a1 a3)
def dsr (a4 : FVec Ideal ReferenceIdeal.S2816x1024 .f32) (a5 : Rows) : Wide := back (half a5) a4
def dbr (a0 : Rows) (a1 : FVec Ideal ReferenceIdeal.S1x1024 .f32) (a2 : FVec Ideal ReferenceIdeal.S1024x2816 .f32) (a4 : FVec Ideal ReferenceIdeal.S2816x1024 .f32) (a5 : Rows) : Wide :=
  mulf (sl (pa a0 a1 a2)) (dsr a4 a5)
def dar (a0 : Rows) (a1 : FVec Ideal ReferenceIdeal.S1x1024 .f32) (a2 a3 : FVec Ideal ReferenceIdeal.S1024x2816 .f32) (a4 : FVec Ideal ReferenceIdeal.S2816x1024 .f32) (a5 : Rows) : Wide :=
  gateBack (pa a0 a1 a2) (mulf (dsr a4 a5) (pa a0 a1 a3))
def dnr (a0 : Rows) (a1 : FVec Ideal ReferenceIdeal.S1x1024 .f32) (a2 a3 : FVec Ideal ReferenceIdeal.S1024x2816 .f32) (a4 : FVec Ideal ReferenceIdeal.S2816x1024 .f32) (a5 : Rows) : Rows :=
  addf (back' (dbr a0 a1 a2 a4 a5) a3) (back' (dar a0 a1 a2 a3 a4 a5) a2)

variable (h0 : On2 a0 H) (h1 : On1 a1 G) (h2 : On2 a2 Wg) (h3 : On2 a3 Wu) (h4 : On2 a4 Wd) (h5 : On2 a5 D)
include h0 h1 h2

theorem on_pa : On2 (pa a0 a1 a2) (proj H G Wg) := on_up (on_nn h0 h1) h2
include h3 in
theorem on_gated : On2 (gated a0 a1 a2 a3) (sa H G Wg Wu) := on_mul (on_sl (on_pa h0 h1 h2)) (on_pa h0 h1 h3)
omit h0 h1 h2 in
include h4 h5 in
theorem on_dsr : On2 (dsr a4 a5) (ds Wd D) := on_back (on_half h5) h4
include h4 h5
theorem on_dbr : On2 (dbr a0 a1 a2 a4 a5) (db H G Wg Wd D) := fun r j =>
  (on_mul (on_sl (on_pa h0 h1 h2)) (on_dsr h4 h5) r j).trans (congrArg (fun r : ℝ => (r : EReal)) (mul_comm _ _))
include h3
theorem on_dar : On2 (dar a0 a1 a2 a3 a4 a5) (da H G Wg Wu Wd D) := fun r j =>
  (on_gateBack (on_pa h0 h1 h2) (on_mul (on_dsr h4 h5) (on_pa h0 h1 h3)) r j).trans (congrArg (fun r : ℝ => (r : EReal)) (by unfold da ga; ring))
theorem on_dnr : On2 (dnr a0 a1 a2 a3 a4 a5) (dn H G Wg Wu Wd D) := fun r d =>
  (on_add (on_back' (on_dbr h0 h1 h2 h4 h5) h3) (on_back' (on_dar h0 h1 h2 h3 h4 h5) h2) r d).trans
    (congrArg (fun r : ℝ => (r : EReal)) (by unfold dn; rw [Finset.sum_add_distrib]; exact add_comm _ _))

omit h5 in
theorem on_out0 : On2 (res a0 (down (gated a0 a1 a2 a3) a4)) (ho H G Wg Wu Wd) := on_res h0 (on_down (on_gated h0 h1 h2 h3) h4)
theorem on_out1 : On2 (rowsBack a5 a0 (mulf (dnr a0 a1 a2 a3 a4 a5) (wide a1))) (dh H G Wg Wu Wd D) :=
  on_rowsBack h5 h0 (on_mul' (on_dnr h0 h1 h2 h3 h4 h5) (on_wide h1))
theorem on_out2 : On1 (scaleBack a0 (dnr a0 a1 a2 a3 a4 a5)) (dg H G Wg Wu Wd D) := on_scaleBack h0 (on_dnr h0 h1 h2 h3 h4 h5)
theorem on_out3 (i : ReferenceIdeal.S4x704x1024.Idx) :
    shards' (outer' (dar a0 a1 a2 a3 a4 a5) (nn a0 a1)) i = ((dwg H G Wg Wu Wd D (col (i 0) (i 1)) (i 2) : ℝ) : EReal) :=
  on_shards' (on_outer' (on_dar h0 h1 h2 h3 h4 h5) (on_nn h0 h1)) i
omit h3 in
theorem on_out4 (i : ReferenceIdeal.S4x704x1024.Idx) :
    shards' (outer' (dbr a0 a1 a2 a4 a5) (nn a0 a1)) i = ((dwu H G Wg Wd D (col (i 0) (i 1)) (i 2) : ℝ) : EReal) :=
  on_shards' (on_outer' (on_dbr h0 h1 h2 h4 h5) (on_nn h0 h1)) i
omit h4 in
theorem on_out5 (i : ReferenceIdeal.S4x704x1024.Idx) :
    shards (outer (half a5) (gated a0 a1 a2 a3)) i = ((dwd H G Wg Wu D (col (i 0) (i 1)) (i 2) : ℝ) : EReal) :=
  (on_shards (on_outer (on_half h5) (on_gated h0 h1 h2 h3)) i).trans
    (congrArg (fun r : ℝ => (r : EReal)) (Finset.sum_congr rfl fun r _ => mul_comm _ _))

end Six

end Ref

/-- Two matrices, and two rows, of the same reals are one array. -/
theorem same2 {a b : ℕ} {x y : (⟨2, ![a, b]⟩ : Shape).Idx → EReal} {X : Fin a → Fin b → ℝ} (h : On2 x X)
    (e : y = fun i => ((X (i 0) (i 1) : ℝ) : EReal)) : x = y := by
  subst e
  funext i
  rw [eq_ix2 i]
  exact h _ _

theorem same1 {b : ℕ} {x y : (⟨2, ![1, b]⟩ : Shape).Idx → EReal} {X : Fin b → ℝ} (h : On1 x X)
    (e : y = fun i => ((X (i 1) : ℝ) : EReal)) : x = y := by
  subst e
  funext i
  have h0 : i = ix2 0 (i 1) := (eq_ix2 i).trans (congrArg (fun z => ix2 z (i 1)) (Subsingleton.elim (α := Fin 1) (i 0) 0))
  rw [h0]
  exact h _

set_option maxHeartbeats 2000000 in
theorem algebraic : Cert.algebraic_KernelIdeal_ReferenceIdeal_pre_finite := by
  intro m g m' g' hp he
  refine ⟨fun c => B4 m c KernelIdeal.main_v8_0, fun c => B4 m c KernelIdeal.main_v9_0, fun c => B4 m c KernelIdeal.main_v9_3,
    fun c => B4 m c KernelIdeal.main_v10_0, fun c => B4 m c KernelIdeal.main_v10_1, fun c => B4 m c KernelIdeal.main_v10_2, ?_, ?_⟩
  · refine (θ_run _ _ _).mono (fun r h c => ?_) (chain_run m g)
    have hc := h.1 c
    exact ⟨hc _ rfl, hc _ rfl, hc _ rfl, hc _ rfl, hc _ rfl, hc _ rfl, end_arg0 m c hc, end_arg1 m c hc, end_arg2 m c hc, end_arg3 m c hc,
      end_arg4 m c hc, end_arg5 m c hc⟩
  · refine (θ_run _ _ _).mono (fun r h c => ?_) (Cert.ReferenceIdeal.Value.run m' g')
    obtain ⟨r0, r1, r2, r3, r4, r5, hargs⟩ := h c
    obtain ⟨e0, e1, e2, e3, e4, e5⟩ := he c
    obtain ⟨H, G, Wg, Wu, Wd, D, h0, h1, h2, h3, h4, h5⟩ := finite_reals _ _ _ _ _ _ (hp c)
    have A : Args m c H G Wg Wu Wd D := ⟨h0, h1, h2, h3, h4, h5⟩
    rw [← e0] at h0
    rw [← e1] at h1
    rw [← e2] at h2
    rw [← e3] at h3
    rw [← e4] at h4
    rw [← e5] at h5
    refine ⟨r0.trans ?_, r1.trans ?_, r2.trans ?_, r3.trans ?_, r4.trans ?_, r5.trans ?_, hargs⟩
    · exact same2 (Ref.on_out0 h0 h1 h2 h3 h4) (end_ho A)
    · exact same2 (Ref.on_out1 h0 h1 h2 h3 h4 h5) (end_dh A)
    · exact same1 (Ref.on_out2 h0 h1 h2 h3 h4 h5) (end_dg A)
    · exact (funext fun i => Ref.on_out3 h0 h1 h2 h3 h4 h5 i).trans (end_dwg A).symm
    · exact (funext fun i => Ref.on_out4 h0 h1 h2 h4 h5 i).trans (end_dwu A).symm
    · exact (funext fun i => Ref.on_out5 h0 h1 h2 h3 h5 i).trans (end_dwd A).symm

end Cert.Chain

end
-- ==== Proof.DownTerms.lean ====
module

public import proofs.«01_k».proof.Proof.Gen.Kernel2Ideal.Value
public import Idealize.ShloMosaic.Lib.VecWindow

@[expose] public section

set_option maxRecDepth 16384

noncomputable section

/-! What the points of the down weights' gradient leave, by the stores' own terms. -/

namespace Cert.Down

open Cert.Kernel2Ideal Cert.Kernel2Ideal.Gen
open Idealize.ShloMosaic Idealize.ShloMosaic.TcCoe Idealize.ShloMosaic.Tactic

variable {F : FTy → Type} [FloatOps F]
variable (m : (ℓ : Loc nD τ sig) → Buf (Elt F) ℓ)

/-- On the first tile the sum starts from zero. -/
theorem acc_first (c : Dev nD) (t : Fin cfg0.N) (h0 : t.val % 4 = 0) (h1 : ¬t.val % 4 = 3) :
    (outsAt0 m c t.val t.isLt).2 = k0_pay2 (X0_0 m c t) k0_pay1 (X0_1 m c t) := by
  rw [outsAt0_A m c t h0 h1]
  dsimp only
  unfold sout0_A_0 kernelRun0_A
  dsimp only
  sl_unfold_run_names
  (repeat first | rw [View.read_writes_full] | rw [View.readAt_writes_full] | rw [View.readCov_full] | rw [View.readAt_full] | rw [Memref.IsWhole.read_unread])

/-- On a tile in between its share is added. -/
theorem acc_mid (c : Dev nD) (t : Fin cfg0.N) (h0 : ¬t.val % 4 = 0) (h1 : ¬t.val % 4 = 3) :
    (outsAt0 m c t.val t.isLt).2 = k0_pay2 (X0_0 m c t) (outsAt0 m c (t.val - 1) (Nat.lt_of_le_of_lt (Nat.sub_le _ _) t.isLt)).2 (X0_1 m c t) := by
  rw [outsAt0_B m c t h0 h1]
  dsimp only
  unfold sout0_B_0 kernelRun0_B
  dsimp only
  sl_unfold_run_names
  (repeat first | rw [View.read_writes_full] | rw [View.readAt_writes_full] | rw [View.readCov_full] | rw [View.readAt_full] | rw [Memref.IsWhole.read_unread])
  exact congrArg (fun a => k0_pay2 (X0_0 m c t) a (X0_1 m c t)) (Memref.IsWhole.read_unread _ _)

/-- With the last tile the last rows' share too, -/
theorem acc_last (c : Dev nD) (t : Fin cfg0.N) (h0 : ¬t.val % 4 = 0) (h1 : t.val % 4 = 3) :
    (outsAt0 m c t.val t.isLt).2 = k0_pay3 (iblk m c 2 t)
      (k0_pay2 (X0_0 m c t) (outsAt0 m c (t.val - 1) (Nat.lt_of_le_of_lt (Nat.sub_le _ _) t.isLt)).2 (X0_1 m c t)) (iblk m c 3 t) := by
  rw [outsAt0_C m c t h0 h1]
  dsimp only
  unfold sout0_C_0 kernelRun0_C
  dsimp only
  sl_unfold_run_names
  (repeat first | rw [View.read_writes_full] | rw [View.readAt_writes_full] | rw [View.readCov_full] | rw [View.readAt_full] | rw [Memref.IsWhole.read_unread])

/-- and the result is the sum. -/
theorem out_last (c : Dev nD) (t : Fin cfg0.N) (h0 : ¬t.val % 4 = 0) (h1 : t.val % 4 = 3) :
    (outsAt0 m c t.val t.isLt).1 = k0_pay4 (outsAt0 m c t.val t.isLt).2 := by
  rw [acc_last m c t h0 h1, outsAt0_C m c t h0 h1]
  dsimp only
  unfold out0_C_4 kernelRun0_C
  dsimp only
  sl_unfold_run_names
  (repeat first | rw [View.read_writes_full] | rw [View.readAt_writes_full] | rw [View.readCov_full] | rw [View.readAt_full] | rw [Memref.IsWhole.read_unread])

end Cert.Down

end
-- ==== Proof.Tiles.lean ====
module

public import proofs.«01_k».proof.Proof.Spec

@[expose] public section

noncomputable section

/-! A sum over the 4160 rows, taken as the weight call takes it: four tiles of 1024 rows, and the last 64 with the last tile. -/

namespace Cert.Chain.Tiles

open Cert.Chain.Spec

variable (f : Fin 4160 → EReal)

/-- One tile's share of the sum, and that of the last rows. -/
def share (b : Fin 4) : EReal := ∑ x : Fin 1024, f (long b x)
def last : EReal := ∑ x : Fin 64, f (tail x)

/-- What is summed after tile `k`. -/
def upTo : ℕ → EReal
  | 0 => share f 0
  | 1 => share f 0 + share f 1
  | 2 => share f 0 + share f 1 + share f 2
  | _ => share f 0 + share f 1 + share f 2 + share f 3 + last f

theorem upTo_mid (k : ℕ) (b : Fin 4) (h : b.val = k + 1) (h3 : k + 1 < 3) : upTo f (k + 1) = upTo f k + share f b := by
  obtain rfl | rfl : k = 0 ∨ k = 1 := by omega
  · rw [show b = 1 from Fin.ext h]; rfl
  · rw [show b = 2 from Fin.ext h]; rfl

theorem upTo_last (b : Fin 4) (h : b.val = 3) : upTo f 3 = upTo f 2 + share f b + last f := by
  rw [show b = 3 from Fin.ext h]; rfl

theorem sum_tiles {m n : ℕ} (g : Fin (m * n) → EReal) :
    ∑ j, g j = ∑ s : Fin m, ∑ q : Fin n, g ⟨n * s.val + q.val, by
      have h1 : n * s.val + q.val < n * s.val + n := Nat.add_lt_add_left q.isLt _
      have h2 : n * (s.val + 1) ≤ n * m := Nat.mul_le_mul_left n s.isLt
      rw [Nat.mul_succ] at h2; rw [Nat.mul_comm m n]; exact Nat.lt_of_lt_of_le h1 h2⟩ := by
  rw [← finProdFinEquiv.sum_comp, Fintype.sum_prod_type]
  refine Finset.sum_congr rfl fun s _ => Finset.sum_congr rfl fun q _ => congrArg g (Fin.ext ?_)
  simp [finProdFinEquiv, Nat.add_comm]

/-- After the last tile it is the sum over all rows. -/
theorem upTo_all : upTo f 3 = ∑ r, f r := by
  rw [show (∑ r, f r) = _ from Fin.sum_univ_add (a := 4096) (b := 64) f,
    show (∑ i : Fin 4096, f (Fin.castAdd 64 i)) = _ from sum_tiles (m := 4) (n := 1024) fun j => f (Fin.castAdd 64 j), Fin.sum_univ_four]
  rfl

end Cert.Chain.Tiles

end
-- ==== Proof.DownVal.lean ====
module

public import proofs.«01_k».proof.Proof.DownTerms
public import proofs.«01_k».proof.Proof.Tiles
public import proofs.«01_k».proof.Proof.FwdPay
public import Idealize.ShloMosaic.Lib.Pipeline.ValueKit

@[expose] public section

set_option maxRecDepth 16384

noncomputable section

/-! The down weights' gradient at the end of its call. -/

namespace Cert.Down

open Cert.Kernel2Ideal Cert.Kernel2Ideal.Gen
open Idealize.ShloMosaic Idealize.ShloMosaic.TcCoe
open Cert.Chain.Spec Cert.Chain.Tiles

/-- The factor on the output's gradient. -/
def half : EReal := Ideal.ofBits .f32 0x3F000000#32

variable {acc : FVec Ideal S704x1024 .f32}

theorem pay_long (y : FVec Ideal S1024x1024 .f32) (s : FVec Ideal S1x1024x704 .bf16) (q : Fin 704) (d : Fin 1024) :
    k0_pay2 (F := Ideal) y acc s (ix2 q d) = acc (ix2 q d) + ∑ x, s (ix3 0 x q) * (half * y (ix2 x d)) := by
  pointwise [k0_pay2]
  rfl

theorem pay_tail (y : FVec Ideal S64x1024 .f32) (s : FVec Ideal S1x64x704 .bf16) (q : Fin 704) (d : Fin 1024) :
    k0_pay3 (F := Ideal) y acc s (ix2 q d) = acc (ix2 q d) + ∑ x, s (ix3 0 x q) * (half * y (ix2 x d)) := by
  pointwise [k0_pay3]
  rfl

theorem pay_zero (q : Fin 704) (d : Fin 1024) : k0_pay1 (F := Ideal) (ix2 q d) = 0 := by
  pointwise [k0_pay1]

theorem pay_out (q : Fin 704) (d : Fin 1024) : k0_pay4 (F := Ideal) acc (ix3 0 q d) = acc (ix2 q d) := by
  pointwise [k0_pay4]

variable (m : (ℓ : Loc nD τ sig) → Buf (Elt Ideal) ℓ) (c : Dev nD)

/-- The shard and the block of rows of a point. -/
def shardOf (t : Fin cfg0.N) : Fin 4 := ⟨t.val / 4, by have h : t.val < 16 := t.isLt; omega⟩
def longOf (t : Fin cfg0.N) : Fin 4 := ⟨t.val % 4, Nat.mod_lt _ (by norm_num)⟩

theorem idx0 : ∀ t : Fin cfg0.N, win0_0.index t = ![t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![64, 0] := (by decide +kernel : ∀ t : Fin grid0.N, _)
theorem idx3 : ∀ t : Fin cfg0.N, win0_3.index t = ![t.val / 4, 64, 0] := (by decide +kernel : ∀ t : Fin grid0.N, _)
theorem idx4 : ∀ t : Fin cfg0.N, win0_4.index t = ![t.val / 4, 0, 0] := (by decide +kernel : ∀ t : Fin grid0.N, _)

/-- The two arguments as launched. -/
abbrev sIn : FVec Ideal S4x4160x704 .bf16 := m ((c : Thread nD τ).loc main_arg0)
abbrev yIn : FVec Ideal S4160x1024 .f32 := m ((c : Thread nD τ).loc main_arg1)

/-! The blocks read. -/

theorem blk0 (t : Fin cfg0.N) (x d : Fin 1024) : X0_0 m c t (ix2 x d) = yIn m c (ix2 (long (longOf t) x) d) := by
  unfold X0_0 Pipeline.Window.fill
  rw [dif_pos (moved0_0 t _)]
  blk_ext [iblk, idx0 t, long, longOf]
theorem blk1 (t : Fin cfg0.N) (x : Fin 1024) (q : Fin 704) : X0_1 m c t (ix3 0 x q) = sIn m c (ix3 (shardOf t) (long (longOf t) x) q) := by
  unfold X0_1 Pipeline.Window.fill
  rw [dif_pos (moved0_1 t _)]
  blk_ext [iblk, idx1 t, long, longOf, shardOf]
theorem blk2 (t : Fin cfg0.N) (x : Fin 64) (d : Fin 1024) : iblk m c 2 t (ix2 x d) = yIn m c (ix2 (tail x) d) := by
  blk_ext [iblk, idx2 t, tail]
theorem blk3 (t : Fin cfg0.N) (x : Fin 64) (q : Fin 704) : iblk m c 3 t (ix3 0 x q) = sIn m c (ix3 (shardOf t) (tail x) q) := by
  blk_ext [iblk, idx3 t, tail, shardOf]

/-- One row's term of the product. -/
def term (s : Fin 4) (q : Fin 704) (d : Fin 1024) (r : Fin 4160) : EReal := sIn m c (ix3 s r q) * (half * yIn m c (ix2 r d))

theorem step_long (t : Fin cfg0.N) (q : Fin 704) (d : Fin 1024) :
    k0_pay2 (F := Ideal) (X0_0 m c t) acc (X0_1 m c t) (ix2 q d) = acc (ix2 q d) + share (term m c (shardOf t) q d) (longOf t) := by
  rw [pay_long]
  simp only [blk0, blk1]
  rfl
theorem step_tail (t : Fin cfg0.N) (q : Fin 704) (d : Fin 1024) :
    k0_pay3 (F := Ideal) (iblk m c 2 t) acc (iblk m c 3 t) (ix2 q d) = acc (ix2 q d) + last (term m c (shardOf t) q d) := by
  rw [pay_tail]
  simp only [blk2, blk3]
  rfl

theorem at_first (t : Fin cfg0.N) (h : t.val % 4 = 0) (q : Fin 704) (d : Fin 1024) :
    (outsAt0 m c t.val t.isLt).2 (ix2 q d) = upTo (term m c (shardOf t) q d) (t.val % 4) := by
  rw [acc_first m c t h (by omega), step_long, pay_zero, zero_add, h, show longOf t = 0 from Fin.ext h]
  rfl

theorem at_point : ∀ (n : ℕ) (h : n < cfg0.N) (q : Fin 704) (d : Fin 1024),
    (outsAt0 m c n h).2 (ix2 q d) = upTo (term m c (shardOf ⟨n, h⟩) q d) (n % 4) := by
  intro n
  induction n with
  | zero => exact fun h q d => at_first m c ⟨0, h⟩ rfl q d
  | succ n ih =>
    intro h q d
    by_cases h0 : (n + 1) % 4 = 0
    · exact at_first m c ⟨n + 1, h⟩ h0 q d
    · have ht : shardOf ⟨n, Nat.lt_of_succ_lt h⟩ = shardOf ⟨n + 1, h⟩ := Fin.ext (by simp only [shardOf]; omega)
      have ih' := ih (Nat.lt_of_succ_lt h) q d
      rw [ht] at ih'
      by_cases h1 : (n + 1) % 4 = 3
      · rw [show (outsAt0 m c (n + 1) h).2 = _ from acc_last m c ⟨n + 1, h⟩ h0 h1, step_tail, step_long]
        refine (congrArg (fun z : EReal => z + _ + _) ih').trans ?_
        rw [h1, upTo_last _ (longOf ⟨n + 1, h⟩) h1, show n % 4 = 2 by omega]
      · rw [show (outsAt0 m c (n + 1) h).2 = _ from acc_mid m c ⟨n + 1, h⟩ h0 h1, step_long]
        refine (congrArg (fun z : EReal => z + _) ih').trans ?_
        have hm : (n + 1) % 4 = n % 4 + 1 := by omega
        rw [hm, upTo_mid _ (n % 4) (longOf ⟨n + 1, h⟩) hm (by omega)]

theorem emb4 (t : Fin cfg0.N) (y : S1x704x1024.Idx) : (win0_4.blk t).view.emb y = ix3 (shardOf t) (y 1) (y 2) := by
  blk_ext [idx4 t, shardOf]

/-- The result, by shards. -/
theorem fin4 : (dats m 0 c).arrAt 4 cfg0.N = fun i : S4x704x1024.Idx => ∑ r, term m c (i 0) (i 1) (i 2) r := by
  refine (dats m 0 c).arrAt_eq_of_covers 4 _ (by decide +kernel) fun t hf y => ?_
  blk_simp
  rw [after0_4, emb4 t y]
  have h3 : t.val % 4 = 3 := (flush0_4 t).mp hf
  rw [out_last m c t (by omega) h3]
  refine (congrArg _ (Cert.Chain.Pay.ix3_of _ _ y)).trans ((pay_out (y 1) (y 2)).trans ((at_point m c t.val t.isLt (y 1) (y 2)).trans ?_))
  rw [h3]
  exact upTo_all _

end Cert.Down

end
-- ==== Proof.DownAlg.lean ====
module

public import proofs.«01_k».proof.Defs
public import proofs.«01_k».proof.Proof.DownVal
public import proofs.«01_k».proof.Proof.Gen.Kernel2Ideal.Value
public import proofs.«01_k».proof.Proof.Gen.Reference2Ideal.Run

@[expose] public section

set_option maxRecDepth 16384

noncomputable section

/-! The call for the down weights and its reference end with the same result. -/

namespace Cert.Down

open Idealize.ShloMosaic Idealize.ShloMosaic.TcCoe Idealize.SL.Sem
open Cert.Chain.Spec

attribute [local instance] Cert.Kernel2Ideal.Gen.facts Cert.Reference2Ideal.Gen.facts

theorem frame_reference : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

namespace Ref

open Cert.Reference2Ideal Cert.Reference2Ideal.Gen

/-- The whole of a value that is kept by the shards of its columns. -/
def rows (x : FVec Ideal S4x4160x704 .bf16) : FVec Ideal S4160x2816 .f32 :=
  extf .f32 (shapeCast S4160x2816 (transpose S4160x4x704 [1, 0, 2] x transposes_S4x4160x704_S4160x4x704_1_0_2) shapeCasts_S4160x4x704_S4160x2816) bitsLt_bf16_f32

theorem rows_at (x : FVec Ideal S4x4160x704 .bf16) (s : Fin 4) (r : Fin 4160) (q : Fin 704) : rows x (ix2 r (col s q)) = x (ix3 s r q) := by
  pointwise [rows, col]
theorem rows_at' (x : FVec Ideal S4x4160x704 .bf16) (s : Fin 4) (r : Fin 4160) (q : Fin 704) (j : Fin 2816) (h : j.val = s.val * 704 + q.val) :
    rows x (ix2 r j) = x (ix3 s r q) := by
  rw [show j = col s q from Fin.ext (h.trans (by show s.val * 704 + q.val = 704 * s.val + q.val; omega))]
  exact rows_at x s r q

/-- The reference's result. -/
def out (x : FVec Ideal S4x4160x704 .bf16) (y : FVec Ideal S4160x1024 .f32) : FVec Ideal S4x704x1024 .bf16 :=
  truncf .bf16 (shapeCast S4x704x1024 (transpose S2816x1024 [1, 0] (Host.dotGeneral dot_S4160x1024_S4160x2816_S1024x2816_0_0_1_1_n_n none
    (mulf (broadcastInDim S4160x1024 ![] bcast_S_S4160x1024 (constant S_ .f32 0x3F000000#32)) y) (rows x))
    transposes_S1024x2816_S2816x1024_1_0) shapeCasts_S2816x1024_S4x704x1024) bitsLt_bf16_f32

theorem out_at (x : FVec Ideal S4x4160x704 .bf16) (y : FVec Ideal S4160x1024 .f32) (s : Fin 4) (q : Fin 704) (d : Fin 1024) :
    out x y (ix3 s q d) = ∑ r, x (ix3 s r q) * (half * y (ix2 r d)) := by
  pointwise [out]
  exact Finset.sum_congr rfl fun r _ => (congrArg (fun z : EReal => half * y (ix2 r d) * z) (rows_at' x s r q _ rfl)).trans (mul_comm _ _)

end Ref

theorem algebraic : Cert.algebraic_Kernel2Ideal_Reference2Ideal := by
  intro m g m' g' hp he
  refine ⟨fun c => (Cert.Kernel2Ideal.Gen.dats m 0 c).arrAt 4 Cert.Kernel2Ideal.cfg0.N, Cert.Kernel2Ideal.Value.run_blocks m g, ?_⟩
  refine (θ_run _ _ _).mono (fun r h c => ?_) (Cert.Reference2Ideal.Value.run m' g')
  obtain ⟨h0, hargs⟩ := h c
  obtain ⟨e0, e1⟩ := he c
  refine ⟨h0.trans ?_, hargs⟩
  rw [e0, e1]
  refine Eq.trans ?_ (fin4 m c).symm
  funext i
  rw [eq_ix3 i]
  exact Ref.out_at (sIn m c) (yIn m c) (i 0) (i 1) (i 2)

end Cert.Down

end
-- ==== Proof.UpTerms.lean ====
module

public import proofs.«01_k».proof.Proof.Gen.Kernel3Ideal.Value
public import Idealize.ShloMosaic.Lib.VecWindow

@[expose] public section

set_option maxRecDepth 16384

noncomputable section

/-! What the points of the gate's and the up weights' gradients leave, by the stores' own terms. -/

namespace Cert.Up

open Cert.Kernel3Ideal Cert.Kernel3Ideal.Gen
open Idealize.ShloMosaic Idealize.ShloMosaic.TcCoe Idealize.ShloMosaic.Tactic

variable {F : FTy → Type} [FloatOps F]
variable (m : (ℓ : Loc nD τ sig) → Buf (Elt F) ℓ)

/-! The sum for the gate's weights. -/

theorem g_first (c : Dev nD) (t : Fin cfg0.N) (h0 : t.val % 4 = 0) (h1 : ¬t.val % 4 = 3) :
    (outsAt0 m c t.val t.isLt).2.2.1 = k0_pay3 (X0_0 m c t) k0_pay1 (X0_1 m c t) := by
  rw [outsAt0_A m c t h0 h1]
  dsimp only
  unfold sout0_A_0 kernelRun0_A
  dsimp only
  sl_unfold_run_names
  (repeat first | rw [View.read_writes_full] | rw [View.readAt_writes_full] | rw [View.readCov_full] | rw [View.readAt_full] | rw [Memref.IsWhole.read_unread])

theorem g_mid (c : Dev nD) (t : Fin cfg0.N) (h0 : ¬t.val % 4 = 0) (h1 : ¬t.val % 4 = 3) :
    (outsAt0 m c t.val t.isLt).2.2.1 = k0_pay3 (X0_0 m c t) (outsAt0 m c (t.val - 1) (Nat.lt_of_le_of_lt (Nat.sub_le _ _) t.isLt)).2.2.1 (X0_1 m c t) := by
  rw [outsAt0_B m c t h0 h1]
  dsimp only
  unfold sout0_B_0 kernelRun0_B
  dsimp only
  sl_unfold_run_names
  (repeat first | rw [View.read_writes_full] | rw [View.readAt_writes_full] | rw [View.readCov_full] | rw [View.readAt_full] | rw [Memref.IsWhole.read_unread])
  exact congrArg (fun a => k0_pay3 (X0_0 m c t) a (X0_1 m c t)) (Memref.IsWhole.read_unread _ _)

theorem g_last (c : Dev nD) (t : Fin cfg0.N) (h0 : ¬t.val % 4 = 0) (h1 : t.val % 4 = 3) :
    (outsAt0 m c t.val t.isLt).2.2.1 = k0_pay6 (iblk m c 3 t)
      (k0_pay3 (X0_0 m c t) (outsAt0 m c (t.val - 1) (Nat.lt_of_le_of_lt (Nat.sub_le _ _) t.isLt)).2.2.1 (X0_1 m c t)) (iblk m c 4 t) := by
  rw [outsAt0_C m c t h0 h1]
  dsimp only
  unfold sout0_C_0 kernelRun0_C
  dsimp only
  sl_unfold_run_names
  (repeat first | rw [View.read_writes_full] | rw [View.readAt_writes_full] | rw [View.readCov_full] | rw [View.readAt_full] | rw [Memref.IsWhole.read_unread])

theorem g_out (c : Dev nD) (t : Fin cfg0.N) (h0 : ¬t.val % 4 = 0) (h1 : t.val % 4 = 3) :
    (outsAt0 m c t.val t.isLt).1 = k0_pay8 ((outsAt0 m c t.val t.isLt).2.2.1) := by
  rw [g_last m c t h0 h1, outsAt0_C m c t h0 h1]
  dsimp only
  unfold out0_C_6 kernelRun0_C
  dsimp only
  sl_unfold_run_names
  (repeat first | rw [View.read_writes_full] | rw [View.readAt_writes_full] | rw [View.readCov_full] | rw [View.readAt_full] | rw [Memref.IsWhole.read_unread])

/-! The sum for the up weights. -/

theorem u_first (c : Dev nD) (t : Fin cfg0.N) (h0 : t.val % 4 = 0) (h1 : ¬t.val % 4 = 3) :
    (outsAt0 m c t.val t.isLt).2.2.2 = k0_pay4 (X0_0 m c t) k0_pay2 (X0_2 m c t) := by
  rw [outsAt0_A m c t h0 h1]
  dsimp only
  unfold sout0_A_1 kernelRun0_A
  dsimp only
  sl_unfold_run_names
  (repeat first | rw [View.read_writes_full] | rw [View.readAt_writes_full] | rw [View.readCov_full] | rw [View.readAt_full] | rw [Memref.IsWhole.read_unread])

theorem u_mid (c : Dev nD) (t : Fin cfg0.N) (h0 : ¬t.val % 4 = 0) (h1 : ¬t.val % 4 = 3) :
    (outsAt0 m c t.val t.isLt).2.2.2 = k0_pay4 (X0_0 m c t) (outsAt0 m c (t.val - 1) (Nat.lt_of_le_of_lt (Nat.sub_le _ _) t.isLt)).2.2.2 (X0_2 m c t) := by
  rw [outsAt0_B m c t h0 h1]
  dsimp only
  unfold sout0_B_1 kernelRun0_B
  dsimp only
  sl_unfold_run_names
  (repeat first | rw [View.read_writes_full] | rw [View.readAt_writes_full] | rw [View.readCov_full] | rw [View.readAt_full] | rw [Memref.IsWhole.read_unread])
  exact congrArg (fun a => k0_pay4 (X0_0 m c t) a (X0_2 m c t)) (Memref.IsWhole.read_unread _ _)

theorem u_last (c : Dev nD) (t : Fin cfg0.N) (h0 : ¬t.val % 4 = 0) (h1 : t.val % 4 = 3) :
    (outsAt0 m c t.val t.isLt).2.2.2 = k0_pay7 (iblk m c 3 t)
      (k0_pay4 (X0_0 m c t) (outsAt0 m c (t.val - 1) (Nat.lt_of_le_of_lt (Nat.sub_le _ _) t.isLt)).2.2.2 (X0_2 m c t)) (iblk m c 5 t) := by
  rw [outsAt0_C m c t h0 h1]
  dsimp only
  unfold sout0_C_1 kernelRun0_C
  dsimp only
  sl_unfold_run_names
  (repeat first | rw [View.read_writes_full] | rw [View.readAt_writes_full] | rw [View.readCov_full] | rw [View.readAt_full] | rw [Memref.IsWhole.read_unread])

theorem u_out (c : Dev nD) (t : Fin cfg0.N) (h0 : ¬t.val % 4 = 0) (h1 : t.val % 4 = 3) :
    (outsAt0 m c t.val t.isLt).2.1 = k0_pay5 (k0_pay9 ((outsAt0 m c t.val t.isLt).2.2.2)) := by
  rw [u_last m c t h0 h1, outsAt0_C m c t h0 h1]
  dsimp only
  unfold out0_C_7 kernelRun0_C
  dsimp only
  sl_unfold_run_names
  (repeat first | rw [View.read_writes_full] | rw [View.readAt_writes_full] | rw [View.readCov_full] | rw [View.readAt_full] | rw [Memref.IsWhole.read_unread])

end Cert.Up

end
-- ==== Proof.UpVal.lean ====
module

public import proofs.«01_k».proof.Proof.UpTerms
public import proofs.«01_k».proof.Proof.Tiles
public import proofs.«01_k».proof.Proof.FwdPay
public import Idealize.ShloMosaic.Lib.Pipeline.ValueKit

@[expose] public section

set_option maxRecDepth 16384

noncomputable section

/-! The gate's and the up weights' gradients at the end of their call. -/

namespace Cert.Up

open Cert.Kernel3Ideal Cert.Kernel3Ideal.Gen
open Idealize.ShloMosaic Idealize.ShloMosaic.TcCoe
open Cert.Chain.Spec Cert.Chain.Tiles

variable {acc : FVec Ideal S704x1024 .f32}

theorem g_pay_long (y : FVec Ideal S1024x1024 .bf16) (s : FVec Ideal S1x1024x704 .bf16) (q : Fin 704) (d : Fin 1024) :
    k0_pay3 (F := Ideal) y acc s (ix2 q d) = acc (ix2 q d) + ∑ x, s (ix3 0 x q) * y (ix2 x d) := by
  pointwise [k0_pay3]

theorem g_pay_tail (y : FVec Ideal S64x1024 .bf16) (s : FVec Ideal S1x64x704 .bf16) (q : Fin 704) (d : Fin 1024) :
    k0_pay6 (F := Ideal) y acc s (ix2 q d) = acc (ix2 q d) + ∑ x, s (ix3 0 x q) * y (ix2 x d) := by
  pointwise [k0_pay6]

theorem g_pay_zero (q : Fin 704) (d : Fin 1024) : k0_pay1 (F := Ideal) (ix2 q d) = 0 := by
  pointwise [k0_pay1]

theorem g_pay_out (q : Fin 704) (d : Fin 1024) : k0_pay8 (F := Ideal) acc (ix3 0 q d) = acc (ix2 q d) := by
  pointwise [k0_pay8]

theorem u_pay_long (y : FVec Ideal S1024x1024 .bf16) (s : FVec Ideal S1x1024x704 .bf16) (q : Fin 704) (d : Fin 1024) :
    k0_pay4 (F := Ideal) y acc s (ix2 q d) = acc (ix2 q d) + ∑ x, s (ix3 0 x q) * y (ix2 x d) := by
  pointwise [k0_pay4]

theorem u_pay_tail (y : FVec Ideal S64x1024 .bf16) (s : FVec Ideal S1x64x704 .bf16) (q : Fin 704) (d : Fin 1024) :
    k0_pay7 (F := Ideal) y acc s (ix2 q d) = acc (ix2 q d) + ∑ x, s (ix3 0 x q) * y (ix2 x d) := by
  pointwise [k0_pay7]

theorem u_pay_zero (q : Fin 704) (d : Fin 1024) : k0_pay2 (F := Ideal) (ix2 q d) = 0 := by
  pointwise [k0_pay2]

theorem u_pay_out (q : Fin 704) (d : Fin 1024) : k0_pay5 (F := Ideal) (k0_pay9 (F := Ideal) acc) (ix3 0 q d) = acc (ix2 q d) := by
  pointwise [k0_pay5, k0_pay9]

variable (m : (ℓ : Loc nD τ sig) → Buf (Elt Ideal) ℓ) (c : Dev nD)

/-- The shard and the block of rows of a point. -/
def shardOf (t : Fin cfg0.N) : Fin 4 := ⟨t.val / 4, by have h : t.val < 16 := t.isLt; omega⟩
def longOf (t : Fin cfg0.N) : Fin 4 := ⟨t.val % 4, Nat.mod_lt _ (by norm_num)⟩

theorem idx0 : ∀ t : Fin cfg0.N, win0_0.index t = ![t.val % 4, 0] := (by decide +kernel : ∀ t : Fin grid0.N, _)
theorem idx3 : ∀ t : Fin cfg0.N, win0_3.index t = ![64, 0] := (by decide +kernel : ∀ t : Fin grid0.N, _)
theorem idx1 : ∀ t : Fin cfg0.N, win0_1.index t = ![t.val / 4, t.val % 4, 0] := (by decide +kernel : ∀ t : Fin grid0.N, _)
theorem idx4 : ∀ t : Fin cfg0.N, win0_4.index t = ![t.val / 4, 64, 0] := (by decide +kernel : ∀ t : Fin grid0.N, _)
theorem idx6 : ∀ t : Fin cfg0.N, win0_6.index t = ![t.val / 4, 0, 0] := (by decide +kernel : ∀ t : Fin grid0.N, _)
theorem idx2 : ∀ t : Fin cfg0.N, win0_2.index t = ![t.val / 4, t.val % 4, 0] := (by decide +kernel : ∀ t : Fin grid0.N, _)
theorem idx5 : ∀ t : Fin cfg0.N, win0_5.index t = ![t.val / 4, 64, 0] := (by decide +kernel : ∀ t : Fin grid0.N, _)
theorem idx7 : ∀ t : Fin cfg0.N, win0_7.index t = ![t.val / 4, 0, 0] := (by decide +kernel : ∀ t : Fin grid0.N, _)

/-- The three arguments as launched. -/
abbrev nIn : FVec Ideal S4160x1024 .bf16 := m ((c : Thread nD τ).loc main_arg0)
abbrev gIn : FVec Ideal S4x4160x704 .bf16 := m ((c : Thread nD τ).loc main_arg1)
abbrev uIn : FVec Ideal S4x4160x704 .bf16 := m ((c : Thread nD τ).loc main_arg2)

/-! The blocks read. -/

theorem blk0 (t : Fin cfg0.N) (x d : Fin 1024) : X0_0 m c t (ix2 x d) = nIn m c (ix2 (long (longOf t) x) d) := by
  unfold X0_0 Pipeline.Window.fill
  rw [dif_pos (moved0_0 t _)]
  blk_ext [iblk, idx0 t, long, longOf]
theorem blk3 (t : Fin cfg0.N) (x : Fin 64) (d : Fin 1024) : iblk m c 3 t (ix2 x d) = nIn m c (ix2 (tail x) d) := by
  blk_ext [iblk, idx3 t, tail]
theorem blk1 (t : Fin cfg0.N) (x : Fin 1024) (q : Fin 704) : X0_1 m c t (ix3 0 x q) = gIn m c (ix3 (shardOf t) (long (longOf t) x) q) := by
  unfold X0_1 Pipeline.Window.fill
  rw [dif_pos (moved0_1 t _)]
  blk_ext [iblk, idx1 t, long, longOf, shardOf]
theorem blk4 (t : Fin cfg0.N) (x : Fin 64) (q : Fin 704) : iblk m c 4 t (ix3 0 x q) = gIn m c (ix3 (shardOf t) (tail x) q) := by
  blk_ext [iblk, idx4 t, tail, shardOf]
theorem blk2 (t : Fin cfg0.N) (x : Fin 1024) (q : Fin 704) : X0_2 m c t (ix3 0 x q) = uIn m c (ix3 (shardOf t) (long (longOf t) x) q) := by
  unfold X0_2 Pipeline.Window.fill
  rw [dif_pos (moved0_2 t _)]
  blk_ext [iblk, idx2 t, long, longOf, shardOf]
theorem blk5 (t : Fin cfg0.N) (x : Fin 64) (q : Fin 704) : iblk m c 5 t (ix3 0 x q) = uIn m c (ix3 (shardOf t) (tail x) q) := by
  blk_ext [iblk, idx5 t, tail, shardOf]

/-! The gate's weights: one row's term of the product, and the sum after each point. -/

def gTerm (s : Fin 4) (q : Fin 704) (d : Fin 1024) (r : Fin 4160) : EReal := gIn m c (ix3 s r q) * nIn m c (ix2 r d)

theorem g_step_long (t : Fin cfg0.N) (q : Fin 704) (d : Fin 1024) :
    k0_pay3 (F := Ideal) (X0_0 m c t) acc (X0_1 m c t) (ix2 q d) = acc (ix2 q d) + share (gTerm m c (shardOf t) q d) (longOf t) := by
  rw [g_pay_long]
  simp only [blk0, blk1]
  rfl
theorem g_step_tail (t : Fin cfg0.N) (q : Fin 704) (d : Fin 1024) :
    k0_pay6 (F := Ideal) (iblk m c 3 t) acc (iblk m c 4 t) (ix2 q d) = acc (ix2 q d) + last (gTerm m c (shardOf t) q d) := by
  rw [g_pay_tail]
  simp only [blk3, blk4]
  rfl

theorem g_at_first (t : Fin cfg0.N) (h : t.val % 4 = 0) (q : Fin 704) (d : Fin 1024) :
    (outsAt0 m c t.val t.isLt).2.2.1 (ix2 q d) = upTo (gTerm m c (shardOf t) q d) (t.val % 4) := by
  rw [g_first m c t h (by omega), g_step_long, g_pay_zero, zero_add, h, show longOf t = 0 from Fin.ext h]
  rfl

theorem g_at : ∀ (n : ℕ) (h : n < cfg0.N) (q : Fin 704) (d : Fin 1024),
    (outsAt0 m c n h).2.2.1 (ix2 q d) = upTo (gTerm m c (shardOf ⟨n, h⟩) q d) (n % 4) := by
  intro n
  induction n with
  | zero => exact fun h q d => g_at_first m c ⟨0, h⟩ rfl q d
  | succ n ih =>
    intro h q d
    by_cases h0 : (n + 1) % 4 = 0
    · exact g_at_first m c ⟨n + 1, h⟩ h0 q d
    · have ht : shardOf ⟨n, Nat.lt_of_succ_lt h⟩ = shardOf ⟨n + 1, h⟩ := Fin.ext (by simp only [shardOf]; omega)
      have ih' := ih (Nat.lt_of_succ_lt h) q d
      rw [ht] at ih'
      by_cases h1 : (n + 1) % 4 = 3
      · rw [show (outsAt0 m c (n + 1) h).2.2.1 = _ from g_last m c ⟨n + 1, h⟩ h0 h1, g_step_tail, g_step_long]
        refine (congrArg (fun z : EReal => z + _ + _) ih').trans ?_
        rw [h1, upTo_last _ (longOf ⟨n + 1, h⟩) h1, show n % 4 = 2 by omega]
      · rw [show (outsAt0 m c (n + 1) h).2.2.1 = _ from g_mid m c ⟨n + 1, h⟩ h0 h1, g_step_long]
        refine (congrArg (fun z : EReal => z + _) ih').trans ?_
        have hm : (n + 1) % 4 = n % 4 + 1 := by omega
        rw [hm, upTo_mid _ (n % 4) (longOf ⟨n + 1, h⟩) hm (by omega)]

theorem emb6 (t : Fin cfg0.N) (y : S1x704x1024.Idx) : (win0_6.blk t).view.emb y = ix3 (shardOf t) (y 1) (y 2) := by
  blk_ext [idx6 t, shardOf]

/-- The result, by shards. -/
theorem fin6 : (dats m 0 c).arrAt 6 cfg0.N = fun i : S4x704x1024.Idx => ∑ r, gTerm m c (i 0) (i 1) (i 2) r := by
  refine (dats m 0 c).arrAt_eq_of_covers 6 _ (by decide +kernel) fun t hf y => ?_
  blk_simp
  rw [after0_6, emb6 t y]
  have h3 : t.val % 4 = 3 := (flush0_6 t).mp hf
  rw [g_out m c t (by omega) h3]
  refine (congrArg _ (Cert.Chain.Pay.ix3_of _ _ y)).trans ((g_pay_out (y 1) (y 2)).trans ((g_at m c t.val t.isLt (y 1) (y 2)).trans ?_))
  rw [h3]
  exact upTo_all _

/-! The up weights: one row's term of the product, and the sum after each point. -/

def uTerm (s : Fin 4) (q : Fin 704) (d : Fin 1024) (r : Fin 4160) : EReal := uIn m c (ix3 s r q) * nIn m c (ix2 r d)

theorem u_step_long (t : Fin cfg0.N) (q : Fin 704) (d : Fin 1024) :
    k0_pay4 (F := Ideal) (X0_0 m c t) acc (X0_2 m c t) (ix2 q d) = acc (ix2 q d) + share (uTerm m c (shardOf t) q d) (longOf t) := by
  rw [u_pay_long]
  simp only [blk0, blk2]
  rfl
theorem u_step_tail (t : Fin cfg0.N) (q : Fin 704) (d : Fin 1024) :
    k0_pay7 (F := Ideal) (iblk m c 3 t) acc (iblk m c 5 t) (ix2 q d) = acc (ix2 q d) + last (uTerm m c (shardOf t) q d) := by
  rw [u_pay_tail]
  simp only [blk3, blk5]
  rfl

theorem u_at_first (t : Fin cfg0.N) (h : t.val % 4 = 0) (q : Fin 704) (d : Fin 1024) :
    (outsAt0 m c t.val t.isLt).2.2.2 (ix2 q d) = upTo (uTerm m c (shardOf t) q d) (t.val % 4) := by
  rw [u_first m c t h (by omega), u_step_long, u_pay_zero, zero_add, h, show longOf t = 0 from Fin.ext h]
  rfl

theorem u_at : ∀ (n : ℕ) (h : n < cfg0.N) (q : Fin 704) (d : Fin 1024),
    (outsAt0 m c n h).2.2.2 (ix2 q d) = upTo (uTerm m c (shardOf ⟨n, h⟩) q d) (n % 4) := by
  intro n
  induction n with
  | zero => exact fun h q d => u_at_first m c ⟨0, h⟩ rfl q d
  | succ n ih =>
    intro h q d
    by_cases h0 : (n + 1) % 4 = 0
    · exact u_at_first m c ⟨n + 1, h⟩ h0 q d
    · have ht : shardOf ⟨n, Nat.lt_of_succ_lt h⟩ = shardOf ⟨n + 1, h⟩ := Fin.ext (by simp only [shardOf]; omega)
      have ih' := ih (Nat.lt_of_succ_lt h) q d
      rw [ht] at ih'
      by_cases h1 : (n + 1) % 4 = 3
      · rw [show (outsAt0 m c (n + 1) h).2.2.2 = _ from u_last m c ⟨n + 1, h⟩ h0 h1, u_step_tail, u_step_long]
        refine (congrArg (fun z : EReal => z + _ + _) ih').trans ?_
        rw [h1, upTo_last _ (longOf ⟨n + 1, h⟩) h1, show n % 4 = 2 by omega]
      · rw [show (outsAt0 m c (n + 1) h).2.2.2 = _ from u_mid m c ⟨n + 1, h⟩ h0 h1, u_step_long]
        refine (congrArg (fun z : EReal => z + _) ih').trans ?_
        have hm : (n + 1) % 4 = n % 4 + 1 := by omega
        rw [hm, upTo_mid _ (n % 4) (longOf ⟨n + 1, h⟩) hm (by omega)]

theorem emb7 (t : Fin cfg0.N) (y : S1x704x1024.Idx) : (win0_7.blk t).view.emb y = ix3 (shardOf t) (y 1) (y 2) := by
  blk_ext [idx7 t, shardOf]

/-- The result, by shards. -/
theorem fin7 : (dats m 0 c).arrAt 7 cfg0.N = fun i : S4x704x1024.Idx => ∑ r, uTerm m c (i 0) (i 1) (i 2) r := by
  refine (dats m 0 c).arrAt_eq_of_covers 7 _ (by decide +kernel) fun t hf y => ?_
  blk_simp
  rw [after0_7, emb7 t y]
  have h3 : t.val % 4 = 3 := (flush0_7 t).mp hf
  rw [u_out m c t (by omega) h3]
  refine (congrArg _ (Cert.Chain.Pay.ix3_of _ _ y)).trans ((u_pay_out (y 1) (y 2)).trans ((u_at m c t.val t.isLt (y 1) (y 2)).trans ?_))
  rw [h3]
  exact upTo_all _

end Cert.Up

end
-- ==== Proof.UpAlg.lean ====
module

public import proofs.«01_k».proof.Defs
public import proofs.«01_k».proof.Proof.UpVal
public import proofs.«01_k».proof.Proof.Gen.Kernel3Ideal.Value
public import proofs.«01_k».proof.Proof.Gen.Reference3Ideal.Run

@[expose] public section

set_option maxRecDepth 16384

noncomputable section

/-! The call for the gate's and the up weights and its reference end with the same results. -/

namespace Cert.Up

open Idealize.ShloMosaic Idealize.ShloMosaic.TcCoe Idealize.SL.Sem
open Cert.Chain.Spec

attribute [local instance] Cert.Kernel3Ideal.Gen.facts Cert.Reference3Ideal.Gen.facts

theorem frame_reference : Cert.quiescent_Reference3Ideal := fun m ρ _ =>
  (θ_run Cert.Reference3Ideal.defs _ _).mono
    (fun r h => ⟨fun c => (h c).2.2, sem_eq_zero_of_no_sems (by decide) r.2⟩)
    (Cert.Reference3Ideal.Value.run (F := Ideal) m ρ)

namespace Ref

open Cert.Reference3Ideal Cert.Reference3Ideal.Gen

/-- The whole of a value that is kept by the shards of its columns. -/
def rows (x : FVec Ideal S4x4160x704 .bf16) : FVec Ideal S4160x2816 .f32 :=
  extf .f32 (shapeCast S4160x2816 (transpose S4160x4x704 [1, 0, 2] x transposes_S4x4160x704_S4160x4x704_1_0_2) shapeCasts_S4160x4x704_S4160x2816) bitsLt_bf16_f32

theorem rows_at (x : FVec Ideal S4x4160x704 .bf16) (s : Fin 4) (r : Fin 4160) (q : Fin 704) : rows x (ix2 r (col s q)) = x (ix3 s r q) := by
  pointwise [rows, col]
theorem rows_at' (x : FVec Ideal S4x4160x704 .bf16) (s : Fin 4) (r : Fin 4160) (q : Fin 704) (j : Fin 2816) (h : j.val = s.val * 704 + q.val) :
    rows x (ix2 r j) = x (ix3 s r q) := by
  rw [show j = col s q from Fin.ext (h.trans (by show s.val * 704 + q.val = 704 * s.val + q.val; omega))]
  exact rows_at x s r q

/-- The reference's results, each of the same form. -/
def out (x : FVec Ideal S4x4160x704 .bf16) (y : FVec Ideal S4160x1024 .bf16) : FVec Ideal S4x704x1024 .bf16 :=
  truncf .bf16 (shapeCast S4x704x1024 (transpose S2816x1024 [1, 0] (transpose S1024x2816 [1, 0]
    (Host.dotGeneral dot_S4160x2816_S4160x1024_S2816x1024_0_0_1_1_n_n none (rows x) (extf .f32 y bitsLt_bf16_f32))
    transposes_S2816x1024_S1024x2816_1_0) transposes_S1024x2816_S2816x1024_1_0) shapeCasts_S2816x1024_S4x704x1024) bitsLt_bf16_f32

theorem out_at (x : FVec Ideal S4x4160x704 .bf16) (y : FVec Ideal S4160x1024 .bf16) (s : Fin 4) (q : Fin 704) (d : Fin 1024) :
    out x y (ix3 s q d) = ∑ r, x (ix3 s r q) * y (ix2 r d) := by
  pointwise [out]
  exact Finset.sum_congr rfl fun r _ => congrArg (fun z : EReal => z * y (ix2 r d)) (rows_at' x s r q _ rfl)

end Ref

theorem algebraic : Cert.algebraic_Kernel3Ideal_Reference3Ideal := by
  intro m g m' g' hp he
  refine ⟨fun c => (Cert.Kernel3Ideal.Gen.dats m 0 c).arrAt 6 Cert.Kernel3Ideal.cfg0.N,
    fun c => (Cert.Kernel3Ideal.Gen.dats m 0 c).arrAt 7 Cert.Kernel3Ideal.cfg0.N, Cert.Kernel3Ideal.Value.run_blocks m g, ?_⟩
  refine (θ_run _ _ _).mono (fun r h c => ?_) (Cert.Reference3Ideal.Value.run m' g')
  obtain ⟨h0, h1, hargs⟩ := h c
  obtain ⟨e0, e1, e2⟩ := he c
  refine ⟨h0.trans ?_, h1.trans ?_, hargs⟩
  · rw [e0, e1]
    refine Eq.trans ?_ (fin6 m c).symm
    funext i
    rw [eq_ix3 i]
    exact Ref.out_at (gIn m c) (nIn m c) (i 0) (i 1) (i 2)
  · rw [e0, e2]
    refine Eq.trans ?_ (fin7 m c).symm
    funext i
    rw [eq_ix3 i]
    exact Ref.out_at (uIn m c) (nIn m c) (i 0) (i 1) (i 2)

end Cert.Up

end
-- ==== Proof.AdamSpec.lean ====
module

public import Idealize.ShloMosaic.Lib.Pipeline.ValueKit

@[expose] public section

noncomputable section

/-! One AdamW step of one number. -/

namespace Cert.AdamSpec

open Idealize.ShloMosaic

/-- The running mean of the gradient, -/
def mean (g m : EReal) : EReal := Ideal.ofBits .f32 0x3F666666#32 * m + Ideal.ofBits .f32 0x3DCCCCCD#32 * g
/-- the running mean of its square, -/
def square (g v : EReal) : EReal := Ideal.ofBits .f32 0x3F7FBE77#32 * v + Ideal.ofBits .f32 0x3A83126F#32 * (g * g)
/-- and the change of the weight. -/
def change (w g m v : EReal) : EReal :=
  Ideal.ofBits .f32 0xBA83126F#32 * (Ideal.div (mean g m) (Ideal.ofBits .f32 0x3F26BD02#32)
      |> fun a => Ideal.div a (Ideal.sqrt (Ideal.div (square g v) (Ideal.ofBits .f32 0x3C231ACC#32)) + Ideal.ofBits .f32 0x322BCC77#32)
        + Ideal.ofBits .f32 0x3C23D70A#32 * w)

end Cert.AdamSpec

end
-- ==== Proof.Adam4.lean ====
module

public import proofs.«01_k».proof.Proof.Gen.Kernel4Ideal.Value
public import proofs.«01_k».proof.Proof.AdamSpec
public import proofs.«01_k».proof.Proof.FwdPay
public import Idealize.ShloMosaic.Lib.Pipeline.ValueKit

@[expose] public section

set_option maxRecDepth 16384

noncomputable section

/-! One AdamW step of the weights of the gates and of the up projections: the four results at the end of the call. -/

namespace Cert.Adam4

open Cert.Kernel4Ideal Cert.Kernel4Ideal.Gen
open Idealize.ShloMosaic Idealize.ShloMosaic.TcCoe
open Cert.AdamSpec

/-! What a point leaves, number by number. -/

variable (k : grid0.Coords) (x0 x1 x2 : FVec Ideal S1x352x1024 .f32) (x3 x4 : FVec Ideal S352x1024 .f32) (r : Fin 352) (d : Fin 1024)

theorem out_grad : out0_5 (F := Ideal) k x0 x1 x2 x3 x4 (ix3 0 r d) = k0_pay5 (F := Ideal) k x3 x4 (ix2 r d) := by
  unfold out0_5
  rw [View.canon_unit_zero (by decide)]
  (repeat rw [View.ld_unit_zero (by decide)])
  pointwise [k0_pay1]
  try rfl

theorem out_delta : out0_6 (F := Ideal) k x0 x1 x2 x3 x4 (ix3 0 r d) = change (x0 (ix3 0 r d)) (k0_pay5 (F := Ideal) k x3 x4 (ix2 r d)) (x1 (ix3 0 r d)) (x2 (ix3 0 r d)) := by
  unfold out0_6
  rw [View.canon_unit_zero (by decide)]
  (repeat rw [View.ld_unit_zero (by decide)])
  pointwise [k0_pay2, k0_pay8, k0_pay6, k0_pay7]
  try rfl

theorem out_mean : out0_7 (F := Ideal) k x0 x1 x2 x3 x4 (ix3 0 r d) = mean (k0_pay5 (F := Ideal) k x3 x4 (ix2 r d)) (x1 (ix3 0 r d)) := by
  unfold out0_7
  rw [View.canon_unit_zero (by decide)]
  (repeat rw [View.ld_unit_zero (by decide)])
  pointwise [k0_pay3, k0_pay6]
  try rfl

theorem out_square : out0_8 (F := Ideal) k x0 x1 x2 x3 x4 (ix3 0 r d) = square (k0_pay5 (F := Ideal) k x3 x4 (ix2 r d)) (x2 (ix3 0 r d)) := by
  unfold out0_8
  rw [View.canon_unit_zero (by decide)]
  (repeat rw [View.ld_unit_zero (by decide)])
  pointwise [k0_pay4, k0_pay7]
  try rfl

variable (m : (ℓ : Loc nD τ sig) → Buf (Elt Ideal) ℓ) (c : Dev nD)

/-- The arguments as launched. -/
abbrev wIn : FVec Ideal S2x1024x704 .f32 := m ((c : Thread nD τ).loc main_arg0)
abbrev mIn : FVec Ideal S2x1024x704 .f32 := m ((c : Thread nD τ).loc main_arg1)
abbrev vIn : FVec Ideal S2x1024x704 .f32 := m ((c : Thread nD τ).loc main_arg2)
abbrev g0In : FVec Ideal S704x1024 .f32 := m ((c : Thread nD τ).loc main_arg3)
abbrev g1In : FVec Ideal S704x1024 .f32 := m ((c : Thread nD τ).loc main_arg4)

/-! The weights and the running means are handed over with rows and columns exchanged. -/

theorem entry0 : (V m c main_v0 : FVec Ideal S2x704x1024 .f32) = transpose S2x704x1024 [0, 2, 1] (wIn m c) transposes_S2x1024x704_S2x704x1024_0_2_1 := by
  show StableHlo.after hostOps0 (fun b => m (c, b)) main_v0 = _
  simp only [hostOps0, List.flatten_cons, List.flatten_nil, List.append_nil, List.cons_append, List.nil_append]
  after_results_simp <;> rfl

theorem entry0_at (l : Fin 2) (r : Fin 704) (d : Fin 1024) : (V m c main_v0 : FVec Ideal S2x704x1024 .f32) (ix3 l r d) = wIn m c (ix3 l d r) := by
  rw [entry0]
  pointwise
theorem entry1 : (V m c main_v1 : FVec Ideal S2x704x1024 .f32) = transpose S2x704x1024 [0, 2, 1] (mIn m c) transposes_S2x1024x704_S2x704x1024_0_2_1 := by
  show StableHlo.after hostOps0 (fun b => m (c, b)) main_v1 = _
  simp only [hostOps0, List.flatten_cons, List.flatten_nil, List.append_nil, List.cons_append, List.nil_append]
  after_results_simp <;> rfl

theorem entry1_at (l : Fin 2) (r : Fin 704) (d : Fin 1024) : (V m c main_v1 : FVec Ideal S2x704x1024 .f32) (ix3 l r d) = mIn m c (ix3 l d r) := by
  rw [entry1]
  pointwise
theorem entry2 : (V m c main_v2 : FVec Ideal S2x704x1024 .f32) = transpose S2x704x1024 [0, 2, 1] (vIn m c) transposes_S2x1024x704_S2x704x1024_0_2_1 := by
  show StableHlo.after hostOps0 (fun b => m (c, b)) main_v2 = _
  simp only [hostOps0, List.flatten_cons, List.flatten_nil, List.append_nil, List.cons_append, List.nil_append]
  after_results_simp <;> rfl

theorem entry2_at (l : Fin 2) (r : Fin 704) (d : Fin 1024) : (V m c main_v2 : FVec Ideal S2x704x1024 .f32) (ix3 l r d) = vIn m c (ix3 l d r) := by
  rw [entry2]
  pointwise

/-- The layer of a point and the row of a block's row. -/
def layer (t : Fin cfg0.N) : Fin 2 := ⟨t.val / 2, by have h : t.val < 4 := t.isLt; omega⟩
def row (t : Fin cfg0.N) (r : Fin 352) : Fin 704 := ⟨352 * (t.val % 2) + r.val, by have h : t.val < 4 := t.isLt; have h' := r.isLt; omega⟩

theorem idx0 : ∀ t : Fin cfg0.N, win0_0.index t = ![t.val / 2, t.val % 2, 0] := (by decide +kernel : ∀ t : Fin grid0.N, _)
theorem idx1 : ∀ t : Fin cfg0.N, win0_1.index t = ![t.val / 2, t.val % 2, 0] := (by decide +kernel : ∀ t : Fin grid0.N, _)
theorem idx2 : ∀ t : Fin cfg0.N, win0_2.index t = ![t.val / 2, t.val % 2, 0] := (by decide +kernel : ∀ t : Fin grid0.N, _)
theorem idx5 : ∀ t : Fin cfg0.N, win0_5.index t = ![t.val / 2, t.val % 2, 0] := (by decide +kernel : ∀ t : Fin grid0.N, _)
theorem idx6 : ∀ t : Fin cfg0.N, win0_6.index t = ![t.val / 2, t.val % 2, 0] := (by decide +kernel : ∀ t : Fin grid0.N, _)
theorem idx7 : ∀ t : Fin cfg0.N, win0_7.index t = ![t.val / 2, t.val % 2, 0] := (by decide +kernel : ∀ t : Fin grid0.N, _)
theorem idx8 : ∀ t : Fin cfg0.N, win0_8.index t = ![t.val / 2, t.val % 2, 0] := (by decide +kernel : ∀ t : Fin grid0.N, _)
theorem idx3 : ∀ t : Fin cfg0.N, t.val / 2 = 0 → win0_3.index t = ![t.val % 2, 0] := (by decide +kernel : ∀ t : Fin grid0.N, _)
theorem idx4 : ∀ t : Fin cfg0.N, t.val / 2 = 1 → win0_4.index t = ![t.val % 2, 0] := (by decide +kernel : ∀ t : Fin grid0.N, _)
theorem coord : ∀ t : Fin cfg0.N, (grid0.coords t 0).val = t.val / 2 := (by decide +kernel : ∀ t : Fin grid0.N, _)

/-! The blocks read. -/

theorem blk0 (t : Fin cfg0.N) (r : Fin 352) (d : Fin 1024) : iblk m c 0 t (ix3 0 r d) = wIn m c (ix3 (layer t) d (row t r)) := by
  rw [← entry0_at]
  blk_ext [iblk, idx0 t, layer, row]
theorem blk1 (t : Fin cfg0.N) (r : Fin 352) (d : Fin 1024) : iblk m c 1 t (ix3 0 r d) = mIn m c (ix3 (layer t) d (row t r)) := by
  rw [← entry1_at]
  blk_ext [iblk, idx1 t, layer, row]
theorem blk2 (t : Fin cfg0.N) (r : Fin 352) (d : Fin 1024) : iblk m c 2 t (ix3 0 r d) = vIn m c (ix3 (layer t) d (row t r)) := by
  rw [← entry2_at]
  blk_ext [iblk, idx2 t, layer, row]
theorem blk3 (t : Fin cfg0.N) (h : t.val / 2 = 0) (r : Fin 352) (d : Fin 1024) : iblk m c 3 t (ix2 r d) = g0In m c (ix2 (row t r) d) := by
  blk_ext [iblk, idx3 t h, row]
theorem blk4 (t : Fin cfg0.N) (h : t.val / 2 = 1) (r : Fin 352) (d : Fin 1024) : iblk m c 4 t (ix2 r d) = g1In m c (ix2 (row t r) d) := by
  blk_ext [iblk, idx4 t h, row]

/-- The gradient, by layers. -/
def gAt (l : Fin 2) (r : Fin 704) (d : Fin 1024) : EReal := if l.val < 1 then g0In m c (ix2 r d) else g1In m c (ix2 r d)
/-- The result `delta`. -/
def deltaAt (l : Fin 2) (r : Fin 704) (d : Fin 1024) : EReal := change (wIn m c (ix3 l d r)) (gAt m c l r d) (mIn m c (ix3 l d r)) (vIn m c (ix3 l d r))
/-- The result `mean`. -/
def meanAt (l : Fin 2) (r : Fin 704) (d : Fin 1024) : EReal := mean (gAt m c l r d) (mIn m c (ix3 l d r))
/-- The result `square`. -/
def squareAt (l : Fin 2) (r : Fin 704) (d : Fin 1024) : EReal := square (gAt m c l r d) (vIn m c (ix3 l d r))

theorem picked (t : Fin cfg0.N) (r : Fin 352) (d : Fin 1024) :
    k0_pay5 (F := Ideal) (grid0.coords t) (iblk m c 3 t) (iblk m c 4 t) (ix2 r d) = gAt m c (layer t) (row t r) d := by
  have ht : t.val < 4 := t.isLt
  by_cases h : t.val / 2 = 0
  · refine Eq.trans ?_ ((blk3 m c t h r d).trans (if_pos (show t.val / 2 < 1 by omega)).symm)
    unfold k0_pay5
    rw [coord t, h]
    rfl
  · have h1 : t.val / 2 = 1 := by omega
    refine Eq.trans ?_ ((blk4 m c t h1 r d).trans (if_neg (show ¬t.val / 2 < 1 by omega)).symm)
    unfold k0_pay5
    rw [coord t, h1]
    rfl

theorem emb5 (t : Fin cfg0.N) (y : S1x352x1024.Idx) : (win0_5.blk t).view.emb y = ix3 (layer t) (row t (y 1)) (y 2) := by
  blk_ext [idx5 t, layer, row]

theorem at_grad (t : Fin cfg0.N) (r : Fin 352) (d : Fin 1024) :
    out0_5 (F := Ideal) (grid0.coords t) (iblk m c 0 t) (iblk m c 1 t) (iblk m c 2 t) (iblk m c 3 t) (iblk m c 4 t) (ix3 0 r d) = gAt m c (layer t) (row t r) d := by
  rw [out_grad, picked]

theorem fin5 : (dats m 0 c).arrAt 5 cfg0.N = fun i : S2x704x1024.Idx => gAt m c (i 0) (i 1) (i 2) := by
  refine (dats m 0 c).arrAt_eq_of_covers 5 _ (by decide +kernel) fun t hf y => ?_
  blk_simp
  rw [after0_5, emb5 t y]
  exact (congrArg _ (Cert.Chain.Pay.ix3_of _ _ y)).trans (at_grad m c t (y 1) (y 2))

theorem emb6 (t : Fin cfg0.N) (y : S1x352x1024.Idx) : (win0_6.blk t).view.emb y = ix3 (layer t) (row t (y 1)) (y 2) := by
  blk_ext [idx6 t, layer, row]

theorem at_delta (t : Fin cfg0.N) (r : Fin 352) (d : Fin 1024) :
    out0_6 (F := Ideal) (grid0.coords t) (iblk m c 0 t) (iblk m c 1 t) (iblk m c 2 t) (iblk m c 3 t) (iblk m c 4 t) (ix3 0 r d) = deltaAt m c (layer t) (row t r) d := by
  rw [out_delta, picked, blk0, blk1, blk2]
  rfl

theorem fin6 : (dats m 0 c).arrAt 6 cfg0.N = fun i : S2x704x1024.Idx => deltaAt m c (i 0) (i 1) (i 2) := by
  refine (dats m 0 c).arrAt_eq_of_covers 6 _ (by decide +kernel) fun t hf y => ?_
  blk_simp
  rw [after0_6, emb6 t y]
  exact (congrArg _ (Cert.Chain.Pay.ix3_of _ _ y)).trans (at_delta m c t (y 1) (y 2))

theorem emb7 (t : Fin cfg0.N) (y : S1x352x1024.Idx) : (win0_7.blk t).view.emb y = ix3 (layer t) (row t (y 1)) (y 2) := by
  blk_ext [idx7 t, layer, row]

theorem at_mean (t : Fin cfg0.N) (r : Fin 352) (d : Fin 1024) :
    out0_7 (F := Ideal) (grid0.coords t) (iblk m c 0 t) (iblk m c 1 t) (iblk m c 2 t) (iblk m c 3 t) (iblk m c 4 t) (ix3 0 r d) = meanAt m c (layer t) (row t r) d := by
  rw [out_mean, picked, blk1]
  rfl

theorem fin7 : (dats m 0 c).arrAt 7 cfg0.N = fun i : S2x704x1024.Idx => meanAt m c (i 0) (i 1) (i 2) := by
  refine (dats m 0 c).arrAt_eq_of_covers 7 _ (by decide +kernel) fun t hf y => ?_
  blk_simp
  rw [after0_7, emb7 t y]
  exact (congrArg _ (Cert.Chain.Pay.ix3_of _ _ y)).trans (at_mean m c t (y 1) (y 2))

theorem emb8 (t : Fin cfg0.N) (y : S1x352x1024.Idx) : (win0_8.blk t).view.emb y = ix3 (layer t) (row t (y 1)) (y 2) := by
  blk_ext [idx8 t, layer, row]

theorem at_square (t : Fin cfg0.N) (r : Fin 352) (d : Fin 1024) :
    out0_8 (F := Ideal) (grid0.coords t) (iblk m c 0 t) (iblk m c 1 t) (iblk m c 2 t) (iblk m c 3 t) (iblk m c 4 t) (ix3 0 r d) = squareAt m c (layer t) (row t r) d := by
  rw [out_square, picked, blk2]
  rfl

theorem fin8 : (dats m 0 c).arrAt 8 cfg0.N = fun i : S2x704x1024.Idx => squareAt m c (i 0) (i 1) (i 2) := by
  refine (dats m 0 c).arrAt_eq_of_covers 8 _ (by decide +kernel) fun t hf y => ?_
  blk_simp
  rw [after0_8, emb8 t y]
  exact (congrArg _ (Cert.Chain.Pay.ix3_of _ _ y)).trans (at_square m c t (y 1) (y 2))

end Cert.Adam4

end
-- ==== Proof.Adam4Alg.lean ====
module

public import proofs.«01_k».proof.Defs
public import proofs.«01_k».proof.Proof.Adam4
public import proofs.«01_k».proof.Proof.Gen.Reference4Ideal.Run

@[expose] public section

set_option maxRecDepth 16384

noncomputable section

/-! The AdamW step of the weights of the gates and of the up projections and its reference end with the same results. -/

namespace Cert.Adam4

open Idealize.ShloMosaic Idealize.ShloMosaic.TcCoe Idealize.SL.Sem
open Cert.AdamSpec

attribute [local instance] Cert.Kernel4Ideal.Gen.facts Cert.Reference4Ideal.Gen.facts

theorem frame_reference : Cert.quiescent_Reference4Ideal := fun m ρ _ =>
  (θ_run Cert.Reference4Ideal.defs _ _).mono
    (fun r h => ⟨fun c => (h c).2.2.2.2, sem_eq_zero_of_no_sems (by decide) r.2⟩)
    (Cert.Reference4Ideal.Value.run (F := Ideal) m ρ)

theorem algebraic : Cert.algebraic_Kernel4Ideal_Reference4Ideal := by
  intro m g m' g' hp he
  refine ⟨fun c => (Cert.Kernel4Ideal.Gen.dats m 0 c).arrAt 5 Cert.Kernel4Ideal.cfg0.N, fun c => (Cert.Kernel4Ideal.Gen.dats m 0 c).arrAt 6 Cert.Kernel4Ideal.cfg0.N, fun c => (Cert.Kernel4Ideal.Gen.dats m 0 c).arrAt 7 Cert.Kernel4Ideal.cfg0.N, fun c => (Cert.Kernel4Ideal.Gen.dats m 0 c).arrAt 8 Cert.Kernel4Ideal.cfg0.N, Cert.Kernel4Ideal.Value.run_blocks m g, ?_⟩
  refine (θ_run _ _ _).mono (fun r h c => ?_) (Cert.Reference4Ideal.Value.run m' g')
  obtain ⟨h0, h1, h2, h3, hargs⟩ := h c
  obtain ⟨e0, e1, e2, e3, e4⟩ := he c
  refine ⟨h0.trans ?_, h1.trans ?_, h2.trans ?_, h3.trans ?_, hargs⟩
  · rw [e3, e4]
    refine Eq.trans ?_ (fin5 m c).symm
    funext i
    rw [eq_ix3 i]
    pointwise [gAt]
    try rfl
  · rw [e0, e1, e2, e3, e4]
    refine Eq.trans ?_ (fin6 m c).symm
    funext i
    rw [eq_ix3 i]
    pointwise [deltaAt, change, mean, square, gAt]
    try rfl
  · rw [e1, e3, e4]
    refine Eq.trans ?_ (fin7 m c).symm
    funext i
    rw [eq_ix3 i]
    pointwise [meanAt, mean, gAt]
    try rfl
  · rw [e2, e3, e4]
    refine Eq.trans ?_ (fin8 m c).symm
    funext i
    rw [eq_ix3 i]
    pointwise [squareAt, square, gAt]
    try rfl

end Cert.Adam4

end
-- ==== Proof.Adam5.lean ====
module

public import proofs.«01_k».proof.Proof.Gen.Kernel5Ideal.Value
public import proofs.«01_k».proof.Proof.AdamSpec
public import proofs.«01_k».proof.Proof.FwdPay
public import Idealize.ShloMosaic.Lib.Pipeline.ValueKit

@[expose] public section

set_option maxRecDepth 16384

noncomputable section

/-! One AdamW step of the down weights: the four results at the end of the call. -/

namespace Cert.Adam5

open Cert.Kernel5Ideal Cert.Kernel5Ideal.Gen
open Idealize.ShloMosaic Idealize.ShloMosaic.TcCoe
open Cert.AdamSpec

/-! What a point leaves, number by number. -/

variable (k : grid0.Coords) (x0 x1 x2 : FVec Ideal S1x352x1024 .f32) (x3 x4 : FVec Ideal S352x1024 .f32) (r : Fin 352) (d : Fin 1024)

theorem out_grad : out0_5 (F := Ideal) k x0 x1 x2 x3 x4 (ix3 0 r d) = k0_pay5 (F := Ideal) k x3 x4 (ix2 r d) := by
  unfold out0_5
  rw [View.canon_unit_zero (by decide)]
  (repeat rw [View.ld_unit_zero (by decide)])
  pointwise [k0_pay1]
  try rfl

theorem out_delta : out0_6 (F := Ideal) k x0 x1 x2 x3 x4 (ix3 0 r d) = change (x0 (ix3 0 r d)) (k0_pay5 (F := Ideal) k x3 x4 (ix2 r d)) (x1 (ix3 0 r d)) (x2 (ix3 0 r d)) := by
  unfold out0_6
  rw [View.canon_unit_zero (by decide)]
  (repeat rw [View.ld_unit_zero (by decide)])
  pointwise [k0_pay2, k0_pay8, k0_pay6, k0_pay7]
  try rfl

theorem out_mean : out0_7 (F := Ideal) k x0 x1 x2 x3 x4 (ix3 0 r d) = mean (k0_pay5 (F := Ideal) k x3 x4 (ix2 r d)) (x1 (ix3 0 r d)) := by
  unfold out0_7
  rw [View.canon_unit_zero (by decide)]
  (repeat rw [View.ld_unit_zero (by decide)])
  pointwise [k0_pay3, k0_pay6]
  try rfl

theorem out_square : out0_8 (F := Ideal) k x0 x1 x2 x3 x4 (ix3 0 r d) = square (k0_pay5 (F := Ideal) k x3 x4 (ix2 r d)) (x2 (ix3 0 r d)) := by
  unfold out0_8
  rw [View.canon_unit_zero (by decide)]
  (repeat rw [View.ld_unit_zero (by decide)])
  pointwise [k0_pay4, k0_pay7]
  try rfl

variable (m : (ℓ : Loc nD τ sig) → Buf (Elt Ideal) ℓ) (c : Dev nD)

/-- The arguments as launched. -/
abbrev wIn : FVec Ideal S2x704x1024 .f32 := m ((c : Thread nD τ).loc main_arg0)
abbrev mIn : FVec Ideal S2x704x1024 .f32 := m ((c : Thread nD τ).loc main_arg1)
abbrev vIn : FVec Ideal S2x704x1024 .f32 := m ((c : Thread nD τ).loc main_arg2)
abbrev g0In : FVec Ideal S704x1024 .f32 := m ((c : Thread nD τ).loc main_arg3)
abbrev g1In : FVec Ideal S704x1024 .f32 := m ((c : Thread nD τ).loc main_arg4)

/-- The layer of a point and the row of a block's row. -/
def layer (t : Fin cfg0.N) : Fin 2 := ⟨t.val / 2, by have h : t.val < 4 := t.isLt; omega⟩
def row (t : Fin cfg0.N) (r : Fin 352) : Fin 704 := ⟨352 * (t.val % 2) + r.val, by have h : t.val < 4 := t.isLt; have h' := r.isLt; omega⟩

theorem idx0 : ∀ t : Fin cfg0.N, win0_0.index t = ![t.val / 2, t.val % 2, 0] := (by decide +kernel : ∀ t : Fin grid0.N, _)
theorem idx1 : ∀ t : Fin cfg0.N, win0_1.index t = ![t.val / 2, t.val % 2, 0] := (by decide +kernel : ∀ t : Fin grid0.N, _)
theorem idx2 : ∀ t : Fin cfg0.N, win0_2.index t = ![t.val / 2, t.val % 2, 0] := (by decide +kernel : ∀ t : Fin grid0.N, _)
theorem idx5 : ∀ t : Fin cfg0.N, win0_5.index t = ![t.val / 2, t.val % 2, 0] := (by decide +kernel : ∀ t : Fin grid0.N, _)
theorem idx6 : ∀ t : Fin cfg0.N, win0_6.index t = ![t.val / 2, t.val % 2, 0] := (by decide +kernel : ∀ t : Fin grid0.N, _)
theorem idx7 : ∀ t : Fin cfg0.N, win0_7.index t = ![t.val / 2, t.val % 2, 0] := (by decide +kernel : ∀ t : Fin grid0.N, _)
theorem idx8 : ∀ t : Fin cfg0.N, win0_8.index t = ![t.val / 2, t.val % 2, 0] := (by decide +kernel : ∀ t : Fin grid0.N, _)
theorem idx3 : ∀ t : Fin cfg0.N, t.val / 2 = 0 → win0_3.index t = ![t.val % 2, 0] := (by decide +kernel : ∀ t : Fin grid0.N, _)
theorem idx4 : ∀ t : Fin cfg0.N, t.val / 2 = 1 → win0_4.index t = ![t.val % 2, 0] := (by decide +kernel : ∀ t : Fin grid0.N, _)
theorem coord : ∀ t : Fin cfg0.N, (grid0.coords t 0).val = t.val / 2 := (by decide +kernel : ∀ t : Fin grid0.N, _)

/-! The blocks read. -/

theorem blk0 (t : Fin cfg0.N) (r : Fin 352) (d : Fin 1024) : iblk m c 0 t (ix3 0 r d) = wIn m c (ix3 (layer t) (row t r) d) := by
  blk_ext [iblk, idx0 t, layer, row]
theorem blk1 (t : Fin cfg0.N) (r : Fin 352) (d : Fin 1024) : iblk m c 1 t (ix3 0 r d) = mIn m c (ix3 (layer t) (row t r) d) := by
  blk_ext [iblk, idx1 t, layer, row]
theorem blk2 (t : Fin cfg0.N) (r : Fin 352) (d : Fin 1024) : iblk m c 2 t (ix3 0 r d) = vIn m c (ix3 (layer t) (row t r) d) := by
  blk_ext [iblk, idx2 t, layer, row]
theorem blk3 (t : Fin cfg0.N) (h : t.val / 2 = 0) (r : Fin 352) (d : Fin 1024) : iblk m c 3 t (ix2 r d) = g0In m c (ix2 (row t r) d) := by
  blk_ext [iblk, idx3 t h, row]
theorem blk4 (t : Fin cfg0.N) (h : t.val / 2 = 1) (r : Fin 352) (d : Fin 1024) : iblk m c 4 t (ix2 r d) = g1In m c (ix2 (row t r) d) := by
  blk_ext [iblk, idx4 t h, row]

/-- The gradient, by layers. -/
def gAt (l : Fin 2) (r : Fin 704) (d : Fin 1024) : EReal := if l.val < 1 then g0In m c (ix2 r d) else g1In m c (ix2 r d)
/-- The result `delta`. -/
def deltaAt (l : Fin 2) (r : Fin 704) (d : Fin 1024) : EReal := change (wIn m c (ix3 l r d)) (gAt m c l r d) (mIn m c (ix3 l r d)) (vIn m c (ix3 l r d))
/-- The result `mean`. -/
def meanAt (l : Fin 2) (r : Fin 704) (d : Fin 1024) : EReal := mean (gAt m c l r d) (mIn m c (ix3 l r d))
/-- The result `square`. -/
def squareAt (l : Fin 2) (r : Fin 704) (d : Fin 1024) : EReal := square (gAt m c l r d) (vIn m c (ix3 l r d))

theorem picked (t : Fin cfg0.N) (r : Fin 352) (d : Fin 1024) :
    k0_pay5 (F := Ideal) (grid0.coords t) (iblk m c 3 t) (iblk m c 4 t) (ix2 r d) = gAt m c (layer t) (row t r) d := by
  have ht : t.val < 4 := t.isLt
  by_cases h : t.val / 2 = 0
  · refine Eq.trans ?_ ((blk3 m c t h r d).trans (if_pos (show t.val / 2 < 1 by omega)).symm)
    unfold k0_pay5
    rw [coord t, h]
    rfl
  · have h1 : t.val / 2 = 1 := by omega
    refine Eq.trans ?_ ((blk4 m c t h1 r d).trans (if_neg (show ¬t.val / 2 < 1 by omega)).symm)
    unfold k0_pay5
    rw [coord t, h1]
    rfl

theorem emb5 (t : Fin cfg0.N) (y : S1x352x1024.Idx) : (win0_5.blk t).view.emb y = ix3 (layer t) (row t (y 1)) (y 2) := by
  blk_ext [idx5 t, layer, row]

theorem at_grad (t : Fin cfg0.N) (r : Fin 352) (d : Fin 1024) :
    out0_5 (F := Ideal) (grid0.coords t) (iblk m c 0 t) (iblk m c 1 t) (iblk m c 2 t) (iblk m c 3 t) (iblk m c 4 t) (ix3 0 r d) = gAt m c (layer t) (row t r) d := by
  rw [out_grad, picked]

theorem fin5 : (dats m 0 c).arrAt 5 cfg0.N = fun i : S2x704x1024.Idx => gAt m c (i 0) (i 1) (i 2) := by
  refine (dats m 0 c).arrAt_eq_of_covers 5 _ (by decide +kernel) fun t hf y => ?_
  blk_simp
  rw [after0_5, emb5 t y]
  exact (congrArg _ (Cert.Chain.Pay.ix3_of _ _ y)).trans (at_grad m c t (y 1) (y 2))

theorem emb6 (t : Fin cfg0.N) (y : S1x352x1024.Idx) : (win0_6.blk t).view.emb y = ix3 (layer t) (row t (y 1)) (y 2) := by
  blk_ext [idx6 t, layer, row]

theorem at_delta (t : Fin cfg0.N) (r : Fin 352) (d : Fin 1024) :
    out0_6 (F := Ideal) (grid0.coords t) (iblk m c 0 t) (iblk m c 1 t) (iblk m c 2 t) (iblk m c 3 t) (iblk m c 4 t) (ix3 0 r d) = deltaAt m c (layer t) (row t r) d := by
  rw [out_delta, picked, blk0, blk1, blk2]
  rfl

theorem fin6 : (dats m 0 c).arrAt 6 cfg0.N = fun i : S2x704x1024.Idx => deltaAt m c (i 0) (i 1) (i 2) := by
  refine (dats m 0 c).arrAt_eq_of_covers 6 _ (by decide +kernel) fun t hf y => ?_
  blk_simp
  rw [after0_6, emb6 t y]
  exact (congrArg _ (Cert.Chain.Pay.ix3_of _ _ y)).trans (at_delta m c t (y 1) (y 2))

theorem emb7 (t : Fin cfg0.N) (y : S1x352x1024.Idx) : (win0_7.blk t).view.emb y = ix3 (layer t) (row t (y 1)) (y 2) := by
  blk_ext [idx7 t, layer, row]

theorem at_mean (t : Fin cfg0.N) (r : Fin 352) (d : Fin 1024) :
    out0_7 (F := Ideal) (grid0.coords t) (iblk m c 0 t) (iblk m c 1 t) (iblk m c 2 t) (iblk m c 3 t) (iblk m c 4 t) (ix3 0 r d) = meanAt m c (layer t) (row t r) d := by
  rw [out_mean, picked, blk1]
  rfl

theorem fin7 : (dats m 0 c).arrAt 7 cfg0.N = fun i : S2x704x1024.Idx => meanAt m c (i 0) (i 1) (i 2) := by
  refine (dats m 0 c).arrAt_eq_of_covers 7 _ (by decide +kernel) fun t hf y => ?_
  blk_simp
  rw [after0_7, emb7 t y]
  exact (congrArg _ (Cert.Chain.Pay.ix3_of _ _ y)).trans (at_mean m c t (y 1) (y 2))

theorem emb8 (t : Fin cfg0.N) (y : S1x352x1024.Idx) : (win0_8.blk t).view.emb y = ix3 (layer t) (row t (y 1)) (y 2) := by
  blk_ext [idx8 t, layer, row]

theorem at_square (t : Fin cfg0.N) (r : Fin 352) (d : Fin 1024) :
    out0_8 (F := Ideal) (grid0.coords t) (iblk m c 0 t) (iblk m c 1 t) (iblk m c 2 t) (iblk m c 3 t) (iblk m c 4 t) (ix3 0 r d) = squareAt m c (layer t) (row t r) d := by
  rw [out_square, picked, blk2]
  rfl

theorem fin8 : (dats m 0 c).arrAt 8 cfg0.N = fun i : S2x704x1024.Idx => squareAt m c (i 0) (i 1) (i 2) := by
  refine (dats m 0 c).arrAt_eq_of_covers 8 _ (by decide +kernel) fun t hf y => ?_
  blk_simp
  rw [after0_8, emb8 t y]
  exact (congrArg _ (Cert.Chain.Pay.ix3_of _ _ y)).trans (at_square m c t (y 1) (y 2))

end Cert.Adam5

end
-- ==== Proof.Adam5Alg.lean ====
module

public import proofs.«01_k».proof.Defs
public import proofs.«01_k».proof.Proof.Adam5
public import proofs.«01_k».proof.Proof.Gen.Reference5Ideal.Run

@[expose] public section

set_option maxRecDepth 16384

noncomputable section

/-! The AdamW step of the down weights and its reference end with the same results. -/

namespace Cert.Adam5

open Idealize.ShloMosaic Idealize.ShloMosaic.TcCoe Idealize.SL.Sem
open Cert.AdamSpec

attribute [local instance] Cert.Kernel5Ideal.Gen.facts Cert.Reference5Ideal.Gen.facts

theorem frame_reference : Cert.quiescent_Reference5Ideal := fun m ρ _ =>
  (θ_run Cert.Reference5Ideal.defs _ _).mono
    (fun r h => ⟨fun c => (h c).2.2.2.2, sem_eq_zero_of_no_sems (by decide) r.2⟩)
    (Cert.Reference5Ideal.Value.run (F := Ideal) m ρ)

theorem algebraic : Cert.algebraic_Kernel5Ideal_Reference5Ideal := by
  intro m g m' g' hp he
  refine ⟨fun c => (Cert.Kernel5Ideal.Gen.dats m 0 c).arrAt 5 Cert.Kernel5Ideal.cfg0.N, fun c => (Cert.Kernel5Ideal.Gen.dats m 0 c).arrAt 6 Cert.Kernel5Ideal.cfg0.N, fun c => (Cert.Kernel5Ideal.Gen.dats m 0 c).arrAt 7 Cert.Kernel5Ideal.cfg0.N, fun c => (Cert.Kernel5Ideal.Gen.dats m 0 c).arrAt 8 Cert.Kernel5Ideal.cfg0.N, Cert.Kernel5Ideal.Value.run_blocks m g, ?_⟩
  refine (θ_run _ _ _).mono (fun r h c => ?_) (Cert.Reference5Ideal.Value.run m' g')
  obtain ⟨h0, h1, h2, h3, hargs⟩ := h c
  obtain ⟨e0, e1, e2, e3, e4⟩ := he c
  refine ⟨h0.trans ?_, h1.trans ?_, h2.trans ?_, h3.trans ?_, hargs⟩
  · rw [e3, e4]
    refine Eq.trans ?_ (fin5 m c).symm
    funext i
    rw [eq_ix3 i]
    pointwise [gAt]
    try rfl
  · rw [e0, e1, e2, e3, e4]
    refine Eq.trans ?_ (fin6 m c).symm
    funext i
    rw [eq_ix3 i]
    pointwise [deltaAt, change, mean, square, gAt]
    try rfl
  · rw [e1, e3, e4]
    refine Eq.trans ?_ (fin7 m c).symm
    funext i
    rw [eq_ix3 i]
    pointwise [meanAt, mean, gAt]
    try rfl
  · rw [e2, e3, e4]
    refine Eq.trans ?_ (fin8 m c).symm
    funext i
    rw [eq_ix3 i]
    pointwise [squareAt, square, gAt]
    try rfl

end Cert.Adam5

end
-- ==== Proof.Adam6.lean ====
module

public import proofs.«01_k».proof.Proof.Gen.Kernel6Ideal.Value
public import proofs.«01_k».proof.Proof.AdamSpec
public import proofs.«01_k».proof.Proof.FwdPay
public import Idealize.ShloMosaic.Lib.Pipeline.ValueKit

@[expose] public section

set_option maxRecDepth 16384

noncomputable section

/-! One AdamW step of the even blocks’ input weights: the four results at the end of the call. -/

namespace Cert.Adam6

open Cert.Kernel6Ideal Cert.Kernel6Ideal.Gen
open Idealize.ShloMosaic Idealize.ShloMosaic.TcCoe
open Cert.AdamSpec

/-! What a point leaves, number by number. -/

variable (x0 x1 x2 : FVec Ideal S1x208x1024 .f32) (x3 : FVec Ideal S208x1024 .f32) (r : Fin 208) (d : Fin 1024)

theorem out_grad : out0_4 (F := Ideal) x0 x1 x2 x3 (ix3 0 r d) = x3 (ix2 r d) := by
  unfold out0_4
  rw [View.canon_unit_zero (by decide)]
  (repeat rw [View.ld_unit_zero (by decide)])
  pointwise [k0_pay7]
  try rfl

theorem out_delta : out0_5 (F := Ideal) x0 x1 x2 x3 (ix3 0 r d) = change (x0 (ix3 0 r d)) (x3 (ix2 r d)) (x1 (ix3 0 r d)) (x2 (ix3 0 r d)) := by
  unfold out0_5
  rw [View.canon_unit_zero (by decide)]
  (repeat rw [View.ld_unit_zero (by decide)])
  pointwise [k0_pay1, k0_pay6, k0_pay4, k0_pay5]
  try rfl

theorem out_mean : out0_6 (F := Ideal) x0 x1 x2 x3 (ix3 0 r d) = mean (x3 (ix2 r d)) (x1 (ix3 0 r d)) := by
  unfold out0_6
  rw [View.canon_unit_zero (by decide)]
  (repeat rw [View.ld_unit_zero (by decide)])
  pointwise [k0_pay2, k0_pay4]
  try rfl

theorem out_square : out0_7 (F := Ideal) x0 x1 x2 x3 (ix3 0 r d) = square (x3 (ix2 r d)) (x2 (ix3 0 r d)) := by
  unfold out0_7
  rw [View.canon_unit_zero (by decide)]
  (repeat rw [View.ld_unit_zero (by decide)])
  pointwise [k0_pay3, k0_pay5]
  try rfl

variable (m : (ℓ : Loc nD τ sig) → Buf (Elt Ideal) ℓ) (c : Dev nD)

/-- The arguments as launched. -/
abbrev wIn : FVec Ideal S1x1024x832 .f32 := m ((c : Thread nD τ).loc main_arg0)
abbrev mIn : FVec Ideal S1x1024x832 .f32 := m ((c : Thread nD τ).loc main_arg1)
abbrev vIn : FVec Ideal S1x1024x832 .f32 := m ((c : Thread nD τ).loc main_arg2)
abbrev g0In : FVec Ideal S832x1024 .f32 := m ((c : Thread nD τ).loc main_arg3)

/-! The weights and the running means are handed over with rows and columns exchanged. -/

theorem entry0 : (V m c main_v0 : FVec Ideal S1x832x1024 .f32) = transpose S1x832x1024 [0, 2, 1] (wIn m c) transposes_S1x1024x832_S1x832x1024_0_2_1 := by
  show StableHlo.after hostOps0 (fun b => m (c, b)) main_v0 = _
  simp only [hostOps0, List.flatten_cons, List.flatten_nil, List.append_nil, List.cons_append, List.nil_append]
  after_results_simp <;> rfl

theorem entry0_at (l : Fin 1) (r : Fin 832) (d : Fin 1024) : (V m c main_v0 : FVec Ideal S1x832x1024 .f32) (ix3 l r d) = wIn m c (ix3 l d r) := by
  rw [entry0]
  pointwise
  rw [Subsingleton.elim l 0]
theorem entry1 : (V m c main_v1 : FVec Ideal S1x832x1024 .f32) = transpose S1x832x1024 [0, 2, 1] (mIn m c) transposes_S1x1024x832_S1x832x1024_0_2_1 := by
  show StableHlo.after hostOps0 (fun b => m (c, b)) main_v1 = _
  simp only [hostOps0, List.flatten_cons, List.flatten_nil, List.append_nil, List.cons_append, List.nil_append]
  after_results_simp <;> rfl

theorem entry1_at (l : Fin 1) (r : Fin 832) (d : Fin 1024) : (V m c main_v1 : FVec Ideal S1x832x1024 .f32) (ix3 l r d) = mIn m c (ix3 l d r) := by
  rw [entry1]
  pointwise
  rw [Subsingleton.elim l 0]
theorem entry2 : (V m c main_v2 : FVec Ideal S1x832x1024 .f32) = transpose S1x832x1024 [0, 2, 1] (vIn m c) transposes_S1x1024x832_S1x832x1024_0_2_1 := by
  show StableHlo.after hostOps0 (fun b => m (c, b)) main_v2 = _
  simp only [hostOps0, List.flatten_cons, List.flatten_nil, List.append_nil, List.cons_append, List.nil_append]
  after_results_simp <;> rfl

theorem entry2_at (l : Fin 1) (r : Fin 832) (d : Fin 1024) : (V m c main_v2 : FVec Ideal S1x832x1024 .f32) (ix3 l r d) = vIn m c (ix3 l d r) := by
  rw [entry2]
  pointwise
  rw [Subsingleton.elim l 0]

/-- The layer of a point and the row of a block's row. -/
def layer (t : Fin cfg0.N) : Fin 1 := ⟨t.val / 4, by have h : t.val < 4 := t.isLt; omega⟩
def row (t : Fin cfg0.N) (r : Fin 208) : Fin 832 := ⟨208 * (t.val % 4) + r.val, by have h : t.val < 4 := t.isLt; have h' := r.isLt; omega⟩

theorem idx0 : ∀ t : Fin cfg0.N, win0_0.index t = ![t.val / 4, t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![t.val / 4, t.val % 4, 0] := (by decide +kernel : ∀ t : Fin grid0.N, _)
theorem idx4 : ∀ t : Fin cfg0.N, win0_4.index t = ![t.val / 4, t.val % 4, 0] := (by decide +kernel : ∀ t : Fin grid0.N, _)
theorem idx5 : ∀ t : Fin cfg0.N, win0_5.index t = ![t.val / 4, t.val % 4, 0] := (by decide +kernel : ∀ t : Fin grid0.N, _)
theorem idx6 : ∀ t : Fin cfg0.N, win0_6.index t = ![t.val / 4, t.val % 4, 0] := (by decide +kernel : ∀ t : Fin grid0.N, _)
theorem idx7 : ∀ t : Fin cfg0.N, win0_7.index t = ![t.val / 4, t.val % 4, 0] := (by decide +kernel : ∀ t : Fin grid0.N, _)
theorem idx3 : ∀ t : Fin cfg0.N, win0_3.index t = ![t.val % 4, 0] := (by decide +kernel : ∀ t : Fin grid0.N, _)

/-! The blocks read. -/

theorem blk0 (t : Fin cfg0.N) (r : Fin 208) (d : Fin 1024) : iblk m c 0 t (ix3 0 r d) = wIn m c (ix3 (layer t) d (row t r)) := by
  rw [← entry0_at]
  blk_ext [iblk, idx0 t, layer, row]
theorem blk1 (t : Fin cfg0.N) (r : Fin 208) (d : Fin 1024) : iblk m c 1 t (ix3 0 r d) = mIn m c (ix3 (layer t) d (row t r)) := by
  rw [← entry1_at]
  blk_ext [iblk, idx1 t, layer, row]
theorem blk2 (t : Fin cfg0.N) (r : Fin 208) (d : Fin 1024) : iblk m c 2 t (ix3 0 r d) = vIn m c (ix3 (layer t) d (row t r)) := by
  rw [← entry2_at]
  blk_ext [iblk, idx2 t, layer, row]
theorem blk3 (t : Fin cfg0.N) (r : Fin 208) (d : Fin 1024) : iblk m c 3 t (ix2 r d) = g0In m c (ix2 (row t r) d) := by
  blk_ext [iblk, idx3 t, row]

/-- The gradient, by layers. -/
def gAt (l : Fin 1) (r : Fin 832) (d : Fin 1024) : EReal := g0In m c (ix2 r d)
/-- The result `delta`. -/
def deltaAt (l : Fin 1) (r : Fin 832) (d : Fin 1024) : EReal := change (wIn m c (ix3 l d r)) (gAt m c l r d) (mIn m c (ix3 l d r)) (vIn m c (ix3 l d r))
/-- The result `mean`. -/
def meanAt (l : Fin 1) (r : Fin 832) (d : Fin 1024) : EReal := mean (gAt m c l r d) (mIn m c (ix3 l d r))
/-- The result `square`. -/
def squareAt (l : Fin 1) (r : Fin 832) (d : Fin 1024) : EReal := square (gAt m c l r d) (vIn m c (ix3 l d r))

theorem emb4 (t : Fin cfg0.N) (y : S1x208x1024.Idx) : (win0_4.blk t).view.emb y = ix3 (layer t) (row t (y 1)) (y 2) := by
  blk_ext [idx4 t, layer, row]

theorem at_grad (t : Fin cfg0.N) (r : Fin 208) (d : Fin 1024) :
    out0_4 (F := Ideal) (iblk m c 0 t) (iblk m c 1 t) (iblk m c 2 t) (iblk m c 3 t) (ix3 0 r d) = gAt m c (layer t) (row t r) d := by
  rw [out_grad, blk3]
  rfl

theorem fin4 : (dats m 0 c).arrAt 4 cfg0.N = fun i : S1x832x1024.Idx => gAt m c (i 0) (i 1) (i 2) := by
  refine (dats m 0 c).arrAt_eq_of_covers 4 _ (by decide +kernel) fun t hf y => ?_
  blk_simp
  rw [after0_4, emb4 t y]
  exact (congrArg _ (Cert.Chain.Pay.ix3_of _ _ y)).trans (at_grad m c t (y 1) (y 2))

theorem emb5 (t : Fin cfg0.N) (y : S1x208x1024.Idx) : (win0_5.blk t).view.emb y = ix3 (layer t) (row t (y 1)) (y 2) := by
  blk_ext [idx5 t, layer, row]

theorem at_delta (t : Fin cfg0.N) (r : Fin 208) (d : Fin 1024) :
    out0_5 (F := Ideal) (iblk m c 0 t) (iblk m c 1 t) (iblk m c 2 t) (iblk m c 3 t) (ix3 0 r d) = deltaAt m c (layer t) (row t r) d := by
  rw [out_delta, blk3, blk0, blk1, blk2]
  rfl

theorem fin5 : (dats m 0 c).arrAt 5 cfg0.N = fun i : S1x832x1024.Idx => deltaAt m c (i 0) (i 1) (i 2) := by
  refine (dats m 0 c).arrAt_eq_of_covers 5 _ (by decide +kernel) fun t hf y => ?_
  blk_simp
  rw [after0_5, emb5 t y]
  exact (congrArg _ (Cert.Chain.Pay.ix3_of _ _ y)).trans (at_delta m c t (y 1) (y 2))

theorem emb6 (t : Fin cfg0.N) (y : S1x208x1024.Idx) : (win0_6.blk t).view.emb y = ix3 (layer t) (row t (y 1)) (y 2) := by
  blk_ext [idx6 t, layer, row]

theorem at_mean (t : Fin cfg0.N) (r : Fin 208) (d : Fin 1024) :
    out0_6 (F := Ideal) (iblk m c 0 t) (iblk m c 1 t) (iblk m c 2 t) (iblk m c 3 t) (ix3 0 r d) = meanAt m c (layer t) (row t r) d := by
  rw [out_mean, blk3, blk1]
  rfl

theorem fin6 : (dats m 0 c).arrAt 6 cfg0.N = fun i : S1x832x1024.Idx => meanAt m c (i 0) (i 1) (i 2) := by
  refine (dats m 0 c).arrAt_eq_of_covers 6 _ (by decide +kernel) fun t hf y => ?_
  blk_simp
  rw [after0_6, emb6 t y]
  exact (congrArg _ (Cert.Chain.Pay.ix3_of _ _ y)).trans (at_mean m c t (y 1) (y 2))

theorem emb7 (t : Fin cfg0.N) (y : S1x208x1024.Idx) : (win0_7.blk t).view.emb y = ix3 (layer t) (row t (y 1)) (y 2) := by
  blk_ext [idx7 t, layer, row]

theorem at_square (t : Fin cfg0.N) (r : Fin 208) (d : Fin 1024) :
    out0_7 (F := Ideal) (iblk m c 0 t) (iblk m c 1 t) (iblk m c 2 t) (iblk m c 3 t) (ix3 0 r d) = squareAt m c (layer t) (row t r) d := by
  rw [out_square, blk3, blk2]
  rfl

theorem fin7 : (dats m 0 c).arrAt 7 cfg0.N = fun i : S1x832x1024.Idx => squareAt m c (i 0) (i 1) (i 2) := by
  refine (dats m 0 c).arrAt_eq_of_covers 7 _ (by decide +kernel) fun t hf y => ?_
  blk_simp
  rw [after0_7, emb7 t y]
  exact (congrArg _ (Cert.Chain.Pay.ix3_of _ _ y)).trans (at_square m c t (y 1) (y 2))

end Cert.Adam6

end
-- ==== Proof.Adam6Alg.lean ====
module

public import proofs.«01_k».proof.Defs
public import proofs.«01_k».proof.Proof.Adam6
public import proofs.«01_k».proof.Proof.Gen.Reference6Ideal.Run

@[expose] public section

set_option maxRecDepth 16384

noncomputable section

/-! The AdamW step of the even blocks’ input weights and its reference end with the same results. -/

namespace Cert.Adam6

open Idealize.ShloMosaic Idealize.ShloMosaic.TcCoe Idealize.SL.Sem
open Cert.AdamSpec

attribute [local instance] Cert.Kernel6Ideal.Gen.facts Cert.Reference6Ideal.Gen.facts

theorem frame_reference : Cert.quiescent_Reference6Ideal := fun m ρ _ =>
  (θ_run Cert.Reference6Ideal.defs _ _).mono
    (fun r h => ⟨fun c => (h c).2.2.2.2, sem_eq_zero_of_no_sems (by decide) r.2⟩)
    (Cert.Reference6Ideal.Value.run (F := Ideal) m ρ)

theorem algebraic : Cert.algebraic_Kernel6Ideal_Reference6Ideal := by
  intro m g m' g' hp he
  refine ⟨fun c => (Cert.Kernel6Ideal.Gen.dats m 0 c).arrAt 4 Cert.Kernel6Ideal.cfg0.N, fun c => (Cert.Kernel6Ideal.Gen.dats m 0 c).arrAt 5 Cert.Kernel6Ideal.cfg0.N, fun c => (Cert.Kernel6Ideal.Gen.dats m 0 c).arrAt 6 Cert.Kernel6Ideal.cfg0.N, fun c => (Cert.Kernel6Ideal.Gen.dats m 0 c).arrAt 7 Cert.Kernel6Ideal.cfg0.N, Cert.Kernel6Ideal.Value.run_blocks m g, ?_⟩
  refine (θ_run _ _ _).mono (fun r h c => ?_) (Cert.Reference6Ideal.Value.run m' g')
  obtain ⟨h0, h1, h2, h3, hargs⟩ := h c
  obtain ⟨e0, e1, e2, e3⟩ := he c
  refine ⟨h0.trans ?_, h1.trans ?_, h2.trans ?_, h3.trans ?_, hargs⟩
  · rw [e3]
    refine Eq.trans ?_ (fin4 m c).symm
    funext i
    obtain ⟨q, d, rfl⟩ : ∃ (q : Fin 832) (d : Fin 1024), i = ix3 0 q d := ⟨i 1, i 2, (eq_ix3 i).trans (congrArg (fun l : Fin 1 => ix3 l (i 1) (i 2)) (Subsingleton.elim _ _))⟩
    pointwise [gAt]
    try rfl
  · rw [e0, e1, e2, e3]
    refine Eq.trans ?_ (fin5 m c).symm
    funext i
    obtain ⟨q, d, rfl⟩ : ∃ (q : Fin 832) (d : Fin 1024), i = ix3 0 q d := ⟨i 1, i 2, (eq_ix3 i).trans (congrArg (fun l : Fin 1 => ix3 l (i 1) (i 2)) (Subsingleton.elim _ _))⟩
    pointwise [deltaAt, change, mean, square, gAt]
    try rfl
  · rw [e1, e3]
    refine Eq.trans ?_ (fin6 m c).symm
    funext i
    obtain ⟨q, d, rfl⟩ : ∃ (q : Fin 832) (d : Fin 1024), i = ix3 0 q d := ⟨i 1, i 2, (eq_ix3 i).trans (congrArg (fun l : Fin 1 => ix3 l (i 1) (i 2)) (Subsingleton.elim _ _))⟩
    pointwise [meanAt, mean, gAt]
    try rfl
  · rw [e2, e3]
    refine Eq.trans ?_ (fin7 m c).symm
    funext i
    obtain ⟨q, d, rfl⟩ : ∃ (q : Fin 832) (d : Fin 1024), i = ix3 0 q d := ⟨i 1, i 2, (eq_ix3 i).trans (congrArg (fun l : Fin 1 => ix3 l (i 1) (i 2)) (Subsingleton.elim _ _))⟩
    pointwise [squareAt, square, gAt]
    try rfl

end Cert.Adam6

end
-- ==== Proof.Adam7.lean ====
module

public import proofs.«01_k».proof.Proof.Gen.Kernel7Ideal.Value
public import proofs.«01_k».proof.Proof.AdamSpec
public import proofs.«01_k».proof.Proof.FwdPay
public import Idealize.ShloMosaic.Lib.Pipeline.ValueKit

@[expose] public section

set_option maxRecDepth 16384

noncomputable section

/-! One AdamW step of the output weights: the four results at the end of the call. -/

namespace Cert.Adam7

open Cert.Kernel7Ideal Cert.Kernel7Ideal.Gen
open Idealize.ShloMosaic Idealize.ShloMosaic.TcCoe
open Cert.AdamSpec

/-! What a point leaves, number by number. -/

variable (x0 x1 x2 : FVec Ideal S1x128x1024 .f32) (x3 : FVec Ideal S128x1024 .f32) (r : Fin 128) (d : Fin 1024)

theorem out_grad : out0_4 (F := Ideal) x0 x1 x2 x3 (ix3 0 r d) = x3 (ix2 r d) := by
  unfold out0_4
  rw [View.canon_unit_zero (by decide)]
  (repeat rw [View.ld_unit_zero (by decide)])
  pointwise [k0_pay7]
  try rfl

theorem out_delta : out0_5 (F := Ideal) x0 x1 x2 x3 (ix3 0 r d) = change (x0 (ix3 0 r d)) (x3 (ix2 r d)) (x1 (ix3 0 r d)) (x2 (ix3 0 r d)) := by
  unfold out0_5
  rw [View.canon_unit_zero (by decide)]
  (repeat rw [View.ld_unit_zero (by decide)])
  pointwise [k0_pay1, k0_pay6, k0_pay4, k0_pay5]
  try rfl

theorem out_mean : out0_6 (F := Ideal) x0 x1 x2 x3 (ix3 0 r d) = mean (x3 (ix2 r d)) (x1 (ix3 0 r d)) := by
  unfold out0_6
  rw [View.canon_unit_zero (by decide)]
  (repeat rw [View.ld_unit_zero (by decide)])
  pointwise [k0_pay2, k0_pay4]
  try rfl

theorem out_square : out0_7 (F := Ideal) x0 x1 x2 x3 (ix3 0 r d) = square (x3 (ix2 r d)) (x2 (ix3 0 r d)) := by
  unfold out0_7
  rw [View.canon_unit_zero (by decide)]
  (repeat rw [View.ld_unit_zero (by decide)])
  pointwise [k0_pay3, k0_pay5]
  try rfl

variable (m : (ℓ : Loc nD τ sig) → Buf (Elt Ideal) ℓ) (c : Dev nD)

/-- The arguments as launched. -/
abbrev wIn : FVec Ideal S1x256x1024 .f32 := m ((c : Thread nD τ).loc main_arg0)
abbrev mIn : FVec Ideal S1x256x1024 .f32 := m ((c : Thread nD τ).loc main_arg1)
abbrev vIn : FVec Ideal S1x256x1024 .f32 := m ((c : Thread nD τ).loc main_arg2)
abbrev g0In : FVec Ideal S256x1024 .f32 := m ((c : Thread nD τ).loc main_arg3)

/-- The layer of a point and the row of a block's row. -/
def layer (t : Fin cfg0.N) : Fin 1 := ⟨t.val / 2, by have h : t.val < 2 := t.isLt; omega⟩
def row (t : Fin cfg0.N) (r : Fin 128) : Fin 256 := ⟨128 * (t.val % 2) + r.val, by have h : t.val < 2 := t.isLt; have h' := r.isLt; omega⟩

theorem idx0 : ∀ t : Fin cfg0.N, win0_0.index t = ![t.val / 2, t.val % 2, 0] := (by decide +kernel : ∀ t : Fin grid0.N, _)
theorem idx1 : ∀ t : Fin cfg0.N, win0_1.index t = ![t.val / 2, t.val % 2, 0] := (by decide +kernel : ∀ t : Fin grid0.N, _)
theorem idx2 : ∀ t : Fin cfg0.N, win0_2.index t = ![t.val / 2, t.val % 2, 0] := (by decide +kernel : ∀ t : Fin grid0.N, _)
theorem idx4 : ∀ t : Fin cfg0.N, win0_4.index t = ![t.val / 2, t.val % 2, 0] := (by decide +kernel : ∀ t : Fin grid0.N, _)
theorem idx5 : ∀ t : Fin cfg0.N, win0_5.index t = ![t.val / 2, t.val % 2, 0] := (by decide +kernel : ∀ t : Fin grid0.N, _)
theorem idx6 : ∀ t : Fin cfg0.N, win0_6.index t = ![t.val / 2, t.val % 2, 0] := (by decide +kernel : ∀ t : Fin grid0.N, _)
theorem idx7 : ∀ t : Fin cfg0.N, win0_7.index t = ![t.val / 2, t.val % 2, 0] := (by decide +kernel : ∀ t : Fin grid0.N, _)
theorem idx3 : ∀ t : Fin cfg0.N, win0_3.index t = ![t.val % 2, 0] := (by decide +kernel : ∀ t : Fin grid0.N, _)

/-! The blocks read. -/

theorem blk0 (t : Fin cfg0.N) (r : Fin 128) (d : Fin 1024) : iblk m c 0 t (ix3 0 r d) = wIn m c (ix3 (layer t) (row t r) d) := by
  blk_ext [iblk, idx0 t, layer, row]
theorem blk1 (t : Fin cfg0.N) (r : Fin 128) (d : Fin 1024) : iblk m c 1 t (ix3 0 r d) = mIn m c (ix3 (layer t) (row t r) d) := by
  blk_ext [iblk, idx1 t, layer, row]
theorem blk2 (t : Fin cfg0.N) (r : Fin 128) (d : Fin 1024) : iblk m c 2 t (ix3 0 r d) = vIn m c (ix3 (layer t) (row t r) d) := by
  blk_ext [iblk, idx2 t, layer, row]
theorem blk3 (t : Fin cfg0.N) (r : Fin 128) (d : Fin 1024) : iblk m c 3 t (ix2 r d) = g0In m c (ix2 (row t r) d) := by
  blk_ext [iblk, idx3 t, row]

/-- The gradient, by layers. -/
def gAt (l : Fin 1) (r : Fin 256) (d : Fin 1024) : EReal := g0In m c (ix2 r d)
/-- The result `delta`. -/
def deltaAt (l : Fin 1) (r : Fin 256) (d : Fin 1024) : EReal := change (wIn m c (ix3 l r d)) (gAt m c l r d) (mIn m c (ix3 l r d)) (vIn m c (ix3 l r d))
/-- The result `mean`. -/
def meanAt (l : Fin 1) (r : Fin 256) (d : Fin 1024) : EReal := mean (gAt m c l r d) (mIn m c (ix3 l r d))
/-- The result `square`. -/
def squareAt (l : Fin 1) (r : Fin 256) (d : Fin 1024) : EReal := square (gAt m c l r d) (vIn m c (ix3 l r d))

theorem emb4 (t : Fin cfg0.N) (y : S1x128x1024.Idx) : (win0_4.blk t).view.emb y = ix3 (layer t) (row t (y 1)) (y 2) := by
  blk_ext [idx4 t, layer, row]

theorem at_grad (t : Fin cfg0.N) (r : Fin 128) (d : Fin 1024) :
    out0_4 (F := Ideal) (iblk m c 0 t) (iblk m c 1 t) (iblk m c 2 t) (iblk m c 3 t) (ix3 0 r d) = gAt m c (layer t) (row t r) d := by
  rw [out_grad, blk3]
  rfl

theorem fin4 : (dats m 0 c).arrAt 4 cfg0.N = fun i : S1x256x1024.Idx => gAt m c (i 0) (i 1) (i 2) := by
  refine (dats m 0 c).arrAt_eq_of_covers 4 _ (by decide +kernel) fun t hf y => ?_
  blk_simp
  rw [after0_4, emb4 t y]
  exact (congrArg _ (Cert.Chain.Pay.ix3_of _ _ y)).trans (at_grad m c t (y 1) (y 2))

theorem emb5 (t : Fin cfg0.N) (y : S1x128x1024.Idx) : (win0_5.blk t).view.emb y = ix3 (layer t) (row t (y 1)) (y 2) := by
  blk_ext [idx5 t, layer, row]

theorem at_delta (t : Fin cfg0.N) (r : Fin 128) (d : Fin 1024) :
    out0_5 (F := Ideal) (iblk m c 0 t) (iblk m c 1 t) (iblk m c 2 t) (iblk m c 3 t) (ix3 0 r d) = deltaAt m c (layer t) (row t r) d := by
  rw [out_delta, blk3, blk0, blk1, blk2]
  rfl

theorem fin5 : (dats m 0 c).arrAt 5 cfg0.N = fun i : S1x256x1024.Idx => deltaAt m c (i 0) (i 1) (i 2) := by
  refine (dats m 0 c).arrAt_eq_of_covers 5 _ (by decide +kernel) fun t hf y => ?_
  blk_simp
  rw [after0_5, emb5 t y]
  exact (congrArg _ (Cert.Chain.Pay.ix3_of _ _ y)).trans (at_delta m c t (y 1) (y 2))

theorem emb6 (t : Fin cfg0.N) (y : S1x128x1024.Idx) : (win0_6.blk t).view.emb y = ix3 (layer t) (row t (y 1)) (y 2) := by
  blk_ext [idx6 t, layer, row]

theorem at_mean (t : Fin cfg0.N) (r : Fin 128) (d : Fin 1024) :
    out0_6 (F := Ideal) (iblk m c 0 t) (iblk m c 1 t) (iblk m c 2 t) (iblk m c 3 t) (ix3 0 r d) = meanAt m c (layer t) (row t r) d := by
  rw [out_mean, blk3, blk1]
  rfl

theorem fin6 : (dats m 0 c).arrAt 6 cfg0.N = fun i : S1x256x1024.Idx => meanAt m c (i 0) (i 1) (i 2) := by
  refine (dats m 0 c).arrAt_eq_of_covers 6 _ (by decide +kernel) fun t hf y => ?_
  blk_simp
  rw [after0_6, emb6 t y]
  exact (congrArg _ (Cert.Chain.Pay.ix3_of _ _ y)).trans (at_mean m c t (y 1) (y 2))

theorem emb7 (t : Fin cfg0.N) (y : S1x128x1024.Idx) : (win0_7.blk t).view.emb y = ix3 (layer t) (row t (y 1)) (y 2) := by
  blk_ext [idx7 t, layer, row]

theorem at_square (t : Fin cfg0.N) (r : Fin 128) (d : Fin 1024) :
    out0_7 (F := Ideal) (iblk m c 0 t) (iblk m c 1 t) (iblk m c 2 t) (iblk m c 3 t) (ix3 0 r d) = squareAt m c (layer t) (row t r) d := by
  rw [out_square, blk3, blk2]
  rfl

theorem fin7 : (dats m 0 c).arrAt 7 cfg0.N = fun i : S1x256x1024.Idx => squareAt m c (i 0) (i 1) (i 2) := by
  refine (dats m 0 c).arrAt_eq_of_covers 7 _ (by decide +kernel) fun t hf y => ?_
  blk_simp
  rw [after0_7, emb7 t y]
  exact (congrArg _ (Cert.Chain.Pay.ix3_of _ _ y)).trans (at_square m c t (y 1) (y 2))

end Cert.Adam7

end
-- ==== Proof.Adam7Alg.lean ====
module

public import proofs.«01_k».proof.Defs
public import proofs.«01_k».proof.Proof.Adam7
public import proofs.«01_k».proof.Proof.Gen.Reference7Ideal.Run

@[expose] public section

set_option maxRecDepth 16384

noncomputable section

/-! The AdamW step of the output weights and its reference end with the same results. -/

namespace Cert.Adam7

open Idealize.ShloMosaic Idealize.ShloMosaic.TcCoe Idealize.SL.Sem
open Cert.AdamSpec

attribute [local instance] Cert.Kernel7Ideal.Gen.facts Cert.Reference7Ideal.Gen.facts

theorem frame_reference : Cert.quiescent_Reference7Ideal := fun m ρ _ =>
  (θ_run Cert.Reference7Ideal.defs _ _).mono
    (fun r h => ⟨fun c => (h c).2.2.2.2, sem_eq_zero_of_no_sems (by decide) r.2⟩)
    (Cert.Reference7Ideal.Value.run (F := Ideal) m ρ)

theorem algebraic : Cert.algebraic_Kernel7Ideal_Reference7Ideal := by
  intro m g m' g' hp he
  refine ⟨fun c => (Cert.Kernel7Ideal.Gen.dats m 0 c).arrAt 4 Cert.Kernel7Ideal.cfg0.N, fun c => (Cert.Kernel7Ideal.Gen.dats m 0 c).arrAt 5 Cert.Kernel7Ideal.cfg0.N, fun c => (Cert.Kernel7Ideal.Gen.dats m 0 c).arrAt 6 Cert.Kernel7Ideal.cfg0.N, fun c => (Cert.Kernel7Ideal.Gen.dats m 0 c).arrAt 7 Cert.Kernel7Ideal.cfg0.N, Cert.Kernel7Ideal.Value.run_blocks m g, ?_⟩
  refine (θ_run _ _ _).mono (fun r h c => ?_) (Cert.Reference7Ideal.Value.run m' g')
  obtain ⟨h0, h1, h2, h3, hargs⟩ := h c
  obtain ⟨e0, e1, e2, e3⟩ := he c
  refine ⟨h0.trans ?_, h1.trans ?_, h2.trans ?_, h3.trans ?_, hargs⟩
  · rw [e3]
    refine Eq.trans ?_ (fin4 m c).symm
    funext i
    rw [eq_ix3 i]
    pointwise [gAt]
    try rfl
  · rw [e0, e1, e2, e3]
    refine Eq.trans ?_ (fin5 m c).symm
    funext i
    rw [eq_ix3 i]
    pointwise [deltaAt, change, mean, square, gAt]
    try rfl
  · rw [e1, e3]
    refine Eq.trans ?_ (fin6 m c).symm
    funext i
    rw [eq_ix3 i]
    pointwise [meanAt, mean, gAt]
    try rfl
  · rw [e2, e3]
    refine Eq.trans ?_ (fin7 m c).symm
    funext i
    rw [eq_ix3 i]
    pointwise [squareAt, square, gAt]
    try rfl

end Cert.Adam7

end
-- ==== Proof.Adam8.lean ====
module

public import proofs.«01_k».proof.Proof.Gen.Kernel8Ideal.Value
public import proofs.«01_k».proof.Proof.AdamSpec
public import proofs.«01_k».proof.Proof.FwdPay
public import Idealize.ShloMosaic.Lib.Pipeline.ValueKit

@[expose] public section

set_option maxRecDepth 16384

noncomputable section

/-! One AdamW step of the odd blocks’ input weights: the four results at the end of the call. -/

namespace Cert.Adam8

open Cert.Kernel8Ideal Cert.Kernel8Ideal.Gen
open Idealize.ShloMosaic Idealize.ShloMosaic.TcCoe
open Cert.AdamSpec

/-! What a point leaves, number by number. -/

variable (x0 x1 x2 : FVec Ideal S1x256x512 .f32) (x3 : FVec Ideal S256x512 .f32) (r : Fin 256) (d : Fin 512)

theorem out_grad : out0_4 (F := Ideal) x0 x1 x2 x3 (ix3 0 r d) = x3 (ix2 r d) := by
  unfold out0_4
  rw [View.canon_unit_zero (by decide)]
  (repeat rw [View.ld_unit_zero (by decide)])
  pointwise [k0_pay7]
  try rfl

theorem out_delta : out0_5 (F := Ideal) x0 x1 x2 x3 (ix3 0 r d) = change (x0 (ix3 0 r d)) (x3 (ix2 r d)) (x1 (ix3 0 r d)) (x2 (ix3 0 r d)) := by
  unfold out0_5
  rw [View.canon_unit_zero (by decide)]
  (repeat rw [View.ld_unit_zero (by decide)])
  pointwise [k0_pay1, k0_pay6, k0_pay4, k0_pay5]
  try rfl

theorem out_mean : out0_6 (F := Ideal) x0 x1 x2 x3 (ix3 0 r d) = mean (x3 (ix2 r d)) (x1 (ix3 0 r d)) := by
  unfold out0_6
  rw [View.canon_unit_zero (by decide)]
  (repeat rw [View.ld_unit_zero (by decide)])
  pointwise [k0_pay2, k0_pay4]
  try rfl

theorem out_square : out0_7 (F := Ideal) x0 x1 x2 x3 (ix3 0 r d) = square (x3 (ix2 r d)) (x2 (ix3 0 r d)) := by
  unfold out0_7
  rw [View.canon_unit_zero (by decide)]
  (repeat rw [View.ld_unit_zero (by decide)])
  pointwise [k0_pay3, k0_pay5]
  try rfl

variable (m : (ℓ : Loc nD τ sig) → Buf (Elt Ideal) ℓ) (c : Dev nD)

/-- The arguments as launched. -/
abbrev wIn : FVec Ideal S1x1024x512 .f32 := m ((c : Thread nD τ).loc main_arg0)
abbrev mIn : FVec Ideal S1x1024x512 .f32 := m ((c : Thread nD τ).loc main_arg1)
abbrev vIn : FVec Ideal S1x1024x512 .f32 := m ((c : Thread nD τ).loc main_arg2)
abbrev g0In : FVec Ideal S1024x512 .f32 := m ((c : Thread nD τ).loc main_arg3)

/-- The layer of a point and the row of a block's row. -/
def layer (t : Fin cfg0.N) : Fin 1 := ⟨t.val / 4, by have h : t.val < 4 := t.isLt; omega⟩
def row (t : Fin cfg0.N) (r : Fin 256) : Fin 1024 := ⟨256 * (t.val % 4) + r.val, by have h : t.val < 4 := t.isLt; have h' := r.isLt; omega⟩

theorem idx0 : ∀ t : Fin cfg0.N, win0_0.index t = ![t.val / 4, t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![t.val / 4, t.val % 4, 0] := (by decide +kernel : ∀ t : Fin grid0.N, _)
theorem idx4 : ∀ t : Fin cfg0.N, win0_4.index t = ![t.val / 4, t.val % 4, 0] := (by decide +kernel : ∀ t : Fin grid0.N, _)
theorem idx5 : ∀ t : Fin cfg0.N, win0_5.index t = ![t.val / 4, t.val % 4, 0] := (by decide +kernel : ∀ t : Fin grid0.N, _)
theorem idx6 : ∀ t : Fin cfg0.N, win0_6.index t = ![t.val / 4, t.val % 4, 0] := (by decide +kernel : ∀ t : Fin grid0.N, _)
theorem idx7 : ∀ t : Fin cfg0.N, win0_7.index t = ![t.val / 4, t.val % 4, 0] := (by decide +kernel : ∀ t : Fin grid0.N, _)
theorem idx3 : ∀ t : Fin cfg0.N, win0_3.index t = ![t.val % 4, 0] := (by decide +kernel : ∀ t : Fin grid0.N, _)

/-! The blocks read. -/

theorem blk0 (t : Fin cfg0.N) (r : Fin 256) (d : Fin 512) : iblk m c 0 t (ix3 0 r d) = wIn m c (ix3 (layer t) (row t r) d) := by
  blk_ext [iblk, idx0 t, layer, row]
theorem blk1 (t : Fin cfg0.N) (r : Fin 256) (d : Fin 512) : iblk m c 1 t (ix3 0 r d) = mIn m c (ix3 (layer t) (row t r) d) := by
  blk_ext [iblk, idx1 t, layer, row]
theorem blk2 (t : Fin cfg0.N) (r : Fin 256) (d : Fin 512) : iblk m c 2 t (ix3 0 r d) = vIn m c (ix3 (layer t) (row t r) d) := by
  blk_ext [iblk, idx2 t, layer, row]
theorem blk3 (t : Fin cfg0.N) (r : Fin 256) (d : Fin 512) : iblk m c 3 t (ix2 r d) = g0In m c (ix2 (row t r) d) := by
  blk_ext [iblk, idx3 t, row]

/-- The gradient, by layers. -/
def gAt (l : Fin 1) (r : Fin 1024) (d : Fin 512) : EReal := g0In m c (ix2 r d)
/-- The result `delta`. -/
def deltaAt (l : Fin 1) (r : Fin 1024) (d : Fin 512) : EReal := change (wIn m c (ix3 l r d)) (gAt m c l r d) (mIn m c (ix3 l r d)) (vIn m c (ix3 l r d))
/-- The result `mean`. -/
def meanAt (l : Fin 1) (r : Fin 1024) (d : Fin 512) : EReal := mean (gAt m c l r d) (mIn m c (ix3 l r d))
/-- The result `square`. -/
def squareAt (l : Fin 1) (r : Fin 1024) (d : Fin 512) : EReal := square (gAt m c l r d) (vIn m c (ix3 l r d))

theorem emb4 (t : Fin cfg0.N) (y : S1x256x512.Idx) : (win0_4.blk t).view.emb y = ix3 (layer t) (row t (y 1)) (y 2) := by
  blk_ext [idx4 t, layer, row]

theorem at_grad (t : Fin cfg0.N) (r : Fin 256) (d : Fin 512) :
    out0_4 (F := Ideal) (iblk m c 0 t) (iblk m c 1 t) (iblk m c 2 t) (iblk m c 3 t) (ix3 0 r d) = gAt m c (layer t) (row t r) d := by
  rw [out_grad, blk3]
  rfl

theorem fin4 : (dats m 0 c).arrAt 4 cfg0.N = fun i : S1x1024x512.Idx => gAt m c (i 0) (i 1) (i 2) := by
  refine (dats m 0 c).arrAt_eq_of_covers 4 _ (by decide +kernel) fun t hf y => ?_
  blk_simp
  rw [after0_4, emb4 t y]
  exact (congrArg _ (Cert.Chain.Pay.ix3_of _ _ y)).trans (at_grad m c t (y 1) (y 2))

theorem emb5 (t : Fin cfg0.N) (y : S1x256x512.Idx) : (win0_5.blk t).view.emb y = ix3 (layer t) (row t (y 1)) (y 2) := by
  blk_ext [idx5 t, layer, row]

theorem at_delta (t : Fin cfg0.N) (r : Fin 256) (d : Fin 512) :
    out0_5 (F := Ideal) (iblk m c 0 t) (iblk m c 1 t) (iblk m c 2 t) (iblk m c 3 t) (ix3 0 r d) = deltaAt m c (layer t) (row t r) d := by
  rw [out_delta, blk3, blk0, blk1, blk2]
  rfl

theorem fin5 : (dats m 0 c).arrAt 5 cfg0.N = fun i : S1x1024x512.Idx => deltaAt m c (i 0) (i 1) (i 2) := by
  refine (dats m 0 c).arrAt_eq_of_covers 5 _ (by decide +kernel) fun t hf y => ?_
  blk_simp
  rw [after0_5, emb5 t y]
  exact (congrArg _ (Cert.Chain.Pay.ix3_of _ _ y)).trans (at_delta m c t (y 1) (y 2))

theorem emb6 (t : Fin cfg0.N) (y : S1x256x512.Idx) : (win0_6.blk t).view.emb y = ix3 (layer t) (row t (y 1)) (y 2) := by
  blk_ext [idx6 t, layer, row]

theorem at_mean (t : Fin cfg0.N) (r : Fin 256) (d : Fin 512) :
    out0_6 (F := Ideal) (iblk m c 0 t) (iblk m c 1 t) (iblk m c 2 t) (iblk m c 3 t) (ix3 0 r d) = meanAt m c (layer t) (row t r) d := by
  rw [out_mean, blk3, blk1]
  rfl

theorem fin6 : (dats m 0 c).arrAt 6 cfg0.N = fun i : S1x1024x512.Idx => meanAt m c (i 0) (i 1) (i 2) := by
  refine (dats m 0 c).arrAt_eq_of_covers 6 _ (by decide +kernel) fun t hf y => ?_
  blk_simp
  rw [after0_6, emb6 t y]
  exact (congrArg _ (Cert.Chain.Pay.ix3_of _ _ y)).trans (at_mean m c t (y 1) (y 2))

theorem emb7 (t : Fin cfg0.N) (y : S1x256x512.Idx) : (win0_7.blk t).view.emb y = ix3 (layer t) (row t (y 1)) (y 2) := by
  blk_ext [idx7 t, layer, row]

theorem at_square (t : Fin cfg0.N) (r : Fin 256) (d : Fin 512) :
    out0_7 (F := Ideal) (iblk m c 0 t) (iblk m c 1 t) (iblk m c 2 t) (iblk m c 3 t) (ix3 0 r d) = squareAt m c (layer t) (row t r) d := by
  rw [out_square, blk3, blk2]
  rfl

theorem fin7 : (dats m 0 c).arrAt 7 cfg0.N = fun i : S1x1024x512.Idx => squareAt m c (i 0) (i 1) (i 2) := by
  refine (dats m 0 c).arrAt_eq_of_covers 7 _ (by decide +kernel) fun t hf y => ?_
  blk_simp
  rw [after0_7, emb7 t y]
  exact (congrArg _ (Cert.Chain.Pay.ix3_of _ _ y)).trans (at_square m c t (y 1) (y 2))

end Cert.Adam8

end
-- ==== Proof.Adam8Alg.lean ====
module

public import proofs.«01_k».proof.Defs
public import proofs.«01_k».proof.Proof.Adam8
public import proofs.«01_k».proof.Proof.Gen.Reference8Ideal.Run

@[expose] public section

set_option maxRecDepth 16384

noncomputable section

/-! The AdamW step of the odd blocks’ input weights and its reference end with the same results. -/

namespace Cert.Adam8

open Idealize.ShloMosaic Idealize.ShloMosaic.TcCoe Idealize.SL.Sem
open Cert.AdamSpec

attribute [local instance] Cert.Kernel8Ideal.Gen.facts Cert.Reference8Ideal.Gen.facts

theorem frame_reference : Cert.quiescent_Reference8Ideal := fun m ρ _ =>
  (θ_run Cert.Reference8Ideal.defs _ _).mono
    (fun r h => ⟨fun c => (h c).2.2.2.2, sem_eq_zero_of_no_sems (by decide) r.2⟩)
    (Cert.Reference8Ideal.Value.run (F := Ideal) m ρ)

theorem algebraic : Cert.algebraic_Kernel8Ideal_Reference8Ideal := by
  intro m g m' g' hp he
  refine ⟨fun c => (Cert.Kernel8Ideal.Gen.dats m 0 c).arrAt 4 Cert.Kernel8Ideal.cfg0.N, fun c => (Cert.Kernel8Ideal.Gen.dats m 0 c).arrAt 5 Cert.Kernel8Ideal.cfg0.N, fun c => (Cert.Kernel8Ideal.Gen.dats m 0 c).arrAt 6 Cert.Kernel8Ideal.cfg0.N, fun c => (Cert.Kernel8Ideal.Gen.dats m 0 c).arrAt 7 Cert.Kernel8Ideal.cfg0.N, Cert.Kernel8Ideal.Value.run_blocks m g, ?_⟩
  refine (θ_run _ _ _).mono (fun r h c => ?_) (Cert.Reference8Ideal.Value.run m' g')
  obtain ⟨h0, h1, h2, h3, hargs⟩ := h c
  obtain ⟨e0, e1, e2, e3⟩ := he c
  refine ⟨h0.trans ?_, h1.trans ?_, h2.trans ?_, h3.trans ?_, hargs⟩
  · rw [e3]
    refine Eq.trans ?_ (fin4 m c).symm
    funext i
    rw [eq_ix3 i]
    pointwise [gAt]
    try rfl
  · rw [e0, e1, e2, e3]
    refine Eq.trans ?_ (fin5 m c).symm
    funext i
    rw [eq_ix3 i]
    pointwise [deltaAt, change, mean, square, gAt]
    try rfl
  · rw [e1, e3]
    refine Eq.trans ?_ (fin6 m c).symm
    funext i
    rw [eq_ix3 i]
    pointwise [meanAt, mean, gAt]
    try rfl
  · rw [e2, e3]
    refine Eq.trans ?_ (fin7 m c).symm
    funext i
    rw [eq_ix3 i]
    pointwise [squareAt, square, gAt]
    try rfl

end Cert.Adam8

end
-- ==== Proof.SmallSpec.lean ====
module

public import proofs.«01_k».proof.Proof.AdamSpec
public import Idealize.ShloMosaic.Lib.Pipeline.ValueKit

@[expose] public section

noncomputable section

/-! The packs of the small weights' gradients, and their sum over the devices. -/

namespace Cert.SmallSpec

open Idealize.ShloMosaic

variable (x0 : FVec Ideal (⟨2, ![15104, 128]⟩ : Shape) .f32) (d : Fin 128)

/-- Row `r` of the part of device `k`. -/
def rowOf (r : Fin 1888) (k : Fin 8) : Fin 15104 := ⟨1888 * k.val + r.val, by have := k.isLt; have := r.isLt; omega⟩

/-- The row of a part that holds row `q` of the loss. -/
def lossRow (q : Fin 8) : Fin 1888 := ⟨1880 + q.val, by have := q.isLt; omega⟩

/-- The sum over the devices of one entry of their parts. -/
def total (r : Fin 1888) : EReal := ∑ k : Fin 8, x0 (ix2 (rowOf r k) d)

theorem eight (f : Fin 8 → EReal) {a0 a1 a2 a3 a4 a5 a6 a7 : EReal} (h0 : a0 = f 0) (h1 : a1 = f 1) (h2 : a2 = f 2) (h3 : a3 = f 3)
    (h4 : a4 = f 4) (h5 : a5 = f 5) (h6 : a6 = f 6) (h7 : a7 = f 7) : a0 + a1 + a2 + a3 + a4 + a5 + a6 + a7 = ∑ k, f k := by
  rw [Fin.sum_univ_eight, h0, h1, h2, h3, h4, h5, h6, h7]

theorem same (a b : Fin 15104) (h : a.val = b.val) : x0 (ix2 a d) = x0 (ix2 b d) := by rw [Fin.ext h]

end Cert.SmallSpec

end
-- ==== Proof.Small9.lean ====
module

public import proofs.«01_k».proof.Proof.Gen.Kernel9Ideal.Value
public import proofs.«01_k».proof.Proof.SmallSpec
public import Idealize.ShloMosaic.Lib.Pipeline.ValueKit

@[expose] public section

set_option maxRecDepth 16384

noncomputable section

/-! The small weights: their gradients summed over the devices, and one AdamW step of them. -/

namespace Cert.Small9

open Cert.Kernel9Ideal Cert.Kernel9Ideal.Gen
open Idealize.ShloMosaic Idealize.ShloMosaic.TcCoe
open Cert.AdamSpec Cert.SmallSpec

variable (x0 : FVec Ideal S15104x128 .f32) (x1 x2 x3 : FVec Ideal S1496x128 .f32) (r : Fin 1496) (q : Fin 8) (d : Fin 128)

/-- The row of a part that holds row `r` of the weights' pack. -/
def mine (r : Fin 1496) : Fin 1888 := ⟨if r.val < 1368 then r.val else 1368 + (r.val - 1368), by have := r.isLt; split <;> omega⟩

theorem summed : k0_pay9 (F := Ideal) (k0_pay13 x0 x1 x2 x3) (k0_pay14 x0 x1 x2 x3) (k0_pay15 x0 x1 x2 x3) (View.ld x0 r0_22) (ix2 r d)
    = total x0 d (mine r) := by
  unfold k0_pay13 k0_pay14 k0_pay15
  simp only [View.ld_unit]
  pointwise [k0_pay9, k0_pay4, k0_pay5, k0_pay2, k0_pay3, k0_pay7]
  split <;> rename_i h <;> refine eight (fun k => x0 (ix2 (rowOf (mine r) k) d)) ?_ ?_ ?_ ?_ ?_ ?_ ?_ ?_ <;> refine same x0 d _ _ ?_ <;>
    simp only [rowOf, mine, h, ↓reduceIte, Fin.isValue, Fin.val_zero, Fin.val_one] <;> first | rfl | (norm_num; try omega)

theorem summed_loss : k0_pay8 (F := Ideal) (k0_pay6 (k0_pay1 (View.ld x0 r0_2) (View.ld x0 r0_5) (View.ld x0 r0_8)) (View.ld x0 r0_11)
    (View.ld x0 r0_14) (View.ld x0 r0_17) (View.ld x0 r0_20)) (View.ld x0 r0_23) (ix2 q d) = total x0 d (lossRow q) := by
  simp only [View.ld_unit]
  pointwise [k0_pay8, k0_pay6, k0_pay1]
  refine eight (fun k => x0 (ix2 (rowOf (lossRow q) k) d)) ?_ ?_ ?_ ?_ ?_ ?_ ?_ ?_ <;> refine same x0 d _ _ ?_ <;>
    simp only [rowOf, lossRow, Fin.isValue, Fin.val_zero, Fin.val_one] <;> first | rfl | (norm_num; try omega)

theorem whole (X : S1496x128.Idx → Elt Ideal .f32) : View.ld (Val := Elt Ideal) (e' := .f32) X r0_24 = X := by
  rw [View.ld_unit_zero (by decide)]

/-! What the call leaves, number by number. -/

theorem out_grad : out0_4 (F := Ideal) x0 x1 x2 x3 (ix2 r d) = total x0 d (mine r) := by
  unfold out0_4
  rw [View.canon_unit_zero (by decide)]
  exact summed x0 x1 x2 x3 r d

theorem out_delta : out0_5 (F := Ideal) x0 x1 x2 x3 (ix2 r d) = change (x1 (ix2 r d)) (total x0 d (mine r)) (x2 (ix2 r d)) (x3 (ix2 r d)) := by
  rw [← summed x0 x1 x2 x3 r d]
  unfold out0_5
  rw [View.canon_unit_zero (by decide)]
  rw [whole x1, whole x2, whole x3]
  pointwise [k0_pay12, k0_pay10, k0_pay11]
  rfl

theorem out_mean : out0_6 (F := Ideal) x0 x1 x2 x3 (ix2 r d) = mean (total x0 d (mine r)) (x2 (ix2 r d)) := by
  rw [← summed x0 x1 x2 x3 r d]
  unfold out0_6
  rw [View.canon_unit_zero (by decide), whole x2]
  pointwise [k0_pay10]
  rfl

theorem out_square : out0_7 (F := Ideal) x0 x1 x2 x3 (ix2 r d) = square (total x0 d (mine r)) (x3 (ix2 r d)) := by
  rw [← summed x0 x1 x2 x3 r d]
  unfold out0_7
  rw [View.canon_unit_zero (by decide), whole x3]
  pointwise [k0_pay11]
  rfl

theorem out_loss : out0_8 (F := Ideal) x0 x1 x2 x3 (ix2 q d) = total x0 d (lossRow q) := by
  unfold out0_8
  rw [View.canon_unit_zero (by decide)]
  exact summed_loss x0 q d

variable (m : (ℓ : Loc nD τ sig) → Buf (Elt Ideal) ℓ) (c : Dev nD)

/-- The arguments as launched. -/
abbrev pIn : FVec Ideal S8x1888x128 .f32 := m ((c : Thread nD τ).loc main_arg0)
abbrev wIn : FVec Ideal S1496x128 .f32 := m ((c : Thread nD τ).loc main_arg1)
abbrev mIn : FVec Ideal S1496x128 .f32 := m ((c : Thread nD τ).loc main_arg2)
abbrev vIn : FVec Ideal S1496x128 .f32 := m ((c : Thread nD τ).loc main_arg3)

/-- The parts are handed over one after the other. -/
theorem entry0 : (V m c main_v0 : FVec Ideal S15104x128 .f32) = shapeCast S15104x128 (pIn m c) shapeCasts_S8x1888x128_S15104x128 := by
  show StableHlo.after hostOps0 (fun b => m (c, b)) main_v0 = _
  simp only [hostOps0, List.flatten_cons, List.flatten_nil, List.append_nil, List.cons_append, List.nil_append]
  after_results_simp <;> rfl

theorem entry0_at (k : Fin 8) (r : Fin 1888) : (V m c main_v0 : FVec Ideal S15104x128 .f32) (ix2 (rowOf r k) d) = pIn m c (ix3 k r d) := by
  rw [entry0]
  pointwise [rowOf]

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)

/-! The blocks read are the whole arrays. -/

theorem blk0 (t : Fin cfg0.N) (a : Fin 15104) : iblk m c 0 t (ix2 a d) = (V m c main_v0 : FVec Ideal S15104x128 .f32) (ix2 a d) := by
  blk_ext [iblk, idx0 t]
theorem blk1 (t : Fin cfg0.N) : iblk m c 1 t (ix2 r d) = wIn m c (ix2 r d) := by
  blk_ext [iblk, idx1 t]
theorem blk2 (t : Fin cfg0.N) : iblk m c 2 t (ix2 r d) = mIn m c (ix2 r d) := by
  blk_ext [iblk, idx2 t]
theorem blk3 (t : Fin cfg0.N) : iblk m c 3 t (ix2 r d) = vIn m c (ix2 r d) := by
  blk_ext [iblk, idx3 t]

/-- The gradient and the loss, summed over the devices. -/
def sumAt (r : Fin 1888) (d : Fin 128) : EReal := ∑ k : Fin 8, pIn m c (ix3 k r d)

theorem total_at (t : Fin cfg0.N) (r : Fin 1888) : total (iblk m c 0 t) d r = sumAt m c r d :=
  Finset.sum_congr rfl fun k _ => (blk0 d m c t _).trans (entry0_at d m c k r)

/-- The result `grad`. -/
def gAt (r : Fin 1496) (d : Fin 128) : EReal := sumAt m c (mine r) d
/-- The result `delta`. -/
def deltaAt (r : Fin 1496) (d : Fin 128) : EReal := change (wIn m c (ix2 r d)) (gAt m c r d) (mIn m c (ix2 r d)) (vIn m c (ix2 r d))
/-- The result `mean`. -/
def meanAt (r : Fin 1496) (d : Fin 128) : EReal := mean (gAt m c r d) (mIn m c (ix2 r d))
/-- The result `square`. -/
def squareAt (r : Fin 1496) (d : Fin 128) : EReal := square (gAt m c r d) (vIn m c (ix2 r d))
/-- The loss. -/
def lossAt (q : Fin 8) (d : Fin 128) : EReal := sumAt m c (lossRow q) d

theorem at_grad (t : Fin cfg0.N) (r : Fin 1496) (d : Fin 128) :
    out0_4 (F := Ideal) (iblk m c 0 t) (iblk m c 1 t) (iblk m c 2 t) (iblk m c 3 t) (ix2 r d) = gAt m c r d := by
  rw [out_grad, total_at]
  rfl

theorem emb4 (t : Fin cfg0.N) (y : S1496x128.Idx) : (win0_4.blk t).view.emb y = ix2 (y 0) (y 1) := by
  blk_ext [idx4 t]

theorem fin4 : (dats m 0 c).arrAt 4 cfg0.N = fun i : S1496x128.Idx => gAt m c (i 0) (i 1) := by
  refine (dats m 0 c).arrAt_eq_of_covers 4 _ (by decide +kernel) fun t _ y => ?_
  blk_simp
  rw [after0_4, emb4 t y]
  exact (congrArg _ (eq_ix2 y)).trans (at_grad m c t (y 0) (y 1))

theorem at_delta (t : Fin cfg0.N) (r : Fin 1496) (d : Fin 128) :
    out0_5 (F := Ideal) (iblk m c 0 t) (iblk m c 1 t) (iblk m c 2 t) (iblk m c 3 t) (ix2 r d) = deltaAt m c r d := by
  rw [out_delta, total_at, blk1, blk2, blk3]
  rfl

theorem emb5 (t : Fin cfg0.N) (y : S1496x128.Idx) : (win0_5.blk t).view.emb y = ix2 (y 0) (y 1) := by
  blk_ext [idx5 t]

theorem fin5 : (dats m 0 c).arrAt 5 cfg0.N = fun i : S1496x128.Idx => deltaAt m c (i 0) (i 1) := by
  refine (dats m 0 c).arrAt_eq_of_covers 5 _ (by decide +kernel) fun t _ y => ?_
  blk_simp
  rw [after0_5, emb5 t y]
  exact (congrArg _ (eq_ix2 y)).trans (at_delta m c t (y 0) (y 1))

theorem at_mean (t : Fin cfg0.N) (r : Fin 1496) (d : Fin 128) :
    out0_6 (F := Ideal) (iblk m c 0 t) (iblk m c 1 t) (iblk m c 2 t) (iblk m c 3 t) (ix2 r d) = meanAt m c r d := by
  rw [out_mean, total_at, blk2]
  rfl

theorem emb6 (t : Fin cfg0.N) (y : S1496x128.Idx) : (win0_6.blk t).view.emb y = ix2 (y 0) (y 1) := by
  blk_ext [idx6 t]

theorem fin6 : (dats m 0 c).arrAt 6 cfg0.N = fun i : S1496x128.Idx => meanAt m c (i 0) (i 1) := by
  refine (dats m 0 c).arrAt_eq_of_covers 6 _ (by decide +kernel) fun t _ y => ?_
  blk_simp
  rw [after0_6, emb6 t y]
  exact (congrArg _ (eq_ix2 y)).trans (at_mean m c t (y 0) (y 1))

theorem at_square (t : Fin cfg0.N) (r : Fin 1496) (d : Fin 128) :
    out0_7 (F := Ideal) (iblk m c 0 t) (iblk m c 1 t) (iblk m c 2 t) (iblk m c 3 t) (ix2 r d) = squareAt m c r d := by
  rw [out_square, total_at, blk3]
  rfl

theorem emb7 (t : Fin cfg0.N) (y : S1496x128.Idx) : (win0_7.blk t).view.emb y = ix2 (y 0) (y 1) := by
  blk_ext [idx7 t]

theorem fin7 : (dats m 0 c).arrAt 7 cfg0.N = fun i : S1496x128.Idx => squareAt m c (i 0) (i 1) := by
  refine (dats m 0 c).arrAt_eq_of_covers 7 _ (by decide +kernel) fun t _ y => ?_
  blk_simp
  rw [after0_7, emb7 t y]
  exact (congrArg _ (eq_ix2 y)).trans (at_square m c t (y 0) (y 1))

theorem at_loss (t : Fin cfg0.N) (r : Fin 8) (d : Fin 128) :
    out0_8 (F := Ideal) (iblk m c 0 t) (iblk m c 1 t) (iblk m c 2 t) (iblk m c 3 t) (ix2 r d) = lossAt m c r d := by
  rw [out_loss, total_at]
  rfl

theorem emb8 (t : Fin cfg0.N) (y : S8x128.Idx) : (win0_8.blk t).view.emb y = ix2 (y 0) (y 1) := by
  blk_ext [idx8 t]

theorem fin8 : (dats m 0 c).arrAt 8 cfg0.N = fun i : S8x128.Idx => lossAt m c (i 0) (i 1) := by
  refine (dats m 0 c).arrAt_eq_of_covers 8 _ (by decide +kernel) fun t _ y => ?_
  blk_simp
  rw [after0_8, emb8 t y]
  exact (congrArg _ (eq_ix2 y)).trans (at_loss m c t (y 0) (y 1))

end Cert.Small9

end
-- ==== Proof.Small9Alg.lean ====
module

public import proofs.«01_k».proof.Defs
public import proofs.«01_k».proof.Proof.Small9
public import proofs.«01_k».proof.Proof.Gen.Reference9Ideal.Run

@[expose] public section

set_option maxRecDepth 16384

noncomputable section

/-! The small weights' step and its reference end with the same results. -/

namespace Cert.Small9

open Idealize.ShloMosaic Idealize.ShloMosaic.TcCoe Idealize.SL.Sem
open Cert.AdamSpec Cert.SmallSpec

attribute [local instance] Cert.Kernel9Ideal.Gen.facts Cert.Reference9Ideal.Gen.facts

theorem frame_reference : Cert.quiescent_Reference9Ideal := fun m ρ _ =>
  (θ_run Cert.Reference9Ideal.defs _ _).mono
    (fun r h => ⟨fun c => (h c).2.2.2.2.2, sem_eq_zero_of_no_sems (by decide) r.2⟩)
    (Cert.Reference9Ideal.Value.run (F := Ideal) m ρ)

theorem algebraic : Cert.algebraic_Kernel9Ideal_Reference9Ideal := by
  intro m g m' g' hp he
  refine ⟨fun c => (Cert.Kernel9Ideal.Gen.dats m 0 c).arrAt 4 Cert.Kernel9Ideal.cfg0.N, fun c => (Cert.Kernel9Ideal.Gen.dats m 0 c).arrAt 5 Cert.Kernel9Ideal.cfg0.N, fun c => (Cert.Kernel9Ideal.Gen.dats m 0 c).arrAt 6 Cert.Kernel9Ideal.cfg0.N, fun c => (Cert.Kernel9Ideal.Gen.dats m 0 c).arrAt 7 Cert.Kernel9Ideal.cfg0.N, fun c => (Cert.Kernel9Ideal.Gen.dats m 0 c).arrAt 8 Cert.Kernel9Ideal.cfg0.N, Cert.Kernel9Ideal.Value.run_blocks m g, ?_⟩
  refine (θ_run _ _ _).mono (fun r h c => ?_) (Cert.Reference9Ideal.Value.run m' g')
  obtain ⟨h0, h1, h2, h3, h4, hargs⟩ := h c
  obtain ⟨e0, e1, e2, e3⟩ := he c
  refine ⟨h0.trans ?_, h1.trans ?_, h2.trans ?_, h3.trans ?_, h4.trans ?_, hargs⟩
  · rw [e0]
    refine Eq.trans ?_ (fin4 m c).symm
    funext i
    obtain ⟨r, d, rfl⟩ : ∃ r d, i = ix2 r d := ⟨i 0, i 1, eq_ix2 i⟩
    pointwise [gAt, sumAt, mine]
    by_cases h : r.val < 1368 <;> simp only [h, ↓reduceDIte, ↓reduceIte, ix2_0, ix2_1] <;> rfl
  · rw [e0, e1, e2, e3]
    refine Eq.trans ?_ (fin5 m c).symm
    funext i
    obtain ⟨r, d, rfl⟩ : ∃ r d, i = ix2 r d := ⟨i 0, i 1, eq_ix2 i⟩
    pointwise [deltaAt, change, mean, square, gAt, sumAt, mine]
    by_cases h : r.val < 1368 <;> simp only [h, ↓reduceDIte, ↓reduceIte, ix2_0, ix2_1] <;> rfl
  · rw [e0, e2]
    refine Eq.trans ?_ (fin6 m c).symm
    funext i
    obtain ⟨r, d, rfl⟩ : ∃ r d, i = ix2 r d := ⟨i 0, i 1, eq_ix2 i⟩
    pointwise [meanAt, mean, gAt, sumAt, mine]
    by_cases h : r.val < 1368 <;> simp only [h, ↓reduceDIte, ↓reduceIte, ix2_0, ix2_1] <;> rfl
  · rw [e0, e3]
    refine Eq.trans ?_ (fin7 m c).symm
    funext i
    obtain ⟨r, d, rfl⟩ : ∃ r d, i = ix2 r d := ⟨i 0, i 1, eq_ix2 i⟩
    pointwise [squareAt, square, gAt, sumAt, mine]
    by_cases h : r.val < 1368 <;> simp only [h, ↓reduceDIte, ↓reduceIte, ix2_0, ix2_1] <;> rfl
  · rw [e0]
    refine Eq.trans ?_ (fin8 m c).symm
    funext i
    obtain ⟨r, d, rfl⟩ : ∃ r d, i = ix2 r d := ⟨i 0, i 1, eq_ix2 i⟩
    pointwise [lossAt, sumAt, lossRow]

end Cert.Small9

end
-- ==== Proof.Small10.lean ====
module

public import proofs.«01_k».proof.Proof.Gen.Kernel10Ideal.Value
public import proofs.«01_k».proof.Proof.SmallSpec
public import Idealize.ShloMosaic.Lib.Pipeline.ValueKit

@[expose] public section

set_option maxRecDepth 16384

noncomputable section

/-! The small weights at the second place: their gradients summed over the devices, and one AdamW step of them. -/

namespace Cert.Small10

open Cert.Kernel10Ideal Cert.Kernel10Ideal.Gen
open Idealize.ShloMosaic Idealize.ShloMosaic.TcCoe
open Cert.AdamSpec Cert.SmallSpec

variable (x0 : FVec Ideal S15104x128 .f32) (x1 x2 x3 : FVec Ideal S1496x128 .f32) (r : Fin 1496) (q : Fin 8) (d : Fin 128)

/-- The row of a part that holds row `r` of the weights' pack. -/
def mine (r : Fin 1496) : Fin 1888 := ⟨if r.val < 1368 then r.val else 1496 + (r.val - 1368), by have := r.isLt; split <;> omega⟩

theorem summed : k0_pay9 (F := Ideal) (k0_pay13 x0 x1 x2 x3) (k0_pay14 x0 x1 x2 x3) (k0_pay15 x0 x1 x2 x3) (View.ld x0 r0_22) (ix2 r d)
    = total x0 d (mine r) := by
  unfold k0_pay13 k0_pay14 k0_pay15
  simp only [View.ld_unit]
  pointwise [k0_pay9, k0_pay4, k0_pay5, k0_pay2, k0_pay3, k0_pay7]
  split <;> rename_i h <;> refine eight (fun k => x0 (ix2 (rowOf (mine r) k) d)) ?_ ?_ ?_ ?_ ?_ ?_ ?_ ?_ <;> refine same x0 d _ _ ?_ <;>
    simp only [rowOf, mine, h, ↓reduceIte, Fin.isValue, Fin.val_zero, Fin.val_one] <;> first | rfl | (norm_num; try omega)

theorem summed_loss : k0_pay8 (F := Ideal) (k0_pay6 (k0_pay1 (View.ld x0 r0_2) (View.ld x0 r0_5) (View.ld x0 r0_8)) (View.ld x0 r0_11)
    (View.ld x0 r0_14) (View.ld x0 r0_17) (View.ld x0 r0_20)) (View.ld x0 r0_23) (ix2 q d) = total x0 d (lossRow q) := by
  simp only [View.ld_unit]
  pointwise [k0_pay8, k0_pay6, k0_pay1]
  refine eight (fun k => x0 (ix2 (rowOf (lossRow q) k) d)) ?_ ?_ ?_ ?_ ?_ ?_ ?_ ?_ <;> refine same x0 d _ _ ?_ <;>
    simp only [rowOf, lossRow, Fin.isValue, Fin.val_zero, Fin.val_one] <;> first | rfl | (norm_num; try omega)

theorem whole (X : S1496x128.Idx → Elt Ideal .f32) : View.ld (Val := Elt Ideal) (e' := .f32) X r0_24 = X := by
  rw [View.ld_unit_zero (by decide)]

/-! What the call leaves, number by number. -/

theorem out_grad : out0_4 (F := Ideal) x0 x1 x2 x3 (ix2 r d) = total x0 d (mine r) := by
  unfold out0_4
  rw [View.canon_unit_zero (by decide)]
  exact summed x0 x1 x2 x3 r d

theorem out_delta : out0_5 (F := Ideal) x0 x1 x2 x3 (ix2 r d) = change (x1 (ix2 r d)) (total x0 d (mine r)) (x2 (ix2 r d)) (x3 (ix2 r d)) := by
  rw [← summed x0 x1 x2 x3 r d]
  unfold out0_5
  rw [View.canon_unit_zero (by decide)]
  rw [whole x1, whole x2, whole x3]
  pointwise [k0_pay12, k0_pay10, k0_pay11]
  rfl

theorem out_mean : out0_6 (F := Ideal) x0 x1 x2 x3 (ix2 r d) = mean (total x0 d (mine r)) (x2 (ix2 r d)) := by
  rw [← summed x0 x1 x2 x3 r d]
  unfold out0_6
  rw [View.canon_unit_zero (by decide), whole x2]
  pointwise [k0_pay10]
  rfl

theorem out_square : out0_7 (F := Ideal) x0 x1 x2 x3 (ix2 r d) = square (total x0 d (mine r)) (x3 (ix2 r d)) := by
  rw [← summed x0 x1 x2 x3 r d]
  unfold out0_7
  rw [View.canon_unit_zero (by decide), whole x3]
  pointwise [k0_pay11]
  rfl

theorem out_loss : out0_8 (F := Ideal) x0 x1 x2 x3 (ix2 q d) = total x0 d (lossRow q) := by
  unfold out0_8
  rw [View.canon_unit_zero (by decide)]
  exact summed_loss x0 q d

variable (m : (ℓ : Loc nD τ sig) → Buf (Elt Ideal) ℓ) (c : Dev nD)

/-- The arguments as launched. -/
abbrev pIn : FVec Ideal S8x1888x128 .f32 := m ((c : Thread nD τ).loc main_arg0)
abbrev wIn : FVec Ideal S1496x128 .f32 := m ((c : Thread nD τ).loc main_arg1)
abbrev mIn : FVec Ideal S1496x128 .f32 := m ((c : Thread nD τ).loc main_arg2)
abbrev vIn : FVec Ideal S1496x128 .f32 := m ((c : Thread nD τ).loc main_arg3)

/-- The parts are handed over one after the other. -/
theorem entry0 : (V m c main_v0 : FVec Ideal S15104x128 .f32) = shapeCast S15104x128 (pIn m c) shapeCasts_S8x1888x128_S15104x128 := by
  show StableHlo.after hostOps0 (fun b => m (c, b)) main_v0 = _
  simp only [hostOps0, List.flatten_cons, List.flatten_nil, List.append_nil, List.cons_append, List.nil_append]
  after_results_simp <;> rfl

theorem entry0_at (k : Fin 8) (r : Fin 1888) : (V m c main_v0 : FVec Ideal S15104x128 .f32) (ix2 (rowOf r k) d) = pIn m c (ix3 k r d) := by
  rw [entry0]
  pointwise [rowOf]

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)

/-! The blocks read are the whole arrays. -/

theorem blk0 (t : Fin cfg0.N) (a : Fin 15104) : iblk m c 0 t (ix2 a d) = (V m c main_v0 : FVec Ideal S15104x128 .f32) (ix2 a d) := by
  blk_ext [iblk, idx0 t]
theorem blk1 (t : Fin cfg0.N) : iblk m c 1 t (ix2 r d) = wIn m c (ix2 r d) := by
  blk_ext [iblk, idx1 t]
theorem blk2 (t : Fin cfg0.N) : iblk m c 2 t (ix2 r d) = mIn m c (ix2 r d) := by
  blk_ext [iblk, idx2 t]
theorem blk3 (t : Fin cfg0.N) : iblk m c 3 t (ix2 r d) = vIn m c (ix2 r d) := by
  blk_ext [iblk, idx3 t]

/-- The gradient and the loss, summed over the devices. -/
def sumAt (r : Fin 1888) (d : Fin 128) : EReal := ∑ k : Fin 8, pIn m c (ix3 k r d)

theorem total_at (t : Fin cfg0.N) (r : Fin 1888) : total (iblk m c 0 t) d r = sumAt m c r d :=
  Finset.sum_congr rfl fun k _ => (blk0 d m c t _).trans (entry0_at d m c k r)

/-- The result `grad`. -/
def gAt (r : Fin 1496) (d : Fin 128) : EReal := sumAt m c (mine r) d
/-- The result `delta`. -/
def deltaAt (r : Fin 1496) (d : Fin 128) : EReal := change (wIn m c (ix2 r d)) (gAt m c r d) (mIn m c (ix2 r d)) (vIn m c (ix2 r d))
/-- The result `mean`. -/
def meanAt (r : Fin 1496) (d : Fin 128) : EReal := mean (gAt m c r d) (mIn m c (ix2 r d))
/-- The result `square`. -/
def squareAt (r : Fin 1496) (d : Fin 128) : EReal := square (gAt m c r d) (vIn m c (ix2 r d))
/-- The loss. -/
def lossAt (q : Fin 8) (d : Fin 128) : EReal := sumAt m c (lossRow q) d

theorem at_grad (t : Fin cfg0.N) (r : Fin 1496) (d : Fin 128) :
    out0_4 (F := Ideal) (iblk m c 0 t) (iblk m c 1 t) (iblk m c 2 t) (iblk m c 3 t) (ix2 r d) = gAt m c r d := by
  rw [out_grad, total_at]
  rfl

theorem emb4 (t : Fin cfg0.N) (y : S1496x128.Idx) : (win0_4.blk t).view.emb y = ix2 (y 0) (y 1) := by
  blk_ext [idx4 t]

theorem fin4 : (dats m 0 c).arrAt 4 cfg0.N = fun i : S1496x128.Idx => gAt m c (i 0) (i 1) := by
  refine (dats m 0 c).arrAt_eq_of_covers 4 _ (by decide +kernel) fun t _ y => ?_
  blk_simp
  rw [after0_4, emb4 t y]
  exact (congrArg _ (eq_ix2 y)).trans (at_grad m c t (y 0) (y 1))

theorem at_delta (t : Fin cfg0.N) (r : Fin 1496) (d : Fin 128) :
    out0_5 (F := Ideal) (iblk m c 0 t) (iblk m c 1 t) (iblk m c 2 t) (iblk m c 3 t) (ix2 r d) = deltaAt m c r d := by
  rw [out_delta, total_at, blk1, blk2, blk3]
  rfl

theorem emb5 (t : Fin cfg0.N) (y : S1496x128.Idx) : (win0_5.blk t).view.emb y = ix2 (y 0) (y 1) := by
  blk_ext [idx5 t]

theorem fin5 : (dats m 0 c).arrAt 5 cfg0.N = fun i : S1496x128.Idx => deltaAt m c (i 0) (i 1) := by
  refine (dats m 0 c).arrAt_eq_of_covers 5 _ (by decide +kernel) fun t _ y => ?_
  blk_simp
  rw [after0_5, emb5 t y]
  exact (congrArg _ (eq_ix2 y)).trans (at_delta m c t (y 0) (y 1))

theorem at_mean (t : Fin cfg0.N) (r : Fin 1496) (d : Fin 128) :
    out0_6 (F := Ideal) (iblk m c 0 t) (iblk m c 1 t) (iblk m c 2 t) (iblk m c 3 t) (ix2 r d) = meanAt m c r d := by
  rw [out_mean, total_at, blk2]
  rfl

theorem emb6 (t : Fin cfg0.N) (y : S1496x128.Idx) : (win0_6.blk t).view.emb y = ix2 (y 0) (y 1) := by
  blk_ext [idx6 t]

theorem fin6 : (dats m 0 c).arrAt 6 cfg0.N = fun i : S1496x128.Idx => meanAt m c (i 0) (i 1) := by
  refine (dats m 0 c).arrAt_eq_of_covers 6 _ (by decide +kernel) fun t _ y => ?_
  blk_simp
  rw [after0_6, emb6 t y]
  exact (congrArg _ (eq_ix2 y)).trans (at_mean m c t (y 0) (y 1))

theorem at_square (t : Fin cfg0.N) (r : Fin 1496) (d : Fin 128) :
    out0_7 (F := Ideal) (iblk m c 0 t) (iblk m c 1 t) (iblk m c 2 t) (iblk m c 3 t) (ix2 r d) = squareAt m c r d := by
  rw [out_square, total_at, blk3]
  rfl

theorem emb7 (t : Fin cfg0.N) (y : S1496x128.Idx) : (win0_7.blk t).view.emb y = ix2 (y 0) (y 1) := by
  blk_ext [idx7 t]

theorem fin7 : (dats m 0 c).arrAt 7 cfg0.N = fun i : S1496x128.Idx => squareAt m c (i 0) (i 1) := by
  refine (dats m 0 c).arrAt_eq_of_covers 7 _ (by decide +kernel) fun t _ y => ?_
  blk_simp
  rw [after0_7, emb7 t y]
  exact (congrArg _ (eq_ix2 y)).trans (at_square m c t (y 0) (y 1))

theorem at_loss (t : Fin cfg0.N) (r : Fin 8) (d : Fin 128) :
    out0_8 (F := Ideal) (iblk m c 0 t) (iblk m c 1 t) (iblk m c 2 t) (iblk m c 3 t) (ix2 r d) = lossAt m c r d := by
  rw [out_loss, total_at]
  rfl

theorem emb8 (t : Fin cfg0.N) (y : S8x128.Idx) : (win0_8.blk t).view.emb y = ix2 (y 0) (y 1) := by
  blk_ext [idx8 t]

theorem fin8 : (dats m 0 c).arrAt 8 cfg0.N = fun i : S8x128.Idx => lossAt m c (i 0) (i 1) := by
  refine (dats m 0 c).arrAt_eq_of_covers 8 _ (by decide +kernel) fun t _ y => ?_
  blk_simp
  rw [after0_8, emb8 t y]
  exact (congrArg _ (eq_ix2 y)).trans (at_loss m c t (y 0) (y 1))

end Cert.Small10

end
-- ==== Proof.Small10Alg.lean ====
module

public import proofs.«01_k».proof.Defs
public import proofs.«01_k».proof.Proof.Small10
public import proofs.«01_k».proof.Proof.Gen.Reference10Ideal.Run

@[expose] public section

set_option maxRecDepth 16384

noncomputable section

/-! The small weights' step at the second place and its reference end with the same results. -/

namespace Cert.Small10

open Idealize.ShloMosaic Idealize.ShloMosaic.TcCoe Idealize.SL.Sem
open Cert.AdamSpec Cert.SmallSpec

attribute [local instance] Cert.Kernel10Ideal.Gen.facts Cert.Reference10Ideal.Gen.facts

theorem frame_reference : Cert.quiescent_Reference10Ideal := fun m ρ _ =>
  (θ_run Cert.Reference10Ideal.defs _ _).mono
    (fun r h => ⟨fun c => (h c).2.2.2.2.2, sem_eq_zero_of_no_sems (by decide) r.2⟩)
    (Cert.Reference10Ideal.Value.run (F := Ideal) m ρ)

theorem algebraic : Cert.algebraic_Kernel10Ideal_Reference10Ideal := by
  intro m g m' g' hp he
  refine ⟨fun c => (Cert.Kernel10Ideal.Gen.dats m 0 c).arrAt 4 Cert.Kernel10Ideal.cfg0.N, fun c => (Cert.Kernel10Ideal.Gen.dats m 0 c).arrAt 5 Cert.Kernel10Ideal.cfg0.N, fun c => (Cert.Kernel10Ideal.Gen.dats m 0 c).arrAt 6 Cert.Kernel10Ideal.cfg0.N, fun c => (Cert.Kernel10Ideal.Gen.dats m 0 c).arrAt 7 Cert.Kernel10Ideal.cfg0.N, fun c => (Cert.Kernel10Ideal.Gen.dats m 0 c).arrAt 8 Cert.Kernel10Ideal.cfg0.N, Cert.Kernel10Ideal.Value.run_blocks m g, ?_⟩
  refine (θ_run _ _ _).mono (fun r h c => ?_) (Cert.Reference10Ideal.Value.run m' g')
  obtain ⟨h0, h1, h2, h3, h4, hargs⟩ := h c
  obtain ⟨e0, e1, e2, e3⟩ := he c
  refine ⟨h0.trans ?_, h1.trans ?_, h2.trans ?_, h3.trans ?_, h4.trans ?_, hargs⟩
  · rw [e0]
    refine Eq.trans ?_ (fin4 m c).symm
    funext i
    obtain ⟨r, d, rfl⟩ : ∃ r d, i = ix2 r d := ⟨i 0, i 1, eq_ix2 i⟩
    pointwise [gAt, sumAt, mine]
    by_cases h : r.val < 1368 <;> simp only [h, ↓reduceDIte, ↓reduceIte, ix2_0, ix2_1] <;> rfl
  · rw [e0, e1, e2, e3]
    refine Eq.trans ?_ (fin5 m c).symm
    funext i
    obtain ⟨r, d, rfl⟩ : ∃ r d, i = ix2 r d := ⟨i 0, i 1, eq_ix2 i⟩
    pointwise [deltaAt, change, mean, square, gAt, sumAt, mine]
    by_cases h : r.val < 1368 <;> simp only [h, ↓reduceDIte, ↓reduceIte, ix2_0, ix2_1] <;> rfl
  · rw [e0, e2]
    refine Eq.trans ?_ (fin6 m c).symm
    funext i
    obtain ⟨r, d, rfl⟩ : ∃ r d, i = ix2 r d := ⟨i 0, i 1, eq_ix2 i⟩
    pointwise [meanAt, mean, gAt, sumAt, mine]
    by_cases h : r.val < 1368 <;> simp only [h, ↓reduceDIte, ↓reduceIte, ix2_0, ix2_1] <;> rfl
  · rw [e0, e3]
    refine Eq.trans ?_ (fin7 m c).symm
    funext i
    obtain ⟨r, d, rfl⟩ : ∃ r d, i = ix2 r d := ⟨i 0, i 1, eq_ix2 i⟩
    pointwise [squareAt, square, gAt, sumAt, mine]
    by_cases h : r.val < 1368 <;> simp only [h, ↓reduceDIte, ↓reduceIte, ix2_0, ix2_1] <;> rfl
  · rw [e0]
    refine Eq.trans ?_ (fin8 m c).symm
    funext i
    obtain ⟨r, d, rfl⟩ : ∃ r d, i = ix2 r d := ⟨i 0, i 1, eq_ix2 i⟩
    pointwise [lossAt, sumAt, lossRow]

end Cert.Small10

end
-- ==== Proof.Small11.lean ====
module

public import proofs.«01_k».proof.Proof.Gen.Kernel11Ideal.Value
public import proofs.«01_k».proof.Proof.SmallSpec
public import Idealize.ShloMosaic.Lib.Pipeline.ValueKit

@[expose] public section

set_option maxRecDepth 16384

noncomputable section

/-! The small weights at the third place: their gradients summed over the devices, and one AdamW step of them. -/

namespace Cert.Small11

open Cert.Kernel11Ideal Cert.Kernel11Ideal.Gen
open Idealize.ShloMosaic Idealize.ShloMosaic.TcCoe
open Cert.AdamSpec Cert.SmallSpec

variable (x0 : FVec Ideal S15104x128 .f32) (x1 x2 x3 : FVec Ideal S1496x128 .f32) (r : Fin 1496) (q : Fin 8) (d : Fin 128)

/-- The row of a part that holds row `r` of the weights' pack. -/
def mine (r : Fin 1496) : Fin 1888 := ⟨if r.val < 1368 then r.val else 1624 + (r.val - 1368), by have := r.isLt; split <;> omega⟩

theorem summed : k0_pay9 (F := Ideal) (k0_pay13 x0 x1 x2 x3) (k0_pay14 x0 x1 x2 x3) (k0_pay15 x0 x1 x2 x3) (View.ld x0 r0_22) (ix2 r d)
    = total x0 d (mine r) := by
  unfold k0_pay13 k0_pay14 k0_pay15
  simp only [View.ld_unit]
  pointwise [k0_pay9, k0_pay4, k0_pay5, k0_pay2, k0_pay3, k0_pay7]
  split <;> rename_i h <;> refine eight (fun k => x0 (ix2 (rowOf (mine r) k) d)) ?_ ?_ ?_ ?_ ?_ ?_ ?_ ?_ <;> refine same x0 d _ _ ?_ <;>
    simp only [rowOf, mine, h, ↓reduceIte, Fin.isValue, Fin.val_zero, Fin.val_one] <;> first | rfl | (norm_num; try omega)

theorem summed_loss : k0_pay8 (F := Ideal) (k0_pay6 (k0_pay1 (View.ld x0 r0_2) (View.ld x0 r0_5) (View.ld x0 r0_8)) (View.ld x0 r0_11)
    (View.ld x0 r0_14) (View.ld x0 r0_17) (View.ld x0 r0_20)) (View.ld x0 r0_23) (ix2 q d) = total x0 d (lossRow q) := by
  simp only [View.ld_unit]
  pointwise [k0_pay8, k0_pay6, k0_pay1]
  refine eight (fun k => x0 (ix2 (rowOf (lossRow q) k) d)) ?_ ?_ ?_ ?_ ?_ ?_ ?_ ?_ <;> refine same x0 d _ _ ?_ <;>
    simp only [rowOf, lossRow, Fin.isValue, Fin.val_zero, Fin.val_one] <;> first | rfl | (norm_num; try omega)

theorem whole (X : S1496x128.Idx → Elt Ideal .f32) : View.ld (Val := Elt Ideal) (e' := .f32) X r0_24 = X := by
  rw [View.ld_unit_zero (by decide)]

/-! What the call leaves, number by number. -/

theorem out_grad : out0_4 (F := Ideal) x0 x1 x2 x3 (ix2 r d) = total x0 d (mine r) := by
  unfold out0_4
  rw [View.canon_unit_zero (by decide)]
  exact summed x0 x1 x2 x3 r d

theorem out_delta : out0_5 (F := Ideal) x0 x1 x2 x3 (ix2 r d) = change (x1 (ix2 r d)) (total x0 d (mine r)) (x2 (ix2 r d)) (x3 (ix2 r d)) := by
  rw [← summed x0 x1 x2 x3 r d]
  unfold out0_5
  rw [View.canon_unit_zero (by decide)]
  rw [whole x1, whole x2, whole x3]
  pointwise [k0_pay12, k0_pay10, k0_pay11]
  rfl

theorem out_mean : out0_6 (F := Ideal) x0 x1 x2 x3 (ix2 r d) = mean (total x0 d (mine r)) (x2 (ix2 r d)) := by
  rw [← summed x0 x1 x2 x3 r d]
  unfold out0_6
  rw [View.canon_unit_zero (by decide), whole x2]
  pointwise [k0_pay10]
  rfl

theorem out_square : out0_7 (F := Ideal) x0 x1 x2 x3 (ix2 r d) = square (total x0 d (mine r)) (x3 (ix2 r d)) := by
  rw [← summed x0 x1 x2 x3 r d]
  unfold out0_7
  rw [View.canon_unit_zero (by decide), whole x3]
  pointwise [k0_pay11]
  rfl

theorem out_loss : out0_8 (F := Ideal) x0 x1 x2 x3 (ix2 q d) = total x0 d (lossRow q) := by
  unfold out0_8
  rw [View.canon_unit_zero (by decide)]
  exact summed_loss x0 q d

variable (m : (ℓ : Loc nD τ sig) → Buf (Elt Ideal) ℓ) (c : Dev nD)

/-- The arguments as launched. -/
abbrev pIn : FVec Ideal S8x1888x128 .f32 := m ((c : Thread nD τ).loc main_arg0)
abbrev wIn : FVec Ideal S1496x128 .f32 := m ((c : Thread nD τ).loc main_arg1)
abbrev mIn : FVec Ideal S1496x128 .f32 := m ((c : Thread nD τ).loc main_arg2)
abbrev vIn : FVec Ideal S1496x128 .f32 := m ((c : Thread nD τ).loc main_arg3)

/-- The parts are handed over one after the other. -/
theorem entry0 : (V m c main_v0 : FVec Ideal S15104x128 .f32) = shapeCast S15104x128 (pIn m c) shapeCasts_S8x1888x128_S15104x128 := by
  show StableHlo.after hostOps0 (fun b => m (c, b)) main_v0 = _
  simp only [hostOps0, List.flatten_cons, List.flatten_nil, List.append_nil, List.cons_append, List.nil_append]
  after_results_simp <;> rfl

theorem entry0_at (k : Fin 8) (r : Fin 1888) : (V m c main_v0 : FVec Ideal S15104x128 .f32) (ix2 (rowOf r k) d) = pIn m c (ix3 k r d) := by
  rw [entry0]
  pointwise [rowOf]

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)

/-! The blocks read are the whole arrays. -/

theorem blk0 (t : Fin cfg0.N) (a : Fin 15104) : iblk m c 0 t (ix2 a d) = (V m c main_v0 : FVec Ideal S15104x128 .f32) (ix2 a d) := by
  blk_ext [iblk, idx0 t]
theorem blk1 (t : Fin cfg0.N) : iblk m c 1 t (ix2 r d) = wIn m c (ix2 r d) := by
  blk_ext [iblk, idx1 t]
theorem blk2 (t : Fin cfg0.N) : iblk m c 2 t (ix2 r d) = mIn m c (ix2 r d) := by
  blk_ext [iblk, idx2 t]
theorem blk3 (t : Fin cfg0.N) : iblk m c 3 t (ix2 r d) = vIn m c (ix2 r d) := by
  blk_ext [iblk, idx3 t]

/-- The gradient and the loss, summed over the devices. -/
def sumAt (r : Fin 1888) (d : Fin 128) : EReal := ∑ k : Fin 8, pIn m c (ix3 k r d)

theorem total_at (t : Fin cfg0.N) (r : Fin 1888) : total (iblk m c 0 t) d r = sumAt m c r d :=
  Finset.sum_congr rfl fun k _ => (blk0 d m c t _).trans (entry0_at d m c k r)

/-- The result `grad`. -/
def gAt (r : Fin 1496) (d : Fin 128) : EReal := sumAt m c (mine r) d
/-- The result `delta`. -/
def deltaAt (r : Fin 1496) (d : Fin 128) : EReal := change (wIn m c (ix2 r d)) (gAt m c r d) (mIn m c (ix2 r d)) (vIn m c (ix2 r d))
/-- The result `mean`. -/
def meanAt (r : Fin 1496) (d : Fin 128) : EReal := mean (gAt m c r d) (mIn m c (ix2 r d))
/-- The result `square`. -/
def squareAt (r : Fin 1496) (d : Fin 128) : EReal := square (gAt m c r d) (vIn m c (ix2 r d))
/-- The loss. -/
def lossAt (q : Fin 8) (d : Fin 128) : EReal := sumAt m c (lossRow q) d

theorem at_grad (t : Fin cfg0.N) (r : Fin 1496) (d : Fin 128) :
    out0_4 (F := Ideal) (iblk m c 0 t) (iblk m c 1 t) (iblk m c 2 t) (iblk m c 3 t) (ix2 r d) = gAt m c r d := by
  rw [out_grad, total_at]
  rfl

theorem emb4 (t : Fin cfg0.N) (y : S1496x128.Idx) : (win0_4.blk t).view.emb y = ix2 (y 0) (y 1) := by
  blk_ext [idx4 t]

theorem fin4 : (dats m 0 c).arrAt 4 cfg0.N = fun i : S1496x128.Idx => gAt m c (i 0) (i 1) := by
  refine (dats m 0 c).arrAt_eq_of_covers 4 _ (by decide +kernel) fun t _ y => ?_
  blk_simp
  rw [after0_4, emb4 t y]
  exact (congrArg _ (eq_ix2 y)).trans (at_grad m c t (y 0) (y 1))

theorem at_delta (t : Fin cfg0.N) (r : Fin 1496) (d : Fin 128) :
    out0_5 (F := Ideal) (iblk m c 0 t) (iblk m c 1 t) (iblk m c 2 t) (iblk m c 3 t) (ix2 r d) = deltaAt m c r d := by
  rw [out_delta, total_at, blk1, blk2, blk3]
  rfl

theorem emb5 (t : Fin cfg0.N) (y : S1496x128.Idx) : (win0_5.blk t).view.emb y = ix2 (y 0) (y 1) := by
  blk_ext [idx5 t]

theorem fin5 : (dats m 0 c).arrAt 5 cfg0.N = fun i : S1496x128.Idx => deltaAt m c (i 0) (i 1) := by
  refine (dats m 0 c).arrAt_eq_of_covers 5 _ (by decide +kernel) fun t _ y => ?_
  blk_simp
  rw [after0_5, emb5 t y]
  exact (congrArg _ (eq_ix2 y)).trans (at_delta m c t (y 0) (y 1))

theorem at_mean (t : Fin cfg0.N) (r : Fin 1496) (d : Fin 128) :
    out0_6 (F := Ideal) (iblk m c 0 t) (iblk m c 1 t) (iblk m c 2 t) (iblk m c 3 t) (ix2 r d) = meanAt m c r d := by
  rw [out_mean, total_at, blk2]
  rfl

theorem emb6 (t : Fin cfg0.N) (y : S1496x128.Idx) : (win0_6.blk t).view.emb y = ix2 (y 0) (y 1) := by
  blk_ext [idx6 t]

theorem fin6 : (dats m 0 c).arrAt 6 cfg0.N = fun i : S1496x128.Idx => meanAt m c (i 0) (i 1) := by
  refine (dats m 0 c).arrAt_eq_of_covers 6 _ (by decide +kernel) fun t _ y => ?_
  blk_simp
  rw [after0_6, emb6 t y]
  exact (congrArg _ (eq_ix2 y)).trans (at_mean m c t (y 0) (y 1))

theorem at_square (t : Fin cfg0.N) (r : Fin 1496) (d : Fin 128) :
    out0_7 (F := Ideal) (iblk m c 0 t) (iblk m c 1 t) (iblk m c 2 t) (iblk m c 3 t) (ix2 r d) = squareAt m c r d := by
  rw [out_square, total_at, blk3]
  rfl

theorem emb7 (t : Fin cfg0.N) (y : S1496x128.Idx) : (win0_7.blk t).view.emb y = ix2 (y 0) (y 1) := by
  blk_ext [idx7 t]

theorem fin7 : (dats m 0 c).arrAt 7 cfg0.N = fun i : S1496x128.Idx => squareAt m c (i 0) (i 1) := by
  refine (dats m 0 c).arrAt_eq_of_covers 7 _ (by decide +kernel) fun t _ y => ?_
  blk_simp
  rw [after0_7, emb7 t y]
  exact (congrArg _ (eq_ix2 y)).trans (at_square m c t (y 0) (y 1))

theorem at_loss (t : Fin cfg0.N) (r : Fin 8) (d : Fin 128) :
    out0_8 (F := Ideal) (iblk m c 0 t) (iblk m c 1 t) (iblk m c 2 t) (iblk m c 3 t) (ix2 r d) = lossAt m c r d := by
  rw [out_loss, total_at]
  rfl

theorem emb8 (t : Fin cfg0.N) (y : S8x128.Idx) : (win0_8.blk t).view.emb y = ix2 (y 0) (y 1) := by
  blk_ext [idx8 t]

theorem fin8 : (dats m 0 c).arrAt 8 cfg0.N = fun i : S8x128.Idx => lossAt m c (i 0) (i 1) := by
  refine (dats m 0 c).arrAt_eq_of_covers 8 _ (by decide +kernel) fun t _ y => ?_
  blk_simp
  rw [after0_8, emb8 t y]
  exact (congrArg _ (eq_ix2 y)).trans (at_loss m c t (y 0) (y 1))

end Cert.Small11

end
-- ==== Proof.Small11Alg.lean ====
module

public import proofs.«01_k».proof.Defs
public import proofs.«01_k».proof.Proof.Small11
public import proofs.«01_k».proof.Proof.Gen.Reference11Ideal.Run

@[expose] public section

set_option maxRecDepth 16384

noncomputable section

/-! The small weights' step at the third place and its reference end with the same results. -/

namespace Cert.Small11

open Idealize.ShloMosaic Idealize.ShloMosaic.TcCoe Idealize.SL.Sem
open Cert.AdamSpec Cert.SmallSpec

attribute [local instance] Cert.Kernel11Ideal.Gen.facts Cert.Reference11Ideal.Gen.facts

theorem frame_reference : Cert.quiescent_Reference11Ideal := fun m ρ _ =>
  (θ_run Cert.Reference11Ideal.defs _ _).mono
    (fun r h => ⟨fun c => (h c).2.2.2.2.2, sem_eq_zero_of_no_sems (by decide) r.2⟩)
    (Cert.Reference11Ideal.Value.run (F := Ideal) m ρ)

theorem algebraic : Cert.algebraic_Kernel11Ideal_Reference11Ideal := by
  intro m g m' g' hp he
  refine ⟨fun c => (Cert.Kernel11Ideal.Gen.dats m 0 c).arrAt 4 Cert.Kernel11Ideal.cfg0.N, fun c => (Cert.Kernel11Ideal.Gen.dats m 0 c).arrAt 5 Cert.Kernel11Ideal.cfg0.N, fun c => (Cert.Kernel11Ideal.Gen.dats m 0 c).arrAt 6 Cert.Kernel11Ideal.cfg0.N, fun c => (Cert.Kernel11Ideal.Gen.dats m 0 c).arrAt 7 Cert.Kernel11Ideal.cfg0.N, fun c => (Cert.Kernel11Ideal.Gen.dats m 0 c).arrAt 8 Cert.Kernel11Ideal.cfg0.N, Cert.Kernel11Ideal.Value.run_blocks m g, ?_⟩
  refine (θ_run _ _ _).mono (fun r h c => ?_) (Cert.Reference11Ideal.Value.run m' g')
  obtain ⟨h0, h1, h2, h3, h4, hargs⟩ := h c
  obtain ⟨e0, e1, e2, e3⟩ := he c
  refine ⟨h0.trans ?_, h1.trans ?_, h2.trans ?_, h3.trans ?_, h4.trans ?_, hargs⟩
  · rw [e0]
    refine Eq.trans ?_ (fin4 m c).symm
    funext i
    obtain ⟨r, d, rfl⟩ : ∃ r d, i = ix2 r d := ⟨i 0, i 1, eq_ix2 i⟩
    pointwise [gAt, sumAt, mine]
    by_cases h : r.val < 1368 <;> simp only [h, ↓reduceDIte, ↓reduceIte, ix2_0, ix2_1] <;> rfl
  · rw [e0, e1, e2, e3]
    refine Eq.trans ?_ (fin5 m c).symm
    funext i
    obtain ⟨r, d, rfl⟩ : ∃ r d, i = ix2 r d := ⟨i 0, i 1, eq_ix2 i⟩
    pointwise [deltaAt, change, mean, square, gAt, sumAt, mine]
    by_cases h : r.val < 1368 <;> simp only [h, ↓reduceDIte, ↓reduceIte, ix2_0, ix2_1] <;> rfl
  · rw [e0, e2]
    refine Eq.trans ?_ (fin6 m c).symm
    funext i
    obtain ⟨r, d, rfl⟩ : ∃ r d, i = ix2 r d := ⟨i 0, i 1, eq_ix2 i⟩
    pointwise [meanAt, mean, gAt, sumAt, mine]
    by_cases h : r.val < 1368 <;> simp only [h, ↓reduceDIte, ↓reduceIte, ix2_0, ix2_1] <;> rfl
  · rw [e0, e3]
    refine Eq.trans ?_ (fin7 m c).symm
    funext i
    obtain ⟨r, d, rfl⟩ : ∃ r d, i = ix2 r d := ⟨i 0, i 1, eq_ix2 i⟩
    pointwise [squareAt, square, gAt, sumAt, mine]
    by_cases h : r.val < 1368 <;> simp only [h, ↓reduceDIte, ↓reduceIte, ix2_0, ix2_1] <;> rfl
  · rw [e0]
    refine Eq.trans ?_ (fin8 m c).symm
    funext i
    obtain ⟨r, d, rfl⟩ : ∃ r d, i = ix2 r d := ⟨i 0, i 1, eq_ix2 i⟩
    pointwise [lossAt, sumAt, lossRow]

end Cert.Small11

end
-- ==== Proof.Small12.lean ====
module

public import proofs.«01_k».proof.Proof.Gen.Kernel12Ideal.Value
public import proofs.«01_k».proof.Proof.SmallSpec
public import Idealize.ShloMosaic.Lib.Pipeline.ValueKit

@[expose] public section

set_option maxRecDepth 16384

noncomputable section

/-! The small weights at the fourth place: their gradients summed over the devices, and one AdamW step of them. -/

namespace Cert.Small12

open Cert.Kernel12Ideal Cert.Kernel12Ideal.Gen
open Idealize.ShloMosaic Idealize.ShloMosaic.TcCoe
open Cert.AdamSpec Cert.SmallSpec

variable (x0 : FVec Ideal S15104x128 .f32) (x1 x2 x3 : FVec Ideal S1496x128 .f32) (r : Fin 1496) (q : Fin 8) (d : Fin 128)

/-- The row of a part that holds row `r` of the weights' pack. -/
def mine (r : Fin 1496) : Fin 1888 := ⟨if r.val < 1368 then r.val else 1752 + (r.val - 1368), by have := r.isLt; split <;> omega⟩

theorem summed : k0_pay9 (F := Ideal) (k0_pay13 x0 x1 x2 x3) (k0_pay14 x0 x1 x2 x3) (k0_pay15 x0 x1 x2 x3) (View.ld x0 r0_22) (ix2 r d)
    = total x0 d (mine r) := by
  unfold k0_pay13 k0_pay14 k0_pay15
  simp only [View.ld_unit]
  pointwise [k0_pay9, k0_pay4, k0_pay5, k0_pay2, k0_pay3, k0_pay7]
  split <;> rename_i h <;> refine eight (fun k => x0 (ix2 (rowOf (mine r) k) d)) ?_ ?_ ?_ ?_ ?_ ?_ ?_ ?_ <;> refine same x0 d _ _ ?_ <;>
    simp only [rowOf, mine, h, ↓reduceIte, Fin.isValue, Fin.val_zero, Fin.val_one] <;> first | rfl | (norm_num; try omega)

theorem summed_loss : k0_pay8 (F := Ideal) (k0_pay6 (k0_pay1 (View.ld x0 r0_2) (View.ld x0 r0_5) (View.ld x0 r0_8)) (View.ld x0 r0_11)
    (View.ld x0 r0_14) (View.ld x0 r0_17) (View.ld x0 r0_20)) (View.ld x0 r0_23) (ix2 q d) = total x0 d (lossRow q) := by
  simp only [View.ld_unit]
  pointwise [k0_pay8, k0_pay6, k0_pay1]
  refine eight (fun k => x0 (ix2 (rowOf (lossRow q) k) d)) ?_ ?_ ?_ ?_ ?_ ?_ ?_ ?_ <;> refine same x0 d _ _ ?_ <;>
    simp only [rowOf, lossRow, Fin.isValue, Fin.val_zero, Fin.val_one] <;> first | rfl | (norm_num; try omega)

theorem whole (X : S1496x128.Idx → Elt Ideal .f32) : View.ld (Val := Elt Ideal) (e' := .f32) X r0_24 = X := by
  rw [View.ld_unit_zero (by decide)]

/-! What the call leaves, number by number. -/

theorem out_grad : out0_4 (F := Ideal) x0 x1 x2 x3 (ix2 r d) = total x0 d (mine r) := by
  unfold out0_4
  rw [View.canon_unit_zero (by decide)]
  exact summed x0 x1 x2 x3 r d

theorem out_delta : out0_5 (F := Ideal) x0 x1 x2 x3 (ix2 r d) = change (x1 (ix2 r d)) (total x0 d (mine r)) (x2 (ix2 r d)) (x3 (ix2 r d)) := by
  rw [← summed x0 x1 x2 x3 r d]
  unfold out0_5
  rw [View.canon_unit_zero (by decide)]
  rw [whole x1, whole x2, whole x3]
  pointwise [k0_pay12, k0_pay10, k0_pay11]
  rfl

theorem out_mean : out0_6 (F := Ideal) x0 x1 x2 x3 (ix2 r d) = mean (total x0 d (mine r)) (x2 (ix2 r d)) := by
  rw [← summed x0 x1 x2 x3 r d]
  unfold out0_6
  rw [View.canon_unit_zero (by decide), whole x2]
  pointwise [k0_pay10]
  rfl

theorem out_square : out0_7 (F := Ideal) x0 x1 x2 x3 (ix2 r d) = square (total x0 d (mine r)) (x3 (ix2 r d)) := by
  rw [← summed x0 x1 x2 x3 r d]
  unfold out0_7
  rw [View.canon_unit_zero (by decide), whole x3]
  pointwise [k0_pay11]
  rfl

theorem out_loss : out0_8 (F := Ideal) x0 x1 x2 x3 (ix2 q d) = total x0 d (lossRow q) := by
  unfold out0_8
  rw [View.canon_unit_zero (by decide)]
  exact summed_loss x0 q d

variable (m : (ℓ : Loc nD τ sig) → Buf (Elt Ideal) ℓ) (c : Dev nD)

/-- The arguments as launched. -/
abbrev pIn : FVec Ideal S8x1888x128 .f32 := m ((c : Thread nD τ).loc main_arg0)
abbrev wIn : FVec Ideal S1496x128 .f32 := m ((c : Thread nD τ).loc main_arg1)
abbrev mIn : FVec Ideal S1496x128 .f32 := m ((c : Thread nD τ).loc main_arg2)
abbrev vIn : FVec Ideal S1496x128 .f32 := m ((c : Thread nD τ).loc main_arg3)

/-- The parts are handed over one after the other. -/
theorem entry0 : (V m c main_v0 : FVec Ideal S15104x128 .f32) = shapeCast S15104x128 (pIn m c) shapeCasts_S8x1888x128_S15104x128 := by
  show StableHlo.after hostOps0 (fun b => m (c, b)) main_v0 = _
  simp only [hostOps0, List.flatten_cons, List.flatten_nil, List.append_nil, List.cons_append, List.nil_append]
  after_results_simp <;> rfl

theorem entry0_at (k : Fin 8) (r : Fin 1888) : (V m c main_v0 : FVec Ideal S15104x128 .f32) (ix2 (rowOf r k) d) = pIn m c (ix3 k r d) := by
  rw [entry0]
  pointwise [rowOf]

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)

/-! The blocks read are the whole arrays. -/

theorem blk0 (t : Fin cfg0.N) (a : Fin 15104) : iblk m c 0 t (ix2 a d) = (V m c main_v0 : FVec Ideal S15104x128 .f32) (ix2 a d) := by
  blk_ext [iblk, idx0 t]
theorem blk1 (t : Fin cfg0.N) : iblk m c 1 t (ix2 r d) = wIn m c (ix2 r d) := by
  blk_ext [iblk, idx1 t]
theorem blk2 (t : Fin cfg0.N) : iblk m c 2 t (ix2 r d) = mIn m c (ix2 r d) := by
  blk_ext [iblk, idx2 t]
theorem blk3 (t : Fin cfg0.N) : iblk m c 3 t (ix2 r d) = vIn m c (ix2 r d) := by
  blk_ext [iblk, idx3 t]

/-- The gradient and the loss, summed over the devices. -/
def sumAt (r : Fin 1888) (d : Fin 128) : EReal := ∑ k : Fin 8, pIn m c (ix3 k r d)

theorem total_at (t : Fin cfg0.N) (r : Fin 1888) : total (iblk m c 0 t) d r = sumAt m c r d :=
  Finset.sum_congr rfl fun k _ => (blk0 d m c t _).trans (entry0_at d m c k r)

/-- The result `grad`. -/
def gAt (r : Fin 1496) (d : Fin 128) : EReal := sumAt m c (mine r) d
/-- The result `delta`. -/
def deltaAt (r : Fin 1496) (d : Fin 128) : EReal := change (wIn m c (ix2 r d)) (gAt m c r d) (mIn m c (ix2 r d)) (vIn m c (ix2 r d))
/-- The result `mean`. -/
def meanAt (r : Fin 1496) (d : Fin 128) : EReal := mean (gAt m c r d) (mIn m c (ix2 r d))
/-- The result `square`. -/
def squareAt (r : Fin 1496) (d : Fin 128) : EReal := square (gAt m c r d) (vIn m c (ix2 r d))
/-- The loss. -/
def lossAt (q : Fin 8) (d : Fin 128) : EReal := sumAt m c (lossRow q) d

theorem at_grad (t : Fin cfg0.N) (r : Fin 1496) (d : Fin 128) :
    out0_4 (F := Ideal) (iblk m c 0 t) (iblk m c 1 t) (iblk m c 2 t) (iblk m c 3 t) (ix2 r d) = gAt m c r d := by
  rw [out_grad, total_at]
  rfl

theorem emb4 (t : Fin cfg0.N) (y : S1496x128.Idx) : (win0_4.blk t).view.emb y = ix2 (y 0) (y 1) := by
  blk_ext [idx4 t]

theorem fin4 : (dats m 0 c).arrAt 4 cfg0.N = fun i : S1496x128.Idx => gAt m c (i 0) (i 1) := by
  refine (dats m 0 c).arrAt_eq_of_covers 4 _ (by decide +kernel) fun t _ y => ?_
  blk_simp
  rw [after0_4, emb4 t y]
  exact (congrArg _ (eq_ix2 y)).trans (at_grad m c t (y 0) (y 1))

theorem at_delta (t : Fin cfg0.N) (r : Fin 1496) (d : Fin 128) :
    out0_5 (F := Ideal) (iblk m c 0 t) (iblk m c 1 t) (iblk m c 2 t) (iblk m c 3 t) (ix2 r d) = deltaAt m c r d := by
  rw [out_delta, total_at, blk1, blk2, blk3]
  rfl

theorem emb5 (t : Fin cfg0.N) (y : S1496x128.Idx) : (win0_5.blk t).view.emb y = ix2 (y 0) (y 1) := by
  blk_ext [idx5 t]

theorem fin5 : (dats m 0 c).arrAt 5 cfg0.N = fun i : S1496x128.Idx => deltaAt m c (i 0) (i 1) := by
  refine (dats m 0 c).arrAt_eq_of_covers 5 _ (by decide +kernel) fun t _ y => ?_
  blk_simp
  rw [after0_5, emb5 t y]
  exact (congrArg _ (eq_ix2 y)).trans (at_delta m c t (y 0) (y 1))

theorem at_mean (t : Fin cfg0.N) (r : Fin 1496) (d : Fin 128) :
    out0_6 (F := Ideal) (iblk m c 0 t) (iblk m c 1 t) (iblk m c 2 t) (iblk m c 3 t) (ix2 r d) = meanAt m c r d := by
  rw [out_mean, total_at, blk2]
  rfl

theorem emb6 (t : Fin cfg0.N) (y : S1496x128.Idx) : (win0_6.blk t).view.emb y = ix2 (y 0) (y 1) := by
  blk_ext [idx6 t]

theorem fin6 : (dats m 0 c).arrAt 6 cfg0.N = fun i : S1496x128.Idx => meanAt m c (i 0) (i 1) := by
  refine (dats m 0 c).arrAt_eq_of_covers 6 _ (by decide +kernel) fun t _ y => ?_
  blk_simp
  rw [after0_6, emb6 t y]
  exact (congrArg _ (eq_ix2 y)).trans (at_mean m c t (y 0) (y 1))

theorem at_square (t : Fin cfg0.N) (r : Fin 1496) (d : Fin 128) :
    out0_7 (F := Ideal) (iblk m c 0 t) (iblk m c 1 t) (iblk m c 2 t) (iblk m c 3 t) (ix2 r d) = squareAt m c r d := by
  rw [out_square, total_at, blk3]
  rfl

theorem emb7 (t : Fin cfg0.N) (y : S1496x128.Idx) : (win0_7.blk t).view.emb y = ix2 (y 0) (y 1) := by
  blk_ext [idx7 t]

theorem fin7 : (dats m 0 c).arrAt 7 cfg0.N = fun i : S1496x128.Idx => squareAt m c (i 0) (i 1) := by
  refine (dats m 0 c).arrAt_eq_of_covers 7 _ (by decide +kernel) fun t _ y => ?_
  blk_simp
  rw [after0_7, emb7 t y]
  exact (congrArg _ (eq_ix2 y)).trans (at_square m c t (y 0) (y 1))

theorem at_loss (t : Fin cfg0.N) (r : Fin 8) (d : Fin 128) :
    out0_8 (F := Ideal) (iblk m c 0 t) (iblk m c 1 t) (iblk m c 2 t) (iblk m c 3 t) (ix2 r d) = lossAt m c r d := by
  rw [out_loss, total_at]
  rfl

theorem emb8 (t : Fin cfg0.N) (y : S8x128.Idx) : (win0_8.blk t).view.emb y = ix2 (y 0) (y 1) := by
  blk_ext [idx8 t]

theorem fin8 : (dats m 0 c).arrAt 8 cfg0.N = fun i : S8x128.Idx => lossAt m c (i 0) (i 1) := by
  refine (dats m 0 c).arrAt_eq_of_covers 8 _ (by decide +kernel) fun t _ y => ?_
  blk_simp
  rw [after0_8, emb8 t y]
  exact (congrArg _ (eq_ix2 y)).trans (at_loss m c t (y 0) (y 1))

end Cert.Small12

end
-- ==== Proof.Small12Alg.lean ====
module

public import proofs.«01_k».proof.Defs
public import proofs.«01_k».proof.Proof.Small12
public import proofs.«01_k».proof.Proof.Gen.Reference12Ideal.Run

@[expose] public section

set_option maxRecDepth 16384

noncomputable section

/-! The small weights' step at the fourth place and its reference end with the same results. -/

namespace Cert.Small12

open Idealize.ShloMosaic Idealize.ShloMosaic.TcCoe Idealize.SL.Sem
open Cert.AdamSpec Cert.SmallSpec

attribute [local instance] Cert.Kernel12Ideal.Gen.facts Cert.Reference12Ideal.Gen.facts

theorem frame_reference : Cert.quiescent_Reference12Ideal := fun m ρ _ =>
  (θ_run Cert.Reference12Ideal.defs _ _).mono
    (fun r h => ⟨fun c => (h c).2.2.2.2.2, sem_eq_zero_of_no_sems (by decide) r.2⟩)
    (Cert.Reference12Ideal.Value.run (F := Ideal) m ρ)

theorem algebraic : Cert.algebraic_Kernel12Ideal_Reference12Ideal := by
  intro m g m' g' hp he
  refine ⟨fun c => (Cert.Kernel12Ideal.Gen.dats m 0 c).arrAt 4 Cert.Kernel12Ideal.cfg0.N, fun c => (Cert.Kernel12Ideal.Gen.dats m 0 c).arrAt 5 Cert.Kernel12Ideal.cfg0.N, fun c => (Cert.Kernel12Ideal.Gen.dats m 0 c).arrAt 6 Cert.Kernel12Ideal.cfg0.N, fun c => (Cert.Kernel12Ideal.Gen.dats m 0 c).arrAt 7 Cert.Kernel12Ideal.cfg0.N, fun c => (Cert.Kernel12Ideal.Gen.dats m 0 c).arrAt 8 Cert.Kernel12Ideal.cfg0.N, Cert.Kernel12Ideal.Value.run_blocks m g, ?_⟩
  refine (θ_run _ _ _).mono (fun r h c => ?_) (Cert.Reference12Ideal.Value.run m' g')
  obtain ⟨h0, h1, h2, h3, h4, hargs⟩ := h c
  obtain ⟨e0, e1, e2, e3⟩ := he c
  refine ⟨h0.trans ?_, h1.trans ?_, h2.trans ?_, h3.trans ?_, h4.trans ?_, hargs⟩
  · rw [e0]
    refine Eq.trans ?_ (fin4 m c).symm
    funext i
    obtain ⟨r, d, rfl⟩ : ∃ r d, i = ix2 r d := ⟨i 0, i 1, eq_ix2 i⟩
    pointwise [gAt, sumAt, mine]
    by_cases h : r.val < 1368 <;> simp only [h, ↓reduceDIte, ↓reduceIte, ix2_0, ix2_1] <;> rfl
  · rw [e0, e1, e2, e3]
    refine Eq.trans ?_ (fin5 m c).symm
    funext i
    obtain ⟨r, d, rfl⟩ : ∃ r d, i = ix2 r d := ⟨i 0, i 1, eq_ix2 i⟩
    pointwise [deltaAt, change, mean, square, gAt, sumAt, mine]
    by_cases h : r.val < 1368 <;> simp only [h, ↓reduceDIte, ↓reduceIte, ix2_0, ix2_1] <;> rfl
  · rw [e0, e2]
    refine Eq.trans ?_ (fin6 m c).symm
    funext i
    obtain ⟨r, d, rfl⟩ : ∃ r d, i = ix2 r d := ⟨i 0, i 1, eq_ix2 i⟩
    pointwise [meanAt, mean, gAt, sumAt, mine]
    by_cases h : r.val < 1368 <;> simp only [h, ↓reduceDIte, ↓reduceIte, ix2_0, ix2_1] <;> rfl
  · rw [e0, e3]
    refine Eq.trans ?_ (fin7 m c).symm
    funext i
    obtain ⟨r, d, rfl⟩ : ∃ r d, i = ix2 r d := ⟨i 0, i 1, eq_ix2 i⟩
    pointwise [squareAt, square, gAt, sumAt, mine]
    by_cases h : r.val < 1368 <;> simp only [h, ↓reduceDIte, ↓reduceIte, ix2_0, ix2_1] <;> rfl
  · rw [e0]
    refine Eq.trans ?_ (fin8 m c).symm
    funext i
    obtain ⟨r, d, rfl⟩ : ∃ r d, i = ix2 r d := ⟨i 0, i 1, eq_ix2 i⟩
    pointwise [lossAt, sumAt, lossRow]

end Cert.Small12

end
-- ==== Proof.Out13.lean ====
module

public import proofs.«01_k».proof.Proof.Gen.Kernel13Ideal.Value
public import Idealize.ShloMosaic.Lib.Pipeline.ValueKit

@[expose] public section

set_option maxRecDepth 16384

noncomputable section

/-! The even layer's product by `w_out`: the rows that come in, and the mixers' two outputs times the weights. -/

namespace Cert.Out13

open Cert.Kernel13Ideal Cert.Kernel13Ideal.Gen
open Idealize.ShloMosaic Idealize.ShloMosaic.TcCoe

/-- A row of the weights below each of the two outputs. -/
def upper (j : Fin 256) : Fin 1024 := ⟨j.val, by have := j.isLt; omega⟩
def lower (j : Fin 768) : Fin 1024 := ⟨256 + j.val, by have := j.isLt; omega⟩

theorem out_point (x0 : FVec Ideal S832x1024 .f32) (x1 : FVec Ideal S832x256 .bf16) (x2 : FVec Ideal S832x768 .bf16)
    (x3 : FVec Ideal S1024x1024 .bf16) (r : Fin 832) (d : Fin 1024) :
    out0_4 (F := Ideal) x0 x1 x2 x3 (ix2 r d)
      = x0 (ix2 r d) + (∑ j, x1 (ix2 r j) * x3 (ix2 (upper j) d) + ∑ j, x2 (ix2 r j) * x3 (ix2 (lower j) d)) := by
  unfold out0_4
  rw [View.canon_unit_zero (by decide)]
  simp only [View.ld_unit]
  pointwise [k0_pay1]
  try rfl

variable (m : (ℓ : Loc nD τ sig) → Buf (Elt Ideal) ℓ) (c : Dev nD)

/-- The arguments as launched. -/
abbrev hIn : FVec Ideal S4160x1024 .f32 := m ((c : Thread nD τ).loc main_arg0)
abbrev aIn : FVec Ideal S4160x256 .bf16 := m ((c : Thread nD τ).loc main_arg1)
abbrev bIn : FVec Ideal S4160x768 .bf16 := m ((c : Thread nD τ).loc main_arg2)
abbrev wIn : FVec Ideal S4x256x1024 .bf16 := m ((c : Thread nD τ).loc main_arg3)

/-- The weights, the shards one below the other. -/
def weights (w : FVec Ideal S4x256x1024 .bf16) (j d : Fin 1024) : EReal :=
  w (ix3 (⟨j.val / 256, by have := j.isLt; omega⟩ : Fin 4) (⟨j.val % 256, Nat.mod_lt _ (by norm_num)⟩ : Fin 256) d)

theorem entry : (V m c main_v0 : FVec Ideal S1024x1024 .bf16) = shapeCast S1024x1024 (wIn m c) shapeCasts_S4x256x1024_S1024x1024 := by
  show StableHlo.after hostOps0 (fun b => m (c, b)) main_v0 = _
  simp only [hostOps0, List.flatten_cons, List.flatten_nil, List.append_nil, List.cons_append, List.nil_append]
  after_results_simp <;> rfl

theorem entry_at (j d : Fin 1024) : (V m c main_v0 : FVec Ideal S1024x1024 .bf16) (ix2 j d) = weights (wIn m c) j d := by
  rw [entry]
  pointwise [weights]

/-- A row of the tile of a point. -/
def rowOf (t : Fin cfg0.N) (r : Fin 832) : Fin 4160 := ⟨832 * t.val + r.val, by have h : t.val < 5 := t.isLt; have := r.isLt; omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)

theorem blk0 (t : Fin cfg0.N) (r : Fin 832) (d : Fin 1024) : iblk m c 0 t (ix2 r d) = hIn m c (ix2 (rowOf t r) d) := by
  blk_ext [iblk, idx0 t, rowOf]
theorem blk1 (t : Fin cfg0.N) (r : Fin 832) (j : Fin 256) : iblk m c 1 t (ix2 r j) = aIn m c (ix2 (rowOf t r) j) := by
  blk_ext [iblk, idx1 t, rowOf]
theorem blk2 (t : Fin cfg0.N) (r : Fin 832) (j : Fin 768) : iblk m c 2 t (ix2 r j) = bIn m c (ix2 (rowOf t r) j) := by
  blk_ext [iblk, idx2 t, rowOf]
theorem blk3 (t : Fin cfg0.N) (j d : Fin 1024) : iblk m c 3 t (ix2 j d) = weights (wIn m c) j d := by
  rw [← entry_at]
  blk_ext [iblk, idx3 t]

/-- The result. -/
def outAt (r : Fin 4160) (d : Fin 1024) : EReal :=
  hIn m c (ix2 r d) + (∑ j, aIn m c (ix2 r j) * weights (wIn m c) (upper j) d + ∑ j, bIn m c (ix2 r j) * weights (wIn m c) (lower j) d)

theorem at_out (t : Fin cfg0.N) (r : Fin 832) (d : Fin 1024) :
    out0_4 (F := Ideal) (iblk m c 0 t) (iblk m c 1 t) (iblk m c 2 t) (iblk m c 3 t) (ix2 r d) = outAt m c (rowOf t r) d := by
  rw [out_point]
  simp only [blk0, blk1, blk2, blk3]
  rfl

theorem emb4 (t : Fin cfg0.N) (y : S832x1024.Idx) : (win0_4.blk t).view.emb y = ix2 (rowOf t (y 0)) (y 1) := by
  blk_ext [idx4 t, rowOf]

theorem fin4 : (dats m 0 c).arrAt 4 cfg0.N = fun i : S4160x1024.Idx => outAt m c (i 0) (i 1) := by
  refine (dats m 0 c).arrAt_eq_of_covers 4 _ (by decide +kernel) fun t _ y => ?_
  blk_simp
  rw [after0_4, emb4 t y]
  exact (congrArg _ (eq_ix2 y)).trans (at_out m c t (y 0) (y 1))

end Cert.Out13

end
-- ==== Proof.Out13Alg.lean ====
module

public import proofs.«01_k».proof.Defs
public import proofs.«01_k».proof.Proof.Out13
public import proofs.«01_k».proof.Proof.Gen.Reference13Ideal.Run

@[expose] public section

set_option maxRecDepth 16384

noncomputable section

/-! The even layer's product by `w_out`: the call and its reference end with the same result. -/

namespace Cert.Out13

open Idealize.ShloMosaic Idealize.ShloMosaic.TcCoe Idealize.SL.Sem

attribute [local instance] Cert.Kernel13Ideal.Gen.facts Cert.Reference13Ideal.Gen.facts

theorem frame_reference : Cert.quiescent_Reference13Ideal := fun m ρ _ =>
  (θ_run Cert.Reference13Ideal.defs _ _).mono
    (fun r h => ⟨fun c => (h c).2, sem_eq_zero_of_no_sems (by decide) r.2⟩)
    (Cert.Reference13Ideal.Value.run (F := Ideal) m ρ)

namespace Ref

open Cert.Reference13Ideal Cert.Reference13Ideal.Gen

/-- The reference's result. -/
def out (h : FVec Ideal S4160x1024 .f32) (a : FVec Ideal S4160x256 .bf16) (b : FVec Ideal S4160x768 .bf16) (w : FVec Ideal S4x256x1024 .bf16) :
    FVec Ideal S4160x1024 .f32 :=
  addf h (Host.dotGeneral dot_S4160x1024_S1024x1024_S4160x1024_1_0_0_1_n_n none
    (concatenate S4160x1024 1 [⟨S4160x256, extf .f32 a bitsLt_bf16_f32⟩, ⟨S4160x768, extf .f32 b bitsLt_bf16_f32⟩] concatenates_S4160x256_S4160x768_S4160x1024_d1)
    (extf .f32 (shapeCast S1024x1024 w shapeCasts_S4x256x1024_S1024x1024) bitsLt_bf16_f32))

theorem out_at (h : FVec Ideal S4160x1024 .f32) (a : FVec Ideal S4160x256 .bf16) (b : FVec Ideal S4160x768 .bf16)
    (w : FVec Ideal S4x256x1024 .bf16) (r : Fin 4160) (d : Fin 1024) :
    out h a b w (ix2 r d) = h (ix2 r d) + (∑ j, a (ix2 r j) * weights w (upper j) d + ∑ j, b (ix2 r j) * weights w (lower j) d) := by
  pointwise [out]
  rfl

end Ref

theorem algebraic : Cert.algebraic_Kernel13Ideal_Reference13Ideal := by
  intro m g m' g' hp he
  refine ⟨fun c => (Cert.Kernel13Ideal.Gen.dats m 0 c).arrAt 4 Cert.Kernel13Ideal.cfg0.N, Cert.Kernel13Ideal.Value.run_blocks m g, ?_⟩
  refine (θ_run _ _ _).mono (fun r h c => ?_) (Cert.Reference13Ideal.Value.run m' g')
  obtain ⟨h0, hargs⟩ := h c
  obtain ⟨e0, e1, e2, e3⟩ := he c
  refine ⟨h0.trans ?_, hargs⟩
  rw [e0, e1, e2, e3]
  refine Eq.trans ?_ (fin4 m c).symm
  funext i
  rw [eq_ix2 i]
  exact Ref.out_at (hIn m c) (aIn m c) (bIn m c) (wIn m c) (i 0) (i 1)

end Cert.Out13

end
-- ==== Proof.Out14.lean ====
module

public import proofs.«01_k».proof.Proof.Gen.Kernel14Ideal.Value
public import Idealize.ShloMosaic.Lib.Pipeline.ValueKit

@[expose] public section

set_option maxRecDepth 16384

noncomputable section

/-! The odd layer's product by `w_out`: the rows that come in, and the mixers' two outputs times the weights. -/

namespace Cert.Out14

open Cert.Kernel14Ideal Cert.Kernel14Ideal.Gen
open Idealize.ShloMosaic Idealize.ShloMosaic.TcCoe

/-- A row of the weights below each of the two outputs. -/
def upper (j : Fin 512) : Fin 1024 := ⟨j.val, by have := j.isLt; omega⟩
def lower (j : Fin 512) : Fin 1024 := ⟨512 + j.val, by have := j.isLt; omega⟩

theorem out_point (x0 : FVec Ideal S832x1024 .f32) (x1 : FVec Ideal S832x512 .bf16) (x2 : FVec Ideal S832x512 .bf16)
    (x3 : FVec Ideal S1024x1024 .bf16) (r : Fin 832) (d : Fin 1024) :
    out0_4 (F := Ideal) x0 x1 x2 x3 (ix2 r d)
      = x0 (ix2 r d) + (∑ j, x1 (ix2 r j) * x3 (ix2 (upper j) d) + ∑ j, x2 (ix2 r j) * x3 (ix2 (lower j) d)) := by
  unfold out0_4
  rw [View.canon_unit_zero (by decide)]
  simp only [View.ld_unit]
  pointwise [k0_pay1]
  try rfl

variable (m : (ℓ : Loc nD τ sig) → Buf (Elt Ideal) ℓ) (c : Dev nD)

/-- The arguments as launched. -/
abbrev hIn : FVec Ideal S4160x1024 .f32 := m ((c : Thread nD τ).loc main_arg0)
abbrev aIn : FVec Ideal S4160x512 .bf16 := m ((c : Thread nD τ).loc main_arg1)
abbrev bIn : FVec Ideal S4160x512 .bf16 := m ((c : Thread nD τ).loc main_arg2)
abbrev wIn : FVec Ideal S4x256x1024 .bf16 := m ((c : Thread nD τ).loc main_arg3)

/-- The weights, the shards one below the other. -/
def weights (w : FVec Ideal S4x256x1024 .bf16) (j d : Fin 1024) : EReal :=
  w (ix3 (⟨j.val / 256, by have := j.isLt; omega⟩ : Fin 4) (⟨j.val % 256, Nat.mod_lt _ (by norm_num)⟩ : Fin 256) d)

theorem entry : (V m c main_v0 : FVec Ideal S1024x1024 .bf16) = shapeCast S1024x1024 (wIn m c) shapeCasts_S4x256x1024_S1024x1024 := by
  show StableHlo.after hostOps0 (fun b => m (c, b)) main_v0 = _
  simp only [hostOps0, List.flatten_cons, List.flatten_nil, List.append_nil, List.cons_append, List.nil_append]
  after_results_simp <;> rfl

theorem entry_at (j d : Fin 1024) : (V m c main_v0 : FVec Ideal S1024x1024 .bf16) (ix2 j d) = weights (wIn m c) j d := by
  rw [entry]
  pointwise [weights]

/-- A row of the tile of a point. -/
def rowOf (t : Fin cfg0.N) (r : Fin 832) : Fin 4160 := ⟨832 * t.val + r.val, by have h : t.val < 5 := t.isLt; have := r.isLt; omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)

theorem blk0 (t : Fin cfg0.N) (r : Fin 832) (d : Fin 1024) : iblk m c 0 t (ix2 r d) = hIn m c (ix2 (rowOf t r) d) := by
  blk_ext [iblk, idx0 t, rowOf]
theorem blk1 (t : Fin cfg0.N) (r : Fin 832) (j : Fin 512) : iblk m c 1 t (ix2 r j) = aIn m c (ix2 (rowOf t r) j) := by
  blk_ext [iblk, idx1 t, rowOf]
theorem blk2 (t : Fin cfg0.N) (r : Fin 832) (j : Fin 512) : iblk m c 2 t (ix2 r j) = bIn m c (ix2 (rowOf t r) j) := by
  blk_ext [iblk, idx2 t, rowOf]
theorem blk3 (t : Fin cfg0.N) (j d : Fin 1024) : iblk m c 3 t (ix2 j d) = weights (wIn m c) j d := by
  rw [← entry_at]
  blk_ext [iblk, idx3 t]

/-- The result. -/
def outAt (r : Fin 4160) (d : Fin 1024) : EReal :=
  hIn m c (ix2 r d) + (∑ j, aIn m c (ix2 r j) * weights (wIn m c) (upper j) d + ∑ j, bIn m c (ix2 r j) * weights (wIn m c) (lower j) d)

theorem at_out (t : Fin cfg0.N) (r : Fin 832) (d : Fin 1024) :
    out0_4 (F := Ideal) (iblk m c 0 t) (iblk m c 1 t) (iblk m c 2 t) (iblk m c 3 t) (ix2 r d) = outAt m c (rowOf t r) d := by
  rw [out_point]
  simp only [blk0, blk1, blk2, blk3]
  rfl

theorem emb4 (t : Fin cfg0.N) (y : S832x1024.Idx) : (win0_4.blk t).view.emb y = ix2 (rowOf t (y 0)) (y 1) := by
  blk_ext [idx4 t, rowOf]

theorem fin4 : (dats m 0 c).arrAt 4 cfg0.N = fun i : S4160x1024.Idx => outAt m c (i 0) (i 1) := by
  refine (dats m 0 c).arrAt_eq_of_covers 4 _ (by decide +kernel) fun t _ y => ?_
  blk_simp
  rw [after0_4, emb4 t y]
  exact (congrArg _ (eq_ix2 y)).trans (at_out m c t (y 0) (y 1))

end Cert.Out14

end
-- ==== Proof.Out14Alg.lean ====
module

public import proofs.«01_k».proof.Defs
public import proofs.«01_k».proof.Proof.Out14
public import proofs.«01_k».proof.Proof.Gen.Reference14Ideal.Run

@[expose] public section

set_option maxRecDepth 16384

noncomputable section

/-! The odd layer's product by `w_out`: the call and its reference end with the same result. -/

namespace Cert.Out14

open Idealize.ShloMosaic Idealize.ShloMosaic.TcCoe Idealize.SL.Sem

attribute [local instance] Cert.Kernel14Ideal.Gen.facts Cert.Reference14Ideal.Gen.facts

theorem frame_reference : Cert.quiescent_Reference14Ideal := fun m ρ _ =>
  (θ_run Cert.Reference14Ideal.defs _ _).mono
    (fun r h => ⟨fun c => (h c).2, sem_eq_zero_of_no_sems (by decide) r.2⟩)
    (Cert.Reference14Ideal.Value.run (F := Ideal) m ρ)

namespace Ref

open Cert.Reference14Ideal Cert.Reference14Ideal.Gen

/-- The reference's result. -/
def out (h : FVec Ideal S4160x1024 .f32) (a : FVec Ideal S4160x512 .bf16) (b : FVec Ideal S4160x512 .bf16) (w : FVec Ideal S4x256x1024 .bf16) :
    FVec Ideal S4160x1024 .f32 :=
  addf h (Host.dotGeneral dot_S4160x1024_S1024x1024_S4160x1024_1_0_0_1_n_n none
    (concatenate S4160x1024 1 [⟨S4160x512, extf .f32 a bitsLt_bf16_f32⟩, ⟨S4160x512, extf .f32 b bitsLt_bf16_f32⟩] concatenates_S4160x512_S4160x512_S4160x1024_d1)
    (extf .f32 (shapeCast S1024x1024 w shapeCasts_S4x256x1024_S1024x1024) bitsLt_bf16_f32))

theorem out_at (h : FVec Ideal S4160x1024 .f32) (a : FVec Ideal S4160x512 .bf16) (b : FVec Ideal S4160x512 .bf16)
    (w : FVec Ideal S4x256x1024 .bf16) (r : Fin 4160) (d : Fin 1024) :
    out h a b w (ix2 r d) = h (ix2 r d) + (∑ j, a (ix2 r j) * weights w (upper j) d + ∑ j, b (ix2 r j) * weights w (lower j) d) := by
  pointwise [out]
  rfl

end Ref

theorem algebraic : Cert.algebraic_Kernel14Ideal_Reference14Ideal := by
  intro m g m' g' hp he
  refine ⟨fun c => (Cert.Kernel14Ideal.Gen.dats m 0 c).arrAt 4 Cert.Kernel14Ideal.cfg0.N, Cert.Kernel14Ideal.Value.run_blocks m g, ?_⟩
  refine (θ_run _ _ _).mono (fun r h c => ?_) (Cert.Reference14Ideal.Value.run m' g')
  obtain ⟨h0, hargs⟩ := h c
  obtain ⟨e0, e1, e2, e3⟩ := he c
  refine ⟨h0.trans ?_, hargs⟩
  rw [e0, e1, e2, e3]
  refine Eq.trans ?_ (fin4 m c).symm
  funext i
  rw [eq_ix2 i]
  exact Ref.out_at (hIn m c) (aIn m c) (bIn m c) (wIn m c) (i 0) (i 1)

end Cert.Out14

end
-- ==== Proof.In15.lean ====
module

public import proofs.«01_k».proof.Proof.Gen.Kernel15Ideal.Value
public import Idealize.ShloMosaic.Lib.Pipeline.ValueKit

@[expose] public section

set_option maxRecDepth 16384

noncomputable section

/-! The even layer's product by `w_in`: the normed rows times the weights. -/

namespace Cert.In15

open Cert.Kernel15Ideal Cert.Kernel15Ideal.Gen
open Idealize.ShloMosaic Idealize.ShloMosaic.TcCoe

/-- The reciprocal root by which a row is normed. -/
def scale (x : Fin 1024 → EReal) : EReal :=
  Ideal.rsqrt (Ideal.div (∑ k, x k * x k) (Ideal.ofBits .f32 0x44800000#32) + Ideal.ofBits .f32 0x358637BD#32)

theorem norm_point (x0 : FVec Ideal S832x1024 .f32) (x1 : FVec Ideal S1x1024 .f32) (r : Fin 832) (d : Fin 1024) :
    k0_pay1 (F := Ideal) x0 x1 (ix2 r d) = x0 (ix2 r d) * scale (fun k => x0 (ix2 r k)) * x1 (ix2 0 d) := by
  pointwise [k0_pay1, scale]

variable (x0 : FVec Ideal S832x1024 .f32) (x1 : FVec Ideal S1x1024 .f32) (x2 : FVec Ideal S3328x1024 .bf16)

theorem out_norm (r : Fin 832) (d : Fin 1024) :
    out0_4 (F := Ideal) x0 x1 x2 (ix2 r d) = x0 (ix2 r d) * scale (fun k => x0 (ix2 r k)) * x1 (ix2 0 d) := by
  rw [← norm_point]
  unfold out0_4
  rw [View.canon_unit_zero (by decide)]
  (repeat rw [View.ld_unit_zero (by decide)])

theorem out_point (r : Fin 832) (j : Fin 3328) :
    out0_3 (F := Ideal) x0 x1 x2 (ix2 r j) = ∑ k, x0 (ix2 r k) * scale (fun k => x0 (ix2 r k)) * x1 (ix2 0 k) * x2 (ix2 j k) := by
  simp only [← norm_point]
  unfold out0_3
  rw [View.canon_unit_zero (by decide)]
  (repeat rw [View.ld_unit_zero (by decide)])
  pointwise [k0_pay2]

variable (m : (ℓ : Loc nD τ sig) → Buf (Elt Ideal) ℓ) (c : Dev nD)

/-- The arguments as launched. -/
abbrev hIn : FVec Ideal S4160x1024 .f32 := m ((c : Thread nD τ).loc main_arg0)
abbrev gIn : FVec Ideal S1x1024 .f32 := m ((c : Thread nD τ).loc main_arg1)
abbrev wIn : FVec Ideal S4x832x1024 .bf16 := m ((c : Thread nD τ).loc main_arg2)

/-- The weights, the shards one below the other. -/
def weights (w : FVec Ideal S4x832x1024 .bf16) (k : Fin 1024) (j : Fin 3328) : EReal :=
  w (ix3 (⟨j.val / 832, by have := j.isLt; omega⟩ : Fin 4) (⟨j.val % 832, Nat.mod_lt _ (by norm_num)⟩ : Fin 832) k)

theorem entry : (V m c main_v0 : FVec Ideal S3328x1024 .bf16) = shapeCast S3328x1024 (wIn m c) shapeCasts_S4x832x1024_S3328x1024 := by
  show StableHlo.after hostOps0 (fun b => m (c, b)) main_v0 = _
  simp only [hostOps0, List.flatten_cons, List.flatten_nil, List.append_nil, List.cons_append, List.nil_append]
  after_results_simp <;> rfl

theorem entry_at (j : Fin 3328) (k : Fin 1024) : (V m c main_v0 : FVec Ideal S3328x1024 .bf16) (ix2 j k) = weights (wIn m c) k j := by
  rw [entry]
  pointwise [weights]

/-- A row of the tile of a point. -/
def rowOf (t : Fin cfg0.N) (r : Fin 832) : Fin 4160 := ⟨832 * t.val + r.val, by have h : t.val < 5 := t.isLt; have := r.isLt; omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

theorem blk0 (t : Fin cfg0.N) (r : Fin 832) (d : Fin 1024) : iblk m c 0 t (ix2 r d) = hIn m c (ix2 (rowOf t r) d) := by
  blk_ext [iblk, idx0 t, rowOf]
theorem blk1 (t : Fin cfg0.N) (d : Fin 1024) : iblk m c 1 t (ix2 0 d) = gIn m c (ix2 0 d) := by
  blk_ext [iblk, idx1 t]
theorem blk2 (t : Fin cfg0.N) (j : Fin 3328) (k : Fin 1024) : iblk m c 2 t (ix2 j k) = weights (wIn m c) k j := by
  rw [← entry_at]
  blk_ext [iblk, idx2 t]

/-- The normed rows, -/
def normAt (h : FVec Ideal S4160x1024 .f32) (g : FVec Ideal S1x1024 .f32) (r : Fin 4160) (d : Fin 1024) : EReal :=
  h (ix2 r d) * scale (fun k => h (ix2 r k)) * g (ix2 0 d)
/-- and their product by the weights. -/
def outAt (h : FVec Ideal S4160x1024 .f32) (g : FVec Ideal S1x1024 .f32) (w : FVec Ideal S4x832x1024 .bf16) (r : Fin 4160) (j : Fin 3328) : EReal :=
  ∑ k, normAt h g r k * weights w k j

theorem at_norm (t : Fin cfg0.N) (r : Fin 832) (d : Fin 1024) :
    out0_4 (F := Ideal) (iblk m c 0 t) (iblk m c 1 t) (iblk m c 2 t) (ix2 r d) = normAt (hIn m c) (gIn m c) (rowOf t r) d := by
  rw [out_norm]
  simp only [blk0, blk1]
  rfl

theorem at_out (t : Fin cfg0.N) (r : Fin 832) (j : Fin 3328) :
    out0_3 (F := Ideal) (iblk m c 0 t) (iblk m c 1 t) (iblk m c 2 t) (ix2 r j) = outAt (hIn m c) (gIn m c) (wIn m c) (rowOf t r) j := by
  rw [out_point]
  simp only [blk0, blk1, blk2]
  rfl

theorem emb4 (t : Fin cfg0.N) (y : S832x1024.Idx) : (win0_4.blk t).view.emb y = ix2 (rowOf t (y 0)) (y 1) := by
  blk_ext [idx4 t, rowOf]
theorem emb3 (t : Fin cfg0.N) (y : S832x3328.Idx) : (win0_3.blk t).view.emb y = ix2 (rowOf t (y 0)) (y 1) := by
  blk_ext [idx3 t, rowOf]

theorem fin4 : (dats m 0 c).arrAt 4 cfg0.N = fun i : S4160x1024.Idx => normAt (hIn m c) (gIn m c) (i 0) (i 1) := by
  refine (dats m 0 c).arrAt_eq_of_covers 4 _ (by decide +kernel) fun t _ y => ?_
  blk_simp
  rw [after0_4, emb4 t y]
  exact (congrArg _ (eq_ix2 y)).trans (at_norm m c t (y 0) (y 1))
theorem fin3 : (dats m 0 c).arrAt 3 cfg0.N = fun i : S4160x3328.Idx => outAt (hIn m c) (gIn m c) (wIn m c) (i 0) (i 1) := by
  refine (dats m 0 c).arrAt_eq_of_covers 3 _ (by decide +kernel) fun t _ y => ?_
  blk_simp
  rw [after0_3, emb3 t y]
  exact (congrArg _ (eq_ix2 y)).trans (at_out m c t (y 0) (y 1))

end Cert.In15

end
-- ==== Proof.In15Alg.lean ====
module

public import proofs.«01_k».proof.Defs
public import proofs.«01_k».proof.Proof.In15
public import proofs.«01_k».proof.Proof.Gen.Reference15Ideal.Run

@[expose] public section

set_option maxRecDepth 16384

noncomputable section

/-! The even layer's product by `w_in`: the call and its reference end with the same results. -/

namespace Cert.In15

open Idealize.ShloMosaic Idealize.ShloMosaic.TcCoe Idealize.SL.Sem

attribute [local instance] Cert.Kernel15Ideal.Gen.facts Cert.Reference15Ideal.Gen.facts

theorem frame_reference : Cert.quiescent_Reference15Ideal := fun m ρ _ =>
  (θ_run Cert.Reference15Ideal.defs _ _).mono
    (fun r h => ⟨fun c => (h c).2.2, sem_eq_zero_of_no_sems (by decide) r.2⟩)
    (Cert.Reference15Ideal.Value.run (F := Ideal) m ρ)

namespace Ref

open Cert.Reference15Ideal Cert.Reference15Ideal.Gen

variable (h : FVec Ideal S4160x1024 .f32) (g : FVec Ideal S1x1024 .f32) (w : FVec Ideal S4x832x1024 .bf16)

/-- The reference's normed rows. -/
def rows : FVec Ideal S4160x1024 .f32 :=
  mulf (mulf h (broadcastInDim S4160x1024 ![0, 1] bcast_S4160x1_S4160x1024_0_1 (Host.rsqrt (addf
    (Host.divf (broadcastInDim S4160x1 ![0] bcast_S4160_S4160x1_0 (Host.reduceAdd (mulf h h) (constant S_ .f32 0x00000000#32) reducesTo_S4160x1024_S4160_d1 h_S_))
      (broadcastInDim S4160x1 ![] bcast_S_S4160x1 (constant S_ .f32 0x44800000#32)))
    (broadcastInDim S4160x1 ![] bcast_S_S4160x1 (constant S_ .f32 0x358637BD#32))))))
    (broadcastInDim S4160x1024 ![0, 1] bcast_S1x1024_S4160x1024_0_1 (broadcastInDim S1x1024 ![1] bcast_S1024_S1x1024_1 (shapeCast S1024 g shapeCasts_S1x1024_S1024)))

theorem rows_at (r : Fin 4160) (d : Fin 1024) : rows h g (ix2 r d) = normAt h g r d := by
  pointwise [rows, normAt, scale]
  try rfl

/-- Its product by the weights. -/
def out : FVec Ideal S4160x3328 .f32 :=
  Host.dotGeneral dot_S4160x1024_S1024x3328_S4160x3328_1_0_0_1_n_n none (rows h g)
    (extf .f32 (transpose S1024x3328 [1, 0] (shapeCast S3328x1024 w shapeCasts_S4x832x1024_S3328x1024) transposes_S3328x1024_S1024x3328_1_0) bitsLt_bf16_f32)

theorem out_at (r : Fin 4160) (j : Fin 3328) : out h g w (ix2 r j) = outAt h g w r j := by
  pointwise [out]
  simp only [rows_at]
  rfl

end Ref

theorem algebraic : Cert.algebraic_Kernel15Ideal_Reference15Ideal := by
  intro m g m' g' hp he
  refine ⟨fun c => (Cert.Kernel15Ideal.Gen.dats m 0 c).arrAt 3 Cert.Kernel15Ideal.cfg0.N, fun c => (Cert.Kernel15Ideal.Gen.dats m 0 c).arrAt 4 Cert.Kernel15Ideal.cfg0.N,
    Cert.Kernel15Ideal.Value.run_blocks m g, ?_⟩
  refine (θ_run _ _ _).mono (fun r h c => ?_) (Cert.Reference15Ideal.Value.run m' g')
  obtain ⟨h0, h1, hargs⟩ := h c
  obtain ⟨e0, e1, e2⟩ := he c
  refine ⟨h0.trans ?_, h1.trans ?_, hargs⟩
  · rw [e0, e1, e2]
    refine Eq.trans ?_ (fin3 m c).symm
    funext i
    rw [eq_ix2 i]
    exact Ref.out_at (hIn m c) (gIn m c) (wIn m c) (i 0) (i 1)
  · rw [e0, e1]
    refine Eq.trans ?_ (fin4 m c).symm
    funext i
    rw [eq_ix2 i]
    exact Ref.rows_at (hIn m c) (gIn m c) (i 0) (i 1)

end Cert.In15

end
-- ==== Proof.In16.lean ====
module

public import proofs.«01_k».proof.Proof.Gen.Kernel16Ideal.Value
public import Idealize.ShloMosaic.Lib.Pipeline.ValueKit

@[expose] public section

set_option maxRecDepth 16384

noncomputable section

/-! The odd layer's product by `w_in`: the normed rows times the weights. -/

namespace Cert.In16

open Cert.Kernel16Ideal Cert.Kernel16Ideal.Gen
open Idealize.ShloMosaic Idealize.ShloMosaic.TcCoe

/-- The reciprocal root by which a row is normed. -/
def scale (x : Fin 1024 → EReal) : EReal :=
  Ideal.rsqrt (Ideal.div (∑ k, x k * x k) (Ideal.ofBits .f32 0x44800000#32) + Ideal.ofBits .f32 0x358637BD#32)

theorem norm_point (x0 : FVec Ideal S832x1024 .f32) (x1 : FVec Ideal S1x1024 .f32) (r : Fin 832) (d : Fin 1024) :
    k0_pay2 (F := Ideal) x0 x1 (ix2 r d) = x0 (ix2 r d) * scale (fun k => x0 (ix2 r k)) * x1 (ix2 0 d) := by
  pointwise [k0_pay2, scale]

variable (x0 : FVec Ideal S832x1024 .f32) (x1 : FVec Ideal S1x1024 .f32) (x2 x3 x4 x5 : FVec Ideal S1x1024x512 .bf16)

theorem out_norm (r : Fin 832) (d : Fin 1024) :
    out0_7 (F := Ideal) x0 x1 x2 x3 x4 x5 (ix2 r d) = x0 (ix2 r d) * scale (fun k => x0 (ix2 r k)) * x1 (ix2 0 d) := by
  rw [← norm_point]
  unfold out0_7
  rw [View.canon_unit_zero (by decide)]
  (repeat rw [View.ld_unit_zero (by decide)])

/-- One of the four shards' blocks. -/
def pick : Fin 4 → FVec Ideal S1x1024x512 .bf16
  | 0 => x2
  | 1 => x3
  | 2 => x4
  | 3 => x5

/-- The shard and the column within it. -/
def shardOf (j : Fin 2048) : Fin 4 := ⟨j.val / 512, by have := j.isLt; omega⟩
def colOf (j : Fin 2048) : Fin 512 := ⟨j.val % 512, Nat.mod_lt _ (by norm_num)⟩

/-- One entry of the rows times a shard. -/
def prod (w : FVec Ideal S1x1024x512 .bf16) (r : Fin 832) (q : Fin 512) : EReal :=
  ∑ k, x0 (ix2 r k) * scale (fun k => x0 (ix2 r k)) * x1 (ix2 0 k) * w (ix3 0 k q)

theorem prod1 (w : FVec Ideal S1x1024x512 .bf16) (r : Fin 832) (q : Fin 512) : k0_pay1 (F := Ideal) (k0_pay2 x0 x1) w (ix2 r q) = prod x0 x1 w r q := by
  simp only [prod, ← norm_point]
  pointwise [k0_pay1]
theorem prod3 (w : FVec Ideal S1x1024x512 .bf16) (r : Fin 832) (q : Fin 512) : k0_pay3 (F := Ideal) x0 x1 w (ix2 r q) = prod x0 x1 w r q := by
  simp only [prod, ← norm_point]
  pointwise [k0_pay3]
theorem prod4 (w : FVec Ideal S1x1024x512 .bf16) (r : Fin 832) (q : Fin 512) : k0_pay4 (F := Ideal) x0 x1 w (ix2 r q) = prod x0 x1 w r q := by
  simp only [prod, ← norm_point]
  pointwise [k0_pay4]
theorem prod5 (w : FVec Ideal S1x1024x512 .bf16) (r : Fin 832) (q : Fin 512) : k0_pay5 (F := Ideal) x0 x1 w (ix2 r q) = prod x0 x1 w r q := by
  simp only [prod, ← norm_point]
  pointwise [k0_pay5]

theorem piece (s : Fin 4) (x : (⟨2, ![832, 512]⟩ : Shape).Idx) (r : Fin 832) (j : Fin 2048) (hr : r.val = (x 0).val) (hj : j.val = 512 * s.val + (x 1).val) :
    prod x0 x1 (pick x2 x3 x4 x5 s) (x 0) (x 1) = prod x0 x1 (pick x2 x3 x4 x5 (shardOf j)) r (colOf j) := by
  have h1 : (x 1).val < 512 := (x 1).isLt
  have e1 : shardOf j = s := Fin.ext (by show j.val / 512 = s.val; omega)
  have e2 : colOf j = x 1 := Fin.ext (by show j.val % 512 = (x 1).val; omega)
  have e3 : r = x 0 := Fin.ext hr
  rw [e1, e2, e3]

theorem out_point (r : Fin 832) (j : Fin 2048) :
    out0_6 (F := Ideal) x0 x1 x2 x3 x4 x5 (ix2 r j) = prod x0 x1 (pick x2 x3 x4 x5 (shardOf j)) r (colOf j) := by
  unfold out0_6
  (repeat rw [View.ld_unit_zero (by decide)])
  canon_tiles x h
  · exact (congrArg _ (eq_ix2 x)).trans ((prod1 x0 x1 x5 (x 0) (x 1)).trans (piece x0 x1 x2 x3 x4 x5 3 x r j h0 h1))
  · exact (congrArg _ (eq_ix2 x)).trans ((prod5 x0 x1 x4 (x 0) (x 1)).trans (piece x0 x1 x2 x3 x4 x5 2 x r j h0 h1))
  · exact (congrArg _ (eq_ix2 x)).trans ((prod4 x0 x1 x3 (x 0) (x 1)).trans (piece x0 x1 x2 x3 x4 x5 1 x r j h0 h1))
  · exact (congrArg _ (eq_ix2 x)).trans ((prod3 x0 x1 x2 (x 0) (x 1)).trans (piece x0 x1 x2 x3 x4 x5 0 x r j h0 (h1.trans (by simp))))

variable (m : (ℓ : Loc nD τ sig) → Buf (Elt Ideal) ℓ) (c : Dev nD)

/-- The arguments as launched. -/
abbrev hIn : FVec Ideal S4160x1024 .f32 := m ((c : Thread nD τ).loc main_arg0)
abbrev gIn : FVec Ideal S1x1024 .f32 := m ((c : Thread nD τ).loc main_arg1)
abbrev wIn : FVec Ideal S4x1024x512 .bf16 := m ((c : Thread nD τ).loc main_arg2)

/-- The weights, the shards side by side. -/
def weights (w : FVec Ideal S4x1024x512 .bf16) (k : Fin 1024) (j : Fin 2048) : EReal := w (ix3 (shardOf j) k (colOf j))

/-- A row of the tile of a point. -/
def rowOf (t : Fin cfg0.N) (r : Fin 832) : Fin 4160 := ⟨832 * t.val + r.val, by have h : t.val < 5 := t.isLt; have := r.isLt; omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![1, 0, 0] := (by decide +kernel : ∀ t : Fin grid0.N, _)
theorem idx4 : ∀ t : Fin cfg0.N, win0_4.index t = ![2, 0, 0] := (by decide +kernel : ∀ t : Fin grid0.N, _)
theorem idx5 : ∀ t : Fin cfg0.N, win0_5.index t = ![3, 0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem blk0 (t : Fin cfg0.N) (r : Fin 832) (d : Fin 1024) : iblk m c 0 t (ix2 r d) = hIn m c (ix2 (rowOf t r) d) := by
  blk_ext [iblk, idx0 t, rowOf]
theorem blk1 (t : Fin cfg0.N) (d : Fin 1024) : iblk m c 1 t (ix2 0 d) = gIn m c (ix2 0 d) := by
  blk_ext [iblk, idx1 t]
theorem blk2 (t : Fin cfg0.N) (a : Fin 1024) (q : Fin 512) : iblk m c 2 t (ix3 0 a q) = wIn m c (ix3 0 a q) := by
  blk_ext [iblk, idx2 t]
theorem blk3 (t : Fin cfg0.N) (a : Fin 1024) (q : Fin 512) : iblk m c 3 t (ix3 0 a q) = wIn m c (ix3 1 a q) := by
  blk_ext [iblk, idx3 t]
theorem blk4 (t : Fin cfg0.N) (a : Fin 1024) (q : Fin 512) : iblk m c 4 t (ix3 0 a q) = wIn m c (ix3 2 a q) := by
  blk_ext [iblk, idx4 t]
theorem blk5 (t : Fin cfg0.N) (a : Fin 1024) (q : Fin 512) : iblk m c 5 t (ix3 0 a q) = wIn m c (ix3 3 a q) := by
  blk_ext [iblk, idx5 t]
theorem picked (t : Fin cfg0.N) (s : Fin 4) (a : Fin 1024) (q : Fin 512) :
    pick (iblk m c 2 t) (iblk m c 3 t) (iblk m c 4 t) (iblk m c 5 t) s (ix3 0 a q) = wIn m c (ix3 s a q) :=
  match s with
  | 0 => blk2 m c t a q
  | 1 => blk3 m c t a q
  | 2 => blk4 m c t a q
  | 3 => blk5 m c t a q

/-- The normed rows, -/
def normAt (h : FVec Ideal S4160x1024 .f32) (g : FVec Ideal S1x1024 .f32) (r : Fin 4160) (d : Fin 1024) : EReal :=
  h (ix2 r d) * scale (fun k => h (ix2 r k)) * g (ix2 0 d)
/-- and their product by the weights. -/
def outAt (h : FVec Ideal S4160x1024 .f32) (g : FVec Ideal S1x1024 .f32) (w : FVec Ideal S4x1024x512 .bf16) (r : Fin 4160) (j : Fin 2048) : EReal :=
  ∑ k, normAt h g r k * weights w k j

theorem at_norm (t : Fin cfg0.N) (r : Fin 832) (d : Fin 1024) :
    out0_7 (F := Ideal) (iblk m c 0 t) (iblk m c 1 t) (iblk m c 2 t) (iblk m c 3 t) (iblk m c 4 t) (iblk m c 5 t) (ix2 r d) = normAt (hIn m c) (gIn m c) (rowOf t r) d := by
  rw [out_norm]
  simp only [blk0, blk1]
  rfl

theorem at_out (t : Fin cfg0.N) (r : Fin 832) (j : Fin 2048) :
    out0_6 (F := Ideal) (iblk m c 0 t) (iblk m c 1 t) (iblk m c 2 t) (iblk m c 3 t) (iblk m c 4 t) (iblk m c 5 t) (ix2 r j) = outAt (hIn m c) (gIn m c) (wIn m c) (rowOf t r) j := by
  rw [out_point]
  simp only [prod, picked, blk0, blk1]
  rfl

theorem emb7 (t : Fin cfg0.N) (y : S832x1024.Idx) : (win0_7.blk t).view.emb y = ix2 (rowOf t (y 0)) (y 1) := by
  blk_ext [idx7 t, rowOf]
theorem emb6 (t : Fin cfg0.N) (y : S832x2048.Idx) : (win0_6.blk t).view.emb y = ix2 (rowOf t (y 0)) (y 1) := by
  blk_ext [idx6 t, rowOf]

theorem fin7 : (dats m 0 c).arrAt 7 cfg0.N = fun i : S4160x1024.Idx => normAt (hIn m c) (gIn m c) (i 0) (i 1) := by
  refine (dats m 0 c).arrAt_eq_of_covers 7 _ (by decide +kernel) fun t _ y => ?_
  blk_simp
  rw [after0_7, emb7 t y]
  exact (congrArg _ (eq_ix2 y)).trans (at_norm m c t (y 0) (y 1))
theorem fin6 : (dats m 0 c).arrAt 6 cfg0.N = fun i : S4160x2048.Idx => outAt (hIn m c) (gIn m c) (wIn m c) (i 0) (i 1) := by
  refine (dats m 0 c).arrAt_eq_of_covers 6 _ (by decide +kernel) fun t _ y => ?_
  blk_simp
  rw [after0_6, emb6 t y]
  exact (congrArg _ (eq_ix2 y)).trans (at_out m c t (y 0) (y 1))

end Cert.In16

end
-- ==== Proof.In16Alg.lean ====
module

public import proofs.«01_k».proof.Defs
public import proofs.«01_k».proof.Proof.In16
public import proofs.«01_k».proof.Proof.Gen.Reference16Ideal.Run

@[expose] public section

set_option maxRecDepth 16384

noncomputable section

/-! The odd layer's product by `w_in`: the call and its reference end with the same results. -/

namespace Cert.In16

open Idealize.ShloMosaic Idealize.ShloMosaic.TcCoe Idealize.SL.Sem

attribute [local instance] Cert.Kernel16Ideal.Gen.facts Cert.Reference16Ideal.Gen.facts

theorem frame_reference : Cert.quiescent_Reference16Ideal := fun m ρ _ =>
  (θ_run Cert.Reference16Ideal.defs _ _).mono
    (fun r h => ⟨fun c => (h c).2.2, sem_eq_zero_of_no_sems (by decide) r.2⟩)
    (Cert.Reference16Ideal.Value.run (F := Ideal) m ρ)

namespace Ref

open Cert.Reference16Ideal Cert.Reference16Ideal.Gen

variable (h : FVec Ideal S4160x1024 .f32) (g : FVec Ideal S1x1024 .f32) (w : FVec Ideal S4x1024x512 .bf16)

/-- The reference's normed rows. -/
def rows : FVec Ideal S4160x1024 .f32 :=
  mulf (mulf h (broadcastInDim S4160x1024 ![0, 1] bcast_S4160x1_S4160x1024_0_1 (Host.rsqrt (addf
    (Host.divf (broadcastInDim S4160x1 ![0] bcast_S4160_S4160x1_0 (Host.reduceAdd (mulf h h) (constant S_ .f32 0x00000000#32) reducesTo_S4160x1024_S4160_d1 h_S_))
      (broadcastInDim S4160x1 ![] bcast_S_S4160x1 (constant S_ .f32 0x44800000#32)))
    (broadcastInDim S4160x1 ![] bcast_S_S4160x1 (constant S_ .f32 0x358637BD#32))))))
    (broadcastInDim S4160x1024 ![0, 1] bcast_S1x1024_S4160x1024_0_1 (broadcastInDim S1x1024 ![1] bcast_S1024_S1x1024_1 (shapeCast S1024 g shapeCasts_S1x1024_S1024)))

theorem rows_at (r : Fin 4160) (d : Fin 1024) : rows h g (ix2 r d) = normAt h g r d := by
  pointwise [rows, normAt, scale]
  try rfl

/-- Its product by the weights. -/
def out : FVec Ideal S4160x2048 .f32 :=
  Host.dotGeneral dot_S4160x1024_S1024x2048_S4160x2048_1_0_0_1_n_n none (rows h g)
    (extf .f32 (shapeCast S1024x2048 (transpose S1024x4x512 [1, 0, 2] w transposes_S4x1024x512_S1024x4x512_1_0_2) shapeCasts_S1024x4x512_S1024x2048) bitsLt_bf16_f32)

theorem out_at (r : Fin 4160) (j : Fin 2048) : out h g w (ix2 r j) = outAt h g w r j := by
  pointwise [out]
  simp only [rows_at]
  rfl

end Ref

theorem algebraic : Cert.algebraic_Kernel16Ideal_Reference16Ideal := by
  intro m g m' g' hp he
  refine ⟨fun c => (Cert.Kernel16Ideal.Gen.dats m 0 c).arrAt 6 Cert.Kernel16Ideal.cfg0.N, fun c => (Cert.Kernel16Ideal.Gen.dats m 0 c).arrAt 7 Cert.Kernel16Ideal.cfg0.N,
    Cert.Kernel16Ideal.Value.run_blocks m g, ?_⟩
  refine (θ_run _ _ _).mono (fun r h c => ?_) (Cert.Reference16Ideal.Value.run m' g')
  obtain ⟨h0, h1, hargs⟩ := h c
  obtain ⟨e0, e1, e2⟩ := he c
  refine ⟨h0.trans ?_, h1.trans ?_, hargs⟩
  · rw [e0, e1, e2]
    refine Eq.trans ?_ (fin6 m c).symm
    funext i
    rw [eq_ix2 i]
    exact Ref.out_at (hIn m c) (gIn m c) (wIn m c) (i 0) (i 1)
  · rw [e0, e1]
    refine Eq.trans ?_ (fin7 m c).symm
    funext i
    rw [eq_ix2 i]
    exact Ref.rows_at (hIn m c) (gIn m c) (i 0) (i 1)

end Cert.In16

end
-- ==== Proof.Win17Terms.lean ====
module

public import proofs.«01_k».proof.Proof.Gen.Kernel17Ideal.Value
public import Idealize.ShloMosaic.Lib.VecWindow

@[expose] public section

set_option maxRecDepth 16384

noncomputable section

/-! The odd layer's `w_in` gradient: what the points leave in each sum, by the stores' own terms. -/

namespace Cert.Win17

open Cert.Kernel17Ideal Cert.Kernel17Ideal.Gen
open Idealize.ShloMosaic Idealize.ShloMosaic.TcCoe Idealize.ShloMosaic.Tactic

variable {F : FTy → Type} [FloatOps F]
variable (m : (ℓ : Loc nD τ sig) → Buf (Elt F) ℓ) (c : Dev nD) (t : Fin cfg0.N)

/-- What the point before left. -/
abbrev before := outsAt0 m c (t.val - 1) (Nat.lt_of_le_of_lt (Nat.sub_le _ _) t.isLt)

/-- On the first tile each sum starts from zero. -/
theorem first (h0 : t.val % 4 = 0) (h1 : ¬t.val % 4 = 3) :
    (outsAt0 m c t.val t.isLt).2.2.2.2.1 = k0_pay15 (X0_0 m c t) k0_pay11 (X0_1 m c t) ∧
    (outsAt0 m c t.val t.isLt).2.2.2.2.2.1 = k0_pay16 (X0_0 m c t) k0_pay12 (X0_2 m c t) ∧
    (outsAt0 m c t.val t.isLt).2.2.2.2.2.2.1 = k0_pay17 (X0_0 m c t) k0_pay13 (X0_3 m c t) ∧
    (outsAt0 m c t.val t.isLt).2.2.2.2.2.2.2 = k0_pay1 (X0_0 m c t) k0_pay14 (X0_4 m c t) := by
  rw [outsAt0_A m c t h0 h1]
  unfold sout0_A_0 sout0_A_1 sout0_A_2 sout0_A_3 kernelRun0_A
  dsimp only
  sl_unfold_run_names
  refine ⟨?_, ?_, ?_, ?_⟩ <;> (repeat first | rw [View.read_writes_full] | rw [View.readAt_writes_full] | rw [View.readCov_full] | rw [View.readAt_full] | rw [Memref.IsWhole.read_unread])

/-- On a tile in between its share is added. -/
theorem mid (h0 : ¬t.val % 4 = 0) (h1 : ¬t.val % 4 = 3) :
    (outsAt0 m c t.val t.isLt).2.2.2.2.1 = k0_pay15 (X0_0 m c t) (before m c t).2.2.2.2.1 (X0_1 m c t) ∧
    (outsAt0 m c t.val t.isLt).2.2.2.2.2.1 = k0_pay16 (X0_0 m c t) (before m c t).2.2.2.2.2.1 (X0_2 m c t) ∧
    (outsAt0 m c t.val t.isLt).2.2.2.2.2.2.1 = k0_pay17 (X0_0 m c t) (before m c t).2.2.2.2.2.2.1 (X0_3 m c t) ∧
    (outsAt0 m c t.val t.isLt).2.2.2.2.2.2.2 = k0_pay1 (X0_0 m c t) (before m c t).2.2.2.2.2.2.2 (X0_4 m c t) := by
  rw [outsAt0_B m c t h0 h1]
  unfold sout0_B_0 sout0_B_1 sout0_B_2 sout0_B_3 kernelRun0_B
  dsimp only
  sl_unfold_run_names
  refine ⟨?_, ?_, ?_, ?_⟩ <;> (repeat first | rw [View.read_writes_full] | rw [View.readAt_writes_full] | rw [View.readCov_full] | rw [View.readAt_full] | rw [Memref.IsWhole.read_unread])
  all_goals first
    | exact congrArg (fun a => k0_pay15 (X0_0 m c t) a (X0_1 m c t)) (Memref.IsWhole.read_unread _ _)
    | exact congrArg (fun a => k0_pay16 (X0_0 m c t) a (X0_2 m c t)) (Memref.IsWhole.read_unread _ _)
    | exact congrArg (fun a => k0_pay17 (X0_0 m c t) a (X0_3 m c t)) (Memref.IsWhole.read_unread _ _)

/-- With the last tile the last rows' share too, -/
theorem fin (h0 : ¬t.val % 4 = 0) (h1 : t.val % 4 = 3) :
    (outsAt0 m c t.val t.isLt).2.2.2.2.1 = k0_pay7 (iblk m c 5 t) (k0_pay15 (X0_0 m c t) (before m c t).2.2.2.2.1 (X0_1 m c t)) (iblk m c 6 t) ∧
    (outsAt0 m c t.val t.isLt).2.2.2.2.2.1 = k0_pay8 (iblk m c 5 t) (k0_pay16 (X0_0 m c t) (before m c t).2.2.2.2.2.1 (X0_2 m c t)) (iblk m c 7 t) ∧
    (outsAt0 m c t.val t.isLt).2.2.2.2.2.2.1 = k0_pay9 (iblk m c 5 t) (k0_pay17 (X0_0 m c t) (before m c t).2.2.2.2.2.2.1 (X0_3 m c t)) (iblk m c 8 t) ∧
    (outsAt0 m c t.val t.isLt).2.2.2.2.2.2.2 = k0_pay2 (k0_pay10 (iblk m c 5 t) (k0_pay1 (X0_0 m c t) (before m c t).2.2.2.2.2.2.2 (X0_4 m c t)) (iblk m c 9 t)) := by
  rw [outsAt0_C m c t h0 h1]
  unfold sout0_C_0 sout0_C_1 sout0_C_2 sout0_C_3 kernelRun0_C
  dsimp only
  sl_unfold_run_names
  refine ⟨?_, ?_, ?_, ?_⟩ <;> (repeat first | rw [View.read_writes_full] | rw [View.readAt_writes_full] | rw [View.readCov_full] | rw [View.readAt_full] | rw [Memref.IsWhole.read_unread])

/-- and the results are the sums. -/
theorem out (h0 : ¬t.val % 4 = 0) (h1 : t.val % 4 = 3) :
    (outsAt0 m c t.val t.isLt).1 = k0_pay3 ((outsAt0 m c t.val t.isLt).2.2.2.2.1) ∧
    (outsAt0 m c t.val t.isLt).2.1 = k0_pay4 ((outsAt0 m c t.val t.isLt).2.2.2.2.2.1) ∧
    (outsAt0 m c t.val t.isLt).2.2.1 = k0_pay5 ((outsAt0 m c t.val t.isLt).2.2.2.2.2.2.1) ∧
    (outsAt0 m c t.val t.isLt).2.2.2.1 = k0_pay6 ((outsAt0 m c t.val t.isLt).2.2.2.2.2.2.2) := by
  obtain ⟨e0, e1, e2, e3⟩ := fin m c t h0 h1
  rw [e0, e1, e2, e3]
  rw [outsAt0_C m c t h0 h1]
  unfold out0_C_10 out0_C_11 out0_C_12 out0_C_13 kernelRun0_C
  dsimp only
  sl_unfold_run_names
  refine ⟨?_, ?_, ?_, ?_⟩ <;> (repeat first | rw [View.read_writes_full] | rw [View.readAt_writes_full] | rw [View.readCov_full] | rw [View.readAt_full] | rw [Memref.IsWhole.read_unread])

end Cert.Win17

end
-- ==== Proof.Win17.lean ====
module

public import proofs.«01_k».proof.Proof.Win17Terms
public import proofs.«01_k».proof.Proof.Tiles
public import Idealize.ShloMosaic.Lib.Pipeline.ValueKit

@[expose] public section

set_option maxRecDepth 16384

noncomputable section

/-! The odd layer's `w_in` gradient at the end of its call. -/

namespace Cert.Win17

open Cert.Kernel17Ideal Cert.Kernel17Ideal.Gen
open Idealize.ShloMosaic Idealize.ShloMosaic.TcCoe
open Cert.Chain.Spec Cert.Chain.Tiles

variable (m : (ℓ : Loc nD τ sig) → Buf (Elt Ideal) ℓ) (c : Dev nD)

/-- The tile of a point. -/
def longOf (t : Fin cfg0.N) : Fin 4 := ⟨t.val % 4, Nat.mod_lt _ (by norm_num)⟩

/-- The arguments as launched. -/
abbrev nIn : FVec Ideal S4160x1024 .bf16 := m ((c : Thread nD τ).loc main_arg0)
abbrev dIn0 : FVec Ideal S4160x512 .bf16 := m ((c : Thread nD τ).loc main_arg1)
abbrev dIn1 : FVec Ideal S4160x512 .bf16 := m ((c : Thread nD τ).loc main_arg2)
abbrev dIn2 : FVec Ideal S4160x512 .bf16 := m ((c : Thread nD τ).loc main_arg3)
abbrev dIn3 : FVec Ideal S4160x512 .bf16 := m ((c : Thread nD τ).loc main_arg4)

/-- A sum that goes as the points take it is the sum over all rows. -/
theorem sum_of_steps (f : Fin 4160 → EReal) (a : Fin 4 → EReal) (h0 : a 0 = share f 0) (h1 : a 1 = a 0 + share f 1)
    (h2 : a 2 = a 1 + share f 2) (h3 : a 3 = a 2 + share f 3 + last f) : a 3 = ∑ r, f r := by
  rw [h3, h2, h1, h0]
  exact upTo_all f

/-- One row's term of the product. -/
def term {w : ℕ} (n : FVec Ideal S4160x1024 .bf16) (p : FVec Ideal (⟨2, ![4160, w]⟩ : Shape) .bf16) (d : Fin 1024) (q : Fin w) (r : Fin 4160) : EReal :=
  n (ix2 r d) * p (ix2 r q)

theorem idx0 : ∀ t : Fin cfg0.N, win0_0.index t = ![t.val % 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val % 4, 0] := (by decide +kernel : ∀ t : Fin grid0.N, _)
theorem idx3 : ∀ t : Fin cfg0.N, win0_3.index t = ![t.val % 4, 0] := (by decide +kernel : ∀ t : Fin grid0.N, _)
theorem idx4 : ∀ t : Fin cfg0.N, win0_4.index t = ![t.val % 4, 0] := (by decide +kernel : ∀ t : Fin grid0.N, _)
theorem idx5 : ∀ t : Fin cfg0.N, win0_5.index t = ![64, 0] := (by decide +kernel : ∀ t : Fin grid0.N, _)
theorem idx6 : ∀ t : Fin cfg0.N, win0_6.index t = ![64, 0] := (by decide +kernel : ∀ t : Fin grid0.N, _)
theorem idx7 : ∀ t : Fin cfg0.N, win0_7.index t = ![64, 0] := (by decide +kernel : ∀ t : Fin grid0.N, _)
theorem idx8 : ∀ t : Fin cfg0.N, win0_8.index t = ![64, 0] := (by decide +kernel : ∀ t : Fin grid0.N, _)
theorem idx9 : ∀ t : Fin cfg0.N, win0_9.index t = ![64, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)

/-! The blocks read. -/

theorem blk0 (t : Fin cfg0.N) (x : Fin 1024) (q : Fin 1024) : X0_0 m c t (ix2 x q) = nIn m c (ix2 (long (longOf t) x) q) := by
  unfold X0_0 Pipeline.Window.fill
  rw [dif_pos (moved0_0 t _)]
  blk_ext [iblk, idx0 t, long, longOf]
theorem blk5 (t : Fin cfg0.N) (x : Fin 64) (q : Fin 1024) : iblk m c 5 t (ix2 x q) = nIn m c (ix2 (tail x) q) := by
  blk_ext [iblk, idx5 t, tail]
theorem blk1 (t : Fin cfg0.N) (x : Fin 1024) (q : Fin 512) : X0_1 m c t (ix2 x q) = dIn0 m c (ix2 (long (longOf t) x) q) := by
  unfold X0_1 Pipeline.Window.fill
  rw [dif_pos (moved0_1 t _)]
  blk_ext [iblk, idx1 t, long, longOf]
theorem blk6 (t : Fin cfg0.N) (x : Fin 64) (q : Fin 512) : iblk m c 6 t (ix2 x q) = dIn0 m c (ix2 (tail x) q) := by
  blk_ext [iblk, idx6 t, tail]
theorem blk2 (t : Fin cfg0.N) (x : Fin 1024) (q : Fin 512) : X0_2 m c t (ix2 x q) = dIn1 m c (ix2 (long (longOf t) x) q) := by
  unfold X0_2 Pipeline.Window.fill
  rw [dif_pos (moved0_2 t _)]
  blk_ext [iblk, idx2 t, long, longOf]
theorem blk7 (t : Fin cfg0.N) (x : Fin 64) (q : Fin 512) : iblk m c 7 t (ix2 x q) = dIn1 m c (ix2 (tail x) q) := by
  blk_ext [iblk, idx7 t, tail]
theorem blk3 (t : Fin cfg0.N) (x : Fin 1024) (q : Fin 512) : X0_3 m c t (ix2 x q) = dIn2 m c (ix2 (long (longOf t) x) q) := by
  unfold X0_3 Pipeline.Window.fill
  rw [dif_pos (moved0_3 t _)]
  blk_ext [iblk, idx3 t, long, longOf]
theorem blk8 (t : Fin cfg0.N) (x : Fin 64) (q : Fin 512) : iblk m c 8 t (ix2 x q) = dIn2 m c (ix2 (tail x) q) := by
  blk_ext [iblk, idx8 t, tail]
theorem blk4 (t : Fin cfg0.N) (x : Fin 1024) (q : Fin 512) : X0_4 m c t (ix2 x q) = dIn3 m c (ix2 (long (longOf t) x) q) := by
  unfold X0_4 Pipeline.Window.fill
  rw [dif_pos (moved0_4 t _)]
  blk_ext [iblk, idx4 t, long, longOf]
theorem blk9 (t : Fin cfg0.N) (x : Fin 64) (q : Fin 512) : iblk m c 9 t (ix2 x q) = dIn3 m c (ix2 (tail x) q) := by
  blk_ext [iblk, idx9 t, tail]

/-! Sum 1. -/

section
variable {acc : FVec Ideal S1024x512 .f32}

theorem long0 (n : FVec Ideal S1024x1024 .bf16) (p : FVec Ideal S1024x512 .bf16) (d : Fin 1024) (q : Fin 512) :
    k0_pay15 (F := Ideal) n acc p (ix2 d q) = acc (ix2 d q) + ∑ x, n (ix2 x d) * p (ix2 x q) := by
  pointwise [k0_pay15]
theorem tail0 (n : FVec Ideal S64x1024 .bf16) (p : FVec Ideal S64x512 .bf16) (d : Fin 1024) (q : Fin 512) :
    k0_pay7 (F := Ideal) n acc p (ix2 d q) = acc (ix2 d q) + ∑ x, n (ix2 x d) * p (ix2 x q) := by
  pointwise [k0_pay7]
theorem zero0 (d : Fin 1024) (q : Fin 512) : k0_pay11 (F := Ideal) (ix2 d q) = 0 := by
  pointwise [k0_pay11]
theorem pay0 (d : Fin 1024) (q : Fin 512) : k0_pay3 (F := Ideal) acc (ix2 d q) = acc (ix2 d q) := by
  pointwise [k0_pay3]

theorem stepLong0 (t : Fin cfg0.N) (d : Fin 1024) (q : Fin 512) :
    k0_pay15 (F := Ideal) (X0_0 m c t) acc (X0_1 m c t) (ix2 d q) = acc (ix2 d q) + share (term (nIn m c) (dIn0 m c) d q) (longOf t) := by
  rw [long0]
  simp only [blk0, blk1]
  rfl
theorem stepTail0 (t : Fin cfg0.N) (d : Fin 1024) (q : Fin 512) :
    k0_pay7 (F := Ideal) (iblk m c 5 t) acc (iblk m c 6 t) (ix2 d q) = acc (ix2 d q) + last (term (nIn m c) (dIn0 m c) d q) := by
  rw [tail0]
  simp only [blk5, blk6]
  rfl
end

theorem sum0 (d : Fin 1024) (q : Fin 512) : (outsAt0 m c 3 (by decide)).2.2.2.2.1 (ix2 d q) = ∑ r, term (nIn m c) (dIn0 m c) d q r := by
  refine sum_of_steps _ (fun t : Fin 4 => (outsAt0 m c t.val t.isLt).2.2.2.2.1 (ix2 d q)) ?_ ?_ ?_ ?_
  · exact (congrFun ((first m c ⟨0, by decide⟩ rfl (by decide)).1) _).trans ((stepLong0 m c _ d q).trans ((congrArg (fun z : EReal => z + _) (zero0 d q)).trans (zero_add _)))
  · exact (congrFun ((mid m c ⟨1, by decide⟩ (by decide) (by decide)).1) _).trans (stepLong0 m c _ d q)
  · exact (congrFun ((mid m c ⟨2, by decide⟩ (by decide) (by decide)).1) _).trans (stepLong0 m c _ d q)
  · exact (congrFun ((fin m c ⟨3, by decide⟩ (by decide) rfl).1) _).trans ((stepTail0 m c _ d q).trans (congrArg (fun z : EReal => z + _) (stepLong0 m c _ d q)))

theorem emb10 (t : Fin cfg0.N) (y : S1024x512.Idx) : (win0_10.blk t).view.emb y = ix2 (y 0) (y 1) := by
  blk_ext [idx10 t]

theorem fin10 : (dats m 0 c).arrAt 10 cfg0.N = fun i : S1024x512.Idx => ∑ r, term (nIn m c) (dIn0 m c) (i 0) (i 1) r := by
  refine (dats m 0 c).arrAt_eq_of_covers 10 _ (by decide +kernel) fun t hf y => ?_
  blk_simp
  rw [after0_10, emb10 t y]
  obtain rfl : t = (⟨3, by decide⟩ : Fin cfg0.N) := Fin.ext (by have h : t.val < 4 := t.isLt; have h3 : t.val % 4 = 3 := (flush0_10 t).mp hf; show t.val = 3; omega)
  rw [show _ = _ from (out m c ⟨3, by decide⟩ (by decide) rfl).1]
  exact (congrArg _ (eq_ix2 y)).trans ((pay0 (y 0) (y 1)).trans (sum0 m c (y 0) (y 1)))

/-! Sum 2. -/

section
variable {acc : FVec Ideal S1024x512 .f32}

theorem long1 (n : FVec Ideal S1024x1024 .bf16) (p : FVec Ideal S1024x512 .bf16) (d : Fin 1024) (q : Fin 512) :
    k0_pay16 (F := Ideal) n acc p (ix2 d q) = acc (ix2 d q) + ∑ x, n (ix2 x d) * p (ix2 x q) := by
  pointwise [k0_pay16]
theorem tail1 (n : FVec Ideal S64x1024 .bf16) (p : FVec Ideal S64x512 .bf16) (d : Fin 1024) (q : Fin 512) :
    k0_pay8 (F := Ideal) n acc p (ix2 d q) = acc (ix2 d q) + ∑ x, n (ix2 x d) * p (ix2 x q) := by
  pointwise [k0_pay8]
theorem zero1 (d : Fin 1024) (q : Fin 512) : k0_pay12 (F := Ideal) (ix2 d q) = 0 := by
  pointwise [k0_pay12]
theorem pay1 (d : Fin 1024) (q : Fin 512) : k0_pay4 (F := Ideal) acc (ix2 d q) = acc (ix2 d q) := by
  pointwise [k0_pay4]

theorem stepLong1 (t : Fin cfg0.N) (d : Fin 1024) (q : Fin 512) :
    k0_pay16 (F := Ideal) (X0_0 m c t) acc (X0_2 m c t) (ix2 d q) = acc (ix2 d q) + share (term (nIn m c) (dIn1 m c) d q) (longOf t) := by
  rw [long1]
  simp only [blk0, blk2]
  rfl
theorem stepTail1 (t : Fin cfg0.N) (d : Fin 1024) (q : Fin 512) :
    k0_pay8 (F := Ideal) (iblk m c 5 t) acc (iblk m c 7 t) (ix2 d q) = acc (ix2 d q) + last (term (nIn m c) (dIn1 m c) d q) := by
  rw [tail1]
  simp only [blk5, blk7]
  rfl
end

theorem sum1 (d : Fin 1024) (q : Fin 512) : (outsAt0 m c 3 (by decide)).2.2.2.2.2.1 (ix2 d q) = ∑ r, term (nIn m c) (dIn1 m c) d q r := by
  refine sum_of_steps _ (fun t : Fin 4 => (outsAt0 m c t.val t.isLt).2.2.2.2.2.1 (ix2 d q)) ?_ ?_ ?_ ?_
  · exact (congrFun ((first m c ⟨0, by decide⟩ rfl (by decide)).2.1) _).trans ((stepLong1 m c _ d q).trans ((congrArg (fun z : EReal => z + _) (zero1 d q)).trans (zero_add _)))
  · exact (congrFun ((mid m c ⟨1, by decide⟩ (by decide) (by decide)).2.1) _).trans (stepLong1 m c _ d q)
  · exact (congrFun ((mid m c ⟨2, by decide⟩ (by decide) (by decide)).2.1) _).trans (stepLong1 m c _ d q)
  · exact (congrFun ((fin m c ⟨3, by decide⟩ (by decide) rfl).2.1) _).trans ((stepTail1 m c _ d q).trans (congrArg (fun z : EReal => z + _) (stepLong1 m c _ d q)))

theorem emb11 (t : Fin cfg0.N) (y : S1024x512.Idx) : (win0_11.blk t).view.emb y = ix2 (y 0) (y 1) := by
  blk_ext [idx11 t]

theorem fin11 : (dats m 0 c).arrAt 11 cfg0.N = fun i : S1024x512.Idx => ∑ r, term (nIn m c) (dIn1 m c) (i 0) (i 1) r := by
  refine (dats m 0 c).arrAt_eq_of_covers 11 _ (by decide +kernel) fun t hf y => ?_
  blk_simp
  rw [after0_11, emb11 t y]
  obtain rfl : t = (⟨3, by decide⟩ : Fin cfg0.N) := Fin.ext (by have h : t.val < 4 := t.isLt; have h3 : t.val % 4 = 3 := (flush0_11 t).mp hf; show t.val = 3; omega)
  rw [show _ = _ from (out m c ⟨3, by decide⟩ (by decide) rfl).2.1]
  exact (congrArg _ (eq_ix2 y)).trans ((pay1 (y 0) (y 1)).trans (sum1 m c (y 0) (y 1)))

/-! Sum 3. -/

section
variable {acc : FVec Ideal S1024x512 .f32}

theorem long2 (n : FVec Ideal S1024x1024 .bf16) (p : FVec Ideal S1024x512 .bf16) (d : Fin 1024) (q : Fin 512) :
    k0_pay17 (F := Ideal) n acc p (ix2 d q) = acc (ix2 d q) + ∑ x, n (ix2 x d) * p (ix2 x q) := by
  pointwise [k0_pay17]
theorem tail2 (n : FVec Ideal S64x1024 .bf16) (p : FVec Ideal S64x512 .bf16) (d : Fin 1024) (q : Fin 512) :
    k0_pay9 (F := Ideal) n acc p (ix2 d q) = acc (ix2 d q) + ∑ x, n (ix2 x d) * p (ix2 x q) := by
  pointwise [k0_pay9]
theorem zero2 (d : Fin 1024) (q : Fin 512) : k0_pay13 (F := Ideal) (ix2 d q) = 0 := by
  pointwise [k0_pay13]
theorem pay2 (d : Fin 1024) (q : Fin 512) : k0_pay5 (F := Ideal) acc (ix2 d q) = acc (ix2 d q) := by
  pointwise [k0_pay5]

theorem stepLong2 (t : Fin cfg0.N) (d : Fin 1024) (q : Fin 512) :
    k0_pay17 (F := Ideal) (X0_0 m c t) acc (X0_3 m c t) (ix2 d q) = acc (ix2 d q) + share (term (nIn m c) (dIn2 m c) d q) (longOf t) := by
  rw [long2]
  simp only [blk0, blk3]
  rfl
theorem stepTail2 (t : Fin cfg0.N) (d : Fin 1024) (q : Fin 512) :
    k0_pay9 (F := Ideal) (iblk m c 5 t) acc (iblk m c 8 t) (ix2 d q) = acc (ix2 d q) + last (term (nIn m c) (dIn2 m c) d q) := by
  rw [tail2]
  simp only [blk5, blk8]
  rfl
end

theorem sum2 (d : Fin 1024) (q : Fin 512) : (outsAt0 m c 3 (by decide)).2.2.2.2.2.2.1 (ix2 d q) = ∑ r, term (nIn m c) (dIn2 m c) d q r := by
  refine sum_of_steps _ (fun t : Fin 4 => (outsAt0 m c t.val t.isLt).2.2.2.2.2.2.1 (ix2 d q)) ?_ ?_ ?_ ?_
  · exact (congrFun ((first m c ⟨0, by decide⟩ rfl (by decide)).2.2.1) _).trans ((stepLong2 m c _ d q).trans ((congrArg (fun z : EReal => z + _) (zero2 d q)).trans (zero_add _)))
  · exact (congrFun ((mid m c ⟨1, by decide⟩ (by decide) (by decide)).2.2.1) _).trans (stepLong2 m c _ d q)
  · exact (congrFun ((mid m c ⟨2, by decide⟩ (by decide) (by decide)).2.2.1) _).trans (stepLong2 m c _ d q)
  · exact (congrFun ((fin m c ⟨3, by decide⟩ (by decide) rfl).2.2.1) _).trans ((stepTail2 m c _ d q).trans (congrArg (fun z : EReal => z + _) (stepLong2 m c _ d q)))

theorem emb12 (t : Fin cfg0.N) (y : S1024x512.Idx) : (win0_12.blk t).view.emb y = ix2 (y 0) (y 1) := by
  blk_ext [idx12 t]

theorem fin12 : (dats m 0 c).arrAt 12 cfg0.N = fun i : S1024x512.Idx => ∑ r, term (nIn m c) (dIn2 m c) (i 0) (i 1) r := by
  refine (dats m 0 c).arrAt_eq_of_covers 12 _ (by decide +kernel) fun t hf y => ?_
  blk_simp
  rw [after0_12, emb12 t y]
  obtain rfl : t = (⟨3, by decide⟩ : Fin cfg0.N) := Fin.ext (by have h : t.val < 4 := t.isLt; have h3 : t.val % 4 = 3 := (flush0_12 t).mp hf; show t.val = 3; omega)
  rw [show _ = _ from (out m c ⟨3, by decide⟩ (by decide) rfl).2.2.1]
  exact (congrArg _ (eq_ix2 y)).trans ((pay2 (y 0) (y 1)).trans (sum2 m c (y 0) (y 1)))

/-! Sum 4. -/

section
variable {acc : FVec Ideal S1024x512 .f32}

theorem long3 (n : FVec Ideal S1024x1024 .bf16) (p : FVec Ideal S1024x512 .bf16) (d : Fin 1024) (q : Fin 512) :
    k0_pay1 (F := Ideal) n acc p (ix2 d q) = acc (ix2 d q) + ∑ x, n (ix2 x d) * p (ix2 x q) := by
  pointwise [k0_pay1]
theorem tail3 (n : FVec Ideal S64x1024 .bf16) (p : FVec Ideal S64x512 .bf16) (d : Fin 1024) (q : Fin 512) :
    k0_pay2 (F := Ideal) (k0_pay10 n acc p) (ix2 d q) = acc (ix2 d q) + ∑ x, n (ix2 x d) * p (ix2 x q) := by
  pointwise [k0_pay2, k0_pay10]
theorem zero3 (d : Fin 1024) (q : Fin 512) : k0_pay14 (F := Ideal) (ix2 d q) = 0 := by
  pointwise [k0_pay14]
theorem pay3 (d : Fin 1024) (q : Fin 512) : k0_pay6 (F := Ideal) acc (ix2 d q) = acc (ix2 d q) := by
  pointwise [k0_pay6]

theorem stepLong3 (t : Fin cfg0.N) (d : Fin 1024) (q : Fin 512) :
    k0_pay1 (F := Ideal) (X0_0 m c t) acc (X0_4 m c t) (ix2 d q) = acc (ix2 d q) + share (term (nIn m c) (dIn3 m c) d q) (longOf t) := by
  rw [long3]
  simp only [blk0, blk4]
  rfl
theorem stepTail3 (t : Fin cfg0.N) (d : Fin 1024) (q : Fin 512) :
    k0_pay2 (F := Ideal) (k0_pay10 (iblk m c 5 t) acc (iblk m c 9 t)) (ix2 d q) = acc (ix2 d q) + last (term (nIn m c) (dIn3 m c) d q) := by
  rw [tail3]
  simp only [blk5, blk9]
  rfl
end

theorem sum3 (d : Fin 1024) (q : Fin 512) : (outsAt0 m c 3 (by decide)).2.2.2.2.2.2.2 (ix2 d q) = ∑ r, term (nIn m c) (dIn3 m c) d q r := by
  refine sum_of_steps _ (fun t : Fin 4 => (outsAt0 m c t.val t.isLt).2.2.2.2.2.2.2 (ix2 d q)) ?_ ?_ ?_ ?_
  · exact (congrFun ((first m c ⟨0, by decide⟩ rfl (by decide)).2.2.2) _).trans ((stepLong3 m c _ d q).trans ((congrArg (fun z : EReal => z + _) (zero3 d q)).trans (zero_add _)))
  · exact (congrFun ((mid m c ⟨1, by decide⟩ (by decide) (by decide)).2.2.2) _).trans (stepLong3 m c _ d q)
  · exact (congrFun ((mid m c ⟨2, by decide⟩ (by decide) (by decide)).2.2.2) _).trans (stepLong3 m c _ d q)
  · exact (congrFun ((fin m c ⟨3, by decide⟩ (by decide) rfl).2.2.2) _).trans ((stepTail3 m c _ d q).trans (congrArg (fun z : EReal => z + _) (stepLong3 m c _ d q)))

theorem emb13 (t : Fin cfg0.N) (y : S1024x512.Idx) : (win0_13.blk t).view.emb y = ix2 (y 0) (y 1) := by
  blk_ext [idx13 t]

theorem fin13 : (dats m 0 c).arrAt 13 cfg0.N = fun i : S1024x512.Idx => ∑ r, term (nIn m c) (dIn3 m c) (i 0) (i 1) r := by
  refine (dats m 0 c).arrAt_eq_of_covers 13 _ (by decide +kernel) fun t hf y => ?_
  blk_simp
  rw [after0_13, emb13 t y]
  obtain rfl : t = (⟨3, by decide⟩ : Fin cfg0.N) := Fin.ext (by have h : t.val < 4 := t.isLt; have h3 : t.val % 4 = 3 := (flush0_13 t).mp hf; show t.val = 3; omega)
  rw [show _ = _ from (out m c ⟨3, by decide⟩ (by decide) rfl).2.2.2]
  exact (congrArg _ (eq_ix2 y)).trans ((pay3 (y 0) (y 1)).trans (sum3 m c (y 0) (y 1)))

end Cert.Win17

end
-- ==== Proof.Win17Alg.lean ====
module

public import proofs.«01_k».proof.Defs
public import proofs.«01_k».proof.Proof.Win17
public import proofs.«01_k».proof.Proof.Gen.Reference17Ideal.Run

@[expose] public section

set_option maxRecDepth 16384

noncomputable section

/-! The odd layer's `w_in` gradient: the call and its reference end with the same results. -/

namespace Cert.Win17

open Idealize.ShloMosaic Idealize.ShloMosaic.TcCoe Idealize.SL.Sem

attribute [local instance] Cert.Kernel17Ideal.Gen.facts Cert.Reference17Ideal.Gen.facts

theorem frame_reference : Cert.quiescent_Reference17Ideal := fun m ρ _ =>
  (θ_run Cert.Reference17Ideal.defs _ _).mono
    (fun r h => ⟨fun c => (h c).2.2.2.2, sem_eq_zero_of_no_sems (by decide) r.2⟩)
    (Cert.Reference17Ideal.Value.run (F := Ideal) m ρ)

namespace Ref

open Cert.Reference17Ideal Cert.Reference17Ideal.Gen

variable (n : FVec Ideal S4160x1024 .bf16) (p0 : FVec Ideal S4160x512 .bf16) (p1 : FVec Ideal S4160x512 .bf16) (p2 : FVec Ideal S4160x512 .bf16) (p3 : FVec Ideal S4160x512 .bf16)

/-- The gradient at the product, its pieces side by side. -/
def both : FVec Ideal S4160x2048 .f32 :=
  concatenate S4160x2048 1 [⟨S4160x512, ((extf .f32 p0 bitsLt_bf16_f32) : (⟨S4160x512, .f32⟩ : BufTy).Contents (Elt Ideal))⟩, ⟨S4160x512, ((extf .f32 p1 bitsLt_bf16_f32) : (⟨S4160x512, .f32⟩ : BufTy).Contents (Elt Ideal))⟩, ⟨S4160x512, ((extf .f32 p2 bitsLt_bf16_f32) : (⟨S4160x512, .f32⟩ : BufTy).Contents (Elt Ideal))⟩, ⟨S4160x512, ((extf .f32 p3 bitsLt_bf16_f32) : (⟨S4160x512, .f32⟩ : BufTy).Contents (Elt Ideal))⟩] concatenates_S4160x512_S4160x512_S4160x512_S4160x512_S4160x2048_d1

theorem both0 (r : Fin 4160) (j : Fin 2048) (q : Fin 512) (h : j.val = 0 + q.val) : both p0 p1 p2 p3 (ix2 r j) = p0 (ix2 r q) := by
  have hq := q.isLt
  pointwise [both]
  (repeat first | rw [dif_neg (by omega)] | rw [dif_pos (by omega)])
  exact congrArg (fun z => p0 (ix2 r z)) (Fin.ext (by dsimp only; omega))
theorem both1 (r : Fin 4160) (j : Fin 2048) (q : Fin 512) (h : j.val = 512 + q.val) : both p0 p1 p2 p3 (ix2 r j) = p1 (ix2 r q) := by
  have hq := q.isLt
  pointwise [both]
  (repeat first | rw [dif_neg (by omega)] | rw [dif_pos (by omega)])
  exact congrArg (fun z => p1 (ix2 r z)) (Fin.ext (by dsimp only; omega))
theorem both2 (r : Fin 4160) (j : Fin 2048) (q : Fin 512) (h : j.val = 1024 + q.val) : both p0 p1 p2 p3 (ix2 r j) = p2 (ix2 r q) := by
  have hq := q.isLt
  pointwise [both]
  (repeat first | rw [dif_neg (by omega)] | rw [dif_pos (by omega)])
  exact congrArg (fun z => p2 (ix2 r z)) (Fin.ext (by dsimp only; omega))
theorem both3 (r : Fin 4160) (j : Fin 2048) (q : Fin 512) (h : j.val = 1536 + q.val) : both p0 p1 p2 p3 (ix2 r j) = p3 (ix2 r q) := by
  have hq := q.isLt
  pointwise [both]
  (repeat first | rw [dif_neg (by omega)] | rw [dif_pos (by omega)])
  exact congrArg (fun z => p3 (ix2 r z)) (Fin.ext (by dsimp only; omega))

/-- The gradient of the weights. -/
def grad : FVec Ideal S1024x2048 .bf16 :=
  truncf .bf16 (transpose S1024x2048 [1, 0] (Host.dotGeneral dot_S4160x2048_S4160x1024_S2048x1024_0_0_1_1_n_n none (both p0 p1 p2 p3)
    (extf .f32 n bitsLt_bf16_f32)) transposes_S2048x1024_S1024x2048_1_0) bitsLt_bf16_f32

theorem grad_at (d : Fin 1024) (j : Fin 2048) : grad n p0 p1 p2 p3 (ix2 d j) = ∑ r, both p0 p1 p2 p3 (ix2 r j) * n (ix2 r d) := by
  pointwise [grad]

/-- Piece 1 of it. -/
def piece0 : FVec Ideal S1024x512 .bf16 := extractStridedSlice S1024x512 ![0, 0] (grad n p0 p1 p2 p3) slices_S1024x2048_S1024x512_0_0
theorem piece0_at (d : Fin 1024) (q : Fin 512) : piece0 n p0 p1 p2 p3 (ix2 d q) = ∑ r, term n p0 d q r := by
  pointwise [piece0]
  rw [grad_at]
  exact Finset.sum_congr rfl fun r _ => (congrArg (fun z : EReal => z * n (ix2 r d)) (both0 p0 p1 p2 p3 r _ q (Nat.zero_add _).symm)).trans (mul_comm _ _)
/-- Piece 2 of it. -/
def piece1 : FVec Ideal S1024x512 .bf16 := extractStridedSlice S1024x512 ![0, 512] (grad n p0 p1 p2 p3) slices_S1024x2048_S1024x512_0_512
theorem piece1_at (d : Fin 1024) (q : Fin 512) : piece1 n p0 p1 p2 p3 (ix2 d q) = ∑ r, term n p1 d q r := by
  pointwise [piece1]
  rw [grad_at]
  exact Finset.sum_congr rfl fun r _ => (congrArg (fun z : EReal => z * n (ix2 r d)) (both1 p0 p1 p2 p3 r _ q (by first | rfl | (dsimp only; omega)))).trans (mul_comm _ _)
/-- Piece 3 of it. -/
def piece2 : FVec Ideal S1024x512 .bf16 := extractStridedSlice S1024x512 ![0, 1024] (grad n p0 p1 p2 p3) slices_S1024x2048_S1024x512_0_1024
theorem piece2_at (d : Fin 1024) (q : Fin 512) : piece2 n p0 p1 p2 p3 (ix2 d q) = ∑ r, term n p2 d q r := by
  pointwise [piece2]
  rw [grad_at]
  exact Finset.sum_congr rfl fun r _ => (congrArg (fun z : EReal => z * n (ix2 r d)) (both2 p0 p1 p2 p3 r _ q (by first | rfl | (dsimp only; omega)))).trans (mul_comm _ _)
/-- Piece 4 of it. -/
def piece3 : FVec Ideal S1024x512 .bf16 := extractStridedSlice S1024x512 ![0, 1536] (grad n p0 p1 p2 p3) slices_S1024x2048_S1024x512_0_1536
theorem piece3_at (d : Fin 1024) (q : Fin 512) : piece3 n p0 p1 p2 p3 (ix2 d q) = ∑ r, term n p3 d q r := by
  pointwise [piece3]
  rw [grad_at]
  exact Finset.sum_congr rfl fun r _ => (congrArg (fun z : EReal => z * n (ix2 r d)) (both3 p0 p1 p2 p3 r _ q (by first | rfl | (dsimp only; omega)))).trans (mul_comm _ _)

end Ref

theorem algebraic : Cert.algebraic_Kernel17Ideal_Reference17Ideal := by
  intro m g m' g' hp he
  refine ⟨fun c => (Cert.Kernel17Ideal.Gen.dats m 0 c).arrAt 10 Cert.Kernel17Ideal.cfg0.N, fun c => (Cert.Kernel17Ideal.Gen.dats m 0 c).arrAt 11 Cert.Kernel17Ideal.cfg0.N, fun c => (Cert.Kernel17Ideal.Gen.dats m 0 c).arrAt 12 Cert.Kernel17Ideal.cfg0.N, fun c => (Cert.Kernel17Ideal.Gen.dats m 0 c).arrAt 13 Cert.Kernel17Ideal.cfg0.N,
    Cert.Kernel17Ideal.Value.run_blocks m g, ?_⟩
  refine (θ_run _ _ _).mono (fun r h c => ?_) (Cert.Reference17Ideal.Value.run m' g')
  obtain ⟨h0, h1, h2, h3, hargs⟩ := h c
  obtain ⟨e0, e1, e2, e3, e4⟩ := he c
  refine ⟨h0.trans ?_, h1.trans ?_, h2.trans ?_, h3.trans ?_, hargs⟩
  · rw [e0, e1, e2, e3, e4]
    refine Eq.trans ?_ (fin10 m c).symm
    funext i
    rw [eq_ix2 i]
    exact Ref.piece0_at (nIn m c) (dIn0 m c) (dIn1 m c) (dIn2 m c) (dIn3 m c) (i 0) (i 1)
  · rw [e0, e1, e2, e3, e4]
    refine Eq.trans ?_ (fin11 m c).symm
    funext i
    rw [eq_ix2 i]
    exact Ref.piece1_at (nIn m c) (dIn0 m c) (dIn1 m c) (dIn2 m c) (dIn3 m c) (i 0) (i 1)
  · rw [e0, e1, e2, e3, e4]
    refine Eq.trans ?_ (fin12 m c).symm
    funext i
    rw [eq_ix2 i]
    exact Ref.piece2_at (nIn m c) (dIn0 m c) (dIn1 m c) (dIn2 m c) (dIn3 m c) (i 0) (i 1)
  · rw [e0, e1, e2, e3, e4]
    refine Eq.trans ?_ (fin13 m c).symm
    funext i
    rw [eq_ix2 i]
    exact Ref.piece3_at (nIn m c) (dIn0 m c) (dIn1 m c) (dIn2 m c) (dIn3 m c) (i 0) (i 1)

end Cert.Win17

end
-- ==== Proof.Win18Terms.lean ====
module

public import proofs.«01_k».proof.Proof.Gen.Kernel18Ideal.Value
public import Idealize.ShloMosaic.Lib.VecWindow

@[expose] public section

set_option maxRecDepth 16384

noncomputable section

/-! The even layer's `w_in` gradient: what the points leave in each sum, by the stores' own terms. -/

namespace Cert.Win18

open Cert.Kernel18Ideal Cert.Kernel18Ideal.Gen
open Idealize.ShloMosaic Idealize.ShloMosaic.TcCoe Idealize.ShloMosaic.Tactic

variable {F : FTy → Type} [FloatOps F]
variable (m : (ℓ : Loc nD τ sig) → Buf (Elt F) ℓ) (c : Dev nD) (t : Fin cfg0.N)

/-- What the point before left. -/
abbrev before := outsAt0 m c (t.val - 1) (Nat.lt_of_le_of_lt (Nat.sub_le _ _) t.isLt)

/-- On the first tile each sum starts from zero. -/
theorem first (h0 : t.val % 4 = 0) (h1 : ¬t.val % 4 = 3) :
    (outsAt0 m c t.val t.isLt).2.2.2.2.2.1 = k0_pay19 (X0_0 m c t) k0_pay14 (X0_1 m c t) ∧
    (outsAt0 m c t.val t.isLt).2.2.2.2.2.2.1 = k0_pay20 (X0_0 m c t) k0_pay15 (X0_2 m c t) ∧
    (outsAt0 m c t.val t.isLt).2.2.2.2.2.2.2.1 = k0_pay21 (X0_0 m c t) k0_pay16 (X0_3 m c t) ∧
    (outsAt0 m c t.val t.isLt).2.2.2.2.2.2.2.2.1 = k0_pay1 (X0_0 m c t) k0_pay17 (X0_4 m c t) ∧
    (outsAt0 m c t.val t.isLt).2.2.2.2.2.2.2.2.2 = k0_pay2 (X0_0 m c t) k0_pay18 (X0_5 m c t) := by
  rw [outsAt0_A m c t h0 h1]
  unfold sout0_A_0 sout0_A_1 sout0_A_2 sout0_A_3 sout0_A_4 kernelRun0_A
  dsimp only
  sl_unfold_run_names
  refine ⟨?_, ?_, ?_, ?_, ?_⟩ <;> (repeat first | rw [View.read_writes_full] | rw [View.readAt_writes_full] | rw [View.readCov_full] | rw [View.readAt_full] | rw [Memref.IsWhole.read_unread])

/-- On a tile in between its share is added. -/
theorem mid (h0 : ¬t.val % 4 = 0) (h1 : ¬t.val % 4 = 3) :
    (outsAt0 m c t.val t.isLt).2.2.2.2.2.1 = k0_pay19 (X0_0 m c t) (before m c t).2.2.2.2.2.1 (X0_1 m c t) ∧
    (outsAt0 m c t.val t.isLt).2.2.2.2.2.2.1 = k0_pay20 (X0_0 m c t) (before m c t).2.2.2.2.2.2.1 (X0_2 m c t) ∧
    (outsAt0 m c t.val t.isLt).2.2.2.2.2.2.2.1 = k0_pay21 (X0_0 m c t) (before m c t).2.2.2.2.2.2.2.1 (X0_3 m c t) ∧
    (outsAt0 m c t.val t.isLt).2.2.2.2.2.2.2.2.1 = k0_pay1 (X0_0 m c t) (before m c t).2.2.2.2.2.2.2.2.1 (X0_4 m c t) ∧
    (outsAt0 m c t.val t.isLt).2.2.2.2.2.2.2.2.2 = k0_pay2 (X0_0 m c t) (before m c t).2.2.2.2.2.2.2.2.2 (X0_5 m c t) := by
  rw [outsAt0_B m c t h0 h1]
  unfold sout0_B_0 sout0_B_1 sout0_B_2 sout0_B_3 sout0_B_4 kernelRun0_B
  dsimp only
  sl_unfold_run_names
  refine ⟨?_, ?_, ?_, ?_, ?_⟩ <;> (repeat first | rw [View.read_writes_full] | rw [View.readAt_writes_full] | rw [View.readCov_full] | rw [View.readAt_full] | rw [Memref.IsWhole.read_unread])
  all_goals first
    | exact congrArg (fun a => k0_pay19 (X0_0 m c t) a (X0_1 m c t)) (Memref.IsWhole.read_unread _ _)
    | exact congrArg (fun a => k0_pay20 (X0_0 m c t) a (X0_2 m c t)) (Memref.IsWhole.read_unread _ _)
    | exact congrArg (fun a => k0_pay21 (X0_0 m c t) a (X0_3 m c t)) (Memref.IsWhole.read_unread _ _)
    | exact congrArg (fun a => k0_pay1 (X0_0 m c t) a (X0_4 m c t)) (Memref.IsWhole.read_unread _ _)
    | exact congrArg (fun a => k0_pay2 (X0_0 m c t) a (X0_5 m c t)) (Memref.IsWhole.read_unread _ _)

/-- With the last tile the last rows' share too, -/
theorem fin (h0 : ¬t.val % 4 = 0) (h1 : t.val % 4 = 3) :
    (outsAt0 m c t.val t.isLt).2.2.2.2.2.1 = k0_pay10 (iblk m c 6 t) (k0_pay19 (X0_0 m c t) (before m c t).2.2.2.2.2.1 (X0_1 m c t)) (iblk m c 7 t) ∧
    (outsAt0 m c t.val t.isLt).2.2.2.2.2.2.1 = k0_pay11 (iblk m c 6 t) (k0_pay20 (X0_0 m c t) (before m c t).2.2.2.2.2.2.1 (X0_2 m c t)) (iblk m c 8 t) ∧
    (outsAt0 m c t.val t.isLt).2.2.2.2.2.2.2.1 = k0_pay12 (iblk m c 6 t) (k0_pay21 (X0_0 m c t) (before m c t).2.2.2.2.2.2.2.1 (X0_3 m c t)) (iblk m c 9 t) ∧
    (outsAt0 m c t.val t.isLt).2.2.2.2.2.2.2.2.1 = k0_pay3 (k0_pay13 (iblk m c 6 t) (k0_pay1 (X0_0 m c t) (before m c t).2.2.2.2.2.2.2.2.1 (X0_4 m c t)) (iblk m c 10 t)) ∧
    (outsAt0 m c t.val t.isLt).2.2.2.2.2.2.2.2.2 = k0_pay4 (iblk m c 6 t) (k0_pay2 (X0_0 m c t) (before m c t).2.2.2.2.2.2.2.2.2 (X0_5 m c t)) (iblk m c 11 t) := by
  rw [outsAt0_C m c t h0 h1]
  unfold sout0_C_0 sout0_C_1 sout0_C_2 sout0_C_3 sout0_C_4 kernelRun0_C
  dsimp only
  sl_unfold_run_names
  refine ⟨?_, ?_, ?_, ?_, ?_⟩ <;> (repeat first | rw [View.read_writes_full] | rw [View.readAt_writes_full] | rw [View.readCov_full] | rw [View.readAt_full] | rw [Memref.IsWhole.read_unread])

/-- and the results are the sums. -/
theorem out (h0 : ¬t.val % 4 = 0) (h1 : t.val % 4 = 3) :
    (outsAt0 m c t.val t.isLt).1 = k0_pay5 ((outsAt0 m c t.val t.isLt).2.2.2.2.2.1) ∧
    (outsAt0 m c t.val t.isLt).2.1 = k0_pay6 ((outsAt0 m c t.val t.isLt).2.2.2.2.2.2.1) ∧
    (outsAt0 m c t.val t.isLt).2.2.1 = k0_pay7 ((outsAt0 m c t.val t.isLt).2.2.2.2.2.2.2.1) ∧
    (outsAt0 m c t.val t.isLt).2.2.2.1 = k0_pay8 ((outsAt0 m c t.val t.isLt).2.2.2.2.2.2.2.2.1) ∧
    (outsAt0 m c t.val t.isLt).2.2.2.2.1 = k0_pay9 ((outsAt0 m c t.val t.isLt).2.2.2.2.2.2.2.2.2) := by
  obtain ⟨e0, e1, e2, e3, e4⟩ := fin m c t h0 h1
  rw [e0, e1, e2, e3, e4]
  rw [outsAt0_C m c t h0 h1]
  unfold out0_C_12 out0_C_13 out0_C_14 out0_C_15 out0_C_16 kernelRun0_C
  dsimp only
  sl_unfold_run_names
  refine ⟨?_, ?_, ?_, ?_, ?_⟩ <;> (repeat first | rw [View.read_writes_full] | rw [View.readAt_writes_full] | rw [View.readCov_full] | rw [View.readAt_full] | rw [Memref.IsWhole.read_unread])

end Cert.Win18

end
-- ==== Proof.Win18.lean ====
module

public import proofs.«01_k».proof.Proof.Win18Terms
public import proofs.«01_k».proof.Proof.Tiles
public import Idealize.ShloMosaic.Lib.Pipeline.ValueKit

@[expose] public section

set_option maxRecDepth 16384

noncomputable section

/-! The even layer's `w_in` gradient at the end of its call. -/

namespace Cert.Win18

open Cert.Kernel18Ideal Cert.Kernel18Ideal.Gen
open Idealize.ShloMosaic Idealize.ShloMosaic.TcCoe
open Cert.Chain.Spec Cert.Chain.Tiles

variable (m : (ℓ : Loc nD τ sig) → Buf (Elt Ideal) ℓ) (c : Dev nD)

/-- The tile of a point. -/
def longOf (t : Fin cfg0.N) : Fin 4 := ⟨t.val % 4, Nat.mod_lt _ (by norm_num)⟩

/-- The arguments as launched. -/
abbrev nIn : FVec Ideal S4160x1024 .bf16 := m ((c : Thread nD τ).loc main_arg0)
abbrev dIn0 : FVec Ideal S4160x256 .bf16 := m ((c : Thread nD τ).loc main_arg1)
abbrev dIn1 : FVec Ideal S4160x768 .bf16 := m ((c : Thread nD τ).loc main_arg2)
abbrev dIn2 : FVec Ideal S4160x768 .bf16 := m ((c : Thread nD τ).loc main_arg3)
abbrev dIn3 : FVec Ideal S4160x768 .bf16 := m ((c : Thread nD τ).loc main_arg4)
abbrev dIn4 : FVec Ideal S4160x768 .bf16 := m ((c : Thread nD τ).loc main_arg5)

/-- A sum that goes as the points take it is the sum over all rows. -/
theorem sum_of_steps (f : Fin 4160 → EReal) (a : Fin 4 → EReal) (h0 : a 0 = share f 0) (h1 : a 1 = a 0 + share f 1)
    (h2 : a 2 = a 1 + share f 2) (h3 : a 3 = a 2 + share f 3 + last f) : a 3 = ∑ r, f r := by
  rw [h3, h2, h1, h0]
  exact upTo_all f

/-- One row's term of the product. -/
def term {w : ℕ} (n : FVec Ideal S4160x1024 .bf16) (p : FVec Ideal (⟨2, ![4160, w]⟩ : Shape) .bf16) (d : Fin 1024) (q : Fin w) (r : Fin 4160) : EReal :=
  n (ix2 r d) * p (ix2 r q)

theorem idx0 : ∀ t : Fin cfg0.N, win0_0.index t = ![t.val % 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val % 4, 0] := (by decide +kernel : ∀ t : Fin grid0.N, _)
theorem idx3 : ∀ t : Fin cfg0.N, win0_3.index t = ![t.val % 4, 0] := (by decide +kernel : ∀ t : Fin grid0.N, _)
theorem idx4 : ∀ t : Fin cfg0.N, win0_4.index t = ![t.val % 4, 0] := (by decide +kernel : ∀ t : Fin grid0.N, _)
theorem idx5 : ∀ t : Fin cfg0.N, win0_5.index t = ![t.val % 4, 0] := (by decide +kernel : ∀ t : Fin grid0.N, _)
theorem idx6 : ∀ t : Fin cfg0.N, win0_6.index t = ![64, 0] := (by decide +kernel : ∀ t : Fin grid0.N, _)
theorem idx7 : ∀ t : Fin cfg0.N, win0_7.index t = ![64, 0] := (by decide +kernel : ∀ t : Fin grid0.N, _)
theorem idx8 : ∀ t : Fin cfg0.N, win0_8.index t = ![64, 0] := (by decide +kernel : ∀ t : Fin grid0.N, _)
theorem idx9 : ∀ t : Fin cfg0.N, win0_9.index t = ![64, 0] := (by decide +kernel : ∀ t : Fin grid0.N, _)
theorem idx10 : ∀ t : Fin cfg0.N, win0_10.index t = ![64, 0] := (by decide +kernel : ∀ t : Fin grid0.N, _)
theorem idx11 : ∀ t : Fin cfg0.N, win0_11.index t = ![64, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)

/-! The blocks read. -/

theorem blk0 (t : Fin cfg0.N) (x : Fin 1024) (q : Fin 1024) : X0_0 m c t (ix2 x q) = nIn m c (ix2 (long (longOf t) x) q) := by
  unfold X0_0 Pipeline.Window.fill
  rw [dif_pos (moved0_0 t _)]
  blk_ext [iblk, idx0 t, long, longOf]
theorem blk6 (t : Fin cfg0.N) (x : Fin 64) (q : Fin 1024) : iblk m c 6 t (ix2 x q) = nIn m c (ix2 (tail x) q) := by
  blk_ext [iblk, idx6 t, tail]
theorem blk1 (t : Fin cfg0.N) (x : Fin 1024) (q : Fin 256) : X0_1 m c t (ix2 x q) = dIn0 m c (ix2 (long (longOf t) x) q) := by
  unfold X0_1 Pipeline.Window.fill
  rw [dif_pos (moved0_1 t _)]
  blk_ext [iblk, idx1 t, long, longOf]
theorem blk7 (t : Fin cfg0.N) (x : Fin 64) (q : Fin 256) : iblk m c 7 t (ix2 x q) = dIn0 m c (ix2 (tail x) q) := by
  blk_ext [iblk, idx7 t, tail]
theorem blk2 (t : Fin cfg0.N) (x : Fin 1024) (q : Fin 768) : X0_2 m c t (ix2 x q) = dIn1 m c (ix2 (long (longOf t) x) q) := by
  unfold X0_2 Pipeline.Window.fill
  rw [dif_pos (moved0_2 t _)]
  blk_ext [iblk, idx2 t, long, longOf]
theorem blk8 (t : Fin cfg0.N) (x : Fin 64) (q : Fin 768) : iblk m c 8 t (ix2 x q) = dIn1 m c (ix2 (tail x) q) := by
  blk_ext [iblk, idx8 t, tail]
theorem blk3 (t : Fin cfg0.N) (x : Fin 1024) (q : Fin 768) : X0_3 m c t (ix2 x q) = dIn2 m c (ix2 (long (longOf t) x) q) := by
  unfold X0_3 Pipeline.Window.fill
  rw [dif_pos (moved0_3 t _)]
  blk_ext [iblk, idx3 t, long, longOf]
theorem blk9 (t : Fin cfg0.N) (x : Fin 64) (q : Fin 768) : iblk m c 9 t (ix2 x q) = dIn2 m c (ix2 (tail x) q) := by
  blk_ext [iblk, idx9 t, tail]
theorem blk4 (t : Fin cfg0.N) (x : Fin 1024) (q : Fin 768) : X0_4 m c t (ix2 x q) = dIn3 m c (ix2 (long (longOf t) x) q) := by
  unfold X0_4 Pipeline.Window.fill
  rw [dif_pos (moved0_4 t _)]
  blk_ext [iblk, idx4 t, long, longOf]
theorem blk10 (t : Fin cfg0.N) (x : Fin 64) (q : Fin 768) : iblk m c 10 t (ix2 x q) = dIn3 m c (ix2 (tail x) q) := by
  blk_ext [iblk, idx10 t, tail]
theorem blk5 (t : Fin cfg0.N) (x : Fin 1024) (q : Fin 768) : X0_5 m c t (ix2 x q) = dIn4 m c (ix2 (long (longOf t) x) q) := by
  unfold X0_5 Pipeline.Window.fill
  rw [dif_pos (moved0_5 t _)]
  blk_ext [iblk, idx5 t, long, longOf]
theorem blk11 (t : Fin cfg0.N) (x : Fin 64) (q : Fin 768) : iblk m c 11 t (ix2 x q) = dIn4 m c (ix2 (tail x) q) := by
  blk_ext [iblk, idx11 t, tail]

/-! Sum 1. -/

section
variable {acc : FVec Ideal S256x1024 .f32}

theorem long0 (n : FVec Ideal S1024x1024 .bf16) (p : FVec Ideal S1024x256 .bf16) (q : Fin 256) (d : Fin 1024) :
    k0_pay19 (F := Ideal) n acc p (ix2 q d) = acc (ix2 q d) + ∑ x, p (ix2 x q) * n (ix2 x d) := by
  pointwise [k0_pay19]
theorem tail0 (n : FVec Ideal S64x1024 .bf16) (p : FVec Ideal S64x256 .bf16) (q : Fin 256) (d : Fin 1024) :
    k0_pay10 (F := Ideal) n acc p (ix2 q d) = acc (ix2 q d) + ∑ x, p (ix2 x q) * n (ix2 x d) := by
  pointwise [k0_pay10]
theorem zero0 (q : Fin 256) (d : Fin 1024) : k0_pay14 (F := Ideal) (ix2 q d) = 0 := by
  pointwise [k0_pay14]
theorem pay0 (q : Fin 256) (d : Fin 1024) : k0_pay5 (F := Ideal) acc (ix2 q d) = acc (ix2 q d) := by
  pointwise [k0_pay5]

theorem stepLong0 (t : Fin cfg0.N) (q : Fin 256) (d : Fin 1024) :
    k0_pay19 (F := Ideal) (X0_0 m c t) acc (X0_1 m c t) (ix2 q d) = acc (ix2 q d) + share (term (nIn m c) (dIn0 m c) d q) (longOf t) := by
  rw [long0]
  simp only [blk0, blk1]
  simp only [mul_comm (dIn0 m c _) (nIn m c _)]
  rfl
theorem stepTail0 (t : Fin cfg0.N) (q : Fin 256) (d : Fin 1024) :
    k0_pay10 (F := Ideal) (iblk m c 6 t) acc (iblk m c 7 t) (ix2 q d) = acc (ix2 q d) + last (term (nIn m c) (dIn0 m c) d q) := by
  rw [tail0]
  simp only [blk6, blk7]
  simp only [mul_comm (dIn0 m c _) (nIn m c _)]
  rfl
end

theorem sum0 (q : Fin 256) (d : Fin 1024) : (outsAt0 m c 3 (by decide)).2.2.2.2.2.1 (ix2 q d) = ∑ r, term (nIn m c) (dIn0 m c) d q r := by
  refine sum_of_steps _ (fun t : Fin 4 => (outsAt0 m c t.val t.isLt).2.2.2.2.2.1 (ix2 q d)) ?_ ?_ ?_ ?_
  · exact (congrFun ((first m c ⟨0, by decide⟩ rfl (by decide)).1) _).trans ((stepLong0 m c _ q d).trans ((congrArg (fun z : EReal => z + _) (zero0 q d)).trans (zero_add _)))
  · exact (congrFun ((mid m c ⟨1, by decide⟩ (by decide) (by decide)).1) _).trans (stepLong0 m c _ q d)
  · exact (congrFun ((mid m c ⟨2, by decide⟩ (by decide) (by decide)).1) _).trans (stepLong0 m c _ q d)
  · exact (congrFun ((fin m c ⟨3, by decide⟩ (by decide) rfl).1) _).trans ((stepTail0 m c _ q d).trans (congrArg (fun z : EReal => z + _) (stepLong0 m c _ q d)))

theorem emb12 (t : Fin cfg0.N) (y : S256x1024.Idx) : (win0_12.blk t).view.emb y = ix2 (y 0) (y 1) := by
  blk_ext [idx12 t]

theorem fin12 : (dats m 0 c).arrAt 12 cfg0.N = fun i : S256x1024.Idx => ∑ r, term (nIn m c) (dIn0 m c) (i 1) (i 0) r := by
  refine (dats m 0 c).arrAt_eq_of_covers 12 _ (by decide +kernel) fun t hf y => ?_
  blk_simp
  rw [after0_12, emb12 t y]
  obtain rfl : t = (⟨3, by decide⟩ : Fin cfg0.N) := Fin.ext (by have h : t.val < 4 := t.isLt; have h3 : t.val % 4 = 3 := (flush0_12 t).mp hf; show t.val = 3; omega)
  rw [show _ = _ from (out m c ⟨3, by decide⟩ (by decide) rfl).1]
  exact (congrArg _ (eq_ix2 y)).trans ((pay0 (y 0) (y 1)).trans (sum0 m c (y 0) (y 1)))

/-! Sum 2. -/

section
variable {acc : FVec Ideal S768x1024 .f32}

theorem long1 (n : FVec Ideal S1024x1024 .bf16) (p : FVec Ideal S1024x768 .bf16) (q : Fin 768) (d : Fin 1024) :
    k0_pay20 (F := Ideal) n acc p (ix2 q d) = acc (ix2 q d) + ∑ x, p (ix2 x q) * n (ix2 x d) := by
  pointwise [k0_pay20]
theorem tail1 (n : FVec Ideal S64x1024 .bf16) (p : FVec Ideal S64x768 .bf16) (q : Fin 768) (d : Fin 1024) :
    k0_pay11 (F := Ideal) n acc p (ix2 q d) = acc (ix2 q d) + ∑ x, p (ix2 x q) * n (ix2 x d) := by
  pointwise [k0_pay11]
theorem zero1 (q : Fin 768) (d : Fin 1024) : k0_pay15 (F := Ideal) (ix2 q d) = 0 := by
  pointwise [k0_pay15]
theorem pay1 (q : Fin 768) (d : Fin 1024) : k0_pay6 (F := Ideal) acc (ix2 q d) = acc (ix2 q d) := by
  pointwise [k0_pay6]

theorem stepLong1 (t : Fin cfg0.N) (q : Fin 768) (d : Fin 1024) :
    k0_pay20 (F := Ideal) (X0_0 m c t) acc (X0_2 m c t) (ix2 q d) = acc (ix2 q d) + share (term (nIn m c) (dIn1 m c) d q) (longOf t) := by
  rw [long1]
  simp only [blk0, blk2]
  simp only [mul_comm (dIn1 m c _) (nIn m c _)]
  rfl
theorem stepTail1 (t : Fin cfg0.N) (q : Fin 768) (d : Fin 1024) :
    k0_pay11 (F := Ideal) (iblk m c 6 t) acc (iblk m c 8 t) (ix2 q d) = acc (ix2 q d) + last (term (nIn m c) (dIn1 m c) d q) := by
  rw [tail1]
  simp only [blk6, blk8]
  simp only [mul_comm (dIn1 m c _) (nIn m c _)]
  rfl
end

theorem sum1 (q : Fin 768) (d : Fin 1024) : (outsAt0 m c 3 (by decide)).2.2.2.2.2.2.1 (ix2 q d) = ∑ r, term (nIn m c) (dIn1 m c) d q r := by
  refine sum_of_steps _ (fun t : Fin 4 => (outsAt0 m c t.val t.isLt).2.2.2.2.2.2.1 (ix2 q d)) ?_ ?_ ?_ ?_
  · exact (congrFun ((first m c ⟨0, by decide⟩ rfl (by decide)).2.1) _).trans ((stepLong1 m c _ q d).trans ((congrArg (fun z : EReal => z + _) (zero1 q d)).trans (zero_add _)))
  · exact (congrFun ((mid m c ⟨1, by decide⟩ (by decide) (by decide)).2.1) _).trans (stepLong1 m c _ q d)
  · exact (congrFun ((mid m c ⟨2, by decide⟩ (by decide) (by decide)).2.1) _).trans (stepLong1 m c _ q d)
  · exact (congrFun ((fin m c ⟨3, by decide⟩ (by decide) rfl).2.1) _).trans ((stepTail1 m c _ q d).trans (congrArg (fun z : EReal => z + _) (stepLong1 m c _ q d)))

theorem emb13 (t : Fin cfg0.N) (y : S768x1024.Idx) : (win0_13.blk t).view.emb y = ix2 (y 0) (y 1) := by
  blk_ext [idx13 t]

theorem fin13 : (dats m 0 c).arrAt 13 cfg0.N = fun i : S768x1024.Idx => ∑ r, term (nIn m c) (dIn1 m c) (i 1) (i 0) r := by
  refine (dats m 0 c).arrAt_eq_of_covers 13 _ (by decide +kernel) fun t hf y => ?_
  blk_simp
  rw [after0_13, emb13 t y]
  obtain rfl : t = (⟨3, by decide⟩ : Fin cfg0.N) := Fin.ext (by have h : t.val < 4 := t.isLt; have h3 : t.val % 4 = 3 := (flush0_13 t).mp hf; show t.val = 3; omega)
  rw [show _ = _ from (out m c ⟨3, by decide⟩ (by decide) rfl).2.1]
  exact (congrArg _ (eq_ix2 y)).trans ((pay1 (y 0) (y 1)).trans (sum1 m c (y 0) (y 1)))

/-! Sum 3. -/

section
variable {acc : FVec Ideal S768x1024 .f32}

theorem long2 (n : FVec Ideal S1024x1024 .bf16) (p : FVec Ideal S1024x768 .bf16) (q : Fin 768) (d : Fin 1024) :
    k0_pay21 (F := Ideal) n acc p (ix2 q d) = acc (ix2 q d) + ∑ x, p (ix2 x q) * n (ix2 x d) := by
  pointwise [k0_pay21]
theorem tail2 (n : FVec Ideal S64x1024 .bf16) (p : FVec Ideal S64x768 .bf16) (q : Fin 768) (d : Fin 1024) :
    k0_pay12 (F := Ideal) n acc p (ix2 q d) = acc (ix2 q d) + ∑ x, p (ix2 x q) * n (ix2 x d) := by
  pointwise [k0_pay12]
theorem zero2 (q : Fin 768) (d : Fin 1024) : k0_pay16 (F := Ideal) (ix2 q d) = 0 := by
  pointwise [k0_pay16]
theorem pay2 (q : Fin 768) (d : Fin 1024) : k0_pay7 (F := Ideal) acc (ix2 q d) = acc (ix2 q d) := by
  pointwise [k0_pay7]

theorem stepLong2 (t : Fin cfg0.N) (q : Fin 768) (d : Fin 1024) :
    k0_pay21 (F := Ideal) (X0_0 m c t) acc (X0_3 m c t) (ix2 q d) = acc (ix2 q d) + share (term (nIn m c) (dIn2 m c) d q) (longOf t) := by
  rw [long2]
  simp only [blk0, blk3]
  simp only [mul_comm (dIn2 m c _) (nIn m c _)]
  rfl
theorem stepTail2 (t : Fin cfg0.N) (q : Fin 768) (d : Fin 1024) :
    k0_pay12 (F := Ideal) (iblk m c 6 t) acc (iblk m c 9 t) (ix2 q d) = acc (ix2 q d) + last (term (nIn m c) (dIn2 m c) d q) := by
  rw [tail2]
  simp only [blk6, blk9]
  simp only [mul_comm (dIn2 m c _) (nIn m c _)]
  rfl
end

theorem sum2 (q : Fin 768) (d : Fin 1024) : (outsAt0 m c 3 (by decide)).2.2.2.2.2.2.2.1 (ix2 q d) = ∑ r, term (nIn m c) (dIn2 m c) d q r := by
  refine sum_of_steps _ (fun t : Fin 4 => (outsAt0 m c t.val t.isLt).2.2.2.2.2.2.2.1 (ix2 q d)) ?_ ?_ ?_ ?_
  · exact (congrFun ((first m c ⟨0, by decide⟩ rfl (by decide)).2.2.1) _).trans ((stepLong2 m c _ q d).trans ((congrArg (fun z : EReal => z + _) (zero2 q d)).trans (zero_add _)))
  · exact (congrFun ((mid m c ⟨1, by decide⟩ (by decide) (by decide)).2.2.1) _).trans (stepLong2 m c _ q d)
  · exact (congrFun ((mid m c ⟨2, by decide⟩ (by decide) (by decide)).2.2.1) _).trans (stepLong2 m c _ q d)
  · exact (congrFun ((fin m c ⟨3, by decide⟩ (by decide) rfl).2.2.1) _).trans ((stepTail2 m c _ q d).trans (congrArg (fun z : EReal => z + _) (stepLong2 m c _ q d)))

theorem emb14 (t : Fin cfg0.N) (y : S768x1024.Idx) : (win0_14.blk t).view.emb y = ix2 (y 0) (y 1) := by
  blk_ext [idx14 t]

theorem fin14 : (dats m 0 c).arrAt 14 cfg0.N = fun i : S768x1024.Idx => ∑ r, term (nIn m c) (dIn2 m c) (i 1) (i 0) r := by
  refine (dats m 0 c).arrAt_eq_of_covers 14 _ (by decide +kernel) fun t hf y => ?_
  blk_simp
  rw [after0_14, emb14 t y]
  obtain rfl : t = (⟨3, by decide⟩ : Fin cfg0.N) := Fin.ext (by have h : t.val < 4 := t.isLt; have h3 : t.val % 4 = 3 := (flush0_14 t).mp hf; show t.val = 3; omega)
  rw [show _ = _ from (out m c ⟨3, by decide⟩ (by decide) rfl).2.2.1]
  exact (congrArg _ (eq_ix2 y)).trans ((pay2 (y 0) (y 1)).trans (sum2 m c (y 0) (y 1)))

/-! Sum 4. -/

section
variable {acc : FVec Ideal S768x1024 .f32}

theorem long3 (n : FVec Ideal S1024x1024 .bf16) (p : FVec Ideal S1024x768 .bf16) (q : Fin 768) (d : Fin 1024) :
    k0_pay1 (F := Ideal) n acc p (ix2 q d) = acc (ix2 q d) + ∑ x, p (ix2 x q) * n (ix2 x d) := by
  pointwise [k0_pay1]
theorem tail3 (n : FVec Ideal S64x1024 .bf16) (p : FVec Ideal S64x768 .bf16) (q : Fin 768) (d : Fin 1024) :
    k0_pay3 (F := Ideal) (k0_pay13 n acc p) (ix2 q d) = acc (ix2 q d) + ∑ x, p (ix2 x q) * n (ix2 x d) := by
  pointwise [k0_pay3, k0_pay13]
theorem zero3 (q : Fin 768) (d : Fin 1024) : k0_pay17 (F := Ideal) (ix2 q d) = 0 := by
  pointwise [k0_pay17]
theorem pay3 (q : Fin 768) (d : Fin 1024) : k0_pay8 (F := Ideal) acc (ix2 q d) = acc (ix2 q d) := by
  pointwise [k0_pay8]

theorem stepLong3 (t : Fin cfg0.N) (q : Fin 768) (d : Fin 1024) :
    k0_pay1 (F := Ideal) (X0_0 m c t) acc (X0_4 m c t) (ix2 q d) = acc (ix2 q d) + share (term (nIn m c) (dIn3 m c) d q) (longOf t) := by
  rw [long3]
  simp only [blk0, blk4]
  simp only [mul_comm (dIn3 m c _) (nIn m c _)]
  rfl
theorem stepTail3 (t : Fin cfg0.N) (q : Fin 768) (d : Fin 1024) :
    k0_pay3 (F := Ideal) (k0_pay13 (iblk m c 6 t) acc (iblk m c 10 t)) (ix2 q d) = acc (ix2 q d) + last (term (nIn m c) (dIn3 m c) d q) := by
  rw [tail3]
  simp only [blk6, blk10]
  simp only [mul_comm (dIn3 m c _) (nIn m c _)]
  rfl
end

theorem sum3 (q : Fin 768) (d : Fin 1024) : (outsAt0 m c 3 (by decide)).2.2.2.2.2.2.2.2.1 (ix2 q d) = ∑ r, term (nIn m c) (dIn3 m c) d q r := by
  refine sum_of_steps _ (fun t : Fin 4 => (outsAt0 m c t.val t.isLt).2.2.2.2.2.2.2.2.1 (ix2 q d)) ?_ ?_ ?_ ?_
  · exact (congrFun ((first m c ⟨0, by decide⟩ rfl (by decide)).2.2.2.1) _).trans ((stepLong3 m c _ q d).trans ((congrArg (fun z : EReal => z + _) (zero3 q d)).trans (zero_add _)))
  · exact (congrFun ((mid m c ⟨1, by decide⟩ (by decide) (by decide)).2.2.2.1) _).trans (stepLong3 m c _ q d)
  · exact (congrFun ((mid m c ⟨2, by decide⟩ (by decide) (by decide)).2.2.2.1) _).trans (stepLong3 m c _ q d)
  · exact (congrFun ((fin m c ⟨3, by decide⟩ (by decide) rfl).2.2.2.1) _).trans ((stepTail3 m c _ q d).trans (congrArg (fun z : EReal => z + _) (stepLong3 m c _ q d)))

theorem emb15 (t : Fin cfg0.N) (y : S768x1024.Idx) : (win0_15.blk t).view.emb y = ix2 (y 0) (y 1) := by
  blk_ext [idx15 t]

theorem fin15 : (dats m 0 c).arrAt 15 cfg0.N = fun i : S768x1024.Idx => ∑ r, term (nIn m c) (dIn3 m c) (i 1) (i 0) r := by
  refine (dats m 0 c).arrAt_eq_of_covers 15 _ (by decide +kernel) fun t hf y => ?_
  blk_simp
  rw [after0_15, emb15 t y]
  obtain rfl : t = (⟨3, by decide⟩ : Fin cfg0.N) := Fin.ext (by have h : t.val < 4 := t.isLt; have h3 : t.val % 4 = 3 := (flush0_15 t).mp hf; show t.val = 3; omega)
  rw [show _ = _ from (out m c ⟨3, by decide⟩ (by decide) rfl).2.2.2.1]
  exact (congrArg _ (eq_ix2 y)).trans ((pay3 (y 0) (y 1)).trans (sum3 m c (y 0) (y 1)))

/-! Sum 5. -/

section
variable {acc : FVec Ideal S768x1024 .f32}

theorem long4 (n : FVec Ideal S1024x1024 .bf16) (p : FVec Ideal S1024x768 .bf16) (q : Fin 768) (d : Fin 1024) :
    k0_pay2 (F := Ideal) n acc p (ix2 q d) = acc (ix2 q d) + ∑ x, p (ix2 x q) * n (ix2 x d) := by
  pointwise [k0_pay2]
theorem tail4 (n : FVec Ideal S64x1024 .bf16) (p : FVec Ideal S64x768 .bf16) (q : Fin 768) (d : Fin 1024) :
    k0_pay4 (F := Ideal) n acc p (ix2 q d) = acc (ix2 q d) + ∑ x, p (ix2 x q) * n (ix2 x d) := by
  pointwise [k0_pay4]
theorem zero4 (q : Fin 768) (d : Fin 1024) : k0_pay18 (F := Ideal) (ix2 q d) = 0 := by
  pointwise [k0_pay18]
theorem pay4 (q : Fin 768) (d : Fin 1024) : k0_pay9 (F := Ideal) acc (ix2 q d) = acc (ix2 q d) := by
  pointwise [k0_pay9]

theorem stepLong4 (t : Fin cfg0.N) (q : Fin 768) (d : Fin 1024) :
    k0_pay2 (F := Ideal) (X0_0 m c t) acc (X0_5 m c t) (ix2 q d) = acc (ix2 q d) + share (term (nIn m c) (dIn4 m c) d q) (longOf t) := by
  rw [long4]
  simp only [blk0, blk5]
  simp only [mul_comm (dIn4 m c _) (nIn m c _)]
  rfl
theorem stepTail4 (t : Fin cfg0.N) (q : Fin 768) (d : Fin 1024) :
    k0_pay4 (F := Ideal) (iblk m c 6 t) acc (iblk m c 11 t) (ix2 q d) = acc (ix2 q d) + last (term (nIn m c) (dIn4 m c) d q) := by
  rw [tail4]
  simp only [blk6, blk11]
  simp only [mul_comm (dIn4 m c _) (nIn m c _)]
  rfl
end

theorem sum4 (q : Fin 768) (d : Fin 1024) : (outsAt0 m c 3 (by decide)).2.2.2.2.2.2.2.2.2 (ix2 q d) = ∑ r, term (nIn m c) (dIn4 m c) d q r := by
  refine sum_of_steps _ (fun t : Fin 4 => (outsAt0 m c t.val t.isLt).2.2.2.2.2.2.2.2.2 (ix2 q d)) ?_ ?_ ?_ ?_
  · exact (congrFun ((first m c ⟨0, by decide⟩ rfl (by decide)).2.2.2.2) _).trans ((stepLong4 m c _ q d).trans ((congrArg (fun z : EReal => z + _) (zero4 q d)).trans (zero_add _)))
  · exact (congrFun ((mid m c ⟨1, by decide⟩ (by decide) (by decide)).2.2.2.2) _).trans (stepLong4 m c _ q d)
  · exact (congrFun ((mid m c ⟨2, by decide⟩ (by decide) (by decide)).2.2.2.2) _).trans (stepLong4 m c _ q d)
  · exact (congrFun ((fin m c ⟨3, by decide⟩ (by decide) rfl).2.2.2.2) _).trans ((stepTail4 m c _ q d).trans (congrArg (fun z : EReal => z + _) (stepLong4 m c _ q d)))

theorem emb16 (t : Fin cfg0.N) (y : S768x1024.Idx) : (win0_16.blk t).view.emb y = ix2 (y 0) (y 1) := by
  blk_ext [idx16 t]

theorem fin16 : (dats m 0 c).arrAt 16 cfg0.N = fun i : S768x1024.Idx => ∑ r, term (nIn m c) (dIn4 m c) (i 1) (i 0) r := by
  refine (dats m 0 c).arrAt_eq_of_covers 16 _ (by decide +kernel) fun t hf y => ?_
  blk_simp
  rw [after0_16, emb16 t y]
  obtain rfl : t = (⟨3, by decide⟩ : Fin cfg0.N) := Fin.ext (by have h : t.val < 4 := t.isLt; have h3 : t.val % 4 = 3 := (flush0_16 t).mp hf; show t.val = 3; omega)
  rw [show _ = _ from (out m c ⟨3, by decide⟩ (by decide) rfl).2.2.2.2]
  exact (congrArg _ (eq_ix2 y)).trans ((pay4 (y 0) (y 1)).trans (sum4 m c (y 0) (y 1)))

end Cert.Win18

end
-- ==== Proof.Win18Alg.lean ====
module

public import proofs.«01_k».proof.Defs
public import proofs.«01_k».proof.Proof.Win18
public import proofs.«01_k».proof.Proof.Gen.Reference18Ideal.Run

@[expose] public section

set_option maxRecDepth 16384

noncomputable section

/-! The even layer's `w_in` gradient: the call and its reference end with the same results. -/

namespace Cert.Win18

open Idealize.ShloMosaic Idealize.ShloMosaic.TcCoe Idealize.SL.Sem

attribute [local instance] Cert.Kernel18Ideal.Gen.facts Cert.Reference18Ideal.Gen.facts

theorem frame_reference : Cert.quiescent_Reference18Ideal := fun m ρ _ =>
  (θ_run Cert.Reference18Ideal.defs _ _).mono
    (fun r h => ⟨fun c => (h c).2.2.2.2.2, sem_eq_zero_of_no_sems (by decide) r.2⟩)
    (Cert.Reference18Ideal.Value.run (F := Ideal) m ρ)

namespace Ref

open Cert.Reference18Ideal Cert.Reference18Ideal.Gen

variable (n : FVec Ideal S4160x1024 .bf16) (p0 : FVec Ideal S4160x256 .bf16) (p1 : FVec Ideal S4160x768 .bf16) (p2 : FVec Ideal S4160x768 .bf16) (p3 : FVec Ideal S4160x768 .bf16) (p4 : FVec Ideal S4160x768 .bf16)

/-- The gradient at the product, its pieces side by side. -/
def both : FVec Ideal S4160x3328 .f32 :=
  concatenate S4160x3328 1 [⟨S4160x256, ((extf .f32 p0 bitsLt_bf16_f32) : (⟨S4160x256, .f32⟩ : BufTy).Contents (Elt Ideal))⟩, ⟨S4160x768, ((extf .f32 p1 bitsLt_bf16_f32) : (⟨S4160x768, .f32⟩ : BufTy).Contents (Elt Ideal))⟩, ⟨S4160x768, ((extf .f32 p2 bitsLt_bf16_f32) : (⟨S4160x768, .f32⟩ : BufTy).Contents (Elt Ideal))⟩, ⟨S4160x768, ((extf .f32 p3 bitsLt_bf16_f32) : (⟨S4160x768, .f32⟩ : BufTy).Contents (Elt Ideal))⟩, ⟨S4160x768, ((extf .f32 p4 bitsLt_bf16_f32) : (⟨S4160x768, .f32⟩ : BufTy).Contents (Elt Ideal))⟩] concatenates_S4160x256_S4160x768_S4160x768_S4160x768_S4160x768_S4160x3328_d1

theorem both0 (r : Fin 4160) (j : Fin 3328) (q : Fin 256) (h : j.val = 0 + q.val) : both p0 p1 p2 p3 p4 (ix2 r j) = p0 (ix2 r q) := by
  have hq := q.isLt
  pointwise [both]
  (repeat first | rw [dif_neg (by omega)] | rw [dif_pos (by omega)])
  exact congrArg (fun z => p0 (ix2 r z)) (Fin.ext (by dsimp only; omega))
theorem both1 (r : Fin 4160) (j : Fin 3328) (q : Fin 768) (h : j.val = 256 + q.val) : both p0 p1 p2 p3 p4 (ix2 r j) = p1 (ix2 r q) := by
  have hq := q.isLt
  pointwise [both]
  (repeat first | rw [dif_neg (by omega)] | rw [dif_pos (by omega)])
  exact congrArg (fun z => p1 (ix2 r z)) (Fin.ext (by dsimp only; omega))
theorem both2 (r : Fin 4160) (j : Fin 3328) (q : Fin 768) (h : j.val = 1024 + q.val) : both p0 p1 p2 p3 p4 (ix2 r j) = p2 (ix2 r q) := by
  have hq := q.isLt
  pointwise [both]
  (repeat first | rw [dif_neg (by omega)] | rw [dif_pos (by omega)])
  exact congrArg (fun z => p2 (ix2 r z)) (Fin.ext (by dsimp only; omega))
theorem both3 (r : Fin 4160) (j : Fin 3328) (q : Fin 768) (h : j.val = 1792 + q.val) : both p0 p1 p2 p3 p4 (ix2 r j) = p3 (ix2 r q) := by
  have hq := q.isLt
  pointwise [both]
  (repeat first | rw [dif_neg (by omega)] | rw [dif_pos (by omega)])
  exact congrArg (fun z => p3 (ix2 r z)) (Fin.ext (by dsimp only; omega))
theorem both4 (r : Fin 4160) (j : Fin 3328) (q : Fin 768) (h : j.val = 2560 + q.val) : both p0 p1 p2 p3 p4 (ix2 r j) = p4 (ix2 r q) := by
  have hq := q.isLt
  pointwise [both]
  (repeat first | rw [dif_neg (by omega)] | rw [dif_pos (by omega)])
  exact congrArg (fun z => p4 (ix2 r z)) (Fin.ext (by dsimp only; omega))

/-- The gradient of the weights. -/
def grad : FVec Ideal S1024x3328 .bf16 :=
  truncf .bf16 (transpose S1024x3328 [1, 0] (Host.dotGeneral dot_S4160x3328_S4160x1024_S3328x1024_0_0_1_1_n_n none (both p0 p1 p2 p3 p4)
    (extf .f32 n bitsLt_bf16_f32)) transposes_S3328x1024_S1024x3328_1_0) bitsLt_bf16_f32

theorem grad_at (d : Fin 1024) (j : Fin 3328) : grad n p0 p1 p2 p3 p4 (ix2 d j) = ∑ r, both p0 p1 p2 p3 p4 (ix2 r j) * n (ix2 r d) := by
  pointwise [grad]

/-- Piece 1 of it. -/
def piece0 : FVec Ideal S256x1024 .bf16 := transpose S256x1024 [1, 0] (extractStridedSlice S1024x256 ![0, 0] (grad n p0 p1 p2 p3 p4) slices_S1024x3328_S1024x256_0_0) transposes_S1024x256_S256x1024_1_0
theorem piece0_at (q : Fin 256) (d : Fin 1024) : piece0 n p0 p1 p2 p3 p4 (ix2 q d) = ∑ r, term n p0 d q r := by
  pointwise [piece0]
  rw [grad_at]
  exact Finset.sum_congr rfl fun r _ => (congrArg (fun z : EReal => z * n (ix2 r d)) (both0 p0 p1 p2 p3 p4 r _ q (Nat.zero_add _).symm)).trans (mul_comm _ _)
/-- Piece 2 of it. -/
def piece1 : FVec Ideal S768x1024 .bf16 := transpose S768x1024 [1, 0] (extractStridedSlice S1024x768 ![0, 256] (grad n p0 p1 p2 p3 p4) slices_S1024x3328_S1024x768_0_256) transposes_S1024x768_S768x1024_1_0
theorem piece1_at (q : Fin 768) (d : Fin 1024) : piece1 n p0 p1 p2 p3 p4 (ix2 q d) = ∑ r, term n p1 d q r := by
  pointwise [piece1]
  rw [grad_at]
  exact Finset.sum_congr rfl fun r _ => (congrArg (fun z : EReal => z * n (ix2 r d)) (both1 p0 p1 p2 p3 p4 r _ q (by first | rfl | (dsimp only; omega)))).trans (mul_comm _ _)
/-- Piece 3 of it. -/
def piece2 : FVec Ideal S768x1024 .bf16 := transpose S768x1024 [1, 0] (extractStridedSlice S1024x768 ![0, 1024] (grad n p0 p1 p2 p3 p4) slices_S1024x3328_S1024x768_0_1024) transposes_S1024x768_S768x1024_1_0
theorem piece2_at (q : Fin 768) (d : Fin 1024) : piece2 n p0 p1 p2 p3 p4 (ix2 q d) = ∑ r, term n p2 d q r := by
  pointwise [piece2]
  rw [grad_at]
  exact Finset.sum_congr rfl fun r _ => (congrArg (fun z : EReal => z * n (ix2 r d)) (both2 p0 p1 p2 p3 p4 r _ q (by first | rfl | (dsimp only; omega)))).trans (mul_comm _ _)
/-- Piece 4 of it. -/
def piece3 : FVec Ideal S768x1024 .bf16 := transpose S768x1024 [1, 0] (extractStridedSlice S1024x768 ![0, 1792] (grad n p0 p1 p2 p3 p4) slices_S1024x3328_S1024x768_0_1792) transposes_S1024x768_S768x1024_1_0
theorem piece3_at (q : Fin 768) (d : Fin 1024) : piece3 n p0 p1 p2 p3 p4 (ix2 q d) = ∑ r, term n p3 d q r := by
  pointwise [piece3]
  rw [grad_at]
  exact Finset.sum_congr rfl fun r _ => (congrArg (fun z : EReal => z * n (ix2 r d)) (both3 p0 p1 p2 p3 p4 r _ q (by first | rfl | (dsimp only; omega)))).trans (mul_comm _ _)
/-- Piece 5 of it. -/
def piece4 : FVec Ideal S768x1024 .bf16 := transpose S768x1024 [1, 0] (extractStridedSlice S1024x768 ![0, 2560] (grad n p0 p1 p2 p3 p4) slices_S1024x3328_S1024x768_0_2560) transposes_S1024x768_S768x1024_1_0
theorem piece4_at (q : Fin 768) (d : Fin 1024) : piece4 n p0 p1 p2 p3 p4 (ix2 q d) = ∑ r, term n p4 d q r := by
  pointwise [piece4]
  rw [grad_at]
  exact Finset.sum_congr rfl fun r _ => (congrArg (fun z : EReal => z * n (ix2 r d)) (both4 p0 p1 p2 p3 p4 r _ q (by first | rfl | (dsimp only; omega)))).trans (mul_comm _ _)

end Ref

theorem algebraic : Cert.algebraic_Kernel18Ideal_Reference18Ideal := by
  intro m g m' g' hp he
  refine ⟨fun c => (Cert.Kernel18Ideal.Gen.dats m 0 c).arrAt 12 Cert.Kernel18Ideal.cfg0.N, fun c => (Cert.Kernel18Ideal.Gen.dats m 0 c).arrAt 13 Cert.Kernel18Ideal.cfg0.N, fun c => (Cert.Kernel18Ideal.Gen.dats m 0 c).arrAt 14 Cert.Kernel18Ideal.cfg0.N, fun c => (Cert.Kernel18Ideal.Gen.dats m 0 c).arrAt 15 Cert.Kernel18Ideal.cfg0.N, fun c => (Cert.Kernel18Ideal.Gen.dats m 0 c).arrAt 16 Cert.Kernel18Ideal.cfg0.N,
    Cert.Kernel18Ideal.Value.run_blocks m g, ?_⟩
  refine (θ_run _ _ _).mono (fun r h c => ?_) (Cert.Reference18Ideal.Value.run m' g')
  obtain ⟨h0, h1, h2, h3, h4, hargs⟩ := h c
  obtain ⟨e0, e1, e2, e3, e4, e5⟩ := he c
  refine ⟨h0.trans ?_, h1.trans ?_, h2.trans ?_, h3.trans ?_, h4.trans ?_, hargs⟩
  · rw [e0, e1, e2, e3, e4, e5]
    refine Eq.trans ?_ (fin12 m c).symm
    funext i
    rw [eq_ix2 i]
    exact Ref.piece0_at (nIn m c) (dIn0 m c) (dIn1 m c) (dIn2 m c) (dIn3 m c) (dIn4 m c) (i 0) (i 1)
  · rw [e0, e1, e2, e3, e4, e5]
    refine Eq.trans ?_ (fin13 m c).symm
    funext i
    rw [eq_ix2 i]
    exact Ref.piece1_at (nIn m c) (dIn0 m c) (dIn1 m c) (dIn2 m c) (dIn3 m c) (dIn4 m c) (i 0) (i 1)
  · rw [e0, e1, e2, e3, e4, e5]
    refine Eq.trans ?_ (fin14 m c).symm
    funext i
    rw [eq_ix2 i]
    exact Ref.piece2_at (nIn m c) (dIn0 m c) (dIn1 m c) (dIn2 m c) (dIn3 m c) (dIn4 m c) (i 0) (i 1)
  · rw [e0, e1, e2, e3, e4, e5]
    refine Eq.trans ?_ (fin15 m c).symm
    funext i
    rw [eq_ix2 i]
    exact Ref.piece3_at (nIn m c) (dIn0 m c) (dIn1 m c) (dIn2 m c) (dIn3 m c) (dIn4 m c) (i 0) (i 1)
  · rw [e0, e1, e2, e3, e4, e5]
    refine Eq.trans ?_ (fin16 m c).symm
    funext i
    rw [eq_ix2 i]
    exact Ref.piece4_at (nIn m c) (dIn0 m c) (dIn1 m c) (dIn2 m c) (dIn3 m c) (dIn4 m c) (i 0) (i 1)

end Cert.Win18

end
-- ==== Proof.lean ====
module

public import proofs.«01_k».proof.Proof.Frames
public import proofs.«01_k».proof.Proof.Gen.Pre_finite
public import proofs.«01_k».proof.Proof.Algebraic
public import proofs.«01_k».proof.Proof.Gen.Kernel2
public import proofs.«01_k».proof.Proof.Gen.Kernel2.Frame
public import proofs.«01_k».proof.Proof.Gen.Kernel3
public import proofs.«01_k».proof.Proof.Gen.Kernel3.Frame
public import proofs.«01_k».proof.Proof.DownAlg
public import proofs.«01_k».proof.Proof.UpAlg
public import proofs.«01_k».proof.Proof.Gen.Kernel4
public import proofs.«01_k».proof.Proof.Gen.Kernel4.Frame
public import proofs.«01_k».proof.Proof.Adam4Alg
public import proofs.«01_k».proof.Proof.Gen.Kernel5
public import proofs.«01_k».proof.Proof.Gen.Kernel5.Frame
public import proofs.«01_k».proof.Proof.Adam5Alg
public import proofs.«01_k».proof.Proof.Gen.Kernel6
public import proofs.«01_k».proof.Proof.Gen.Kernel6.Frame
public import proofs.«01_k».proof.Proof.Adam6Alg
public import proofs.«01_k».proof.Proof.Gen.Kernel7
public import proofs.«01_k».proof.Proof.Gen.Kernel7.Frame
public import proofs.«01_k».proof.Proof.Adam7Alg
public import proofs.«01_k».proof.Proof.Gen.Kernel8
public import proofs.«01_k».proof.Proof.Gen.Kernel8.Frame
public import proofs.«01_k».proof.Proof.Adam8Alg
public import proofs.«01_k».proof.Proof.Gen.Kernel9
public import proofs.«01_k».proof.Proof.Gen.Kernel9.Frame
public import proofs.«01_k».proof.Proof.Small9Alg
public import proofs.«01_k».proof.Proof.Gen.Kernel10
public import proofs.«01_k».proof.Proof.Gen.Kernel10.Frame
public import proofs.«01_k».proof.Proof.Small10Alg
public import proofs.«01_k».proof.Proof.Gen.Kernel11
public import proofs.«01_k».proof.Proof.Gen.Kernel11.Frame
public import proofs.«01_k».proof.Proof.Small11Alg
public import proofs.«01_k».proof.Proof.Gen.Kernel12
public import proofs.«01_k».proof.Proof.Gen.Kernel12.Frame
public import proofs.«01_k».proof.Proof.Small12Alg
public import proofs.«01_k».proof.Proof.Gen.Kernel13
public import proofs.«01_k».proof.Proof.Gen.Kernel13.Frame
public import proofs.«01_k».proof.Proof.Out13Alg
public import proofs.«01_k».proof.Proof.Gen.Kernel14
public import proofs.«01_k».proof.Proof.Gen.Kernel14.Frame
public import proofs.«01_k».proof.Proof.Out14Alg
public import proofs.«01_k».proof.Proof.Gen.Kernel15
public import proofs.«01_k».proof.Proof.Gen.Kernel15.Frame
public import proofs.«01_k».proof.Proof.In15Alg
public import proofs.«01_k».proof.Proof.Gen.Kernel16
public import proofs.«01_k».proof.Proof.Gen.Kernel16.Frame
public import proofs.«01_k».proof.Proof.In16Alg
public import proofs.«01_k».proof.Proof.Gen.Kernel17
public import proofs.«01_k».proof.Proof.Gen.Kernel17.Frame
public import proofs.«01_k».proof.Proof.Win17Alg
public import proofs.«01_k».proof.Proof.Gen.Kernel18
public import proofs.«01_k».proof.Proof.Gen.Kernel18.Frame
public import proofs.«01_k».proof.Proof.Win18Alg

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Pre_finite.Gen.facts,
  Cert.Chain.frame_kernel, Cert.Chain.frame_ideal, fun m ρ _ => Cert.Chain.frame_ideal m ρ trivial,
  Cert.Chain.frame_reference, fun m ρ _ => Cert.Chain.frame_reference m ρ trivial,
  fun m ρ _ => Cert.Kernel2.Gen.frame m ρ, fun m ρ _ => Cert.Kernel2Ideal.Gen.frame m ρ, Cert.Down.frame_reference,
  fun m ρ _ => Cert.Kernel3.Gen.frame m ρ, fun m ρ _ => Cert.Kernel3Ideal.Gen.frame m ρ, Cert.Up.frame_reference,
  fun m ρ _ => Cert.Kernel4.Gen.frame m ρ, fun m ρ _ => Cert.Kernel4Ideal.Gen.frame m ρ, Cert.Adam4.frame_reference,
  fun m ρ _ => Cert.Kernel5.Gen.frame m ρ, fun m ρ _ => Cert.Kernel5Ideal.Gen.frame m ρ, Cert.Adam5.frame_reference,
  fun m ρ _ => Cert.Kernel6.Gen.frame m ρ, fun m ρ _ => Cert.Kernel6Ideal.Gen.frame m ρ, Cert.Adam6.frame_reference,
  fun m ρ _ => Cert.Kernel7.Gen.frame m ρ, fun m ρ _ => Cert.Kernel7Ideal.Gen.frame m ρ, Cert.Adam7.frame_reference,
  fun m ρ _ => Cert.Kernel8.Gen.frame m ρ, fun m ρ _ => Cert.Kernel8Ideal.Gen.frame m ρ, Cert.Adam8.frame_reference,
  fun m ρ _ => Cert.Kernel9.Gen.frame m ρ, fun m ρ _ => Cert.Kernel9Ideal.Gen.frame m ρ, Cert.Small9.frame_reference,
  fun m ρ _ => Cert.Kernel10.Gen.frame m ρ, fun m ρ _ => Cert.Kernel10Ideal.Gen.frame m ρ, Cert.Small10.frame_reference,
  fun m ρ _ => Cert.Kernel11.Gen.frame m ρ, fun m ρ _ => Cert.Kernel11Ideal.Gen.frame m ρ, Cert.Small11.frame_reference,
  fun m ρ _ => Cert.Kernel12.Gen.frame m ρ, fun m ρ _ => Cert.Kernel12Ideal.Gen.frame m ρ, Cert.Small12.frame_reference,
  fun m ρ _ => Cert.Kernel13.Gen.frame m ρ, fun m ρ _ => Cert.Kernel13Ideal.Gen.frame m ρ, Cert.Out13.frame_reference,
  fun m ρ _ => Cert.Kernel14.Gen.frame m ρ, fun m ρ _ => Cert.Kernel14Ideal.Gen.frame m ρ, Cert.Out14.frame_reference,
  fun m ρ _ => Cert.Kernel15.Gen.frame m ρ, fun m ρ _ => Cert.Kernel15Ideal.Gen.frame m ρ, Cert.In15.frame_reference,
  fun m ρ _ => Cert.Kernel16.Gen.frame m ρ, fun m ρ _ => Cert.Kernel16Ideal.Gen.frame m ρ, Cert.In16.frame_reference,
  fun m ρ _ => Cert.Kernel17.Gen.frame m ρ, fun m ρ _ => Cert.Kernel17Ideal.Gen.frame m ρ, Cert.Win17.frame_reference,
  fun m ρ _ => Cert.Kernel18.Gen.frame m ρ, fun m ρ _ => Cert.Kernel18Ideal.Gen.frame m ρ, Cert.Win18.frame_reference,
  trivial, Cert.Chain.algebraic, trivial, Cert.Down.algebraic, trivial, Cert.Up.algebraic,
  trivial, Cert.Adam4.algebraic, trivial, Cert.Adam5.algebraic, trivial, Cert.Adam6.algebraic, trivial, Cert.Adam7.algebraic, trivial, Cert.Adam8.algebraic,
  trivial, Cert.Small9.algebraic, trivial, Cert.Small10.algebraic, trivial, Cert.Small11.algebraic, trivial, Cert.Small12.algebraic,
  trivial, Cert.Out13.algebraic, trivial, Cert.Out14.algebraic, trivial, Cert.In15.algebraic, trivial, Cert.In16.algebraic, trivial, Cert.Win17.algebraic, trivial, Cert.Win18.algebraic⟩

end Cert.Proof

end
